-- ==== Defs.lean ====
def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_ExchangeMod (m : (ℓ : Loc Cert.ExchangeMod.nD Cert.ExchangeMod.τ Cert.ExchangeMod.sig) → Buf (Elt Bits) ℓ) : Prop :=
  True

def Pre_ExchangeModIdeal (m : (ℓ : Loc Cert.ExchangeModIdeal.nD Cert.ExchangeModIdeal.τ Cert.ExchangeModIdeal.sig) → Buf (Elt Ideal) ℓ) : Prop :=
  True

def Pre_ExchangeModRefIdeal (m : (ℓ : Loc Cert.ExchangeModRefIdeal.nD Cert.ExchangeModRefIdeal.τ Cert.ExchangeModRefIdeal.sig) → Buf (Elt Ideal) ℓ) : Prop :=
  True

def Pre_ExchangeModRef (m : (ℓ : Loc Cert.ExchangeModRef.nD Cert.ExchangeModRef.τ Cert.ExchangeModRef.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_GatherSmallRefIdeal (m : (ℓ : Loc Cert.GatherSmallRefIdeal.nD Cert.GatherSmallRefIdeal.τ Cert.GatherSmallRefIdeal.sig) → Buf (Elt Ideal) ℓ) : Prop :=
  True

def Pre_GatherSmallRef (m : (ℓ : Loc Cert.GatherSmallRef.nD Cert.GatherSmallRef.τ Cert.GatherSmallRef.sig) → Buf (Elt Bits) ℓ) : Prop :=
  True

def Pre_GatherGrads (m : (ℓ : Loc Cert.GatherGrads.nD Cert.GatherGrads.τ Cert.GatherGrads.sig) → Buf (Elt Bits) ℓ) : Prop :=
  True

def Pre_GatherGradsIdeal (m : (ℓ : Loc Cert.GatherGradsIdeal.nD Cert.GatherGradsIdeal.τ Cert.GatherGradsIdeal.sig) → Buf (Elt Ideal) ℓ) : Prop :=
  True

def Pre_GatherGradsRefIdeal (m : (ℓ : Loc Cert.GatherGradsRefIdeal.nD Cert.GatherGradsRefIdeal.τ Cert.GatherGradsRefIdeal.sig) → Buf (Elt Ideal) ℓ) : Prop :=
  True

def Pre_GatherGradsRef (m : (ℓ : Loc Cert.GatherGradsRef.nD Cert.GatherGradsRef.τ Cert.GatherGradsRef.sig) → Buf (Elt Bits) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamGrp (m : (ℓ : Loc Cert.AdamGrp.nD Cert.AdamGrp.τ Cert.AdamGrp.sig) → Buf (Elt Bits) ℓ) : Prop :=
  True

def Pre_AdamGrpIdeal (m : (ℓ : Loc Cert.AdamGrpIdeal.nD Cert.AdamGrpIdeal.τ Cert.AdamGrpIdeal.sig) → Buf (Elt Ideal) ℓ) : Prop :=
  True

def Pre_AdamGrpRefIdeal (m : (ℓ : Loc Cert.AdamGrpRefIdeal.nD Cert.AdamGrpRefIdeal.τ Cert.AdamGrpRefIdeal.sig) → Buf (Elt Ideal) ℓ) : Prop :=
  True

def Pre_AdamQuery (m : (ℓ : Loc Cert.AdamQuery.nD Cert.AdamQuery.τ Cert.AdamQuery.sig) → Buf (Elt Bits) ℓ) : Prop :=
  True

def Pre_AdamQueryIdeal (m : (ℓ : Loc Cert.AdamQueryIdeal.nD Cert.AdamQueryIdeal.τ Cert.AdamQueryIdeal.sig) → Buf (Elt Ideal) ℓ) : Prop :=
  True

def Pre_AdamQueryRefIdeal (m : (ℓ : Loc Cert.AdamQueryRefIdeal.nD Cert.AdamQueryRefIdeal.τ Cert.AdamQueryRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamKvAda (m : (ℓ : Loc Cert.AdamKvAda.nD Cert.AdamKvAda.τ Cert.AdamKvAda.sig) → Buf (Elt Bits) ℓ) : Prop :=
  True

def Pre_AdamKvAdaIdeal (m : (ℓ : Loc Cert.AdamKvAdaIdeal.nD Cert.AdamKvAdaIdeal.τ Cert.AdamKvAdaIdeal.sig) → Buf (Elt Ideal) ℓ) : Prop :=
  True

def Pre_AdamKvAdaRefIdeal (m : (ℓ : Loc Cert.AdamKvAdaRefIdeal.nD Cert.AdamKvAdaRefIdeal.τ Cert.AdamKvAdaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_ModAda (m : (ℓ : Loc Cert.ModAda.nD Cert.ModAda.τ Cert.ModAda.sig) → Buf (Elt Bits) ℓ) : Prop :=
  True

def Pre_ModAdaIdeal (m : (ℓ : Loc Cert.ModAdaIdeal.nD Cert.ModAdaIdeal.τ Cert.ModAdaIdeal.sig) → Buf (Elt Ideal) ℓ) : Prop :=
  True

def Pre_ModAdaRefIdeal (m : (ℓ : Loc Cert.ModAdaRefIdeal.nD Cert.ModAdaRefIdeal.τ Cert.ModAdaRefIdeal.sig) → Buf (Elt Ideal) ℓ) : Prop :=
  True

def Pre_ModKv (m : (ℓ : Loc Cert.ModKv.nD Cert.ModKv.τ Cert.ModKv.sig) → Buf (Elt Bits) ℓ) : Prop :=
  True

def Pre_ModKvIdeal (m : (ℓ : Loc Cert.ModKvIdeal.nD Cert.ModKvIdeal.τ Cert.ModKvIdeal.sig) → Buf (Elt Ideal) ℓ) : Prop :=
  True

def Pre_ModKvRefIdeal (m : (ℓ : Loc Cert.ModKvRefIdeal.nD Cert.ModKvRefIdeal.τ Cert.ModKvRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ProjAda (m : (ℓ : Loc Cert.ProjAda.nD Cert.ProjAda.τ Cert.ProjAda.sig) → Buf (Elt Bits) ℓ) : Prop :=
  True

def Pre_ProjAdaIdeal (m : (ℓ : Loc Cert.ProjAdaIdeal.nD Cert.ProjAdaIdeal.τ Cert.ProjAdaIdeal.sig) → Buf (Elt Ideal) ℓ) : Prop :=
  True

def Pre_ProjAdaRefIdeal (m : (ℓ : Loc Cert.ProjAdaRefIdeal.nD Cert.ProjAdaRefIdeal.τ Cert.ProjAdaRefIdeal.sig) → Buf (Elt Ideal) ℓ) : Prop :=
  True

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvRefIdeal (m : (ℓ : Loc Cert.ProjKvRefIdeal.nD Cert.ProjKvRefIdeal.τ Cert.ProjKvRefIdeal.sig) → Buf (Elt Ideal) ℓ) : Prop :=
  True

def Pre_MulIn (m : (ℓ : Loc Cert.MulIn.nD Cert.MulIn.τ Cert.MulIn.sig) → Buf (Elt Bits) ℓ) : Prop :=
  True

def Pre_MulInIdeal (m : (ℓ : Loc Cert.MulInIdeal.nD Cert.MulInIdeal.τ Cert.MulInIdeal.sig) → Buf (Elt Ideal) ℓ) : Prop :=
  True

def Pre_MulInRefIdeal (m : (ℓ : Loc Cert.MulInRefIdeal.nD Cert.MulInRefIdeal.τ Cert.MulInRefIdeal.sig) → Buf (Elt Ideal) ℓ) : Prop :=
  True

def Pre_MulQuery (m : (ℓ : Loc Cert.MulQuery.nD Cert.MulQuery.τ Cert.MulQuery.sig) → Buf (Elt Bits) ℓ) : Prop :=
  True

def Pre_MulQueryIdeal (m : (ℓ : Loc Cert.MulQueryIdeal.nD Cert.MulQueryIdeal.τ Cert.MulQueryIdeal.sig) → Buf (Elt Ideal) ℓ) : Prop :=
  True

def Pre_MulQueryRefIdeal (m : (ℓ : Loc Cert.MulQueryRefIdeal.nD Cert.MulQueryRefIdeal.τ Cert.MulQueryRefIdeal.sig) → Buf (Elt Ideal) ℓ) : Prop :=
  True

def Pre_MulKv (m : (ℓ : Loc Cert.MulKv.nD Cert.MulKv.τ Cert.MulKv.sig) → Buf (Elt Bits) ℓ) : Prop :=
  True

def Pre_MulKvIdeal (m : (ℓ : Loc Cert.MulKvIdeal.nD Cert.MulKvIdeal.τ Cert.MulKvIdeal.sig) → Buf (Elt Ideal) ℓ) : Prop :=
  True

def Pre_MulKvRefIdeal (m : (ℓ : Loc Cert.MulKvRefIdeal.nD Cert.MulKvRefIdeal.τ Cert.MulKvRefIdeal.sig) → Buf (Elt Ideal) ℓ) : Prop :=
  True

def Pre_MulUp (m : (ℓ : Loc Cert.MulUp.nD Cert.MulUp.τ Cert.MulUp.sig) → Buf (Elt Bits) ℓ) : Prop :=
  True

def Pre_MulUpIdeal (m : (ℓ : Loc Cert.MulUpIdeal.nD Cert.MulUpIdeal.τ Cert.MulUpIdeal.sig) → Buf (Elt Ideal) ℓ) : Prop :=
  True

def Pre_MulUpRefIdeal (m : (ℓ : Loc Cert.MulUpRefIdeal.nD Cert.MulUpRefIdeal.τ Cert.MulUpRefIdeal.sig) → Buf (Elt Ideal) ℓ) : Prop :=
  True

def Pre_DxIn (m : (ℓ : Loc Cert.DxIn.nD Cert.DxIn.τ Cert.DxIn.sig) → Buf (Elt Bits) ℓ) : Prop :=
  True

def Pre_DxInIdeal (m : (ℓ : Loc Cert.DxInIdeal.nD Cert.DxInIdeal.τ Cert.DxInIdeal.sig) → Buf (Elt Ideal) ℓ) : Prop :=
  True

def Pre_DxInRefIdeal (m : (ℓ : Loc Cert.DxInRefIdeal.nD Cert.DxInRefIdeal.τ Cert.DxInRefIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_DxOutRefIdeal (m : (ℓ : Loc Cert.DxOutRefIdeal.nD Cert.DxOutRefIdeal.τ Cert.DxOutRefIdeal.sig) → Buf (Elt Ideal) ℓ) : Prop :=
  True

def Pre_DxDown (m : (ℓ : Loc Cert.DxDown.nD Cert.DxDown.τ Cert.DxDown.sig) → Buf (Elt Bits) ℓ) : Prop :=
  True

def Pre_DxDownIdeal (m : (ℓ : Loc Cert.DxDownIdeal.nD Cert.DxDownIdeal.τ Cert.DxDownIdeal.sig) → Buf (Elt Ideal) ℓ) : Prop :=
  True

def Pre_DxDownRefIdeal (m : (ℓ : Loc Cert.DxDownRefIdeal.nD Cert.DxDownRefIdeal.τ Cert.DxDownRefIdeal.sig) → Buf (Elt Ideal) ℓ) : Prop :=
  True

def Pre_DxQuery (m : (ℓ : Loc Cert.DxQuery.nD Cert.DxQuery.τ Cert.DxQuery.sig) → Buf (Elt Bits) ℓ) : Prop :=
  True

def Pre_DxQueryIdeal (m : (ℓ : Loc Cert.DxQueryIdeal.nD Cert.DxQueryIdeal.τ Cert.DxQueryIdeal.sig) → Buf (Elt Ideal) ℓ) : Prop :=
  True

def Pre_DxQueryRefIdeal (m : (ℓ : Loc Cert.DxQueryRefIdeal.nD Cert.DxQueryRefIdeal.τ Cert.DxQueryRefIdeal.sig) → Buf (Elt Ideal) ℓ) : Prop :=
  True

def Pre_DxKv (m : (ℓ : Loc Cert.DxKv.nD Cert.DxKv.τ Cert.DxKv.sig) → Buf (Elt Bits) ℓ) : Prop :=
  True

def Pre_DxKvIdeal (m : (ℓ : Loc Cert.DxKvIdeal.nD Cert.DxKvIdeal.τ Cert.DxKvIdeal.sig) → Buf (Elt Ideal) ℓ) : Prop :=
  True

def Pre_DxKvRefIdeal (m : (ℓ : Loc Cert.DxKvRefIdeal.nD Cert.DxKvRefIdeal.τ Cert.DxKvRefIdeal.sig) → Buf (Elt Ideal) ℓ) : Prop :=
  True

def Pre_DxUp (m : (ℓ : Loc Cert.DxUp.nD Cert.DxUp.τ Cert.DxUp.sig) → Buf (Elt Bits) ℓ) : Prop :=
  True

def Pre_DxUpIdeal (m : (ℓ : Loc Cert.DxUpIdeal.nD Cert.DxUpIdeal.τ Cert.DxUpIdeal.sig) → Buf (Elt Ideal) ℓ) : Prop :=
  True

def Pre_DxUpRefIdeal (m : (ℓ : Loc Cert.DxUpRefIdeal.nD Cert.DxUpRefIdeal.τ Cert.DxUpRefIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareRefIdeal (m : (ℓ : Loc Cert.DwSquareRefIdeal.nD Cert.DwSquareRefIdeal.τ Cert.DwSquareRefIdeal.sig) → Buf (Elt Ideal) ℓ) : Prop :=
  True

def Pre_DwQuery (m : (ℓ : Loc Cert.DwQuery.nD Cert.DwQuery.τ Cert.DwQuery.sig) → Buf (Elt Bits) ℓ) : Prop :=
  True

def Pre_DwQueryIdeal (m : (ℓ : Loc Cert.DwQueryIdeal.nD Cert.DwQueryIdeal.τ Cert.DwQueryIdeal.sig) → Buf (Elt Ideal) ℓ) : Prop :=
  True

def Pre_DwQueryRefIdeal (m : (ℓ : Loc Cert.DwQueryRefIdeal.nD Cert.DwQueryRefIdeal.τ Cert.DwQueryRefIdeal.sig) → Buf (Elt Ideal) ℓ) : Prop :=
  True

def Pre_DwKv (m : (ℓ : Loc Cert.DwKv.nD Cert.DwKv.τ Cert.DwKv.sig) → Buf (Elt Bits) ℓ) : Prop :=
  True

def Pre_DwKvIdeal (m : (ℓ : Loc Cert.DwKvIdeal.nD Cert.DwKvIdeal.τ Cert.DwKvIdeal.sig) → Buf (Elt Ideal) ℓ) : Prop :=
  True

def Pre_DwKvRefIdeal (m : (ℓ : Loc Cert.DwKvRefIdeal.nD Cert.DwKvRefIdeal.τ Cert.DwKvRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixDown (m : (ℓ : Loc Cert.MixDown.nD Cert.MixDown.τ Cert.MixDown.sig) → Buf (Elt Bits) ℓ) : Prop :=
  True

def Pre_MixDownIdeal (m : (ℓ : Loc Cert.MixDownIdeal.nD Cert.MixDownIdeal.τ Cert.MixDownIdeal.sig) → Buf (Elt Ideal) ℓ) : Prop :=
  True

def Pre_MixDownRefIdeal (m : (ℓ : Loc Cert.MixDownRefIdeal.nD Cert.MixDownRefIdeal.τ Cert.MixDownRefIdeal.sig) → Buf (Elt Ideal) ℓ) : Prop :=
  True

def Pre_Total (m : (ℓ : Loc Cert.Total.nD Cert.Total.τ Cert.Total.sig) → Buf (Elt Bits) ℓ) : Prop :=
  True

def Pre_TotalIdeal (m : (ℓ : Loc Cert.TotalIdeal.nD Cert.TotalIdeal.τ Cert.TotalIdeal.sig) → Buf (Elt Ideal) ℓ) : Prop :=
  True

def Pre_TotalRefIdeal (m : (ℓ : Loc Cert.TotalRefIdeal.nD Cert.TotalRefIdeal.τ Cert.TotalRefIdeal.sig) → Buf (Elt Ideal) ℓ) : Prop :=
  True

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_ExchangeMod [hExchangeMod : Cert.ExchangeMod.Facts] : Prop :=
  ∀ (m : (ℓ : Loc Cert.ExchangeMod.nD Cert.ExchangeMod.τ Cert.ExchangeMod.sig) → Buf (Elt Bits) ℓ) (g : Dev Cert.ExchangeMod.nD → PrngReg), Pre_ExchangeMod m →
    θ_run (Cert.ExchangeMod.defs (F := Bits)) (onTc (τ := Cert.ExchangeMod.τ) (Cert.ExchangeMod.main (F := Bits))) ⟨m, fun _ => 0, g⟩ (fun r => (∀ c : Dev Cert.ExchangeMod.nD,
      r.2.mem ((c.tc : Thread Cert.ExchangeMod.nD Cert.ExchangeMod.τ).loc Cert.ExchangeMod.main_arg0) = m ((c.tc : Thread Cert.ExchangeMod.nD Cert.ExchangeMod.τ).loc Cert.ExchangeMod.main_arg0))
      ∧ r.2.sem = fun _ => 0)

def quiescent_ExchangeModIdeal [hExchangeModIdeal : Cert.ExchangeModIdeal.Facts] : Prop :=
  ∀ (m : (ℓ : Loc Cert.ExchangeModIdeal.nD Cert.ExchangeModIdeal.τ Cert.ExchangeModIdeal.sig) → Buf (Elt Ideal) ℓ) (g : Dev Cert.ExchangeModIdeal.nD → PrngReg), Pre_ExchangeModIdeal m →
    θ_run (Cert.ExchangeModIdeal.defs (F := Ideal)) (onTc (τ := Cert.ExchangeModIdeal.τ) (Cert.ExchangeModIdeal.main (F := Ideal))) ⟨m, fun _ => 0, g⟩ (fun r => (∀ c : Dev Cert.ExchangeModIdeal.nD,
      r.2.mem ((c.tc : Thread Cert.ExchangeModIdeal.nD Cert.ExchangeModIdeal.τ).loc Cert.ExchangeModIdeal.main_arg0) = m ((c.tc : Thread Cert.ExchangeModIdeal.nD Cert.ExchangeModIdeal.τ).loc Cert.ExchangeModIdeal.main_arg0))
      ∧ r.2.sem = fun _ => 0)

def quiescent_ExchangeModRefIdeal [hExchangeModRefIdeal : Cert.ExchangeModRefIdeal.Facts] : Prop :=
  ∀ (m : (ℓ : Loc Cert.ExchangeModRefIdeal.nD Cert.ExchangeModRefIdeal.τ Cert.ExchangeModRefIdeal.sig) → Buf (Elt Ideal) ℓ) (g : Dev Cert.ExchangeModRefIdeal.nD → PrngReg), Pre_ExchangeModRefIdeal m →
    θ_run (Cert.ExchangeModRefIdeal.defs (F := Ideal)) (onTc (τ := Cert.ExchangeModRefIdeal.τ) (Cert.ExchangeModRefIdeal.main (F := Ideal))) ⟨m, fun _ => 0, g⟩ (fun r => (∀ c : Dev Cert.ExchangeModRefIdeal.nD,
      r.2.mem ((c.tc : Thread Cert.ExchangeModRefIdeal.nD Cert.ExchangeModRefIdeal.τ).loc Cert.ExchangeModRefIdeal.main_arg0) = m ((c.tc : Thread Cert.ExchangeModRefIdeal.nD Cert.ExchangeModRefIdeal.τ).loc Cert.ExchangeModRefIdeal.main_arg0))
      ∧ r.2.sem = fun _ => 0)

def quiescent_ExchangeModRef [hExchangeModRef : Cert.ExchangeModRef.Facts] : Prop :=
  ∀ (m : (ℓ : Loc Cert.ExchangeModRef.nD Cert.ExchangeModRef.τ Cert.ExchangeModRef.sig) → Buf (Elt Bits) ℓ) (g : Dev Cert.ExchangeModRef.nD → PrngReg), Pre_ExchangeModRef m →
    θ_run (Cert.ExchangeModRef.defs (F := Bits)) (onTc (τ := Cert.ExchangeModRef.τ) (Cert.ExchangeModRef.main (F := Bits))) ⟨m, fun _ => 0, g⟩ (fun r => (∀ c : Dev Cert.ExchangeModRef.nD,
      r.2.mem ((c.tc : Thread Cert.ExchangeModRef.nD Cert.ExchangeModRef.τ).loc Cert.ExchangeModRef.main_arg0) = m ((c.tc : Thread Cert.ExchangeModRef.nD Cert.ExchangeModRef.τ).loc Cert.ExchangeModRef.main_arg0))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_GatherSmallRefIdeal [hGatherSmallRefIdeal : Cert.GatherSmallRefIdeal.Facts] : Prop :=
  ∀ (m : (ℓ : Loc Cert.GatherSmallRefIdeal.nD Cert.GatherSmallRefIdeal.τ Cert.GatherSmallRefIdeal.sig) → Buf (Elt Ideal) ℓ) (g : Dev Cert.GatherSmallRefIdeal.nD → PrngReg), Pre_GatherSmallRefIdeal m →
    θ_run (Cert.GatherSmallRefIdeal.defs (F := Ideal)) (onTc (τ := Cert.GatherSmallRefIdeal.τ) (Cert.GatherSmallRefIdeal.main (F := Ideal))) ⟨m, fun _ => 0, g⟩ (fun r => (∀ c : Dev Cert.GatherSmallRefIdeal.nD,
      r.2.mem ((c.tc : Thread Cert.GatherSmallRefIdeal.nD Cert.GatherSmallRefIdeal.τ).loc Cert.GatherSmallRefIdeal.main_arg0) = m ((c.tc : Thread Cert.GatherSmallRefIdeal.nD Cert.GatherSmallRefIdeal.τ).loc Cert.GatherSmallRefIdeal.main_arg0))
      ∧ r.2.sem = fun _ => 0)

def quiescent_GatherSmallRef [hGatherSmallRef : Cert.GatherSmallRef.Facts] : Prop :=
  ∀ (m : (ℓ : Loc Cert.GatherSmallRef.nD Cert.GatherSmallRef.τ Cert.GatherSmallRef.sig) → Buf (Elt Bits) ℓ) (g : Dev Cert.GatherSmallRef.nD → PrngReg), Pre_GatherSmallRef m →
    θ_run (Cert.GatherSmallRef.defs (F := Bits)) (onTc (τ := Cert.GatherSmallRef.τ) (Cert.GatherSmallRef.main (F := Bits))) ⟨m, fun _ => 0, g⟩ (fun r => (∀ c : Dev Cert.GatherSmallRef.nD,
      r.2.mem ((c.tc : Thread Cert.GatherSmallRef.nD Cert.GatherSmallRef.τ).loc Cert.GatherSmallRef.main_arg0) = m ((c.tc : Thread Cert.GatherSmallRef.nD Cert.GatherSmallRef.τ).loc Cert.GatherSmallRef.main_arg0))
      ∧ r.2.sem = fun _ => 0)

def quiescent_GatherGrads [hGatherGrads : Cert.GatherGrads.Facts] : Prop :=
  ∀ (m : (ℓ : Loc Cert.GatherGrads.nD Cert.GatherGrads.τ Cert.GatherGrads.sig) → Buf (Elt Bits) ℓ) (g : Dev Cert.GatherGrads.nD → PrngReg), Pre_GatherGrads m →
    θ_run (Cert.GatherGrads.defs (F := Bits)) (onTc (τ := Cert.GatherGrads.τ) (Cert.GatherGrads.main (F := Bits))) ⟨m, fun _ => 0, g⟩ (fun r => (∀ c : Dev Cert.GatherGrads.nD,
      r.2.mem ((c.tc : Thread Cert.GatherGrads.nD Cert.GatherGrads.τ).loc Cert.GatherGrads.main_arg0) = m ((c.tc : Thread Cert.GatherGrads.nD Cert.GatherGrads.τ).loc Cert.GatherGrads.main_arg0))
      ∧ r.2.sem = fun _ => 0)

def quiescent_GatherGradsIdeal [hGatherGradsIdeal : Cert.GatherGradsIdeal.Facts] : Prop :=
  ∀ (m : (ℓ : Loc Cert.GatherGradsIdeal.nD Cert.GatherGradsIdeal.τ Cert.GatherGradsIdeal.sig) → Buf (Elt Ideal) ℓ) (g : Dev Cert.GatherGradsIdeal.nD → PrngReg), Pre_GatherGradsIdeal m →
    θ_run (Cert.GatherGradsIdeal.defs (F := Ideal)) (onTc (τ := Cert.GatherGradsIdeal.τ) (Cert.GatherGradsIdeal.main (F := Ideal))) ⟨m, fun _ => 0, g⟩ (fun r => (∀ c : Dev Cert.GatherGradsIdeal.nD,
      r.2.mem ((c.tc : Thread Cert.GatherGradsIdeal.nD Cert.GatherGradsIdeal.τ).loc Cert.GatherGradsIdeal.main_arg0) = m ((c.tc : Thread Cert.GatherGradsIdeal.nD Cert.GatherGradsIdeal.τ).loc Cert.GatherGradsIdeal.main_arg0))
      ∧ r.2.sem = fun _ => 0)

def quiescent_GatherGradsRefIdeal [hGatherGradsRefIdeal : Cert.GatherGradsRefIdeal.Facts] : Prop :=
  ∀ (m : (ℓ : Loc Cert.GatherGradsRefIdeal.nD Cert.GatherGradsRefIdeal.τ Cert.GatherGradsRefIdeal.sig) → Buf (Elt Ideal) ℓ) (g : Dev Cert.GatherGradsRefIdeal.nD → PrngReg), Pre_GatherGradsRefIdeal m →
    θ_run (Cert.GatherGradsRefIdeal.defs (F := Ideal)) (onTc (τ := Cert.GatherGradsRefIdeal.τ) (Cert.GatherGradsRefIdeal.main (F := Ideal))) ⟨m, fun _ => 0, g⟩ (fun r => (∀ c : Dev Cert.GatherGradsRefIdeal.nD,
      r.2.mem ((c.tc : Thread Cert.GatherGradsRefIdeal.nD Cert.GatherGradsRefIdeal.τ).loc Cert.GatherGradsRefIdeal.main_arg0) = m ((c.tc : Thread Cert.GatherGradsRefIdeal.nD Cert.GatherGradsRefIdeal.τ).loc Cert.GatherGradsRefIdeal.main_arg0))
      ∧ r.2.sem = fun _ => 0)

def quiescent_GatherGradsRef [hGatherGradsRef : Cert.GatherGradsRef.Facts] : Prop :=
  ∀ (m : (ℓ : Loc Cert.GatherGradsRef.nD Cert.GatherGradsRef.τ Cert.GatherGradsRef.sig) → Buf (Elt Bits) ℓ) (g : Dev Cert.GatherGradsRef.nD → PrngReg), Pre_GatherGradsRef m →
    θ_run (Cert.GatherGradsRef.defs (F := Bits)) (onTc (τ := Cert.GatherGradsRef.τ) (Cert.GatherGradsRef.main (F := Bits))) ⟨m, fun _ => 0, g⟩ (fun r => (∀ c : Dev Cert.GatherGradsRef.nD,
      r.2.mem ((c.tc : Thread Cert.GatherGradsRef.nD Cert.GatherGradsRef.τ).loc Cert.GatherGradsRef.main_arg0) = m ((c.tc : Thread Cert.GatherGradsRef.nD Cert.GatherGradsRef.τ).loc Cert.GatherGradsRef.main_arg0))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamGrp [hAdamGrp : Cert.AdamGrp.Facts] : Prop :=
  ∀ (m : (ℓ : Loc Cert.AdamGrp.nD Cert.AdamGrp.τ Cert.AdamGrp.sig) → Buf (Elt Bits) ℓ) (g : Dev Cert.AdamGrp.nD → PrngReg), Pre_AdamGrp m →
    θ_run (Cert.AdamGrp.defs (F := Bits)) (onTc (τ := Cert.AdamGrp.τ) (Cert.AdamGrp.main (F := Bits))) ⟨m, fun _ => 0, g⟩ (fun r => (∀ c : Dev Cert.AdamGrp.nD,
      r.2.mem ((c.tc : Thread Cert.AdamGrp.nD Cert.AdamGrp.τ).loc Cert.AdamGrp.main_arg0) = m ((c.tc : Thread Cert.AdamGrp.nD Cert.AdamGrp.τ).loc Cert.AdamGrp.main_arg0)
      ∧ r.2.mem ((c.tc : Thread Cert.AdamGrp.nD Cert.AdamGrp.τ).loc Cert.AdamGrp.main_arg1) = m ((c.tc : Thread Cert.AdamGrp.nD Cert.AdamGrp.τ).loc Cert.AdamGrp.main_arg1)
      ∧ r.2.mem ((c.tc : Thread Cert.AdamGrp.nD Cert.AdamGrp.τ).loc Cert.AdamGrp.main_arg2) = m ((c.tc : Thread Cert.AdamGrp.nD Cert.AdamGrp.τ).loc Cert.AdamGrp.main_arg2)
      ∧ r.2.mem ((c.tc : Thread Cert.AdamGrp.nD Cert.AdamGrp.τ).loc Cert.AdamGrp.main_arg3) = m ((c.tc : Thread Cert.AdamGrp.nD Cert.AdamGrp.τ).loc Cert.AdamGrp.main_arg3))
      ∧ r.2.sem = fun _ => 0)

def quiescent_AdamGrpIdeal [hAdamGrpIdeal : Cert.AdamGrpIdeal.Facts] : Prop :=
  ∀ (m : (ℓ : Loc Cert.AdamGrpIdeal.nD Cert.AdamGrpIdeal.τ Cert.AdamGrpIdeal.sig) → Buf (Elt Ideal) ℓ) (g : Dev Cert.AdamGrpIdeal.nD → PrngReg), Pre_AdamGrpIdeal m →
    θ_run (Cert.AdamGrpIdeal.defs (F := Ideal)) (onTc (τ := Cert.AdamGrpIdeal.τ) (Cert.AdamGrpIdeal.main (F := Ideal))) ⟨m, fun _ => 0, g⟩ (fun r => (∀ c : Dev Cert.AdamGrpIdeal.nD,
      r.2.mem ((c.tc : Thread Cert.AdamGrpIdeal.nD Cert.AdamGrpIdeal.τ).loc Cert.AdamGrpIdeal.main_arg0) = m ((c.tc : Thread Cert.AdamGrpIdeal.nD Cert.AdamGrpIdeal.τ).loc Cert.AdamGrpIdeal.main_arg0)
      ∧ r.2.mem ((c.tc : Thread Cert.AdamGrpIdeal.nD Cert.AdamGrpIdeal.τ).loc Cert.AdamGrpIdeal.main_arg1) = m ((c.tc : Thread Cert.AdamGrpIdeal.nD Cert.AdamGrpIdeal.τ).loc Cert.AdamGrpIdeal.main_arg1)
      ∧ r.2.mem ((c.tc : Thread Cert.AdamGrpIdeal.nD Cert.AdamGrpIdeal.τ).loc Cert.AdamGrpIdeal.main_arg2) = m ((c.tc : Thread Cert.AdamGrpIdeal.nD Cert.AdamGrpIdeal.τ).loc Cert.AdamGrpIdeal.main_arg2)
      ∧ r.2.mem ((c.tc : Thread Cert.AdamGrpIdeal.nD Cert.AdamGrpIdeal.τ).loc Cert.AdamGrpIdeal.main_arg3) = m ((c.tc : Thread Cert.AdamGrpIdeal.nD Cert.AdamGrpIdeal.τ).loc Cert.AdamGrpIdeal.main_arg3))
      ∧ r.2.sem = fun _ => 0)

def quiescent_AdamGrpRefIdeal [hAdamGrpRefIdeal : Cert.AdamGrpRefIdeal.Facts] : Prop :=
  ∀ (m : (ℓ : Loc Cert.AdamGrpRefIdeal.nD Cert.AdamGrpRefIdeal.τ Cert.AdamGrpRefIdeal.sig) → Buf (Elt Ideal) ℓ) (g : Dev Cert.AdamGrpRefIdeal.nD → PrngReg), Pre_AdamGrpRefIdeal m →
    θ_run (Cert.AdamGrpRefIdeal.defs (F := Ideal)) (onTc (τ := Cert.AdamGrpRefIdeal.τ) (Cert.AdamGrpRefIdeal.main (F := Ideal))) ⟨m, fun _ => 0, g⟩ (fun r => (∀ c : Dev Cert.AdamGrpRefIdeal.nD,
      r.2.mem ((c.tc : Thread Cert.AdamGrpRefIdeal.nD Cert.AdamGrpRefIdeal.τ).loc Cert.AdamGrpRefIdeal.main_arg0) = m ((c.tc : Thread Cert.AdamGrpRefIdeal.nD Cert.AdamGrpRefIdeal.τ).loc Cert.AdamGrpRefIdeal.main_arg0)
      ∧ r.2.mem ((c.tc : Thread Cert.AdamGrpRefIdeal.nD Cert.AdamGrpRefIdeal.τ).loc Cert.AdamGrpRefIdeal.main_arg1) = m ((c.tc : Thread Cert.AdamGrpRefIdeal.nD Cert.AdamGrpRefIdeal.τ).loc Cert.AdamGrpRefIdeal.main_arg1)
      ∧ r.2.mem ((c.tc : Thread Cert.AdamGrpRefIdeal.nD Cert.AdamGrpRefIdeal.τ).loc Cert.AdamGrpRefIdeal.main_arg2) = m ((c.tc : Thread Cert.AdamGrpRefIdeal.nD Cert.AdamGrpRefIdeal.τ).loc Cert.AdamGrpRefIdeal.main_arg2)
      ∧ r.2.mem ((c.tc : Thread Cert.AdamGrpRefIdeal.nD Cert.AdamGrpRefIdeal.τ).loc Cert.AdamGrpRefIdeal.main_arg3) = m ((c.tc : Thread Cert.AdamGrpRefIdeal.nD Cert.AdamGrpRefIdeal.τ).loc Cert.AdamGrpRefIdeal.main_arg3))
      ∧ r.2.sem = fun _ => 0)

def quiescent_AdamQuery [hAdamQuery : Cert.AdamQuery.Facts] : Prop :=
  ∀ (m : (ℓ : Loc Cert.AdamQuery.nD Cert.AdamQuery.τ Cert.AdamQuery.sig) → Buf (Elt Bits) ℓ) (g : Dev Cert.AdamQuery.nD → PrngReg), Pre_AdamQuery m →
    θ_run (Cert.AdamQuery.defs (F := Bits)) (onTc (τ := Cert.AdamQuery.τ) (Cert.AdamQuery.main (F := Bits))) ⟨m, fun _ => 0, g⟩ (fun r => (∀ c : Dev Cert.AdamQuery.nD,
      r.2.mem ((c.tc : Thread Cert.AdamQuery.nD Cert.AdamQuery.τ).loc Cert.AdamQuery.main_arg0) = m ((c.tc : Thread Cert.AdamQuery.nD Cert.AdamQuery.τ).loc Cert.AdamQuery.main_arg0)
      ∧ r.2.mem ((c.tc : Thread Cert.AdamQuery.nD Cert.AdamQuery.τ).loc Cert.AdamQuery.main_arg1) = m ((c.tc : Thread Cert.AdamQuery.nD Cert.AdamQuery.τ).loc Cert.AdamQuery.main_arg1)
      ∧ r.2.mem ((c.tc : Thread Cert.AdamQuery.nD Cert.AdamQuery.τ).loc Cert.AdamQuery.main_arg2) = m ((c.tc : Thread Cert.AdamQuery.nD Cert.AdamQuery.τ).loc Cert.AdamQuery.main_arg2)
      ∧ r.2.mem ((c.tc : Thread Cert.AdamQuery.nD Cert.AdamQuery.τ).loc Cert.AdamQuery.main_arg3) = m ((c.tc : Thread Cert.AdamQuery.nD Cert.AdamQuery.τ).loc Cert.AdamQuery.main_arg3))
      ∧ r.2.sem = fun _ => 0)

def quiescent_AdamQueryIdeal [hAdamQueryIdeal : Cert.AdamQueryIdeal.Facts] : Prop :=
  ∀ (m : (ℓ : Loc Cert.AdamQueryIdeal.nD Cert.AdamQueryIdeal.τ Cert.AdamQueryIdeal.sig) → Buf (Elt Ideal) ℓ) (g : Dev Cert.AdamQueryIdeal.nD → PrngReg), Pre_AdamQueryIdeal m →
    θ_run (Cert.AdamQueryIdeal.defs (F := Ideal)) (onTc (τ := Cert.AdamQueryIdeal.τ) (Cert.AdamQueryIdeal.main (F := Ideal))) ⟨m, fun _ => 0, g⟩ (fun r => (∀ c : Dev Cert.AdamQueryIdeal.nD,
      r.2.mem ((c.tc : Thread Cert.AdamQueryIdeal.nD Cert.AdamQueryIdeal.τ).loc Cert.AdamQueryIdeal.main_arg0) = m ((c.tc : Thread Cert.AdamQueryIdeal.nD Cert.AdamQueryIdeal.τ).loc Cert.AdamQueryIdeal.main_arg0)
      ∧ r.2.mem ((c.tc : Thread Cert.AdamQueryIdeal.nD Cert.AdamQueryIdeal.τ).loc Cert.AdamQueryIdeal.main_arg1) = m ((c.tc : Thread Cert.AdamQueryIdeal.nD Cert.AdamQueryIdeal.τ).loc Cert.AdamQueryIdeal.main_arg1)
      ∧ r.2.mem ((c.tc : Thread Cert.AdamQueryIdeal.nD Cert.AdamQueryIdeal.τ).loc Cert.AdamQueryIdeal.main_arg2) = m ((c.tc : Thread Cert.AdamQueryIdeal.nD Cert.AdamQueryIdeal.τ).loc Cert.AdamQueryIdeal.main_arg2)
      ∧ r.2.mem ((c.tc : Thread Cert.AdamQueryIdeal.nD Cert.AdamQueryIdeal.τ).loc Cert.AdamQueryIdeal.main_arg3) = m ((c.tc : Thread Cert.AdamQueryIdeal.nD Cert.AdamQueryIdeal.τ).loc Cert.AdamQueryIdeal.main_arg3))
      ∧ r.2.sem = fun _ => 0)

def quiescent_AdamQueryRefIdeal [hAdamQueryRefIdeal : Cert.AdamQueryRefIdeal.Facts] : Prop :=
  ∀ (m : (ℓ : Loc Cert.AdamQueryRefIdeal.nD Cert.AdamQueryRefIdeal.τ Cert.AdamQueryRefIdeal.sig) → Buf (Elt Ideal) ℓ) (g : Dev Cert.AdamQueryRefIdeal.nD → PrngReg), Pre_AdamQueryRefIdeal m →
    θ_run (Cert.AdamQueryRefIdeal.defs (F := Ideal)) (onTc (τ := Cert.AdamQueryRefIdeal.τ) (Cert.AdamQueryRefIdeal.main (F := Ideal))) ⟨m, fun _ => 0, g⟩ (fun r => (∀ c : Dev Cert.AdamQueryRefIdeal.nD,
      r.2.mem ((c.tc : Thread Cert.AdamQueryRefIdeal.nD Cert.AdamQueryRefIdeal.τ).loc Cert.AdamQueryRefIdeal.main_arg0) = m ((c.tc : Thread Cert.AdamQueryRefIdeal.nD Cert.AdamQueryRefIdeal.τ).loc Cert.AdamQueryRefIdeal.main_arg0)
      ∧ r.2.mem ((c.tc : Thread Cert.AdamQueryRefIdeal.nD Cert.AdamQueryRefIdeal.τ).loc Cert.AdamQueryRefIdeal.main_arg1) = m ((c.tc : Thread Cert.AdamQueryRefIdeal.nD Cert.AdamQueryRefIdeal.τ).loc Cert.AdamQueryRefIdeal.main_arg1)
      ∧ r.2.mem ((c.tc : Thread Cert.AdamQueryRefIdeal.nD Cert.AdamQueryRefIdeal.τ).loc Cert.AdamQueryRefIdeal.main_arg2) = m ((c.tc : Thread Cert.AdamQueryRefIdeal.nD Cert.AdamQueryRefIdeal.τ).loc Cert.AdamQueryRefIdeal.main_arg2)
      ∧ r.2.mem ((c.tc : Thread Cert.AdamQueryRefIdeal.nD Cert.AdamQueryRefIdeal.τ).loc Cert.AdamQueryRefIdeal.main_arg3) = m ((c.tc : Thread Cert.AdamQueryRefIdeal.nD Cert.AdamQueryRefIdeal.τ).loc Cert.AdamQueryRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamKvAda [hAdamKvAda : Cert.AdamKvAda.Facts] : Prop :=
  ∀ (m : (ℓ : Loc Cert.AdamKvAda.nD Cert.AdamKvAda.τ Cert.AdamKvAda.sig) → Buf (Elt Bits) ℓ) (g : Dev Cert.AdamKvAda.nD → PrngReg), Pre_AdamKvAda m →
    θ_run (Cert.AdamKvAda.defs (F := Bits)) (onTc (τ := Cert.AdamKvAda.τ) (Cert.AdamKvAda.main (F := Bits))) ⟨m, fun _ => 0, g⟩ (fun r => (∀ c : Dev Cert.AdamKvAda.nD,
      r.2.mem ((c.tc : Thread Cert.AdamKvAda.nD Cert.AdamKvAda.τ).loc Cert.AdamKvAda.main_arg0) = m ((c.tc : Thread Cert.AdamKvAda.nD Cert.AdamKvAda.τ).loc Cert.AdamKvAda.main_arg0)
      ∧ r.2.mem ((c.tc : Thread Cert.AdamKvAda.nD Cert.AdamKvAda.τ).loc Cert.AdamKvAda.main_arg1) = m ((c.tc : Thread Cert.AdamKvAda.nD Cert.AdamKvAda.τ).loc Cert.AdamKvAda.main_arg1)
      ∧ r.2.mem ((c.tc : Thread Cert.AdamKvAda.nD Cert.AdamKvAda.τ).loc Cert.AdamKvAda.main_arg2) = m ((c.tc : Thread Cert.AdamKvAda.nD Cert.AdamKvAda.τ).loc Cert.AdamKvAda.main_arg2)
      ∧ r.2.mem ((c.tc : Thread Cert.AdamKvAda.nD Cert.AdamKvAda.τ).loc Cert.AdamKvAda.main_arg3) = m ((c.tc : Thread Cert.AdamKvAda.nD Cert.AdamKvAda.τ).loc Cert.AdamKvAda.main_arg3))
      ∧ r.2.sem = fun _ => 0)

def quiescent_AdamKvAdaIdeal [hAdamKvAdaIdeal : Cert.AdamKvAdaIdeal.Facts] : Prop :=
  ∀ (m : (ℓ : Loc Cert.AdamKvAdaIdeal.nD Cert.AdamKvAdaIdeal.τ Cert.AdamKvAdaIdeal.sig) → Buf (Elt Ideal) ℓ) (g : Dev Cert.AdamKvAdaIdeal.nD → PrngReg), Pre_AdamKvAdaIdeal m →
    θ_run (Cert.AdamKvAdaIdeal.defs (F := Ideal)) (onTc (τ := Cert.AdamKvAdaIdeal.τ) (Cert.AdamKvAdaIdeal.main (F := Ideal))) ⟨m, fun _ => 0, g⟩ (fun r => (∀ c : Dev Cert.AdamKvAdaIdeal.nD,
      r.2.mem ((c.tc : Thread Cert.AdamKvAdaIdeal.nD Cert.AdamKvAdaIdeal.τ).loc Cert.AdamKvAdaIdeal.main_arg0) = m ((c.tc : Thread Cert.AdamKvAdaIdeal.nD Cert.AdamKvAdaIdeal.τ).loc Cert.AdamKvAdaIdeal.main_arg0)
      ∧ r.2.mem ((c.tc : Thread Cert.AdamKvAdaIdeal.nD Cert.AdamKvAdaIdeal.τ).loc Cert.AdamKvAdaIdeal.main_arg1) = m ((c.tc : Thread Cert.AdamKvAdaIdeal.nD Cert.AdamKvAdaIdeal.τ).loc Cert.AdamKvAdaIdeal.main_arg1)
      ∧ r.2.mem ((c.tc : Thread Cert.AdamKvAdaIdeal.nD Cert.AdamKvAdaIdeal.τ).loc Cert.AdamKvAdaIdeal.main_arg2) = m ((c.tc : Thread Cert.AdamKvAdaIdeal.nD Cert.AdamKvAdaIdeal.τ).loc Cert.AdamKvAdaIdeal.main_arg2)
      ∧ r.2.mem ((c.tc : Thread Cert.AdamKvAdaIdeal.nD Cert.AdamKvAdaIdeal.τ).loc Cert.AdamKvAdaIdeal.main_arg3) = m ((c.tc : Thread Cert.AdamKvAdaIdeal.nD Cert.AdamKvAdaIdeal.τ).loc Cert.AdamKvAdaIdeal.main_arg3))
      ∧ r.2.sem = fun _ => 0)

def quiescent_AdamKvAdaRefIdeal [hAdamKvAdaRefIdeal : Cert.AdamKvAdaRefIdeal.Facts] : Prop :=
  ∀ (m : (ℓ : Loc Cert.AdamKvAdaRefIdeal.nD Cert.AdamKvAdaRefIdeal.τ Cert.AdamKvAdaRefIdeal.sig) → Buf (Elt Ideal) ℓ) (g : Dev Cert.AdamKvAdaRefIdeal.nD → PrngReg), Pre_AdamKvAdaRefIdeal m →
    θ_run (Cert.AdamKvAdaRefIdeal.defs (F := Ideal)) (onTc (τ := Cert.AdamKvAdaRefIdeal.τ) (Cert.AdamKvAdaRefIdeal.main (F := Ideal))) ⟨m, fun _ => 0, g⟩ (fun r => (∀ c : Dev Cert.AdamKvAdaRefIdeal.nD,
      r.2.mem ((c.tc : Thread Cert.AdamKvAdaRefIdeal.nD Cert.AdamKvAdaRefIdeal.τ).loc Cert.AdamKvAdaRefIdeal.main_arg0) = m ((c.tc : Thread Cert.AdamKvAdaRefIdeal.nD Cert.AdamKvAdaRefIdeal.τ).loc Cert.AdamKvAdaRefIdeal.main_arg0)
      ∧ r.2.mem ((c.tc : Thread Cert.AdamKvAdaRefIdeal.nD Cert.AdamKvAdaRefIdeal.τ).loc Cert.AdamKvAdaRefIdeal.main_arg1) = m ((c.tc : Thread Cert.AdamKvAdaRefIdeal.nD Cert.AdamKvAdaRefIdeal.τ).loc Cert.AdamKvAdaRefIdeal.main_arg1)
      ∧ r.2.mem ((c.tc : Thread Cert.AdamKvAdaRefIdeal.nD Cert.AdamKvAdaRefIdeal.τ).loc Cert.AdamKvAdaRefIdeal.main_arg2) = m ((c.tc : Thread Cert.AdamKvAdaRefIdeal.nD Cert.AdamKvAdaRefIdeal.τ).loc Cert.AdamKvAdaRefIdeal.main_arg2)
      ∧ r.2.mem ((c.tc : Thread Cert.AdamKvAdaRefIdeal.nD Cert.AdamKvAdaRefIdeal.τ).loc Cert.AdamKvAdaRefIdeal.main_arg3) = m ((c.tc : Thread Cert.AdamKvAdaRefIdeal.nD Cert.AdamKvAdaRefIdeal.τ).loc Cert.AdamKvAdaRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_ModAda [hModAda : Cert.ModAda.Facts] : Prop :=
  ∀ (m : (ℓ : Loc Cert.ModAda.nD Cert.ModAda.τ Cert.ModAda.sig) → Buf (Elt Bits) ℓ) (g : Dev Cert.ModAda.nD → PrngReg), Pre_ModAda m →
    θ_run (Cert.ModAda.defs (F := Bits)) (onTc (τ := Cert.ModAda.τ) (Cert.ModAda.main (F := Bits))) ⟨m, fun _ => 0, g⟩ (fun r => (∀ c : Dev Cert.ModAda.nD,
      r.2.mem ((c.tc : Thread Cert.ModAda.nD Cert.ModAda.τ).loc Cert.ModAda.main_arg0) = m ((c.tc : Thread Cert.ModAda.nD Cert.ModAda.τ).loc Cert.ModAda.main_arg0)
      ∧ r.2.mem ((c.tc : Thread Cert.ModAda.nD Cert.ModAda.τ).loc Cert.ModAda.main_arg1) = m ((c.tc : Thread Cert.ModAda.nD Cert.ModAda.τ).loc Cert.ModAda.main_arg1))
      ∧ r.2.sem = fun _ => 0)

def quiescent_ModAdaIdeal [hModAdaIdeal : Cert.ModAdaIdeal.Facts] : Prop :=
  ∀ (m : (ℓ : Loc Cert.ModAdaIdeal.nD Cert.ModAdaIdeal.τ Cert.ModAdaIdeal.sig) → Buf (Elt Ideal) ℓ) (g : Dev Cert.ModAdaIdeal.nD → PrngReg), Pre_ModAdaIdeal m →
    θ_run (Cert.ModAdaIdeal.defs (F := Ideal)) (onTc (τ := Cert.ModAdaIdeal.τ) (Cert.ModAdaIdeal.main (F := Ideal))) ⟨m, fun _ => 0, g⟩ (fun r => (∀ c : Dev Cert.ModAdaIdeal.nD,
      r.2.mem ((c.tc : Thread Cert.ModAdaIdeal.nD Cert.ModAdaIdeal.τ).loc Cert.ModAdaIdeal.main_arg0) = m ((c.tc : Thread Cert.ModAdaIdeal.nD Cert.ModAdaIdeal.τ).loc Cert.ModAdaIdeal.main_arg0)
      ∧ r.2.mem ((c.tc : Thread Cert.ModAdaIdeal.nD Cert.ModAdaIdeal.τ).loc Cert.ModAdaIdeal.main_arg1) = m ((c.tc : Thread Cert.ModAdaIdeal.nD Cert.ModAdaIdeal.τ).loc Cert.ModAdaIdeal.main_arg1))
      ∧ r.2.sem = fun _ => 0)

def quiescent_ModAdaRefIdeal [hModAdaRefIdeal : Cert.ModAdaRefIdeal.Facts] : Prop :=
  ∀ (m : (ℓ : Loc Cert.ModAdaRefIdeal.nD Cert.ModAdaRefIdeal.τ Cert.ModAdaRefIdeal.sig) → Buf (Elt Ideal) ℓ) (g : Dev Cert.ModAdaRefIdeal.nD → PrngReg), Pre_ModAdaRefIdeal m →
    θ_run (Cert.ModAdaRefIdeal.defs (F := Ideal)) (onTc (τ := Cert.ModAdaRefIdeal.τ) (Cert.ModAdaRefIdeal.main (F := Ideal))) ⟨m, fun _ => 0, g⟩ (fun r => (∀ c : Dev Cert.ModAdaRefIdeal.nD,
      r.2.mem ((c.tc : Thread Cert.ModAdaRefIdeal.nD Cert.ModAdaRefIdeal.τ).loc Cert.ModAdaRefIdeal.main_arg0) = m ((c.tc : Thread Cert.ModAdaRefIdeal.nD Cert.ModAdaRefIdeal.τ).loc Cert.ModAdaRefIdeal.main_arg0)
      ∧ r.2.mem ((c.tc : Thread Cert.ModAdaRefIdeal.nD Cert.ModAdaRefIdeal.τ).loc Cert.ModAdaRefIdeal.main_arg1) = m ((c.tc : Thread Cert.ModAdaRefIdeal.nD Cert.ModAdaRefIdeal.τ).loc Cert.ModAdaRefIdeal.main_arg1))
      ∧ r.2.sem = fun _ => 0)

def quiescent_ModKv [hModKv : Cert.ModKv.Facts] : Prop :=
  ∀ (m : (ℓ : Loc Cert.ModKv.nD Cert.ModKv.τ Cert.ModKv.sig) → Buf (Elt Bits) ℓ) (g : Dev Cert.ModKv.nD → PrngReg), Pre_ModKv m →
    θ_run (Cert.ModKv.defs (F := Bits)) (onTc (τ := Cert.ModKv.τ) (Cert.ModKv.main (F := Bits))) ⟨m, fun _ => 0, g⟩ (fun r => (∀ c : Dev Cert.ModKv.nD,
      r.2.mem ((c.tc : Thread Cert.ModKv.nD Cert.ModKv.τ).loc Cert.ModKv.main_arg0) = m ((c.tc : Thread Cert.ModKv.nD Cert.ModKv.τ).loc Cert.ModKv.main_arg0)
      ∧ r.2.mem ((c.tc : Thread Cert.ModKv.nD Cert.ModKv.τ).loc Cert.ModKv.main_arg1) = m ((c.tc : Thread Cert.ModKv.nD Cert.ModKv.τ).loc Cert.ModKv.main_arg1))
      ∧ r.2.sem = fun _ => 0)

def quiescent_ModKvIdeal [hModKvIdeal : Cert.ModKvIdeal.Facts] : Prop :=
  ∀ (m : (ℓ : Loc Cert.ModKvIdeal.nD Cert.ModKvIdeal.τ Cert.ModKvIdeal.sig) → Buf (Elt Ideal) ℓ) (g : Dev Cert.ModKvIdeal.nD → PrngReg), Pre_ModKvIdeal m →
    θ_run (Cert.ModKvIdeal.defs (F := Ideal)) (onTc (τ := Cert.ModKvIdeal.τ) (Cert.ModKvIdeal.main (F := Ideal))) ⟨m, fun _ => 0, g⟩ (fun r => (∀ c : Dev Cert.ModKvIdeal.nD,
      r.2.mem ((c.tc : Thread Cert.ModKvIdeal.nD Cert.ModKvIdeal.τ).loc Cert.ModKvIdeal.main_arg0) = m ((c.tc : Thread Cert.ModKvIdeal.nD Cert.ModKvIdeal.τ).loc Cert.ModKvIdeal.main_arg0)
      ∧ r.2.mem ((c.tc : Thread Cert.ModKvIdeal.nD Cert.ModKvIdeal.τ).loc Cert.ModKvIdeal.main_arg1) = m ((c.tc : Thread Cert.ModKvIdeal.nD Cert.ModKvIdeal.τ).loc Cert.ModKvIdeal.main_arg1))
      ∧ r.2.sem = fun _ => 0)

def quiescent_ModKvRefIdeal [hModKvRefIdeal : Cert.ModKvRefIdeal.Facts] : Prop :=
  ∀ (m : (ℓ : Loc Cert.ModKvRefIdeal.nD Cert.ModKvRefIdeal.τ Cert.ModKvRefIdeal.sig) → Buf (Elt Ideal) ℓ) (g : Dev Cert.ModKvRefIdeal.nD → PrngReg), Pre_ModKvRefIdeal m →
    θ_run (Cert.ModKvRefIdeal.defs (F := Ideal)) (onTc (τ := Cert.ModKvRefIdeal.τ) (Cert.ModKvRefIdeal.main (F := Ideal))) ⟨m, fun _ => 0, g⟩ (fun r => (∀ c : Dev Cert.ModKvRefIdeal.nD,
      r.2.mem ((c.tc : Thread Cert.ModKvRefIdeal.nD Cert.ModKvRefIdeal.τ).loc Cert.ModKvRefIdeal.main_arg0) = m ((c.tc : Thread Cert.ModKvRefIdeal.nD Cert.ModKvRefIdeal.τ).loc Cert.ModKvRefIdeal.main_arg0)
      ∧ r.2.mem ((c.tc : Thread Cert.ModKvRefIdeal.nD Cert.ModKvRefIdeal.τ).loc Cert.ModKvRefIdeal.main_arg1) = m ((c.tc : Thread Cert.ModKvRefIdeal.nD Cert.ModKvRefIdeal.τ).loc Cert.ModKvRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_ProjAda [hProjAda : Cert.ProjAda.Facts] : Prop :=
  ∀ (m : (ℓ : Loc Cert.ProjAda.nD Cert.ProjAda.τ Cert.ProjAda.sig) → Buf (Elt Bits) ℓ) (g : Dev Cert.ProjAda.nD → PrngReg), Pre_ProjAda m →
    θ_run (Cert.ProjAda.defs (F := Bits)) (onTc (τ := Cert.ProjAda.τ) (Cert.ProjAda.main (F := Bits))) ⟨m, fun _ => 0, g⟩ (fun r => (∀ c : Dev Cert.ProjAda.nD,
      r.2.mem ((c.tc : Thread Cert.ProjAda.nD Cert.ProjAda.τ).loc Cert.ProjAda.main_arg0) = m ((c.tc : Thread Cert.ProjAda.nD Cert.ProjAda.τ).loc Cert.ProjAda.main_arg0)
      ∧ r.2.mem ((c.tc : Thread Cert.ProjAda.nD Cert.ProjAda.τ).loc Cert.ProjAda.main_arg1) = m ((c.tc : Thread Cert.ProjAda.nD Cert.ProjAda.τ).loc Cert.ProjAda.main_arg1))
      ∧ r.2.sem = fun _ => 0)

def quiescent_ProjAdaIdeal [hProjAdaIdeal : Cert.ProjAdaIdeal.Facts] : Prop :=
  ∀ (m : (ℓ : Loc Cert.ProjAdaIdeal.nD Cert.ProjAdaIdeal.τ Cert.ProjAdaIdeal.sig) → Buf (Elt Ideal) ℓ) (g : Dev Cert.ProjAdaIdeal.nD → PrngReg), Pre_ProjAdaIdeal m →
    θ_run (Cert.ProjAdaIdeal.defs (F := Ideal)) (onTc (τ := Cert.ProjAdaIdeal.τ) (Cert.ProjAdaIdeal.main (F := Ideal))) ⟨m, fun _ => 0, g⟩ (fun r => (∀ c : Dev Cert.ProjAdaIdeal.nD,
      r.2.mem ((c.tc : Thread Cert.ProjAdaIdeal.nD Cert.ProjAdaIdeal.τ).loc Cert.ProjAdaIdeal.main_arg0) = m ((c.tc : Thread Cert.ProjAdaIdeal.nD Cert.ProjAdaIdeal.τ).loc Cert.ProjAdaIdeal.main_arg0)
      ∧ r.2.mem ((c.tc : Thread Cert.ProjAdaIdeal.nD Cert.ProjAdaIdeal.τ).loc Cert.ProjAdaIdeal.main_arg1) = m ((c.tc : Thread Cert.ProjAdaIdeal.nD Cert.ProjAdaIdeal.τ).loc Cert.ProjAdaIdeal.main_arg1))
      ∧ r.2.sem = fun _ => 0)

def quiescent_ProjAdaRefIdeal [hProjAdaRefIdeal : Cert.ProjAdaRefIdeal.Facts] : Prop :=
  ∀ (m : (ℓ : Loc Cert.ProjAdaRefIdeal.nD Cert.ProjAdaRefIdeal.τ Cert.ProjAdaRefIdeal.sig) → Buf (Elt Ideal) ℓ) (g : Dev Cert.ProjAdaRefIdeal.nD → PrngReg), Pre_ProjAdaRefIdeal m →
    θ_run (Cert.ProjAdaRefIdeal.defs (F := Ideal)) (onTc (τ := Cert.ProjAdaRefIdeal.τ) (Cert.ProjAdaRefIdeal.main (F := Ideal))) ⟨m, fun _ => 0, g⟩ (fun r => (∀ c : Dev Cert.ProjAdaRefIdeal.nD,
      r.2.mem ((c.tc : Thread Cert.ProjAdaRefIdeal.nD Cert.ProjAdaRefIdeal.τ).loc Cert.ProjAdaRefIdeal.main_arg0) = m ((c.tc : Thread Cert.ProjAdaRefIdeal.nD Cert.ProjAdaRefIdeal.τ).loc Cert.ProjAdaRefIdeal.main_arg0)
      ∧ r.2.mem ((c.tc : Thread Cert.ProjAdaRefIdeal.nD Cert.ProjAdaRefIdeal.τ).loc Cert.ProjAdaRefIdeal.main_arg1) = m ((c.tc : Thread Cert.ProjAdaRefIdeal.nD Cert.ProjAdaRefIdeal.τ).loc Cert.ProjAdaRefIdeal.main_arg1))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ r.2.sem = fun _ => 0)

def quiescent_ProjKvRefIdeal [hProjKvRefIdeal : Cert.ProjKvRefIdeal.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1))
      ∧ r.2.sem = fun _ => 0)

def quiescent_MulIn [hMulIn : Cert.MulIn.Facts] : Prop :=
  ∀ (m : (ℓ : Loc Cert.MulIn.nD Cert.MulIn.τ Cert.MulIn.sig) → Buf (Elt Bits) ℓ) (g : Dev Cert.MulIn.nD → PrngReg), Pre_MulIn m →
    θ_run (Cert.MulIn.defs (F := Bits)) (onTc (τ := Cert.MulIn.τ) (Cert.MulIn.main (F := Bits))) ⟨m, fun _ => 0, g⟩ (fun r => (∀ c : Dev Cert.MulIn.nD,
      r.2.mem ((c.tc : Thread Cert.MulIn.nD Cert.MulIn.τ).loc Cert.MulIn.main_arg0) = m ((c.tc : Thread Cert.MulIn.nD Cert.MulIn.τ).loc Cert.MulIn.main_arg0)
      ∧ r.2.mem ((c.tc : Thread Cert.MulIn.nD Cert.MulIn.τ).loc Cert.MulIn.main_arg1) = m ((c.tc : Thread Cert.MulIn.nD Cert.MulIn.τ).loc Cert.MulIn.main_arg1))
      ∧ r.2.sem = fun _ => 0)

def quiescent_MulInIdeal [hMulInIdeal : Cert.MulInIdeal.Facts] : Prop :=
  ∀ (m : (ℓ : Loc Cert.MulInIdeal.nD Cert.MulInIdeal.τ Cert.MulInIdeal.sig) → Buf (Elt Ideal) ℓ) (g : Dev Cert.MulInIdeal.nD → PrngReg), Pre_MulInIdeal m →
    θ_run (Cert.MulInIdeal.defs (F := Ideal)) (onTc (τ := Cert.MulInIdeal.τ) (Cert.MulInIdeal.main (F := Ideal))) ⟨m, fun _ => 0, g⟩ (fun r => (∀ c : Dev Cert.MulInIdeal.nD,
      r.2.mem ((c.tc : Thread Cert.MulInIdeal.nD Cert.MulInIdeal.τ).loc Cert.MulInIdeal.main_arg0) = m ((c.tc : Thread Cert.MulInIdeal.nD Cert.MulInIdeal.τ).loc Cert.MulInIdeal.main_arg0)
      ∧ r.2.mem ((c.tc : Thread Cert.MulInIdeal.nD Cert.MulInIdeal.τ).loc Cert.MulInIdeal.main_arg1) = m ((c.tc : Thread Cert.MulInIdeal.nD Cert.MulInIdeal.τ).loc Cert.MulInIdeal.main_arg1))
      ∧ r.2.sem = fun _ => 0)

def quiescent_MulInRefIdeal [hMulInRefIdeal : Cert.MulInRefIdeal.Facts] : Prop :=
  ∀ (m : (ℓ : Loc Cert.MulInRefIdeal.nD Cert.MulInRefIdeal.τ Cert.MulInRefIdeal.sig) → Buf (Elt Ideal) ℓ) (g : Dev Cert.MulInRefIdeal.nD → PrngReg), Pre_MulInRefIdeal m →
    θ_run (Cert.MulInRefIdeal.defs (F := Ideal)) (onTc (τ := Cert.MulInRefIdeal.τ) (Cert.MulInRefIdeal.main (F := Ideal))) ⟨m, fun _ => 0, g⟩ (fun r => (∀ c : Dev Cert.MulInRefIdeal.nD,
      r.2.mem ((c.tc : Thread Cert.MulInRefIdeal.nD Cert.MulInRefIdeal.τ).loc Cert.MulInRefIdeal.main_arg0) = m ((c.tc : Thread Cert.MulInRefIdeal.nD Cert.MulInRefIdeal.τ).loc Cert.MulInRefIdeal.main_arg0)
      ∧ r.2.mem ((c.tc : Thread Cert.MulInRefIdeal.nD Cert.MulInRefIdeal.τ).loc Cert.MulInRefIdeal.main_arg1) = m ((c.tc : Thread Cert.MulInRefIdeal.nD Cert.MulInRefIdeal.τ).loc Cert.MulInRefIdeal.main_arg1))
      ∧ r.2.sem = fun _ => 0)

def quiescent_MulQuery [hMulQuery : Cert.MulQuery.Facts] : Prop :=
  ∀ (m : (ℓ : Loc Cert.MulQuery.nD Cert.MulQuery.τ Cert.MulQuery.sig) → Buf (Elt Bits) ℓ) (g : Dev Cert.MulQuery.nD → PrngReg), Pre_MulQuery m →
    θ_run (Cert.MulQuery.defs (F := Bits)) (onTc (τ := Cert.MulQuery.τ) (Cert.MulQuery.main (F := Bits))) ⟨m, fun _ => 0, g⟩ (fun r => (∀ c : Dev Cert.MulQuery.nD,
      r.2.mem ((c.tc : Thread Cert.MulQuery.nD Cert.MulQuery.τ).loc Cert.MulQuery.main_arg0) = m ((c.tc : Thread Cert.MulQuery.nD Cert.MulQuery.τ).loc Cert.MulQuery.main_arg0)
      ∧ r.2.mem ((c.tc : Thread Cert.MulQuery.nD Cert.MulQuery.τ).loc Cert.MulQuery.main_arg1) = m ((c.tc : Thread Cert.MulQuery.nD Cert.MulQuery.τ).loc Cert.MulQuery.main_arg1))
      ∧ r.2.sem = fun _ => 0)

def quiescent_MulQueryIdeal [hMulQueryIdeal : Cert.MulQueryIdeal.Facts] : Prop :=
  ∀ (m : (ℓ : Loc Cert.MulQueryIdeal.nD Cert.MulQueryIdeal.τ Cert.MulQueryIdeal.sig) → Buf (Elt Ideal) ℓ) (g : Dev Cert.MulQueryIdeal.nD → PrngReg), Pre_MulQueryIdeal m →
    θ_run (Cert.MulQueryIdeal.defs (F := Ideal)) (onTc (τ := Cert.MulQueryIdeal.τ) (Cert.MulQueryIdeal.main (F := Ideal))) ⟨m, fun _ => 0, g⟩ (fun r => (∀ c : Dev Cert.MulQueryIdeal.nD,
      r.2.mem ((c.tc : Thread Cert.MulQueryIdeal.nD Cert.MulQueryIdeal.τ).loc Cert.MulQueryIdeal.main_arg0) = m ((c.tc : Thread Cert.MulQueryIdeal.nD Cert.MulQueryIdeal.τ).loc Cert.MulQueryIdeal.main_arg0)
      ∧ r.2.mem ((c.tc : Thread Cert.MulQueryIdeal.nD Cert.MulQueryIdeal.τ).loc Cert.MulQueryIdeal.main_arg1) = m ((c.tc : Thread Cert.MulQueryIdeal.nD Cert.MulQueryIdeal.τ).loc Cert.MulQueryIdeal.main_arg1))
      ∧ r.2.sem = fun _ => 0)

def quiescent_MulQueryRefIdeal [hMulQueryRefIdeal : Cert.MulQueryRefIdeal.Facts] : Prop :=
  ∀ (m : (ℓ : Loc Cert.MulQueryRefIdeal.nD Cert.MulQueryRefIdeal.τ Cert.MulQueryRefIdeal.sig) → Buf (Elt Ideal) ℓ) (g : Dev Cert.MulQueryRefIdeal.nD → PrngReg), Pre_MulQueryRefIdeal m →
    θ_run (Cert.MulQueryRefIdeal.defs (F := Ideal)) (onTc (τ := Cert.MulQueryRefIdeal.τ) (Cert.MulQueryRefIdeal.main (F := Ideal))) ⟨m, fun _ => 0, g⟩ (fun r => (∀ c : Dev Cert.MulQueryRefIdeal.nD,
      r.2.mem ((c.tc : Thread Cert.MulQueryRefIdeal.nD Cert.MulQueryRefIdeal.τ).loc Cert.MulQueryRefIdeal.main_arg0) = m ((c.tc : Thread Cert.MulQueryRefIdeal.nD Cert.MulQueryRefIdeal.τ).loc Cert.MulQueryRefIdeal.main_arg0)
      ∧ r.2.mem ((c.tc : Thread Cert.MulQueryRefIdeal.nD Cert.MulQueryRefIdeal.τ).loc Cert.MulQueryRefIdeal.main_arg1) = m ((c.tc : Thread Cert.MulQueryRefIdeal.nD Cert.MulQueryRefIdeal.τ).loc Cert.MulQueryRefIdeal.main_arg1))
      ∧ r.2.sem = fun _ => 0)

def quiescent_MulKv [hMulKv : Cert.MulKv.Facts] : Prop :=
  ∀ (m : (ℓ : Loc Cert.MulKv.nD Cert.MulKv.τ Cert.MulKv.sig) → Buf (Elt Bits) ℓ) (g : Dev Cert.MulKv.nD → PrngReg), Pre_MulKv m →
    θ_run (Cert.MulKv.defs (F := Bits)) (onTc (τ := Cert.MulKv.τ) (Cert.MulKv.main (F := Bits))) ⟨m, fun _ => 0, g⟩ (fun r => (∀ c : Dev Cert.MulKv.nD,
      r.2.mem ((c.tc : Thread Cert.MulKv.nD Cert.MulKv.τ).loc Cert.MulKv.main_arg0) = m ((c.tc : Thread Cert.MulKv.nD Cert.MulKv.τ).loc Cert.MulKv.main_arg0)
      ∧ r.2.mem ((c.tc : Thread Cert.MulKv.nD Cert.MulKv.τ).loc Cert.MulKv.main_arg1) = m ((c.tc : Thread Cert.MulKv.nD Cert.MulKv.τ).loc Cert.MulKv.main_arg1))
      ∧ r.2.sem = fun _ => 0)

def quiescent_MulKvIdeal [hMulKvIdeal : Cert.MulKvIdeal.Facts] : Prop :=
  ∀ (m : (ℓ : Loc Cert.MulKvIdeal.nD Cert.MulKvIdeal.τ Cert.MulKvIdeal.sig) → Buf (Elt Ideal) ℓ) (g : Dev Cert.MulKvIdeal.nD → PrngReg), Pre_MulKvIdeal m →
    θ_run (Cert.MulKvIdeal.defs (F := Ideal)) (onTc (τ := Cert.MulKvIdeal.τ) (Cert.MulKvIdeal.main (F := Ideal))) ⟨m, fun _ => 0, g⟩ (fun r => (∀ c : Dev Cert.MulKvIdeal.nD,
      r.2.mem ((c.tc : Thread Cert.MulKvIdeal.nD Cert.MulKvIdeal.τ).loc Cert.MulKvIdeal.main_arg0) = m ((c.tc : Thread Cert.MulKvIdeal.nD Cert.MulKvIdeal.τ).loc Cert.MulKvIdeal.main_arg0)
      ∧ r.2.mem ((c.tc : Thread Cert.MulKvIdeal.nD Cert.MulKvIdeal.τ).loc Cert.MulKvIdeal.main_arg1) = m ((c.tc : Thread Cert.MulKvIdeal.nD Cert.MulKvIdeal.τ).loc Cert.MulKvIdeal.main_arg1))
      ∧ r.2.sem = fun _ => 0)

def quiescent_MulKvRefIdeal [hMulKvRefIdeal : Cert.MulKvRefIdeal.Facts] : Prop :=
  ∀ (m : (ℓ : Loc Cert.MulKvRefIdeal.nD Cert.MulKvRefIdeal.τ Cert.MulKvRefIdeal.sig) → Buf (Elt Ideal) ℓ) (g : Dev Cert.MulKvRefIdeal.nD → PrngReg), Pre_MulKvRefIdeal m →
    θ_run (Cert.MulKvRefIdeal.defs (F := Ideal)) (onTc (τ := Cert.MulKvRefIdeal.τ) (Cert.MulKvRefIdeal.main (F := Ideal))) ⟨m, fun _ => 0, g⟩ (fun r => (∀ c : Dev Cert.MulKvRefIdeal.nD,
      r.2.mem ((c.tc : Thread Cert.MulKvRefIdeal.nD Cert.MulKvRefIdeal.τ).loc Cert.MulKvRefIdeal.main_arg0) = m ((c.tc : Thread Cert.MulKvRefIdeal.nD Cert.MulKvRefIdeal.τ).loc Cert.MulKvRefIdeal.main_arg0)
      ∧ r.2.mem ((c.tc : Thread Cert.MulKvRefIdeal.nD Cert.MulKvRefIdeal.τ).loc Cert.MulKvRefIdeal.main_arg1) = m ((c.tc : Thread Cert.MulKvRefIdeal.nD Cert.MulKvRefIdeal.τ).loc Cert.MulKvRefIdeal.main_arg1))
      ∧ r.2.sem = fun _ => 0)

def quiescent_MulUp [hMulUp : Cert.MulUp.Facts] : Prop :=
  ∀ (m : (ℓ : Loc Cert.MulUp.nD Cert.MulUp.τ Cert.MulUp.sig) → Buf (Elt Bits) ℓ) (g : Dev Cert.MulUp.nD → PrngReg), Pre_MulUp m →
    θ_run (Cert.MulUp.defs (F := Bits)) (onTc (τ := Cert.MulUp.τ) (Cert.MulUp.main (F := Bits))) ⟨m, fun _ => 0, g⟩ (fun r => (∀ c : Dev Cert.MulUp.nD,
      r.2.mem ((c.tc : Thread Cert.MulUp.nD Cert.MulUp.τ).loc Cert.MulUp.main_arg0) = m ((c.tc : Thread Cert.MulUp.nD Cert.MulUp.τ).loc Cert.MulUp.main_arg0)
      ∧ r.2.mem ((c.tc : Thread Cert.MulUp.nD Cert.MulUp.τ).loc Cert.MulUp.main_arg1) = m ((c.tc : Thread Cert.MulUp.nD Cert.MulUp.τ).loc Cert.MulUp.main_arg1))
      ∧ r.2.sem = fun _ => 0)

def quiescent_MulUpIdeal [hMulUpIdeal : Cert.MulUpIdeal.Facts] : Prop :=
  ∀ (m : (ℓ : Loc Cert.MulUpIdeal.nD Cert.MulUpIdeal.τ Cert.MulUpIdeal.sig) → Buf (Elt Ideal) ℓ) (g : Dev Cert.MulUpIdeal.nD → PrngReg), Pre_MulUpIdeal m →
    θ_run (Cert.MulUpIdeal.defs (F := Ideal)) (onTc (τ := Cert.MulUpIdeal.τ) (Cert.MulUpIdeal.main (F := Ideal))) ⟨m, fun _ => 0, g⟩ (fun r => (∀ c : Dev Cert.MulUpIdeal.nD,
      r.2.mem ((c.tc : Thread Cert.MulUpIdeal.nD Cert.MulUpIdeal.τ).loc Cert.MulUpIdeal.main_arg0) = m ((c.tc : Thread Cert.MulUpIdeal.nD Cert.MulUpIdeal.τ).loc Cert.MulUpIdeal.main_arg0)
      ∧ r.2.mem ((c.tc : Thread Cert.MulUpIdeal.nD Cert.MulUpIdeal.τ).loc Cert.MulUpIdeal.main_arg1) = m ((c.tc : Thread Cert.MulUpIdeal.nD Cert.MulUpIdeal.τ).loc Cert.MulUpIdeal.main_arg1))
      ∧ r.2.sem = fun _ => 0)

def quiescent_MulUpRefIdeal [hMulUpRefIdeal : Cert.MulUpRefIdeal.Facts] : Prop :=
  ∀ (m : (ℓ : Loc Cert.MulUpRefIdeal.nD Cert.MulUpRefIdeal.τ Cert.MulUpRefIdeal.sig) → Buf (Elt Ideal) ℓ) (g : Dev Cert.MulUpRefIdeal.nD → PrngReg), Pre_MulUpRefIdeal m →
    θ_run (Cert.MulUpRefIdeal.defs (F := Ideal)) (onTc (τ := Cert.MulUpRefIdeal.τ) (Cert.MulUpRefIdeal.main (F := Ideal))) ⟨m, fun _ => 0, g⟩ (fun r => (∀ c : Dev Cert.MulUpRefIdeal.nD,
      r.2.mem ((c.tc : Thread Cert.MulUpRefIdeal.nD Cert.MulUpRefIdeal.τ).loc Cert.MulUpRefIdeal.main_arg0) = m ((c.tc : Thread Cert.MulUpRefIdeal.nD Cert.MulUpRefIdeal.τ).loc Cert.MulUpRefIdeal.main_arg0)
      ∧ r.2.mem ((c.tc : Thread Cert.MulUpRefIdeal.nD Cert.MulUpRefIdeal.τ).loc Cert.MulUpRefIdeal.main_arg1) = m ((c.tc : Thread Cert.MulUpRefIdeal.nD Cert.MulUpRefIdeal.τ).loc Cert.MulUpRefIdeal.main_arg1))
      ∧ r.2.sem = fun _ => 0)

def quiescent_DxIn [hDxIn : Cert.DxIn.Facts] : Prop :=
  ∀ (m : (ℓ : Loc Cert.DxIn.nD Cert.DxIn.τ Cert.DxIn.sig) → Buf (Elt Bits) ℓ) (g : Dev Cert.DxIn.nD → PrngReg), Pre_DxIn m →
    θ_run (Cert.DxIn.defs (F := Bits)) (onTc (τ := Cert.DxIn.τ) (Cert.DxIn.main (F := Bits))) ⟨m, fun _ => 0, g⟩ (fun r => (∀ c : Dev Cert.DxIn.nD,
      r.2.mem ((c.tc : Thread Cert.DxIn.nD Cert.DxIn.τ).loc Cert.DxIn.main_arg0) = m ((c.tc : Thread Cert.DxIn.nD Cert.DxIn.τ).loc Cert.DxIn.main_arg0)
      ∧ r.2.mem ((c.tc : Thread Cert.DxIn.nD Cert.DxIn.τ).loc Cert.DxIn.main_arg1) = m ((c.tc : Thread Cert.DxIn.nD Cert.DxIn.τ).loc Cert.DxIn.main_arg1))
      ∧ r.2.sem = fun _ => 0)

def quiescent_DxInIdeal [hDxInIdeal : Cert.DxInIdeal.Facts] : Prop :=
  ∀ (m : (ℓ : Loc Cert.DxInIdeal.nD Cert.DxInIdeal.τ Cert.DxInIdeal.sig) → Buf (Elt Ideal) ℓ) (g : Dev Cert.DxInIdeal.nD → PrngReg), Pre_DxInIdeal m →
    θ_run (Cert.DxInIdeal.defs (F := Ideal)) (onTc (τ := Cert.DxInIdeal.τ) (Cert.DxInIdeal.main (F := Ideal))) ⟨m, fun _ => 0, g⟩ (fun r => (∀ c : Dev Cert.DxInIdeal.nD,
      r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
      ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1))
      ∧ r.2.sem = fun _ => 0)

def quiescent_DxInRefIdeal [hDxInRefIdeal : Cert.DxInRefIdeal.Facts] : Prop :=
  ∀ (m : (ℓ : Loc Cert.DxInRefIdeal.nD Cert.DxInRefIdeal.τ Cert.DxInRefIdeal.sig) → Buf (Elt Ideal) ℓ) (g : Dev Cert.DxInRefIdeal.nD → PrngReg), Pre_DxInRefIdeal m →
    θ_run (Cert.DxInRefIdeal.defs (F := Ideal)) (onTc (τ := Cert.DxInRefIdeal.τ) (Cert.DxInRefIdeal.main (F := Ideal))) ⟨m, fun _ => 0, g⟩ (fun r => (∀ c : Dev Cert.DxInRefIdeal.nD,
      r.2.mem ((c.tc : Thread Cert.DxInRefIdeal.nD Cert.DxInRefIdeal.τ).loc Cert.DxInRefIdeal.main_arg0) = m ((c.tc : Thread Cert.DxInRefIdeal.nD Cert.DxInRefIdeal.τ).loc Cert.DxInRefIdeal.main_arg0)
      ∧ r.2.mem ((c.tc : Thread Cert.DxInRefIdeal.nD Cert.DxInRefIdeal.τ).loc Cert.DxInRefIdeal.main_arg1) = m ((c.tc : Thread Cert.DxInRefIdeal.nD Cert.DxInRefIdeal.τ).loc Cert.DxInRefIdeal.main_arg1))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ r.2.sem = fun _ => 0)

def quiescent_DxOutRefIdeal [hDxOutRefIdeal : Cert.DxOutRefIdeal.Facts] : Prop :=
  ∀ (m : (ℓ : Loc Cert.DxOutRefIdeal.nD Cert.DxOutRefIdeal.τ Cert.DxOutRefIdeal.sig) → Buf (Elt Ideal) ℓ) (g : Dev Cert.DxOutRefIdeal.nD → PrngReg), Pre_DxOutRefIdeal m →
    θ_run (Cert.DxOutRefIdeal.defs (F := Ideal)) (onTc (τ := Cert.DxOutRefIdeal.τ) (Cert.DxOutRefIdeal.main (F := Ideal))) ⟨m, fun _ => 0, g⟩ (fun r => (∀ c : Dev Cert.DxOutRefIdeal.nD,
      r.2.mem ((c.tc : Thread Cert.DxOutRefIdeal.nD Cert.DxOutRefIdeal.τ).loc Cert.DxOutRefIdeal.main_arg0) = m ((c.tc : Thread Cert.DxOutRefIdeal.nD Cert.DxOutRefIdeal.τ).loc Cert.DxOutRefIdeal.main_arg0)
      ∧ r.2.mem ((c.tc : Thread Cert.DxOutRefIdeal.nD Cert.DxOutRefIdeal.τ).loc Cert.DxOutRefIdeal.main_arg1) = m ((c.tc : Thread Cert.DxOutRefIdeal.nD Cert.DxOutRefIdeal.τ).loc Cert.DxOutRefIdeal.main_arg1))
      ∧ r.2.sem = fun _ => 0)

def quiescent_DxDown [hDxDown : Cert.DxDown.Facts] : Prop :=
  ∀ (m : (ℓ : Loc Cert.DxDown.nD Cert.DxDown.τ Cert.DxDown.sig) → Buf (Elt Bits) ℓ) (g : Dev Cert.DxDown.nD → PrngReg), Pre_DxDown m →
    θ_run (Cert.DxDown.defs (F := Bits)) (onTc (τ := Cert.DxDown.τ) (Cert.DxDown.main (F := Bits))) ⟨m, fun _ => 0, g⟩ (fun r => (∀ c : Dev Cert.DxDown.nD,
      r.2.mem ((c.tc : Thread Cert.DxDown.nD Cert.DxDown.τ).loc Cert.DxDown.main_arg0) = m ((c.tc : Thread Cert.DxDown.nD Cert.DxDown.τ).loc Cert.DxDown.main_arg0)
      ∧ r.2.mem ((c.tc : Thread Cert.DxDown.nD Cert.DxDown.τ).loc Cert.DxDown.main_arg1) = m ((c.tc : Thread Cert.DxDown.nD Cert.DxDown.τ).loc Cert.DxDown.main_arg1))
      ∧ r.2.sem = fun _ => 0)

def quiescent_DxDownIdeal [hDxDownIdeal : Cert.DxDownIdeal.Facts] : Prop :=
  ∀ (m : (ℓ : Loc Cert.DxDownIdeal.nD Cert.DxDownIdeal.τ Cert.DxDownIdeal.sig) → Buf (Elt Ideal) ℓ) (g : Dev Cert.DxDownIdeal.nD → PrngReg), Pre_DxDownIdeal m →
    θ_run (Cert.DxDownIdeal.defs (F := Ideal)) (onTc (τ := Cert.DxDownIdeal.τ) (Cert.DxDownIdeal.main (F := Ideal))) ⟨m, fun _ => 0, g⟩ (fun r => (∀ c : Dev Cert.DxDownIdeal.nD,
      r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
      ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ r.2.sem = fun _ => 0)

def quiescent_DxDownRefIdeal [hDxDownRefIdeal : Cert.DxDownRefIdeal.Facts] : Prop :=
  ∀ (m : (ℓ : Loc Cert.DxDownRefIdeal.nD Cert.DxDownRefIdeal.τ Cert.DxDownRefIdeal.sig) → Buf (Elt Ideal) ℓ) (g : Dev Cert.DxDownRefIdeal.nD → PrngReg), Pre_DxDownRefIdeal m →
    θ_run (Cert.DxDownRefIdeal.defs (F := Ideal)) (onTc (τ := Cert.DxDownRefIdeal.τ) (Cert.DxDownRefIdeal.main (F := Ideal))) ⟨m, fun _ => 0, g⟩ (fun r => (∀ c : Dev Cert.DxDownRefIdeal.nD,
      r.2.mem ((c.tc : Thread Cert.DxDownRefIdeal.nD Cert.DxDownRefIdeal.τ).loc Cert.DxDownRefIdeal.main_arg0) = m ((c.tc : Thread Cert.DxDownRefIdeal.nD Cert.DxDownRefIdeal.τ).loc Cert.DxDownRefIdeal.main_arg0)
      ∧ r.2.mem ((c.tc : Thread Cert.DxDownRefIdeal.nD Cert.DxDownRefIdeal.τ).loc Cert.DxDownRefIdeal.main_arg1) = m ((c.tc : Thread Cert.DxDownRefIdeal.nD Cert.DxDownRefIdeal.τ).loc Cert.DxDownRefIdeal.main_arg1))
      ∧ r.2.sem = fun _ => 0)

def quiescent_DxQuery [hDxQuery : Cert.DxQuery.Facts] : Prop :=
  ∀ (m : (ℓ : Loc Cert.DxQuery.nD Cert.DxQuery.τ Cert.DxQuery.sig) → Buf (Elt Bits) ℓ) (g : Dev Cert.DxQuery.nD → PrngReg), Pre_DxQuery m →
    θ_run (Cert.DxQuery.defs (F := Bits)) (onTc (τ := Cert.DxQuery.τ) (Cert.DxQuery.main (F := Bits))) ⟨m, fun _ => 0, g⟩ (fun r => (∀ c : Dev Cert.DxQuery.nD,
      r.2.mem ((c.tc : Thread Cert.DxQuery.nD Cert.DxQuery.τ).loc Cert.DxQuery.main_arg0) = m ((c.tc : Thread Cert.DxQuery.nD Cert.DxQuery.τ).loc Cert.DxQuery.main_arg0)
      ∧ r.2.mem ((c.tc : Thread Cert.DxQuery.nD Cert.DxQuery.τ).loc Cert.DxQuery.main_arg1) = m ((c.tc : Thread Cert.DxQuery.nD Cert.DxQuery.τ).loc Cert.DxQuery.main_arg1))
      ∧ r.2.sem = fun _ => 0)

def quiescent_DxQueryIdeal [hDxQueryIdeal : Cert.DxQueryIdeal.Facts] : Prop :=
  ∀ (m : (ℓ : Loc Cert.DxQueryIdeal.nD Cert.DxQueryIdeal.τ Cert.DxQueryIdeal.sig) → Buf (Elt Ideal) ℓ) (g : Dev Cert.DxQueryIdeal.nD → PrngReg), Pre_DxQueryIdeal m →
    θ_run (Cert.DxQueryIdeal.defs (F := Ideal)) (onTc (τ := Cert.DxQueryIdeal.τ) (Cert.DxQueryIdeal.main (F := Ideal))) ⟨m, fun _ => 0, g⟩ (fun r => (∀ c : Dev Cert.DxQueryIdeal.nD,
      r.2.mem ((c.tc : Thread Cert.DxQueryIdeal.nD Cert.DxQueryIdeal.τ).loc Cert.DxQueryIdeal.main_arg0) = m ((c.tc : Thread Cert.DxQueryIdeal.nD Cert.DxQueryIdeal.τ).loc Cert.DxQueryIdeal.main_arg0)
      ∧ r.2.mem ((c.tc : Thread Cert.DxQueryIdeal.nD Cert.DxQueryIdeal.τ).loc Cert.DxQueryIdeal.main_arg1) = m ((c.tc : Thread Cert.DxQueryIdeal.nD Cert.DxQueryIdeal.τ).loc Cert.DxQueryIdeal.main_arg1))
      ∧ r.2.sem = fun _ => 0)

def quiescent_DxQueryRefIdeal [hDxQueryRefIdeal : Cert.DxQueryRefIdeal.Facts] : Prop :=
  ∀ (m : (ℓ : Loc Cert.DxQueryRefIdeal.nD Cert.DxQueryRefIdeal.τ Cert.DxQueryRefIdeal.sig) → Buf (Elt Ideal) ℓ) (g : Dev Cert.DxQueryRefIdeal.nD → PrngReg), Pre_DxQueryRefIdeal m →
    θ_run (Cert.DxQueryRefIdeal.defs (F := Ideal)) (onTc (τ := Cert.DxQueryRefIdeal.τ) (Cert.DxQueryRefIdeal.main (F := Ideal))) ⟨m, fun _ => 0, g⟩ (fun r => (∀ c : Dev Cert.DxQueryRefIdeal.nD,
      r.2.mem ((c.tc : Thread Cert.DxQueryRefIdeal.nD Cert.DxQueryRefIdeal.τ).loc Cert.DxQueryRefIdeal.main_arg0) = m ((c.tc : Thread Cert.DxQueryRefIdeal.nD Cert.DxQueryRefIdeal.τ).loc Cert.DxQueryRefIdeal.main_arg0)
      ∧ r.2.mem ((c.tc : Thread Cert.DxQueryRefIdeal.nD Cert.DxQueryRefIdeal.τ).loc Cert.DxQueryRefIdeal.main_arg1) = m ((c.tc : Thread Cert.DxQueryRefIdeal.nD Cert.DxQueryRefIdeal.τ).loc Cert.DxQueryRefIdeal.main_arg1))
      ∧ r.2.sem = fun _ => 0)

def quiescent_DxKv [hDxKv : Cert.DxKv.Facts] : Prop :=
  ∀ (m : (ℓ : Loc Cert.DxKv.nD Cert.DxKv.τ Cert.DxKv.sig) → Buf (Elt Bits) ℓ) (g : Dev Cert.DxKv.nD → PrngReg), Pre_DxKv m →
    θ_run (Cert.DxKv.defs (F := Bits)) (onTc (τ := Cert.DxKv.τ) (Cert.DxKv.main (F := Bits))) ⟨m, fun _ => 0, g⟩ (fun r => (∀ c : Dev Cert.DxKv.nD,
      r.2.mem ((c.tc : Thread Cert.DxKv.nD Cert.DxKv.τ).loc Cert.DxKv.main_arg0) = m ((c.tc : Thread Cert.DxKv.nD Cert.DxKv.τ).loc Cert.DxKv.main_arg0)
      ∧ r.2.mem ((c.tc : Thread Cert.DxKv.nD Cert.DxKv.τ).loc Cert.DxKv.main_arg1) = m ((c.tc : Thread Cert.DxKv.nD Cert.DxKv.τ).loc Cert.DxKv.main_arg1))
      ∧ r.2.sem = fun _ => 0)

def quiescent_DxKvIdeal [hDxKvIdeal : Cert.DxKvIdeal.Facts] : Prop :=
  ∀ (m : (ℓ : Loc Cert.DxKvIdeal.nD Cert.DxKvIdeal.τ Cert.DxKvIdeal.sig) → Buf (Elt Ideal) ℓ) (g : Dev Cert.DxKvIdeal.nD → PrngReg), Pre_DxKvIdeal m →
    θ_run (Cert.DxKvIdeal.defs (F := Ideal)) (onTc (τ := Cert.DxKvIdeal.τ) (Cert.DxKvIdeal.main (F := Ideal))) ⟨m, fun _ => 0, g⟩ (fun r => (∀ c : Dev Cert.DxKvIdeal.nD,
      r.2.mem ((c.tc : Thread Cert.DxKvIdeal.nD Cert.DxKvIdeal.τ).loc Cert.DxKvIdeal.main_arg0) = m ((c.tc : Thread Cert.DxKvIdeal.nD Cert.DxKvIdeal.τ).loc Cert.DxKvIdeal.main_arg0)
      ∧ r.2.mem ((c.tc : Thread Cert.DxKvIdeal.nD Cert.DxKvIdeal.τ).loc Cert.DxKvIdeal.main_arg1) = m ((c.tc : Thread Cert.DxKvIdeal.nD Cert.DxKvIdeal.τ).loc Cert.DxKvIdeal.main_arg1))
      ∧ r.2.sem = fun _ => 0)

def quiescent_DxKvRefIdeal [hDxKvRefIdeal : Cert.DxKvRefIdeal.Facts] : Prop :=
  ∀ (m : (ℓ : Loc Cert.DxKvRefIdeal.nD Cert.DxKvRefIdeal.τ Cert.DxKvRefIdeal.sig) → Buf (Elt Ideal) ℓ) (g : Dev Cert.DxKvRefIdeal.nD → PrngReg), Pre_DxKvRefIdeal m →
    θ_run (Cert.DxKvRefIdeal.defs (F := Ideal)) (onTc (τ := Cert.DxKvRefIdeal.τ) (Cert.DxKvRefIdeal.main (F := Ideal))) ⟨m, fun _ => 0, g⟩ (fun r => (∀ c : Dev Cert.DxKvRefIdeal.nD,
      r.2.mem ((c.tc : Thread Cert.DxKvRefIdeal.nD Cert.DxKvRefIdeal.τ).loc Cert.DxKvRefIdeal.main_arg0) = m ((c.tc : Thread Cert.DxKvRefIdeal.nD Cert.DxKvRefIdeal.τ).loc Cert.DxKvRefIdeal.main_arg0)
      ∧ r.2.mem ((c.tc : Thread Cert.DxKvRefIdeal.nD Cert.DxKvRefIdeal.τ).loc Cert.DxKvRefIdeal.main_arg1) = m ((c.tc : Thread Cert.DxKvRefIdeal.nD Cert.DxKvRefIdeal.τ).loc Cert.DxKvRefIdeal.main_arg1))
      ∧ r.2.sem = fun _ => 0)

def quiescent_DxUp [hDxUp : Cert.DxUp.Facts] : Prop :=
  ∀ (m : (ℓ : Loc Cert.DxUp.nD Cert.DxUp.τ Cert.DxUp.sig) → Buf (Elt Bits) ℓ) (g : Dev Cert.DxUp.nD → PrngReg), Pre_DxUp m →
    θ_run (Cert.DxUp.defs (F := Bits)) (onTc (τ := Cert.DxUp.τ) (Cert.DxUp.main (F := Bits))) ⟨m, fun _ => 0, g⟩ (fun r => (∀ c : Dev Cert.DxUp.nD,
      r.2.mem ((c.tc : Thread Cert.DxUp.nD Cert.DxUp.τ).loc Cert.DxUp.main_arg0) = m ((c.tc : Thread Cert.DxUp.nD Cert.DxUp.τ).loc Cert.DxUp.main_arg0)
      ∧ r.2.mem ((c.tc : Thread Cert.DxUp.nD Cert.DxUp.τ).loc Cert.DxUp.main_arg1) = m ((c.tc : Thread Cert.DxUp.nD Cert.DxUp.τ).loc Cert.DxUp.main_arg1))
      ∧ r.2.sem = fun _ => 0)

def quiescent_DxUpIdeal [hDxUpIdeal : Cert.DxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1))
      ∧ r.2.sem = fun _ => 0)

def quiescent_DxUpRefIdeal [hDxUpRefIdeal : Cert.DxUpRefIdeal.Facts] : Prop :=
  ∀ (m : (ℓ : Loc Cert.DxUpRefIdeal.nD Cert.DxUpRefIdeal.τ Cert.DxUpRefIdeal.sig) → Buf (Elt Ideal) ℓ) (g : Dev Cert.DxUpRefIdeal.nD → PrngReg), Pre_DxUpRefIdeal m →
    θ_run (Cert.DxUpRefIdeal.defs (F := Ideal)) (onTc (τ := Cert.DxUpRefIdeal.τ) (Cert.DxUpRefIdeal.main (F := Ideal))) ⟨m, fun _ => 0, g⟩ (fun r => (∀ c : Dev Cert.DxUpRefIdeal.nD,
      r.2.mem ((c.tc : Thread Cert.DxUpRefIdeal.nD Cert.DxUpRefIdeal.τ).loc Cert.DxUpRefIdeal.main_arg0) = m ((c.tc : Thread Cert.DxUpRefIdeal.nD Cert.DxUpRefIdeal.τ).loc Cert.DxUpRefIdeal.main_arg0)
      ∧ r.2.mem ((c.tc : Thread Cert.DxUpRefIdeal.nD Cert.DxUpRefIdeal.τ).loc Cert.DxUpRefIdeal.main_arg1) = m ((c.tc : Thread Cert.DxUpRefIdeal.nD Cert.DxUpRefIdeal.τ).loc Cert.DxUpRefIdeal.main_arg1))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareRefIdeal [hDwSquareRefIdeal : Cert.DwSquareRefIdeal.Facts] : Prop :=
  ∀ (m : (ℓ : Loc Cert.DwSquareRefIdeal.nD Cert.DwSquareRefIdeal.τ Cert.DwSquareRefIdeal.sig) → Buf (Elt Ideal) ℓ) (g : Dev Cert.DwSquareRefIdeal.nD → PrngReg), Pre_DwSquareRefIdeal m →
    θ_run (Cert.DwSquareRefIdeal.defs (F := Ideal)) (onTc (τ := Cert.DwSquareRefIdeal.τ) (Cert.DwSquareRefIdeal.main (F := Ideal))) ⟨m, fun _ => 0, g⟩ (fun r => (∀ c : Dev Cert.DwSquareRefIdeal.nD,
      r.2.mem ((c.tc : Thread Cert.DwSquareRefIdeal.nD Cert.DwSquareRefIdeal.τ).loc Cert.DwSquareRefIdeal.main_arg0) = m ((c.tc : Thread Cert.DwSquareRefIdeal.nD Cert.DwSquareRefIdeal.τ).loc Cert.DwSquareRefIdeal.main_arg0)
      ∧ r.2.mem ((c.tc : Thread Cert.DwSquareRefIdeal.nD Cert.DwSquareRefIdeal.τ).loc Cert.DwSquareRefIdeal.main_arg1) = m ((c.tc : Thread Cert.DwSquareRefIdeal.nD Cert.DwSquareRefIdeal.τ).loc Cert.DwSquareRefIdeal.main_arg1))
      ∧ r.2.sem = fun _ => 0)

def quiescent_DwQuery [hDwQuery : Cert.DwQuery.Facts] : Prop :=
  ∀ (m : (ℓ : Loc Cert.DwQuery.nD Cert.DwQuery.τ Cert.DwQuery.sig) → Buf (Elt Bits) ℓ) (g : Dev Cert.DwQuery.nD → PrngReg), Pre_DwQuery m →
    θ_run (Cert.DwQuery.defs (F := Bits)) (onTc (τ := Cert.DwQuery.τ) (Cert.DwQuery.main (F := Bits))) ⟨m, fun _ => 0, g⟩ (fun r => (∀ c : Dev Cert.DwQuery.nD,
      r.2.mem ((c.tc : Thread Cert.DwQuery.nD Cert.DwQuery.τ).loc Cert.DwQuery.main_arg0) = m ((c.tc : Thread Cert.DwQuery.nD Cert.DwQuery.τ).loc Cert.DwQuery.main_arg0)
      ∧ r.2.mem ((c.tc : Thread Cert.DwQuery.nD Cert.DwQuery.τ).loc Cert.DwQuery.main_arg1) = m ((c.tc : Thread Cert.DwQuery.nD Cert.DwQuery.τ).loc Cert.DwQuery.main_arg1))
      ∧ r.2.sem = fun _ => 0)

def quiescent_DwQueryIdeal [hDwQueryIdeal : Cert.DwQueryIdeal.Facts] : Prop :=
  ∀ (m : (ℓ : Loc Cert.DwQueryIdeal.nD Cert.DwQueryIdeal.τ Cert.DwQueryIdeal.sig) → Buf (Elt Ideal) ℓ) (g : Dev Cert.DwQueryIdeal.nD → PrngReg), Pre_DwQueryIdeal m →
    θ_run (Cert.DwQueryIdeal.defs (F := Ideal)) (onTc (τ := Cert.DwQueryIdeal.τ) (Cert.DwQueryIdeal.main (F := Ideal))) ⟨m, fun _ => 0, g⟩ (fun r => (∀ c : Dev Cert.DwQueryIdeal.nD,
      r.2.mem ((c.tc : Thread Cert.DwQueryIdeal.nD Cert.DwQueryIdeal.τ).loc Cert.DwQueryIdeal.main_arg0) = m ((c.tc : Thread Cert.DwQueryIdeal.nD Cert.DwQueryIdeal.τ).loc Cert.DwQueryIdeal.main_arg0)
      ∧ r.2.mem ((c.tc : Thread Cert.DwQueryIdeal.nD Cert.DwQueryIdeal.τ).loc Cert.DwQueryIdeal.main_arg1) = m ((c.tc : Thread Cert.DwQueryIdeal.nD Cert.DwQueryIdeal.τ).loc Cert.DwQueryIdeal.main_arg1))
      ∧ r.2.sem = fun _ => 0)

def quiescent_DwQueryRefIdeal [hDwQueryRefIdeal : Cert.DwQueryRefIdeal.Facts] : Prop :=
  ∀ (m : (ℓ : Loc Cert.DwQueryRefIdeal.nD Cert.DwQueryRefIdeal.τ Cert.DwQueryRefIdeal.sig) → Buf (Elt Ideal) ℓ) (g : Dev Cert.DwQueryRefIdeal.nD → PrngReg), Pre_DwQueryRefIdeal m →
    θ_run (Cert.DwQueryRefIdeal.defs (F := Ideal)) (onTc (τ := Cert.DwQueryRefIdeal.τ) (Cert.DwQueryRefIdeal.main (F := Ideal))) ⟨m, fun _ => 0, g⟩ (fun r => (∀ c : Dev Cert.DwQueryRefIdeal.nD,
      r.2.mem ((c.tc : Thread Cert.DwQueryRefIdeal.nD Cert.DwQueryRefIdeal.τ).loc Cert.DwQueryRefIdeal.main_arg0) = m ((c.tc : Thread Cert.DwQueryRefIdeal.nD Cert.DwQueryRefIdeal.τ).loc Cert.DwQueryRefIdeal.main_arg0)
      ∧ r.2.mem ((c.tc : Thread Cert.DwQueryRefIdeal.nD Cert.DwQueryRefIdeal.τ).loc Cert.DwQueryRefIdeal.main_arg1) = m ((c.tc : Thread Cert.DwQueryRefIdeal.nD Cert.DwQueryRefIdeal.τ).loc Cert.DwQueryRefIdeal.main_arg1))
      ∧ r.2.sem = fun _ => 0)

def quiescent_DwKv [hDwKv : Cert.DwKv.Facts] : Prop :=
  ∀ (m : (ℓ : Loc Cert.DwKv.nD Cert.DwKv.τ Cert.DwKv.sig) → Buf (Elt Bits) ℓ) (g : Dev Cert.DwKv.nD → PrngReg), Pre_DwKv m →
    θ_run (Cert.DwKv.defs (F := Bits)) (onTc (τ := Cert.DwKv.τ) (Cert.DwKv.main (F := Bits))) ⟨m, fun _ => 0, g⟩ (fun r => (∀ c : Dev Cert.DwKv.nD,
      r.2.mem ((c.tc : Thread Cert.DwKv.nD Cert.DwKv.τ).loc Cert.DwKv.main_arg0) = m ((c.tc : Thread Cert.DwKv.nD Cert.DwKv.τ).loc Cert.DwKv.main_arg0)
      ∧ r.2.mem ((c.tc : Thread Cert.DwKv.nD Cert.DwKv.τ).loc Cert.DwKv.main_arg1) = m ((c.tc : Thread Cert.DwKv.nD Cert.DwKv.τ).loc Cert.DwKv.main_arg1))
      ∧ r.2.sem = fun _ => 0)

def quiescent_DwKvIdeal [hDwKvIdeal : Cert.DwKvIdeal.Facts] : Prop :=
  ∀ (m : (ℓ : Loc Cert.DwKvIdeal.nD Cert.DwKvIdeal.τ Cert.DwKvIdeal.sig) → Buf (Elt Ideal) ℓ) (g : Dev Cert.DwKvIdeal.nD → PrngReg), Pre_DwKvIdeal m →
    θ_run (Cert.DwKvIdeal.defs (F := Ideal)) (onTc (τ := Cert.DwKvIdeal.τ) (Cert.DwKvIdeal.main (F := Ideal))) ⟨m, fun _ => 0, g⟩ (fun r => (∀ c : Dev Cert.DwKvIdeal.nD,
      r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
      ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ r.2.sem = fun _ => 0)

def quiescent_DwKvRefIdeal [hDwKvRefIdeal : Cert.DwKvRefIdeal.Facts] : Prop :=
  ∀ (m : (ℓ : Loc Cert.DwKvRefIdeal.nD Cert.DwKvRefIdeal.τ Cert.DwKvRefIdeal.sig) → Buf (Elt Ideal) ℓ) (g : Dev Cert.DwKvRefIdeal.nD → PrngReg), Pre_DwKvRefIdeal m →
    θ_run (Cert.DwKvRefIdeal.defs (F := Ideal)) (onTc (τ := Cert.DwKvRefIdeal.τ) (Cert.DwKvRefIdeal.main (F := Ideal))) ⟨m, fun _ => 0, g⟩ (fun r => (∀ c : Dev Cert.DwKvRefIdeal.nD,
      r.2.mem ((c.tc : Thread Cert.DwKvRefIdeal.nD Cert.DwKvRefIdeal.τ).loc Cert.DwKvRefIdeal.main_arg0) = m ((c.tc : Thread Cert.DwKvRefIdeal.nD Cert.DwKvRefIdeal.τ).loc Cert.DwKvRefIdeal.main_arg0)
      ∧ r.2.mem ((c.tc : Thread Cert.DwKvRefIdeal.nD Cert.DwKvRefIdeal.τ).loc Cert.DwKvRefIdeal.main_arg1) = m ((c.tc : Thread Cert.DwKvRefIdeal.nD Cert.DwKvRefIdeal.τ).loc Cert.DwKvRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_MixDown [hMixDown : Cert.MixDown.Facts] : Prop :=
  ∀ (m : (ℓ : Loc Cert.MixDown.nD Cert.MixDown.τ Cert.MixDown.sig) → Buf (Elt Bits) ℓ) (g : Dev Cert.MixDown.nD → PrngReg), Pre_MixDown m →
    θ_run (Cert.MixDown.defs (F := Bits)) (onTc (τ := Cert.MixDown.τ) (Cert.MixDown.main (F := Bits))) ⟨m, fun _ => 0, g⟩ (fun r => (∀ c : Dev Cert.MixDown.nD,
      r.2.mem ((c.tc : Thread Cert.MixDown.nD Cert.MixDown.τ).loc Cert.MixDown.main_arg0) = m ((c.tc : Thread Cert.MixDown.nD Cert.MixDown.τ).loc Cert.MixDown.main_arg0)
      ∧ r.2.mem ((c.tc : Thread Cert.MixDown.nD Cert.MixDown.τ).loc Cert.MixDown.main_arg1) = m ((c.tc : Thread Cert.MixDown.nD Cert.MixDown.τ).loc Cert.MixDown.main_arg1)
      ∧ r.2.mem ((c.tc : Thread Cert.MixDown.nD Cert.MixDown.τ).loc Cert.MixDown.main_arg2) = m ((c.tc : Thread Cert.MixDown.nD Cert.MixDown.τ).loc Cert.MixDown.main_arg2)
      ∧ r.2.mem ((c.tc : Thread Cert.MixDown.nD Cert.MixDown.τ).loc Cert.MixDown.main_arg3) = m ((c.tc : Thread Cert.MixDown.nD Cert.MixDown.τ).loc Cert.MixDown.main_arg3))
      ∧ r.2.sem = fun _ => 0)

def quiescent_MixDownIdeal [hMixDownIdeal : Cert.MixDownIdeal.Facts] : Prop :=
  ∀ (m : (ℓ : Loc Cert.MixDownIdeal.nD Cert.MixDownIdeal.τ Cert.MixDownIdeal.sig) → Buf (Elt Ideal) ℓ) (g : Dev Cert.MixDownIdeal.nD → PrngReg), Pre_MixDownIdeal m →
    θ_run (Cert.MixDownIdeal.defs (F := Ideal)) (onTc (τ := Cert.MixDownIdeal.τ) (Cert.MixDownIdeal.main (F := Ideal))) ⟨m, fun _ => 0, g⟩ (fun r => (∀ c : Dev Cert.MixDownIdeal.nD,
      r.2.mem ((c.tc : Thread Cert.MixDownIdeal.nD Cert.MixDownIdeal.τ).loc Cert.MixDownIdeal.main_arg0) = m ((c.tc : Thread Cert.MixDownIdeal.nD Cert.MixDownIdeal.τ).loc Cert.MixDownIdeal.main_arg0)
      ∧ r.2.mem ((c.tc : Thread Cert.MixDownIdeal.nD Cert.MixDownIdeal.τ).loc Cert.MixDownIdeal.main_arg1) = m ((c.tc : Thread Cert.MixDownIdeal.nD Cert.MixDownIdeal.τ).loc Cert.MixDownIdeal.main_arg1)
      ∧ r.2.mem ((c.tc : Thread Cert.MixDownIdeal.nD Cert.MixDownIdeal.τ).loc Cert.MixDownIdeal.main_arg2) = m ((c.tc : Thread Cert.MixDownIdeal.nD Cert.MixDownIdeal.τ).loc Cert.MixDownIdeal.main_arg2)
      ∧ r.2.mem ((c.tc : Thread Cert.MixDownIdeal.nD Cert.MixDownIdeal.τ).loc Cert.MixDownIdeal.main_arg3) = m ((c.tc : Thread Cert.MixDownIdeal.nD Cert.MixDownIdeal.τ).loc Cert.MixDownIdeal.main_arg3))
      ∧ r.2.sem = fun _ => 0)

def quiescent_MixDownRefIdeal [hMixDownRefIdeal : Cert.MixDownRefIdeal.Facts] : Prop :=
  ∀ (m : (ℓ : Loc Cert.MixDownRefIdeal.nD Cert.MixDownRefIdeal.τ Cert.MixDownRefIdeal.sig) → Buf (Elt Ideal) ℓ) (g : Dev Cert.MixDownRefIdeal.nD → PrngReg), Pre_MixDownRefIdeal m →
    θ_run (Cert.MixDownRefIdeal.defs (F := Ideal)) (onTc (τ := Cert.MixDownRefIdeal.τ) (Cert.MixDownRefIdeal.main (F := Ideal))) ⟨m, fun _ => 0, g⟩ (fun r => (∀ c : Dev Cert.MixDownRefIdeal.nD,
      r.2.mem ((c.tc : Thread Cert.MixDownRefIdeal.nD Cert.MixDownRefIdeal.τ).loc Cert.MixDownRefIdeal.main_arg0) = m ((c.tc : Thread Cert.MixDownRefIdeal.nD Cert.MixDownRefIdeal.τ).loc Cert.MixDownRefIdeal.main_arg0)
      ∧ r.2.mem ((c.tc : Thread Cert.MixDownRefIdeal.nD Cert.MixDownRefIdeal.τ).loc Cert.MixDownRefIdeal.main_arg1) = m ((c.tc : Thread Cert.MixDownRefIdeal.nD Cert.MixDownRefIdeal.τ).loc Cert.MixDownRefIdeal.main_arg1)
      ∧ r.2.mem ((c.tc : Thread Cert.MixDownRefIdeal.nD Cert.MixDownRefIdeal.τ).loc Cert.MixDownRefIdeal.main_arg2) = m ((c.tc : Thread Cert.MixDownRefIdeal.nD Cert.MixDownRefIdeal.τ).loc Cert.MixDownRefIdeal.main_arg2)
      ∧ r.2.mem ((c.tc : Thread Cert.MixDownRefIdeal.nD Cert.MixDownRefIdeal.τ).loc Cert.MixDownRefIdeal.main_arg3) = m ((c.tc : Thread Cert.MixDownRefIdeal.nD Cert.MixDownRefIdeal.τ).loc Cert.MixDownRefIdeal.main_arg3))
      ∧ r.2.sem = fun _ => 0)

def quiescent_Total [hTotal : Cert.Total.Facts] : Prop :=
  ∀ (m : (ℓ : Loc Cert.Total.nD Cert.Total.τ Cert.Total.sig) → Buf (Elt Bits) ℓ) (g : Dev Cert.Total.nD → PrngReg), Pre_Total m →
    θ_run (Cert.Total.defs (F := Bits)) (onTc (τ := Cert.Total.τ) (Cert.Total.main (F := Bits))) ⟨m, fun _ => 0, g⟩ (fun r => (∀ c : Dev Cert.Total.nD,
      r.2.mem ((c.tc : Thread Cert.Total.nD Cert.Total.τ).loc Cert.Total.main_arg0) = m ((c.tc : Thread Cert.Total.nD Cert.Total.τ).loc Cert.Total.main_arg0))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ r.2.sem = fun _ => 0)

def quiescent_TotalRefIdeal [hTotalRefIdeal : Cert.TotalRefIdeal.Facts] : Prop :=
  ∀ (m : (ℓ : Loc Cert.TotalRefIdeal.nD Cert.TotalRefIdeal.τ Cert.TotalRefIdeal.sig) → Buf (Elt Ideal) ℓ) (g : Dev Cert.TotalRefIdeal.nD → PrngReg), Pre_TotalRefIdeal m →
    θ_run (Cert.TotalRefIdeal.defs (F := Ideal)) (onTc (τ := Cert.TotalRefIdeal.τ) (Cert.TotalRefIdeal.main (F := Ideal))) ⟨m, fun _ => 0, g⟩ (fun r => (∀ c : Dev Cert.TotalRefIdeal.nD,
      r.2.mem ((c.tc : Thread Cert.TotalRefIdeal.nD Cert.TotalRefIdeal.τ).loc Cert.TotalRefIdeal.main_arg0) = m ((c.tc : Thread Cert.TotalRefIdeal.nD Cert.TotalRefIdeal.τ).loc Cert.TotalRefIdeal.main_arg0))
      ∧ r.2.sem = fun _ => 0)

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![8, 52736, 128]⟩ ⟨3, ![64, 52736, 128]⟩ 0 8 c (m' (((0 : Dev Cert.ExchangeRefIdeal.nD).tc : Thread Cert.ExchangeRefIdeal.nD Cert.ExchangeRefIdeal.τ).loc Cert.ExchangeRefIdeal.main_arg0))) →
    ∃ (v0 : Buf (Elt Ideal) (((0 : Dev Cert.ExchangeRefIdeal.nD).tc : Thread Cert.ExchangeRefIdeal.nD Cert.ExchangeRefIdeal.τ).loc Cert.ExchangeRefIdeal.main_v0)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1) = Layout.block ⟨3, ![8, 52736, 128]⟩ ⟨3, ![8, 421888, 128]⟩ 1 8 c v0
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v0) = v0
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0))

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.block ⟨3, ![8, 52736, 128]⟩ ⟨3, ![64, 52736, 128]⟩ 0 8 c (m' (((0 : Dev Cert.ExchangeRef.nD).tc : Thread Cert.ExchangeRef.nD Cert.ExchangeRef.τ).loc Cert.ExchangeRef.main_arg0))) →
    ∃ (v0 : Buf (Elt Bits) (((0 : Dev Cert.ExchangeRef.nD).tc : Thread Cert.ExchangeRef.nD Cert.ExchangeRef.τ).loc Cert.ExchangeRef.main_v0)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1) = Layout.block ⟨3, ![8, 52736, 128]⟩ ⟨3, ![8, 421888, 128]⟩ 1 8 c v0
          ∧ r.2.mem ((c.tc : Thread Cert.Exchange.nD Cert.Exchange.τ).loc Cert.Exchange.main_arg0) = m ((c.tc : Thread Cert.Exchange.nD Cert.Exchange.τ).loc Cert.Exchange.main_arg0))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v0) = v0
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![52736, 128]⟩ ⟨2, ![421888, 128]⟩ 0 8 c (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![52736, 128]⟩ ⟨2, ![421888, 128]⟩ 0 8 c (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_ExchangeMod_ExchangeModIdeal : Prop :=
  True

def algebraic_ExchangeModIdeal_ExchangeModRefIdeal [hExchangeModIdeal : Cert.ExchangeModIdeal.Facts] [hExchangeModRefIdeal : Cert.ExchangeModRefIdeal.Facts] : Prop :=
  ∀ (m : (ℓ : Loc Cert.ExchangeModIdeal.nD Cert.ExchangeModIdeal.τ Cert.ExchangeModIdeal.sig) → Buf (Elt Ideal) ℓ) (g : Dev Cert.ExchangeModIdeal.nD → PrngReg)
    (m' : (ℓ : Loc Cert.ExchangeModRefIdeal.nD Cert.ExchangeModRefIdeal.τ Cert.ExchangeModRefIdeal.sig) → Buf (Elt Ideal) ℓ) (g' : Dev Cert.ExchangeModRefIdeal.nD → PrngReg), Pre_ExchangeModIdeal m →
    (∀ c : Dev Cert.ExchangeModIdeal.nD,
      m ((c.tc : Thread Cert.ExchangeModIdeal.nD Cert.ExchangeModIdeal.τ).loc Cert.ExchangeModIdeal.main_arg0) = Layout.block ⟨3, ![8, 32, 128]⟩ ⟨3, ![64, 32, 128]⟩ 0 8 c (m' (((0 : Dev Cert.ExchangeModRefIdeal.nD).tc : Thread Cert.ExchangeModRefIdeal.nD Cert.ExchangeModRefIdeal.τ).loc Cert.ExchangeModRefIdeal.main_arg0))) →
    ∃ (v0 : Buf (Elt Ideal) (((0 : Dev Cert.ExchangeModRefIdeal.nD).tc : Thread Cert.ExchangeModRefIdeal.nD Cert.ExchangeModRefIdeal.τ).loc Cert.ExchangeModRefIdeal.main_v0)),
      θ_run (Cert.ExchangeModIdeal.defs (F := Ideal)) (onTc (τ := Cert.ExchangeModIdeal.τ) (Cert.ExchangeModIdeal.main (F := Ideal))) ⟨m, fun _ => 0, g⟩ (fun r => ∀ c : Dev Cert.ExchangeModIdeal.nD,
          r.2.mem ((c.tc : Thread Cert.ExchangeModIdeal.nD Cert.ExchangeModIdeal.τ).loc Cert.ExchangeModIdeal.main_v1) = Layout.block ⟨3, ![8, 32, 128]⟩ ⟨3, ![8, 256, 128]⟩ 1 8 c v0
          ∧ r.2.mem ((c.tc : Thread Cert.ExchangeModIdeal.nD Cert.ExchangeModIdeal.τ).loc Cert.ExchangeModIdeal.main_arg0) = m ((c.tc : Thread Cert.ExchangeModIdeal.nD Cert.ExchangeModIdeal.τ).loc Cert.ExchangeModIdeal.main_arg0))
      ∧ θ_run (Cert.ExchangeModRefIdeal.defs (F := Ideal)) (onTc (τ := Cert.ExchangeModRefIdeal.τ) (Cert.ExchangeModRefIdeal.main (F := Ideal))) ⟨m', fun _ => 0, g'⟩ (fun r =>
          r.2.mem (((0 : Dev Cert.ExchangeModRefIdeal.nD).tc : Thread Cert.ExchangeModRefIdeal.nD Cert.ExchangeModRefIdeal.τ).loc Cert.ExchangeModRefIdeal.main_v0) = v0
          ∧ r.2.mem (((0 : Dev Cert.ExchangeModRefIdeal.nD).tc : Thread Cert.ExchangeModRefIdeal.nD Cert.ExchangeModRefIdeal.τ).loc Cert.ExchangeModRefIdeal.main_arg0) = m' (((0 : Dev Cert.ExchangeModRefIdeal.nD).tc : Thread Cert.ExchangeModRefIdeal.nD Cert.ExchangeModRefIdeal.τ).loc Cert.ExchangeModRefIdeal.main_arg0))

def bitexact_ExchangeMod_ExchangeModRef [hExchangeMod : Cert.ExchangeMod.Facts] [hExchangeModRef : Cert.ExchangeModRef.Facts] : Prop :=
  ∀ (m : (ℓ : Loc Cert.ExchangeMod.nD Cert.ExchangeMod.τ Cert.ExchangeMod.sig) → Buf (Elt Bits) ℓ) (g : Dev Cert.ExchangeMod.nD → PrngReg)
    (m' : (ℓ : Loc Cert.ExchangeModRef.nD Cert.ExchangeModRef.τ Cert.ExchangeModRef.sig) → Buf (Elt Bits) ℓ) (g' : Dev Cert.ExchangeModRef.nD → PrngReg), Pre_ExchangeMod m →
    (∀ c : Dev Cert.ExchangeMod.nD,
      m ((c.tc : Thread Cert.ExchangeMod.nD Cert.ExchangeMod.τ).loc Cert.ExchangeMod.main_arg0) = Layout.block ⟨3, ![8, 32, 128]⟩ ⟨3, ![64, 32, 128]⟩ 0 8 c (m' (((0 : Dev Cert.ExchangeModRef.nD).tc : Thread Cert.ExchangeModRef.nD Cert.ExchangeModRef.τ).loc Cert.ExchangeModRef.main_arg0))) →
    ∃ (v0 : Buf (Elt Bits) (((0 : Dev Cert.ExchangeModRef.nD).tc : Thread Cert.ExchangeModRef.nD Cert.ExchangeModRef.τ).loc Cert.ExchangeModRef.main_v0)),
      θ_run (Cert.ExchangeMod.defs (F := Bits)) (onTc (τ := Cert.ExchangeMod.τ) (Cert.ExchangeMod.main (F := Bits))) ⟨m, fun _ => 0, g⟩ (fun r => ∀ c : Dev Cert.ExchangeMod.nD,
          r.2.mem ((c.tc : Thread Cert.ExchangeMod.nD Cert.ExchangeMod.τ).loc Cert.ExchangeMod.main_v1) = Layout.block ⟨3, ![8, 32, 128]⟩ ⟨3, ![8, 256, 128]⟩ 1 8 c v0
          ∧ r.2.mem ((c.tc : Thread Cert.ExchangeMod.nD Cert.ExchangeMod.τ).loc Cert.ExchangeMod.main_arg0) = m ((c.tc : Thread Cert.ExchangeMod.nD Cert.ExchangeMod.τ).loc Cert.ExchangeMod.main_arg0))
      ∧ θ_run (Cert.ExchangeModRef.defs (F := Bits)) (onTc (τ := Cert.ExchangeModRef.τ) (Cert.ExchangeModRef.main (F := Bits))) ⟨m', fun _ => 0, g'⟩ (fun r =>
          r.2.mem (((0 : Dev Cert.ExchangeModRef.nD).tc : Thread Cert.ExchangeModRef.nD Cert.ExchangeModRef.τ).loc Cert.ExchangeModRef.main_v0) = v0
          ∧ r.2.mem (((0 : Dev Cert.ExchangeModRef.nD).tc : Thread Cert.ExchangeModRef.nD Cert.ExchangeModRef.τ).loc Cert.ExchangeModRef.main_arg0) = m' (((0 : Dev Cert.ExchangeModRef.nD).tc : Thread Cert.ExchangeModRef.nD Cert.ExchangeModRef.τ).loc Cert.ExchangeModRef.main_arg0))

def preserves_GatherSmall_GatherSmallIdeal : Prop :=
  True

def algebraic_GatherSmallIdeal_GatherSmallRefIdeal [hGatherSmallIdeal : Cert.GatherSmallIdeal.Facts] [hGatherSmallRefIdeal : Cert.GatherSmallRefIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.GatherSmallRefIdeal.nD Cert.GatherSmallRefIdeal.τ Cert.GatherSmallRefIdeal.sig) → Buf (Elt Ideal) ℓ) (g' : Dev Cert.GatherSmallRefIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![48, 128]⟩ ⟨2, ![384, 128]⟩ 0 8 c (m' (((0 : Dev Cert.GatherSmallRefIdeal.nD).tc : Thread Cert.GatherSmallRefIdeal.nD Cert.GatherSmallRefIdeal.τ).loc Cert.GatherSmallRefIdeal.main_arg0))) →
    ∃ (v0 : Buf (Elt Ideal) (((0 : Dev Cert.GatherSmallRefIdeal.nD).tc : Thread Cert.GatherSmallRefIdeal.nD Cert.GatherSmallRefIdeal.τ).loc Cert.GatherSmallRefIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallRefIdeal.defs (F := Ideal)) (onTc (τ := Cert.GatherSmallRefIdeal.τ) (Cert.GatherSmallRefIdeal.main (F := Ideal))) ⟨m', fun _ => 0, g'⟩ (fun r =>
          r.2.mem (((0 : Dev Cert.GatherSmallRefIdeal.nD).tc : Thread Cert.GatherSmallRefIdeal.nD Cert.GatherSmallRefIdeal.τ).loc Cert.GatherSmallRefIdeal.main_v0) = v0
          ∧ r.2.mem (((0 : Dev Cert.GatherSmallRefIdeal.nD).tc : Thread Cert.GatherSmallRefIdeal.nD Cert.GatherSmallRefIdeal.τ).loc Cert.GatherSmallRefIdeal.main_arg0) = m' (((0 : Dev Cert.GatherSmallRefIdeal.nD).tc : Thread Cert.GatherSmallRefIdeal.nD Cert.GatherSmallRefIdeal.τ).loc Cert.GatherSmallRefIdeal.main_arg0))

def bitexact_GatherSmall_GatherSmallRef [hGatherSmall : Cert.GatherSmall.Facts] [hGatherSmallRef : Cert.GatherSmallRef.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.GatherSmallRef.nD Cert.GatherSmallRef.τ Cert.GatherSmallRef.sig) → Buf (Elt Bits) ℓ) (g' : Dev Cert.GatherSmallRef.nD → PrngReg), Pre_GatherSmall m →
    (∀ c : Dev Cert.GatherSmall.nD,
      m ((c.tc : Thread Cert.GatherSmall.nD Cert.GatherSmall.τ).loc Cert.GatherSmall.main_arg0) = Layout.block ⟨2, ![48, 128]⟩ ⟨2, ![384, 128]⟩ 0 8 c (m' (((0 : Dev Cert.GatherSmallRef.nD).tc : Thread Cert.GatherSmallRef.nD Cert.GatherSmallRef.τ).loc Cert.GatherSmallRef.main_arg0))) →
    ∃ (v0 : Buf (Elt Bits) (((0 : Dev Cert.GatherSmallRef.nD).tc : Thread Cert.GatherSmallRef.nD Cert.GatherSmallRef.τ).loc Cert.GatherSmallRef.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.GatherSmallRef.defs (F := Bits)) (onTc (τ := Cert.GatherSmallRef.τ) (Cert.GatherSmallRef.main (F := Bits))) ⟨m', fun _ => 0, g'⟩ (fun r =>
          r.2.mem (((0 : Dev Cert.GatherSmallRef.nD).tc : Thread Cert.GatherSmallRef.nD Cert.GatherSmallRef.τ).loc Cert.GatherSmallRef.main_v0) = v0
          ∧ r.2.mem (((0 : Dev Cert.GatherSmallRef.nD).tc : Thread Cert.GatherSmallRef.nD Cert.GatherSmallRef.τ).loc Cert.GatherSmallRef.main_arg0) = m' (((0 : Dev Cert.GatherSmallRef.nD).tc : Thread Cert.GatherSmallRef.nD Cert.GatherSmallRef.τ).loc Cert.GatherSmallRef.main_arg0))

def preserves_GatherGrads_GatherGradsIdeal : Prop :=
  True

def algebraic_GatherGradsIdeal_GatherGradsRefIdeal [hGatherGradsIdeal : Cert.GatherGradsIdeal.Facts] [hGatherGradsRefIdeal : Cert.GatherGradsRefIdeal.Facts] : Prop :=
  ∀ (m : (ℓ : Loc Cert.GatherGradsIdeal.nD Cert.GatherGradsIdeal.τ Cert.GatherGradsIdeal.sig) → Buf (Elt Ideal) ℓ) (g : Dev Cert.GatherGradsIdeal.nD → PrngReg)
    (m' : (ℓ : Loc Cert.GatherGradsRefIdeal.nD Cert.GatherGradsRefIdeal.τ Cert.GatherGradsRefIdeal.sig) → Buf (Elt Ideal) ℓ) (g' : Dev Cert.GatherGradsRefIdeal.nD → PrngReg), Pre_GatherGradsIdeal m →
    (∀ c : Dev Cert.GatherGradsIdeal.nD,
      m ((c.tc : Thread Cert.GatherGradsIdeal.nD Cert.GatherGradsIdeal.τ).loc Cert.GatherGradsIdeal.main_arg0) = Layout.block ⟨2, ![656, 128]⟩ ⟨2, ![5248, 128]⟩ 0 8 c (m' (((0 : Dev Cert.GatherGradsRefIdeal.nD).tc : Thread Cert.GatherGradsRefIdeal.nD Cert.GatherGradsRefIdeal.τ).loc Cert.GatherGradsRefIdeal.main_arg0))) →
    ∃ (v0 : Buf (Elt Ideal) (((0 : Dev Cert.GatherGradsRefIdeal.nD).tc : Thread Cert.GatherGradsRefIdeal.nD Cert.GatherGradsRefIdeal.τ).loc Cert.GatherGradsRefIdeal.main_v0)),
      θ_run (Cert.GatherGradsIdeal.defs (F := Ideal)) (onTc (τ := Cert.GatherGradsIdeal.τ) (Cert.GatherGradsIdeal.main (F := Ideal))) ⟨m, fun _ => 0, g⟩ (fun r => ∀ c : Dev Cert.GatherGradsIdeal.nD,
          r.2.mem ((c.tc : Thread Cert.GatherGradsIdeal.nD Cert.GatherGradsIdeal.τ).loc Cert.GatherGradsIdeal.main_v1) = v0
          ∧ r.2.mem ((c.tc : Thread Cert.GatherGradsIdeal.nD Cert.GatherGradsIdeal.τ).loc Cert.GatherGradsIdeal.main_arg0) = m ((c.tc : Thread Cert.GatherGradsIdeal.nD Cert.GatherGradsIdeal.τ).loc Cert.GatherGradsIdeal.main_arg0))
      ∧ θ_run (Cert.GatherGradsRefIdeal.defs (F := Ideal)) (onTc (τ := Cert.GatherGradsRefIdeal.τ) (Cert.GatherGradsRefIdeal.main (F := Ideal))) ⟨m', fun _ => 0, g'⟩ (fun r =>
          r.2.mem (((0 : Dev Cert.GatherGradsRefIdeal.nD).tc : Thread Cert.GatherGradsRefIdeal.nD Cert.GatherGradsRefIdeal.τ).loc Cert.GatherGradsRefIdeal.main_v0) = v0
          ∧ r.2.mem (((0 : Dev Cert.GatherGradsRefIdeal.nD).tc : Thread Cert.GatherGradsRefIdeal.nD Cert.GatherGradsRefIdeal.τ).loc Cert.GatherGradsRefIdeal.main_arg0) = m' (((0 : Dev Cert.GatherGradsRefIdeal.nD).tc : Thread Cert.GatherGradsRefIdeal.nD Cert.GatherGradsRefIdeal.τ).loc Cert.GatherGradsRefIdeal.main_arg0))

def bitexact_GatherGrads_GatherGradsRef [hGatherGrads : Cert.GatherGrads.Facts] [hGatherGradsRef : Cert.GatherGradsRef.Facts] : Prop :=
  ∀ (m : (ℓ : Loc Cert.GatherGrads.nD Cert.GatherGrads.τ Cert.GatherGrads.sig) → Buf (Elt Bits) ℓ) (g : Dev Cert.GatherGrads.nD → PrngReg)
    (m' : (ℓ : Loc Cert.GatherGradsRef.nD Cert.GatherGradsRef.τ Cert.GatherGradsRef.sig) → Buf (Elt Bits) ℓ) (g' : Dev Cert.GatherGradsRef.nD → PrngReg), Pre_GatherGrads m →
    (∀ c : Dev Cert.GatherGrads.nD,
      m ((c.tc : Thread Cert.GatherGrads.nD Cert.GatherGrads.τ).loc Cert.GatherGrads.main_arg0) = Layout.block ⟨2, ![656, 128]⟩ ⟨2, ![5248, 128]⟩ 0 8 c (m' (((0 : Dev Cert.GatherGradsRef.nD).tc : Thread Cert.GatherGradsRef.nD Cert.GatherGradsRef.τ).loc Cert.GatherGradsRef.main_arg0))) →
    ∃ (v0 : Buf (Elt Bits) (((0 : Dev Cert.GatherGradsRef.nD).tc : Thread Cert.GatherGradsRef.nD Cert.GatherGradsRef.τ).loc Cert.GatherGradsRef.main_v0)),
      θ_run (Cert.GatherGrads.defs (F := Bits)) (onTc (τ := Cert.GatherGrads.τ) (Cert.GatherGrads.main (F := Bits))) ⟨m, fun _ => 0, g⟩ (fun r => ∀ c : Dev Cert.GatherGrads.nD,
          r.2.mem ((c.tc : Thread Cert.GatherGrads.nD Cert.GatherGrads.τ).loc Cert.GatherGrads.main_v1) = v0
          ∧ r.2.mem ((c.tc : Thread Cert.GatherGrads.nD Cert.GatherGrads.τ).loc Cert.GatherGrads.main_arg0) = m ((c.tc : Thread Cert.GatherGrads.nD Cert.GatherGrads.τ).loc Cert.GatherGrads.main_arg0))
      ∧ θ_run (Cert.GatherGradsRef.defs (F := Bits)) (onTc (τ := Cert.GatherGradsRef.τ) (Cert.GatherGradsRef.main (F := Bits))) ⟨m', fun _ => 0, g'⟩ (fun r =>
          r.2.mem (((0 : Dev Cert.GatherGradsRef.nD).tc : Thread Cert.GatherGradsRef.nD Cert.GatherGradsRef.τ).loc Cert.GatherGradsRef.main_v0) = v0
          ∧ r.2.mem (((0 : Dev Cert.GatherGradsRef.nD).tc : Thread Cert.GatherGradsRef.nD Cert.GatherGradsRef.τ).loc Cert.GatherGradsRef.main_arg0) = m' (((0 : Dev Cert.GatherGradsRef.nD).tc : Thread Cert.GatherGradsRef.nD Cert.GatherGradsRef.τ).loc Cert.GatherGradsRef.main_arg0))

def preserves_AdamKv_AdamKvIdeal : Prop :=
  IdealRules.named_const.Statement Cert.AdamKvIdeal.κ "c1" .f32 0x3FC48605#32 ((8388608 / 5463681 : ℝ) : EReal)
  ∧ IdealRules.named_const.Statement Cert.AdamKvIdeal.κ "c2" .f32 0x42C8E6D3#32 ((268435456 / 2672307 : ℝ) : EReal)

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v1) = v0 c
          ∧ r.2.mem ((c.tc : Thread Cert.AdamKvRefIdeal.nD Cert.AdamKvRefIdeal.τ).loc Cert.AdamKvRefIdeal.main_v25) = v1 c
          ∧ r.2.mem ((c.tc : Thread Cert.AdamKvRefIdeal.nD Cert.AdamKvRefIdeal.τ).loc Cert.AdamKvRefIdeal.main_v6) = v2 c
          ∧ r.2.mem ((c.tc : Thread Cert.AdamKvRefIdeal.nD Cert.AdamKvRefIdeal.τ).loc Cert.AdamKvRefIdeal.main_v12) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamSquare_AdamSquareIdeal : Prop :=
  IdealRules.named_const.Statement Cert.AdamSquareIdeal.κ "c1" .f32 0x3FC48605#32 ((8388608 / 5463681 : ℝ) : EReal)
  ∧ IdealRules.named_const.Statement Cert.AdamSquareIdeal.κ "c2" .f32 0x42C8E6D3#32 ((268435456 / 2672307 : ℝ) : EReal)

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v1) = v0 c
          ∧ r.2.mem ((c.tc : Thread Cert.AdamSquareRefIdeal.nD Cert.AdamSquareRefIdeal.τ).loc Cert.AdamSquareRefIdeal.main_v25) = v1 c
          ∧ r.2.mem ((c.tc : Thread Cert.AdamSquareRefIdeal.nD Cert.AdamSquareRefIdeal.τ).loc Cert.AdamSquareRefIdeal.main_v6) = v2 c
          ∧ r.2.mem ((c.tc : Thread Cert.AdamSquareRefIdeal.nD Cert.AdamSquareRefIdeal.τ).loc Cert.AdamSquareRefIdeal.main_v12) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamGrp_AdamGrpIdeal : Prop :=
  IdealRules.named_const.Statement Cert.AdamGrpIdeal.κ "c1" .f32 0x3FC48605#32 ((8388608 / 5463681 : ℝ) : EReal)
  ∧ IdealRules.named_const.Statement Cert.AdamGrpIdeal.κ "c2" .f32 0x42C8E6D3#32 ((268435456 / 2672307 : ℝ) : EReal)

def algebraic_AdamGrpIdeal_AdamGrpRefIdeal [hAdamGrpIdeal : Cert.AdamGrpIdeal.Facts] [hAdamGrpRefIdeal : Cert.AdamGrpRefIdeal.Facts] : Prop :=
  ∀ (m : (ℓ : Loc Cert.AdamGrpIdeal.nD Cert.AdamGrpIdeal.τ Cert.AdamGrpIdeal.sig) → Buf (Elt Ideal) ℓ) (g : Dev Cert.AdamGrpIdeal.nD → PrngReg)
    (m' : (ℓ : Loc Cert.AdamGrpRefIdeal.nD Cert.AdamGrpRefIdeal.τ Cert.AdamGrpRefIdeal.sig) → Buf (Elt Ideal) ℓ) (g' : Dev Cert.AdamGrpRefIdeal.nD → PrngReg), Pre_AdamGrpIdeal m →
    (∀ c : Dev Cert.AdamGrpIdeal.nD,
      m' ((c.tc : Thread Cert.AdamGrpRefIdeal.nD Cert.AdamGrpRefIdeal.τ).loc Cert.AdamGrpRefIdeal.main_arg0) = m ((c.tc : Thread Cert.AdamGrpIdeal.nD Cert.AdamGrpIdeal.τ).loc Cert.AdamGrpIdeal.main_arg0)
      ∧ m' ((c.tc : Thread Cert.AdamGrpRefIdeal.nD Cert.AdamGrpRefIdeal.τ).loc Cert.AdamGrpRefIdeal.main_arg1) = m ((c.tc : Thread Cert.AdamGrpIdeal.nD Cert.AdamGrpIdeal.τ).loc Cert.AdamGrpIdeal.main_arg1)
      ∧ m' ((c.tc : Thread Cert.AdamGrpRefIdeal.nD Cert.AdamGrpRefIdeal.τ).loc Cert.AdamGrpRefIdeal.main_arg2) = m ((c.tc : Thread Cert.AdamGrpIdeal.nD Cert.AdamGrpIdeal.τ).loc Cert.AdamGrpIdeal.main_arg2)
      ∧ m' ((c.tc : Thread Cert.AdamGrpRefIdeal.nD Cert.AdamGrpRefIdeal.τ).loc Cert.AdamGrpRefIdeal.main_arg3) = m ((c.tc : Thread Cert.AdamGrpIdeal.nD Cert.AdamGrpIdeal.τ).loc Cert.AdamGrpIdeal.main_arg3)) →
    ∃ (v0 : (c : Dev Cert.AdamGrpIdeal.nD) → Buf (Elt Ideal) ((c.tc : Thread Cert.AdamGrpIdeal.nD Cert.AdamGrpIdeal.τ).loc Cert.AdamGrpIdeal.main_v0_0)) (v1 : (c : Dev Cert.AdamGrpIdeal.nD) → Buf (Elt Ideal) ((c.tc : Thread Cert.AdamGrpIdeal.nD Cert.AdamGrpIdeal.τ).loc Cert.AdamGrpIdeal.main_v0_1)) (v2 : (c : Dev Cert.AdamGrpIdeal.nD) → Buf (Elt Ideal) ((c.tc : Thread Cert.AdamGrpIdeal.nD Cert.AdamGrpIdeal.τ).loc Cert.AdamGrpIdeal.main_v0_2)) (v3 : (c : Dev Cert.AdamGrpIdeal.nD) → Buf (Elt Ideal) ((c.tc : Thread Cert.AdamGrpIdeal.nD Cert.AdamGrpIdeal.τ).loc Cert.AdamGrpIdeal.main_v0_3)),
      θ_run (Cert.AdamGrpIdeal.defs (F := Ideal)) (onTc (τ := Cert.AdamGrpIdeal.τ) (Cert.AdamGrpIdeal.main (F := Ideal))) ⟨m, fun _ => 0, g⟩ (fun r => ∀ c : Dev Cert.AdamGrpIdeal.nD,
          r.2.mem ((c.tc : Thread Cert.AdamGrpIdeal.nD Cert.AdamGrpIdeal.τ).loc Cert.AdamGrpIdeal.main_v0_0) = v0 c
          ∧ r.2.mem ((c.tc : Thread Cert.AdamGrpIdeal.nD Cert.AdamGrpIdeal.τ).loc Cert.AdamGrpIdeal.main_v0_1) = v1 c
          ∧ r.2.mem ((c.tc : Thread Cert.AdamGrpIdeal.nD Cert.AdamGrpIdeal.τ).loc Cert.AdamGrpIdeal.main_v0_2) = v2 c
          ∧ r.2.mem ((c.tc : Thread Cert.AdamGrpIdeal.nD Cert.AdamGrpIdeal.τ).loc Cert.AdamGrpIdeal.main_v0_3) = v3 c
          ∧ r.2.mem ((c.tc : Thread Cert.AdamGrpIdeal.nD Cert.AdamGrpIdeal.τ).loc Cert.AdamGrpIdeal.main_arg0) = m ((c.tc : Thread Cert.AdamGrpIdeal.nD Cert.AdamGrpIdeal.τ).loc Cert.AdamGrpIdeal.main_arg0)
          ∧ r.2.mem ((c.tc : Thread Cert.AdamGrpIdeal.nD Cert.AdamGrpIdeal.τ).loc Cert.AdamGrpIdeal.main_arg1) = m ((c.tc : Thread Cert.AdamGrpIdeal.nD Cert.AdamGrpIdeal.τ).loc Cert.AdamGrpIdeal.main_arg1)
          ∧ r.2.mem ((c.tc : Thread Cert.AdamGrpIdeal.nD Cert.AdamGrpIdeal.τ).loc Cert.AdamGrpIdeal.main_arg2) = m ((c.tc : Thread Cert.AdamGrpIdeal.nD Cert.AdamGrpIdeal.τ).loc Cert.AdamGrpIdeal.main_arg2)
          ∧ r.2.mem ((c.tc : Thread Cert.AdamGrpIdeal.nD Cert.AdamGrpIdeal.τ).loc Cert.AdamGrpIdeal.main_arg3) = m ((c.tc : Thread Cert.AdamGrpIdeal.nD Cert.AdamGrpIdeal.τ).loc Cert.AdamGrpIdeal.main_arg3))
      ∧ θ_run (Cert.AdamGrpRefIdeal.defs (F := Ideal)) (onTc (τ := Cert.AdamGrpRefIdeal.τ) (Cert.AdamGrpRefIdeal.main (F := Ideal))) ⟨m', fun _ => 0, g'⟩ (fun r => ∀ c : Dev Cert.AdamGrpRefIdeal.nD,
          r.2.mem ((c.tc : Thread Cert.AdamGrpRefIdeal.nD Cert.AdamGrpRefIdeal.τ).loc Cert.AdamGrpRefIdeal.main_v1) = v0 c
          ∧ r.2.mem ((c.tc : Thread Cert.AdamGrpRefIdeal.nD Cert.AdamGrpRefIdeal.τ).loc Cert.AdamGrpRefIdeal.main_v25) = v1 c
          ∧ r.2.mem ((c.tc : Thread Cert.AdamGrpRefIdeal.nD Cert.AdamGrpRefIdeal.τ).loc Cert.AdamGrpRefIdeal.main_v6) = v2 c
          ∧ r.2.mem ((c.tc : Thread Cert.AdamGrpRefIdeal.nD Cert.AdamGrpRefIdeal.τ).loc Cert.AdamGrpRefIdeal.main_v12) = v3 c
          ∧ r.2.mem ((c.tc : Thread Cert.AdamGrpRefIdeal.nD Cert.AdamGrpRefIdeal.τ).loc Cert.AdamGrpRefIdeal.main_arg0) = m' ((c.tc : Thread Cert.AdamGrpRefIdeal.nD Cert.AdamGrpRefIdeal.τ).loc Cert.AdamGrpRefIdeal.main_arg0)
          ∧ r.2.mem ((c.tc : Thread Cert.AdamGrpRefIdeal.nD Cert.AdamGrpRefIdeal.τ).loc Cert.AdamGrpRefIdeal.main_arg1) = m' ((c.tc : Thread Cert.AdamGrpRefIdeal.nD Cert.AdamGrpRefIdeal.τ).loc Cert.AdamGrpRefIdeal.main_arg1)
          ∧ r.2.mem ((c.tc : Thread Cert.AdamGrpRefIdeal.nD Cert.AdamGrpRefIdeal.τ).loc Cert.AdamGrpRefIdeal.main_arg2) = m' ((c.tc : Thread Cert.AdamGrpRefIdeal.nD Cert.AdamGrpRefIdeal.τ).loc Cert.AdamGrpRefIdeal.main_arg2)
          ∧ r.2.mem ((c.tc : Thread Cert.AdamGrpRefIdeal.nD Cert.AdamGrpRefIdeal.τ).loc Cert.AdamGrpRefIdeal.main_arg3) = m' ((c.tc : Thread Cert.AdamGrpRefIdeal.nD Cert.AdamGrpRefIdeal.τ).loc Cert.AdamGrpRefIdeal.main_arg3))

def preserves_AdamQuery_AdamQueryIdeal : Prop :=
  IdealRules.named_const.Statement Cert.AdamQueryIdeal.κ "c1" .f32 0x3FC48605#32 ((8388608 / 5463681 : ℝ) : EReal)
  ∧ IdealRules.named_const.Statement Cert.AdamQueryIdeal.κ "c2" .f32 0x42C8E6D3#32 ((268435456 / 2672307 : ℝ) : EReal)

def algebraic_AdamQueryIdeal_AdamQueryRefIdeal [hAdamQueryIdeal : Cert.AdamQueryIdeal.Facts] [hAdamQueryRefIdeal : Cert.AdamQueryRefIdeal.Facts] : Prop :=
  ∀ (m : (ℓ : Loc Cert.AdamQueryIdeal.nD Cert.AdamQueryIdeal.τ Cert.AdamQueryIdeal.sig) → Buf (Elt Ideal) ℓ) (g : Dev Cert.AdamQueryIdeal.nD → PrngReg)
    (m' : (ℓ : Loc Cert.AdamQueryRefIdeal.nD Cert.AdamQueryRefIdeal.τ Cert.AdamQueryRefIdeal.sig) → Buf (Elt Ideal) ℓ) (g' : Dev Cert.AdamQueryRefIdeal.nD → PrngReg), Pre_AdamQueryIdeal m →
    (∀ c : Dev Cert.AdamQueryIdeal.nD,
      m' ((c.tc : Thread Cert.AdamQueryRefIdeal.nD Cert.AdamQueryRefIdeal.τ).loc Cert.AdamQueryRefIdeal.main_arg0) = m ((c.tc : Thread Cert.AdamQueryIdeal.nD Cert.AdamQueryIdeal.τ).loc Cert.AdamQueryIdeal.main_arg0)
      ∧ m' ((c.tc : Thread Cert.AdamQueryRefIdeal.nD Cert.AdamQueryRefIdeal.τ).loc Cert.AdamQueryRefIdeal.main_arg1) = m ((c.tc : Thread Cert.AdamQueryIdeal.nD Cert.AdamQueryIdeal.τ).loc Cert.AdamQueryIdeal.main_arg1)
      ∧ m' ((c.tc : Thread Cert.AdamQueryRefIdeal.nD Cert.AdamQueryRefIdeal.τ).loc Cert.AdamQueryRefIdeal.main_arg2) = m ((c.tc : Thread Cert.AdamQueryIdeal.nD Cert.AdamQueryIdeal.τ).loc Cert.AdamQueryIdeal.main_arg2)
      ∧ m' ((c.tc : Thread Cert.AdamQueryRefIdeal.nD Cert.AdamQueryRefIdeal.τ).loc Cert.AdamQueryRefIdeal.main_arg3) = m ((c.tc : Thread Cert.AdamQueryIdeal.nD Cert.AdamQueryIdeal.τ).loc Cert.AdamQueryIdeal.main_arg3)) →
    ∃ (v0 : (c : Dev Cert.AdamQueryIdeal.nD) → Buf (Elt Ideal) ((c.tc : Thread Cert.AdamQueryIdeal.nD Cert.AdamQueryIdeal.τ).loc Cert.AdamQueryIdeal.main_v0_0)) (v1 : (c : Dev Cert.AdamQueryIdeal.nD) → Buf (Elt Ideal) ((c.tc : Thread Cert.AdamQueryIdeal.nD Cert.AdamQueryIdeal.τ).loc Cert.AdamQueryIdeal.main_v0_1)) (v2 : (c : Dev Cert.AdamQueryIdeal.nD) → Buf (Elt Ideal) ((c.tc : Thread Cert.AdamQueryIdeal.nD Cert.AdamQueryIdeal.τ).loc Cert.AdamQueryIdeal.main_v0_2)) (v3 : (c : Dev Cert.AdamQueryIdeal.nD) → Buf (Elt Ideal) ((c.tc : Thread Cert.AdamQueryIdeal.nD Cert.AdamQueryIdeal.τ).loc Cert.AdamQueryIdeal.main_v0_3)),
      θ_run (Cert.AdamQueryIdeal.defs (F := Ideal)) (onTc (τ := Cert.AdamQueryIdeal.τ) (Cert.AdamQueryIdeal.main (F := Ideal))) ⟨m, fun _ => 0, g⟩ (fun r => ∀ c : Dev Cert.AdamQueryIdeal.nD,
          r.2.mem ((c.tc : Thread Cert.AdamQueryIdeal.nD Cert.AdamQueryIdeal.τ).loc Cert.AdamQueryIdeal.main_v0_0) = v0 c
          ∧ r.2.mem ((c.tc : Thread Cert.AdamQueryIdeal.nD Cert.AdamQueryIdeal.τ).loc Cert.AdamQueryIdeal.main_v0_1) = v1 c
          ∧ r.2.mem ((c.tc : Thread Cert.AdamQueryIdeal.nD Cert.AdamQueryIdeal.τ).loc Cert.AdamQueryIdeal.main_v0_2) = v2 c
          ∧ r.2.mem ((c.tc : Thread Cert.AdamQueryIdeal.nD Cert.AdamQueryIdeal.τ).loc Cert.AdamQueryIdeal.main_v0_3) = v3 c
          ∧ r.2.mem ((c.tc : Thread Cert.AdamQueryIdeal.nD Cert.AdamQueryIdeal.τ).loc Cert.AdamQueryIdeal.main_arg0) = m ((c.tc : Thread Cert.AdamQueryIdeal.nD Cert.AdamQueryIdeal.τ).loc Cert.AdamQueryIdeal.main_arg0)
          ∧ r.2.mem ((c.tc : Thread Cert.AdamQueryIdeal.nD Cert.AdamQueryIdeal.τ).loc Cert.AdamQueryIdeal.main_arg1) = m ((c.tc : Thread Cert.AdamQueryIdeal.nD Cert.AdamQueryIdeal.τ).loc Cert.AdamQueryIdeal.main_arg1)
          ∧ r.2.mem ((c.tc : Thread Cert.AdamQueryIdeal.nD Cert.AdamQueryIdeal.τ).loc Cert.AdamQueryIdeal.main_arg2) = m ((c.tc : Thread Cert.AdamQueryIdeal.nD Cert.AdamQueryIdeal.τ).loc Cert.AdamQueryIdeal.main_arg2)
          ∧ r.2.mem ((c.tc : Thread Cert.AdamQueryIdeal.nD Cert.AdamQueryIdeal.τ).loc Cert.AdamQueryIdeal.main_arg3) = m ((c.tc : Thread Cert.AdamQueryIdeal.nD Cert.AdamQueryIdeal.τ).loc Cert.AdamQueryIdeal.main_arg3))
      ∧ θ_run (Cert.AdamQueryRefIdeal.defs (F := Ideal)) (onTc (τ := Cert.AdamQueryRefIdeal.τ) (Cert.AdamQueryRefIdeal.main (F := Ideal))) ⟨m', fun _ => 0, g'⟩ (fun r => ∀ c : Dev Cert.AdamQueryRefIdeal.nD,
          r.2.mem ((c.tc : Thread Cert.AdamQueryRefIdeal.nD Cert.AdamQueryRefIdeal.τ).loc Cert.AdamQueryRefIdeal.main_v1) = v0 c
          ∧ r.2.mem ((c.tc : Thread Cert.AdamQueryRefIdeal.nD Cert.AdamQueryRefIdeal.τ).loc Cert.AdamQueryRefIdeal.main_v25) = v1 c
          ∧ r.2.mem ((c.tc : Thread Cert.AdamQueryRefIdeal.nD Cert.AdamQueryRefIdeal.τ).loc Cert.AdamQueryRefIdeal.main_v6) = v2 c
          ∧ r.2.mem ((c.tc : Thread Cert.AdamQueryRefIdeal.nD Cert.AdamQueryRefIdeal.τ).loc Cert.AdamQueryRefIdeal.main_v12) = v3 c
          ∧ r.2.mem ((c.tc : Thread Cert.AdamQueryRefIdeal.nD Cert.AdamQueryRefIdeal.τ).loc Cert.AdamQueryRefIdeal.main_arg0) = m' ((c.tc : Thread Cert.AdamQueryRefIdeal.nD Cert.AdamQueryRefIdeal.τ).loc Cert.AdamQueryRefIdeal.main_arg0)
          ∧ r.2.mem ((c.tc : Thread Cert.AdamQueryRefIdeal.nD Cert.AdamQueryRefIdeal.τ).loc Cert.AdamQueryRefIdeal.main_arg1) = m' ((c.tc : Thread Cert.AdamQueryRefIdeal.nD Cert.AdamQueryRefIdeal.τ).loc Cert.AdamQueryRefIdeal.main_arg1)
          ∧ r.2.mem ((c.tc : Thread Cert.AdamQueryRefIdeal.nD Cert.AdamQueryRefIdeal.τ).loc Cert.AdamQueryRefIdeal.main_arg2) = m' ((c.tc : Thread Cert.AdamQueryRefIdeal.nD Cert.AdamQueryRefIdeal.τ).loc Cert.AdamQueryRefIdeal.main_arg2)
          ∧ r.2.mem ((c.tc : Thread Cert.AdamQueryRefIdeal.nD Cert.AdamQueryRefIdeal.τ).loc Cert.AdamQueryRefIdeal.main_arg3) = m' ((c.tc : Thread Cert.AdamQueryRefIdeal.nD Cert.AdamQueryRefIdeal.τ).loc Cert.AdamQueryRefIdeal.main_arg3))

def preserves_AdamUp_AdamUpIdeal : Prop :=
  IdealRules.named_const.Statement Cert.AdamUpIdeal.κ "c1" .f32 0x3FC48605#32 ((8388608 / 5463681 : ℝ) : EReal)
  ∧ IdealRules.named_const.Statement Cert.AdamUpIdeal.κ "c2" .f32 0x42C8E6D3#32 ((268435456 / 2672307 : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  IdealRules.named_const.Statement Cert.AdamDownIdeal.κ "c1" .f32 0x3FC48605#32 ((8388608 / 5463681 : ℝ) : EReal)
  ∧ IdealRules.named_const.Statement Cert.AdamDownIdeal.κ "c2" .f32 0x42C8E6D3#32 ((268435456 / 2672307 : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamAda_AdamAdaIdeal : Prop :=
  IdealRules.named_const.Statement Cert.AdamAdaIdeal.κ "c1" .f32 0x3FC48605#32 ((8388608 / 5463681 : ℝ) : EReal)
  ∧ IdealRules.named_const.Statement Cert.AdamAdaIdeal.κ "c2" .f32 0x42C8E6D3#32 ((268435456 / 2672307 : ℝ) : EReal)

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v0) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamKvAda_AdamKvAdaIdeal : Prop :=
  IdealRules.named_const.Statement Cert.AdamKvAdaIdeal.κ "c1" .f32 0x3FC48605#32 ((8388608 / 5463681 : ℝ) : EReal)
  ∧ IdealRules.named_const.Statement Cert.AdamKvAdaIdeal.κ "c2" .f32 0x42C8E6D3#32 ((268435456 / 2672307 : ℝ) : EReal)

def algebraic_AdamKvAdaIdeal_AdamKvAdaRefIdeal [hAdamKvAdaIdeal : Cert.AdamKvAdaIdeal.Facts] [hAdamKvAdaRefIdeal : Cert.AdamKvAdaRefIdeal.Facts] : Prop :=
  ∀ (m : (ℓ : Loc Cert.AdamKvAdaIdeal.nD Cert.AdamKvAdaIdeal.τ Cert.AdamKvAdaIdeal.sig) → Buf (Elt Ideal) ℓ) (g : Dev Cert.AdamKvAdaIdeal.nD → PrngReg)
    (m' : (ℓ : Loc Cert.AdamKvAdaRefIdeal.nD Cert.AdamKvAdaRefIdeal.τ Cert.AdamKvAdaRefIdeal.sig) → Buf (Elt Ideal) ℓ) (g' : Dev Cert.AdamKvAdaRefIdeal.nD → PrngReg), Pre_AdamKvAdaIdeal m →
    (∀ c : Dev Cert.AdamKvAdaIdeal.nD,
      m' ((c.tc : Thread Cert.AdamKvAdaRefIdeal.nD Cert.AdamKvAdaRefIdeal.τ).loc Cert.AdamKvAdaRefIdeal.main_arg0) = m ((c.tc : Thread Cert.AdamKvAdaIdeal.nD Cert.AdamKvAdaIdeal.τ).loc Cert.AdamKvAdaIdeal.main_arg0)
      ∧ m' ((c.tc : Thread Cert.AdamKvAdaRefIdeal.nD Cert.AdamKvAdaRefIdeal.τ).loc Cert.AdamKvAdaRefIdeal.main_arg1) = m ((c.tc : Thread Cert.AdamKvAdaIdeal.nD Cert.AdamKvAdaIdeal.τ).loc Cert.AdamKvAdaIdeal.main_arg1)
      ∧ m' ((c.tc : Thread Cert.AdamKvAdaRefIdeal.nD Cert.AdamKvAdaRefIdeal.τ).loc Cert.AdamKvAdaRefIdeal.main_arg2) = m ((c.tc : Thread Cert.AdamKvAdaIdeal.nD Cert.AdamKvAdaIdeal.τ).loc Cert.AdamKvAdaIdeal.main_arg2)
      ∧ m' ((c.tc : Thread Cert.AdamKvAdaRefIdeal.nD Cert.AdamKvAdaRefIdeal.τ).loc Cert.AdamKvAdaRefIdeal.main_arg3) = m ((c.tc : Thread Cert.AdamKvAdaIdeal.nD Cert.AdamKvAdaIdeal.τ).loc Cert.AdamKvAdaIdeal.main_arg3)) →
    ∃ (v0 : (c : Dev Cert.AdamKvAdaIdeal.nD) → Buf (Elt Ideal) ((c.tc : Thread Cert.AdamKvAdaIdeal.nD Cert.AdamKvAdaIdeal.τ).loc Cert.AdamKvAdaIdeal.main_v0_0)) (v1 : (c : Dev Cert.AdamKvAdaIdeal.nD) → Buf (Elt Ideal) ((c.tc : Thread Cert.AdamKvAdaIdeal.nD Cert.AdamKvAdaIdeal.τ).loc Cert.AdamKvAdaIdeal.main_v0_1)) (v2 : (c : Dev Cert.AdamKvAdaIdeal.nD) → Buf (Elt Ideal) ((c.tc : Thread Cert.AdamKvAdaIdeal.nD Cert.AdamKvAdaIdeal.τ).loc Cert.AdamKvAdaIdeal.main_v0_2)) (v3 : (c : Dev Cert.AdamKvAdaIdeal.nD) → Buf (Elt Ideal) ((c.tc : Thread Cert.AdamKvAdaIdeal.nD Cert.AdamKvAdaIdeal.τ).loc Cert.AdamKvAdaIdeal.main_v0_3)),
      θ_run (Cert.AdamKvAdaIdeal.defs (F := Ideal)) (onTc (τ := Cert.AdamKvAdaIdeal.τ) (Cert.AdamKvAdaIdeal.main (F := Ideal))) ⟨m, fun _ => 0, g⟩ (fun r => ∀ c : Dev Cert.AdamKvAdaIdeal.nD,
          r.2.mem ((c.tc : Thread Cert.AdamKvAdaIdeal.nD Cert.AdamKvAdaIdeal.τ).loc Cert.AdamKvAdaIdeal.main_v0_0) = v0 c
          ∧ r.2.mem ((c.tc : Thread Cert.AdamKvAdaIdeal.nD Cert.AdamKvAdaIdeal.τ).loc Cert.AdamKvAdaIdeal.main_v0_1) = v1 c
          ∧ r.2.mem ((c.tc : Thread Cert.AdamKvAdaIdeal.nD Cert.AdamKvAdaIdeal.τ).loc Cert.AdamKvAdaIdeal.main_v0_2) = v2 c
          ∧ r.2.mem ((c.tc : Thread Cert.AdamKvAdaIdeal.nD Cert.AdamKvAdaIdeal.τ).loc Cert.AdamKvAdaIdeal.main_v0_3) = v3 c
          ∧ r.2.mem ((c.tc : Thread Cert.AdamKvAdaIdeal.nD Cert.AdamKvAdaIdeal.τ).loc Cert.AdamKvAdaIdeal.main_arg0) = m ((c.tc : Thread Cert.AdamKvAdaIdeal.nD Cert.AdamKvAdaIdeal.τ).loc Cert.AdamKvAdaIdeal.main_arg0)
          ∧ r.2.mem ((c.tc : Thread Cert.AdamKvAdaIdeal.nD Cert.AdamKvAdaIdeal.τ).loc Cert.AdamKvAdaIdeal.main_arg1) = m ((c.tc : Thread Cert.AdamKvAdaIdeal.nD Cert.AdamKvAdaIdeal.τ).loc Cert.AdamKvAdaIdeal.main_arg1)
          ∧ r.2.mem ((c.tc : Thread Cert.AdamKvAdaIdeal.nD Cert.AdamKvAdaIdeal.τ).loc Cert.AdamKvAdaIdeal.main_arg2) = m ((c.tc : Thread Cert.AdamKvAdaIdeal.nD Cert.AdamKvAdaIdeal.τ).loc Cert.AdamKvAdaIdeal.main_arg2)
          ∧ r.2.mem ((c.tc : Thread Cert.AdamKvAdaIdeal.nD Cert.AdamKvAdaIdeal.τ).loc Cert.AdamKvAdaIdeal.main_arg3) = m ((c.tc : Thread Cert.AdamKvAdaIdeal.nD Cert.AdamKvAdaIdeal.τ).loc Cert.AdamKvAdaIdeal.main_arg3))
      ∧ θ_run (Cert.AdamKvAdaRefIdeal.defs (F := Ideal)) (onTc (τ := Cert.AdamKvAdaRefIdeal.τ) (Cert.AdamKvAdaRefIdeal.main (F := Ideal))) ⟨m', fun _ => 0, g'⟩ (fun r => ∀ c : Dev Cert.AdamKvAdaRefIdeal.nD,
          r.2.mem ((c.tc : Thread Cert.AdamKvAdaRefIdeal.nD Cert.AdamKvAdaRefIdeal.τ).loc Cert.AdamKvAdaRefIdeal.main_v0) = v0 c
          ∧ r.2.mem ((c.tc : Thread Cert.AdamKvAdaRefIdeal.nD Cert.AdamKvAdaRefIdeal.τ).loc Cert.AdamKvAdaRefIdeal.main_v24) = v1 c
          ∧ r.2.mem ((c.tc : Thread Cert.AdamKvAdaRefIdeal.nD Cert.AdamKvAdaRefIdeal.τ).loc Cert.AdamKvAdaRefIdeal.main_v5) = v2 c
          ∧ r.2.mem ((c.tc : Thread Cert.AdamKvAdaRefIdeal.nD Cert.AdamKvAdaRefIdeal.τ).loc Cert.AdamKvAdaRefIdeal.main_v11) = v3 c
          ∧ r.2.mem ((c.tc : Thread Cert.AdamKvAdaRefIdeal.nD Cert.AdamKvAdaRefIdeal.τ).loc Cert.AdamKvAdaRefIdeal.main_arg0) = m' ((c.tc : Thread Cert.AdamKvAdaRefIdeal.nD Cert.AdamKvAdaRefIdeal.τ).loc Cert.AdamKvAdaRefIdeal.main_arg0)
          ∧ r.2.mem ((c.tc : Thread Cert.AdamKvAdaRefIdeal.nD Cert.AdamKvAdaRefIdeal.τ).loc Cert.AdamKvAdaRefIdeal.main_arg1) = m' ((c.tc : Thread Cert.AdamKvAdaRefIdeal.nD Cert.AdamKvAdaRefIdeal.τ).loc Cert.AdamKvAdaRefIdeal.main_arg1)
          ∧ r.2.mem ((c.tc : Thread Cert.AdamKvAdaRefIdeal.nD Cert.AdamKvAdaRefIdeal.τ).loc Cert.AdamKvAdaRefIdeal.main_arg2) = m' ((c.tc : Thread Cert.AdamKvAdaRefIdeal.nD Cert.AdamKvAdaRefIdeal.τ).loc Cert.AdamKvAdaRefIdeal.main_arg2)
          ∧ r.2.mem ((c.tc : Thread Cert.AdamKvAdaRefIdeal.nD Cert.AdamKvAdaRefIdeal.τ).loc Cert.AdamKvAdaRefIdeal.main_arg3) = m' ((c.tc : Thread Cert.AdamKvAdaRefIdeal.nD Cert.AdamKvAdaRefIdeal.τ).loc Cert.AdamKvAdaRefIdeal.main_arg3))

def preserves_AdamSmall_AdamSmallIdeal : Prop :=
  IdealRules.named_const.Statement Cert.AdamSmallIdeal.κ "c1" .f32 0x3FC48605#32 ((8388608 / 5463681 : ℝ) : EReal)
  ∧ IdealRules.named_const.Statement Cert.AdamSmallIdeal.κ "c2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_ModAda_ModAdaIdeal : Prop :=
  True

def algebraic_ModAdaIdeal_ModAdaRefIdeal [hModAdaIdeal : Cert.ModAdaIdeal.Facts] [hModAdaRefIdeal : Cert.ModAdaRefIdeal.Facts] : Prop :=
  ∀ (m : (ℓ : Loc Cert.ModAdaIdeal.nD Cert.ModAdaIdeal.τ Cert.ModAdaIdeal.sig) → Buf (Elt Ideal) ℓ) (g : Dev Cert.ModAdaIdeal.nD → PrngReg)
    (m' : (ℓ : Loc Cert.ModAdaRefIdeal.nD Cert.ModAdaRefIdeal.τ Cert.ModAdaRefIdeal.sig) → Buf (Elt Ideal) ℓ) (g' : Dev Cert.ModAdaRefIdeal.nD → PrngReg), Pre_ModAdaIdeal m →
    (∀ c : Dev Cert.ModAdaIdeal.nD,
      m' ((c.tc : Thread Cert.ModAdaRefIdeal.nD Cert.ModAdaRefIdeal.τ).loc Cert.ModAdaRefIdeal.main_arg0) = m ((c.tc : Thread Cert.ModAdaIdeal.nD Cert.ModAdaIdeal.τ).loc Cert.ModAdaIdeal.main_arg0)
      ∧ m' ((c.tc : Thread Cert.ModAdaRefIdeal.nD Cert.ModAdaRefIdeal.τ).loc Cert.ModAdaRefIdeal.main_arg1) = m ((c.tc : Thread Cert.ModAdaIdeal.nD Cert.ModAdaIdeal.τ).loc Cert.ModAdaIdeal.main_arg1)) →
    ∃ (v0 : (c : Dev Cert.ModAdaIdeal.nD) → Buf (Elt Ideal) ((c.tc : Thread Cert.ModAdaIdeal.nD Cert.ModAdaIdeal.τ).loc Cert.ModAdaIdeal.main_v0)),
      θ_run (Cert.ModAdaIdeal.defs (F := Ideal)) (onTc (τ := Cert.ModAdaIdeal.τ) (Cert.ModAdaIdeal.main (F := Ideal))) ⟨m, fun _ => 0, g⟩ (fun r => ∀ c : Dev Cert.ModAdaIdeal.nD,
          r.2.mem ((c.tc : Thread Cert.ModAdaIdeal.nD Cert.ModAdaIdeal.τ).loc Cert.ModAdaIdeal.main_v0) = v0 c
          ∧ r.2.mem ((c.tc : Thread Cert.ModAdaIdeal.nD Cert.ModAdaIdeal.τ).loc Cert.ModAdaIdeal.main_arg0) = m ((c.tc : Thread Cert.ModAdaIdeal.nD Cert.ModAdaIdeal.τ).loc Cert.ModAdaIdeal.main_arg0)
          ∧ r.2.mem ((c.tc : Thread Cert.ModAdaIdeal.nD Cert.ModAdaIdeal.τ).loc Cert.ModAdaIdeal.main_arg1) = m ((c.tc : Thread Cert.ModAdaIdeal.nD Cert.ModAdaIdeal.τ).loc Cert.ModAdaIdeal.main_arg1))
      ∧ θ_run (Cert.ModAdaRefIdeal.defs (F := Ideal)) (onTc (τ := Cert.ModAdaRefIdeal.τ) (Cert.ModAdaRefIdeal.main (F := Ideal))) ⟨m', fun _ => 0, g'⟩ (fun r => ∀ c : Dev Cert.ModAdaRefIdeal.nD,
          r.2.mem ((c.tc : Thread Cert.ModAdaRefIdeal.nD Cert.ModAdaRefIdeal.τ).loc Cert.ModAdaRefIdeal.main_v1) = v0 c
          ∧ r.2.mem ((c.tc : Thread Cert.ModAdaRefIdeal.nD Cert.ModAdaRefIdeal.τ).loc Cert.ModAdaRefIdeal.main_arg0) = m' ((c.tc : Thread Cert.ModAdaRefIdeal.nD Cert.ModAdaRefIdeal.τ).loc Cert.ModAdaRefIdeal.main_arg0)
          ∧ r.2.mem ((c.tc : Thread Cert.ModAdaRefIdeal.nD Cert.ModAdaRefIdeal.τ).loc Cert.ModAdaRefIdeal.main_arg1) = m' ((c.tc : Thread Cert.ModAdaRefIdeal.nD Cert.ModAdaRefIdeal.τ).loc Cert.ModAdaRefIdeal.main_arg1))

def preserves_ModKv_ModKvIdeal : Prop :=
  True

def algebraic_ModKvIdeal_ModKvRefIdeal [hModKvIdeal : Cert.ModKvIdeal.Facts] [hModKvRefIdeal : Cert.ModKvRefIdeal.Facts] : Prop :=
  ∀ (m : (ℓ : Loc Cert.ModKvIdeal.nD Cert.ModKvIdeal.τ Cert.ModKvIdeal.sig) → Buf (Elt Ideal) ℓ) (g : Dev Cert.ModKvIdeal.nD → PrngReg)
    (m' : (ℓ : Loc Cert.ModKvRefIdeal.nD Cert.ModKvRefIdeal.τ Cert.ModKvRefIdeal.sig) → Buf (Elt Ideal) ℓ) (g' : Dev Cert.ModKvRefIdeal.nD → PrngReg), Pre_ModKvIdeal m →
    (∀ c : Dev Cert.ModKvIdeal.nD,
      m' ((c.tc : Thread Cert.ModKvRefIdeal.nD Cert.ModKvRefIdeal.τ).loc Cert.ModKvRefIdeal.main_arg0) = m ((c.tc : Thread Cert.ModKvIdeal.nD Cert.ModKvIdeal.τ).loc Cert.ModKvIdeal.main_arg0)
      ∧ m' ((c.tc : Thread Cert.ModKvRefIdeal.nD Cert.ModKvRefIdeal.τ).loc Cert.ModKvRefIdeal.main_arg1) = m ((c.tc : Thread Cert.ModKvIdeal.nD Cert.ModKvIdeal.τ).loc Cert.ModKvIdeal.main_arg1)) →
    ∃ (v0 : (c : Dev Cert.ModKvIdeal.nD) → Buf (Elt Ideal) ((c.tc : Thread Cert.ModKvIdeal.nD Cert.ModKvIdeal.τ).loc Cert.ModKvIdeal.main_v0)),
      θ_run (Cert.ModKvIdeal.defs (F := Ideal)) (onTc (τ := Cert.ModKvIdeal.τ) (Cert.ModKvIdeal.main (F := Ideal))) ⟨m, fun _ => 0, g⟩ (fun r => ∀ c : Dev Cert.ModKvIdeal.nD,
          r.2.mem ((c.tc : Thread Cert.ModKvIdeal.nD Cert.ModKvIdeal.τ).loc Cert.ModKvIdeal.main_v0) = v0 c
          ∧ r.2.mem ((c.tc : Thread Cert.ModKvIdeal.nD Cert.ModKvIdeal.τ).loc Cert.ModKvIdeal.main_arg0) = m ((c.tc : Thread Cert.ModKvIdeal.nD Cert.ModKvIdeal.τ).loc Cert.ModKvIdeal.main_arg0)
          ∧ r.2.mem ((c.tc : Thread Cert.ModKvIdeal.nD Cert.ModKvIdeal.τ).loc Cert.ModKvIdeal.main_arg1) = m ((c.tc : Thread Cert.ModKvIdeal.nD Cert.ModKvIdeal.τ).loc Cert.ModKvIdeal.main_arg1))
      ∧ θ_run (Cert.ModKvRefIdeal.defs (F := Ideal)) (onTc (τ := Cert.ModKvRefIdeal.τ) (Cert.ModKvRefIdeal.main (F := Ideal))) ⟨m', fun _ => 0, g'⟩ (fun r => ∀ c : Dev Cert.ModKvRefIdeal.nD,
          r.2.mem ((c.tc : Thread Cert.ModKvRefIdeal.nD Cert.ModKvRefIdeal.τ).loc Cert.ModKvRefIdeal.main_v1) = v0 c
          ∧ r.2.mem ((c.tc : Thread Cert.ModKvRefIdeal.nD Cert.ModKvRefIdeal.τ).loc Cert.ModKvRefIdeal.main_arg0) = m' ((c.tc : Thread Cert.ModKvRefIdeal.nD Cert.ModKvRefIdeal.τ).loc Cert.ModKvRefIdeal.main_arg0)
          ∧ r.2.mem ((c.tc : Thread Cert.ModKvRefIdeal.nD Cert.ModKvRefIdeal.τ).loc Cert.ModKvRefIdeal.main_arg1) = m' ((c.tc : Thread Cert.ModKvRefIdeal.nD Cert.ModKvRefIdeal.τ).loc Cert.ModKvRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v30) = v0 c
          ∧ r.2.mem ((c.tc : Thread Cert.LossRefIdeal.nD Cert.LossRefIdeal.τ).loc Cert.LossRefIdeal.main_v37) = v1 c
          ∧ r.2.mem ((c.tc : Thread Cert.LossRefIdeal.nD Cert.LossRefIdeal.τ).loc Cert.LossRefIdeal.main_v42) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)
      ∧ m' ((c.tc : Thread Cert.NormGradRefIdeal.nD Cert.NormGradRefIdeal.τ).loc Cert.NormGradRefIdeal.main_arg4) = m ((c.tc : Thread Cert.NormGradIdeal.nD Cert.NormGradIdeal.τ).loc Cert.NormGradIdeal.main_arg4)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)) (v2 : (c : Dev Cert.NormGradIdeal.nD) → Buf (Elt Ideal) ((c.tc : Thread Cert.NormGradIdeal.nD Cert.NormGradIdeal.τ).loc Cert.NormGradIdeal.main_v0_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_v0_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v27) = v0 c
          ∧ r.2.mem ((c.tc : Thread Cert.NormGradRefIdeal.nD Cert.NormGradRefIdeal.τ).loc Cert.NormGradRefIdeal.main_v29) = v1 c
          ∧ r.2.mem ((c.tc : Thread Cert.NormGradRefIdeal.nD Cert.NormGradRefIdeal.τ).loc Cert.NormGradRefIdeal.main_v34) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3)
          ∧ r.2.mem ((c.tc : Thread Cert.NormGradRefIdeal.nD Cert.NormGradRefIdeal.τ).loc Cert.NormGradRefIdeal.main_arg4) = m' ((c.tc : Thread Cert.NormGradRefIdeal.nD Cert.NormGradRefIdeal.τ).loc Cert.NormGradRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v18) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_ProjAda_ProjAdaIdeal : Prop :=
  True

def algebraic_ProjAdaIdeal_ProjAdaRefIdeal [hProjAdaIdeal : Cert.ProjAdaIdeal.Facts] [hProjAdaRefIdeal : Cert.ProjAdaRefIdeal.Facts] : Prop :=
  ∀ (m : (ℓ : Loc Cert.ProjAdaIdeal.nD Cert.ProjAdaIdeal.τ Cert.ProjAdaIdeal.sig) → Buf (Elt Ideal) ℓ) (g : Dev Cert.ProjAdaIdeal.nD → PrngReg)
    (m' : (ℓ : Loc Cert.ProjAdaRefIdeal.nD Cert.ProjAdaRefIdeal.τ Cert.ProjAdaRefIdeal.sig) → Buf (Elt Ideal) ℓ) (g' : Dev Cert.ProjAdaRefIdeal.nD → PrngReg), Pre_ProjAdaIdeal m →
    (∀ c : Dev Cert.ProjAdaIdeal.nD,
      m' ((c.tc : Thread Cert.ProjAdaRefIdeal.nD Cert.ProjAdaRefIdeal.τ).loc Cert.ProjAdaRefIdeal.main_arg0) = m ((c.tc : Thread Cert.ProjAdaIdeal.nD Cert.ProjAdaIdeal.τ).loc Cert.ProjAdaIdeal.main_arg0)
      ∧ m' ((c.tc : Thread Cert.ProjAdaRefIdeal.nD Cert.ProjAdaRefIdeal.τ).loc Cert.ProjAdaRefIdeal.main_arg1) = m ((c.tc : Thread Cert.ProjAdaIdeal.nD Cert.ProjAdaIdeal.τ).loc Cert.ProjAdaIdeal.main_arg1)) →
    ∃ (v0 : (c : Dev Cert.ProjAdaIdeal.nD) → Buf (Elt Ideal) ((c.tc : Thread Cert.ProjAdaIdeal.nD Cert.ProjAdaIdeal.τ).loc Cert.ProjAdaIdeal.main_v0)),
      θ_run (Cert.ProjAdaIdeal.defs (F := Ideal)) (onTc (τ := Cert.ProjAdaIdeal.τ) (Cert.ProjAdaIdeal.main (F := Ideal))) ⟨m, fun _ => 0, g⟩ (fun r => ∀ c : Dev Cert.ProjAdaIdeal.nD,
          r.2.mem ((c.tc : Thread Cert.ProjAdaIdeal.nD Cert.ProjAdaIdeal.τ).loc Cert.ProjAdaIdeal.main_v0) = v0 c
          ∧ r.2.mem ((c.tc : Thread Cert.ProjAdaIdeal.nD Cert.ProjAdaIdeal.τ).loc Cert.ProjAdaIdeal.main_arg0) = m ((c.tc : Thread Cert.ProjAdaIdeal.nD Cert.ProjAdaIdeal.τ).loc Cert.ProjAdaIdeal.main_arg0)
          ∧ r.2.mem ((c.tc : Thread Cert.ProjAdaIdeal.nD Cert.ProjAdaIdeal.τ).loc Cert.ProjAdaIdeal.main_arg1) = m ((c.tc : Thread Cert.ProjAdaIdeal.nD Cert.ProjAdaIdeal.τ).loc Cert.ProjAdaIdeal.main_arg1))
      ∧ θ_run (Cert.ProjAdaRefIdeal.defs (F := Ideal)) (onTc (τ := Cert.ProjAdaRefIdeal.τ) (Cert.ProjAdaRefIdeal.main (F := Ideal))) ⟨m', fun _ => 0, g'⟩ (fun r => ∀ c : Dev Cert.ProjAdaRefIdeal.nD,
          r.2.mem ((c.tc : Thread Cert.ProjAdaRefIdeal.nD Cert.ProjAdaRefIdeal.τ).loc Cert.ProjAdaRefIdeal.main_v1) = v0 c
          ∧ r.2.mem ((c.tc : Thread Cert.ProjAdaRefIdeal.nD Cert.ProjAdaRefIdeal.τ).loc Cert.ProjAdaRefIdeal.main_arg0) = m' ((c.tc : Thread Cert.ProjAdaRefIdeal.nD Cert.ProjAdaRefIdeal.τ).loc Cert.ProjAdaRefIdeal.main_arg0)
          ∧ r.2.mem ((c.tc : Thread Cert.ProjAdaRefIdeal.nD Cert.ProjAdaRefIdeal.τ).loc Cert.ProjAdaRefIdeal.main_arg1) = m' ((c.tc : Thread Cert.ProjAdaRefIdeal.nD Cert.ProjAdaRefIdeal.τ).loc Cert.ProjAdaRefIdeal.main_arg1))

def preserves_ProjKv_ProjKvIdeal : Prop :=
  True

def algebraic_ProjKvIdeal_ProjKvRefIdeal [hProjKvIdeal : Cert.ProjKvIdeal.Facts] [hProjKvRefIdeal : Cert.ProjKvRefIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvRefIdeal.nD Cert.ProjKvRefIdeal.τ Cert.ProjKvRefIdeal.sig) → Buf (Elt Ideal) ℓ) (g' : Dev Cert.ProjKvRefIdeal.nD → PrngReg), Pre_ProjKvIdeal m →
    (∀ c : Dev Cert.ProjKvIdeal.nD,
      m' ((c.tc : Thread Cert.ProjKvRefIdeal.nD Cert.ProjKvRefIdeal.τ).loc Cert.ProjKvRefIdeal.main_arg0) = m ((c.tc : Thread Cert.ProjKvIdeal.nD Cert.ProjKvIdeal.τ).loc Cert.ProjKvIdeal.main_arg0)
      ∧ m' ((c.tc : Thread Cert.ProjKvRefIdeal.nD Cert.ProjKvRefIdeal.τ).loc Cert.ProjKvRefIdeal.main_arg1) = m ((c.tc : Thread Cert.ProjKvIdeal.nD Cert.ProjKvIdeal.τ).loc Cert.ProjKvIdeal.main_arg1)) →
    ∃ (v0 : (c : Dev Cert.ProjKvIdeal.nD) → Buf (Elt Ideal) ((c.tc : Thread Cert.ProjKvIdeal.nD Cert.ProjKvIdeal.τ).loc Cert.ProjKvIdeal.main_v0)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v0) = v0 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ θ_run (Cert.ProjKvRefIdeal.defs (F := Ideal)) (onTc (τ := Cert.ProjKvRefIdeal.τ) (Cert.ProjKvRefIdeal.main (F := Ideal))) ⟨m', fun _ => 0, g'⟩ (fun r => ∀ c : Dev Cert.ProjKvRefIdeal.nD,
          r.2.mem ((c.tc : Thread Cert.ProjKvRefIdeal.nD Cert.ProjKvRefIdeal.τ).loc Cert.ProjKvRefIdeal.main_v1) = v0 c
          ∧ r.2.mem ((c.tc : Thread Cert.ProjKvRefIdeal.nD Cert.ProjKvRefIdeal.τ).loc Cert.ProjKvRefIdeal.main_arg0) = m' ((c.tc : Thread Cert.ProjKvRefIdeal.nD Cert.ProjKvRefIdeal.τ).loc Cert.ProjKvRefIdeal.main_arg0)
          ∧ r.2.mem ((c.tc : Thread Cert.ProjKvRefIdeal.nD Cert.ProjKvRefIdeal.τ).loc Cert.ProjKvRefIdeal.main_arg1) = m' ((c.tc : Thread Cert.ProjKvRefIdeal.nD Cert.ProjKvRefIdeal.τ).loc Cert.ProjKvRefIdeal.main_arg1))

def preserves_MulIn_MulInIdeal : Prop :=
  True

def algebraic_MulInIdeal_MulInRefIdeal [hMulInIdeal : Cert.MulInIdeal.Facts] [hMulInRefIdeal : Cert.MulInRefIdeal.Facts] : Prop :=
  ∀ (m : (ℓ : Loc Cert.MulInIdeal.nD Cert.MulInIdeal.τ Cert.MulInIdeal.sig) → Buf (Elt Ideal) ℓ) (g : Dev Cert.MulInIdeal.nD → PrngReg)
    (m' : (ℓ : Loc Cert.MulInRefIdeal.nD Cert.MulInRefIdeal.τ Cert.MulInRefIdeal.sig) → Buf (Elt Ideal) ℓ) (g' : Dev Cert.MulInRefIdeal.nD → PrngReg), Pre_MulInIdeal m →
    (∀ c : Dev Cert.MulInIdeal.nD,
      m' ((c.tc : Thread Cert.MulInRefIdeal.nD Cert.MulInRefIdeal.τ).loc Cert.MulInRefIdeal.main_arg0) = m ((c.tc : Thread Cert.MulInIdeal.nD Cert.MulInIdeal.τ).loc Cert.MulInIdeal.main_arg0)
      ∧ m' ((c.tc : Thread Cert.MulInRefIdeal.nD Cert.MulInRefIdeal.τ).loc Cert.MulInRefIdeal.main_arg1) = m ((c.tc : Thread Cert.MulInIdeal.nD Cert.MulInIdeal.τ).loc Cert.MulInIdeal.main_arg1)) →
    ∃ (v0 : (c : Dev Cert.MulInIdeal.nD) → Buf (Elt Ideal) ((c.tc : Thread Cert.MulInIdeal.nD Cert.MulInIdeal.τ).loc Cert.MulInIdeal.main_v0)),
      θ_run (Cert.MulInIdeal.defs (F := Ideal)) (onTc (τ := Cert.MulInIdeal.τ) (Cert.MulInIdeal.main (F := Ideal))) ⟨m, fun _ => 0, g⟩ (fun r => ∀ c : Dev Cert.MulInIdeal.nD,
          r.2.mem ((c.tc : Thread Cert.MulInIdeal.nD Cert.MulInIdeal.τ).loc Cert.MulInIdeal.main_v0) = v0 c
          ∧ r.2.mem ((c.tc : Thread Cert.MulInIdeal.nD Cert.MulInIdeal.τ).loc Cert.MulInIdeal.main_arg0) = m ((c.tc : Thread Cert.MulInIdeal.nD Cert.MulInIdeal.τ).loc Cert.MulInIdeal.main_arg0)
          ∧ r.2.mem ((c.tc : Thread Cert.MulInIdeal.nD Cert.MulInIdeal.τ).loc Cert.MulInIdeal.main_arg1) = m ((c.tc : Thread Cert.MulInIdeal.nD Cert.MulInIdeal.τ).loc Cert.MulInIdeal.main_arg1))
      ∧ θ_run (Cert.MulInRefIdeal.defs (F := Ideal)) (onTc (τ := Cert.MulInRefIdeal.τ) (Cert.MulInRefIdeal.main (F := Ideal))) ⟨m', fun _ => 0, g'⟩ (fun r => ∀ c : Dev Cert.MulInRefIdeal.nD,
          r.2.mem ((c.tc : Thread Cert.MulInRefIdeal.nD Cert.MulInRefIdeal.τ).loc Cert.MulInRefIdeal.main_v2) = v0 c
          ∧ r.2.mem ((c.tc : Thread Cert.MulInRefIdeal.nD Cert.MulInRefIdeal.τ).loc Cert.MulInRefIdeal.main_arg0) = m' ((c.tc : Thread Cert.MulInRefIdeal.nD Cert.MulInRefIdeal.τ).loc Cert.MulInRefIdeal.main_arg0)
          ∧ r.2.mem ((c.tc : Thread Cert.MulInRefIdeal.nD Cert.MulInRefIdeal.τ).loc Cert.MulInRefIdeal.main_arg1) = m' ((c.tc : Thread Cert.MulInRefIdeal.nD Cert.MulInRefIdeal.τ).loc Cert.MulInRefIdeal.main_arg1))

def preserves_MulQuery_MulQueryIdeal : Prop :=
  True

def algebraic_MulQueryIdeal_MulQueryRefIdeal [hMulQueryIdeal : Cert.MulQueryIdeal.Facts] [hMulQueryRefIdeal : Cert.MulQueryRefIdeal.Facts] : Prop :=
  ∀ (m : (ℓ : Loc Cert.MulQueryIdeal.nD Cert.MulQueryIdeal.τ Cert.MulQueryIdeal.sig) → Buf (Elt Ideal) ℓ) (g : Dev Cert.MulQueryIdeal.nD → PrngReg)
    (m' : (ℓ : Loc Cert.MulQueryRefIdeal.nD Cert.MulQueryRefIdeal.τ Cert.MulQueryRefIdeal.sig) → Buf (Elt Ideal) ℓ) (g' : Dev Cert.MulQueryRefIdeal.nD → PrngReg), Pre_MulQueryIdeal m →
    (∀ c : Dev Cert.MulQueryIdeal.nD,
      m' ((c.tc : Thread Cert.MulQueryRefIdeal.nD Cert.MulQueryRefIdeal.τ).loc Cert.MulQueryRefIdeal.main_arg0) = m ((c.tc : Thread Cert.MulQueryIdeal.nD Cert.MulQueryIdeal.τ).loc Cert.MulQueryIdeal.main_arg0)
      ∧ m' ((c.tc : Thread Cert.MulQueryRefIdeal.nD Cert.MulQueryRefIdeal.τ).loc Cert.MulQueryRefIdeal.main_arg1) = m ((c.tc : Thread Cert.MulQueryIdeal.nD Cert.MulQueryIdeal.τ).loc Cert.MulQueryIdeal.main_arg1)) →
    ∃ (v0 : (c : Dev Cert.MulQueryIdeal.nD) → Buf (Elt Ideal) ((c.tc : Thread Cert.MulQueryIdeal.nD Cert.MulQueryIdeal.τ).loc Cert.MulQueryIdeal.main_v0)),
      θ_run (Cert.MulQueryIdeal.defs (F := Ideal)) (onTc (τ := Cert.MulQueryIdeal.τ) (Cert.MulQueryIdeal.main (F := Ideal))) ⟨m, fun _ => 0, g⟩ (fun r => ∀ c : Dev Cert.MulQueryIdeal.nD,
          r.2.mem ((c.tc : Thread Cert.MulQueryIdeal.nD Cert.MulQueryIdeal.τ).loc Cert.MulQueryIdeal.main_v0) = v0 c
          ∧ r.2.mem ((c.tc : Thread Cert.MulQueryIdeal.nD Cert.MulQueryIdeal.τ).loc Cert.MulQueryIdeal.main_arg0) = m ((c.tc : Thread Cert.MulQueryIdeal.nD Cert.MulQueryIdeal.τ).loc Cert.MulQueryIdeal.main_arg0)
          ∧ r.2.mem ((c.tc : Thread Cert.MulQueryIdeal.nD Cert.MulQueryIdeal.τ).loc Cert.MulQueryIdeal.main_arg1) = m ((c.tc : Thread Cert.MulQueryIdeal.nD Cert.MulQueryIdeal.τ).loc Cert.MulQueryIdeal.main_arg1))
      ∧ θ_run (Cert.MulQueryRefIdeal.defs (F := Ideal)) (onTc (τ := Cert.MulQueryRefIdeal.τ) (Cert.MulQueryRefIdeal.main (F := Ideal))) ⟨m', fun _ => 0, g'⟩ (fun r => ∀ c : Dev Cert.MulQueryRefIdeal.nD,
          r.2.mem ((c.tc : Thread Cert.MulQueryRefIdeal.nD Cert.MulQueryRefIdeal.τ).loc Cert.MulQueryRefIdeal.main_v3) = v0 c
          ∧ r.2.mem ((c.tc : Thread Cert.MulQueryRefIdeal.nD Cert.MulQueryRefIdeal.τ).loc Cert.MulQueryRefIdeal.main_arg0) = m' ((c.tc : Thread Cert.MulQueryRefIdeal.nD Cert.MulQueryRefIdeal.τ).loc Cert.MulQueryRefIdeal.main_arg0)
          ∧ r.2.mem ((c.tc : Thread Cert.MulQueryRefIdeal.nD Cert.MulQueryRefIdeal.τ).loc Cert.MulQueryRefIdeal.main_arg1) = m' ((c.tc : Thread Cert.MulQueryRefIdeal.nD Cert.MulQueryRefIdeal.τ).loc Cert.MulQueryRefIdeal.main_arg1))

def preserves_MulKv_MulKvIdeal : Prop :=
  True

def algebraic_MulKvIdeal_MulKvRefIdeal [hMulKvIdeal : Cert.MulKvIdeal.Facts] [hMulKvRefIdeal : Cert.MulKvRefIdeal.Facts] : Prop :=
  ∀ (m : (ℓ : Loc Cert.MulKvIdeal.nD Cert.MulKvIdeal.τ Cert.MulKvIdeal.sig) → Buf (Elt Ideal) ℓ) (g : Dev Cert.MulKvIdeal.nD → PrngReg)
    (m' : (ℓ : Loc Cert.MulKvRefIdeal.nD Cert.MulKvRefIdeal.τ Cert.MulKvRefIdeal.sig) → Buf (Elt Ideal) ℓ) (g' : Dev Cert.MulKvRefIdeal.nD → PrngReg), Pre_MulKvIdeal m →
    (∀ c : Dev Cert.MulKvIdeal.nD,
      m' ((c.tc : Thread Cert.MulKvRefIdeal.nD Cert.MulKvRefIdeal.τ).loc Cert.MulKvRefIdeal.main_arg0) = m ((c.tc : Thread Cert.MulKvIdeal.nD Cert.MulKvIdeal.τ).loc Cert.MulKvIdeal.main_arg0)
      ∧ m' ((c.tc : Thread Cert.MulKvRefIdeal.nD Cert.MulKvRefIdeal.τ).loc Cert.MulKvRefIdeal.main_arg1) = m ((c.tc : Thread Cert.MulKvIdeal.nD Cert.MulKvIdeal.τ).loc Cert.MulKvIdeal.main_arg1)) →
    ∃ (v0 : (c : Dev Cert.MulKvIdeal.nD) → Buf (Elt Ideal) ((c.tc : Thread Cert.MulKvIdeal.nD Cert.MulKvIdeal.τ).loc Cert.MulKvIdeal.main_v0)),
      θ_run (Cert.MulKvIdeal.defs (F := Ideal)) (onTc (τ := Cert.MulKvIdeal.τ) (Cert.MulKvIdeal.main (F := Ideal))) ⟨m, fun _ => 0, g⟩ (fun r => ∀ c : Dev Cert.MulKvIdeal.nD,
          r.2.mem ((c.tc : Thread Cert.MulKvIdeal.nD Cert.MulKvIdeal.τ).loc Cert.MulKvIdeal.main_v0) = v0 c
          ∧ r.2.mem ((c.tc : Thread Cert.MulKvIdeal.nD Cert.MulKvIdeal.τ).loc Cert.MulKvIdeal.main_arg0) = m ((c.tc : Thread Cert.MulKvIdeal.nD Cert.MulKvIdeal.τ).loc Cert.MulKvIdeal.main_arg0)
          ∧ r.2.mem ((c.tc : Thread Cert.MulKvIdeal.nD Cert.MulKvIdeal.τ).loc Cert.MulKvIdeal.main_arg1) = m ((c.tc : Thread Cert.MulKvIdeal.nD Cert.MulKvIdeal.τ).loc Cert.MulKvIdeal.main_arg1))
      ∧ θ_run (Cert.MulKvRefIdeal.defs (F := Ideal)) (onTc (τ := Cert.MulKvRefIdeal.τ) (Cert.MulKvRefIdeal.main (F := Ideal))) ⟨m', fun _ => 0, g'⟩ (fun r => ∀ c : Dev Cert.MulKvRefIdeal.nD,
          r.2.mem ((c.tc : Thread Cert.MulKvRefIdeal.nD Cert.MulKvRefIdeal.τ).loc Cert.MulKvRefIdeal.main_v3) = v0 c
          ∧ r.2.mem ((c.tc : Thread Cert.MulKvRefIdeal.nD Cert.MulKvRefIdeal.τ).loc Cert.MulKvRefIdeal.main_arg0) = m' ((c.tc : Thread Cert.MulKvRefIdeal.nD Cert.MulKvRefIdeal.τ).loc Cert.MulKvRefIdeal.main_arg0)
          ∧ r.2.mem ((c.tc : Thread Cert.MulKvRefIdeal.nD Cert.MulKvRefIdeal.τ).loc Cert.MulKvRefIdeal.main_arg1) = m' ((c.tc : Thread Cert.MulKvRefIdeal.nD Cert.MulKvRefIdeal.τ).loc Cert.MulKvRefIdeal.main_arg1))

def preserves_MulUp_MulUpIdeal : Prop :=
  True

def algebraic_MulUpIdeal_MulUpRefIdeal [hMulUpIdeal : Cert.MulUpIdeal.Facts] [hMulUpRefIdeal : Cert.MulUpRefIdeal.Facts] : Prop :=
  ∀ (m : (ℓ : Loc Cert.MulUpIdeal.nD Cert.MulUpIdeal.τ Cert.MulUpIdeal.sig) → Buf (Elt Ideal) ℓ) (g : Dev Cert.MulUpIdeal.nD → PrngReg)
    (m' : (ℓ : Loc Cert.MulUpRefIdeal.nD Cert.MulUpRefIdeal.τ Cert.MulUpRefIdeal.sig) → Buf (Elt Ideal) ℓ) (g' : Dev Cert.MulUpRefIdeal.nD → PrngReg), Pre_MulUpIdeal m →
    (∀ c : Dev Cert.MulUpIdeal.nD,
      m' ((c.tc : Thread Cert.MulUpRefIdeal.nD Cert.MulUpRefIdeal.τ).loc Cert.MulUpRefIdeal.main_arg0) = m ((c.tc : Thread Cert.MulUpIdeal.nD Cert.MulUpIdeal.τ).loc Cert.MulUpIdeal.main_arg0)
      ∧ m' ((c.tc : Thread Cert.MulUpRefIdeal.nD Cert.MulUpRefIdeal.τ).loc Cert.MulUpRefIdeal.main_arg1) = m ((c.tc : Thread Cert.MulUpIdeal.nD Cert.MulUpIdeal.τ).loc Cert.MulUpIdeal.main_arg1)) →
    ∃ (v0 : (c : Dev Cert.MulUpIdeal.nD) → Buf (Elt Ideal) ((c.tc : Thread Cert.MulUpIdeal.nD Cert.MulUpIdeal.τ).loc Cert.MulUpIdeal.main_v0)),
      θ_run (Cert.MulUpIdeal.defs (F := Ideal)) (onTc (τ := Cert.MulUpIdeal.τ) (Cert.MulUpIdeal.main (F := Ideal))) ⟨m, fun _ => 0, g⟩ (fun r => ∀ c : Dev Cert.MulUpIdeal.nD,
          r.2.mem ((c.tc : Thread Cert.MulUpIdeal.nD Cert.MulUpIdeal.τ).loc Cert.MulUpIdeal.main_v0) = v0 c
          ∧ r.2.mem ((c.tc : Thread Cert.MulUpIdeal.nD Cert.MulUpIdeal.τ).loc Cert.MulUpIdeal.main_arg0) = m ((c.tc : Thread Cert.MulUpIdeal.nD Cert.MulUpIdeal.τ).loc Cert.MulUpIdeal.main_arg0)
          ∧ r.2.mem ((c.tc : Thread Cert.MulUpIdeal.nD Cert.MulUpIdeal.τ).loc Cert.MulUpIdeal.main_arg1) = m ((c.tc : Thread Cert.MulUpIdeal.nD Cert.MulUpIdeal.τ).loc Cert.MulUpIdeal.main_arg1))
      ∧ θ_run (Cert.MulUpRefIdeal.defs (F := Ideal)) (onTc (τ := Cert.MulUpRefIdeal.τ) (Cert.MulUpRefIdeal.main (F := Ideal))) ⟨m', fun _ => 0, g'⟩ (fun r => ∀ c : Dev Cert.MulUpRefIdeal.nD,
          r.2.mem ((c.tc : Thread Cert.MulUpRefIdeal.nD Cert.MulUpRefIdeal.τ).loc Cert.MulUpRefIdeal.main_v3) = v0 c
          ∧ r.2.mem ((c.tc : Thread Cert.MulUpRefIdeal.nD Cert.MulUpRefIdeal.τ).loc Cert.MulUpRefIdeal.main_arg0) = m' ((c.tc : Thread Cert.MulUpRefIdeal.nD Cert.MulUpRefIdeal.τ).loc Cert.MulUpRefIdeal.main_arg0)
          ∧ r.2.mem ((c.tc : Thread Cert.MulUpRefIdeal.nD Cert.MulUpRefIdeal.τ).loc Cert.MulUpRefIdeal.main_arg1) = m' ((c.tc : Thread Cert.MulUpRefIdeal.nD Cert.MulUpRefIdeal.τ).loc Cert.MulUpRefIdeal.main_arg1))

def preserves_DxIn_DxInIdeal : Prop :=
  True

def algebraic_DxInIdeal_DxInRefIdeal [hDxInIdeal : Cert.DxInIdeal.Facts] [hDxInRefIdeal : Cert.DxInRefIdeal.Facts] : Prop :=
  ∀ (m : (ℓ : Loc Cert.DxInIdeal.nD Cert.DxInIdeal.τ Cert.DxInIdeal.sig) → Buf (Elt Ideal) ℓ) (g : Dev Cert.DxInIdeal.nD → PrngReg)
    (m' : (ℓ : Loc Cert.DxInRefIdeal.nD Cert.DxInRefIdeal.τ Cert.DxInRefIdeal.sig) → Buf (Elt Ideal) ℓ) (g' : Dev Cert.DxInRefIdeal.nD → PrngReg), Pre_DxInIdeal m →
    (∀ c : Dev Cert.DxInIdeal.nD,
      m' ((c.tc : Thread Cert.DxInRefIdeal.nD Cert.DxInRefIdeal.τ).loc Cert.DxInRefIdeal.main_arg0) = m ((c.tc : Thread Cert.DxInIdeal.nD Cert.DxInIdeal.τ).loc Cert.DxInIdeal.main_arg0)
      ∧ m' ((c.tc : Thread Cert.DxInRefIdeal.nD Cert.DxInRefIdeal.τ).loc Cert.DxInRefIdeal.main_arg1) = m ((c.tc : Thread Cert.DxInIdeal.nD Cert.DxInIdeal.τ).loc Cert.DxInIdeal.main_arg1)) →
    ∃ (v0 : (c : Dev Cert.DxInIdeal.nD) → Buf (Elt Ideal) ((c.tc : Thread Cert.DxInIdeal.nD Cert.DxInIdeal.τ).loc Cert.DxInIdeal.main_v0)),
      θ_run (Cert.DxInIdeal.defs (F := Ideal)) (onTc (τ := Cert.DxInIdeal.τ) (Cert.DxInIdeal.main (F := Ideal))) ⟨m, fun _ => 0, g⟩ (fun r => ∀ c : Dev Cert.DxInIdeal.nD,
          r.2.mem ((c.tc : Thread Cert.DxInIdeal.nD Cert.DxInIdeal.τ).loc Cert.DxInIdeal.main_v0) = v0 c
          ∧ r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
          ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1))
      ∧ θ_run (Cert.DxInRefIdeal.defs (F := Ideal)) (onTc (τ := Cert.DxInRefIdeal.τ) (Cert.DxInRefIdeal.main (F := Ideal))) ⟨m', fun _ => 0, g'⟩ (fun r => ∀ c : Dev Cert.DxInRefIdeal.nD,
          r.2.mem ((c.tc : Thread Cert.DxInRefIdeal.nD Cert.DxInRefIdeal.τ).loc Cert.DxInRefIdeal.main_v3) = v0 c
          ∧ r.2.mem ((c.tc : Thread Cert.DxInRefIdeal.nD Cert.DxInRefIdeal.τ).loc Cert.DxInRefIdeal.main_arg0) = m' ((c.tc : Thread Cert.DxInRefIdeal.nD Cert.DxInRefIdeal.τ).loc Cert.DxInRefIdeal.main_arg0)
          ∧ r.2.mem ((c.tc : Thread Cert.DxInRefIdeal.nD Cert.DxInRefIdeal.τ).loc Cert.DxInRefIdeal.main_arg1) = m' ((c.tc : Thread Cert.DxInRefIdeal.nD Cert.DxInRefIdeal.τ).loc Cert.DxInRefIdeal.main_arg1))

def preserves_DxOut_DxOutIdeal : Prop :=
  True

def algebraic_DxOutIdeal_DxOutRefIdeal [hDxOutIdeal : Cert.DxOutIdeal.Facts] [hDxOutRefIdeal : Cert.DxOutRefIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.DxOutRefIdeal.nD Cert.DxOutRefIdeal.τ Cert.DxOutRefIdeal.sig) → Buf (Elt Ideal) ℓ) (g' : Dev Cert.DxOutRefIdeal.nD → PrngReg), Pre_DxOutIdeal m →
    (∀ c : Dev Cert.DxOutIdeal.nD,
      m' ((c.tc : Thread Cert.DxOutRefIdeal.nD Cert.DxOutRefIdeal.τ).loc Cert.DxOutRefIdeal.main_arg0) = m ((c.tc : Thread Cert.DxOutIdeal.nD Cert.DxOutIdeal.τ).loc Cert.DxOutIdeal.main_arg0)
      ∧ m' ((c.tc : Thread Cert.DxOutRefIdeal.nD Cert.DxOutRefIdeal.τ).loc Cert.DxOutRefIdeal.main_arg1) = m ((c.tc : Thread Cert.DxOutIdeal.nD Cert.DxOutIdeal.τ).loc Cert.DxOutIdeal.main_arg1)) →
    ∃ (v0 : (c : Dev Cert.DxOutIdeal.nD) → Buf (Elt Ideal) ((c.tc : Thread Cert.DxOutIdeal.nD Cert.DxOutIdeal.τ).loc Cert.DxOutIdeal.main_v0)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v0) = v0 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ θ_run (Cert.DxOutRefIdeal.defs (F := Ideal)) (onTc (τ := Cert.DxOutRefIdeal.τ) (Cert.DxOutRefIdeal.main (F := Ideal))) ⟨m', fun _ => 0, g'⟩ (fun r => ∀ c : Dev Cert.DxOutRefIdeal.nD,
          r.2.mem ((c.tc : Thread Cert.DxOutRefIdeal.nD Cert.DxOutRefIdeal.τ).loc Cert.DxOutRefIdeal.main_v4) = v0 c
          ∧ r.2.mem ((c.tc : Thread Cert.DxOutRefIdeal.nD Cert.DxOutRefIdeal.τ).loc Cert.DxOutRefIdeal.main_arg0) = m' ((c.tc : Thread Cert.DxOutRefIdeal.nD Cert.DxOutRefIdeal.τ).loc Cert.DxOutRefIdeal.main_arg0)
          ∧ r.2.mem ((c.tc : Thread Cert.DxOutRefIdeal.nD Cert.DxOutRefIdeal.τ).loc Cert.DxOutRefIdeal.main_arg1) = m' ((c.tc : Thread Cert.DxOutRefIdeal.nD Cert.DxOutRefIdeal.τ).loc Cert.DxOutRefIdeal.main_arg1))

def preserves_DxDown_DxDownIdeal : Prop :=
  True

def algebraic_DxDownIdeal_DxDownRefIdeal [hDxDownIdeal : Cert.DxDownIdeal.Facts] [hDxDownRefIdeal : Cert.DxDownRefIdeal.Facts] : Prop :=
  ∀ (m : (ℓ : Loc Cert.DxDownIdeal.nD Cert.DxDownIdeal.τ Cert.DxDownIdeal.sig) → Buf (Elt Ideal) ℓ) (g : Dev Cert.DxDownIdeal.nD → PrngReg)
    (m' : (ℓ : Loc Cert.DxDownRefIdeal.nD Cert.DxDownRefIdeal.τ Cert.DxDownRefIdeal.sig) → Buf (Elt Ideal) ℓ) (g' : Dev Cert.DxDownRefIdeal.nD → PrngReg), Pre_DxDownIdeal m →
    (∀ c : Dev Cert.DxDownIdeal.nD,
      m' ((c.tc : Thread Cert.DxDownRefIdeal.nD Cert.DxDownRefIdeal.τ).loc Cert.DxDownRefIdeal.main_arg0) = m ((c.tc : Thread Cert.DxDownIdeal.nD Cert.DxDownIdeal.τ).loc Cert.DxDownIdeal.main_arg0)
      ∧ m' ((c.tc : Thread Cert.DxDownRefIdeal.nD Cert.DxDownRefIdeal.τ).loc Cert.DxDownRefIdeal.main_arg1) = m ((c.tc : Thread Cert.DxDownIdeal.nD Cert.DxDownIdeal.τ).loc Cert.DxDownIdeal.main_arg1)) →
    ∃ (v0 : (c : Dev Cert.DxDownIdeal.nD) → Buf (Elt Ideal) ((c.tc : Thread Cert.DxDownIdeal.nD Cert.DxDownIdeal.τ).loc Cert.DxDownIdeal.main_v0)),
      θ_run (Cert.DxDownIdeal.defs (F := Ideal)) (onTc (τ := Cert.DxDownIdeal.τ) (Cert.DxDownIdeal.main (F := Ideal))) ⟨m, fun _ => 0, g⟩ (fun r => ∀ c : Dev Cert.DxDownIdeal.nD,
          r.2.mem ((c.tc : Thread Cert.DxDownIdeal.nD Cert.DxDownIdeal.τ).loc Cert.DxDownIdeal.main_v0) = v0 c
          ∧ r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
          ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ θ_run (Cert.DxDownRefIdeal.defs (F := Ideal)) (onTc (τ := Cert.DxDownRefIdeal.τ) (Cert.DxDownRefIdeal.main (F := Ideal))) ⟨m', fun _ => 0, g'⟩ (fun r => ∀ c : Dev Cert.DxDownRefIdeal.nD,
          r.2.mem ((c.tc : Thread Cert.DxDownRefIdeal.nD Cert.DxDownRefIdeal.τ).loc Cert.DxDownRefIdeal.main_v4) = v0 c
          ∧ r.2.mem ((c.tc : Thread Cert.DxDownRefIdeal.nD Cert.DxDownRefIdeal.τ).loc Cert.DxDownRefIdeal.main_arg0) = m' ((c.tc : Thread Cert.DxDownRefIdeal.nD Cert.DxDownRefIdeal.τ).loc Cert.DxDownRefIdeal.main_arg0)
          ∧ r.2.mem ((c.tc : Thread Cert.DxDownRefIdeal.nD Cert.DxDownRefIdeal.τ).loc Cert.DxDownRefIdeal.main_arg1) = m' ((c.tc : Thread Cert.DxDownRefIdeal.nD Cert.DxDownRefIdeal.τ).loc Cert.DxDownRefIdeal.main_arg1))

def preserves_DxQuery_DxQueryIdeal : Prop :=
  True

def algebraic_DxQueryIdeal_DxQueryRefIdeal [hDxQueryIdeal : Cert.DxQueryIdeal.Facts] [hDxQueryRefIdeal : Cert.DxQueryRefIdeal.Facts] : Prop :=
  ∀ (m : (ℓ : Loc Cert.DxQueryIdeal.nD Cert.DxQueryIdeal.τ Cert.DxQueryIdeal.sig) → Buf (Elt Ideal) ℓ) (g : Dev Cert.DxQueryIdeal.nD → PrngReg)
    (m' : (ℓ : Loc Cert.DxQueryRefIdeal.nD Cert.DxQueryRefIdeal.τ Cert.DxQueryRefIdeal.sig) → Buf (Elt Ideal) ℓ) (g' : Dev Cert.DxQueryRefIdeal.nD → PrngReg), Pre_DxQueryIdeal m →
    (∀ c : Dev Cert.DxQueryIdeal.nD,
      m' ((c.tc : Thread Cert.DxQueryRefIdeal.nD Cert.DxQueryRefIdeal.τ).loc Cert.DxQueryRefIdeal.main_arg0) = m ((c.tc : Thread Cert.DxQueryIdeal.nD Cert.DxQueryIdeal.τ).loc Cert.DxQueryIdeal.main_arg0)
      ∧ m' ((c.tc : Thread Cert.DxQueryRefIdeal.nD Cert.DxQueryRefIdeal.τ).loc Cert.DxQueryRefIdeal.main_arg1) = m ((c.tc : Thread Cert.DxQueryIdeal.nD Cert.DxQueryIdeal.τ).loc Cert.DxQueryIdeal.main_arg1)) →
    ∃ (v0 : (c : Dev Cert.DxQueryIdeal.nD) → Buf (Elt Ideal) ((c.tc : Thread Cert.DxQueryIdeal.nD Cert.DxQueryIdeal.τ).loc Cert.DxQueryIdeal.main_v0)),
      θ_run (Cert.DxQueryIdeal.defs (F := Ideal)) (onTc (τ := Cert.DxQueryIdeal.τ) (Cert.DxQueryIdeal.main (F := Ideal))) ⟨m, fun _ => 0, g⟩ (fun r => ∀ c : Dev Cert.DxQueryIdeal.nD,
          r.2.mem ((c.tc : Thread Cert.DxQueryIdeal.nD Cert.DxQueryIdeal.τ).loc Cert.DxQueryIdeal.main_v0) = v0 c
          ∧ r.2.mem ((c.tc : Thread Cert.DxQueryIdeal.nD Cert.DxQueryIdeal.τ).loc Cert.DxQueryIdeal.main_arg0) = m ((c.tc : Thread Cert.DxQueryIdeal.nD Cert.DxQueryIdeal.τ).loc Cert.DxQueryIdeal.main_arg0)
          ∧ r.2.mem ((c.tc : Thread Cert.DxQueryIdeal.nD Cert.DxQueryIdeal.τ).loc Cert.DxQueryIdeal.main_arg1) = m ((c.tc : Thread Cert.DxQueryIdeal.nD Cert.DxQueryIdeal.τ).loc Cert.DxQueryIdeal.main_arg1))
      ∧ θ_run (Cert.DxQueryRefIdeal.defs (F := Ideal)) (onTc (τ := Cert.DxQueryRefIdeal.τ) (Cert.DxQueryRefIdeal.main (F := Ideal))) ⟨m', fun _ => 0, g'⟩ (fun r => ∀ c : Dev Cert.DxQueryRefIdeal.nD,
          r.2.mem ((c.tc : Thread Cert.DxQueryRefIdeal.nD Cert.DxQueryRefIdeal.τ).loc Cert.DxQueryRefIdeal.main_v3) = v0 c
          ∧ r.2.mem ((c.tc : Thread Cert.DxQueryRefIdeal.nD Cert.DxQueryRefIdeal.τ).loc Cert.DxQueryRefIdeal.main_arg0) = m' ((c.tc : Thread Cert.DxQueryRefIdeal.nD Cert.DxQueryRefIdeal.τ).loc Cert.DxQueryRefIdeal.main_arg0)
          ∧ r.2.mem ((c.tc : Thread Cert.DxQueryRefIdeal.nD Cert.DxQueryRefIdeal.τ).loc Cert.DxQueryRefIdeal.main_arg1) = m' ((c.tc : Thread Cert.DxQueryRefIdeal.nD Cert.DxQueryRefIdeal.τ).loc Cert.DxQueryRefIdeal.main_arg1))

def preserves_DxKv_DxKvIdeal : Prop :=
  True

def algebraic_DxKvIdeal_DxKvRefIdeal [hDxKvIdeal : Cert.DxKvIdeal.Facts] [hDxKvRefIdeal : Cert.DxKvRefIdeal.Facts] : Prop :=
  ∀ (m : (ℓ : Loc Cert.DxKvIdeal.nD Cert.DxKvIdeal.τ Cert.DxKvIdeal.sig) → Buf (Elt Ideal) ℓ) (g : Dev Cert.DxKvIdeal.nD → PrngReg)
    (m' : (ℓ : Loc Cert.DxKvRefIdeal.nD Cert.DxKvRefIdeal.τ Cert.DxKvRefIdeal.sig) → Buf (Elt Ideal) ℓ) (g' : Dev Cert.DxKvRefIdeal.nD → PrngReg), Pre_DxKvIdeal m →
    (∀ c : Dev Cert.DxKvIdeal.nD,
      m' ((c.tc : Thread Cert.DxKvRefIdeal.nD Cert.DxKvRefIdeal.τ).loc Cert.DxKvRefIdeal.main_arg0) = m ((c.tc : Thread Cert.DxKvIdeal.nD Cert.DxKvIdeal.τ).loc Cert.DxKvIdeal.main_arg0)
      ∧ m' ((c.tc : Thread Cert.DxKvRefIdeal.nD Cert.DxKvRefIdeal.τ).loc Cert.DxKvRefIdeal.main_arg1) = m ((c.tc : Thread Cert.DxKvIdeal.nD Cert.DxKvIdeal.τ).loc Cert.DxKvIdeal.main_arg1)) →
    ∃ (v0 : (c : Dev Cert.DxKvIdeal.nD) → Buf (Elt Ideal) ((c.tc : Thread Cert.DxKvIdeal.nD Cert.DxKvIdeal.τ).loc Cert.DxKvIdeal.main_v0)),
      θ_run (Cert.DxKvIdeal.defs (F := Ideal)) (onTc (τ := Cert.DxKvIdeal.τ) (Cert.DxKvIdeal.main (F := Ideal))) ⟨m, fun _ => 0, g⟩ (fun r => ∀ c : Dev Cert.DxKvIdeal.nD,
          r.2.mem ((c.tc : Thread Cert.DxKvIdeal.nD Cert.DxKvIdeal.τ).loc Cert.DxKvIdeal.main_v0) = v0 c
          ∧ r.2.mem ((c.tc : Thread Cert.DxKvIdeal.nD Cert.DxKvIdeal.τ).loc Cert.DxKvIdeal.main_arg0) = m ((c.tc : Thread Cert.DxKvIdeal.nD Cert.DxKvIdeal.τ).loc Cert.DxKvIdeal.main_arg0)
          ∧ r.2.mem ((c.tc : Thread Cert.DxKvIdeal.nD Cert.DxKvIdeal.τ).loc Cert.DxKvIdeal.main_arg1) = m ((c.tc : Thread Cert.DxKvIdeal.nD Cert.DxKvIdeal.τ).loc Cert.DxKvIdeal.main_arg1))
      ∧ θ_run (Cert.DxKvRefIdeal.defs (F := Ideal)) (onTc (τ := Cert.DxKvRefIdeal.τ) (Cert.DxKvRefIdeal.main (F := Ideal))) ⟨m', fun _ => 0, g'⟩ (fun r => ∀ c : Dev Cert.DxKvRefIdeal.nD,
          r.2.mem ((c.tc : Thread Cert.DxKvRefIdeal.nD Cert.DxKvRefIdeal.τ).loc Cert.DxKvRefIdeal.main_v3) = v0 c
          ∧ r.2.mem ((c.tc : Thread Cert.DxKvRefIdeal.nD Cert.DxKvRefIdeal.τ).loc Cert.DxKvRefIdeal.main_arg0) = m' ((c.tc : Thread Cert.DxKvRefIdeal.nD Cert.DxKvRefIdeal.τ).loc Cert.DxKvRefIdeal.main_arg0)
          ∧ r.2.mem ((c.tc : Thread Cert.DxKvRefIdeal.nD Cert.DxKvRefIdeal.τ).loc Cert.DxKvRefIdeal.main_arg1) = m' ((c.tc : Thread Cert.DxKvRefIdeal.nD Cert.DxKvRefIdeal.τ).loc Cert.DxKvRefIdeal.main_arg1))

def preserves_DxUp_DxUpIdeal : Prop :=
  True

def algebraic_DxUpIdeal_DxUpRefIdeal [hDxUpIdeal : Cert.DxUpIdeal.Facts] [hDxUpRefIdeal : Cert.DxUpRefIdeal.Facts] : Prop :=
  ∀ (m : (ℓ : Loc Cert.DxUpIdeal.nD Cert.DxUpIdeal.τ Cert.DxUpIdeal.sig) → Buf (Elt Ideal) ℓ) (g : Dev Cert.DxUpIdeal.nD → PrngReg)
    (m' : (ℓ : Loc Cert.DxUpRefIdeal.nD Cert.DxUpRefIdeal.τ Cert.DxUpRefIdeal.sig) → Buf (Elt Ideal) ℓ) (g' : Dev Cert.DxUpRefIdeal.nD → PrngReg), Pre_DxUpIdeal m →
    (∀ c : Dev Cert.DxUpIdeal.nD,
      m' ((c.tc : Thread Cert.DxUpRefIdeal.nD Cert.DxUpRefIdeal.τ).loc Cert.DxUpRefIdeal.main_arg0) = m ((c.tc : Thread Cert.DxUpIdeal.nD Cert.DxUpIdeal.τ).loc Cert.DxUpIdeal.main_arg0)
      ∧ m' ((c.tc : Thread Cert.DxUpRefIdeal.nD Cert.DxUpRefIdeal.τ).loc Cert.DxUpRefIdeal.main_arg1) = m ((c.tc : Thread Cert.DxUpIdeal.nD Cert.DxUpIdeal.τ).loc Cert.DxUpIdeal.main_arg1)) →
    ∃ (v0 : (c : Dev Cert.DxUpIdeal.nD) → Buf (Elt Ideal) ((c.tc : Thread Cert.DxUpIdeal.nD Cert.DxUpIdeal.τ).loc Cert.DxUpIdeal.main_v0)),
      θ_run (Cert.DxUpIdeal.defs (F := Ideal)) (onTc (τ := Cert.DxUpIdeal.τ) (Cert.DxUpIdeal.main (F := Ideal))) ⟨m, fun _ => 0, g⟩ (fun r => ∀ c : Dev Cert.DxUpIdeal.nD,
          r.2.mem ((c.tc : Thread Cert.DxUpIdeal.nD Cert.DxUpIdeal.τ).loc Cert.DxUpIdeal.main_v0) = v0 c
          ∧ r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
          ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1))
      ∧ θ_run (Cert.DxUpRefIdeal.defs (F := Ideal)) (onTc (τ := Cert.DxUpRefIdeal.τ) (Cert.DxUpRefIdeal.main (F := Ideal))) ⟨m', fun _ => 0, g'⟩ (fun r => ∀ c : Dev Cert.DxUpRefIdeal.nD,
          r.2.mem ((c.tc : Thread Cert.DxUpRefIdeal.nD Cert.DxUpRefIdeal.τ).loc Cert.DxUpRefIdeal.main_v3) = v0 c
          ∧ r.2.mem ((c.tc : Thread Cert.DxUpRefIdeal.nD Cert.DxUpRefIdeal.τ).loc Cert.DxUpRefIdeal.main_arg0) = m' ((c.tc : Thread Cert.DxUpRefIdeal.nD Cert.DxUpRefIdeal.τ).loc Cert.DxUpRefIdeal.main_arg0)
          ∧ r.2.mem ((c.tc : Thread Cert.DxUpRefIdeal.nD Cert.DxUpRefIdeal.τ).loc Cert.DxUpRefIdeal.main_arg1) = m' ((c.tc : Thread Cert.DxUpRefIdeal.nD Cert.DxUpRefIdeal.τ).loc Cert.DxUpRefIdeal.main_arg1))

def preserves_DwSquare_DwSquareIdeal : Prop :=
  True

def algebraic_DwSquareIdeal_DwSquareRefIdeal [hDwSquareIdeal : Cert.DwSquareIdeal.Facts] [hDwSquareRefIdeal : Cert.DwSquareRefIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareRefIdeal.nD Cert.DwSquareRefIdeal.τ Cert.DwSquareRefIdeal.sig) → Buf (Elt Ideal) ℓ) (g' : Dev Cert.DwSquareRefIdeal.nD → PrngReg), Pre_DwSquareIdeal m →
    (∀ c : Dev Cert.DwSquareIdeal.nD,
      m' ((c.tc : Thread Cert.DwSquareRefIdeal.nD Cert.DwSquareRefIdeal.τ).loc Cert.DwSquareRefIdeal.main_arg0) = m ((c.tc : Thread Cert.DwSquareIdeal.nD Cert.DwSquareIdeal.τ).loc Cert.DwSquareIdeal.main_arg0)
      ∧ m' ((c.tc : Thread Cert.DwSquareRefIdeal.nD Cert.DwSquareRefIdeal.τ).loc Cert.DwSquareRefIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareRefIdeal.defs (F := Ideal)) (onTc (τ := Cert.DwSquareRefIdeal.τ) (Cert.DwSquareRefIdeal.main (F := Ideal))) ⟨m', fun _ => 0, g'⟩ (fun r => ∀ c : Dev Cert.DwSquareRefIdeal.nD,
          r.2.mem ((c.tc : Thread Cert.DwSquareRefIdeal.nD Cert.DwSquareRefIdeal.τ).loc Cert.DwSquareRefIdeal.main_v3) = v0 c
          ∧ r.2.mem ((c.tc : Thread Cert.DwSquareRefIdeal.nD Cert.DwSquareRefIdeal.τ).loc Cert.DwSquareRefIdeal.main_arg0) = m' ((c.tc : Thread Cert.DwSquareRefIdeal.nD Cert.DwSquareRefIdeal.τ).loc Cert.DwSquareRefIdeal.main_arg0)
          ∧ r.2.mem ((c.tc : Thread Cert.DwSquareRefIdeal.nD Cert.DwSquareRefIdeal.τ).loc Cert.DwSquareRefIdeal.main_arg1) = m' ((c.tc : Thread Cert.DwSquareRefIdeal.nD Cert.DwSquareRefIdeal.τ).loc Cert.DwSquareRefIdeal.main_arg1))

def preserves_DwQuery_DwQueryIdeal : Prop :=
  True

def algebraic_DwQueryIdeal_DwQueryRefIdeal [hDwQueryIdeal : Cert.DwQueryIdeal.Facts] [hDwQueryRefIdeal : Cert.DwQueryRefIdeal.Facts] : Prop :=
  ∀ (m : (ℓ : Loc Cert.DwQueryIdeal.nD Cert.DwQueryIdeal.τ Cert.DwQueryIdeal.sig) → Buf (Elt Ideal) ℓ) (g : Dev Cert.DwQueryIdeal.nD → PrngReg)
    (m' : (ℓ : Loc Cert.DwQueryRefIdeal.nD Cert.DwQueryRefIdeal.τ Cert.DwQueryRefIdeal.sig) → Buf (Elt Ideal) ℓ) (g' : Dev Cert.DwQueryRefIdeal.nD → PrngReg), Pre_DwQueryIdeal m →
    (∀ c : Dev Cert.DwQueryIdeal.nD,
      m' ((c.tc : Thread Cert.DwQueryRefIdeal.nD Cert.DwQueryRefIdeal.τ).loc Cert.DwQueryRefIdeal.main_arg0) = m ((c.tc : Thread Cert.DwQueryIdeal.nD Cert.DwQueryIdeal.τ).loc Cert.DwQueryIdeal.main_arg0)
      ∧ m' ((c.tc : Thread Cert.DwQueryRefIdeal.nD Cert.DwQueryRefIdeal.τ).loc Cert.DwQueryRefIdeal.main_arg1) = m ((c.tc : Thread Cert.DwQueryIdeal.nD Cert.DwQueryIdeal.τ).loc Cert.DwQueryIdeal.main_arg1)) →
    ∃ (v0 : (c : Dev Cert.DwQueryIdeal.nD) → Buf (Elt Ideal) ((c.tc : Thread Cert.DwQueryIdeal.nD Cert.DwQueryIdeal.τ).loc Cert.DwQueryIdeal.main_v0)),
      θ_run (Cert.DwQueryIdeal.defs (F := Ideal)) (onTc (τ := Cert.DwQueryIdeal.τ) (Cert.DwQueryIdeal.main (F := Ideal))) ⟨m, fun _ => 0, g⟩ (fun r => ∀ c : Dev Cert.DwQueryIdeal.nD,
          r.2.mem ((c.tc : Thread Cert.DwQueryIdeal.nD Cert.DwQueryIdeal.τ).loc Cert.DwQueryIdeal.main_v0) = v0 c
          ∧ r.2.mem ((c.tc : Thread Cert.DwQueryIdeal.nD Cert.DwQueryIdeal.τ).loc Cert.DwQueryIdeal.main_arg0) = m ((c.tc : Thread Cert.DwQueryIdeal.nD Cert.DwQueryIdeal.τ).loc Cert.DwQueryIdeal.main_arg0)
          ∧ r.2.mem ((c.tc : Thread Cert.DwQueryIdeal.nD Cert.DwQueryIdeal.τ).loc Cert.DwQueryIdeal.main_arg1) = m ((c.tc : Thread Cert.DwQueryIdeal.nD Cert.DwQueryIdeal.τ).loc Cert.DwQueryIdeal.main_arg1))
      ∧ θ_run (Cert.DwQueryRefIdeal.defs (F := Ideal)) (onTc (τ := Cert.DwQueryRefIdeal.τ) (Cert.DwQueryRefIdeal.main (F := Ideal))) ⟨m', fun _ => 0, g'⟩ (fun r => ∀ c : Dev Cert.DwQueryRefIdeal.nD,
          r.2.mem ((c.tc : Thread Cert.DwQueryRefIdeal.nD Cert.DwQueryRefIdeal.τ).loc Cert.DwQueryRefIdeal.main_v3) = v0 c
          ∧ r.2.mem ((c.tc : Thread Cert.DwQueryRefIdeal.nD Cert.DwQueryRefIdeal.τ).loc Cert.DwQueryRefIdeal.main_arg0) = m' ((c.tc : Thread Cert.DwQueryRefIdeal.nD Cert.DwQueryRefIdeal.τ).loc Cert.DwQueryRefIdeal.main_arg0)
          ∧ r.2.mem ((c.tc : Thread Cert.DwQueryRefIdeal.nD Cert.DwQueryRefIdeal.τ).loc Cert.DwQueryRefIdeal.main_arg1) = m' ((c.tc : Thread Cert.DwQueryRefIdeal.nD Cert.DwQueryRefIdeal.τ).loc Cert.DwQueryRefIdeal.main_arg1))

def preserves_DwKv_DwKvIdeal : Prop :=
  True

def algebraic_DwKvIdeal_DwKvRefIdeal [hDwKvIdeal : Cert.DwKvIdeal.Facts] [hDwKvRefIdeal : Cert.DwKvRefIdeal.Facts] : Prop :=
  ∀ (m : (ℓ : Loc Cert.DwKvIdeal.nD Cert.DwKvIdeal.τ Cert.DwKvIdeal.sig) → Buf (Elt Ideal) ℓ) (g : Dev Cert.DwKvIdeal.nD → PrngReg)
    (m' : (ℓ : Loc Cert.DwKvRefIdeal.nD Cert.DwKvRefIdeal.τ Cert.DwKvRefIdeal.sig) → Buf (Elt Ideal) ℓ) (g' : Dev Cert.DwKvRefIdeal.nD → PrngReg), Pre_DwKvIdeal m →
    (∀ c : Dev Cert.DwKvIdeal.nD,
      m' ((c.tc : Thread Cert.DwKvRefIdeal.nD Cert.DwKvRefIdeal.τ).loc Cert.DwKvRefIdeal.main_arg0) = m ((c.tc : Thread Cert.DwKvIdeal.nD Cert.DwKvIdeal.τ).loc Cert.DwKvIdeal.main_arg0)
      ∧ m' ((c.tc : Thread Cert.DwKvRefIdeal.nD Cert.DwKvRefIdeal.τ).loc Cert.DwKvRefIdeal.main_arg1) = m ((c.tc : Thread Cert.DwKvIdeal.nD Cert.DwKvIdeal.τ).loc Cert.DwKvIdeal.main_arg1)) →
    ∃ (v0 : (c : Dev Cert.DwKvIdeal.nD) → Buf (Elt Ideal) ((c.tc : Thread Cert.DwKvIdeal.nD Cert.DwKvIdeal.τ).loc Cert.DwKvIdeal.main_v0)),
      θ_run (Cert.DwKvIdeal.defs (F := Ideal)) (onTc (τ := Cert.DwKvIdeal.τ) (Cert.DwKvIdeal.main (F := Ideal))) ⟨m, fun _ => 0, g⟩ (fun r => ∀ c : Dev Cert.DwKvIdeal.nD,
          r.2.mem ((c.tc : Thread Cert.DwKvIdeal.nD Cert.DwKvIdeal.τ).loc Cert.DwKvIdeal.main_v0) = v0 c
          ∧ r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
          ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ θ_run (Cert.DwKvRefIdeal.defs (F := Ideal)) (onTc (τ := Cert.DwKvRefIdeal.τ) (Cert.DwKvRefIdeal.main (F := Ideal))) ⟨m', fun _ => 0, g'⟩ (fun r => ∀ c : Dev Cert.DwKvRefIdeal.nD,
          r.2.mem ((c.tc : Thread Cert.DwKvRefIdeal.nD Cert.DwKvRefIdeal.τ).loc Cert.DwKvRefIdeal.main_v3) = v0 c
          ∧ r.2.mem ((c.tc : Thread Cert.DwKvRefIdeal.nD Cert.DwKvRefIdeal.τ).loc Cert.DwKvRefIdeal.main_arg0) = m' ((c.tc : Thread Cert.DwKvRefIdeal.nD Cert.DwKvRefIdeal.τ).loc Cert.DwKvRefIdeal.main_arg0)
          ∧ r.2.mem ((c.tc : Thread Cert.DwKvRefIdeal.nD Cert.DwKvRefIdeal.τ).loc Cert.DwKvRefIdeal.main_arg1) = m' ((c.tc : Thread Cert.DwKvRefIdeal.nD Cert.DwKvRefIdeal.τ).loc Cert.DwKvRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v3) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v3) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v6) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_MixDown_MixDownIdeal : Prop :=
  True

def algebraic_MixDownIdeal_MixDownRefIdeal [hMixDownIdeal : Cert.MixDownIdeal.Facts] [hMixDownRefIdeal : Cert.MixDownRefIdeal.Facts] : Prop :=
  ∀ (m : (ℓ : Loc Cert.MixDownIdeal.nD Cert.MixDownIdeal.τ Cert.MixDownIdeal.sig) → Buf (Elt Ideal) ℓ) (g : Dev Cert.MixDownIdeal.nD → PrngReg)
    (m' : (ℓ : Loc Cert.MixDownRefIdeal.nD Cert.MixDownRefIdeal.τ Cert.MixDownRefIdeal.sig) → Buf (Elt Ideal) ℓ) (g' : Dev Cert.MixDownRefIdeal.nD → PrngReg), Pre_MixDownIdeal m →
    (∀ c : Dev Cert.MixDownIdeal.nD,
      m' ((c.tc : Thread Cert.MixDownRefIdeal.nD Cert.MixDownRefIdeal.τ).loc Cert.MixDownRefIdeal.main_arg0) = m ((c.tc : Thread Cert.MixDownIdeal.nD Cert.MixDownIdeal.τ).loc Cert.MixDownIdeal.main_arg0)
      ∧ m' ((c.tc : Thread Cert.MixDownRefIdeal.nD Cert.MixDownRefIdeal.τ).loc Cert.MixDownRefIdeal.main_arg1) = m ((c.tc : Thread Cert.MixDownIdeal.nD Cert.MixDownIdeal.τ).loc Cert.MixDownIdeal.main_arg1)
      ∧ m' ((c.tc : Thread Cert.MixDownRefIdeal.nD Cert.MixDownRefIdeal.τ).loc Cert.MixDownRefIdeal.main_arg2) = m ((c.tc : Thread Cert.MixDownIdeal.nD Cert.MixDownIdeal.τ).loc Cert.MixDownIdeal.main_arg2)
      ∧ m' ((c.tc : Thread Cert.MixDownRefIdeal.nD Cert.MixDownRefIdeal.τ).loc Cert.MixDownRefIdeal.main_arg3) = m ((c.tc : Thread Cert.MixDownIdeal.nD Cert.MixDownIdeal.τ).loc Cert.MixDownIdeal.main_arg3)) →
    ∃ (v0 : (c : Dev Cert.MixDownIdeal.nD) → Buf (Elt Ideal) ((c.tc : Thread Cert.MixDownIdeal.nD Cert.MixDownIdeal.τ).loc Cert.MixDownIdeal.main_v0_0)) (v1 : (c : Dev Cert.MixDownIdeal.nD) → Buf (Elt Ideal) ((c.tc : Thread Cert.MixDownIdeal.nD Cert.MixDownIdeal.τ).loc Cert.MixDownIdeal.main_v0_1)),
      θ_run (Cert.MixDownIdeal.defs (F := Ideal)) (onTc (τ := Cert.MixDownIdeal.τ) (Cert.MixDownIdeal.main (F := Ideal))) ⟨m, fun _ => 0, g⟩ (fun r => ∀ c : Dev Cert.MixDownIdeal.nD,
          r.2.mem ((c.tc : Thread Cert.MixDownIdeal.nD Cert.MixDownIdeal.τ).loc Cert.MixDownIdeal.main_v0_0) = v0 c
          ∧ r.2.mem ((c.tc : Thread Cert.MixDownIdeal.nD Cert.MixDownIdeal.τ).loc Cert.MixDownIdeal.main_v0_1) = v1 c
          ∧ r.2.mem ((c.tc : Thread Cert.MixDownIdeal.nD Cert.MixDownIdeal.τ).loc Cert.MixDownIdeal.main_arg0) = m ((c.tc : Thread Cert.MixDownIdeal.nD Cert.MixDownIdeal.τ).loc Cert.MixDownIdeal.main_arg0)
          ∧ r.2.mem ((c.tc : Thread Cert.MixDownIdeal.nD Cert.MixDownIdeal.τ).loc Cert.MixDownIdeal.main_arg1) = m ((c.tc : Thread Cert.MixDownIdeal.nD Cert.MixDownIdeal.τ).loc Cert.MixDownIdeal.main_arg1)
          ∧ r.2.mem ((c.tc : Thread Cert.MixDownIdeal.nD Cert.MixDownIdeal.τ).loc Cert.MixDownIdeal.main_arg2) = m ((c.tc : Thread Cert.MixDownIdeal.nD Cert.MixDownIdeal.τ).loc Cert.MixDownIdeal.main_arg2)
          ∧ r.2.mem ((c.tc : Thread Cert.MixDownIdeal.nD Cert.MixDownIdeal.τ).loc Cert.MixDownIdeal.main_arg3) = m ((c.tc : Thread Cert.MixDownIdeal.nD Cert.MixDownIdeal.τ).loc Cert.MixDownIdeal.main_arg3))
      ∧ θ_run (Cert.MixDownRefIdeal.defs (F := Ideal)) (onTc (τ := Cert.MixDownRefIdeal.τ) (Cert.MixDownRefIdeal.main (F := Ideal))) ⟨m', fun _ => 0, g'⟩ (fun r => ∀ c : Dev Cert.MixDownRefIdeal.nD,
          r.2.mem ((c.tc : Thread Cert.MixDownRefIdeal.nD Cert.MixDownRefIdeal.τ).loc Cert.MixDownRefIdeal.main_v3) = v0 c
          ∧ r.2.mem ((c.tc : Thread Cert.MixDownRefIdeal.nD Cert.MixDownRefIdeal.τ).loc Cert.MixDownRefIdeal.main_v6) = v1 c
          ∧ r.2.mem ((c.tc : Thread Cert.MixDownRefIdeal.nD Cert.MixDownRefIdeal.τ).loc Cert.MixDownRefIdeal.main_arg0) = m' ((c.tc : Thread Cert.MixDownRefIdeal.nD Cert.MixDownRefIdeal.τ).loc Cert.MixDownRefIdeal.main_arg0)
          ∧ r.2.mem ((c.tc : Thread Cert.MixDownRefIdeal.nD Cert.MixDownRefIdeal.τ).loc Cert.MixDownRefIdeal.main_arg1) = m' ((c.tc : Thread Cert.MixDownRefIdeal.nD Cert.MixDownRefIdeal.τ).loc Cert.MixDownRefIdeal.main_arg1)
          ∧ r.2.mem ((c.tc : Thread Cert.MixDownRefIdeal.nD Cert.MixDownRefIdeal.τ).loc Cert.MixDownRefIdeal.main_arg2) = m' ((c.tc : Thread Cert.MixDownRefIdeal.nD Cert.MixDownRefIdeal.τ).loc Cert.MixDownRefIdeal.main_arg2)
          ∧ r.2.mem ((c.tc : Thread Cert.MixDownRefIdeal.nD Cert.MixDownRefIdeal.τ).loc Cert.MixDownRefIdeal.main_arg3) = m' ((c.tc : Thread Cert.MixDownRefIdeal.nD Cert.MixDownRefIdeal.τ).loc Cert.MixDownRefIdeal.main_arg3))

def preserves_Total_TotalIdeal : Prop :=
  True

def algebraic_TotalIdeal_TotalRefIdeal [hTotalIdeal : Cert.TotalIdeal.Facts] [hTotalRefIdeal : Cert.TotalRefIdeal.Facts] : Prop :=
  ∀ (m : (ℓ : Loc Cert.TotalIdeal.nD Cert.TotalIdeal.τ Cert.TotalIdeal.sig) → Buf (Elt Ideal) ℓ) (g : Dev Cert.TotalIdeal.nD → PrngReg)
    (m' : (ℓ : Loc Cert.TotalRefIdeal.nD Cert.TotalRefIdeal.τ Cert.TotalRefIdeal.sig) → Buf (Elt Ideal) ℓ) (g' : Dev Cert.TotalRefIdeal.nD → PrngReg), Pre_TotalIdeal m →
    (∀ c : Dev Cert.TotalIdeal.nD,
      m ((c.tc : Thread Cert.TotalIdeal.nD Cert.TotalIdeal.τ).loc Cert.TotalIdeal.main_arg0) = Layout.block ⟨2, ![8, 128]⟩ ⟨2, ![64, 128]⟩ 0 8 c (m' (((0 : Dev Cert.TotalRefIdeal.nD).tc : Thread Cert.TotalRefIdeal.nD Cert.TotalRefIdeal.τ).loc Cert.TotalRefIdeal.main_arg0))) →
    ∃ (v0 : Buf (Elt Ideal) (((0 : Dev Cert.TotalRefIdeal.nD).tc : Thread Cert.TotalRefIdeal.nD Cert.TotalRefIdeal.τ).loc Cert.TotalRefIdeal.main_v3)),
      θ_run (Cert.TotalIdeal.defs (F := Ideal)) (onTc (τ := Cert.TotalIdeal.τ) (Cert.TotalIdeal.main (F := Ideal))) ⟨m, fun _ => 0, g⟩ (fun r => ∀ c : Dev Cert.TotalIdeal.nD,
          r.2.mem ((c.tc : Thread Cert.TotalIdeal.nD Cert.TotalIdeal.τ).loc Cert.TotalIdeal.main_v3) = v0
          ∧ r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ θ_run (Cert.TotalRefIdeal.defs (F := Ideal)) (onTc (τ := Cert.TotalRefIdeal.τ) (Cert.TotalRefIdeal.main (F := Ideal))) ⟨m', fun _ => 0, g'⟩ (fun r =>
          r.2.mem (((0 : Dev Cert.TotalRefIdeal.nD).tc : Thread Cert.TotalRefIdeal.nD Cert.TotalRefIdeal.τ).loc Cert.TotalRefIdeal.main_v3) = v0
          ∧ r.2.mem (((0 : Dev Cert.TotalRefIdeal.nD).tc : Thread Cert.TotalRefIdeal.nD Cert.TotalRefIdeal.τ).loc Cert.TotalRefIdeal.main_arg0) = m' (((0 : Dev Cert.TotalRefIdeal.nD).tc : Thread Cert.TotalRefIdeal.nD Cert.TotalRefIdeal.τ).loc Cert.TotalRefIdeal.main_arg0))

def Claim : Prop :=
  ∃ (hExchange : Cert.Exchange.Facts) (hExchangeIdeal : Cert.ExchangeIdeal.Facts) (hExchangeRefIdeal : Cert.ExchangeRefIdeal.Facts) (hExchangeRef : Cert.ExchangeRef.Facts) (hGather : Cert.Gather.Facts) (hGatherIdeal : Cert.GatherIdeal.Facts) (hGatherRefIdeal : Cert.GatherRefIdeal.Facts) (hGatherRef : Cert.GatherRef.Facts) (hExchangeMod : Cert.ExchangeMod.Facts) (hExchangeModIdeal : Cert.ExchangeModIdeal.Facts) (hExchangeModRefIdeal : Cert.ExchangeModRefIdeal.Facts) (hExchangeModRef : Cert.ExchangeModRef.Facts) (hGatherSmall : Cert.GatherSmall.Facts) (hGatherSmallIdeal : Cert.GatherSmallIdeal.Facts) (hGatherSmallRefIdeal : Cert.GatherSmallRefIdeal.Facts) (hGatherSmallRef : Cert.GatherSmallRef.Facts) (hGatherGrads : Cert.GatherGrads.Facts) (hGatherGradsIdeal : Cert.GatherGradsIdeal.Facts) (hGatherGradsRefIdeal : Cert.GatherGradsRefIdeal.Facts) (hGatherGradsRef : Cert.GatherGradsRef.Facts) (hAdamKv : Cert.AdamKv.Facts) (hAdamKvIdeal : Cert.AdamKvIdeal.Facts) (hAdamKvRefIdeal : Cert.AdamKvRefIdeal.Facts) (hAdamSquare : Cert.AdamSquare.Facts) (hAdamSquareIdeal : Cert.AdamSquareIdeal.Facts) (hAdamSquareRefIdeal : Cert.AdamSquareRefIdeal.Facts) (hAdamGrp : Cert.AdamGrp.Facts) (hAdamGrpIdeal : Cert.AdamGrpIdeal.Facts) (hAdamGrpRefIdeal : Cert.AdamGrpRefIdeal.Facts) (hAdamQuery : Cert.AdamQuery.Facts) (hAdamQueryIdeal : Cert.AdamQueryIdeal.Facts) (hAdamQueryRefIdeal : Cert.AdamQueryRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamAda : Cert.AdamAda.Facts) (hAdamAdaIdeal : Cert.AdamAdaIdeal.Facts) (hAdamAdaRefIdeal : Cert.AdamAdaRefIdeal.Facts) (hAdamKvAda : Cert.AdamKvAda.Facts) (hAdamKvAdaIdeal : Cert.AdamKvAdaIdeal.Facts) (hAdamKvAdaRefIdeal : Cert.AdamKvAdaRefIdeal.Facts) (hAdamSmall : Cert.AdamSmall.Facts) (hAdamSmallIdeal : Cert.AdamSmallIdeal.Facts) (hAdamSmallRefIdeal : Cert.AdamSmallRefIdeal.Facts) (hModAda : Cert.ModAda.Facts) (hModAdaIdeal : Cert.ModAdaIdeal.Facts) (hModAdaRefIdeal : Cert.ModAdaRefIdeal.Facts) (hModKv : Cert.ModKv.Facts) (hModKvIdeal : Cert.ModKvIdeal.Facts) (hModKvRefIdeal : Cert.ModKvRefIdeal.Facts) (hLoss : Cert.Loss.Facts) (hLossIdeal : Cert.LossIdeal.Facts) (hLossRefIdeal : Cert.LossRefIdeal.Facts) (hNormGrad : Cert.NormGrad.Facts) (hNormGradIdeal : Cert.NormGradIdeal.Facts) (hNormGradRefIdeal : Cert.NormGradRefIdeal.Facts) (hNormFwd : Cert.NormFwd.Facts) (hNormFwdIdeal : Cert.NormFwdIdeal.Facts) (hNormFwdRefIdeal : Cert.NormFwdRefIdeal.Facts) (hProjAda : Cert.ProjAda.Facts) (hProjAdaIdeal : Cert.ProjAdaIdeal.Facts) (hProjAdaRefIdeal : Cert.ProjAdaRefIdeal.Facts) (hProjKv : Cert.ProjKv.Facts) (hProjKvIdeal : Cert.ProjKvIdeal.Facts) (hProjKvRefIdeal : Cert.ProjKvRefIdeal.Facts) (hMulIn : Cert.MulIn.Facts) (hMulInIdeal : Cert.MulInIdeal.Facts) (hMulInRefIdeal : Cert.MulInRefIdeal.Facts) (hMulQuery : Cert.MulQuery.Facts) (hMulQueryIdeal : Cert.MulQueryIdeal.Facts) (hMulQueryRefIdeal : Cert.MulQueryRefIdeal.Facts) (hMulKv : Cert.MulKv.Facts) (hMulKvIdeal : Cert.MulKvIdeal.Facts) (hMulKvRefIdeal : Cert.MulKvRefIdeal.Facts) (hMulUp : Cert.MulUp.Facts) (hMulUpIdeal : Cert.MulUpIdeal.Facts) (hMulUpRefIdeal : Cert.MulUpRefIdeal.Facts) (hDxIn : Cert.DxIn.Facts) (hDxInIdeal : Cert.DxInIdeal.Facts) (hDxInRefIdeal : Cert.DxInRefIdeal.Facts) (hDxOut : Cert.DxOut.Facts) (hDxOutIdeal : Cert.DxOutIdeal.Facts) (hDxOutRefIdeal : Cert.DxOutRefIdeal.Facts) (hDxDown : Cert.DxDown.Facts) (hDxDownIdeal : Cert.DxDownIdeal.Facts) (hDxDownRefIdeal : Cert.DxDownRefIdeal.Facts) (hDxQuery : Cert.DxQuery.Facts) (hDxQueryIdeal : Cert.DxQueryIdeal.Facts) (hDxQueryRefIdeal : Cert.DxQueryRefIdeal.Facts) (hDxKv : Cert.DxKv.Facts) (hDxKvIdeal : Cert.DxKvIdeal.Facts) (hDxKvRefIdeal : Cert.DxKvRefIdeal.Facts) (hDxUp : Cert.DxUp.Facts) (hDxUpIdeal : Cert.DxUpIdeal.Facts) (hDxUpRefIdeal : Cert.DxUpRefIdeal.Facts) (hDwSquare : Cert.DwSquare.Facts) (hDwSquareIdeal : Cert.DwSquareIdeal.Facts) (hDwSquareRefIdeal : Cert.DwSquareRefIdeal.Facts) (hDwQuery : Cert.DwQuery.Facts) (hDwQueryIdeal : Cert.DwQueryIdeal.Facts) (hDwQueryRefIdeal : Cert.DwQueryRefIdeal.Facts) (hDwKv : Cert.DwKv.Facts) (hDwKvIdeal : Cert.DwKvIdeal.Facts) (hDwKvRefIdeal : Cert.DwKvRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hMixOut : Cert.MixOut.Facts) (hMixOutIdeal : Cert.MixOutIdeal.Facts) (hMixOutRefIdeal : Cert.MixOutRefIdeal.Facts) (hMixDown : Cert.MixDown.Facts) (hMixDownIdeal : Cert.MixDownIdeal.Facts) (hMixDownRefIdeal : Cert.MixDownRefIdeal.Facts) (hTotal : Cert.Total.Facts) (hTotalIdeal : Cert.TotalIdeal.Facts) (hTotalRefIdeal : Cert.TotalRefIdeal.Facts),
    quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_ExchangeMod (hExchangeMod := hExchangeMod)
    ∧ quiescent_ExchangeModIdeal (hExchangeModIdeal := hExchangeModIdeal)
    ∧ quiescent_ExchangeModRefIdeal (hExchangeModRefIdeal := hExchangeModRefIdeal)
    ∧ quiescent_ExchangeModRef (hExchangeModRef := hExchangeModRef)
    ∧ quiescent_GatherSmall (hGatherSmall := hGatherSmall)
    ∧ quiescent_GatherSmallIdeal (hGatherSmallIdeal := hGatherSmallIdeal)
    ∧ quiescent_GatherSmallRefIdeal (hGatherSmallRefIdeal := hGatherSmallRefIdeal)
    ∧ quiescent_GatherSmallRef (hGatherSmallRef := hGatherSmallRef)
    ∧ quiescent_GatherGrads (hGatherGrads := hGatherGrads)
    ∧ quiescent_GatherGradsIdeal (hGatherGradsIdeal := hGatherGradsIdeal)
    ∧ quiescent_GatherGradsRefIdeal (hGatherGradsRefIdeal := hGatherGradsRefIdeal)
    ∧ quiescent_GatherGradsRef (hGatherGradsRef := hGatherGradsRef)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamGrp (hAdamGrp := hAdamGrp)
    ∧ quiescent_AdamGrpIdeal (hAdamGrpIdeal := hAdamGrpIdeal)
    ∧ quiescent_AdamGrpRefIdeal (hAdamGrpRefIdeal := hAdamGrpRefIdeal)
    ∧ quiescent_AdamQuery (hAdamQuery := hAdamQuery)
    ∧ quiescent_AdamQueryIdeal (hAdamQueryIdeal := hAdamQueryIdeal)
    ∧ quiescent_AdamQueryRefIdeal (hAdamQueryRefIdeal := hAdamQueryRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamKvAda (hAdamKvAda := hAdamKvAda)
    ∧ quiescent_AdamKvAdaIdeal (hAdamKvAdaIdeal := hAdamKvAdaIdeal)
    ∧ quiescent_AdamKvAdaRefIdeal (hAdamKvAdaRefIdeal := hAdamKvAdaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_ModAda (hModAda := hModAda)
    ∧ quiescent_ModAdaIdeal (hModAdaIdeal := hModAdaIdeal)
    ∧ quiescent_ModAdaRefIdeal (hModAdaRefIdeal := hModAdaRefIdeal)
    ∧ quiescent_ModKv (hModKv := hModKv)
    ∧ quiescent_ModKvIdeal (hModKvIdeal := hModKvIdeal)
    ∧ quiescent_ModKvRefIdeal (hModKvRefIdeal := hModKvRefIdeal)
    ∧ quiescent_Loss (hLoss := hLoss)
    ∧ quiescent_LossIdeal (hLossIdeal := hLossIdeal)
    ∧ quiescent_LossRefIdeal (hLossRefIdeal := hLossRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ProjAda (hProjAda := hProjAda)
    ∧ quiescent_ProjAdaIdeal (hProjAdaIdeal := hProjAdaIdeal)
    ∧ quiescent_ProjAdaRefIdeal (hProjAdaRefIdeal := hProjAdaRefIdeal)
    ∧ quiescent_ProjKv (hProjKv := hProjKv)
    ∧ quiescent_ProjKvIdeal (hProjKvIdeal := hProjKvIdeal)
    ∧ quiescent_ProjKvRefIdeal (hProjKvRefIdeal := hProjKvRefIdeal)
    ∧ quiescent_MulIn (hMulIn := hMulIn)
    ∧ quiescent_MulInIdeal (hMulInIdeal := hMulInIdeal)
    ∧ quiescent_MulInRefIdeal (hMulInRefIdeal := hMulInRefIdeal)
    ∧ quiescent_MulQuery (hMulQuery := hMulQuery)
    ∧ quiescent_MulQueryIdeal (hMulQueryIdeal := hMulQueryIdeal)
    ∧ quiescent_MulQueryRefIdeal (hMulQueryRefIdeal := hMulQueryRefIdeal)
    ∧ quiescent_MulKv (hMulKv := hMulKv)
    ∧ quiescent_MulKvIdeal (hMulKvIdeal := hMulKvIdeal)
    ∧ quiescent_MulKvRefIdeal (hMulKvRefIdeal := hMulKvRefIdeal)
    ∧ quiescent_MulUp (hMulUp := hMulUp)
    ∧ quiescent_MulUpIdeal (hMulUpIdeal := hMulUpIdeal)
    ∧ quiescent_MulUpRefIdeal (hMulUpRefIdeal := hMulUpRefIdeal)
    ∧ quiescent_DxIn (hDxIn := hDxIn)
    ∧ quiescent_DxInIdeal (hDxInIdeal := hDxInIdeal)
    ∧ quiescent_DxInRefIdeal (hDxInRefIdeal := hDxInRefIdeal)
    ∧ quiescent_DxOut (hDxOut := hDxOut)
    ∧ quiescent_DxOutIdeal (hDxOutIdeal := hDxOutIdeal)
    ∧ quiescent_DxOutRefIdeal (hDxOutRefIdeal := hDxOutRefIdeal)
    ∧ quiescent_DxDown (hDxDown := hDxDown)
    ∧ quiescent_DxDownIdeal (hDxDownIdeal := hDxDownIdeal)
    ∧ quiescent_DxDownRefIdeal (hDxDownRefIdeal := hDxDownRefIdeal)
    ∧ quiescent_DxQuery (hDxQuery := hDxQuery)
    ∧ quiescent_DxQueryIdeal (hDxQueryIdeal := hDxQueryIdeal)
    ∧ quiescent_DxQueryRefIdeal (hDxQueryRefIdeal := hDxQueryRefIdeal)
    ∧ quiescent_DxKv (hDxKv := hDxKv)
    ∧ quiescent_DxKvIdeal (hDxKvIdeal := hDxKvIdeal)
    ∧ quiescent_DxKvRefIdeal (hDxKvRefIdeal := hDxKvRefIdeal)
    ∧ quiescent_DxUp (hDxUp := hDxUp)
    ∧ quiescent_DxUpIdeal (hDxUpIdeal := hDxUpIdeal)
    ∧ quiescent_DxUpRefIdeal (hDxUpRefIdeal := hDxUpRefIdeal)
    ∧ quiescent_DwSquare (hDwSquare := hDwSquare)
    ∧ quiescent_DwSquareIdeal (hDwSquareIdeal := hDwSquareIdeal)
    ∧ quiescent_DwSquareRefIdeal (hDwSquareRefIdeal := hDwSquareRefIdeal)
    ∧ quiescent_DwQuery (hDwQuery := hDwQuery)
    ∧ quiescent_DwQueryIdeal (hDwQueryIdeal := hDwQueryIdeal)
    ∧ quiescent_DwQueryRefIdeal (hDwQueryRefIdeal := hDwQueryRefIdeal)
    ∧ quiescent_DwKv (hDwKv := hDwKv)
    ∧ quiescent_DwKvIdeal (hDwKvIdeal := hDwKvIdeal)
    ∧ quiescent_DwKvRefIdeal (hDwKvRefIdeal := hDwKvRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixDown (hMixDown := hMixDown)
    ∧ quiescent_MixDownIdeal (hMixDownIdeal := hMixDownIdeal)
    ∧ quiescent_MixDownRefIdeal (hMixDownRefIdeal := hMixDownRefIdeal)
    ∧ quiescent_Total (hTotal := hTotal)
    ∧ quiescent_TotalIdeal (hTotalIdeal := hTotalIdeal)
    ∧ quiescent_TotalRefIdeal (hTotalRefIdeal := hTotalRefIdeal)
    ∧ preserves_Exchange_ExchangeIdeal
    ∧ algebraic_ExchangeIdeal_ExchangeRefIdeal (hExchangeIdeal := hExchangeIdeal) (hExchangeRefIdeal := hExchangeRefIdeal)
    ∧ bitexact_Exchange_ExchangeRef (hExchange := hExchange) (hExchangeRef := hExchangeRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_ExchangeMod_ExchangeModIdeal
    ∧ algebraic_ExchangeModIdeal_ExchangeModRefIdeal (hExchangeModIdeal := hExchangeModIdeal) (hExchangeModRefIdeal := hExchangeModRefIdeal)
    ∧ bitexact_ExchangeMod_ExchangeModRef (hExchangeMod := hExchangeMod) (hExchangeModRef := hExchangeModRef)
    ∧ preserves_GatherSmall_GatherSmallIdeal
    ∧ algebraic_GatherSmallIdeal_GatherSmallRefIdeal (hGatherSmallIdeal := hGatherSmallIdeal) (hGatherSmallRefIdeal := hGatherSmallRefIdeal)
    ∧ bitexact_GatherSmall_GatherSmallRef (hGatherSmall := hGatherSmall) (hGatherSmallRef := hGatherSmallRef)
    ∧ preserves_GatherGrads_GatherGradsIdeal
    ∧ algebraic_GatherGradsIdeal_GatherGradsRefIdeal (hGatherGradsIdeal := hGatherGradsIdeal) (hGatherGradsRefIdeal := hGatherGradsRefIdeal)
    ∧ bitexact_GatherGrads_GatherGradsRef (hGatherGrads := hGatherGrads) (hGatherGradsRef := hGatherGradsRef)
    ∧ preserves_AdamKv_AdamKvIdeal
    ∧ algebraic_AdamKvIdeal_AdamKvRefIdeal (hAdamKvIdeal := hAdamKvIdeal) (hAdamKvRefIdeal := hAdamKvRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamGrp_AdamGrpIdeal
    ∧ algebraic_AdamGrpIdeal_AdamGrpRefIdeal (hAdamGrpIdeal := hAdamGrpIdeal) (hAdamGrpRefIdeal := hAdamGrpRefIdeal)
    ∧ preserves_AdamQuery_AdamQueryIdeal
    ∧ algebraic_AdamQueryIdeal_AdamQueryRefIdeal (hAdamQueryIdeal := hAdamQueryIdeal) (hAdamQueryRefIdeal := hAdamQueryRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamKvAda_AdamKvAdaIdeal
    ∧ algebraic_AdamKvAdaIdeal_AdamKvAdaRefIdeal (hAdamKvAdaIdeal := hAdamKvAdaIdeal) (hAdamKvAdaRefIdeal := hAdamKvAdaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_ModAda_ModAdaIdeal
    ∧ algebraic_ModAdaIdeal_ModAdaRefIdeal (hModAdaIdeal := hModAdaIdeal) (hModAdaRefIdeal := hModAdaRefIdeal)
    ∧ preserves_ModKv_ModKvIdeal
    ∧ algebraic_ModKvIdeal_ModKvRefIdeal (hModKvIdeal := hModKvIdeal) (hModKvRefIdeal := hModKvRefIdeal)
    ∧ preserves_Loss_LossIdeal
    ∧ algebraic_LossIdeal_LossRefIdeal (hLossIdeal := hLossIdeal) (hLossRefIdeal := hLossRefIdeal)
    ∧ preserves_NormGrad_NormGradIdeal
    ∧ algebraic_NormGradIdeal_NormGradRefIdeal (hNormGradIdeal := hNormGradIdeal) (hNormGradRefIdeal := hNormGradRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ProjAda_ProjAdaIdeal
    ∧ algebraic_ProjAdaIdeal_ProjAdaRefIdeal (hProjAdaIdeal := hProjAdaIdeal) (hProjAdaRefIdeal := hProjAdaRefIdeal)
    ∧ preserves_ProjKv_ProjKvIdeal
    ∧ algebraic_ProjKvIdeal_ProjKvRefIdeal (hProjKvIdeal := hProjKvIdeal) (hProjKvRefIdeal := hProjKvRefIdeal)
    ∧ preserves_MulIn_MulInIdeal
    ∧ algebraic_MulInIdeal_MulInRefIdeal (hMulInIdeal := hMulInIdeal) (hMulInRefIdeal := hMulInRefIdeal)
    ∧ preserves_MulQuery_MulQueryIdeal
    ∧ algebraic_MulQueryIdeal_MulQueryRefIdeal (hMulQueryIdeal := hMulQueryIdeal) (hMulQueryRefIdeal := hMulQueryRefIdeal)
    ∧ preserves_MulKv_MulKvIdeal
    ∧ algebraic_MulKvIdeal_MulKvRefIdeal (hMulKvIdeal := hMulKvIdeal) (hMulKvRefIdeal := hMulKvRefIdeal)
    ∧ preserves_MulUp_MulUpIdeal
    ∧ algebraic_MulUpIdeal_MulUpRefIdeal (hMulUpIdeal := hMulUpIdeal) (hMulUpRefIdeal := hMulUpRefIdeal)
    ∧ preserves_DxIn_DxInIdeal
    ∧ algebraic_DxInIdeal_DxInRefIdeal (hDxInIdeal := hDxInIdeal) (hDxInRefIdeal := hDxInRefIdeal)
    ∧ preserves_DxOut_DxOutIdeal
    ∧ algebraic_DxOutIdeal_DxOutRefIdeal (hDxOutIdeal := hDxOutIdeal) (hDxOutRefIdeal := hDxOutRefIdeal)
    ∧ preserves_DxDown_DxDownIdeal
    ∧ algebraic_DxDownIdeal_DxDownRefIdeal (hDxDownIdeal := hDxDownIdeal) (hDxDownRefIdeal := hDxDownRefIdeal)
    ∧ preserves_DxQuery_DxQueryIdeal
    ∧ algebraic_DxQueryIdeal_DxQueryRefIdeal (hDxQueryIdeal := hDxQueryIdeal) (hDxQueryRefIdeal := hDxQueryRefIdeal)
    ∧ preserves_DxKv_DxKvIdeal
    ∧ algebraic_DxKvIdeal_DxKvRefIdeal (hDxKvIdeal := hDxKvIdeal) (hDxKvRefIdeal := hDxKvRefIdeal)
    ∧ preserves_DxUp_DxUpIdeal
    ∧ algebraic_DxUpIdeal_DxUpRefIdeal (hDxUpIdeal := hDxUpIdeal) (hDxUpRefIdeal := hDxUpRefIdeal)
    ∧ preserves_DwSquare_DwSquareIdeal
    ∧ algebraic_DwSquareIdeal_DwSquareRefIdeal (hDwSquareIdeal := hDwSquareIdeal) (hDwSquareRefIdeal := hDwSquareRefIdeal)
    ∧ preserves_DwQuery_DwQueryIdeal
    ∧ algebraic_DwQueryIdeal_DwQueryRefIdeal (hDwQueryIdeal := hDwQueryIdeal) (hDwQueryRefIdeal := hDwQueryRefIdeal)
    ∧ preserves_DwKv_DwKvIdeal
    ∧ algebraic_DwKvIdeal_DwKvRefIdeal (hDwKvIdeal := hDwKvIdeal) (hDwKvRefIdeal := hDwKvRefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_MixOut_MixOutIdeal
    ∧ algebraic_MixOutIdeal_MixOutRefIdeal (hMixOutIdeal := hMixOutIdeal) (hMixOutRefIdeal := hMixOutRefIdeal)
    ∧ preserves_MixDown_MixDownIdeal
    ∧ algebraic_MixDownIdeal_MixDownRefIdeal (hMixDownIdeal := hMixDownIdeal) (hMixDownRefIdeal := hMixDownRefIdeal)
    ∧ preserves_Total_TotalIdeal
    ∧ algebraic_TotalIdeal_TotalRefIdeal (hTotalIdeal := hTotalIdeal) (hTotalRefIdeal := hTotalRefIdeal)
-- ==== Exchange.lean ====
abbrev S8x52736x128 : Shape := ⟨3, ![8, 52736, 128]⟩
abbrev S7 : Shape := ⟨1, ![7]⟩
abbrev S_ : Shape := ⟨0, ![]⟩
abbrev S1x52736x128 : Shape := ⟨3, ![1, 52736, 128]⟩
abbrev S52736x128 : Shape := ⟨2, ![52736, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x52736x128, .bf16⟩
  | .hbm, ⟨1, _⟩ => ⟨S8x52736x128, .bf16⟩
  | _, _ => ⟨S8x52736x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_19 : BitVec 32 := 0#32
  let c0_i32_20 : BitVec 32 := 0#32
  ![v21.toNat, 0, 0]
def k0_dev1 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v22 : BitVec 32 := Scalar.muli v2 c4_i32_13
  let v23 : BitVec 32 := Scalar.addi c0_i32_14 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v24 : BitVec 32 := Scalar.muli v5 c2_i32_15
  let v25 : BitVec 32 := Scalar.addi v23 v24
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_16 : BitVec 32 := 1#32
  let v26 : BitVec 32 := Scalar.muli v17 c1_i32_16
  let v27 : BitVec 32 := Scalar.addi v25 v26
  v27.toNat
def k0_off3 (d0 : Dev nD) : Fin 3 → Nat :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.muli c4_i32_22 v2
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_21 v5
  let v38 : BitVec 32 := Scalar.muli c2_i32_23 v36
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.addi v39 v8
  let c0_i32_32 : BitVec 32 := 0#32
  let c0_i32_33 : BitVec 32 := 0#32
  ![v40.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v41 : BitVec 32 := Scalar.muli v2 c4_i32_26
  let v42 : BitVec 32 := Scalar.addi c0_i32_27 v41
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_21 v5
  let c2_i32_28 : BitVec 32 := 2#32
  let v43 : BitVec 32 := Scalar.muli v36 c2_i32_28
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v45 : BitVec 32 := Scalar.muli v8 c1_i32_29
  let v46 : BitVec 32 := Scalar.addi v44 v45
  v46.toNat
def k0_off4 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_34 v5
  let v58 : BitVec 32 := Scalar.muli c2_i32_37 v55
  let v59 : BitVec 32 := Scalar.addi v57 v58
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_35 v8
  let v60 : BitVec 32 := Scalar.addi v59 v56
  let c0_i32_46 : BitVec 32 := 0#32
  let c0_i32_47 : BitVec 32 := 0#32
  ![v60.toNat, 0, 0]
def k0_dev3 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v61 : BitVec 32 := Scalar.muli v2 c4_i32_40
  let v62 : BitVec 32 := Scalar.addi c0_i32_41 v61
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_34 v5
  let c2_i32_42 : BitVec 32 := 2#32
  let v63 : BitVec 32 := Scalar.muli v55 c2_i32_42
  let v64 : BitVec 32 := Scalar.addi v62 v63
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_35 v8
  let c1_i32_43 : BitVec 32 := 1#32
  let v65 : BitVec 32 := Scalar.muli v56 c1_i32_43
  let v66 : BitVec 32 := Scalar.addi v64 v65
  v66.toNat
def k0_off5 (d0 : Dev nD) : Fin 3 → Nat :=
  let c4_i32_49 : BitVec 32 := 4#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_48 v2
  let v76 : BitVec 32 := Scalar.muli c4_i32_49 v75
  let c2_i32_50 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.muli c2_i32_50 v5
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v79 : BitVec 32 := Scalar.addi v78 v8
  let c0_i32_58 : BitVec 32 := 0#32
  let c0_i32_59 : BitVec 32 := 0#32
  ![v79.toNat, 0, 0]
def k0_dev4 (d0 : Dev nD) : Nat :=
  let c0_i32_53 : BitVec 32 := 0#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_48 v2
  let c4_i32_52 : BitVec 32 := 4#32
  let v80 : BitVec 32 := Scalar.muli v75 c4_i32_52
  let v81 : BitVec 32 := Scalar.addi c0_i32_53 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v82 : BitVec 32 := Scalar.muli v5 c2_i32_54
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v84 : BitVec 32 := Scalar.muli v8 c1_i32_55
  let v85 : BitVec 32 := Scalar.addi v83 v84
  v85.toNat
def k0_off6 (d0 : Dev nD) : Fin 3 → Nat :=
  let c4_i32_62 : BitVec 32 := 4#32
  let c1_i32_60 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_60 v2
  let v96 : BitVec 32 := Scalar.muli c4_i32_62 v94
  let c2_i32_63 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.muli c2_i32_63 v5
  let v98 : BitVec 32 := Scalar.addi v96 v97
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_61 v8
  let v99 : BitVec 32 := Scalar.addi v98 v95
  let c0_i32_72 : BitVec 32 := 0#32
  let c0_i32_73 : BitVec 32 := 0#32
  ![v99.toNat, 0, 0]
def k0_dev5 (d0 : Dev nD) : Nat :=
  let c0_i32_67 : BitVec 32 := 0#32
  let c1_i32_60 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_60 v2
  let c4_i32_66 : BitVec 32 := 4#32
  let v100 : BitVec 32 := Scalar.muli v94 c4_i32_66
  let v101 : BitVec 32 := Scalar.addi c0_i32_67 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v102 : BitVec 32 := Scalar.muli v5 c2_i32_68
  let v103 : BitVec 32 := Scalar.addi v101 v102
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_61 v8
  let c1_i32_69 : BitVec 32 := 1#32
  let v104 : BitVec 32 := Scalar.muli v95 c1_i32_69
  let v105 : BitVec 32 := Scalar.addi v103 v104
  v105.toNat
def k0_off7 (d0 : Dev nD) : Fin 3 → Nat :=
  let c4_i32_76 : BitVec 32 := 4#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_74 v2
  let v116 : BitVec 32 := Scalar.muli c4_i32_76 v114
  let c2_i32_77 : BitVec 32 := 2#32
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.subi c1_i32_75 v5
  let v117 : BitVec 32 := Scalar.muli c2_i32_77 v115
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v119 : BitVec 32 := Scalar.addi v118 v8
  let c0_i32_85 : BitVec 32 := 0#32
  let c0_i32_86 : BitVec 32 := 0#32
  ![v119.toNat, 0, 0]
def k0_dev6 (d0 : Dev nD) : Nat :=
  let c0_i32_80 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_74 v2
  let c4_i32_79 : BitVec 32 := 4#32
  let v120 : BitVec 32 := Scalar.muli v114 c4_i32_79
  let v121 : BitVec 32 := Scalar.addi c0_i32_80 v120
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.subi c1_i32_75 v5
  let c2_i32_81 : BitVec 32 := 2#32
  let v122 : BitVec 32 := Scalar.muli v115 c2_i32_81
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v124 : BitVec 32 := Scalar.muli v8 c1_i32_82
  let v125 : BitVec 32 := Scalar.addi v123 v124
  v125.toNat
def k0_off8 (d0 : Dev nD) : Fin 3 → Nat :=
  let c4_i32_90 : BitVec 32 := 4#32
  let c1_i32_87 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_87 v2
  let v137 : BitVec 32 := Scalar.muli c4_i32_90 v134
  let c2_i32_91 : BitVec 32 := 2#32
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_88 v5
  let v138 : BitVec 32 := Scalar.muli c2_i32_91 v135
  let v139 : BitVec 32 := Scalar.addi v137 v138
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_89 v8
  let v140 : BitVec 32 := Scalar.addi v139 v136
  let c0_i32_99 : BitVec 32 := 0#32
  let c0_i32_100 : BitVec 32 := 0#32
  ![v140.toNat, 0, 0]
def k0_dev7 (d0 : Dev nD) : Nat :=
  let c0_i32_94 : BitVec 32 := 0#32
  let c1_i32_87 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_87 v2
  let c4_i32_93 : BitVec 32 := 4#32
  let v141 : BitVec 32 := Scalar.muli v134 c4_i32_93
  let v142 : BitVec 32 := Scalar.addi c0_i32_94 v141
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_88 v5
  let c2_i32_95 : BitVec 32 := 2#32
  let v143 : BitVec 32 := Scalar.muli v135 c2_i32_95
  let v144 : BitVec 32 := Scalar.addi v142 v143
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_89 v8
  let c1_i32_96 : BitVec 32 := 1#32
  let v145 : BitVec 32 := Scalar.muli v136 c1_i32_96
  let v146 : BitVec 32 := Scalar.addi v144 v145
  v146.toNat
-- ==== ExchangeIdeal.lean ====
abbrev S8x52736x128 : Shape := ⟨3, ![8, 52736, 128]⟩
abbrev S7 : Shape := ⟨1, ![7]⟩
abbrev S_ : Shape := ⟨0, ![]⟩
abbrev S1x52736x128 : Shape := ⟨3, ![1, 52736, 128]⟩
abbrev S52736x128 : Shape := ⟨2, ![52736, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x52736x128, .bf16⟩
  | .hbm, ⟨1, _⟩ => ⟨S8x52736x128, .bf16⟩
  | _, _ => ⟨S8x52736x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_19 : BitVec 32 := 0#32
  let c0_i32_20 : BitVec 32 := 0#32
  ![v21.toNat, 0, 0]
def k0_dev1 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v22 : BitVec 32 := Scalar.muli v2 c4_i32_13
  let v23 : BitVec 32 := Scalar.addi c0_i32_14 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v24 : BitVec 32 := Scalar.muli v5 c2_i32_15
  let v25 : BitVec 32 := Scalar.addi v23 v24
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_16 : BitVec 32 := 1#32
  let v26 : BitVec 32 := Scalar.muli v17 c1_i32_16
  let v27 : BitVec 32 := Scalar.addi v25 v26
  v27.toNat
def k0_off3 (d0 : Dev nD) : Fin 3 → Nat :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.muli c4_i32_22 v2
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_21 v5
  let v38 : BitVec 32 := Scalar.muli c2_i32_23 v36
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.addi v39 v8
  let c0_i32_32 : BitVec 32 := 0#32
  let c0_i32_33 : BitVec 32 := 0#32
  ![v40.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v41 : BitVec 32 := Scalar.muli v2 c4_i32_26
  let v42 : BitVec 32 := Scalar.addi c0_i32_27 v41
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_21 v5
  let c2_i32_28 : BitVec 32 := 2#32
  let v43 : BitVec 32 := Scalar.muli v36 c2_i32_28
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v45 : BitVec 32 := Scalar.muli v8 c1_i32_29
  let v46 : BitVec 32 := Scalar.addi v44 v45
  v46.toNat
def k0_off4 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_34 v5
  let v58 : BitVec 32 := Scalar.muli c2_i32_37 v55
  let v59 : BitVec 32 := Scalar.addi v57 v58
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_35 v8
  let v60 : BitVec 32 := Scalar.addi v59 v56
  let c0_i32_46 : BitVec 32 := 0#32
  let c0_i32_47 : BitVec 32 := 0#32
  ![v60.toNat, 0, 0]
def k0_dev3 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v61 : BitVec 32 := Scalar.muli v2 c4_i32_40
  let v62 : BitVec 32 := Scalar.addi c0_i32_41 v61
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_34 v5
  let c2_i32_42 : BitVec 32 := 2#32
  let v63 : BitVec 32 := Scalar.muli v55 c2_i32_42
  let v64 : BitVec 32 := Scalar.addi v62 v63
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_35 v8
  let c1_i32_43 : BitVec 32 := 1#32
  let v65 : BitVec 32 := Scalar.muli v56 c1_i32_43
  let v66 : BitVec 32 := Scalar.addi v64 v65
  v66.toNat
def k0_off5 (d0 : Dev nD) : Fin 3 → Nat :=
  let c4_i32_49 : BitVec 32 := 4#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_48 v2
  let v76 : BitVec 32 := Scalar.muli c4_i32_49 v75
  let c2_i32_50 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.muli c2_i32_50 v5
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v79 : BitVec 32 := Scalar.addi v78 v8
  let c0_i32_58 : BitVec 32 := 0#32
  let c0_i32_59 : BitVec 32 := 0#32
  ![v79.toNat, 0, 0]
def k0_dev4 (d0 : Dev nD) : Nat :=
  let c0_i32_53 : BitVec 32 := 0#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_48 v2
  let c4_i32_52 : BitVec 32 := 4#32
  let v80 : BitVec 32 := Scalar.muli v75 c4_i32_52
  let v81 : BitVec 32 := Scalar.addi c0_i32_53 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v82 : BitVec 32 := Scalar.muli v5 c2_i32_54
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v84 : BitVec 32 := Scalar.muli v8 c1_i32_55
  let v85 : BitVec 32 := Scalar.addi v83 v84
  v85.toNat
def k0_off6 (d0 : Dev nD) : Fin 3 → Nat :=
  let c4_i32_62 : BitVec 32 := 4#32
  let c1_i32_60 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_60 v2
  let v96 : BitVec 32 := Scalar.muli c4_i32_62 v94
  let c2_i32_63 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.muli c2_i32_63 v5
  let v98 : BitVec 32 := Scalar.addi v96 v97
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_61 v8
  let v99 : BitVec 32 := Scalar.addi v98 v95
  let c0_i32_72 : BitVec 32 := 0#32
  let c0_i32_73 : BitVec 32 := 0#32
  ![v99.toNat, 0, 0]
def k0_dev5 (d0 : Dev nD) : Nat :=
  let c0_i32_67 : BitVec 32 := 0#32
  let c1_i32_60 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_60 v2
  let c4_i32_66 : BitVec 32 := 4#32
  let v100 : BitVec 32 := Scalar.muli v94 c4_i32_66
  let v101 : BitVec 32 := Scalar.addi c0_i32_67 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v102 : BitVec 32 := Scalar.muli v5 c2_i32_68
  let v103 : BitVec 32 := Scalar.addi v101 v102
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_61 v8
  let c1_i32_69 : BitVec 32 := 1#32
  let v104 : BitVec 32 := Scalar.muli v95 c1_i32_69
  let v105 : BitVec 32 := Scalar.addi v103 v104
  v105.toNat
def k0_off7 (d0 : Dev nD) : Fin 3 → Nat :=
  let c4_i32_76 : BitVec 32 := 4#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_74 v2
  let v116 : BitVec 32 := Scalar.muli c4_i32_76 v114
  let c2_i32_77 : BitVec 32 := 2#32
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.subi c1_i32_75 v5
  let v117 : BitVec 32 := Scalar.muli c2_i32_77 v115
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v119 : BitVec 32 := Scalar.addi v118 v8
  let c0_i32_85 : BitVec 32 := 0#32
  let c0_i32_86 : BitVec 32 := 0#32
  ![v119.toNat, 0, 0]
def k0_dev6 (d0 : Dev nD) : Nat :=
  let c0_i32_80 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_74 v2
  let c4_i32_79 : BitVec 32 := 4#32
  let v120 : BitVec 32 := Scalar.muli v114 c4_i32_79
  let v121 : BitVec 32 := Scalar.addi c0_i32_80 v120
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.subi c1_i32_75 v5
  let c2_i32_81 : BitVec 32 := 2#32
  let v122 : BitVec 32 := Scalar.muli v115 c2_i32_81
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v124 : BitVec 32 := Scalar.muli v8 c1_i32_82
  let v125 : BitVec 32 := Scalar.addi v123 v124
  v125.toNat
def k0_off8 (d0 : Dev nD) : Fin 3 → Nat :=
  let c4_i32_90 : BitVec 32 := 4#32
  let c1_i32_87 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_87 v2
  let v137 : BitVec 32 := Scalar.muli c4_i32_90 v134
  let c2_i32_91 : BitVec 32 := 2#32
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_88 v5
  let v138 : BitVec 32 := Scalar.muli c2_i32_91 v135
  let v139 : BitVec 32 := Scalar.addi v137 v138
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_89 v8
  let v140 : BitVec 32 := Scalar.addi v139 v136
  let c0_i32_99 : BitVec 32 := 0#32
  let c0_i32_100 : BitVec 32 := 0#32
  ![v140.toNat, 0, 0]
def k0_dev7 (d0 : Dev nD) : Nat :=
  let c0_i32_94 : BitVec 32 := 0#32
  let c1_i32_87 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_87 v2
  let c4_i32_93 : BitVec 32 := 4#32
  let v141 : BitVec 32 := Scalar.muli v134 c4_i32_93
  let v142 : BitVec 32 := Scalar.addi c0_i32_94 v141
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_88 v5
  let c2_i32_95 : BitVec 32 := 2#32
  let v143 : BitVec 32 := Scalar.muli v135 c2_i32_95
  let v144 : BitVec 32 := Scalar.addi v142 v143
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_89 v8
  let c1_i32_96 : BitVec 32 := 1#32
  let v145 : BitVec 32 := Scalar.muli v136 c1_i32_96
  let v146 : BitVec 32 := Scalar.addi v144 v145
  v146.toNat
-- ==== ExchangeRefIdeal.lean ====
abbrev S64x52736x128 : Shape := ⟨3, ![64, 52736, 128]⟩
abbrev S8x421888x128 : Shape := ⟨3, ![8, 421888, 128]⟩

abbrev nBuf : Space → Nat
  | .hbm => 2
  | .vmem => 0
  | .smem => 0
  | _ => 0

abbrev bufTy : (tb : Table) → Fin (tcTables nBuf tb) → BufTy
  | .hbm, ⟨0, _⟩ => ⟨S64x52736x128, .bf16⟩
  | .hbm, ⟨1, _⟩ => ⟨S8x421888x128, .bf16⟩
  | _, _ => ⟨S64x52736x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ExchangeRef.lean ====
abbrev S64x52736x128 : Shape := ⟨3, ![64, 52736, 128]⟩
abbrev S8x421888x128 : Shape := ⟨3, ![8, 421888, 128]⟩

abbrev nBuf : Space → Nat
  | .hbm => 2
  | .vmem => 0
  | .smem => 0
  | _ => 0

abbrev bufTy : (tb : Table) → Fin (tcTables nBuf tb) → BufTy
  | .hbm, ⟨0, _⟩ => ⟨S64x52736x128, .bf16⟩
  | .hbm, ⟨1, _⟩ => ⟨S8x421888x128, .bf16⟩
  | _, _ => ⟨S64x52736x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Gather.lean ====
abbrev S52736x128 : Shape := ⟨2, ![52736, 128]⟩
abbrev S8x52736x128 : Shape := ⟨3, ![8, 52736, 128]⟩
abbrev S7 : Shape := ⟨1, ![7]⟩
abbrev S_ : Shape := ⟨0, ![]⟩
abbrev S1x52736x128 : Shape := ⟨3, ![1, 52736, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S52736x128, .bf16⟩
  | .hbm, ⟨1, _⟩ => ⟨S8x52736x128, .bf16⟩
  | _, _ => ⟨S52736x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherIdeal.lean ====
abbrev S52736x128 : Shape := ⟨2, ![52736, 128]⟩
abbrev S8x52736x128 : Shape := ⟨3, ![8, 52736, 128]⟩
abbrev S7 : Shape := ⟨1, ![7]⟩
abbrev S_ : Shape := ⟨0, ![]⟩
abbrev S1x52736x128 : Shape := ⟨3, ![1, 52736, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S52736x128, .bf16⟩
  | .hbm, ⟨1, _⟩ => ⟨S8x52736x128, .bf16⟩
  | _, _ => ⟨S52736x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherRefIdeal.lean ====
abbrev S421888x128 : Shape := ⟨2, ![421888, 128]⟩
abbrev S8x52736x128 : Shape := ⟨3, ![8, 52736, 128]⟩

abbrev nBuf : Space → Nat
  | .hbm => 2
  | .vmem => 0
  | .smem => 0
  | _ => 0

abbrev bufTy : (tb : Table) → Fin (tcTables nBuf tb) → BufTy
  | .hbm, ⟨0, _⟩ => ⟨S421888x128, .bf16⟩
  | .hbm, ⟨1, _⟩ => ⟨S8x52736x128, .bf16⟩
  | _, _ => ⟨S421888x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherRef.lean ====
abbrev S421888x128 : Shape := ⟨2, ![421888, 128]⟩
abbrev S8x52736x128 : Shape := ⟨3, ![8, 52736, 128]⟩

abbrev nBuf : Space → Nat
  | .hbm => 2
  | .vmem => 0
  | .smem => 0
  | _ => 0

abbrev bufTy : (tb : Table) → Fin (tcTables nBuf tb) → BufTy
  | .hbm, ⟨0, _⟩ => ⟨S421888x128, .bf16⟩
  | .hbm, ⟨1, _⟩ => ⟨S8x52736x128, .bf16⟩
  | _, _ => ⟨S421888x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ExchangeMod.lean ====
abbrev S8x32x128 : Shape := ⟨3, ![8, 32, 128]⟩
abbrev S7 : Shape := ⟨1, ![7]⟩
abbrev S_ : Shape := ⟨0, ![]⟩
abbrev S1x32x128 : Shape := ⟨3, ![1, 32, 128]⟩
abbrev S32x128 : Shape := ⟨2, ![32, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S8x32x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_19 : BitVec 32 := 0#32
  let c0_i32_20 : BitVec 32 := 0#32
  ![v21.toNat, 0, 0]
def k0_dev1 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v22 : BitVec 32 := Scalar.muli v2 c4_i32_13
  let v23 : BitVec 32 := Scalar.addi c0_i32_14 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v24 : BitVec 32 := Scalar.muli v5 c2_i32_15
  let v25 : BitVec 32 := Scalar.addi v23 v24
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_16 : BitVec 32 := 1#32
  let v26 : BitVec 32 := Scalar.muli v17 c1_i32_16
  let v27 : BitVec 32 := Scalar.addi v25 v26
  v27.toNat
def k0_off3 (d0 : Dev nD) : Fin 3 → Nat :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.muli c4_i32_22 v2
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_21 v5
  let v38 : BitVec 32 := Scalar.muli c2_i32_23 v36
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.addi v39 v8
  let c0_i32_32 : BitVec 32 := 0#32
  let c0_i32_33 : BitVec 32 := 0#32
  ![v40.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v41 : BitVec 32 := Scalar.muli v2 c4_i32_26
  let v42 : BitVec 32 := Scalar.addi c0_i32_27 v41
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_21 v5
  let c2_i32_28 : BitVec 32 := 2#32
  let v43 : BitVec 32 := Scalar.muli v36 c2_i32_28
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v45 : BitVec 32 := Scalar.muli v8 c1_i32_29
  let v46 : BitVec 32 := Scalar.addi v44 v45
  v46.toNat
def k0_off4 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_34 v5
  let v58 : BitVec 32 := Scalar.muli c2_i32_37 v55
  let v59 : BitVec 32 := Scalar.addi v57 v58
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_35 v8
  let v60 : BitVec 32 := Scalar.addi v59 v56
  let c0_i32_46 : BitVec 32 := 0#32
  let c0_i32_47 : BitVec 32 := 0#32
  ![v60.toNat, 0, 0]
def k0_dev3 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v61 : BitVec 32 := Scalar.muli v2 c4_i32_40
  let v62 : BitVec 32 := Scalar.addi c0_i32_41 v61
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_34 v5
  let c2_i32_42 : BitVec 32 := 2#32
  let v63 : BitVec 32 := Scalar.muli v55 c2_i32_42
  let v64 : BitVec 32 := Scalar.addi v62 v63
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_35 v8
  let c1_i32_43 : BitVec 32 := 1#32
  let v65 : BitVec 32 := Scalar.muli v56 c1_i32_43
  let v66 : BitVec 32 := Scalar.addi v64 v65
  v66.toNat
def k0_off5 (d0 : Dev nD) : Fin 3 → Nat :=
  let c4_i32_49 : BitVec 32 := 4#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_48 v2
  let v76 : BitVec 32 := Scalar.muli c4_i32_49 v75
  let c2_i32_50 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.muli c2_i32_50 v5
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v79 : BitVec 32 := Scalar.addi v78 v8
  let c0_i32_58 : BitVec 32 := 0#32
  let c0_i32_59 : BitVec 32 := 0#32
  ![v79.toNat, 0, 0]
def k0_dev4 (d0 : Dev nD) : Nat :=
  let c0_i32_53 : BitVec 32 := 0#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_48 v2
  let c4_i32_52 : BitVec 32 := 4#32
  let v80 : BitVec 32 := Scalar.muli v75 c4_i32_52
  let v81 : BitVec 32 := Scalar.addi c0_i32_53 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v82 : BitVec 32 := Scalar.muli v5 c2_i32_54
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v84 : BitVec 32 := Scalar.muli v8 c1_i32_55
  let v85 : BitVec 32 := Scalar.addi v83 v84
  v85.toNat
def k0_off6 (d0 : Dev nD) : Fin 3 → Nat :=
  let c4_i32_62 : BitVec 32 := 4#32
  let c1_i32_60 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_60 v2
  let v96 : BitVec 32 := Scalar.muli c4_i32_62 v94
  let c2_i32_63 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.muli c2_i32_63 v5
  let v98 : BitVec 32 := Scalar.addi v96 v97
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_61 v8
  let v99 : BitVec 32 := Scalar.addi v98 v95
  let c0_i32_72 : BitVec 32 := 0#32
  let c0_i32_73 : BitVec 32 := 0#32
  ![v99.toNat, 0, 0]
def k0_dev5 (d0 : Dev nD) : Nat :=
  let c0_i32_67 : BitVec 32 := 0#32
  let c1_i32_60 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_60 v2
  let c4_i32_66 : BitVec 32 := 4#32
  let v100 : BitVec 32 := Scalar.muli v94 c4_i32_66
  let v101 : BitVec 32 := Scalar.addi c0_i32_67 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v102 : BitVec 32 := Scalar.muli v5 c2_i32_68
  let v103 : BitVec 32 := Scalar.addi v101 v102
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_61 v8
  let c1_i32_69 : BitVec 32 := 1#32
  let v104 : BitVec 32 := Scalar.muli v95 c1_i32_69
  let v105 : BitVec 32 := Scalar.addi v103 v104
  v105.toNat
def k0_off7 (d0 : Dev nD) : Fin 3 → Nat :=
  let c4_i32_76 : BitVec 32 := 4#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_74 v2
  let v116 : BitVec 32 := Scalar.muli c4_i32_76 v114
  let c2_i32_77 : BitVec 32 := 2#32
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.subi c1_i32_75 v5
  let v117 : BitVec 32 := Scalar.muli c2_i32_77 v115
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v119 : BitVec 32 := Scalar.addi v118 v8
  let c0_i32_85 : BitVec 32 := 0#32
  let c0_i32_86 : BitVec 32 := 0#32
  ![v119.toNat, 0, 0]
def k0_dev6 (d0 : Dev nD) : Nat :=
  let c0_i32_80 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_74 v2
  let c4_i32_79 : BitVec 32 := 4#32
  let v120 : BitVec 32 := Scalar.muli v114 c4_i32_79
  let v121 : BitVec 32 := Scalar.addi c0_i32_80 v120
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.subi c1_i32_75 v5
  let c2_i32_81 : BitVec 32 := 2#32
  let v122 : BitVec 32 := Scalar.muli v115 c2_i32_81
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v124 : BitVec 32 := Scalar.muli v8 c1_i32_82
  let v125 : BitVec 32 := Scalar.addi v123 v124
  v125.toNat
def k0_off8 (d0 : Dev nD) : Fin 3 → Nat :=
  let c4_i32_90 : BitVec 32 := 4#32
  let c1_i32_87 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_87 v2
  let v137 : BitVec 32 := Scalar.muli c4_i32_90 v134
  let c2_i32_91 : BitVec 32 := 2#32
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_88 v5
  let v138 : BitVec 32 := Scalar.muli c2_i32_91 v135
  let v139 : BitVec 32 := Scalar.addi v137 v138
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_89 v8
  let v140 : BitVec 32 := Scalar.addi v139 v136
  let c0_i32_99 : BitVec 32 := 0#32
  let c0_i32_100 : BitVec 32 := 0#32
  ![v140.toNat, 0, 0]
def k0_dev7 (d0 : Dev nD) : Nat :=
  let c0_i32_94 : BitVec 32 := 0#32
  let c1_i32_87 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_87 v2
  let c4_i32_93 : BitVec 32 := 4#32
  let v141 : BitVec 32 := Scalar.muli v134 c4_i32_93
  let v142 : BitVec 32 := Scalar.addi c0_i32_94 v141
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_88 v5
  let c2_i32_95 : BitVec 32 := 2#32
  let v143 : BitVec 32 := Scalar.muli v135 c2_i32_95
  let v144 : BitVec 32 := Scalar.addi v142 v143
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_89 v8
  let c1_i32_96 : BitVec 32 := 1#32
  let v145 : BitVec 32 := Scalar.muli v136 c1_i32_96
  let v146 : BitVec 32 := Scalar.addi v144 v145
  v146.toNat
-- ==== ExchangeModRef.lean ====
abbrev S64x32x128 : Shape := ⟨3, ![64, 32, 128]⟩
abbrev S8x256x128 : Shape := ⟨3, ![8, 256, 128]⟩

abbrev nBuf : Space → Nat
  | .hbm => 2
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S8x256x128, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherSmall.lean ====
abbrev S48x128 : Shape := ⟨2, ![48, 128]⟩
abbrev S8x48x128 : Shape := ⟨3, ![8, 48, 128]⟩
abbrev S7 : Shape := ⟨1, ![7]⟩
abbrev S_ : Shape := ⟨0, ![]⟩
abbrev S1x48x128 : Shape := ⟨3, ![1, 48, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S48x128, .f32⟩
  | .hbm, ⟨1, _⟩ => ⟨S8x48x128, .f32⟩
  | _, _ => ⟨S48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherSmallIdeal.lean ====
abbrev S48x128 : Shape := ⟨2, ![48, 128]⟩
abbrev S8x48x128 : Shape := ⟨3, ![8, 48, 128]⟩
abbrev S7 : Shape := ⟨1, ![7]⟩
abbrev S_ : Shape := ⟨0, ![]⟩
abbrev S1x48x128 : Shape := ⟨3, ![1, 48, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S48x128, .f32⟩
  | .hbm, ⟨1, _⟩ => ⟨S8x48x128, .f32⟩
  | _, _ => ⟨S48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherSmallRefIdeal.lean ====
abbrev S384x128 : Shape := ⟨2, ![384, 128]⟩
abbrev S8x48x128 : Shape := ⟨3, ![8, 48, 128]⟩

abbrev nBuf : Space → Nat
  | .hbm => 2
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S8x48x128, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherSmallRef.lean ====
abbrev S384x128 : Shape := ⟨2, ![384, 128]⟩
abbrev S8x48x128 : Shape := ⟨3, ![8, 48, 128]⟩

abbrev nBuf : Space → Nat
  | .hbm => 2
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S8x48x128, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherGrads.lean ====
abbrev S656x128 : Shape := ⟨2, ![656, 128]⟩
abbrev S8x656x128 : Shape := ⟨3, ![8, 656, 128]⟩
abbrev S7 : Shape := ⟨1, ![7]⟩
abbrev S_ : Shape := ⟨0, ![]⟩
abbrev S1x656x128 : Shape := ⟨3, ![1, 656, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S656x128, .f32⟩
  | .hbm, ⟨1, _⟩ => ⟨S8x656x128, .f32⟩
  | _, _ => ⟨S656x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherGradsRef.lean ====
abbrev S5248x128 : Shape := ⟨2, ![5248, 128]⟩
abbrev S8x656x128 : Shape := ⟨3, ![8, 656, 128]⟩

abbrev nBuf : Space → Nat
  | .hbm => 2
  | .vmem => 0
  | .smem => 0
  | _ => 0

abbrev bufTy : (tb : Table) → Fin (tcTables nBuf tb) → BufTy
  | .hbm, ⟨0, _⟩ => ⟨S5248x128, .f32⟩
  | .hbm, ⟨1, _⟩ => ⟨S8x656x128, .f32⟩
  | _, _ => ⟨S5248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamKv.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvIdeal.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvRefIdeal.lean ====
abbrev S8x1024x768 : Shape := ⟨3, ![8, 1024, 768]⟩
abbrev S1024x768 : Shape := ⟨2, ![1024, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S8x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S_, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S_, .f32⟩
  | .hbm, ⟨38, _⟩ => ⟨S1024x768, .f32⟩
  | .hbm, ⟨39, _⟩ => ⟨S1024x768, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSquare.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSquareIdeal.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSquareRefIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGrp.lean ====
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S8x256x256, .bf16⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGrpIdeal.lean ====
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S8x256x256, .bf16⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGrpRefIdeal.lean ====
abbrev S8x256x256 : Shape := ⟨3, ![8, 256, 256]⟩
abbrev S256x256 : Shape := ⟨2, ![256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x256x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamQuery.lean ====
abbrev S8x2048x384 : Shape := ⟨3, ![8, 2048, 384]⟩
abbrev S2048x384 : Shape := ⟨2, ![2048, 384]⟩
abbrev S8x256x384 : Shape := ⟨3, ![8, 256, 384]⟩
abbrev S256x384 : Shape := ⟨2, ![256, 384]⟩
abbrev S1x256x384 : Shape := ⟨3, ![1, 256, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x384, .bf16⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S8x256x384, .bf16⟩
  | .local _ .vmem, ⟨1, _⟩ => ⟨S8x256x384, .bf16⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQueryIdeal.lean ====
abbrev S8x2048x384 : Shape := ⟨3, ![8, 2048, 384]⟩
abbrev S2048x384 : Shape := ⟨2, ![2048, 384]⟩
abbrev S8x256x384 : Shape := ⟨3, ![8, 256, 384]⟩
abbrev S256x384 : Shape := ⟨2, ![256, 384]⟩
abbrev S1x256x384 : Shape := ⟨3, ![1, 256, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x384, .bf16⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S8x256x384, .bf16⟩
  | .local _ .vmem, ⟨1, _⟩ => ⟨S8x256x384, .bf16⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQueryRefIdeal.lean ====
abbrev S8x2048x384 : Shape := ⟨3, ![8, 2048, 384]⟩
abbrev S2048x384 : Shape := ⟨2, ![2048, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x384, .bf16⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S8x2048x384, .f32⟩
  | .hbm, ⟨5, _⟩ => ⟨S_, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S_, .f32⟩
  | .hbm, ⟨11, _⟩ => ⟨S2048x384, .f32⟩
  | .hbm, ⟨12, _⟩ => ⟨S2048x384, .f32⟩
  | .hbm, ⟨13, _⟩ => ⟨S2048x384, .f32⟩
  | .hbm, ⟨14, _⟩ => ⟨S_, .f32⟩
  | .hbm, ⟨15, _⟩ => ⟨S2048x384, .f32⟩
  | .hbm, ⟨16, _⟩ => ⟨S2048x384, .f32⟩
  | .hbm, ⟨17, _⟩ => ⟨S2048x384, .f32⟩
  | .hbm, ⟨18, _⟩ => ⟨S_, .f32⟩
  | .hbm, ⟨19, _⟩ => ⟨S2048x384, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S_, .f32⟩
  | .hbm, ⟨26, _⟩ => ⟨S2048x384, .f32⟩
  | .hbm, ⟨27, _⟩ => ⟨S2048x384, .f32⟩
  | .hbm, ⟨28, _⟩ => ⟨S2048x384, .f32⟩
  | .hbm, ⟨29, _⟩ => ⟨S_, .f32⟩
  | .hbm, ⟨30, _⟩ => ⟨S2048x384, .f32⟩
  | .hbm, ⟨31, _⟩ => ⟨S2048x384, .f32⟩
  | .hbm, ⟨32, _⟩ => ⟨S2048x384, .f32⟩
  | .hbm, ⟨33, _⟩ => ⟨S_, .f32⟩
  | .hbm, ⟨34, _⟩ => ⟨S2048x384, .f32⟩
  | .hbm, ⟨35, _⟩ => ⟨S2048x384, .f32⟩
  | .hbm, ⟨36, _⟩ => ⟨S2048x384, .f32⟩
  | .hbm, ⟨37, _⟩ => ⟨S_, .f32⟩
  | .hbm, ⟨38, _⟩ => ⟨S2048x384, .f32⟩
  | .hbm, ⟨39, _⟩ => ⟨S2048x384, .f32⟩
  | _, _ => ⟨S8x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S8x4096x704 : Shape := ⟨3, ![8, 4096, 704]⟩
abbrev S4096x704 : Shape := ⟨2, ![4096, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x704, .bf16⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S8x4096x704 : Shape := ⟨3, ![8, 4096, 704]⟩
abbrev S4096x704 : Shape := ⟨2, ![4096, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x704, .bf16⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S8x4096x704 : Shape := ⟨3, ![8, 4096, 704]⟩
abbrev S4096x704 : Shape := ⟨2, ![4096, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S8x4096x704, .f32⟩
  | .hbm, ⟨5, _⟩ => ⟨S_, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S_, .f32⟩
  | .hbm, ⟨11, _⟩ => ⟨S4096x704, .f32⟩
  | .hbm, ⟨12, _⟩ => ⟨S4096x704, .f32⟩
  | .hbm, ⟨13, _⟩ => ⟨S4096x704, .f32⟩
  | .hbm, ⟨14, _⟩ => ⟨S_, .f32⟩
  | .hbm, ⟨15, _⟩ => ⟨S4096x704, .f32⟩
  | .hbm, ⟨16, _⟩ => ⟨S4096x704, .f32⟩
  | .hbm, ⟨17, _⟩ => ⟨S4096x704, .f32⟩
  | .hbm, ⟨18, _⟩ => ⟨S_, .f32⟩
  | .hbm, ⟨19, _⟩ => ⟨S4096x704, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S_, .f32⟩
  | .hbm, ⟨26, _⟩ => ⟨S4096x704, .f32⟩
  | .hbm, ⟨27, _⟩ => ⟨S4096x704, .f32⟩
  | .hbm, ⟨28, _⟩ => ⟨S4096x704, .f32⟩
  | .hbm, ⟨29, _⟩ => ⟨S_, .f32⟩
  | .hbm, ⟨30, _⟩ => ⟨S4096x704, .f32⟩
  | .hbm, ⟨31, _⟩ => ⟨S4096x704, .f32⟩
  | .hbm, ⟨32, _⟩ => ⟨S4096x704, .f32⟩
  | .hbm, ⟨33, _⟩ => ⟨S_, .f32⟩
  | .hbm, ⟨34, _⟩ => ⟨S4096x704, .f32⟩
  | .hbm, ⟨35, _⟩ => ⟨S4096x704, .f32⟩
  | .hbm, ⟨36, _⟩ => ⟨S4096x704, .f32⟩
  | .hbm, ⟨37, _⟩ => ⟨S_, .f32⟩
  | .hbm, ⟨38, _⟩ => ⟨S4096x704, .f32⟩
  | .hbm, ⟨39, _⟩ => ⟨S4096x704, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S8x1408x1024 : Shape := ⟨3, ![8, 1408, 1024]⟩
abbrev S1408x1024 : Shape := ⟨2, ![1408, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1408x1024, .bf16⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x1408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S8x1408x1024 : Shape := ⟨3, ![8, 1408, 1024]⟩
abbrev S1408x1024 : Shape := ⟨2, ![1408, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1408x1024, .bf16⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x1408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x1408x1024 : Shape := ⟨3, ![8, 1408, 1024]⟩
abbrev S1408x1024 : Shape := ⟨2, ![1408, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1408x1024, .bf16⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S8x1408x1024, .f32⟩
  | .hbm, ⟨5, _⟩ => ⟨S_, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S_, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S_, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S_, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S_, .f32⟩
  | .hbm, ⟨26, _⟩ => ⟨S1408x1024, .f32⟩
  | .hbm, ⟨27, _⟩ => ⟨S1408x1024, .f32⟩
  | .hbm, ⟨28, _⟩ => ⟨S1408x1024, .f32⟩
  | .hbm, ⟨29, _⟩ => ⟨S_, .f32⟩
  | .hbm, ⟨30, _⟩ => ⟨S1408x1024, .f32⟩
  | .hbm, ⟨31, _⟩ => ⟨S1408x1024, .f32⟩
  | .hbm, ⟨32, _⟩ => ⟨S1408x1024, .f32⟩
  | .hbm, ⟨33, _⟩ => ⟨S_, .f32⟩
  | .hbm, ⟨34, _⟩ => ⟨S1408x1024, .f32⟩
  | .hbm, ⟨35, _⟩ => ⟨S1408x1024, .f32⟩
  | .hbm, ⟨36, _⟩ => ⟨S1408x1024, .f32⟩
  | .hbm, ⟨37, _⟩ => ⟨S_, .f32⟩
  | .hbm, ⟨38, _⟩ => ⟨S1408x1024, .f32⟩
  | .hbm, ⟨39, _⟩ => ⟨S1408x1024, .f32⟩
  | _, _ => ⟨S8x1408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamAda.lean ====
abbrev S1x4096x768 : Shape := ⟨3, ![1, 4096, 768]⟩
abbrev S4096x768 : Shape := ⟨2, ![4096, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
abbrev S1x4096x768 : Shape := ⟨3, ![1, 4096, 768]⟩
abbrev S4096x768 : Shape := ⟨2, ![4096, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1x4096x768 : Shape := ⟨3, ![1, 4096, 768]⟩
abbrev S4096x768 : Shape := ⟨2, ![4096, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S_, .f32⟩
  | .hbm, ⟨7, _⟩ => ⟨S4096x768, .f32⟩
  | .hbm, ⟨8, _⟩ => ⟨S4096x768, .f32⟩
  | .hbm, ⟨9, _⟩ => ⟨S_, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S_, .f32⟩
  | .hbm, ⟨14, _⟩ => ⟨S4096x768, .f32⟩
  | .hbm, ⟨15, _⟩ => ⟨S4096x768, .f32⟩
  | .hbm, ⟨16, _⟩ => ⟨S4096x768, .f32⟩
  | .hbm, ⟨17, _⟩ => ⟨S_, .f32⟩
  | .hbm, ⟨18, _⟩ => ⟨S4096x768, .f32⟩
  | .hbm, ⟨19, _⟩ => ⟨S4096x768, .f32⟩
  | .hbm, ⟨20, _⟩ => ⟨S4096x768, .f32⟩
  | .hbm, ⟨21, _⟩ => ⟨S_, .f32⟩
  | .hbm, ⟨22, _⟩ => ⟨S4096x768, .f32⟩
  | .hbm, ⟨23, _⟩ => ⟨S4096x768, .f32⟩
  | .hbm, ⟨24, _⟩ => ⟨S_, .f32⟩
  | .hbm, ⟨25, _⟩ => ⟨S4096x768, .f32⟩
  | .hbm, ⟨26, _⟩ => ⟨S4096x768, .f32⟩
  | .hbm, ⟨27, _⟩ => ⟨S4096x768, .f32⟩
  | .hbm, ⟨28, _⟩ => ⟨S_, .f32⟩
  | .hbm, ⟨29, _⟩ => ⟨S4096x768, .f32⟩
  | .hbm, ⟨30, _⟩ => ⟨S4096x768, .f32⟩
  | .hbm, ⟨31, _⟩ => ⟨S4096x768, .f32⟩
  | .hbm, ⟨32, _⟩ => ⟨S_, .f32⟩
  | .hbm, ⟨33, _⟩ => ⟨S4096x768, .f32⟩
  | .hbm, ⟨34, _⟩ => ⟨S4096x768, .f32⟩
  | .hbm, ⟨35, _⟩ => ⟨S4096x768, .f32⟩
  | .hbm, ⟨36, _⟩ => ⟨S_, .f32⟩
  | .hbm, ⟨37, _⟩ => ⟨S4096x768, .f32⟩
  | .hbm, ⟨38, _⟩ => ⟨S4096x768, .f32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamKvAda.lean ====
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvAdaIdeal.lean ====
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvAdaRefIdeal.lean ====
abbrev S1x1024x256 : Shape := ⟨3, ![1, 1024, 256]⟩
abbrev S1024x256 : Shape := ⟨2, ![1024, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S8x416x128 : Shape := ⟨3, ![8, 416, 128]⟩
abbrev S416x128 : Shape := ⟨2, ![416, 128]⟩
abbrev S8x208x128 : Shape := ⟨3, ![8, 208, 128]⟩
abbrev S208x128 : Shape := ⟨2, ![208, 128]⟩
abbrev S1x208x128 : Shape := ⟨3, ![1, 208, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x416x128, .f32⟩
  | .hbm, ⟨1, _⟩ => ⟨S416x128, .f32⟩
  | .hbm, ⟨2, _⟩ => ⟨S416x128, .f32⟩
  | .hbm, ⟨3, _⟩ => ⟨S416x128, .f32⟩
  | .hbm, ⟨4, _⟩ => ⟨S416x128, .f32⟩
  | .hbm, ⟨5, _⟩ => ⟨S416x128, .f32⟩
  | .hbm, ⟨6, _⟩ => ⟨S416x128, .f32⟩
  | .hbm, ⟨7, _⟩ => ⟨S416x128, .f32⟩
  | .local _ .vmem, ⟨0, _⟩ => ⟨S8x208x128, .f32⟩
  | .local _ .vmem, ⟨1, _⟩ => ⟨S8x208x128, .f32⟩
  | .local _ .vmem, ⟨2, _⟩ => ⟨S208x128, .f32⟩
  | .local _ .vmem, ⟨3, _⟩ => ⟨S208x128, .f32⟩
  | .local _ .vmem, ⟨4, _⟩ => ⟨S208x128, .f32⟩
  | .local _ .vmem, ⟨5, _⟩ => ⟨S208x128, .f32⟩
  | .local _ .vmem, ⟨6, _⟩ => ⟨S208x128, .f32⟩
  | .local _ .vmem, ⟨7, _⟩ => ⟨S208x128, .f32⟩
  | .local _ .vmem, ⟨8, _⟩ => ⟨S208x128, .f32⟩
  | .local _ .vmem, ⟨9, _⟩ => ⟨S208x128, .f32⟩
  | .local _ .vmem, ⟨10, _⟩ => ⟨S208x128, .f32⟩
  | .local _ .vmem, ⟨11, _⟩ => ⟨S208x128, .f32⟩
  | .local _ .vmem, ⟨12, _⟩ => ⟨S208x128, .f32⟩
  | .local _ .vmem, ⟨13, _⟩ => ⟨S208x128, .f32⟩
  | .local _ .vmem, ⟨14, _⟩ => ⟨S208x128, .f32⟩
  | .local _ .vmem, ⟨15, _⟩ => ⟨S208x128, .f32⟩
  | _, _ => ⟨S8x416x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamSmallRefIdeal.lean ====
abbrev S8x416x128 : Shape := ⟨3, ![8, 416, 128]⟩
abbrev S416x128 : Shape := ⟨2, ![416, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x416x128, .f32⟩
  | .hbm, ⟨1, _⟩ => ⟨S416x128, .f32⟩
  | .hbm, ⟨2, _⟩ => ⟨S416x128, .f32⟩
  | .hbm, ⟨3, _⟩ => ⟨S416x128, .f32⟩
  | .hbm, ⟨4, _⟩ => ⟨S_, .f32⟩
  | .hbm, ⟨5, _⟩ => ⟨S416x128, .f32⟩
  | .hbm, ⟨6, _⟩ => ⟨S_, .f32⟩
  | .hbm, ⟨7, _⟩ => ⟨S416x128, .f32⟩
  | .hbm, ⟨8, _⟩ => ⟨S416x128, .f32⟩
  | .hbm, ⟨9, _⟩ => ⟨S_, .f32⟩
  | .hbm, ⟨10, _⟩ => ⟨S416x128, .f32⟩
  | .hbm, ⟨11, _⟩ => ⟨S416x128, .f32⟩
  | .hbm, ⟨12, _⟩ => ⟨S416x128, .f32⟩
  | .hbm, ⟨13, _⟩ => ⟨S_, .f32⟩
  | .hbm, ⟨14, _⟩ => ⟨S416x128, .f32⟩
  | .hbm, ⟨15, _⟩ => ⟨S416x128, .f32⟩
  | .hbm, ⟨16, _⟩ => ⟨S416x128, .f32⟩
  | .hbm, ⟨17, _⟩ => ⟨S_, .f32⟩
  | .hbm, ⟨18, _⟩ => ⟨S416x128, .f32⟩
  | .hbm, ⟨19, _⟩ => ⟨S416x128, .f32⟩
  | .hbm, ⟨20, _⟩ => ⟨S416x128, .f32⟩
  | .hbm, ⟨21, _⟩ => ⟨S_, .f32⟩
  | .hbm, ⟨22, _⟩ => ⟨S416x128, .f32⟩
  | .hbm, ⟨23, _⟩ => ⟨S416x128, .f32⟩
  | .hbm, ⟨24, _⟩ => ⟨S_, .f32⟩
  | .hbm, ⟨25, _⟩ => ⟨S416x128, .f32⟩
  | .hbm, ⟨26, _⟩ => ⟨S416x128, .f32⟩
  | .hbm, ⟨27, _⟩ => ⟨S416x128, .f32⟩
  | .hbm, ⟨28, _⟩ => ⟨S_, .f32⟩
  | .hbm, ⟨29, _⟩ => ⟨S416x128, .f32⟩
  | .hbm, ⟨30, _⟩ => ⟨S416x128, .f32⟩
  | .hbm, ⟨31, _⟩ => ⟨S416x128, .f32⟩
  | .hbm, ⟨32, _⟩ => ⟨S_, .f32⟩
  | .hbm, ⟨33, _⟩ => ⟨S416x128, .f32⟩
  | .hbm, ⟨34, _⟩ => ⟨S416x128, .f32⟩
  | .hbm, ⟨35, _⟩ => ⟨S416x128, .f32⟩
  | .hbm, ⟨36, _⟩ => ⟨S_, .f32⟩
  | .hbm, ⟨37, _⟩ => ⟨S416x128, .f32⟩
  | .hbm, ⟨38, _⟩ => ⟨S416x128, .f32⟩
  | _, _ => ⟨S8x416x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ModAda.lean ====
abbrev S16x1024 : Shape := ⟨2, ![16, 1024]⟩
abbrev S4x16x768 : Shape := ⟨3, ![4, 16, 768]⟩
abbrev S4x1024x768 : Shape := ⟨3, ![4, 1024, 768]⟩
abbrev S1x16x768 : Shape := ⟨3, ![1, 16, 768]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x16x768, .f32⟩
  | .hbm, ⟨2, _⟩ => ⟨S4x1024x768, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x1024x768, .f32⟩
  | .local _ .vmem, ⟨4, _⟩ => ⟨S1x1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModAdaIdeal.lean ====
abbrev S16x1024 : Shape := ⟨2, ![16, 1024]⟩
abbrev S4x16x768 : Shape := ⟨3, ![4, 16, 768]⟩
abbrev S4x1024x768 : Shape := ⟨3, ![4, 1024, 768]⟩
abbrev S1x16x768 : Shape := ⟨3, ![1, 16, 768]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x16x768, .f32⟩
  | .hbm, ⟨2, _⟩ => ⟨S4x1024x768, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x1024x768, .f32⟩
  | .local _ .vmem, ⟨4, _⟩ => ⟨S1x1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModAdaRefIdeal.lean ====
abbrev S16x1024 : Shape := ⟨2, ![16, 1024]⟩
abbrev S4x16x768 : Shape := ⟨3, ![4, 16, 768]⟩
abbrev S4x768x1024 : Shape := ⟨3, ![4, 768, 1024]⟩
abbrev S4x1024x768 : Shape := ⟨3, ![4, 1024, 768]⟩

abbrev nBuf : Space → Nat
  | .hbm => 4
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x768, .f32⟩
  | .hbm, ⟨2, _⟩ => ⟨S4x768x1024, .f32⟩
  | .hbm, ⟨3, _⟩ => ⟨S4x1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ModKv.lean ====
abbrev S16x1024 : Shape := ⟨2, ![16, 1024]⟩
abbrev S1x16x256 : Shape := ⟨3, ![1, 16, 256]⟩
abbrev S1x1024x256 : Shape := ⟨3, ![1, 1024, 256]⟩
abbrev S16x256 : Shape := ⟨2, ![16, 256]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S1x16x256, .f32⟩
  | .hbm, ⟨2, _⟩ => ⟨S1x1024x256, .f32⟩
  | .local _ .vmem, ⟨0, _⟩ => ⟨S16x1024, .f32⟩
  | .local _ .vmem, ⟨1, _⟩ => ⟨S1x16x256, .f32⟩
  | .local _ .vmem, ⟨2, _⟩ => ⟨S1x1024x256, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ModKvRefIdeal.lean ====
abbrev S16x1024 : Shape := ⟨2, ![16, 1024]⟩
abbrev S1x16x256 : Shape := ⟨3, ![1, 16, 256]⟩
abbrev S1x256x1024 : Shape := ⟨3, ![1, 256, 1024]⟩
abbrev S1x1024x256 : Shape := ⟨3, ![1, 1024, 256]⟩

abbrev nBuf : Space → Nat
  | .hbm => 4
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x16x256, .f32⟩
  | .hbm, ⟨2, _⟩ => ⟨S1x256x1024, .f32⟩
  | .hbm, ⟨3, _⟩ => ⟨S1x1024x256, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S8x128, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8x128, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== NormGrad.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormGradRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== ProjAda.lean ====
abbrev S16x1024 : Shape := ⟨2, ![16, 1024]⟩
abbrev S4x1024x768 : Shape := ⟨3, ![4, 1024, 768]⟩
abbrev S4x16x768 : Shape := ⟨3, ![4, 16, 768]⟩
abbrev S1x1024x768 : Shape := ⟨3, ![1, 1024, 768]⟩
abbrev S1x16x768 : Shape := ⟨3, ![1, 16, 768]⟩
abbrev S1024x768 : Shape := ⟨2, ![1024, 768]⟩
abbrev S16x768 : Shape := ⟨2, ![16, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x16x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x16x768, .f32⟩
  | .local _ .vmem, ⟨4, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjAdaIdeal.lean ====
abbrev S16x1024 : Shape := ⟨2, ![16, 1024]⟩
abbrev S4x1024x768 : Shape := ⟨3, ![4, 1024, 768]⟩
abbrev S4x16x768 : Shape := ⟨3, ![4, 16, 768]⟩
abbrev S1x1024x768 : Shape := ⟨3, ![1, 1024, 768]⟩
abbrev S1x16x768 : Shape := ⟨3, ![1, 16, 768]⟩
abbrev S1024x768 : Shape := ⟨2, ![1024, 768]⟩
abbrev S16x768 : Shape := ⟨2, ![16, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x16x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x16x768, .f32⟩
  | .local _ .vmem, ⟨4, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjAdaRefIdeal.lean ====
abbrev S16x1024 : Shape := ⟨2, ![16, 1024]⟩
abbrev S4x1024x768 : Shape := ⟨3, ![4, 1024, 768]⟩
abbrev S4x768x16 : Shape := ⟨3, ![4, 768, 16]⟩
abbrev S4x16x768 : Shape := ⟨3, ![4, 16, 768]⟩

abbrev nBuf : Space → Nat
  | .hbm => 4
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x768x16, .f32⟩
  | .hbm, ⟨3, _⟩ => ⟨S4x16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjKv.lean ====
abbrev S16x1024 : Shape := ⟨2, ![16, 1024]⟩
abbrev S1x1024x256 : Shape := ⟨3, ![1, 1024, 256]⟩
abbrev S1x16x256 : Shape := ⟨3, ![1, 16, 256]⟩
abbrev S1024x256 : Shape := ⟨2, ![1024, 256]⟩
abbrev S16x256 : Shape := ⟨2, ![16, 256]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S1x1024x256, .f32⟩
  | .hbm, ⟨2, _⟩ => ⟨S1x16x256, .f32⟩
  | .local _ .vmem, ⟨0, _⟩ => ⟨S16x1024, .f32⟩
  | .local _ .vmem, ⟨1, _⟩ => ⟨S1x1024x256, .f32⟩
  | .local _ .vmem, ⟨2, _⟩ => ⟨S1x16x256, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ProjKvRefIdeal.lean ====
abbrev S16x1024 : Shape := ⟨2, ![16, 1024]⟩
abbrev S1x1024x256 : Shape := ⟨3, ![1, 1024, 256]⟩
abbrev S1x256x16 : Shape := ⟨3, ![1, 256, 16]⟩
abbrev S1x16x256 : Shape := ⟨3, ![1, 16, 256]⟩

abbrev nBuf : Space → Nat
  | .hbm => 4
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x256, .f32⟩
  | .hbm, ⟨2, _⟩ => ⟨S1x256x16, .f32⟩
  | .hbm, ⟨3, _⟩ => ⟨S1x16x256, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MulIn.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulInIdeal.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulInRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MulQuery.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulQueryIdeal.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulQueryRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MulKv.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulKvIdeal.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulKvRefIdeal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MulUp.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulUpIdeal.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulUpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DxIn.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DxOut.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxOutIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxOutRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DxDown.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxDownIdeal.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxDownRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | .hbm, ⟨6, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DxQuery.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxQueryIdeal.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxQueryRefIdeal.lean ====
abbrev S4096x3072 : Shape := ⟨2, ![4096, 3072]⟩
abbrev S1024x3072 : Shape := ⟨2, ![1024, 3072]⟩
abbrev S3072x1024 : Shape := ⟨2, ![3072, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x3072, .f32⟩
  | .hbm, ⟨3, _⟩ => ⟨S1024x3072, .f32⟩
  | .hbm, ⟨4, _⟩ => ⟨S3072x1024, .f32⟩
  | .hbm, ⟨5, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DxKv.lean ====
abbrev S4096x6144 : Shape := ⟨2, ![4096, 6144]⟩
abbrev S1024x6144 : Shape := ⟨2, ![1024, 6144]⟩
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxKvIdeal.lean ====
abbrev S4096x6144 : Shape := ⟨2, ![4096, 6144]⟩
abbrev S1024x6144 : Shape := ⟨2, ![1024, 6144]⟩
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxKvRefIdeal.lean ====
abbrev S4096x6144 : Shape := ⟨2, ![4096, 6144]⟩
abbrev S1024x6144 : Shape := ⟨2, ![1024, 6144]⟩
abbrev S6144x1024 : Shape := ⟨2, ![6144, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x6144, .f32⟩
  | .hbm, ⟨3, _⟩ => ⟨S1024x6144, .f32⟩
  | .hbm, ⟨4, _⟩ => ⟨S6144x1024, .f32⟩
  | .hbm, ⟨5, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DxUp.lean ====
abbrev S4096x5632 : Shape := ⟨2, ![4096, 5632]⟩
abbrev S1024x5632 : Shape := ⟨2, ![1024, 5632]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxUpIdeal.lean ====
abbrev S4096x5632 : Shape := ⟨2, ![4096, 5632]⟩
abbrev S1024x5632 : Shape := ⟨2, ![1024, 5632]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxUpRefIdeal.lean ====
abbrev S4096x5632 : Shape := ⟨2, ![4096, 5632]⟩
abbrev S1024x5632 : Shape := ⟨2, ![1024, 5632]⟩
abbrev S5632x1024 : Shape := ⟨2, ![5632, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x5632, .f32⟩
  | .hbm, ⟨3, _⟩ => ⟨S1024x5632, .f32⟩
  | .hbm, ⟨4, _⟩ => ⟨S5632x1024, .f32⟩
  | .hbm, ⟨5, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwSquare.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSquareIdeal.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSquareRefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwQuery.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQueryIdeal.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQueryRefIdeal.lean ====
abbrev S4096x1024 : Shape := ⟨2, ![4096, 1024]⟩
abbrev S4096x3072 : Shape := ⟨2, ![4096, 3072]⟩
abbrev S1024x4096 : Shape := ⟨2, ![1024, 4096]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x3072, .f32⟩
  | .hbm, ⟨4, _⟩ => ⟨S1024x4096, .f32⟩
  | .hbm, ⟨5, _⟩ => ⟨S1024x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwKv.lean ====
abbrev S4096x1024 : Shape := ⟨2, ![4096, 1024]⟩
abbrev S4096x6144 : Shape := ⟨2, ![4096, 6144]⟩
abbrev S1024x6144 : Shape := ⟨2, ![1024, 6144]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S1024x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwKvIdeal.lean ====
abbrev S4096x1024 : Shape := ⟨2, ![4096, 1024]⟩
abbrev S4096x6144 : Shape := ⟨2, ![4096, 6144]⟩
abbrev S1024x6144 : Shape := ⟨2, ![1024, 6144]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S1024x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwKvRefIdeal.lean ====
abbrev S4096x1024 : Shape := ⟨2, ![4096, 1024]⟩
abbrev S4096x6144 : Shape := ⟨2, ![4096, 6144]⟩
abbrev S1024x4096 : Shape := ⟨2, ![1024, 4096]⟩
abbrev S1024x6144 : Shape := ⟨2, ![1024, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x1024, .f32⟩
  | .hbm, ⟨3, _⟩ => ⟨S4096x6144, .f32⟩
  | .hbm, ⟨4, _⟩ => ⟨S1024x4096, .f32⟩
  | .hbm, ⟨5, _⟩ => ⟨S1024x6144, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwUp.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpIdeal.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S1024x4096, .f32⟩
  | .hbm, ⟨5, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownIdeal.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S2816x4096, .f32⟩
  | .hbm, ⟨5, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixOutIdeal.lean ====
abbrev S4096x1024 : Shape := ⟨2, ![4096, 1024]⟩
abbrev S1024x1024 : Shape := ⟨2, ![1024, 1024]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixOutRefIdeal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MixDown.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S1024x256 : Shape := ⟨2, ![1024, 256]⟩
abbrev S256x512 : Shape := ⟨2, ![256, 512]⟩
abbrev S1x512 : Shape := ⟨2, ![1, 512]⟩
abbrev S1024x512 : Shape := ⟨2, ![1024, 512]⟩

abbrev nBuf : Space → Nat
  | .hbm => 6
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixDownRefIdeal.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Total.lean ====
abbrev S8x128 : Shape := ⟨2, ![8, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S8x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== TotalRefIdeal.lean ====
abbrev S64x128 : Shape := ⟨2, ![64, 128]⟩
abbrev S8x8x128 : Shape := ⟨3, ![8, 8, 128]⟩
abbrev S8x1x1 : Shape := ⟨3, ![8, 1, 1]⟩
abbrev S8 : Shape := ⟨1, ![8]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S8x8x128, .f32⟩
  | .hbm, ⟨2, _⟩ => ⟨S8x1x1, .f32⟩
  | .hbm, ⟨3, _⟩ => ⟨S8, .f32⟩
  | .hbm, ⟨4, _⟩ => ⟨S_, .f32⟩
  | .hbm, ⟨5, _⟩ => ⟨S_, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Joint.lean ====
/-
# Launching devices that talk with no barrier

A kernel that writes into another device's result array as soon as it starts needs two things at
the launch, on all devices at once: the arrays, so that each device can be given the slots it will
write on its peers, and the semaphores the kernel uses, so that something can land on a device
that has not started its kernel yet.

`run_joint` hands out both: the certificate regroups, for all devices together, the arrays, the
semaphores, what every device owes and the launch credit. `wp_opened` then enters a region whose
own semaphores have been taken out of the boundary that way.
-/
module

public import Idealize.ShloMosaic.Lib.Pipeline.Kit
public import Idealize.ShloMosaic.Lib.Pipeline.Regions
public import Idealize.ShloMosaic.Lib.Tactic

@[expose] public section

set_option Elab.async false

noncomputable section

namespace Cert.Joint

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]
variable (pcs : P → PCfg sig Λ₀ Val) (a : Dev nD → (p : P) → (pcs p).Adm)
  (phinj : Function.Injective (PerCore.cellOf (nD := nD) (pinD pcs a)))
  (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-! ## The levels of all cells -/

/-- Cells of threads other than TensorCores carry no level: the assignment of all levels is the
    assignment on the TensorCores. -/
theorem levAts_cores (L : GSem nD τ sig → Finset Ix) (lv : GSem nD τ sig → Ix → Lvl)
    (hL : ∀ g : GSem nD τ sig, g.1.2 ≠ .tc → L g = ∅) :
    (bigSep Finset.univ fun d : Dev nD => coreLevAts (d.tc : Thread nD τ) L lv) ⊢ (levAts L lv : sProp 𝕄) := by
  classical
  have hnone (d : Dev nD) (p : Proc τ) (hp : p ≠ .tc) : (coreLevAts ((d, p) : Thread nD τ) L lv : sProp 𝕄) = BI.emp := by
    unfold coreLevAts
    rw [bigSep_congr (Ψ := fun _ : SemLoc sig => (BI.emp : sProp 𝕄)) fun sm _ => by
      rw [hL (((d, p) : Thread nD τ), sm) hp, BI.bigSep_empty]]
    exact BI.bigSep_emp_const _
  have hrest : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => hnone d p (Finset.ne_of_mem_erase hp)).trans (BI.bigSep_emp_const _)]
    exact BI.bigSep_emp_const _
  have hall : (levAts L lv : sProp 𝕄) = bigSep Finset.univ fun c : Thread nD τ => coreLevAts c L lv :=
    bigSep_univ_prod fun g : GSem nD τ sig => bigSep (L g) fun ι => levAt g ι (lv g ι)
  rw [hall, bigSep_threads (fun c : Thread nD τ => coreLevAts c L lv), hrest]
  iintro H
  isplitl [H]
  · iexact H
  · iempintro

/-- The levels assigned on every core at once. -/
theorem levels_assign (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans ((BI.bigSep_bupd _ _).trans (BI.bupd_mono ?_))
  refine (bigSep_mono fun c _ => ?_).trans (levAts_cores L lv hL)
  show iprop((bigSep Finset.univ fun sm : SemLoc sig => levels ((c.tc : Thread nD τ), sm) (L ((c.tc : Thread nD τ), sm))) ∗ coreLevAts (c.tc : Thread nD τ) L lv)
    ⊢ (coreLevAts (c.tc : Thread nD τ) L lv : sProp 𝕄)
  iintro ⟨-, H⟩
  iexact H

/-! ## The launch -/

/-- What one device holds at the launch, the pipelines' ghost state and the certificate's own `G` beside it. -/
def dealt (m : (ℓ : Loc nD τ sig) → Buf Val ℓ) (g : Dev nD → PrngReg) (O₀ : Dev nD → CellTallies nD τ sig Ix)
    (G : Dev nD → sProp 𝕄) (c : Dev nD) : sProp 𝕄 :=
  iprop(boundary (c.tc : Thread nD τ) ∗ unscopedBufs c (fun b => m ((c.tc : Thread nD τ).loc b))
    ∗ owes (c.tc : Thread nD τ) (O₀ c) ∅ ∗ launchCred O₀ c ∗ PerCore.ghostOn pcs a EP Finset.univ c ∗ G c)

include phinj in
/-- A program launched on memory `m` with every counter at zero. All the devices' holdings are regrouped together into
    `pre` (`hstart`); each device runs `main` from `pre c` to `Tₙ c`, its boundary whole again, owing nothing (`hrun`);
    `Tₙ c` is read against the final memory (`hfin`). Then every weakly fair execution terminates in a memory satisfying
    `Q`, which may use that every scoped counter and every counter off the TensorCores is zero (`hQ`). -/
theorem run_joint [DecidableEq P] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (L : GSem nD τ sig → Finset Ix) (lv : GSem nD τ sig → Ix → Lvl) (hL : ∀ g : GSem nD τ sig, g.1.2 ≠ .tc → L g = ∅)
    (O₀ : Dev nD → CellTallies nD τ sig Ix) (G : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (pre Tₙ : Dev nD → sProp 𝕄)
    (hstart : iprop((bigSep Finset.univ fun c : Dev nD => dealt pcs a EP m g O₀ G c) ∗ levAts L lv) ⊢ |={Set.univ}=> bigSep Finset.univ pre)
    (hrun : ∀ c : Dev nD, pre c ⊢ wp frame (wpE 𝔻 𝕍 (c.tc : Thread nD τ) none) Set.univ (main c) fun _ =>
      iprop((Tₙ c ∗ boundary (c.tc : Thread nD τ)) ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let fin : Dev nD → sProp 𝕄 := fun c => iprop(Tₙ c ∗ boundary (c.tc : Thread nD τ))
  have hdone : θ_run 𝔻 (onTc main) ⟨m, fun _ => 0, g⟩ (fun r =>
      (∀ c : Dev nD, QY c r.2 ∧ ∀ sm : SemLoc sig, sm.isScoped .tc = true → r.2.sem ((c.tc : Thread nD τ), sm) = 0)
        ∧ ∀ g' : GSem nD τ sig, g'.1.2 ≠ .tc → r.2.sem g' = 0) := by
    refine adequate_tpu 𝔻 _ _ _ (reflect_intro_fupd_tc_sems (X := Unit) 𝕍 (owing O₀) 0 (noBookings fun _ => le_rfl) (owing_of_ne O₀) u₀
      (fun _ => pre) (fun _ => fin) (fun _ => iprop(emp)) Set.univ ?_ (fun _ c => ?_) fun _ => ?_)
    · have hcore (c : Dev nD) : coreInit (Ix := Ix) (Name := Name) (U := U) (Lvl := Lvl) (owing O₀) 0 (⟨m, fun _ => 0, g⟩ : MemSt nD τ sig Val) (c.tc : Thread nD τ)
          ⊢ iprop((boundary (c.tc : Thread nD τ) ∗ unscopedBufs c (fun b => m ((c.tc : Thread nD τ).loc b))
              ∗ owes (c.tc : Thread nD τ) (O₀ c) ∅ ∗ launchCred O₀ c)
              ∗ levels0 (Ix := Ix) (Val := Val) (Name := Name) (U := U) (Lvl := Lvl) (τ := τ) (sig := sig) c) := by
        refine (coreInit_boundary_owing O₀ m g c).trans ?_
        iintro ⟨Hb, Hm, -, HO, Hlv, -, Hcr⟩
        isplitr [Hlv]
        · isplitl [Hb]; · iexact Hb
          isplitl [Hm]; · iexact Hm
          isplitl [HO] <;> iassumption
        · iexact Hlv
      have hcores : (bigSep Finset.univ fun c : Dev nD =>
            coreInit (Ix := Ix) (Name := Name) (U := U) (Lvl := Lvl) (owing O₀) 0 (⟨m, fun _ => 0, g⟩ : MemSt nD τ sig Val) (c.tc : Thread nD τ))
          ⊢ iprop((bigSep Finset.univ fun c : Dev nD => iprop(boundary (c.tc : Thread nD τ) ∗ unscopedBufs c (fun b => m ((c.tc : Thread nD τ).loc b))
              ∗ owes (c.tc : Thread nD τ) (O₀ c) ∅ ∗ launchCred O₀ c))
            ∗ bigSep Finset.univ fun c : Dev nD => levels0 (Ix := Ix) (Val := Val) (Name := Name) (U := U) (Lvl := Lvl) (τ := τ) (sig := sig) c) := by
        rw [← bigSep_sep']
        exact bigSep_mono fun c _ => hcore c
      have hjoin : iprop((bigSep Finset.univ fun c : Dev nD => iprop(boundary (c.tc : Thread nD τ) ∗ unscopedBufs c (fun b => m ((c.tc : Thread nD τ).loc b))
              ∗ owes (c.tc : Thread nD τ) (O₀ c) ∅ ∗ launchCred O₀ c))
            ∗ ((bigSep Finset.univ fun c : Dev nD => bigSep Finset.univ fun p => PerCore.cellsGhost (pinD pcs a) EP p c)
              ∗ (bigSep Finset.univ fun c : Dev nD => bigSep Finset.univ fun p => (PerCore.toksInit (pinD pcs a) EP p c : sProp 𝕄)))
            ∗ bigSep Finset.univ G)
          ⊢ (bigSep Finset.univ fun c : Dev nD => dealt pcs a EP m g O₀ G c : sProp 𝕄) := by
        rw [← bigSep_sep', ← bigSep_sep', ← bigSep_sep']
        refine bigSep_mono fun c _ => ?_
        unfold dealt PerCore.ghostOn
        rw [bigSep_sep']
        show iprop(iprop(boundary (c.tc : Thread nD τ) ∗ unscopedBufs c (fun b => m ((c.tc : Thread nD τ).loc b))
              ∗ owes (c.tc : Thread nD τ) (O₀ c) ∅ ∗ launchCred O₀ c)
            ∗ iprop((bigSep Finset.univ fun p => PerCore.cellsGhost (pinD pcs a) EP p c)
              ∗ (bigSep Finset.univ fun p => (PerCore.toksInit (pinD pcs a) EP p c : sProp 𝕄))) ∗ G c) ⊢ _
        iintro ⟨⟨Hb, Hm, HO, Hcr⟩, Hg, HG⟩
        isplitl [Hb]; · iexact Hb
        isplitl [Hm]; · iexact Hm
        isplitl [HO]; · iexact HO
        isplitl [Hcr]; · iexact Hcr
        isplitl [Hg] <;> iassumption
      iintro ⟨Hcores, Hu⟩
      ihave Hc := hcores $$ Hcores
      icases Hc with ⟨Hh, Hlv⟩
      imod (levels_assign L lv hL) $$ Hlv with Hla
      imod hu₀ $$ Hu with ⟨HP, HG⟩
      imod (PerCore.fund_ghost (pinD pcs a) EP phinj) $$ HP with Hg
      imod hstart $$ [Hh Hla Hg HG] with HT
      · isplitr [Hla]
        · iapply hjoin
          isplitl [Hh]; · iexact Hh
          isplitl [Hg] <;> iassumption
        · iexact Hla
      imodintro
      iexists ()
      isplitl [HT]
      · iexact HT
      · iempintro
    · refine (hrun c).trans (wp_mono frame (wpE 𝔻 𝕍 (c.tc : Thread nD τ) none) Set.univ fun _ => ?_)
      unfold post; simp only [liftTc_tc, fin]
      exact BI.Entails.refl _
    · iintro ⟨H, -, Hsc⟩ %s' HSI
      ihave %hsc := (scSems_read_zero m g s') $$ [Hsc HSI]
      · isplitl [Hsc] <;> iassumption
      imod (posts_fupd Finset.univ (fun c s' => boundary_read c s' (hfin c s')) s') $$ [H HSI] with %h
      · isplitl [H] <;> iassumption
      imodintro
      ipureintro
      exact ⟨fun c => h c (Finset.mem_univ c), hsc⟩
  exact (θ_run 𝔻 _ _).mono (fun r hr => hQ r.2 (fun c => (hr.1 c).1) (sems_of_reads (fun c => (hr.1 c).2) hr.2)) hdone

/-! ## A region whose own semaphores are already out -/

section Opened

variable (pdats : (p : P) → (c : Dev nD) → Dat τ Val Ix Name U Lvl (pinD pcs a c p) c) (ι : Ix)
variable {p : P} {K : Type} [Fintype K] {osem : K → SemLoc sig}
  (ho : OwnSemFacts (pcs p).spec osem) (win : WinFacts₀ (pcs p).spec)
  (stage_whole : ∀ (w : Fin (pcs p).W) (s : Fin ((pcs p).spec w).nbuf), (((pcs p).spec w).stage s).IsWhole)

/-- A device's boundary without the kernel's own semaphores. -/
def opened (c : Dev nD) : sProp 𝕄 :=
  iprop(scopedBufs (c.tc : Thread nD τ) ∗ PerCore.cellsSems0 (pinD pcs a) p c
    ∗ PerCore.idleSems0 (pinD pcs a) phinj p (fun _ => ho) c ∗ opIdle (c.tc : Thread nD τ))

include win in
/-- The boundary gives the kernel's own semaphores, at zero, and the rest. -/
theorem boundary_open (c : Dev nD) :
    (boundary (c.tc : Thread nD τ) : sProp 𝕄) ⊢ iprop(ownSems0 osem c ∗ opened pcs a phinj ho c) := by
  unfold boundary opened
  rw [PerCore.scopedSems0_split (pinD pcs a) phinj p (fun _ => win) (fun _ => ho) c]
  iintro ⟨Hb, ⟨⟨Hc, Ho⟩, Hi⟩, Hid⟩
  isplitl [Ho]; · iexact Ho
  isplitl [Hb]; · iexact Hb
  isplitl [Hc]; · iexact Hc
  isplitl [Hi] <;> iassumption

include phinj ho win stage_whole in
/-- A region entered from a boundary without the kernel's own semaphores: the body's invariant starts from `X` (`hin`),
    which holds what those semaphores were turned into, and ends giving them back at zero beside `Y` (`hout`). The
    boundary comes back whole. -/
theorem wp_opened [∀ e, Nonempty (Val e)] [Infinite Name] [EP.LandsIn (upEmb : UEmb _ 𝕄)]
    (block_pos : ∀ w : Fin (pcs p).W, 0 < ((pcs p).spec w).block.numel)
    (c : Dev nD) (hbody : BodyObligationLoose (pdats p c) defs₀ 𝒱₀ ι Set.univ) {X Y : sProp 𝕄}
    (hin : iprop(X ∗ prefHeld (pcs p).pre c (fun _ => fullShare) (a c p).1 ∗ scopedRest (pcs p).spec c) ⊢ (pdats p c).Φ 0)
    (hout : (pdats p c).Φ (Fin.last (pinD pcs a c p).N) ⊢ iprop(Y ∗ ownSems0 osem c ∗ scopedRest (pcs p).spec c))
    {α : Type} (k : PUnit → Prog (TpuEff nD τ sig Val (Sig Λ₀ P fun p => (pcs p).Adm) .tc) α) (Q : α → sProp 𝕄) :
    iprop((iprop(boundary (c.tc : Thread nD τ) ∗ PerCore.EntryPost (pinD pcs a) pdats ι p c ∗ Y) -∗ wp frame (wpE 𝔻 𝕍 (c.tc : Thread nD τ) none) Set.univ (k ⟨⟩) Q)
        ∗ opened pcs a phinj ho c ∗ (pdats p c).arrays ((pdats p c).arrAt · 0) ∗ prefHeld (pcs p).pre c (fun _ => fullShare) (a c p).1
        ∗ (pdats p c).owesAt ι 0 ∗ X ∗ PerCore.cellsWaits (pinD pcs a) pdats ι p c
        ∗ PerCore.cellsGhost (pinD pcs a) EP p c ∗ PerCore.toksInit (pinD pcs a) EP p c)
      ⊢ wp frame (wpE 𝔻 𝕍 (c.tc : Thread nD τ) none) Set.univ (.op (.customCall (entry p) ()) k) Q := by
  classical
  have hsb := PerCore.scopedBufs_split (pinD pcs a) p c win.stage_scoped win.stage_inj stage_whole (nD := nD) (τ := τ) (Ix := Ix) (Val := Val) (Name := Name) (U := U) (Lvl := Lvl)
  have hback : iprop((pdats p c).Φ (Fin.last (pinD pcs a c p).N) ∗ PerCore.cellsSems0 (pinD pcs a) p c ∗ Dat.staging (pinD pcs a c p) c
        ∗ PerCore.idleSems0 (pinD pcs a) phinj p (fun _ => ho) c)
      ⊢ iprop(Y ∗ scopedSems0 (c.tc : Thread nD τ) ∗ scopedBufs (c.tc : Thread nD τ)) := by
    rw [PerCore.scopedSems0_split (pinD pcs a) phinj p (fun _ => win) (fun _ => ho) c, hsb]
    iintro ⟨HΦ, Hc, Hs, Hi⟩
    ihave H := hout $$ HΦ
    icases H with ⟨HY, Ho, Hr⟩
    isplitl [HY]; · iexact HY
    isplitl [Hc Ho Hi]
    · isplitl [Hc Ho]
      · isplitl [Hc] <;> iassumption
      · iexact Hi
    · isplitl [Hs] <;> iassumption
  unfold opened
  iintro ⟨Hk, ⟨Hb, Hc, Hi, Hid⟩, Harr, Hpf, HO, HX, Hw, Hg, Ht⟩
  iapply (fupd_wp frame (wpE 𝔻 𝕍 (c.tc : Thread nD τ) none) Set.univ _ _)
  imod (PerCore.cellsInit_alloc (pinD pcs a) pdats EP phinj p c) $$ [Hc Hg] with ⟨%κ, -, Hinit⟩
  · isplitl [Hc] <;> iassumption
  imodintro
  iapply (PerCore.wp_customCall_entry_frame pcs a pdats ι EP κ phinj p defs₀ 𝒱₀ (fun _ => fullShare) c Set.univ (fun _ _ => Set.mem_univ _)
      hbody block_pos none (fun u h => nomatch h) (X := X) (Y := Y) (R := scopedRest (pcs p).spec c)
      (I := PerCore.idleSems0 (pinD pcs a) phinj p (fun _ => ho) c) (Entails.of_eq hsb) hin hback (k := k) (Q := Q)) $$ [Harr HO Hw Hinit Ht Hpf HX Hi Hb]
  · isplitl [Harr HO Hw Hinit Ht]
    · unfold PerCore.EntryPre
      isplitl [Harr]; · iexact Harr
      isplitl [HO]; · iexact HO
      isplitl [Hw]; · iexact Hw
      isplitl [Hinit] <;> iassumption
    isplitl [Hpf]; · iexact Hpf
    isplitl [HX]; · iexact HX
    isplitl [Hi] <;> iassumption
  iintro ⟨Hpost, HY, Hs, Hb⟩
  iapply Hk
  isplitl [Hb Hs Hid]
  · unfold boundary
    isplitl [Hb]; · iexact Hb
    isplitl [Hs] <;> iassumption
  · isplitl [Hpost] <;> iassumption

end Opened

end Cert.Joint

end
-- ==== Proof.Peers.lean ====
/-
# Seven sends, seven receipts and one copy

The two big exchanges of the train step share one shape. A device has seven send semaphores, seven
receive semaphores and one for a copy of its own. Its `k`-th remote copy goes to device `tgt k c`,
credits send semaphore `k` at home and receive semaphore `k` over there; for each `k` the devices
pair up, so `tgt k` is its own inverse and receive semaphore `k` of `c` is paid by `tgt k c` too.
Every semaphore is credited by exactly one transfer, all of the same size.

This module states that protocol once, for any payloads: the schedule, what is dealt at the launch,
and the steps a body takes.
-/
module

public import proofs.«01_k».proof.Proof.Joint
public import Idealize.ShloMosaic.Lib.Rounds

@[expose] public section

set_option Elab.async false

noncomputable section

namespace Cert.Peers

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The semaphores of one device: the one of its own copy, the send ones, the receive ones. -/
abbrev Key : Type := Unit ⊕ (Fin 7 ⊕ Fin 7)
/-- The semaphore of the device's own copy, -/
abbrev home : Key := .inl ()
/-- the one its `k`-th send credits at home, -/
abbrev snd (k : Fin 7) : Key := .inr (.inl k)
/-- the one the `k`-th receipt credits. -/
abbrev rcv (k : Fin 7) : Key := .inr (.inr k)

variable {nD : Nat} {τ : Topo} {sig : RefSig} {Val : EltTy → Type}

/-- Ghost state: the pipeline library's beside the protocol's. -/
abbrev Gh (nD : Nat) (τ : Topo) (sig : RefSig) : Type := UR sig nD τ × UR sig nD τ

local notation "𝕄" => MT nD τ sig Unit Val ℕ (Gh nD τ sig) ℕ

/-- Where the protocol's ghost state sits. -/
abbrev ER : Emb (UR sig nD τ) 𝕄 := embR

/-- One exchange: its semaphores, whom each send goes to, the size of a transfer, and what each
    semaphore's transfer hands to the device that waits on it. -/
structure Plan (nD : Nat) (τ : Topo) (sig : RefSig) (Val : EltTy → Type) where
  sem : Key → DmaSem sig
  inj : Function.Injective sem
  tgt : Fin 7 → Dev nD → Dev nD
  invol : ∀ k c, tgt k (tgt k c) = c
  amt : ℕ
  amt_pos : 0 < amt
  pay : Dev nD → Key → sProp (MT nD τ sig Unit Val ℕ (Gh nD τ sig) ℕ)
  storable : ∀ c k, BI.Storable (upEmb : UEmb _ (MT nD τ sig Unit Val ℕ (Gh nD τ sig) ℕ)) (pay c k)

variable (p : Plan nD τ sig Val)

namespace Plan

/-- The semaphores, as the launch lists a kernel's own. -/
abbrev osem (k : Key) : SemLoc sig := .dma (p.sem k)
/-- Device `c`'s semaphore `k`. -/
abbrev cell (c : Dev nD) (k : Key) : GSem nD τ sig := ((c : Thread nD τ), .dma (p.sem k))

theorem cell_inj {c c' : Dev nD} {k k' : Key} (h : p.cell c k = p.cell c' k') : c = c' ∧ k = k' := by
  refine ⟨congrArg (fun g : GSem nD τ sig => g.1.1) h, p.inj ?_⟩
  have h2 : SemLoc.dma (p.sem k) = .dma (p.sem k') := congrArg Prod.snd h
  exact SemLoc.dma.inj h2

/-! ## The schedule -/

/-- A semaphore location of the exchange. -/
def Own (s : SemLoc sig) : Prop := ∃ k, s = .dma (p.sem k)

open scoped Classical in
/-- What the transfer on a semaphore location hands over. -/
def payAt (c : Dev nD) (s : SemLoc sig) : sProp 𝕄 := if h : p.Own s then p.pay c h.choose else iprop(emp)

open scoped Classical in
/-- One duty for every semaphore of the exchange, in the first round only. -/
def sched : Rounds.Schedule (GSem nD τ sig) Unit 𝕄 where
  duties g r := if r = 0 ∧ g.1.2 = .tc ∧ p.Own g.2 then {()} else ∅
  unitless _ := False
  amount _ _ _ := p.amt
  payload g _ _ := p.payAt g.1.1 g.2
  amount_pos _ _ _ _ := p.amt_pos

instance sched_storable (g : GSem nD τ sig) (r : ℕ) (d : Unit) : BI.Storable (upEmb : UEmb _ 𝕄) (p.sched.payload g r d) := by
  show BI.Storable upEmb (p.payAt g.1.1 g.2)
  unfold payAt
  split
  · exact p.storable _ _
  · infer_instance

theorem own_sem (k : Key) : p.Own (.dma (p.sem k)) := ⟨k, rfl⟩

theorem payAt_cell (c : Dev nD) (k : Key) : p.payAt c (.dma (p.sem k)) = p.pay c k := by
  unfold payAt
  rw [dif_pos (p.own_sem k)]
  have h : SemLoc.dma (p.sem k) = .dma (p.sem (p.own_sem k).choose) := (p.own_sem k).choose_spec
  rw [← p.inj (SemLoc.dma.inj h)]

theorem duties_cell (c : Dev nD) (k : Key) : p.sched.duties (p.cell c k) 0 = {()} := by
  dsimp only [sched]; exact if_pos ⟨rfl, rfl, p.own_sem k⟩

theorem duties_later (g : GSem nD τ sig) (r : ℕ) (h : 1 ≤ r) : p.sched.duties g r = ∅ := by
  dsimp only [sched]; exact if_neg fun h' => by omega

theorem mem_duties (c : Dev nD) (k : Key) : () ∈ p.sched.duties (p.cell c k) 0 := by
  rw [duties_cell]; exact Finset.mem_singleton_self _

theorem payload_cell (c : Dev nD) (k : Key) : p.sched.payload (p.cell c k) 0 () = p.pay c k := p.payAt_cell c k

theorem expect_cell (c : Dev nD) (k : Key) : p.sched.expect (p.cell c k) 0 = p.amt := by
  unfold Rounds.Schedule.expect Rounds.Schedule.amountOf
  rw [duties_cell, Finset.sum_singleton]; rfl

theorem rest_cell (c : Dev nD) (k : Key) :
    bigSep (p.sched.duties (p.cell c k) 0 \ ∅) (fun u => p.sched.payload (p.cell c k) 0 u) = p.pay c k := by
  rw [duties_cell, Finset.sdiff_empty, BI.bigSep_singleton, payload_cell]

/-! ## What the launch deals -/

/-- The record of one semaphore: its invariant, and that its only round is open. -/
def known (c : Dev nD) (k : Key) : sProp 𝕄 :=
  iprop((∃ κ : ℕ, cellInv ER p.sched κ (p.cell c k)) ∗ reached ER (p.cell c k) 0)
instance known_persistent (c : Dev nD) (k : Key) : BI.Persistent (p.known c k) := by unfold known; infer_instance

/-- The records of all semaphores of all devices. -/
def allKnown : sProp 𝕄 := bigSep Finset.univ fun ck : Dev nD × Key => p.known ck.1 ck.2
instance allKnown_persistent : BI.Persistent p.allKnown := by unfold allKnown; infer_instance

theorem known_of (c : Dev nD) (k : Key) : p.allKnown ⊢ p.known c k := bigSep_elim (Φ := fun ck : Dev nD × Key => p.known ck.1 ck.2) (Finset.mem_univ (c, k))

/-- A device's place at one of its own semaphores, -/
def at0 (c : Dev nD) (k : Key) : sProp 𝕄 := atPos ER (p.cell c k) 0 ∅ 0
/-- and the right to credit one, once. -/
def tok (c : Dev nD) (k : Key) : sProp 𝕄 := dutyTok ER (p.cell c k) 0 ()

/-- The launch's ghost state of device `c`. -/
def G (c : Dev nD) : sProp 𝕄 := bigSep Finset.univ fun k : Key =>
  iprop(roundState ER p.sched (p.cell c k) 0 ∗ reached ER (p.cell c k) 0 ∗ p.at0 c k ∗ p.tok c k)

theorem pair_inj : Function.Injective fun ck : Dev nD × Key => p.cell ck.1 ck.2 := fun a b h => by
  obtain ⟨h1, h2⟩ := p.cell_inj h
  exact Prod.ext h1 h2
/-- All semaphores of the exchange, -/
def cells : Finset (GSem nD τ sig) := Finset.univ.map ⟨fun ck : Dev nD × Key => p.cell ck.1 ck.2, p.pair_inj⟩
/-- and the right to credit each. -/
def toks : Finset (GSem nD τ sig × ℕ × Unit) :=
  Finset.univ.map ⟨fun ck : Dev nD × Key => (p.cell ck.1 ck.2, 0, ()), fun _ _ h => p.pair_inj (congrArg Prod.fst h)⟩

theorem fund : BI.own (ER (initOf p.cells p.toks)) ⊢ (|==> bigSep Finset.univ p.G : sProp 𝕄) := by
  have hC (Φ : GSem nD τ sig → sProp 𝕄) : bigSep p.cells Φ = bigSep Finset.univ fun c : Dev nD => bigSep Finset.univ fun k : Key => Φ (p.cell c k) := by
    unfold cells; rw [bigSep_map, bigSep_univ_prod]; rfl
  have hT : bigSep p.toks (fun x => (dutyTok ER x.1 x.2.1 x.2.2 : sProp 𝕄)) = bigSep Finset.univ fun c : Dev nD => bigSep Finset.univ fun k : Key => p.tok c k := by
    unfold toks; rw [bigSep_map, bigSep_univ_prod]; rfl
  refine (Rounds.fund ER p.sched p.cells p.toks).trans (BI.bupd_mono ?_)
  rw [hC, hC, hC, hT, ← bigSep_sep', ← bigSep_sep', ← bigSep_sep']
  refine bigSep_mono fun c _ => ?_
  rw [← bigSep_sep', ← bigSep_sep', ← bigSep_sep']
  exact BI.Entails.refl _

/-- All devices' semaphores at zero become the exchange's records; each device keeps its places and, for now, the
    rights to credit its own semaphores. -/
theorem open_all :
    (bigSep Finset.univ fun c : Dev nD => iprop(Pipeline.ownSems0 p.osem c ∗ p.G c))
      ⊢ |={Set.univ}=> iprop(p.allKnown ∗ (bigSep Finset.univ fun c : Dev nD => bigSep Finset.univ fun k : Key => p.at0 c k)
        ∗ bigSep Finset.univ fun c : Dev nD => bigSep Finset.univ fun k : Key => p.tok c k) := by
  have h1 (c : Dev nD) (k : Key) : iprop(semVal (p.cell c k) 0 ∗ roundState ER p.sched (p.cell c k) 0 ∗ reached ER (p.cell c k) 0 ∗ p.at0 c k ∗ p.tok c k)
      ⊢ (|={Set.univ}=> iprop(p.known c k ∗ p.at0 c k ∗ p.tok c k) : sProp 𝕄) := by
    iintro ⟨Hv, Hst, #Hr, Hat, Ht⟩
    imod ((Rounds.body_intro ER p.sched (p.cell c k)).trans inv_alloc) $$ [Hv Hst] with HI
    · isplitl [Hv] <;> iassumption
    imodintro
    isplitr [Hat Ht]
    · unfold known
      isplitl [HI]; · iexact HI
      iexact Hr
    isplitl [Hat] <;> iassumption
  have h2 (c : Dev nD) : iprop(Pipeline.ownSems0 p.osem c ∗ p.G c)
      ⊢ (|={Set.univ}=> bigSep Finset.univ fun k : Key => iprop(p.known c k ∗ p.at0 c k ∗ p.tok c k) : sProp 𝕄) := by
    refine (Entails.of_eq (show _ = bigSep Finset.univ fun k : Key => iprop(semVal (p.cell c k) 0 ∗ roundState ER p.sched (p.cell c k) 0 ∗ reached ER (p.cell c k) 0 ∗ p.at0 c k ∗ p.tok c k) from ?_)).trans
      ((bigSep_mono fun k _ => h1 c k).trans (bigSep_fupd _ _))
    rw [bigSep_sep' Finset.univ (fun k : Key => (semVal (p.cell c k) 0 : sProp 𝕄))]; rfl
  refine ((bigSep_mono fun c _ => h2 c).trans (bigSep_fupd _ _)).trans (BI.fupd_mono (Entails.of_eq (show (_ : sProp 𝕄) = _ from ?_)))
  unfold allKnown
  rw [bigSep_univ_prod, ← bigSep_sep', ← bigSep_sep']
  exact bigSep_congr fun c _ => by rw [bigSep_sep', bigSep_sep']

/-- A family over a device's semaphores: the copy's, the sends', the receipts'. -/
theorem split_keys (Φ : Key → sProp 𝕄) :
    bigSep Finset.univ Φ = iprop(Φ home ∗ (bigSep Finset.univ fun k => Φ (snd k)) ∗ bigSep Finset.univ fun k => Φ (rcv k)) := by
  rw [bigSep_univ_sum, bigSep_univ_sum]
  congr 1
  exact BI.bigSep_singleton

/-- All the pairings at once. -/
def turnAll : Dev nD × Fin 7 ≃ Dev nD × Fin 7 where
  toFun ck := (p.tgt ck.2 ck.1, ck.2)
  invFun ck := (p.tgt ck.2 ck.1, ck.2)
  left_inv ck := Prod.ext (p.invol ck.2 ck.1) rfl
  right_inv ck := Prod.ext (p.invol ck.2 ck.1) rfl

/-- The rights a device uses: its own copy's, and for each send the two it credits. -/
def rights (c : Dev nD) : sProp 𝕄 :=
  iprop(p.tok c home ∗ bigSep Finset.univ fun k : Fin 7 => iprop(p.tok c (snd k) ∗ p.tok (p.tgt k c) (rcv k)))

/-- Something each device holds for its `k`-th receipt, handed to the device that makes the `k`-th send. -/
theorem around (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (p.tgt k c) k := by
  rw [← bigSep_univ_prod fun ck : Dev nD × Fin 7 => Φ ck.1 ck.2, ← bigSep_univ_prod fun ck : Dev nD × Fin 7 => Φ (p.tgt ck.2 ck.1) ck.2]
  exact bigSep_univ_equiv (p.turnAll) fun ck => Φ ck.1 ck.2

theorem deal_rights :
    (bigSep Finset.univ fun c : Dev nD => bigSep Finset.univ fun k : Key => p.tok c k) = bigSep Finset.univ fun c : Dev nD => p.rights c := by
  unfold rights
  simp only [split_keys, bigSep_sep']
  rw [p.around fun c k => p.tok c (rcv k)]

/-! ## What the devices owe -/

/-- The credit device `c` owes for its `k`-th send. -/
def due (c : Dev nD) (k : Fin 7) : CellTallies nD τ sig Unit := tallyAt (p.cell (p.tgt k c) (rcv k)) () p.amt

/-- All it owes. -/
def dues (c : Dev nD) : CellTallies nD τ sig Unit := ∑ k : Fin 7, p.due c k

theorem launch_credit (c : Dev nD) :
    (Pipeline.launchCred p.dues c : sProp 𝕄) ⊢ bigSep Finset.univ fun k : Fin 7 => cred (tallyAt (p.cell c (rcv k)) () p.amt) := by
  rw [show p.dues = fun d => ∑ k ∈ (Finset.univ : Finset (Fin 7)), p.due d k from rfl,
    Pipeline.launchCred_sum Finset.univ (fun k d => p.due d k) c]
  exact bigSep_mono fun k _ => Pipeline.launchCred_tallyAt (.dma (p.sem (rcv k))) (p.tgt k) (p.tgt k) (p.invol k) (p.invol k) () p.amt c

/-! ## The steps -/

variable {Λ : Idealize.SL.Sem.Labels} {defs : Defs nD τ sig Val Λ} (𝒱 : Variants) {α : Type}
variable {sp sp' : Space} {s : Shape} {e : EltTy}

/-- The `k`-th send. -/
theorem wp_give {Q : α → sProp (MT nD τ sig Unit Val ℕ (Gh nD τ sig) ℕ)} (c : Dev nD) (k : Fin 7) {n : Dev nD} (hn : n = p.tgt k c) {S R : DmaSem sig} (hS : S = p.sem (snd k)) (hR : R = p.sem (rcv k))
    {src : Memref sig .tc sp s e} {dst : Memref sig .tc sp' s e} {hsc : (dst : Memref sig (Dev.tc n : Thread nD τ).2.kind sp' s e).view.ref.isScScratch = false}
    {hsrc : src.view.WordExact} {hdst : dst.view.WordExact}
    {hsem : DmaTarget.Typed sp (.dma R) (.remote (Dev.tc n : Thread nD τ) (dst : Memref sig .tc sp' s e) (.dma S) hsc)}
    {cont : PUnit → Prog (TpuEff nD τ sig Val Λ .tc) α} {q : PosShare TreeShare}
    {fs : Buf Val (src.view.loc (c : Thread nD τ))} {fd : Buf Val (dst.view.loc (p.tgt k c : Thread nD τ))}
    (hamt : dst.view.amount (.dma R) = p.amt)
    (hpay₁ : (src.view.loc (c : Thread nD τ) ↦[src.view.set]{q} fs) ⊢ p.pay c (snd k))
    (hpay₂ : (dst.view.loc (p.tgt k c : Thread nD τ) ↦[dst.view.set]{fullShare} (dst.view.write Val fd (src.view.read Val fs) Finset.univ)) ⊢ p.pay (p.tgt k c) (rcv k))
    {O₀ : CellTallies nD τ sig Unit} (O : CellTallies nD τ sig Unit) (hO : O₀ = O + p.due c k) {W : Waits sig Unit} :
    iprop(p.allKnown ∗ (src.view.loc (c : Thread nD τ) ↦[src.view.set]{q} fs) ∗ (dst.view.loc (p.tgt k c : Thread nD τ) ↦[dst.view.set]{fullShare} fd)
        ∗ owes (c : Thread nD τ) O₀ W ∗ p.tok c (snd k) ∗ p.tok (p.tgt k c) (rcv k))
      ⊢ iprop(((cred (tallyAt (p.cell c (snd k)) () p.amt) ∗ owes (c : Thread nD τ) O W) -∗ wp frame (wpE defs 𝒱 (c : Thread nD τ) none) Set.univ (cont ⟨⟩) Q)
          -∗ wp frame (wpE defs 𝒱 (c : Thread nD τ) none) Set.univ
            (.op (.enqueueDma src (.remote (Dev.tc n : Thread nD τ) dst (.dma S) hsc) (.dma R) hsrc hdst hsem) cont) Q) := by
  subst hn hS hR
  iintro ⟨#HK, Hs, Hd, HO, Ht1, Ht2⟩
  ihave H1 := (p.known_of c (snd k)) $$ HK
  ihave H2 := (p.known_of (p.tgt k c) (rcv k)) $$ HK
  unfold known
  icases H1 with ⟨⟨%κ₁, #HI1⟩, #HR1⟩
  icases H2 with ⟨⟨%κ₂, #HI2⟩, #HR2⟩
  unfold tok
  iapply (Rounds.wp_send_pointsTo 𝒱 ER p.sched (c : Thread nD τ) none (κ₁ := κ₁) (κ₂ := κ₂) (r₁ := 0) (r₂ := 0) (d₁ := ()) (d₂ := ()) (fd := fd)
    (p.mem_duties c (snd k)) (p.mem_duties (p.tgt k c) (rcv k)) () () p.amt hamt rfl rfl O hO (W := W)
    (hpay₁.trans (Entails.of_eq (p.payload_cell c (snd k)).symm)) (hpay₂.trans (Entails.of_eq (p.payload_cell (p.tgt k c) (rcv k)).symm)))
  isplitr; · iexact HI1
  isplitr; · iexact HI2
  isplitl [Hs]; · iexact Hs
  isplitl [Hd]; · iexact Hd
  isplitl [HO]; · iexact HO
  isplitl [Ht1]; · iexact Ht1
  isplitr; · iexact HR1
  isplitl [Ht2]; · iexact Ht2
  iexact HR2

/-- The device's own copy. -/
theorem wp_keep {Q : α → sProp (MT nD τ sig Unit Val ℕ (Gh nD τ sig) ℕ)} (c : Dev nD) {S : DmaSem sig} (hS : S = p.sem home)
    {src : Memref sig .tc sp s e} {dst : Memref sig .tc sp' s e} {hsrc : src.view.WordExact} {hdst : dst.view.WordExact}
    {hsem : DmaTarget.Typed (nD := nD) (τ := τ) (p := Proc.tc) sp (.dma S) (.here dst)}
    {cont : PUnit → Prog (TpuEff nD τ sig Val Λ .tc) α} {q : PosShare TreeShare}
    {fs : Buf Val (src.view.loc (c : Thread nD τ))} {fd : Buf Val (dst.view.loc (c : Thread nD τ))}
    (hamt : dst.view.amount (.dma S) = p.amt)
    (hpay : iprop((dst.view.loc (c : Thread nD τ) ↦[dst.view.set]{fullShare} (dst.view.write Val fd (src.view.read Val fs) Finset.univ))
      ∗ (src.view.loc (c : Thread nD τ) ↦[src.view.set]{q} fs)) ⊢ p.pay c home) :
    iprop(p.allKnown ∗ (src.view.loc (c : Thread nD τ) ↦[src.view.set]{q} fs) ∗ (dst.view.loc (c : Thread nD τ) ↦[dst.view.set]{fullShare} fd) ∗ p.tok c home)
      ⊢ iprop((cred (tallyAt (p.cell c home) () p.amt) -∗ wp frame (wpE defs 𝒱 (c : Thread nD τ) none) Set.univ (cont ⟨⟩) Q)
          -∗ wp frame (wpE defs 𝒱 (c : Thread nD τ) none) Set.univ (.op (.enqueueDma src (.here dst) (.dma S) hsrc hdst hsem) cont) Q) := by
  subst hS
  iintro ⟨#HK, Hs, Hd, Ht⟩
  ihave H1 := (p.known_of c home) $$ HK
  unfold known
  icases H1 with ⟨⟨%κ, #HI⟩, #HR⟩
  unfold tok
  iapply (Rounds.wp_copy_pointsTo 𝒱 ER p.sched (c : Thread nD τ) none (κ := κ) (r := 0) (d := ()) (fd := fd)
    (p.mem_duties c home) () p.amt hamt rfl (hpay.trans (Entails.of_eq (p.payload_cell c home).symm)))
  isplitr; · iexact HI
  isplitl [Hs]; · iexact Hs
  isplitl [Hd]; · iexact Hd
  isplitl [Ht]; · iexact Ht
  iexact HR

/-- A wait on one of the device's own semaphores: it takes what the transfer hands over, and the semaphore is done with. -/
theorem wp_take {Q : α → sProp (MT nD τ sig Unit Val ℕ (Gh nD τ sig) ℕ)} (c : Dev nD) (k : Key) {w : TpuEff nD τ sig Val Λ .tc PUnit}
    (hw : ∀ K : PUnit → sProp 𝕄, wpE defs 𝒱 (c : Thread nD τ) none Set.univ w K = waitSpec (c : Thread nD τ) Set.univ (.dma (p.sem k)) p.amt K)
    {cont : PUnit → Prog (TpuEff nD τ sig Val Λ .tc) α} {O : CellTallies nD τ sig Unit} {W : Waits sig Unit} :
    iprop(p.allKnown ∗ cred (tallyAt (p.cell c k) () p.amt) ∗ owes (c : Thread nD τ) O W ∗ MayWait (c : Thread nD τ) (.dma (p.sem k)) () O ∗ p.at0 c k)
      ⊢ iprop(((owes (c : Thread nD τ) O (insert (.dma (p.sem k), ()) W) ∗ semVal (p.cell c k) 0 ∗ p.pay c k)
            -∗ wp frame (wpE defs 𝒱 (c : Thread nD τ) none) Set.univ (cont ⟨⟩) Q)
          -∗ wp frame (wpE defs 𝒱 (c : Thread nD τ) none) Set.univ (.op w cont) Q) := by
  iintro ⟨#HK, Hc, HO, HM, Ha⟩ Hk
  ihave H1 := (p.known_of c k) $$ HK
  unfold known
  icases H1 with ⟨⟨%κ, #HI⟩, #HR⟩
  unfold at0
  iapply (Rounds.wp_wait_rest_token 𝒱 ER p.sched (c : Thread nD τ) none (κ := κ) hw (Set.mem_univ _) () (O := O) (W := W) (R := 0) (m := 0) (T := ∅)
    (by rw [Nat.zero_add, p.expect_cell c k])) $$ [Hc HO HM Ha]
  · isplitr; · iexact HI
    isplitl [Hc]; · iexact Hc
    isplitl [HO]; · iexact HO
    isplitl [HM] <;> iassumption
  iintro ⟨HO, Ha, -, Hp⟩
  iapply (fupd_wp frame (wpE defs 𝒱 (c : Thread nD τ) none) Set.univ _ _)
  imod (Rounds.cell_close ER p.sched (Set.mem_univ κ) (fun h => h) (R := 0 + 1) (p.duties_later (p.cell c k))) $$ [Ha] with Hz
  · isplitr; · iexact HI
    iexact Ha
  imodintro
  iapply Hk
  isplitl [HO]; · iexact HO
  isplitl [Hz]; · iexact Hz
  iapply (Entails.of_eq (p.rest_cell c k)); iexact Hp

end Plan

end Cert.Peers

end
-- ==== Proof.Deal.lean ====
/-
# Launching one of the big exchanges

The launch of a program whose first region follows a plan of `Peers`. All devices' holdings are
regrouped together: their semaphores become the exchange's records, the rights to credit a receive
semaphore go to the device that will pay it, and the devices' buffers are dealt out the way the
transfers need them. Then each device enters the region, and gets back its boundary and what the
region leaves.
-/
module

public import proofs.«01_k».proof.Proof.Peers

@[expose] public section

set_option Elab.async false

noncomputable section

namespace Cert.Peers

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type}

local notation "𝕄" => MT nD τ sig Unit Val ℕ (Gh nD τ sig) ℕ

/-- Where the pipeline library's ghost state sits. -/
abbrev EP : Emb (UR sig nD τ) 𝕄 := embL

/-- Something persistent beside a family is beside each of its members. -/
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

namespace Plan

variable (p : Plan nD τ sig Val)

/-- What a device's body starts with: the records, its places, its rights, the credit its receipts consume, the levels,
    and its share of the buffers. -/
def starts (L : GSem nD τ sig → Finset Unit) (lv : GSem nD τ sig → Unit → ℕ) (bufs : Dev nD → sProp 𝕄) (c : Dev nD) : sProp 𝕄 :=
  iprop((p.allKnown ∗ levAts L lv) ∗ (bigSep Finset.univ fun k : Key => p.at0 c k) ∗ p.rights c
    ∗ (bigSep Finset.univ fun k : Fin 7 => cred (tallyAt (p.cell c (rcv k)) () p.amt)) ∗ bufs c)

section Region

variable {Λ₀ : Idealize.SL.Sem.Labels} {P : Type} [Fintype P]
variable (pcs : P → PCfg sig Λ₀ Val) (a : Dev nD → (p : P) → (pcs p).Adm)
  (phinj : Function.Injective (PerCore.cellOf (nD := nD) (pinD pcs a)))
  (defs₀ : Defs nD τ sig Val Λ₀) (𝒱₀ : Variants)
  {r : P} (ho : OwnSemFacts (pcs r).spec p.osem) (win : WinFacts₀ (pcs r).spec)
  (stage_whole : ∀ (w : Fin (pcs r).W) (s : Fin ((pcs r).spec w).nbuf), (((pcs r).spec w).stage s).IsWhole)

local notation "𝔻" => Pipeline.defs pcs defs₀
local notation "𝕍" => Variants.lift 𝒱₀

/-- What a device starts the program with. -/
def before (L : GSem nD τ sig → Finset Unit) (lv : GSem nD τ sig → Unit → ℕ) (bufs : Dev nD → sProp 𝕄) (c : Dev nD) : sProp 𝕄 :=
  iprop(p.starts L lv bufs c ∗ Joint.opened pcs a phinj ho c ∗ owes (c.tc : Thread nD τ) (p.dues c) ∅
    ∗ PerCore.ghostOn pcs a EP Finset.univ c)

include win in
/-- All devices' holdings at the launch, regrouped. `hdeal` deals the buffers. -/
theorem regroup (m : (ℓ : Loc nD τ sig) → Buf Val ℓ) (g : Dev nD → PrngReg)
    (L : GSem nD τ sig → Finset Unit) (lv : GSem nD τ sig → Unit → ℕ) (bufs : Dev nD → sProp 𝕄)
    (hdeal : (bigSep Finset.univ fun c : Dev nD => unscopedBufs c (fun b => m ((c.tc : Thread nD τ).loc b))) ⊢ bigSep Finset.univ bufs) :
    iprop((bigSep Finset.univ fun c : Dev nD => Joint.dealt pcs a EP m g p.dues p.G c) ∗ levAts L lv)
      ⊢ |={Set.univ}=> bigSep Finset.univ (p.before pcs a phinj ho L lv bufs) := by
  have h1 (c : Dev nD) : (Joint.dealt pcs a EP m g p.dues p.G c : sProp 𝕄)
      ⊢ iprop((ownSems0 p.osem c ∗ p.G c) ∗ unscopedBufs c (fun b => m ((c.tc : Thread nD τ).loc b))
        ∗ ((bigSep Finset.univ fun k : Fin 7 => cred (tallyAt (p.cell c (rcv k)) () p.amt))
          ∗ Joint.opened pcs a phinj ho c ∗ owes (c.tc : Thread nD τ) (p.dues c) ∅ ∗ PerCore.ghostOn pcs a EP Finset.univ c)) := by
    unfold Joint.dealt
    iintro ⟨Hb, Hu, HO, Hc, Hg, HG⟩
    ihave H := (Joint.boundary_open pcs a phinj ho win c) $$ Hb
    icases H with ⟨Hs, Hop⟩
    ihave Hc' := (p.launch_credit c) $$ Hc
    isplitl [Hs HG]
    · isplitl [Hs] <;> iassumption
    isplitl [Hu]; · iexact Hu
    isplitl [Hc']; · iexact Hc'
    isplitl [Hop]; · iexact Hop
    isplitl [HO] <;> iassumption
  refine (sep_mono_left (bigSep_mono fun c _ => h1 c)).trans ?_
  rw [bigSep_sep' Finset.univ (fun c : Dev nD => iprop(ownSems0 p.osem c ∗ p.G c)),
    bigSep_sep' Finset.univ (fun c : Dev nD => (unscopedBufs c (fun b => m ((c.tc : Thread nD τ).loc b)) : sProp 𝕄))]
  iintro ⟨⟨Hs, Hu, Hr⟩, #HL⟩
  imod (p.open_all) $$ Hs with H
  icases H with ⟨#HK, Ha, Ht⟩
  ihave Hb := hdeal $$ Hu
  ihave Ht' := (Entails.of_eq p.deal_rights) $$ Ht
  imodintro
  iapply (with_each (R := iprop(p.allKnown ∗ levAts L lv))
    (Φ := fun c => iprop((bigSep Finset.univ fun k : Key => p.at0 c k) ∗ p.rights c ∗ bufs c
      ∗ ((bigSep Finset.univ fun k : Fin 7 => cred (tallyAt (p.cell c (rcv k)) () p.amt))
          ∗ Joint.opened pcs a phinj ho c ∗ owes (c.tc : Thread nD τ) (p.dues c) ∅ ∗ PerCore.ghostOn pcs a EP Finset.univ c))) fun c _ => by
    unfold before starts
    iintro ⟨HK, Ha, Ht, Hb, Hc, Hr⟩
    isplitr [Hr]
    · isplitl [HK]; · iexact HK
      isplitl [Ha]; · iexact Ha
      isplitl [Ht]; · iexact Ht
      isplitl [Hc] <;> iassumption
    · iexact Hr)
  isplitr
  · isplitr; · iexact HK
    iexact HL
  · iapply (Entails.of_eq (bigSep_sep' Finset.univ _ _).symm)
    isplitl [Ha]; · iexact Ha
    iapply (Entails.of_eq (bigSep_sep' Finset.univ _ _).symm)
    isplitl [Ht']; · iexact Ht'
    iapply (Entails.of_eq (bigSep_sep' Finset.univ _ _).symm)
    isplitl [Hb]; · iexact Hb
    iexact Hr

variable (pdats : (q : P) → (c : Dev nD) → Dat τ Val Unit ℕ (Gh nD τ sig) ℕ (pinD pcs a c q) c)

include win stage_whole in
/-- The region, for a device. It has no windows. -/
theorem wp_region [DecidableEq P] [∀ e, Nonempty (Val e)] (hW : IsEmpty (Fin (pcs r).W)) (hK : IsEmpty (Fin (pcs r).pre.K))
    (L : GSem nD τ sig → Finset Unit) (lv : GSem nD τ sig → Unit → ℕ) (bufs done : Dev nD → sProp 𝕄)
    (c : Dev nD) (hbody : BodyObligationLoose (pdats r c) defs₀ 𝒱₀ () Set.univ)
    (howed₀ : (pdats r c).owed 0 = p.dues c) (howedN : (pdats r c).owed (Fin.last _) = 0)
    (hin : iprop(p.starts L lv bufs c ∗ scopedRest (pcs r).spec c) ⊢ (pdats r c).Φ 0)
    (hout : (pdats r c).Φ (Fin.last (pinD pcs a c r).N) ⊢ iprop(done c ∗ ownSems0 p.osem c ∗ scopedRest (pcs r).spec c))
    {α : Type} (k : PUnit → Prog (TpuEff nD τ sig Val (Sig Λ₀ P fun p => (pcs p).Adm) .tc) α) (Q : α → sProp 𝕄) :
    iprop(p.before pcs a phinj ho L lv bufs c
        ∗ (iprop(boundary (c.tc : Thread nD τ) ∗ done c ∗ (∃ W, owes (c.tc : Thread nD τ) (0 : CellTallies nD τ sig Unit) W)
              ∗ PerCore.ghostOn pcs a EP (Finset.univ.erase r) c)
            -∗ wp frame (wpE 𝔻 𝕍 (c.tc : Thread nD τ) none) Set.univ (k ⟨⟩) Q))
      ⊢ wp frame (wpE 𝔻 𝕍 (c.tc : Thread nD τ) none) Set.univ (.op (.customCall (entry r) ()) k) Q := by
  unfold before
  iintro ⟨⟨Hs, Hop, HO, Hg⟩, Hk⟩
  ihave Hg' := (Entails.of_eq (PerCore.ghostOn_erase pcs a EP (Finset.mem_univ r) c)) $$ Hg
  icases Hg' with ⟨⟨Hg1, Hg2⟩, Hg3⟩
  iapply (Joint.wp_opened pcs a phinj EP defs₀ 𝒱₀ pdats () ho win stage_whole (fun w => hW.elim w) c hbody (X := p.starts L lv bufs c) (Y := done c)
    ((sep_mono .rfl sep_elim_right).trans hin) hout k Q)
  isplitl [Hk Hg3]
  · iintro ⟨Hb, He, Hd⟩
    unfold PerCore.EntryPost
    icases He with ⟨-, ⟨%W, -, HO⟩⟩
    iapply Hk
    isplitl [Hb]; · iexact Hb
    isplitl [Hd]; · iexact Hd
    isplitl [HO]
    · iexists W; rw [← howedN]; iexact HO
    · iexact Hg3
  isplitl [Hop]; · iexact Hop
  isplitr
  · unfold Dat.arrays; rw [Finset.univ_eq_empty, bigSep_empty]; iempintro
  isplitr
  · unfold prefHeld; rw [Finset.univ_eq_empty, bigSep_empty]; iempintro
  isplitl [HO]
  · iexists ∅
    isplitr; · ipureintro; simp
    rw [howed₀]; iexact HO
  isplitl [Hs]; · iexact Hs
  isplitr
  · unfold PerCore.cellsWaits PerCore.RDat.cellsWaits; rw [Finset.univ_eq_empty, bigSep_empty]; iempintro
  isplitl [Hg1] <;> iassumption

end Region

end Plan

end Cert.Peers

end
-- ==== Proof.Slots.lean ====
/-
# The slots of a stacked array

An array of `n` matrices, read as `n` slots. A kernel names slot `j` by slicing the array at
`[j, 0, 0]` and dropping the leading axis. Here: where a slot's entries sit, that holding the array
is holding its slots, and what a slot holds after another matrix is copied into it.
-/
module

public import Idealize.ShloMosaic.Lib.Pipeline.Kit
public import Idealize.ShloMosaic.Lib.Tactic

@[expose] public section

set_option Elab.async false

noncomputable section

namespace Cert.Slots

open Idealize.ShloMosaic Idealize.ShloMosaic.TcCoe
open Idealize.SL Idealize.SL.RA Idealize.SL.BI
open scoped Idealize.SL.BI
open Idealize.SL.BI.BIBase Idealize.SL.BI.Laws Idealize.SL.ProofMode

variable {sig : RefSig} {κ : Kind} {sp : Space} {e : EltTy} {n r l : Nat}

/-- Slot `[off 0]` of the array, as a kernel names it. -/
abbrev slotAt (A : Memref sig κ sp ⟨3, ![n, r, l]⟩ e) (off : Fin 3 → Nat)
    (inb : ∀ a, off a + (![1, r, l] : Fin 3 → Nat) a ≤ (⟨3, ![n, r, l]⟩ : Shape).size a)
    (sq : (⟨3, ![1, r, l]⟩ : Shape).Squeezes ⟨2, ![r, l]⟩) : Memref sig κ sp ⟨2, ![r, l]⟩ e :=
  (A.slice (Rect.unit (s := ⟨3, ![n, r, l]⟩) off ![1, r, l] inb) (fun _ => rfl)).squeeze ⟨2, ![r, l]⟩ sq

/-- Only the offsets count, -/
theorem slotAt_congr (A : Memref sig κ sp ⟨3, ![n, r, l]⟩ e) {off off' : Fin 3 → Nat} (h : off = off')
    (inb : ∀ a, off a + (![1, r, l] : Fin 3 → Nat) a ≤ (⟨3, ![n, r, l]⟩ : Shape).size a)
    (inb' : ∀ a, off' a + (![1, r, l] : Fin 3 → Nat) a ≤ (⟨3, ![n, r, l]⟩ : Shape).size a)
    (sq : (⟨3, ![1, r, l]⟩ : Shape).Squeezes ⟨2, ![r, l]⟩) : slotAt A off inb sq = slotAt A off' inb' sq := by
  subst h; rfl

/-- and `[j, 0, 0]` are in bounds. -/
theorem inb_slot (j : Fin n) : ∀ a, (![j.val, 0, 0] : Fin 3 → Nat) a + (![1, r, l] : Fin 3 → Nat) a ≤ (⟨3, ![n, r, l]⟩ : Shape).size a :=
  Fin.forall_fin_succ.mpr ⟨j.isLt, Fin.forall_fin_succ.mpr ⟨by show 0 + r ≤ r; omega, Fin.forall_fin_one.mpr (by show 0 + l ≤ l; omega)⟩⟩

/-- Slot `j`. -/
abbrev slot (A : Memref sig κ sp ⟨3, ![n, r, l]⟩ e) (sq : (⟨3, ![1, r, l]⟩ : Shape).Squeezes ⟨2, ![r, l]⟩) (j : Fin n) :
    Memref sig κ sp ⟨2, ![r, l]⟩ e :=
  slotAt A ![j.val, 0, 0] (inb_slot j) sq

/-- Entry `(a, b)` of slot `j` is entry `(j, a, b)` of the array. -/
def inSlot (j : Fin n) (i : (⟨2, ![r, l]⟩ : Shape).Idx) : (⟨3, ![n, r, l]⟩ : Shape).Idx :=
  Fin.cons (α := fun a => Fin ((![n, r, l] : Fin 3 → Nat) a)) j i

theorem inSlot_surj (x : (⟨3, ![n, r, l]⟩ : Shape).Idx) : inSlot (x 0) (fun a => x a.succ) = x := by
  funext a; refine Fin.cases ?_ (fun b => ?_) a <;> rfl

theorem slot_emb (A : Memref sig κ sp ⟨3, ![n, r, l]⟩ e) (sq : (⟨3, ![1, r, l]⟩ : Shape).Squeezes ⟨2, ![r, l]⟩) (j : Fin n)
    (i : (⟨2, ![r, l]⟩ : Shape).Idx) : (slot A sq j).view.emb i = A.view.emb (inSlot j i) := by
  show A.view.emb ((Rect.unit (s := ⟨3, ![n, r, l]⟩) ![j.val, 0, 0] ![1, r, l] (inb_slot j)).emb (Shape.reshapeEquiv sq.numel_eq i)) = _
  congr 1
  have h := Shape.reshapeEquiv_cons_one (d := ![r, l]) sq.numel_eq i
  funext a
  apply Fin.ext
  rw [Rect.emb_apply]
  refine Fin.cases ?_ (fun b => ?_) a
  · show j.val + 1 * ((Shape.reshapeEquiv sq.numel_eq i) 0).val = j.val
    rw [h]; rfl
  · refine Fin.cases ?_ (fun b' => ?_) b
    · show 0 + 1 * ((Shape.reshapeEquiv sq.numel_eq i) 1).val = (i 0).val
      rw [h]; show 0 + 1 * (i 0).val = _; omega
    · have hb : b' = 0 := Subsingleton.elim _ _
      subst hb
      show 0 + 1 * ((Shape.reshapeEquiv sq.numel_eq i) 2).val = (i 1).val
      rw [h]; show 0 + 1 * (i 1).val = _; omega

theorem disjoint_slots (A : Memref sig κ sp ⟨3, ![n, r, l]⟩ e) (sq : (⟨3, ![1, r, l]⟩ : Shape).Squeezes ⟨2, ![r, l]⟩) {j j' : Fin n}
    (h : j ≠ j') : Disjoint (slot A sq j).view.set (slot A sq j').view.set := by
  refine Finset.disjoint_left.mpr fun i hi hi' => h ?_
  obtain ⟨x, -, hx⟩ := Finset.mem_map.mp hi
  obtain ⟨y, -, hy⟩ := Finset.mem_map.mp hi'
  rw [slot_emb] at hx hy
  exact congrFun (A.view.emb.injective (hx.trans hy.symm)) 0

theorem cover_slots (A : Memref sig κ sp ⟨3, ![n, r, l]⟩ e) (sq : (⟨3, ![1, r, l]⟩ : Shape).Squeezes ⟨2, ![r, l]⟩) :
    A.view.set = (Finset.univ : Finset (Fin n)).biUnion fun j => (slot A sq j).view.set := by
  ext i
  simp only [View.set, Finset.mem_biUnion, Finset.mem_map, Finset.mem_univ, true_and]
  constructor
  · rintro ⟨x, rfl⟩
    exact ⟨x 0, fun a => x a.succ, (slot_emb A sq _ _).trans (congrArg _ (inSlot_surj x))⟩
  · rintro ⟨j, x, rfl⟩
    exact ⟨inSlot j x, (slot_emb A sq j x).symm⟩

section Held

variable {nD : Nat} {τ : Topo} {Ix : Type} [DecidableEq Ix] {Val : EltTy → Type} {Name : Type} [DecidableEq Name]
variable {U : Type} [URA U] {Lvl : Type}

local notation "𝕄" => MT nD τ sig Ix Val Name U Lvl

/-- Holding the array is holding its slots. -/
theorem held_slots (c : Thread nD τ) (A : Memref sig c.2.kind sp ⟨3, ![n, r, l]⟩ e) (sq : (⟨3, ![1, r, l]⟩ : Shape).Squeezes ⟨2, ![r, l]⟩)
    (q : PosShare TreeShare) (f : Buf Val (A.view.loc c)) :
    (A.view.loc c ↦[A.view.set]{q} f : sProp 𝕄)
      = bigSep Finset.univ fun j => (slot A sq j).view.loc c ↦[(slot A sq j).view.set]{q} f := by
  rw [cover_slots A sq]
  exact pointsTo_biUnion Finset.univ _ fun j _ j' _ h => disjoint_slots A sq h

/-- A slot written with what `g` holds there is held at `g`. -/
theorem slot_written (c : Thread nD τ) (A : Memref sig c.2.kind sp ⟨3, ![n, r, l]⟩ e) (sq : (⟨3, ![1, r, l]⟩ : Shape).Squeezes ⟨2, ![r, l]⟩)
    (j : Fin n) (q : PosShare TreeShare) (f g : Buf Val (A.view.loc c)) (w : (⟨2, ![r, l]⟩ : Shape).Idx → Val e)
    (h : ∀ i, w i = A.view.read Val g (inSlot j i)) :
    ((slot A sq j).view.loc c ↦[(slot A sq j).view.set]{q} ((slot A sq j).view.write Val f w Finset.univ) : sProp 𝕄)
      = (slot A sq j).view.loc c ↦[(slot A sq j).view.set]{q} g := by
  refine pointsTo_congr fun i hi => ?_
  obtain ⟨x, -, rfl⟩ := Finset.mem_map.mp hi
  have e := View.write_emb_of_mem (v := (slot A sq j).view) (Val := Val) f w (M := Finset.univ) (Finset.mem_univ x)
  refine e.trans ?_
  rw [h x, View.read_apply, cast_cast, cast_eq, slot_emb]

/-- What a slot reads. -/
theorem slot_read (A : Memref sig κ sp ⟨3, ![n, r, l]⟩ e) (sq : (⟨3, ![1, r, l]⟩ : Shape).Squeezes ⟨2, ![r, l]⟩)
    (j : Fin n) (f : A.view.ty.Contents Val) (i : (⟨2, ![r, l]⟩ : Shape).Idx) :
    (slot A sq j).view.read Val f i = A.view.read Val f (inSlot j i) := by
  rw [View.read_apply, View.read_apply, slot_emb]

end Held

end Cert.Slots
-- ==== Proof.Swap.lean ====
/-
# The exchange of the gradients' shards

Every device holds a stack of eight matrices, one for each device. Device `c` keeps its own matrix
in place `c`, and sends matrix `tgt k c` to device `tgt k c`, into place `c` there, for seven `k`.
In the end place `j` of device `c` holds what device `j` had for `c`.

The body is run once, at a device `c` and for any float values.
-/
module

public import proofs.«01_k».proof.Proof.Deal
public import proofs.«01_k».proof.Proof.Slots
public import proofs.«01_k».proof.Proof.Gen.ExchangeIdeal
public import proofs.«01_k».proof.Proof.Gen.ExchangeIdeal.Launch
public import proofs.«01_k».proof.Proof.Gen.ExchangeIdeal.Skeleton

@[expose] public section

set_option Elab.async false

noncomputable section

namespace Cert.Swap

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.ExchangeIdeal Cert.ExchangeIdeal.Gen Cert.Peers Cert.Slots

variable {F : FTy → Type} [FloatOps F]

local notation "𝕄" => MT nD τ sig Unit (Elt F) ℕ (Gh nD τ sig) ℕ

/-! ## Who sends to whom -/

/-- The device the `k`-th send goes to: another place on one, two or three of the mesh's axes. -/
def tgt (k : Fin 7) (c : Dev nD) : Dev nD := ⟨(c.val ^^^ (k.val + 1)) % 8, Nat.mod_lt _ (by decide)⟩

theorem tgt_tgt (k : Fin 7) (c : Dev nD) : tgt k (tgt k c) = c := by revert k c; decide

theorem tgt_inj (c : Dev nD) : Function.Injective fun k => tgt k c := fun a b h => by revert c a b; decide
theorem erase_self (c : Dev nD) : (Finset.univ : Finset (Dev nD)).erase c = Finset.univ.map ⟨fun k => tgt k c, tgt_inj c⟩ := by
  rw [Finset.map_eq_image]; revert c; decide

/-- A family over the devices: `c`'s own, and those of the devices it sends to. -/
theorem devices_from (c : Dev nD) (Φ : Dev nD → sProp 𝕄) :
    bigSep Finset.univ Φ = iprop(Φ c ∗ bigSep Finset.univ fun k => Φ (tgt k c)) := by
  rw [bigSep_erase (Finset.mem_univ c), erase_self c, bigSep_map]
  rfl

/-- The kernel's computed devices and offsets. -/
theorem dev1 (c : Dev nD) : (⟨k0_dev1 c, k0_dev1_lt c⟩ : Dev nD) = tgt 0 c := by revert c; decide
theorem dev2 (c : Dev nD) : (⟨k0_dev2 c, k0_dev2_lt c⟩ : Dev nD) = tgt 1 c := by revert c; decide
theorem dev3 (c : Dev nD) : (⟨k0_dev3 c, k0_dev3_lt c⟩ : Dev nD) = tgt 2 c := by revert c; decide
theorem dev4 (c : Dev nD) : (⟨k0_dev4 c, k0_dev4_lt c⟩ : Dev nD) = tgt 3 c := by revert c; decide
theorem dev5 (c : Dev nD) : (⟨k0_dev5 c, k0_dev5_lt c⟩ : Dev nD) = tgt 4 c := by revert c; decide
theorem dev6 (c : Dev nD) : (⟨k0_dev6 c, k0_dev6_lt c⟩ : Dev nD) = tgt 5 c := by revert c; decide
theorem dev7 (c : Dev nD) : (⟨k0_dev7 c, k0_dev7_lt c⟩ : Dev nD) = tgt 6 c := by revert c; decide
theorem off1 (c : Dev nD) : k0_off1 c = ![c.val, 0, 0] := by revert c; decide
theorem off2 (c : Dev nD) : k0_off2 c = ![(tgt 0 c).val, 0, 0] := by revert c; decide
theorem off3 (c : Dev nD) : k0_off3 c = ![(tgt 1 c).val, 0, 0] := by revert c; decide
theorem off4 (c : Dev nD) : k0_off4 c = ![(tgt 2 c).val, 0, 0] := by revert c; decide
theorem off5 (c : Dev nD) : k0_off5 c = ![(tgt 3 c).val, 0, 0] := by revert c; decide
theorem off6 (c : Dev nD) : k0_off6 c = ![(tgt 4 c).val, 0, 0] := by revert c; decide
theorem off7 (c : Dev nD) : k0_off7 c = ![(tgt 5 c).val, 0, 0] := by revert c; decide
theorem off8 (c : Dev nD) : k0_off8 c = ![(tgt 6 c).val, 0, 0] := by revert c; decide

/-! ## The matrices -/

abbrev xM : Memref sig .tc .hbm S8x52736x128 .bf16 := Memref.whole main_arg0
abbrev oM : Memref sig .tc .hbm S8x52736x128 .bf16 := Memref.whole main_v1
/-- Matrix `j` of the argument, -/
abbrev xs (j : Dev nD) : Memref sig .tc .hbm S52736x128 .bf16 := slot (n := 8) xM squeezes_S1x52736x128_S52736x128 j
/-- and of the result. -/
abbrev os (j : Dev nD) : Memref sig .tc .hbm S52736x128 .bf16 := slot (n := 8) oM squeezes_S1x52736x128_S52736x128 j

variable (m : (ℓ : Loc nD τ sig) → Buf (Elt F) ℓ)

/-- What device `c` ends with: in place `j`, what device `j` had for `c`. -/
def result (c : Dev nD) : Buf (Elt F) ((c : Thread nD τ).loc main_v1) := fun i =>
  let j : Dev nD := i (0 : Fin 3)
  m ((j : Thread nD τ).loc main_arg0) (inSlot (n := 8) (r := 52736) (l := 128) c fun a => i a.succ)

/-- Matrix `j` of device `d`'s argument, -/
def xPts (d j : Dev nD) : sProp 𝕄 := (xs j).view.loc (d : Thread nD τ) ↦[(xs j).view.set]{fullShare} m ((d : Thread nD τ).loc main_arg0)
/-- and place `j` of device `d`'s result, holding `f`. -/
def oPts (d j : Dev nD) (f : Buf (Elt F) ((d : Thread nD τ).loc main_v1)) : sProp 𝕄 := (os j).view.loc (d : Thread nD τ) ↦[(os j).view.set]{fullShare} f

instance xPts_storable (d j : Dev nD) : BI.Storable (upEmb : UEmb _ 𝕄) (xPts (F := F) m d j) := by unfold xPts; infer_instance
instance oPts_storable (d j : Dev nD) (f) : BI.Storable (upEmb : UEmb _ 𝕄) (oPts (F := F) d j f) := by unfold oPts; infer_instance

theorem arg_split (d : Dev nD) : (((d : Thread nD τ).loc main_arg0) ↦{fullShare} m ((d : Thread nD τ).loc main_arg0) : sProp 𝕄)
    = bigSep Finset.univ fun j => xPts m d j := by
  have h := held_slots (Ix := Unit) (Val := Elt F) (Name := ℕ) (U := Gh nD τ sig) (Lvl := ℕ) (n := 8) (d : Thread nD τ) xM squeezes_S1x52736x128_S52736x128 fullShare (m ((d : Thread nD τ).loc main_arg0))
  rw [View.set_whole] at h
  exact h
theorem res_split (d : Dev nD) (f : Buf (Elt F) ((d : Thread nD τ).loc main_v1)) : (((d : Thread nD τ).loc main_v1) ↦{fullShare} f : sProp 𝕄)
    = bigSep Finset.univ fun j => oPts d j f := by
  have h := held_slots (Ix := Unit) (Val := Elt F) (Name := ℕ) (U := Gh nD τ sig) (Lvl := ℕ) (n := 8) (d : Thread nD τ) oM squeezes_S1x52736x128_S52736x128 fullShare f
  rw [View.set_whole] at h
  exact h

/-- Device `c`'s matrix `d` written into place `c` of device `d`. -/
theorem landed (c d : Dev nD) (fd : Buf (Elt F) ((os c).view.loc (d : Thread nD τ))) :
    ((os c).view.loc (d : Thread nD τ) ↦[(os c).view.set]{fullShare} ((os c).view.write (Elt F) fd ((xs d).view.read (Elt F) (m ((c : Thread nD τ).loc main_arg0))) Finset.univ) : sProp 𝕄)
      = oPts d c (result m d) := by
  refine slot_written (n := 8) (d : Thread nD τ) oM squeezes_S1x52736x128_S52736x128 c fullShare fd (result m d) _ fun i => ?_
  rw [slot_read]
  rfl

/-! ## The plan -/

/-- The semaphores: the sends', the receipts', the copy's. -/
def semOf : Key → DmaSem sig
  | .inr (.inl k) => ⟨k.val, by have := k.isLt; show k.val < 15; omega⟩
  | .inr (.inr k) => ⟨7 + k.val, by have := k.isLt; show 7 + k.val < 15; omega⟩
  | .inl _ => ⟨14, by decide⟩

theorem semOf_inj : Function.Injective semOf := fun a b h => by revert a b; decide

/-- What each transfer hands to the device that waits for it: the copy, both its ends; a send, the matrix sent; a
    receipt, the place filled. -/
def pay (c : Dev nD) : Key → sProp 𝕄
  | .inl _ => iprop(oPts c c (result m c) ∗ xPts m c c)
  | .inr (.inl k) => xPts m c (tgt k c)
  | .inr (.inr k) => oPts c (tgt k c) (result m c)

instance pay_storable (c : Dev nD) : (k : Key) → BI.Storable (upEmb : UEmb _ 𝕄) (pay (F := F) m c k)
  | .inl _ => by unfold pay; infer_instance
  | .inr (.inl k) => by unfold pay; infer_instance
  | .inr (.inr k) => by unfold pay; infer_instance

def plan : Plan nD τ sig (Elt F) where
  sem := semOf
  inj := semOf_inj
  tgt := tgt
  invol := tgt_tgt
  amt := (os 0).view.dmaCredit
  amt_pos := View.dmaCredit_pos _ (by decide)
  pay := pay m
  storable := pay_storable m

/-! ## The steps of the body -/

abbrev 𝒱₀ : Variants := Variants.none

/-- What a device needs for its `k`-th send. -/
def go (c : Dev nD) (k : Fin 7) : sProp 𝕄 :=
  iprop(xPts m c (tgt k c) ∗ oPts (tgt k c) c (m ((tgt k c : Thread nD τ).loc main_v1)) ∗ (plan m).tok c (snd k) ∗ (plan m).tok (tgt k c) (rcv k))

section Steps

variable {α : Type} {Q : α → sProp (MT nD τ sig Unit (Elt F) ℕ (Gh nD τ sig) ℕ)} {W : Waits sig Unit} {O₀ O : CellTallies nD τ sig Unit}

theorem send (c : Dev nD) (k : Fin 7) {n : Dev nD} (hn : n = tgt k c) {S R : DmaSem sig} (hS : S = semOf (snd k)) (hR : R = semOf (rcv k))
    {src dst : Memref sig .tc .hbm S52736x128 .bf16} (hs : src = xs (tgt k c)) (hd : dst = os c)
    {hsc : (dst : Memref sig (Dev.tc n : Thread nD τ).2.kind .hbm S52736x128 .bf16).view.ref.isScScratch = false}
    {hsrc : src.view.WordExact} {hdst : dst.view.WordExact}
    {hsem : DmaTarget.Typed .hbm (.dma R) (.remote (Dev.tc n : Thread nD τ) (dst : Memref sig .tc .hbm S52736x128 .bf16) (.dma S) hsc)}
    {cont : PUnit → Prog (TpuEff nD τ sig (Elt F) Λ₀ .tc) α} (hO : O₀ = O + (plan m).due c k) :
    iprop((plan m).allKnown ∗ go m c k ∗ owes (c : Thread nD τ) O₀ W)
      ⊢ iprop(((cred (tallyAt ((plan m).cell c (snd k)) () (plan m).amt) ∗ owes (c : Thread nD τ) O W)
            -∗ wp frame (wpE (defs₀ (F := F)) 𝒱₀ (c : Thread nD τ) none) Set.univ (cont ⟨⟩) Q)
          -∗ wp frame (wpE (defs₀ (F := F)) 𝒱₀ (c : Thread nD τ) none) Set.univ
            (.op (.enqueueDma src (.remote (Dev.tc n : Thread nD τ) dst (.dma S) hsc) (.dma R) hsrc hdst hsem) cont) Q) := by
  subst hs hd
  unfold go xPts oPts
  iintro ⟨#HK, ⟨Hx, Ho, Ht1, Ht2⟩, HO⟩
  iapply ((plan m).wp_give 𝒱₀ c k hn hS hR (fd := m ((tgt k c : Thread nD τ).loc main_v1)) rfl
    (show _ ⊢ pay m c (snd k) from by unfold pay xPts; exact .rfl) (show _ ⊢ oPts (tgt k c) (tgt k (tgt k c)) (result m (tgt k c)) from by
      rw [tgt_tgt]; exact Entails.of_eq (landed m c (tgt k c) _)) O hO)
  isplitr; · iexact HK
  isplitl [Hx]; · iexact Hx
  isplitl [Ho]; · iexact Ho
  isplitl [HO]; · iexact HO
  isplitl [Ht1]; · iexact Ht1
  iexact Ht2

theorem keep (c : Dev nD) {S : DmaSem sig} (hS : S = semOf home)
    {src dst : Memref sig .tc .hbm S52736x128 .bf16} (hs : src = xs c) (hd : dst = os c)
    {hsrc : src.view.WordExact} {hdst : dst.view.WordExact}
    {hsem : DmaTarget.Typed (nD := nD) (τ := τ) (p := Proc.tc) .hbm (.dma S) (.here dst)}
    {cont : PUnit → Prog (TpuEff nD τ sig (Elt F) Λ₀ .tc) α} :
    iprop((plan m).allKnown ∗ xPts m c c ∗ oPts c c (m ((c : Thread nD τ).loc main_v1)) ∗ (plan m).tok c home)
      ⊢ iprop((cred (tallyAt ((plan m).cell c home) () (plan m).amt)
            -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma src (.here dst) (.dma S) hsrc hdst hsem) cont) Q) := by
  subst hs hd
  unfold xPts oPts
  iintro ⟨#HK, Hx, Ho, Ht⟩
  iapply ((plan m).wp_keep 𝒱₀ c hS (fd := m ((c : Thread nD τ).loc main_v1)) rfl (show _ ⊢ pay m c home from by
    unfold pay; exact sep_mono (Entails.of_eq (landed m c c _)) (by unfold xPts; exact .rfl)))
  isplitr; · iexact HK
  isplitl [Hx]; · iexact Hx
  isplitl [Ho] <;> iassumption

theorem take (c : Dev nD) (key : Key) {S : DmaSem sig} (hS : S = semOf key)
    {src dst : Memref sig .tc .hbm S52736x128 .bf16} (hd : dst.view.dmaCredit = (plan m).amt)
    {h1 : src.view.WordExact} {h2 : dst.view.WordExact}
    {cont : PUnit → Prog (TpuEff nD τ sig (Elt F) Λ₀ .tc) α} :
    iprop((plan m).allKnown ∗ cred (tallyAt ((plan m).cell c key) () (plan m).amt) ∗ (∃ W, owes (c : Thread nD τ) (0 : CellTallies nD τ sig Unit) W) ∗ (plan m).at0 c key)
      ⊢ iprop((((∃ W, owes (c : Thread nD τ) (0 : CellTallies nD τ sig Unit) W) ∗ semVal ((plan m).cell c key) 0 ∗ (plan m).pay c key)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 S src dst h1 h2) cont) Q) := by
  subst hS
  iintro ⟨#HK, Hc, ⟨%W, HO⟩, Ha⟩ Hk
  iapply ((plan m).wp_take 𝒱₀ c key (fun K => by rw [← hd]; rfl)) $$ [Hc HO Ha]
  · isplitr; · iexact HK
    isplitl [Hc]; · iexact Hc
    isplitl [HO]; · iexact HO
    isplitr; · rw [MayWait_zero]; iempintro
    iexact Ha
  iintro ⟨HO, Hz, Hp⟩
  iapply Hk
  isplitl [HO]
  · iexists _; iexact HO
  isplitl [Hz]; · iexact Hz
  iexact Hp

end Steps

/-! ## The body -/

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

set_option maxRecDepth 8000 in
theorem body (c : Dev nD) :
    iprop(((plan m).allKnown) ∗ (bigSep Finset.univ fun k : Key => (plan m).at0 c k)
        ∗ (xPts m c c ∗ oPts c c (m ((c : Thread nD τ).loc main_v1)) ∗ (plan m).tok c home)
        ∗ (bigSep Finset.univ fun k : Fin 7 => go m c k)
        ∗ (bigSep Finset.univ fun k : Fin 7 => cred (tallyAt ((plan m).cell c (rcv k)) () (plan m).amt))
        ∗ (∃ W, owes (c : Thread nD τ) ((plan m).dues c) W))
      ⊢ wp frame (wpE (defs₀ (F := F)) 𝒱₀ (c : Thread nD τ) none) Set.univ
          (cc0_exchange_grads (Memref.whole main_arg0) (Memref.isWhole_whole _) (Memref.whole main_v1) (Memref.isWhole_whole _) cc0_scratch0 cc0_scratch1 cc0_scratch2)
          fun _ => iprop((bigSep Finset.univ fun k : Key => iprop(semVal ((plan m).cell c k) 0 ∗ (plan m).pay c k))
            ∗ ∃ W, owes (c : Thread nD τ) (0 : CellTallies nD τ sig Unit) W) := by
  have hdues : (plan m).dues c = (((((((0 + (plan m).due c 6) + (plan m).due c 5) + (plan m).due c 4) + (plan m).due c 3) + (plan m).due c 2) + (plan m).due c 1) + (plan m).due c 0) := by
    unfold Plan.dues; rw [Fin.sum_univ_seven, zero_add]; ac_rfl
  rw [Plan.split_keys, Plan.split_keys, seven, seven, seven, seven, seven, seven, hdues]
  simp only [cc0_exchange_grads_eq_skeleton]
  unfold cc0_exchange_grads_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  iintro ⟨#HK, ⟨Ha, ⟨As0, As1, As2, As3, As4, As5, As6⟩, Ar0, Ar1, Ar2, Ar3, Ar4, Ar5, Ar6⟩, Hk, ⟨G0, G1, G2, G3, G4, G5, G6⟩, ⟨C0, C1, C2, C3, C4, C5, C6⟩, ⟨%W, HO⟩⟩
  iapply (keep m c (S := cc0_scratch2.sem) rfl (slotAt_congr (n := 8) xM (off1 c) _ _ _) (slotAt_congr (n := 8) oM (off1 c) _ _ _)) $$ [Hk]
  · isplitr; · iexact HK
    iexact Hk
  iintro Ch
  iapply (send m c 0 (dev1 c) rfl rfl (slotAt_congr (n := 8) xM (off2 c) _ _ _) (slotAt_congr (n := 8) oM (off1 c) _ _ _) rfl) $$ [G0 HO]
  · isplitr; · iexact HK
    isplitl [G0]; · iexact G0
    iexact HO
  iintro ⟨D0, HO⟩
  iapply (send m c 1 (dev2 c) rfl rfl (slotAt_congr (n := 8) xM (off3 c) _ _ _) (slotAt_congr (n := 8) oM (off1 c) _ _ _) rfl) $$ [G1 HO]
  · isplitr; · iexact HK
    isplitl [G1]; · iexact G1
    iexact HO
  iintro ⟨D1, HO⟩
  iapply (send m c 2 (dev3 c) rfl rfl (slotAt_congr (n := 8) xM (off4 c) _ _ _) (slotAt_congr (n := 8) oM (off1 c) _ _ _) rfl) $$ [G2 HO]
  · isplitr; · iexact HK
    isplitl [G2]; · iexact G2
    iexact HO
  iintro ⟨D2, HO⟩
  iapply (send m c 3 (dev4 c) rfl rfl (slotAt_congr (n := 8) xM (off5 c) _ _ _) (slotAt_congr (n := 8) oM (off1 c) _ _ _) rfl) $$ [G3 HO]
  · isplitr; · iexact HK
    isplitl [G3]; · iexact G3
    iexact HO
  iintro ⟨D3, HO⟩
  iapply (send m c 4 (dev5 c) rfl rfl (slotAt_congr (n := 8) xM (off6 c) _ _ _) (slotAt_congr (n := 8) oM (off1 c) _ _ _) rfl) $$ [G4 HO]
  · isplitr; · iexact HK
    isplitl [G4]; · iexact G4
    iexact HO
  iintro ⟨D4, HO⟩
  iapply (send m c 5 (dev6 c) rfl rfl (slotAt_congr (n := 8) xM (off7 c) _ _ _) (slotAt_congr (n := 8) oM (off1 c) _ _ _) rfl) $$ [G5 HO]
  · isplitr; · iexact HK
    isplitl [G5]; · iexact G5
    iexact HO
  iintro ⟨D5, HO⟩
  iapply (send m c 6 (dev7 c) rfl rfl (slotAt_congr (n := 8) xM (off8 c) _ _ _) (slotAt_congr (n := 8) oM (off1 c) _ _ _) rfl) $$ [G6 HO]
  · isplitr; · iexact HK
    isplitl [G6]; · iexact G6
    iexact HO
  iintro ⟨D6, HO⟩
  ihave HO := (show owes (c : Thread nD τ) (0 : CellTallies nD τ sig Unit) W ⊢ (iprop(∃ W, owes (c : Thread nD τ) (0 : CellTallies nD τ sig Unit) W) : sProp 𝕄) from by
    iintro H; iexists W; iexact H) $$ HO
  iapply (take m c (snd 0) rfl rfl) $$ [D0 HO As0]
  · isplitr; · iexact HK
    isplitl [D0]; · iexact D0
    isplitl [HO]; · iexact HO
    iexact As0
  iintro ⟨HO, P0⟩
  iapply (take m c (rcv 0) rfl rfl) $$ [C0 HO Ar0]
  · isplitr; · iexact HK
    isplitl [C0]; · iexact C0
    isplitl [HO]; · iexact HO
    iexact Ar0
  iintro ⟨HO, R0⟩
  iapply (take m c (snd 1) rfl rfl) $$ [D1 HO As1]
  · isplitr; · iexact HK
    isplitl [D1]; · iexact D1
    isplitl [HO]; · iexact HO
    iexact As1
  iintro ⟨HO, P1⟩
  iapply (take m c (rcv 1) rfl rfl) $$ [C1 HO Ar1]
  · isplitr; · iexact HK
    isplitl [C1]; · iexact C1
    isplitl [HO]; · iexact HO
    iexact Ar1
  iintro ⟨HO, R1⟩
  iapply (take m c (snd 2) rfl rfl) $$ [D2 HO As2]
  · isplitr; · iexact HK
    isplitl [D2]; · iexact D2
    isplitl [HO]; · iexact HO
    iexact As2
  iintro ⟨HO, P2⟩
  iapply (take m c (rcv 2) rfl rfl) $$ [C2 HO Ar2]
  · isplitr; · iexact HK
    isplitl [C2]; · iexact C2
    isplitl [HO]; · iexact HO
    iexact Ar2
  iintro ⟨HO, R2⟩
  iapply (take m c (snd 3) rfl rfl) $$ [D3 HO As3]
  · isplitr; · iexact HK
    isplitl [D3]; · iexact D3
    isplitl [HO]; · iexact HO
    iexact As3
  iintro ⟨HO, P3⟩
  iapply (take m c (rcv 3) rfl rfl) $$ [C3 HO Ar3]
  · isplitr; · iexact HK
    isplitl [C3]; · iexact C3
    isplitl [HO]; · iexact HO
    iexact Ar3
  iintro ⟨HO, R3⟩
  iapply (take m c (snd 4) rfl rfl) $$ [D4 HO As4]
  · isplitr; · iexact HK
    isplitl [D4]; · iexact D4
    isplitl [HO]; · iexact HO
    iexact As4
  iintro ⟨HO, P4⟩
  iapply (take m c (rcv 4) rfl rfl) $$ [C4 HO Ar4]
  · isplitr; · iexact HK
    isplitl [C4]; · iexact C4
    isplitl [HO]; · iexact HO
    iexact Ar4
  iintro ⟨HO, R4⟩
  iapply (take m c (snd 5) rfl rfl) $$ [D5 HO As5]
  · isplitr; · iexact HK
    isplitl [D5]; · iexact D5
    isplitl [HO]; · iexact HO
    iexact As5
  iintro ⟨HO, P5⟩
  iapply (take m c (rcv 5) rfl rfl) $$ [C5 HO Ar5]
  · isplitr; · iexact HK
    isplitl [C5]; · iexact C5
    isplitl [HO]; · iexact HO
    iexact Ar5
  iintro ⟨HO, R5⟩
  iapply (take m c (snd 6) rfl rfl) $$ [D6 HO As6]
  · isplitr; · iexact HK
    isplitl [D6]; · iexact D6
    isplitl [HO]; · iexact HO
    iexact As6
  iintro ⟨HO, P6⟩
  iapply (take m c (rcv 6) rfl rfl) $$ [C6 HO Ar6]
  · isplitr; · iexact HK
    isplitl [C6]; · iexact C6
    isplitl [HO]; · iexact HO
    iexact Ar6
  iintro ⟨HO, R6⟩
  iapply (take m c (home) rfl rfl) $$ [Ch HO Ha]
  · isplitr; · iexact HK
    isplitl [Ch]; · iexact Ch
    isplitl [HO]; · iexact HO
    iexact Ha
  iintro ⟨HO, Ph⟩
  rw [wp_ret]
  imodintro
  isplitr [HO]
  · isplitl [Ph]; · iexact Ph
    isplitl [P0 P1 P2 P3 P4 P5 P6]
    · isplitl [P0]; · iexact P0
      isplitl [P1]; · iexact P1
      isplitl [P2]; · iexact P2
      isplitl [P3]; · iexact P3
      isplitl [P4]; · iexact P4
      isplitl [P5]; · iexact P5
      iexact P6
    · isplitl [R0]; · iexact R0
      isplitl [R1]; · iexact R1
      isplitl [R2]; · iexact R2
      isplitl [R3]; · iexact R3
      isplitl [R4]; · iexact R4
      isplitl [R5]; · iexact R5
      iexact R6
  · iexact HO

end Cert.Swap

end
-- ==== Proof.SwapRun.lean ====
/-
# The exchange, run and read

The launch of the exchange, for any float values: every weakly fair run from any memory with every
counter at zero terminates, the argument is unchanged, every counter is at zero again, and place `j`
of device `c`'s result holds what device `j` had for `c`.
-/
module

public import proofs.«01_k».proof.Proof.Swap

@[expose] public section

set_option Elab.async false

noncomputable section

namespace Cert.Swap

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation pinD)
open Cert.ExchangeIdeal Cert.ExchangeIdeal.Gen Cert.Peers Cert.Slots

variable {F : FTy → Type} [FloatOps F]

local notation "𝕄" => MT nD τ sig Unit (Elt F) ℕ (Gh nD τ sig) ℕ

variable (m : (ℓ : Loc nD τ sig) → Buf (Elt F) ℓ) (ρ : Dev nD → PrngReg)

/-! ## Dealing the buffers -/

/-- A device's share of the buffers: its own copy's ends, and for each send the matrix and the place it goes to. -/
def bufs (c : Dev nD) : sProp 𝕄 :=
  iprop((xPts m c c ∗ oPts c c (m ((c : Thread nD τ).loc main_v1)))
    ∗ bigSep Finset.univ fun k : Fin 7 => iprop(xPts m c (tgt k c) ∗ oPts (tgt k c) c (m ((tgt k c : Thread nD τ).loc main_v1))))

theorem unscoped_eq (c : Dev nD) (V : (b : Ref sig .tc) → Buf (Elt F) ((c : Thread nD τ).loc b)) :
    (unscopedBufs c V : sProp 𝕄) = iprop(emp ∗ (((c : Thread nD τ).loc main_arg0) ↦{fullShare} V main_arg0) ∗ (((c : Thread nD τ).loc main_v1) ↦{fullShare} V main_v1)) := by
  refine (Pipeline.unscopedBufs_split cfgs (0 : Fin 1) (fun w => w.elim0) (fun w => w.elim0) c V).trans ?_
  rw [show (Pipeline.unscopedRest (cfgs 0).spec c V : sProp 𝕄) = _ from unscopedRest0_eq c V, show (Finset.univ : Finset (Fin (cfgs 0).W)) = ∅ from rfl, bigSep_empty]
  rfl

/-- The places, handed to the devices that fill them. -/
theorem places : (bigSep Finset.univ fun c : Dev nD => bigSep Finset.univ fun k : Fin 7 => (oPts c (tgt k c) (m ((c : Thread nD τ).loc main_v1)) : sProp 𝕄))
    = bigSep Finset.univ fun c : Dev nD => bigSep Finset.univ fun k : Fin 7 => oPts (tgt k c) c (m ((tgt k c : Thread nD τ).loc main_v1)) := by
  refine ((plan m).around fun c k => oPts c (tgt k c) (m ((c : Thread nD τ).loc main_v1))).trans (bigSep_congr fun c _ => bigSep_congr fun k _ => ?_)
  show oPts (tgt k c) (tgt k (tgt k c)) _ = _
  rw [tgt_tgt]
  rfl

theorem deal : (bigSep Finset.univ fun c : Dev nD => unscopedBufs c (fun b => m ((c : Thread nD τ).loc b)) : sProp 𝕄)
    ⊢ bigSep Finset.univ (bufs m) := by
  have h (c : Dev nD) : (unscopedBufs c (fun b => m ((c : Thread nD τ).loc b)) : sProp 𝕄)
      ⊢ iprop((xPts m c c ∗ oPts c c (m ((c : Thread nD τ).loc main_v1)))
        ∗ (bigSep Finset.univ fun k : Fin 7 => xPts m c (tgt k c)) ∗ bigSep Finset.univ fun k : Fin 7 => oPts c (tgt k c) (m ((c : Thread nD τ).loc main_v1))) := by
    rw [unscoped_eq, arg_split, res_split, devices_from c, devices_from c]
    iintro ⟨-, ⟨H1, H2⟩, H3, H4⟩
    isplitl [H1 H3]
    · isplitl [H1] <;> iassumption
    · isplitl [H2] <;> iassumption
  have e : (bigSep Finset.univ fun c : Dev nD => iprop((xPts m c c ∗ oPts c c (m ((c : Thread nD τ).loc main_v1)))
        ∗ (bigSep Finset.univ fun k : Fin 7 => xPts m c (tgt k c)) ∗ bigSep Finset.univ fun k : Fin 7 => oPts c (tgt k c) (m ((c : Thread nD τ).loc main_v1))) : sProp 𝕄)
      = bigSep Finset.univ (bufs m) := by
    unfold bufs
    simp only [bigSep_sep']
    rw [places]
  rw [← e]
  exact bigSep_mono fun c _ => h c

/-! ## The region -/

/-- What a device's region leaves: its argument, unchanged, and its result. -/
def done (c : Dev nD) : sProp 𝕄 :=
  iprop((((c : Thread nD τ).loc main_arg0) ↦{fullShare} m ((c : Thread nD τ).loc main_arg0)) ∗ (((c : Thread nD τ).loc main_v1) ↦{fullShare} result m c))

/-- No wait needs a level: every send comes before every wait. -/
abbrev L : GSem nD τ sig → Finset Unit := fun _ => ∅
abbrev lv : GSem nD τ sig → Unit → ℕ := fun _ _ => 0

def dats (_ : Fin 1) (c : Dev nD) : Dat τ (Elt F) Unit ℕ (Gh nD τ sig) ℕ cfg0 c where
  A w := w.elim0
  after w _ := w.elim0
  Φ t := match t with
    | ⟨0, _⟩ => (plan m).starts L lv (bufs m) c
    | ⟨_ + 1, _⟩ => iprop(done m c ∗ Pipeline.ownSems0 (plan m).osem c)
  q w := w.elim0
  owed t := match t with
    | ⟨0, _⟩ => (plan m).dues c
    | ⟨_ + 1, _⟩ => 0

theorem starts_body (c : Dev nD) : (plan m).starts L lv (bufs m) c
    ⊢ iprop(((plan m).allKnown) ∗ (bigSep Finset.univ fun k : Key => (plan m).at0 c k)
        ∗ (xPts m c c ∗ oPts c c (m ((c : Thread nD τ).loc main_v1)) ∗ (plan m).tok c home)
        ∗ (bigSep Finset.univ fun k : Fin 7 => go m c k)
        ∗ (bigSep Finset.univ fun k : Fin 7 => cred (tallyAt ((plan m).cell c (rcv k)) () (plan m).amt))) := by
  unfold Plan.starts bufs Plan.rights go
  simp only [bigSep_sep']
  iintro ⟨⟨HK, -⟩, Ha, ⟨Ht, Ht1, Ht2⟩, Hc, ⟨Hx, Ho⟩, Hxs, Hos⟩
  isplitl [HK]; · iexact HK
  isplitl [Ha]; · iexact Ha
  isplitl [Ht Hx Ho]
  · isplitl [Hx]; · iexact Hx
    isplitl [Ho]; · iexact Ho
    iexact Ht
  isplitr [Hc]
  · isplitl [Hxs]; · iexact Hxs
    isplitl [Hos]; · iexact Hos
    isplitl [Ht1]; · iexact Ht1
    iexact Ht2
  · iexact Hc

theorem body_done (c : Dev nD) :
    (bigSep Finset.univ fun k : Key => iprop(semVal ((plan m).cell c k) 0 ∗ (plan m).pay c k))
      ⊢ iprop(done m c ∗ Pipeline.ownSems0 (plan m).osem c) := by
  rw [bigSep_sep', Plan.split_keys (fun k => (plan m).pay c k)]
  unfold done
  rw [arg_split, res_split, devices_from c (fun j => xPts m c j), devices_from c (fun j => oPts c j (result m c))]
  iintro ⟨Hz, Hh, Hs, Hr⟩
  ihave Hh := (show (plan m).pay c home ⊢ iprop(oPts c c (result m c) ∗ xPts m c c) from .rfl) $$ Hh
  icases Hh with ⟨Ho, Hx⟩
  isplitr [Hz]
  · isplitl [Hx Hs]
    · isplitl [Hx]; · iexact Hx
      iexact Hs
    · isplitl [Ho]; · iexact Ho
      iexact Hr
  · iapply (show (bigSep Finset.univ fun k : Key => semVal ((plan m).cell c k) 0) ⊢ (Pipeline.ownSems0 (plan m).osem c : sProp 𝕄) from .rfl); iexact Hz

theorem body_obligation (c : Dev nD) : BodyObligation (dats m 0 c) (defs₀ (F := F)) 𝒱₀ () Set.univ := fun t => by
  rw [fin_N0 t]
  show iprop((plan m).starts L lv (bufs m) c ∗ (dats m 0 c).owesAt () (0 : Fin 2) ∗ _) ⊢ wp frame (wpE (defs₀ (F := F)) 𝒱₀ (c : Thread nD τ) none) Set.univ
    (cc0_exchange_grads (Memref.whole main_arg0) (Memref.isWhole_whole _) (Memref.whole main_v1) (Memref.isWhole_whole _) cc0_scratch0 cc0_scratch1 cc0_scratch2)
    (fun _ => iprop((done m c ∗ Pipeline.ownSems0 (plan m).osem c) ∗ (dats m 0 c).owesAt () (1 : Fin 2) ∗ _))
  refine (show _ ⊢ (_ : sProp 𝕄) from ?_).trans ((body m c).trans (wp_mono frame _ Set.univ fun _ => ?_))
  · iintro ⟨Hs, ⟨%W, -, HO⟩, -⟩
    ihave H := (starts_body m c) $$ Hs
    icases H with ⟨H1, H2, H3, H4, H5⟩
    isplitl [H1]; · iexact H1
    isplitl [H2]; · iexact H2
    isplitl [H3]; · iexact H3
    isplitl [H4]; · iexact H4
    isplitl [H5]; · iexact H5
    iexists W; iexact HO
  · iintro ⟨H, %W, HO⟩
    isplitl [H]
    · iapply (body_done m c); iexact H
    isplitl [HO]
    · iexists W
      isplitr; · ipureintro; exact fun _ _ => Or.inl trivial
      iexact HO
    · rw [Finset.univ_eq_empty, bigSep_empty]; iempintro

/-! ## The run -/

theorem ownSemFacts : Pipeline.OwnSemFacts cfg0.spec (plan (F := F) m).osem := by
  show Pipeline.OwnSemFacts cfg0.spec fun k => SemLoc.dma (semOf k)
  decide

/-- What a final memory shows of device `c`. -/
def QY (c : Dev nD) (s : MemSt nD τ sig (Elt F)) : Prop :=
  s.mem ((c : Thread nD τ).loc main_v1) = result m c ∧ s.mem ((c : Thread nD τ).loc main_arg0) = m ((c : Thread nD τ).loc main_arg0)

theorem read_done (c : Dev nD) (s' : Phys nD τ sig (Elt F)) : iprop(done m c ∗ SI s') ⊢ |={Set.univ}=> iprop(⌜QY m c s'.mem⌝ ∗ (SI s' : sProp 𝕄)) := by
  unfold done
  iintro ⟨⟨Ha, Hr⟩, HS⟩
  ihave H := (pointsTo_read_all (Finset.univ : Finset Unit) (fun _ => (c : Thread nD τ).loc main_arg0) (fun _ => m ((c : Thread nD τ).loc main_arg0)) s') $$ [Ha HS]
  · isplitl [Ha]
    · iapply (Entails.of_eq (BI.bigSep_singleton (Φ := fun _ : Unit => (((c : Thread nD τ).loc main_arg0) ↦{fullShare} m ((c : Thread nD τ).loc main_arg0) : sProp 𝕄)) (i := ())).symm); iexact Ha
    · iexact HS
  icases H with ⟨%h1, HS⟩
  ihave H := (pointsTo_read_all (Finset.univ : Finset Unit) (fun _ => (c : Thread nD τ).loc main_v1) (fun _ => result m c) s') $$ [Hr HS]
  · isplitl [Hr]
    · iapply (Entails.of_eq (BI.bigSep_singleton (Φ := fun _ : Unit => (((c : Thread nD τ).loc main_v1) ↦{fullShare} result m c : sProp 𝕄)) (i := ())).symm); iexact Hr
    · iexact HS
  icases H with ⟨%h2, HS⟩
  imodintro
  isplitr
  · ipureintro; exact ⟨h2 () (Finset.mem_univ _), h1 () (Finset.mem_univ _)⟩
  · iexact HS

set_option maxRecDepth 8000 in
/-- The run, read. -/
theorem run_main : θ_run defs (onTc (τ := τ) (main (F := F))) ⟨m, fun _ => 0, ρ⟩
    (fun r => (∀ c : Dev nD, QY m c r.2) ∧ r.2.sem = fun _ => 0) :=
  Joint.run_joint (fun p => (cfgs p).toPCfg) (fun _ p => (cfgs p).toPCfg_adm) cellOf_inj EP defs₀ 𝒱₀ m ρ main L lv (fun _ _ => rfl)
    (plan m).dues (plan m).G
    (Rounds.initOf (Pipeline.cells cfgs cellOf_inj) (Pipeline.launchToks cfgs cellOf_inj), Rounds.initOf (plan m).cells (plan m).toks)
    (by
      iintro Hu
      ihave H := (ownU_pair _ _) $$ Hu
      icases H with ⟨HP, HX⟩
      imod ((plan m).fund) $$ HX with HG
      imodintro
      isplitl [HP] <;> iassumption)
    ((plan m).before (fun p => (cfgs p).toPCfg) (fun _ p => (cfgs p).toPCfg_adm) cellOf_inj (r := (0 : Fin 1)) (ownSemFacts m) L lv (bufs m))
    (done m)
    ((plan m).regroup (fun p => (cfgs p).toPCfg) (fun _ p => (cfgs p).toPCfg_adm) cellOf_inj (r := (0 : Fin 1)) (ownSemFacts m) winFacts0.to₀ m ρ L lv (bufs m) (deal m))
    (fun c => by
      have h := (plan m).wp_region (fun p => (cfgs p).toPCfg) (fun _ p => (cfgs p).toPCfg_adm) cellOf_inj defs₀ 𝒱₀ (r := (0 : Fin 1)) (ownSemFacts m) winFacts0.to₀
        stage_whole0 (dats m) (inferInstanceAs (IsEmpty (Fin 0))) (inferInstanceAs (IsEmpty (Fin 0))) L lv (bufs m) (done m) c (body_obligation m c).loose rfl rfl
        (sep_elim_left) (by
          show iprop(done m c ∗ Pipeline.ownSems0 (plan m).osem c) ⊢ _
          rw [show (Pipeline.scopedRest _ c : sProp 𝕄) = _ from scopedRest0_eq c]
          iintro ⟨H1, H2⟩
          isplitl [H1]; · iexact H1
          isplitl [H2]; · iexact H2
          iempintro)
        (α := PUnit) (fun _ => .ret PUnit.unit) (fun _ => iprop((done m c ∗ boundary (c : Thread nD τ)) ∗ ∃ W, owes (c : Thread nD τ) (0 : CellTallies nD τ sig Unit) W))
      refine (show _ ⊢ (_ : sProp 𝕄) from ?_).trans h
      iintro H
      isplitl [H]; · iexact H
      iintro ⟨Hb, Hd, HO, -⟩
      rw [wp_ret]
      imodintro
      isplitr [HO]
      · isplitl [Hd] <;> iassumption
      · iexact HO)
    (QY m) (read_done m) (fun s h hs => show _ ∧ _ from ⟨h, sem_eq_zero_of_scoped (by decide) hs⟩)

end Cert.Swap

end
-- ==== Proof.SwapValue.lean ====
/-
  The exchange against a plain reshape.

  The whole batch-cut array has 64 slabs; device `j` holds slabs `8 j … 8 j + 7`.  The reference lays the 64 slabs out as
  8 rows of 8 slabs each.  Column block `c` of that layout is, in row `j`, slab `8 j + c`: slab `c` of device `j`, which
  is what the exchange leaves in place `j` of device `c`.
-/
module

public import proofs.«01_k».proof.Proof.SwapRun
public import proofs.«01_k».proof.Proof.Gen.ExchangeRefIdeal
public import proofs.«01_k».proof.Proof.Gen.ExchangeRefIdeal.Run
public import proofs.«01_k».proof.Proof.Gen.ExchangeRef
public import proofs.«01_k».proof.Proof.Gen.ExchangeRef.Run
public import proofs.«01_k».proof.Proof.Gen.Exchange
public import proofs.«01_k».proof.Defs
public import Idealize.ShloMosaic.Lib.Layout
public import Idealize.ShloMosaic.Lib.Pipeline.Value

@[expose] public section

set_option Elab.async false

noncomputable section

namespace Cert.Swap

open Cert.ExchangeIdeal Cert.ExchangeIdeal.Gen
open Idealize.ShloMosaic
open Idealize.ShloMosaic.TcCoe
open Idealize.SL.Sem

/-- Slab `c` of block `j` of the 64 slabs is what row `j` of the reshaped array has in its column block `c`. -/
theorem slab_column {α : Type} (X : (⟨3, ![64, 52736, 128]⟩ : Shape).Idx → α)
    (h : (⟨3, ![64, 52736, 128]⟩ : Shape).ShapeCasts ⟨3, ![8, 421888, 128]⟩)
    (hi : Layout.Tiles ⟨3, ![8, 52736, 128]⟩ ⟨3, ![64, 52736, 128]⟩ 0 8) (ho : Layout.Tiles ⟨3, ![8, 52736, 128]⟩ ⟨3, ![8, 421888, 128]⟩ 1 8)
    (c : Fin 8) (i : (⟨3, ![8, 52736, 128]⟩ : Shape).Idx) :
    Layout.block ⟨3, ![8, 52736, 128]⟩ ⟨3, ![64, 52736, 128]⟩ 0 8 (i (0 : Fin 3)) X hi
        (Slots.inSlot (n := 8) (r := 52736) (l := 128) c fun a => i a.succ)
      = Layout.block ⟨3, ![8, 52736, 128]⟩ ⟨3, ![8, 421888, 128]⟩ 1 8 c (shapeCast ⟨3, ![8, 421888, 128]⟩ X h) ho i := by
  refine (shapeCast_apply X h _ _ ?_).symm
  rw [Shape.rowMajor_val_three, Shape.rowMajor_val_three]
  simp only [Layout.Tiles.idx_val]
  show (((i (0 : Fin 3)).val * 8 + c.val) * 52736 + (i (1 : Fin 3)).val) * 128 + (i (2 : Fin 3)).val
    = ((i (0 : Fin 3)).val * 421888 + (c.val * 52736 + (i (1 : Fin 3)).val)) * 128 + (i (2 : Fin 3)).val
  omega

variable {F : FTy → Type} [FloatOps F]

/-- The exchange and the reshape, over any float values. -/
theorem meets (m : (ℓ : Loc nD τ sig) → Buf (Elt F) ℓ) (ρ : Dev nD → PrngReg)
    (X : (⟨3, ![64, 52736, 128]⟩ : Shape).Idx → Elt F .bf16) (h : (⟨3, ![64, 52736, 128]⟩ : Shape).ShapeCasts ⟨3, ![8, 421888, 128]⟩)
    (hX : ∀ c : Dev nD, m ((c : Thread nD τ).loc main_arg0) = Layout.block ⟨3, ![8, 52736, 128]⟩ ⟨3, ![64, 52736, 128]⟩ 0 8 c X) :
    θ_run (defs (F := F)) (onTc (τ := τ) (main (F := F))) ⟨m, fun _ => 0, ρ⟩ fun r => ∀ c : Dev nD,
      r.2.mem ((c : Thread nD τ).loc main_v1) = Layout.block ⟨3, ![8, 52736, 128]⟩ ⟨3, ![8, 421888, 128]⟩ 1 8 c (shapeCast ⟨3, ![8, 421888, 128]⟩ X h)
      ∧ r.2.mem ((c : Thread nD τ).loc main_arg0) = m ((c : Thread nD τ).loc main_arg0) := by
  refine (θ_run defs _ _).mono (fun r hr c => ⟨((hr.1 c).1).trans (funext fun i => ?_), (hr.1 c).2⟩) (run_main (F := F) m ρ)
  exact (congrFun (hX (show Dev nD from i (0 : Fin 3))) _).trans (slab_column X h _ _ c i)

/-! ## The claims -/

theorem frame_exchange : Cert.quiescent_Exchange := fun m ρ _ =>
  (θ_run Cert.ExchangeIdeal.defs _ _).mono (fun _ h => ⟨fun c => (h.1 c).2, h.2⟩) (run_main (F := Bits) m ρ)

theorem frame_exchangeIdeal : Cert.quiescent_ExchangeIdeal := fun m ρ _ =>
  (θ_run Cert.ExchangeIdeal.defs _ _).mono (fun _ h => ⟨fun c => (h.1 c).2, h.2⟩) (run_main (F := Ideal) m ρ)

theorem frame_exchangeRef : Cert.quiescent_ExchangeRef := fun m ρ _ =>
  (θ_run Cert.ExchangeRef.defs _ _).mono (fun r h => ⟨fun c => (h c).2, sem_eq_zero_of_no_sems (by decide) r.2⟩)
    (Cert.ExchangeRef.Value.run (F := Bits) m ρ)

theorem frame_exchangeRefIdeal : Cert.quiescent_ExchangeRefIdeal := fun m ρ _ =>
  (θ_run Cert.ExchangeRefIdeal.defs _ _).mono (fun r h => ⟨fun c => (h c).2, sem_eq_zero_of_no_sems (by decide) r.2⟩)
    (Cert.ExchangeRefIdeal.Value.run (F := Ideal) m ρ)

theorem exchange_algebraic : Cert.algebraic_ExchangeIdeal_ExchangeRefIdeal := fun m ρ m' ρ' _ hX =>
  ⟨_, meets (F := Ideal) m ρ _ Cert.ExchangeRefIdeal.Gen.shapeCasts_S64x52736x128_S8x421888x128 hX,
    (θ_run Cert.ExchangeRefIdeal.defs _ _).mono (fun _ h => h 0) (Cert.ExchangeRefIdeal.Value.run (F := Ideal) m' ρ')⟩

theorem exchange_bitexact : Cert.bitexact_Exchange_ExchangeRef := fun m ρ m' ρ' _ hX =>
  ⟨_, meets (F := Bits) m ρ _ Cert.ExchangeRef.Gen.shapeCasts_S64x52736x128_S8x421888x128 hX,
    (θ_run Cert.ExchangeRef.defs _ _).mono (fun _ h => h 0) (Cert.ExchangeRef.Value.run (F := Bits) m' ρ')⟩

end Cert.Swap

end
-- ==== Proof.Spread.lean ====
/-
# The gathering of the weights

Every device holds one matrix, and in the end every device holds all eight, device `j`'s in place `j`. Device `c` copies
its own matrix into its own place `c`, sends it to its sibling on the same chip and to the three devices with its core
number on the other chips. What those three sent it, it passes on to its sibling as it comes in. So the `k`-th send of `c`
goes to device `tgt k c` and carries the matrix of device `blk k c`.

The body is run once, at a device `c` and for any float values.
-/
module

public import proofs.«01_k».proof.Proof.Deal
public import proofs.«01_k».proof.Proof.Slots
public import proofs.«01_k».proof.Proof.Gen.GatherIdeal
public import proofs.«01_k».proof.Proof.Gen.GatherIdeal.Launch
public import proofs.«01_k».proof.Proof.Gen.GatherIdeal.Skeleton
public import Idealize.ShloMosaic.Lib.Transfers

@[expose] public section

set_option Elab.async false

noncomputable section

namespace Cert.Spread

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.GatherIdeal Cert.GatherIdeal.Gen Cert.Peers Cert.Slots

variable {F : FTy → Type} [FloatOps F]

local notation "𝕄" => MT nD τ sig Unit (Elt F) ℕ (Gh nD τ sig) ℕ

/-! ## Who sends what to whom -/

/-- The device as many places away on the mesh's axes as `b`'s digits say. -/
def away (b : ℕ) (c : Dev nD) : Dev nD := ⟨(c.val ^^^ b) % 8, Nat.mod_lt _ (by decide)⟩

/-- Whom the `k`-th send goes to: the sibling, the same core of the three other chips, the sibling three times. -/
def tgt (k : Fin 7) (c : Dev nD) : Dev nD := away (match k with | 0 => 1 | 1 => 4 | 2 => 2 | 3 => 6 | _ => 1) c
/-- Whose matrix it carries: the device's own four times, then those of the three other chips. -/
def blk (k : Fin 7) (c : Dev nD) : Dev nD := away (match k with | 4 => 4 | 5 => 2 | 6 => 6 | _ => 0) c
/-- Whose matrix the `k`-th receipt brings. -/
def got (k : Fin 7) (c : Dev nD) : Dev nD := away (match k with | 0 => 1 | 1 => 4 | 2 => 2 | 3 => 6 | 4 => 5 | 5 => 3 | 6 => 7) c

theorem tgt_tgt (k : Fin 7) (c : Dev nD) : tgt k (tgt k c) = c := by revert k c; decide
theorem got_tgt (k : Fin 7) (c : Dev nD) : got k (tgt k c) = blk k c := by revert k c; decide

theorem got_inj (c : Dev nD) : Function.Injective fun k => got k c := fun a b h => by revert c a b; decide
theorem erase_self (c : Dev nD) : (Finset.univ : Finset (Dev nD)).erase c = Finset.univ.map ⟨fun k => got k c, got_inj c⟩ := by
  rw [Finset.map_eq_image]; revert c; decide

/-- A family over the devices: `c`'s own, and those of the devices whose matrices it receives. -/
theorem devices_from (c : Dev nD) (Φ : Dev nD → sProp 𝕄) :
    bigSep Finset.univ Φ = iprop(Φ c ∗ bigSep Finset.univ fun k => Φ (got k c)) := by
  rw [bigSep_erase (Finset.mem_univ c), erase_self c, bigSep_map]
  rfl

/-- The kernel's computed devices and offsets. -/
theorem dev1 (c : Dev nD) : (⟨k0_dev1 c, k0_dev1_lt c⟩ : Dev nD) = tgt 0 c := by revert c; decide
theorem dev2 (c : Dev nD) : (⟨k0_dev2 c, k0_dev2_lt c⟩ : Dev nD) = tgt 1 c := by revert c; decide
theorem dev3 (c : Dev nD) : (⟨k0_dev3 c, k0_dev3_lt c⟩ : Dev nD) = tgt 2 c := by revert c; decide
theorem dev4 (c : Dev nD) : (⟨k0_dev4 c, k0_dev4_lt c⟩ : Dev nD) = tgt 3 c := by revert c; decide
theorem dev5 (c : Dev nD) : (⟨k0_dev5 c, k0_dev5_lt c⟩ : Dev nD) = tgt 4 c := by revert c; decide
theorem dev6 (c : Dev nD) : (⟨k0_dev6 c, k0_dev6_lt c⟩ : Dev nD) = tgt 5 c := by revert c; decide
theorem dev7 (c : Dev nD) : (⟨k0_dev7 c, k0_dev7_lt c⟩ : Dev nD) = tgt 6 c := by revert c; decide
theorem off1 (c : Dev nD) : k0_off1 c = ![c.val, 0, 0] := by revert c; decide
theorem self_0 (c : Dev nD) : blk 0 c = c := by revert c; decide
theorem self_1 (c : Dev nD) : blk 1 c = c := by revert c; decide
theorem self_2 (c : Dev nD) : blk 2 c = c := by revert c; decide
theorem self_3 (c : Dev nD) : blk 3 c = c := by revert c; decide
theorem own0 (c : Dev nD) : k0_off1 c = ![(blk 0 c).val, 0, 0] := by revert c; decide
theorem own1 (c : Dev nD) : k0_off1 c = ![(blk 1 c).val, 0, 0] := by revert c; decide
theorem own2 (c : Dev nD) : k0_off1 c = ![(blk 2 c).val, 0, 0] := by revert c; decide
theorem own3 (c : Dev nD) : k0_off1 c = ![(blk 3 c).val, 0, 0] := by revert c; decide
theorem off2 (c : Dev nD) : k0_off2 c = ![(blk 4 c).val, 0, 0] := by revert c; decide
theorem off3 (c : Dev nD) : k0_off3 c = ![(blk 5 c).val, 0, 0] := by revert c; decide
theorem off4 (c : Dev nD) : k0_off4 c = ![(blk 6 c).val, 0, 0] := by revert c; decide

/-! ## The matrices -/

abbrev xM : Memref sig .tc .hbm S52736x128 .bf16 := Memref.whole main_arg0
abbrev oM : Memref sig .tc .hbm S8x52736x128 .bf16 := Memref.whole main_v1
/-- Place `j` of the result. -/
abbrev os (j : Dev nD) : Memref sig .tc .hbm S52736x128 .bf16 := slot (n := 8) oM squeezes_S1x52736x128_S52736x128 j

variable (m : (ℓ : Loc nD τ sig) → Buf (Elt F) ℓ)

/-- What every device ends with: in place `j`, what device `j` had. -/
def result (c : Dev nD) : Buf (Elt F) ((c : Thread nD τ).loc main_v1) := fun i =>
  let j : Dev nD := i (0 : Fin 3)
  m ((j : Thread nD τ).loc main_arg0) fun a => i a.succ

/-- A part `q` of the right to read device `d`'s argument, -/
def xPts (d : Dev nD) (q : PosShare TreeShare) : sProp 𝕄 := xM.view.loc (d : Thread nD τ) ↦[xM.view.set]{q} m ((d : Thread nD τ).loc main_arg0)
/-- and place `j` of device `d`'s result, holding `f`. -/
def oPts (d j : Dev nD) (f : Buf (Elt F) ((d : Thread nD τ).loc main_v1)) : sProp 𝕄 := (os j).view.loc (d : Thread nD τ) ↦[(os j).view.set]{fullShare} f

instance xPts_storable (d : Dev nD) (q) : BI.Storable (upEmb : UEmb _ 𝕄) (xPts (F := F) m d q) := by unfold xPts; infer_instance
instance oPts_storable (d j : Dev nD) (f) : BI.Storable (upEmb : UEmb _ 𝕄) (oPts (F := F) d j f) := by unfold oPts; infer_instance

/-- The parts the argument is read under: one for the copy, one for each of the four sends that read it. -/
abbrev qKeep : PosShare TreeShare := Transfers.shareDrop fullShare 4
abbrev qSend (k : Fin 4) : PosShare TreeShare := Transfers.shareTok fullShare 4 k

theorem arg_split (d : Dev nD) : (((d : Thread nD τ).loc main_arg0) ↦{fullShare} m ((d : Thread nD τ).loc main_arg0) : sProp 𝕄)
    = iprop(xPts m d qKeep ∗ xPts m d (qSend 0) ∗ xPts m d (qSend 1) ∗ xPts m d (qSend 2) ∗ xPts m d (qSend 3)) := by
  refine (BI.Entails.antisymm (Transfers.pointsTo_toks fullShare 4).1 (Transfers.pointsTo_toks fullShare 4).2).trans ?_
  rw [bigSep_univ_eq_bigSepL [0, 1, 2, 3] (by decide) (by decide)]
  unfold xPts
  simp only [View.set_whole]
  rfl
theorem res_split (d : Dev nD) (f : Buf (Elt F) ((d : Thread nD τ).loc main_v1)) : (((d : Thread nD τ).loc main_v1) ↦{fullShare} f : sProp 𝕄)
    = bigSep Finset.univ fun j => oPts d j f := by
  have h := held_slots (Ix := Unit) (Val := Elt F) (Name := ℕ) (U := Gh nD τ sig) (Lvl := ℕ) (n := 8) (d : Thread nD τ) oM squeezes_S1x52736x128_S52736x128 fullShare f
  rw [View.set_whole] at h
  exact h

/-- What device `b`'s argument holds, written into place `b` of device `d`. -/
theorem landed (b d : Dev nD) (fd : Buf (Elt F) ((os b).view.loc (d : Thread nD τ))) (w : (⟨2, ![52736, 128]⟩ : Shape).Idx → Elt F .bf16)
    (h : w = m ((b : Thread nD τ).loc main_arg0)) :
    ((os b).view.loc (d : Thread nD τ) ↦[(os b).view.set]{fullShare} ((os b).view.write (Elt F) fd w Finset.univ) : sProp 𝕄)
      = oPts d b (result m d) := by
  subst h
  exact slot_written (n := 8) (d : Thread nD τ) oM squeezes_S1x52736x128_S52736x128 b fullShare fd (result m d) _ fun i => rfl

/-- The argument read, -/
theorem read_own (c : Dev nD) : xM.view.read (Elt F) (m ((c : Thread nD τ).loc main_arg0)) = m ((c : Thread nD τ).loc main_arg0) := rfl
/-- and a place already filled. -/
theorem read_got (c b : Dev nD) : (os b).view.read (Elt F) (result m c) = m ((b : Thread nD τ).loc main_arg0) :=
  funext fun i => (slot_read (n := 8) oM squeezes_S1x52736x128_S52736x128 b (result m c) i).trans rfl

/-! ## The plan -/

/-- The semaphores: the sends', the receipts', the copy's. -/
def semOf : Key → DmaSem sig
  | .inr (.inl k) => ⟨k.val, by have := k.isLt; show k.val < 15; omega⟩
  | .inr (.inr k) => ⟨7 + k.val, by have := k.isLt; show 7 + k.val < 15; omega⟩
  | .inl _ => ⟨14, by decide⟩

theorem semOf_inj : Function.Injective semOf := fun a b h => by revert a b; decide

/-- What the `k`-th send reads. -/
def lent (c : Dev nD) : Fin 7 → sProp 𝕄
  | 0 => xPts m c (qSend 0)
  | 1 => xPts m c (qSend 1)
  | 2 => xPts m c (qSend 2)
  | 3 => xPts m c (qSend 3)
  | 4 => oPts c (blk 4 c) (result m c)
  | 5 => oPts c (blk 5 c) (result m c)
  | 6 => oPts c (blk 6 c) (result m c)

theorem lent_pass_4 (c : Dev nD) : ((os (blk 4 c)).view.loc (c : Thread nD τ) ↦[(os (blk 4 c)).view.set]{fullShare} result m c : sProp 𝕄) = lent m c 4 := rfl
theorem lent_pass_5 (c : Dev nD) : ((os (blk 5 c)).view.loc (c : Thread nD τ) ↦[(os (blk 5 c)).view.set]{fullShare} result m c : sProp 𝕄) = lent m c 5 := rfl
theorem lent_pass_6 (c : Dev nD) : ((os (blk 6 c)).view.loc (c : Thread nD τ) ↦[(os (blk 6 c)).view.set]{fullShare} result m c : sProp 𝕄) = lent m c 6 := rfl

instance lent_storable (c : Dev nD) : (k : Fin 7) → BI.Storable (upEmb : UEmb _ 𝕄) (lent (F := F) m c k)
  | 0 => xPts_storable m c _
  | 1 => xPts_storable m c _
  | 2 => xPts_storable m c _
  | 3 => xPts_storable m c _
  | 4 => oPts_storable c _ _
  | 5 => oPts_storable c _ _
  | 6 => oPts_storable c _ _

/-- What each transfer hands to the device that waits for it: the copy, both its ends; a send, what it read; a
    receipt, the place filled. -/
def pay (c : Dev nD) : Key → sProp 𝕄
  | .inl _ => iprop(oPts c c (result m c) ∗ xPts m c qKeep)
  | .inr (.inl k) => lent m c k
  | .inr (.inr k) => oPts c (got k c) (result m c)

instance pay_storable (c : Dev nD) : (k : Key) → BI.Storable (upEmb : UEmb _ 𝕄) (pay (F := F) m c k)
  | .inl _ => by unfold pay; infer_instance
  | .inr (.inl k) => by unfold pay; infer_instance
  | .inr (.inr k) => by unfold pay; infer_instance

def plan : Plan nD τ sig (Elt F) where
  sem := semOf
  inj := semOf_inj
  tgt := tgt
  invol := tgt_tgt
  amt := (os 0).view.dmaCredit
  amt_pos := View.dmaCredit_pos _ (by decide)
  pay := pay m
  storable := pay_storable m

/-! ## The order of the waits

  A device waits for what it passes on while it still owes that to its sibling, so the three receipts that carry passed-on
  matrices come after all others. -/

abbrev L : GSem nD τ sig → Finset Unit := fun g => if g.1.2 = .tc then {()} else ∅
abbrev lv : GSem nD τ sig → Unit → ℕ := fun g _ => match g.2 with
  | .dma s => if 11 ≤ s.val ∧ s.val < 14 then 1 else 0
  | _ => 0

theorem may (c : Dev nD) (key : Key) (hk : ¬ (11 ≤ (semOf key).val ∧ (semOf key).val < 14)) (s : Finset (Fin 7)) (hs : ∀ j ∈ s, 4 ≤ j.val) :
    (levAts L lv : sProp 𝕄) ⊢ MayWait (c : Thread nD τ) (.dma (semOf key)) () (∑ j ∈ s, (plan m).due c j) := by
  refine Pipeline.mayWait_of_levAts (Finset.mem_singleton_self ()) fun g i hg => ?_
  obtain ⟨j, hj, hp⟩ := Pipeline.sum_pos_exists hg
  have hgj : g = (plan m).cell (tgt j c) (rcv j) := by
    by_contra hne
    unfold Plan.due at hp
    rw [tallyAt_ne_cell (show g ≠ (plan m).cell ((plan m).tgt j c) (rcv j) from hne)] at hp
    exact absurd hp (lt_irrefl 0)
  subst hgj
  refine ⟨Finset.mem_singleton_self (), ?_⟩
  show (if 11 ≤ (semOf key).val ∧ (semOf key).val < 14 then 1 else 0) < (if 11 ≤ 7 + j.val ∧ 7 + j.val < 14 then 1 else 0)
  have h4 := hs j hj
  have h7 := j.isLt
  rw [if_neg hk, if_pos ⟨by omega, by omega⟩]
  exact Nat.zero_lt_one

/-! ## The steps of the body -/

abbrev 𝒱₀ : Variants := Variants.none

/-- What a device needs for its `k`-th send, beside what it reads. -/
def go (c : Dev nD) (k : Fin 7) : sProp 𝕄 :=
  iprop(oPts (tgt k c) (blk k c) (m ((tgt k c : Thread nD τ).loc main_v1)) ∗ (plan m).tok c (snd k) ∗ (plan m).tok (tgt k c) (rcv k))

section Steps

variable {α : Type} {Q : α → sProp (MT nD τ sig Unit (Elt F) ℕ (Gh nD τ sig) ℕ)} {W : Waits sig Unit} {O₀ O : CellTallies nD τ sig Unit}

theorem send (c : Dev nD) (k : Fin 7) {n : Dev nD} (hn : n = tgt k c) {S R : DmaSem sig} (hS : S = semOf (snd k)) (hR : R = semOf (rcv k))
    {src src' dst : Memref sig .tc .hbm S52736x128 .bf16} (hs : src = src') (hd : dst = os (blk k c))
    {q : PosShare TreeShare} {fs : Buf (Elt F) (src'.view.loc (c : Thread nD τ))}
    (hl : (src'.view.loc (c : Thread nD τ) ↦[src'.view.set]{q} fs : sProp 𝕄) = lent m c k)
    (hw : src'.view.read (Elt F) fs = m ((blk k c : Thread nD τ).loc main_arg0))
    {hsc : (dst : Memref sig (Dev.tc n : Thread nD τ).2.kind .hbm S52736x128 .bf16).view.ref.isScScratch = false}
    {hsrc : src.view.WordExact} {hdst : dst.view.WordExact}
    {hsem : DmaTarget.Typed .hbm (.dma R) (.remote (Dev.tc n : Thread nD τ) (dst : Memref sig .tc .hbm S52736x128 .bf16) (.dma S) hsc)}
    {cont : PUnit → Prog (TpuEff nD τ sig (Elt F) Λ₀ .tc) α} (hO : O₀ = O + (plan m).due c k) :
    iprop((plan m).allKnown ∗ lent m c k ∗ go m c k ∗ (∃ W, owes (c : Thread nD τ) O₀ W))
      ⊢ iprop(((cred (tallyAt ((plan m).cell c (snd k)) () (plan m).amt) ∗ (∃ W, owes (c : Thread nD τ) O W))
            -∗ wp frame (wpE (defs₀ (F := F)) 𝒱₀ (c : Thread nD τ) none) Set.univ (cont ⟨⟩) Q)
          -∗ wp frame (wpE (defs₀ (F := F)) 𝒱₀ (c : Thread nD τ) none) Set.univ
            (.op (.enqueueDma src (.remote (Dev.tc n : Thread nD τ) dst (.dma S) hsc) (.dma R) hsrc hdst hsem) cont) Q) := by
  subst hs hd
  unfold go oPts
  iintro ⟨#HK, Hx, ⟨Ho, Ht1, Ht2⟩, ⟨%W, HO⟩⟩ Hk
  iapply ((plan m).wp_give 𝒱₀ c k hn hS hR (q := q) (fs := fs) (fd := m ((tgt k c : Thread nD τ).loc main_v1)) rfl
    (show _ ⊢ lent m c k from Entails.of_eq hl) (show _ ⊢ oPts (tgt k c) (got k (tgt k c)) (result m (tgt k c)) from by
      rw [got_tgt]; exact Entails.of_eq (landed m (blk k c) (tgt k c) _ _ hw)) O hO (W := W)) $$ [Hx Ho HO Ht1 Ht2]
  · isplitr; · iexact HK
    isplitl [Hx]; · iapply (Entails.of_eq hl.symm); iexact Hx
    isplitl [Ho]; · iexact Ho
    isplitl [HO]; · iexact HO
    isplitl [Ht1]; · iexact Ht1
    iexact Ht2
  iintro ⟨Hc, HO⟩
  iapply Hk
  isplitl [Hc]; · iexact Hc
  iexists W; iexact HO

theorem keep (c : Dev nD) {S : DmaSem sig} (hS : S = semOf home)
    {dst : Memref sig .tc .hbm S52736x128 .bf16} (hd : dst = os c)
    {hsrc : xM.view.WordExact} {hdst : dst.view.WordExact}
    {hsem : DmaTarget.Typed (nD := nD) (τ := τ) (p := Proc.tc) .hbm (.dma S) (.here dst)}
    {cont : PUnit → Prog (TpuEff nD τ sig (Elt F) Λ₀ .tc) α} :
    iprop((plan m).allKnown ∗ xPts m c qKeep ∗ oPts c c (m ((c : Thread nD τ).loc main_v1)) ∗ (plan m).tok c home)
      ⊢ iprop((cred (tallyAt ((plan m).cell c home) () (plan m).amt)
            -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma xM (.here dst) (.dma S) hsrc hdst hsem) cont) Q) := by
  subst hd
  unfold xPts oPts
  iintro ⟨#HK, Hx, Ho, Ht⟩
  iapply ((plan m).wp_keep 𝒱₀ c hS (fd := m ((c : Thread nD τ).loc main_v1)) rfl (show _ ⊢ pay m c home from by
    unfold pay; exact sep_mono (Entails.of_eq (landed m c c _ _ (read_own m c))) (by unfold xPts; exact .rfl)))
  isplitr; · iexact HK
  isplitl [Hx]; · iexact Hx
  isplitl [Ho] <;> iassumption

theorem take (c : Dev nD) (key : Key) {S : DmaSem sig} (hS : S = semOf key)
    {src dst : Memref sig .tc .hbm S52736x128 .bf16} (hd : dst.view.dmaCredit = (plan m).amt)
    {h1 : src.view.WordExact} {h2 : dst.view.WordExact}
    {cont : PUnit → Prog (TpuEff nD τ sig (Elt F) Λ₀ .tc) α}
    (hM : (levAts L lv : sProp 𝕄) ⊢ MayWait (c : Thread nD τ) (.dma (semOf key)) () O) :
    iprop(((plan m).allKnown ∗ levAts L lv) ∗ cred (tallyAt ((plan m).cell c key) () (plan m).amt) ∗ (∃ W, owes (c : Thread nD τ) O W) ∗ (plan m).at0 c key)
      ⊢ iprop((((∃ W, owes (c : Thread nD τ) O W) ∗ semVal ((plan m).cell c key) 0 ∗ pay m c key)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 S src dst h1 h2) cont) Q) := by
  subst hS
  iintro ⟨⟨#HK, HL⟩, Hc, ⟨%W, HO⟩, Ha⟩ Hk
  iapply ((plan m).wp_take 𝒱₀ c key (fun K => by rw [← hd]; rfl)) $$ [HL Hc HO Ha]
  · isplitr; · iexact HK
    isplitl [Hc]; · iexact Hc
    isplitl [HO]; · iexact HO
    isplitl [HL]; · iapply hM; iexact HL
    iexact Ha
  iintro ⟨HO, Hz, Hp⟩
  iapply Hk
  isplitl [HO]
  · iexists _; iexact HO
  isplitl [Hz]; · iexact Hz
  iapply (show (plan m).pay c key ⊢ pay m c key from .rfl); iexact Hp

end Steps

/-! ## The body -/

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What the device still owes while it waits for the matrices it passes on. -/
theorem may_three (c : Dev nD) : (levAts L lv : sProp 𝕄) ⊢ MayWait (c : Thread nD τ) (.dma (semOf (rcv 1))) () (((0 + (plan m).due c 6) + (plan m).due c 5) + (plan m).due c 4) := by
  have h := may m c (rcv 1) (by decide) {6, 5, 4} (by decide)
  rwa [show (∑ j ∈ {6, 5, 4}, (plan m).due c j) = ((0 + (plan m).due c 6) + (plan m).due c 5) + (plan m).due c 4 from by
    rw [Finset.sum_insert (by decide), Finset.sum_insert (by decide), Finset.sum_singleton, zero_add]; ac_rfl] at h
theorem may_two (c : Dev nD) : (levAts L lv : sProp 𝕄) ⊢ MayWait (c : Thread nD τ) (.dma (semOf (rcv 2))) () ((0 + (plan m).due c 6) + (plan m).due c 5) := by
  have h := may m c (rcv 2) (by decide) {6, 5} (by decide)
  rwa [show (∑ j ∈ {6, 5}, (plan m).due c j) = (0 + (plan m).due c 6) + (plan m).due c 5 from by
    rw [Finset.sum_insert (by decide), Finset.sum_singleton, zero_add]] at h
theorem may_one (c : Dev nD) : (levAts L lv : sProp 𝕄) ⊢ MayWait (c : Thread nD τ) (.dma (semOf (rcv 3))) () (0 + (plan m).due c 6) := by
  have h := may m c (rcv 3) (by decide) {6} (by decide)
  rwa [show (∑ j ∈ {6}, (plan m).due c j) = 0 + (plan m).due c 6 from by
    rw [Finset.sum_singleton, zero_add]] at h
theorem may_none (c : Dev nD) (key : Key) : (levAts L lv : sProp 𝕄) ⊢ MayWait (c : Thread nD τ) (.dma (semOf key)) () (0 : CellTallies nD τ sig Unit) := by
  rw [MayWait_zero]
  iintro -
  iempintro

set_option maxRecDepth 8000 in
theorem body (c : Dev nD) :
    iprop(((plan m).allKnown ∗ levAts L lv) ∗ (bigSep Finset.univ fun k : Key => (plan m).at0 c k)
        ∗ (xPts m c qKeep ∗ oPts c c (m ((c : Thread nD τ).loc main_v1)) ∗ (plan m).tok c home)
        ∗ (xPts m c (qSend 0) ∗ xPts m c (qSend 1) ∗ xPts m c (qSend 2) ∗ xPts m c (qSend 3))
        ∗ (bigSep Finset.univ fun k : Fin 7 => go m c k)
        ∗ (bigSep Finset.univ fun k : Fin 7 => cred (tallyAt ((plan m).cell c (rcv k)) () (plan m).amt))
        ∗ (∃ W, owes (c : Thread nD τ) ((plan m).dues c) W))
      ⊢ wp frame (wpE (defs₀ (F := F)) 𝒱₀ (c : Thread nD τ) none) Set.univ
          (cc0_gather_weights (Memref.whole main_arg0) (Memref.isWhole_whole _) (Memref.whole main_v1) (Memref.isWhole_whole _) cc0_scratch0 cc0_scratch1 cc0_scratch2)
          fun _ => iprop((bigSep Finset.univ fun k : Key => semVal ((plan m).cell c k) 0)
            ∗ (pay m c home ∗ (bigSep Finset.univ fun k : Fin 7 => pay m c (snd k)) ∗ pay m c (rcv 0) ∗ pay m c (rcv 4) ∗ pay m c (rcv 5) ∗ pay m c (rcv 6))
            ∗ ∃ W, owes (c : Thread nD τ) (0 : CellTallies nD τ sig Unit) W) := by
  have hdues : (plan m).dues c = (((((((0 + (plan m).due c 6) + (plan m).due c 5) + (plan m).due c 4) + (plan m).due c 3) + (plan m).due c 2) + (plan m).due c 1) + (plan m).due c 0) := by
    unfold Plan.dues; rw [Fin.sum_univ_seven, zero_add]; ac_rfl
  rw [Plan.split_keys, Plan.split_keys, seven, seven, seven, seven, seven, seven, seven, hdues]
  simp only [cc0_gather_weights_eq_skeleton]
  unfold cc0_gather_weights_skel
  simp only [k0_part10_eq_skeleton]; unfold k0_part10_skel
  simp only [k0_part9_eq_skeleton]; unfold k0_part9_skel
  simp only [k0_part8_eq_skeleton]; unfold k0_part8_skel
  simp only [k0_part7_eq_skeleton]; unfold k0_part7_skel
  simp only [k0_part6_eq_skeleton]; unfold k0_part6_skel
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  simp only [Prog.lift, Prog.bind_op, Prog.bind_ret, Prog.pure_eq_ret, wp_deviceId]
  iintro ⟨⟨#HK, #HL⟩, ⟨Ha, ⟨As0, As1, As2, As3, As4, As5, As6⟩, Ar0, Ar1, Ar2, Ar3, Ar4, Ar5, Ar6⟩, Hk, ⟨X0, X1, X2, X3⟩, ⟨G0, G1, G2, G3, G4, G5, G6⟩, ⟨C0, C1, C2, C3, C4, C5, C6⟩, HO⟩
  iapply (keep m c (S := cc0_scratch2.sem) rfl (slotAt_congr (n := 8) oM (off1 c) _ _ _)) $$ [Hk]
  · isplitr; · iexact HK
    iexact Hk
  iintro Ch
  iapply (send m c 0 (dev1 c) rfl rfl (src' := xM) rfl (slotAt_congr (n := 8) oM (own0 c) _ _ _) (q := qSend 0) rfl (by rw [self_0]; rfl) rfl) $$ [X0 G0 HO]
  · isplitr; · iexact HK
    isplitl [X0]; · iapply (show xPts m c (qSend 0) ⊢ lent m c 0 from .rfl); iexact X0
    isplitl [G0]; · iexact G0
    iexact HO
  iintro ⟨D0, HO⟩
  iapply (send m c 1 (dev2 c) rfl rfl (src' := xM) rfl (slotAt_congr (n := 8) oM (own1 c) _ _ _) (q := qSend 1) rfl (by rw [self_1]; rfl) rfl) $$ [X1 G1 HO]
  · isplitr; · iexact HK
    isplitl [X1]; · iapply (show xPts m c (qSend 1) ⊢ lent m c 1 from .rfl); iexact X1
    isplitl [G1]; · iexact G1
    iexact HO
  iintro ⟨D1, HO⟩
  iapply (send m c 2 (dev3 c) rfl rfl (src' := xM) rfl (slotAt_congr (n := 8) oM (own2 c) _ _ _) (q := qSend 2) rfl (by rw [self_2]; rfl) rfl) $$ [X2 G2 HO]
  · isplitr; · iexact HK
    isplitl [X2]; · iapply (show xPts m c (qSend 2) ⊢ lent m c 2 from .rfl); iexact X2
    isplitl [G2]; · iexact G2
    iexact HO
  iintro ⟨D2, HO⟩
  iapply (send m c 3 (dev4 c) rfl rfl (src' := xM) rfl (slotAt_congr (n := 8) oM (own3 c) _ _ _) (q := qSend 3) rfl (by rw [self_3]; rfl) rfl) $$ [X3 G3 HO]
  · isplitr; · iexact HK
    isplitl [X3]; · iapply (show xPts m c (qSend 3) ⊢ lent m c 3 from .rfl); iexact X3
    isplitl [G3]; · iexact G3
    iexact HO
  iintro ⟨D3, HO⟩
  iapply (take m c (rcv 1) rfl rfl (may_three m c)) $$ [C1 HO Ar1]
  · isplitr; · isplitr; (· iexact HK); iexact HL
    isplitl [C1]; · iexact C1
    isplitl [HO]; · iexact HO
    iexact Ar1
  iintro ⟨HO, Zr1, R1⟩
  iapply (send m c 4 (dev5 c) rfl rfl (src' := os (blk 4 c)) (slotAt_congr (n := 8) oM (off2 c) _ _ _) (slotAt_congr (n := 8) oM (off2 c) _ _ _) (q := fullShare) (fs := result m c) (lent_pass_4 m c) (read_got m c (blk 4 c)) rfl) $$ [R1 G4 HO]
  · isplitr; · iexact HK
    isplitl [R1]; · iapply (show pay m c (rcv 1) ⊢ lent m c 4 from .rfl); iexact R1
    isplitl [G4]; · iexact G4
    iexact HO
  iintro ⟨D4, HO⟩
  iapply (take m c (rcv 2) rfl rfl (may_two m c)) $$ [C2 HO Ar2]
  · isplitr; · isplitr; (· iexact HK); iexact HL
    isplitl [C2]; · iexact C2
    isplitl [HO]; · iexact HO
    iexact Ar2
  iintro ⟨HO, Zr2, R2⟩
  iapply (send m c 5 (dev6 c) rfl rfl (src' := os (blk 5 c)) (slotAt_congr (n := 8) oM (off3 c) _ _ _) (slotAt_congr (n := 8) oM (off3 c) _ _ _) (q := fullShare) (fs := result m c) (lent_pass_5 m c) (read_got m c (blk 5 c)) rfl) $$ [R2 G5 HO]
  · isplitr; · iexact HK
    isplitl [R2]; · iapply (show pay m c (rcv 2) ⊢ lent m c 5 from .rfl); iexact R2
    isplitl [G5]; · iexact G5
    iexact HO
  iintro ⟨D5, HO⟩
  iapply (take m c (rcv 3) rfl rfl (may_one m c)) $$ [C3 HO Ar3]
  · isplitr; · isplitr; (· iexact HK); iexact HL
    isplitl [C3]; · iexact C3
    isplitl [HO]; · iexact HO
    iexact Ar3
  iintro ⟨HO, Zr3, R3⟩
  iapply (send m c 6 (dev7 c) rfl rfl (src' := os (blk 6 c)) (slotAt_congr (n := 8) oM (off4 c) _ _ _) (slotAt_congr (n := 8) oM (off4 c) _ _ _) (q := fullShare) (fs := result m c) (lent_pass_6 m c) (read_got m c (blk 6 c)) rfl) $$ [R3 G6 HO]
  · isplitr; · iexact HK
    isplitl [R3]; · iapply (show pay m c (rcv 3) ⊢ lent m c 6 from .rfl); iexact R3
    isplitl [G6]; · iexact G6
    iexact HO
  iintro ⟨D6, HO⟩
  iapply (take m c (rcv 0) rfl rfl (may_none c _)) $$ [C0 HO Ar0]
  · isplitr; · isplitr; (· iexact HK); iexact HL
    isplitl [C0]; · iexact C0
    isplitl [HO]; · iexact HO
    iexact Ar0
  iintro ⟨HO, Zr0, R0⟩
  iapply (take m c (rcv 4) rfl rfl (may_none c _)) $$ [C4 HO Ar4]
  · isplitr; · isplitr; (· iexact HK); iexact HL
    isplitl [C4]; · iexact C4
    isplitl [HO]; · iexact HO
    iexact Ar4
  iintro ⟨HO, Zr4, R4⟩
  iapply (take m c (rcv 5) rfl rfl (may_none c _)) $$ [C5 HO Ar5]
  · isplitr; · isplitr; (· iexact HK); iexact HL
    isplitl [C5]; · iexact C5
    isplitl [HO]; · iexact HO
    iexact Ar5
  iintro ⟨HO, Zr5, R5⟩
  iapply (take m c (rcv 6) rfl rfl (may_none c _)) $$ [C6 HO Ar6]
  · isplitr; · isplitr; (· iexact HK); iexact HL
    isplitl [C6]; · iexact C6
    isplitl [HO]; · iexact HO
    iexact Ar6
  iintro ⟨HO, Zr6, R6⟩
  iapply (take m c (snd 0) rfl rfl (may_none c _)) $$ [D0 HO As0]
  · isplitr; · isplitr; (· iexact HK); iexact HL
    isplitl [D0]; · iexact D0
    isplitl [HO]; · iexact HO
    iexact As0
  iintro ⟨HO, Zs0, S0⟩
  iapply (take m c (snd 1) rfl rfl (may_none c _)) $$ [D1 HO As1]
  · isplitr; · isplitr; (· iexact HK); iexact HL
    isplitl [D1]; · iexact D1
    isplitl [HO]; · iexact HO
    iexact As1
  iintro ⟨HO, Zs1, S1⟩
  iapply (take m c (snd 2) rfl rfl (may_none c _)) $$ [D2 HO As2]
  · isplitr; · isplitr; (· iexact HK); iexact HL
    isplitl [D2]; · iexact D2
    isplitl [HO]; · iexact HO
    iexact As2
  iintro ⟨HO, Zs2, S2⟩
  iapply (take m c (snd 3) rfl rfl (may_none c _)) $$ [D3 HO As3]
  · isplitr; · isplitr; (· iexact HK); iexact HL
    isplitl [D3]; · iexact D3
    isplitl [HO]; · iexact HO
    iexact As3
  iintro ⟨HO, Zs3, S3⟩
  iapply (take m c (snd 4) rfl rfl (may_none c _)) $$ [D4 HO As4]
  · isplitr; · isplitr; (· iexact HK); iexact HL
    isplitl [D4]; · iexact D4
    isplitl [HO]; · iexact HO
    iexact As4
  iintro ⟨HO, Zs4, S4⟩
  iapply (take m c (snd 5) rfl rfl (may_none c _)) $$ [D5 HO As5]
  · isplitr; · isplitr; (· iexact HK); iexact HL
    isplitl [D5]; · iexact D5
    isplitl [HO]; · iexact HO
    iexact As5
  iintro ⟨HO, Zs5, S5⟩
  iapply (take m c (snd 6) rfl rfl (may_none c _)) $$ [D6 HO As6]
  · isplitr; · isplitr; (· iexact HK); iexact HL
    isplitl [D6]; · iexact D6
    isplitl [HO]; · iexact HO
    iexact As6
  iintro ⟨HO, Zs6, S6⟩
  iapply (take m c (home) rfl rfl (may_none c _)) $$ [Ch HO Ha]
  · isplitr; · isplitr; (· iexact HK); iexact HL
    isplitl [Ch]; · iexact Ch
    isplitl [HO]; · iexact HO
    iexact Ha
  iintro ⟨HO, Zh, Sh⟩
  rw [wp_ret]
  imodintro
  isplitl [Zh Zs0 Zs1 Zs2 Zs3 Zs4 Zs5 Zs6 Zr0 Zr1 Zr2 Zr3 Zr4 Zr5 Zr6]
  · isplitl [Zh]; · iexact Zh
    isplitl [Zs0 Zs1 Zs2 Zs3 Zs4 Zs5 Zs6]
    · isplitl [Zs0]; · iexact Zs0
      isplitl [Zs1]; · iexact Zs1
      isplitl [Zs2]; · iexact Zs2
      isplitl [Zs3]; · iexact Zs3
      isplitl [Zs4]; · iexact Zs4
      isplitl [Zs5]; · iexact Zs5
      iexact Zs6
    · isplitl [Zr0]; · iexact Zr0
      isplitl [Zr1]; · iexact Zr1
      isplitl [Zr2]; · iexact Zr2
      isplitl [Zr3]; · iexact Zr3
      isplitl [Zr4]; · iexact Zr4
      isplitl [Zr5]; · iexact Zr5
      iexact Zr6
  isplitr [HO]
  · isplitl [Sh]; · iexact Sh
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [R0]; · iexact R0
    isplitl [R4]; · iexact R4
    isplitl [R5]; · iexact R5
    iexact R6
  · iexact HO

end Cert.Spread

end
-- ==== Proof.SpreadRun.lean ====
/-
# The gathering, run and read

The launch of the gathering, for any float values: every weakly fair run from any memory with every
counter at zero terminates, the argument is unchanged, every counter is at zero again, and place `j`
of every device's result holds what device `j` had.
-/
module

public import proofs.«01_k».proof.Proof.Spread

@[expose] public section

set_option Elab.async false

noncomputable section

namespace Cert.Spread

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation pinD)
open Cert.GatherIdeal Cert.GatherIdeal.Gen Cert.Peers Cert.Slots

variable {F : FTy → Type} [FloatOps F]

local notation "𝕄" => MT nD τ sig Unit (Elt F) ℕ (Gh nD τ sig) ℕ

variable (m : (ℓ : Loc nD τ sig) → Buf (Elt F) ℓ) (ρ : Dev nD → PrngReg)

/-! ## Dealing the buffers -/

/-- A device's share of the buffers: its own copy's ends, the parts its four own sends read under, and for each send the
    place it goes to. -/
def bufs (c : Dev nD) : sProp 𝕄 :=
  iprop((xPts m c qKeep ∗ oPts c c (m ((c : Thread nD τ).loc main_v1)))
    ∗ (xPts m c (qSend 0) ∗ xPts m c (qSend 1) ∗ xPts m c (qSend 2) ∗ xPts m c (qSend 3))
    ∗ bigSep Finset.univ fun k : Fin 7 => oPts (tgt k c) (blk k c) (m ((tgt k c : Thread nD τ).loc main_v1)))

theorem unscoped_eq (c : Dev nD) (V : (b : Ref sig .tc) → Buf (Elt F) ((c : Thread nD τ).loc b)) :
    (unscopedBufs c V : sProp 𝕄) = iprop(emp ∗ (((c : Thread nD τ).loc main_arg0) ↦{fullShare} V main_arg0) ∗ (((c : Thread nD τ).loc main_v1) ↦{fullShare} V main_v1)) := by
  refine (Pipeline.unscopedBufs_split cfgs (0 : Fin 1) (fun w => w.elim0) (fun w => w.elim0) c V).trans ?_
  rw [show (Pipeline.unscopedRest (cfgs 0).spec c V : sProp 𝕄) = _ from unscopedRest0_eq c V, show (Finset.univ : Finset (Fin (cfgs 0).W)) = ∅ from rfl, bigSep_empty]
  rfl

/-- The places, handed to the devices that fill them. -/
theorem places : (bigSep Finset.univ fun c : Dev nD => bigSep Finset.univ fun k : Fin 7 => (oPts c (got k c) (m ((c : Thread nD τ).loc main_v1)) : sProp 𝕄))
    = bigSep Finset.univ fun c : Dev nD => bigSep Finset.univ fun k : Fin 7 => oPts (tgt k c) (blk k c) (m ((tgt k c : Thread nD τ).loc main_v1)) := by
  refine ((plan m).around fun c k => oPts c (got k c) (m ((c : Thread nD τ).loc main_v1))).trans (bigSep_congr fun c _ => bigSep_congr fun k _ => ?_)
  show oPts (tgt k c) (got k (tgt k c)) _ = _
  rw [got_tgt]
  rfl

theorem deal : (bigSep Finset.univ fun c : Dev nD => unscopedBufs c (fun b => m ((c : Thread nD τ).loc b)) : sProp 𝕄)
    ⊢ bigSep Finset.univ (bufs m) := by
  have h (c : Dev nD) : (unscopedBufs c (fun b => m ((c : Thread nD τ).loc b)) : sProp 𝕄)
      ⊢ iprop((xPts m c qKeep ∗ oPts c c (m ((c : Thread nD τ).loc main_v1)))
        ∗ (xPts m c (qSend 0) ∗ xPts m c (qSend 1) ∗ xPts m c (qSend 2) ∗ xPts m c (qSend 3))
        ∗ bigSep Finset.univ fun k : Fin 7 => oPts c (got k c) (m ((c : Thread nD τ).loc main_v1))) := by
    rw [unscoped_eq, arg_split, res_split, devices_from c]
    iintro ⟨-, ⟨H1, H2⟩, H3, H4⟩
    isplitl [H1 H3]
    · isplitl [H1] <;> iassumption
    · isplitl [H2] <;> iassumption
  have e : (bigSep Finset.univ fun c : Dev nD => iprop((xPts m c qKeep ∗ oPts c c (m ((c : Thread nD τ).loc main_v1)))
        ∗ (xPts m c (qSend 0) ∗ xPts m c (qSend 1) ∗ xPts m c (qSend 2) ∗ xPts m c (qSend 3))
        ∗ bigSep Finset.univ fun k : Fin 7 => oPts c (got k c) (m ((c : Thread nD τ).loc main_v1))) : sProp 𝕄)
      = bigSep Finset.univ (bufs m) := by
    unfold bufs
    simp only [bigSep_sep']
    rw [places]
  rw [← e]
  exact bigSep_mono fun c _ => h c

/-! ## The region -/

/-- What a device's region leaves: its argument, unchanged, and its result. -/
def done (c : Dev nD) : sProp 𝕄 :=
  iprop((((c : Thread nD τ).loc main_arg0) ↦{fullShare} m ((c : Thread nD τ).loc main_arg0)) ∗ (((c : Thread nD τ).loc main_v1) ↦{fullShare} result m c))

def dats (_ : Fin 1) (c : Dev nD) : Dat τ (Elt F) Unit ℕ (Gh nD τ sig) ℕ cfg0 c where
  A w := w.elim0
  after w _ := w.elim0
  Φ t := match t with
    | ⟨0, _⟩ => (plan m).starts L lv (bufs m) c
    | ⟨_ + 1, _⟩ => iprop(done m c ∗ Pipeline.ownSems0 (plan m).osem c)
  q w := w.elim0
  owed t := match t with
    | ⟨0, _⟩ => (plan m).dues c
    | ⟨_ + 1, _⟩ => 0

theorem starts_body (c : Dev nD) : (plan m).starts L lv (bufs m) c
    ⊢ iprop(((plan m).allKnown ∗ levAts L lv) ∗ (bigSep Finset.univ fun k : Key => (plan m).at0 c k)
        ∗ (xPts m c qKeep ∗ oPts c c (m ((c : Thread nD τ).loc main_v1)) ∗ (plan m).tok c home)
        ∗ (xPts m c (qSend 0) ∗ xPts m c (qSend 1) ∗ xPts m c (qSend 2) ∗ xPts m c (qSend 3))
        ∗ (bigSep Finset.univ fun k : Fin 7 => go m c k)
        ∗ (bigSep Finset.univ fun k : Fin 7 => cred (tallyAt ((plan m).cell c (rcv k)) () (plan m).amt))) := by
  unfold Plan.starts bufs Plan.rights go
  simp only [bigSep_sep']
  iintro ⟨HK, Ha, ⟨Ht, Ht1, Ht2⟩, Hc, ⟨Hx, Ho⟩, Hxs, Hos⟩
  isplitl [HK]; · iexact HK
  isplitl [Ha]; · iexact Ha
  isplitl [Ht Hx Ho]
  · isplitl [Hx]; · iexact Hx
    isplitl [Ho]; · iexact Ho
    iexact Ht
  isplitl [Hxs]; · iexact Hxs
  isplitr [Hc]
  · isplitl [Hos]; · iexact Hos
    isplitl [Ht1]; · iexact Ht1
    iexact Ht2
  · iexact Hc

theorem body_done (c : Dev nD) :
    iprop((bigSep Finset.univ fun k : Key => semVal ((plan m).cell c k) 0)
        ∗ (pay m c home ∗ (bigSep Finset.univ fun k : Fin 7 => pay m c (snd k)) ∗ pay m c (rcv 0) ∗ pay m c (rcv 4) ∗ pay m c (rcv 5) ∗ pay m c (rcv 6)))
      ⊢ iprop(done m c ∗ Pipeline.ownSems0 (plan m).osem c) := by
  unfold done
  rw [arg_split, res_split, devices_from c, seven, seven]
  show iprop((bigSep Finset.univ fun k : Key => semVal ((plan m).cell c k) 0)
        ∗ (oPts c c (result m c) ∗ xPts m c qKeep) ∗ (xPts m c (qSend 0) ∗ xPts m c (qSend 1) ∗ xPts m c (qSend 2) ∗ xPts m c (qSend 3)
          ∗ oPts c (got 1 c) (result m c) ∗ oPts c (got 2 c) (result m c) ∗ oPts c (got 3 c) (result m c))
        ∗ oPts c (got 0 c) (result m c) ∗ oPts c (got 4 c) (result m c) ∗ oPts c (got 5 c) (result m c) ∗ oPts c (got 6 c) (result m c)) ⊢ _
  iintro ⟨Hz, ⟨Ho, Hx⟩, ⟨S0, S1, S2, S3, R1, R2, R3⟩, R0, R4, R5, R6⟩
  isplitr [Hz]
  · isplitl [Hx S0 S1 S2 S3]
    · isplitl [Hx]; · iexact Hx
      isplitl [S0]; · iexact S0
      isplitl [S1]; · iexact S1
      isplitl [S2] <;> iassumption
    · isplitl [Ho]; · iexact Ho
      isplitl [R0]; · iexact R0
      isplitl [R1]; · iexact R1
      isplitl [R2]; · iexact R2
      isplitl [R3]; · iexact R3
      isplitl [R4]; · iexact R4
      isplitl [R5] <;> iassumption
  · iapply (show (bigSep Finset.univ fun k : Key => semVal ((plan m).cell c k) 0) ⊢ (Pipeline.ownSems0 (plan m).osem c : sProp 𝕄) from .rfl); iexact Hz

theorem body_obligation (c : Dev nD) : BodyObligation (dats m 0 c) (defs₀ (F := F)) 𝒱₀ () Set.univ := fun t => by
  rw [fin_N0 t]
  show iprop((plan m).starts L lv (bufs m) c ∗ (dats m 0 c).owesAt () (0 : Fin 2) ∗ _) ⊢ wp frame (wpE (defs₀ (F := F)) 𝒱₀ (c : Thread nD τ) none) Set.univ
    (cc0_gather_weights (Memref.whole main_arg0) (Memref.isWhole_whole _) (Memref.whole main_v1) (Memref.isWhole_whole _) cc0_scratch0 cc0_scratch1 cc0_scratch2)
    (fun _ => iprop((done m c ∗ Pipeline.ownSems0 (plan m).osem c) ∗ (dats m 0 c).owesAt () (1 : Fin 2) ∗ _))
  refine (show _ ⊢ (_ : sProp 𝕄) from ?_).trans ((body m c).trans (wp_mono frame _ Set.univ fun _ => ?_))
  · iintro ⟨Hs, ⟨%W, -, HO⟩, -⟩
    ihave H := (starts_body m c) $$ Hs
    icases H with ⟨H1, H2, H3, H4, H5, H6⟩
    isplitl [H1]; · iexact H1
    isplitl [H2]; · iexact H2
    isplitl [H3]; · iexact H3
    isplitl [H4]; · iexact H4
    isplitl [H5]; · iexact H5
    isplitl [H6]; · iexact H6
    iexists W; iexact HO
  · iintro ⟨Hz, Hp, %W, HO⟩
    isplitl [Hz Hp]
    · iapply (body_done m c)
      isplitl [Hz] <;> iassumption
    isplitl [HO]
    · iexists W
      isplitr; · ipureintro; exact fun _ _ => Or.inl trivial
      iexact HO
    · rw [Finset.univ_eq_empty, bigSep_empty]; iempintro

/-! ## The run -/

theorem ownSemFacts : Pipeline.OwnSemFacts cfg0.spec (plan (F := F) m).osem := by
  show Pipeline.OwnSemFacts cfg0.spec fun k => SemLoc.dma (semOf k)
  decide

/-- What a final memory shows of device `c`. -/
def QY (c : Dev nD) (s : MemSt nD τ sig (Elt F)) : Prop :=
  s.mem ((c : Thread nD τ).loc main_v1) = result m c ∧ s.mem ((c : Thread nD τ).loc main_arg0) = m ((c : Thread nD τ).loc main_arg0)

theorem read_done (c : Dev nD) (s' : Phys nD τ sig (Elt F)) : iprop(done m c ∗ SI s') ⊢ |={Set.univ}=> iprop(⌜QY m c s'.mem⌝ ∗ (SI s' : sProp 𝕄)) := by
  unfold done
  iintro ⟨⟨Ha, Hr⟩, HS⟩
  ihave H := (pointsTo_read_all (Finset.univ : Finset Unit) (fun _ => (c : Thread nD τ).loc main_arg0) (fun _ => m ((c : Thread nD τ).loc main_arg0)) s') $$ [Ha HS]
  · isplitl [Ha]
    · iapply (Entails.of_eq (BI.bigSep_singleton (Φ := fun _ : Unit => (((c : Thread nD τ).loc main_arg0) ↦{fullShare} m ((c : Thread nD τ).loc main_arg0) : sProp 𝕄)) (i := ())).symm); iexact Ha
    · iexact HS
  icases H with ⟨%h1, HS⟩
  ihave H := (pointsTo_read_all (Finset.univ : Finset Unit) (fun _ => (c : Thread nD τ).loc main_v1) (fun _ => result m c) s') $$ [Hr HS]
  · isplitl [Hr]
    · iapply (Entails.of_eq (BI.bigSep_singleton (Φ := fun _ : Unit => (((c : Thread nD τ).loc main_v1) ↦{fullShare} result m c : sProp 𝕄)) (i := ())).symm); iexact Hr
    · iexact HS
  icases H with ⟨%h2, HS⟩
  imodintro
  isplitr
  · ipureintro; exact ⟨h2 () (Finset.mem_univ _), h1 () (Finset.mem_univ _)⟩
  · iexact HS

set_option maxRecDepth 8000 in
/-- The run, read. -/
theorem run_main : θ_run defs (onTc (τ := τ) (main (F := F))) ⟨m, fun _ => 0, ρ⟩
    (fun r => (∀ c : Dev nD, QY m c r.2) ∧ r.2.sem = fun _ => 0) :=
  Joint.run_joint (fun p => (cfgs p).toPCfg) (fun _ p => (cfgs p).toPCfg_adm) cellOf_inj EP defs₀ 𝒱₀ m ρ main L lv (fun g hg => if_neg hg)
    (plan m).dues (plan m).G
    (Rounds.initOf (Pipeline.cells cfgs cellOf_inj) (Pipeline.launchToks cfgs cellOf_inj), Rounds.initOf (plan m).cells (plan m).toks)
    (by
      iintro Hu
      ihave H := (ownU_pair _ _) $$ Hu
      icases H with ⟨HP, HX⟩
      imod ((plan m).fund) $$ HX with HG
      imodintro
      isplitl [HP] <;> iassumption)
    ((plan m).before (fun p => (cfgs p).toPCfg) (fun _ p => (cfgs p).toPCfg_adm) cellOf_inj (r := (0 : Fin 1)) (ownSemFacts m) L lv (bufs m))
    (done m)
    ((plan m).regroup (fun p => (cfgs p).toPCfg) (fun _ p => (cfgs p).toPCfg_adm) cellOf_inj (r := (0 : Fin 1)) (ownSemFacts m) winFacts0.to₀ m ρ L lv (bufs m) (deal m))
    (fun c => by
      have h := (plan m).wp_region (fun p => (cfgs p).toPCfg) (fun _ p => (cfgs p).toPCfg_adm) cellOf_inj defs₀ 𝒱₀ (r := (0 : Fin 1)) (ownSemFacts m) winFacts0.to₀
        stage_whole0 (dats m) (inferInstanceAs (IsEmpty (Fin 0))) (inferInstanceAs (IsEmpty (Fin 0))) L lv (bufs m) (done m) c (body_obligation m c).loose rfl rfl
        (sep_elim_left) (by
          show iprop(done m c ∗ Pipeline.ownSems0 (plan m).osem c) ⊢ _
          rw [show (Pipeline.scopedRest _ c : sProp 𝕄) = _ from scopedRest0_eq c]
          iintro ⟨H1, H2⟩
          isplitl [H1]; · iexact H1
          isplitl [H2]; · iexact H2
          iempintro)
        (α := PUnit) (fun _ => .ret PUnit.unit) (fun _ => iprop((done m c ∗ boundary (c : Thread nD τ)) ∗ ∃ W, owes (c : Thread nD τ) (0 : CellTallies nD τ sig Unit) W))
      refine (show _ ⊢ (_ : sProp 𝕄) from ?_).trans h
      iintro H
      isplitl [H]; · iexact H
      iintro ⟨Hb, Hd, HO, -⟩
      rw [wp_ret]
      imodintro
      isplitr [HO]
      · isplitl [Hd] <;> iassumption
      · iexact HO)
    (QY m) (read_done m) (fun s h hs => show _ ∧ _ from ⟨h, sem_eq_zero_of_scoped (by decide) hs⟩)

end Cert.Spread

end
-- ==== Proof.SpreadValue.lean ====
/-
  The gathering against a plain reshape.

  The whole array has `8 · 52736` rows; device `j` holds rows `52736 j … 52736 j + 52735`.  The reference lays the rows
  out as 8 matrices of 52736 rows.  Matrix `j` of that layout is what device `j` holds, and what the gathering leaves in
  place `j` of every device.
-/
module

public import proofs.«01_k».proof.Proof.SpreadRun
public import proofs.«01_k».proof.Proof.Gen.GatherRefIdeal
public import proofs.«01_k».proof.Proof.Gen.GatherRefIdeal.Run
public import proofs.«01_k».proof.Proof.Gen.GatherRef
public import proofs.«01_k».proof.Proof.Gen.GatherRef.Run
public import proofs.«01_k».proof.Proof.Gen.Gather
public import proofs.«01_k».proof.Defs
public import Idealize.ShloMosaic.Lib.Layout
public import Idealize.ShloMosaic.Lib.Pipeline.Value

@[expose] public section

set_option Elab.async false

noncomputable section

namespace Cert.Spread

open Cert.GatherIdeal Cert.GatherIdeal.Gen
open Idealize.ShloMosaic
open Idealize.ShloMosaic.TcCoe
open Idealize.SL.Sem

/-- Block `j` of the rows is matrix `j` of the reshaped array. -/
theorem block_matrix {α : Type} (X : (⟨2, ![421888, 128]⟩ : Shape).Idx → α)
    (h : (⟨2, ![421888, 128]⟩ : Shape).ShapeCasts ⟨3, ![8, 52736, 128]⟩)
    (hi : Layout.Tiles ⟨2, ![52736, 128]⟩ ⟨2, ![421888, 128]⟩ 0 8) (i : (⟨3, ![8, 52736, 128]⟩ : Shape).Idx) :
    Layout.block ⟨2, ![52736, 128]⟩ ⟨2, ![421888, 128]⟩ 0 8 (i (0 : Fin 3)) X hi (fun a => i a.succ)
      = shapeCast ⟨3, ![8, 52736, 128]⟩ X h i := by
  refine (shapeCast_apply X h _ _ ?_).symm
  rw [Shape.rowMajor_val_three, Shape.rowMajor_val_two]
  simp only [Layout.Tiles.idx_val]
  show ((i (0 : Fin 3)).val * 52736 + (i (1 : Fin 3)).val) * 128 + (i (2 : Fin 3)).val
    = ((i (0 : Fin 3)).val * 52736 + (i (1 : Fin 3)).val) * 128 + (i (2 : Fin 3)).val
  rfl

variable {F : FTy → Type} [FloatOps F]

/-- The gathering and the reshape, over any float values. -/
theorem meets (m : (ℓ : Loc nD τ sig) → Buf (Elt F) ℓ) (ρ : Dev nD → PrngReg)
    (X : (⟨2, ![421888, 128]⟩ : Shape).Idx → Elt F .bf16) (h : (⟨2, ![421888, 128]⟩ : Shape).ShapeCasts ⟨3, ![8, 52736, 128]⟩)
    (hX : ∀ c : Dev nD, m ((c : Thread nD τ).loc main_arg0) = Layout.block ⟨2, ![52736, 128]⟩ ⟨2, ![421888, 128]⟩ 0 8 c X) :
    θ_run (defs (F := F)) (onTc (τ := τ) (main (F := F))) ⟨m, fun _ => 0, ρ⟩ fun r => ∀ c : Dev nD,
      r.2.mem ((c : Thread nD τ).loc main_v1) = shapeCast ⟨3, ![8, 52736, 128]⟩ X h
      ∧ r.2.mem ((c : Thread nD τ).loc main_arg0) = m ((c : Thread nD τ).loc main_arg0) := by
  refine (θ_run defs _ _).mono (fun r hr c => ⟨((hr.1 c).1).trans (funext fun i => ?_), (hr.1 c).2⟩) (run_main (F := F) m ρ)
  exact (congrFun (hX (show Dev nD from i (0 : Fin 3))) _).trans (block_matrix X h _ i)

/-! ## The claims -/

theorem frame_gather : Cert.quiescent_Gather := fun m ρ _ =>
  (θ_run Cert.GatherIdeal.defs _ _).mono (fun _ h => ⟨fun c => (h.1 c).2, h.2⟩) (run_main (F := Bits) m ρ)

theorem frame_gatherIdeal : Cert.quiescent_GatherIdeal := fun m ρ _ =>
  (θ_run Cert.GatherIdeal.defs _ _).mono (fun _ h => ⟨fun c => (h.1 c).2, h.2⟩) (run_main (F := Ideal) m ρ)

theorem frame_gatherRef : Cert.quiescent_GatherRef := fun m ρ _ =>
  (θ_run Cert.GatherRef.defs _ _).mono (fun r h => ⟨fun c => (h c).2, sem_eq_zero_of_no_sems (by decide) r.2⟩)
    (Cert.GatherRef.Value.run (F := Bits) m ρ)

theorem frame_gatherRefIdeal : Cert.quiescent_GatherRefIdeal := fun m ρ _ =>
  (θ_run Cert.GatherRefIdeal.defs _ _).mono (fun r h => ⟨fun c => (h c).2, sem_eq_zero_of_no_sems (by decide) r.2⟩)
    (Cert.GatherRefIdeal.Value.run (F := Ideal) m ρ)

theorem gather_algebraic : Cert.algebraic_GatherIdeal_GatherRefIdeal := fun m ρ m' ρ' _ hX =>
  ⟨_, meets (F := Ideal) m ρ _ Cert.GatherRefIdeal.Gen.shapeCasts_S421888x128_S8x52736x128 hX,
    (θ_run Cert.GatherRefIdeal.defs _ _).mono (fun _ h => h 0) (Cert.GatherRefIdeal.Value.run (F := Ideal) m' ρ')⟩

theorem gather_bitexact : Cert.bitexact_Gather_GatherRef := fun m ρ m' ρ' _ hX =>
  ⟨_, meets (F := Bits) m ρ _ Cert.GatherRef.Gen.shapeCasts_S421888x128_S8x52736x128 hX,
    (θ_run Cert.GatherRef.defs _ _).mono (fun _ h => h 0) (Cert.GatherRef.Value.run (F := Bits) m' ρ')⟩

end Cert.Spread

end
-- ==== Proof.SwapMod.lean ====
/-
# The exchange of the modulations

Every device holds a stack of eight matrices, one for each device. Device `c` keeps its own matrix
in place `c`, and sends matrix `tgt k c` to device `tgt k c`, into place `c` there, for seven `k`.
In the end place `j` of device `c` holds what device `j` had for `c`.

The body is run once, at a device `c` and for any float values.
-/
module

public import proofs.«01_k».proof.Proof.Deal
public import proofs.«01_k».proof.Proof.Slots
public import proofs.«01_k».proof.Proof.Gen.ExchangeModIdeal
public import proofs.«01_k».proof.Proof.Gen.ExchangeModIdeal.Launch
public import proofs.«01_k».proof.Proof.Gen.ExchangeModIdeal.Skeleton

@[expose] public section

set_option Elab.async false

noncomputable section

namespace Cert.SwapMod

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.ExchangeModIdeal Cert.ExchangeModIdeal.Gen Cert.Peers Cert.Slots

variable {F : FTy → Type} [FloatOps F]

local notation "𝕄" => MT nD τ sig Unit (Elt F) ℕ (Gh nD τ sig) ℕ

/-! ## Who sends to whom -/

/-- The device the `k`-th send goes to: another place on one, two or three of the mesh's axes. -/
def tgt (k : Fin 7) (c : Dev nD) : Dev nD := ⟨(c.val ^^^ (k.val + 1)) % 8, Nat.mod_lt _ (by decide)⟩

theorem tgt_tgt (k : Fin 7) (c : Dev nD) : tgt k (tgt k c) = c := by revert k c; decide

theorem tgt_inj (c : Dev nD) : Function.Injective fun k => tgt k c := fun a b h => by revert c a b; decide
theorem erase_self (c : Dev nD) : (Finset.univ : Finset (Dev nD)).erase c = Finset.univ.map ⟨fun k => tgt k c, tgt_inj c⟩ := by
  rw [Finset.map_eq_image]; revert c; decide

/-- A family over the devices: `c`'s own, and those of the devices it sends to. -/
theorem devices_from (c : Dev nD) (Φ : Dev nD → sProp 𝕄) :
    bigSep Finset.univ Φ = iprop(Φ c ∗ bigSep Finset.univ fun k => Φ (tgt k c)) := by
  rw [bigSep_erase (Finset.mem_univ c), erase_self c, bigSep_map]
  rfl

/-- The kernel's computed devices and offsets. -/
theorem dev1 (c : Dev nD) : (⟨k0_dev1 c, k0_dev1_lt c⟩ : Dev nD) = tgt 0 c := by revert c; decide
theorem dev2 (c : Dev nD) : (⟨k0_dev2 c, k0_dev2_lt c⟩ : Dev nD) = tgt 1 c := by revert c; decide
theorem dev3 (c : Dev nD) : (⟨k0_dev3 c, k0_dev3_lt c⟩ : Dev nD) = tgt 2 c := by revert c; decide
theorem dev4 (c : Dev nD) : (⟨k0_dev4 c, k0_dev4_lt c⟩ : Dev nD) = tgt 3 c := by revert c; decide
theorem dev5 (c : Dev nD) : (⟨k0_dev5 c, k0_dev5_lt c⟩ : Dev nD) = tgt 4 c := by revert c; decide
theorem dev6 (c : Dev nD) : (⟨k0_dev6 c, k0_dev6_lt c⟩ : Dev nD) = tgt 5 c := by revert c; decide
theorem dev7 (c : Dev nD) : (⟨k0_dev7 c, k0_dev7_lt c⟩ : Dev nD) = tgt 6 c := by revert c; decide
theorem off1 (c : Dev nD) : k0_off1 c = ![c.val, 0, 0] := by revert c; decide
theorem off2 (c : Dev nD) : k0_off2 c = ![(tgt 0 c).val, 0, 0] := by revert c; decide
theorem off3 (c : Dev nD) : k0_off3 c = ![(tgt 1 c).val, 0, 0] := by revert c; decide
theorem off4 (c : Dev nD) : k0_off4 c = ![(tgt 2 c).val, 0, 0] := by revert c; decide
theorem off5 (c : Dev nD) : k0_off5 c = ![(tgt 3 c).val, 0, 0] := by revert c; decide
theorem off6 (c : Dev nD) : k0_off6 c = ![(tgt 4 c).val, 0, 0] := by revert c; decide
theorem off7 (c : Dev nD) : k0_off7 c = ![(tgt 5 c).val, 0, 0] := by revert c; decide
theorem off8 (c : Dev nD) : k0_off8 c = ![(tgt 6 c).val, 0, 0] := by revert c; decide

/-! ## The matrices -/

abbrev xM : Memref sig .tc .hbm S8x32x128 .f32 := Memref.whole main_arg0
abbrev oM : Memref sig .tc .hbm S8x32x128 .f32 := Memref.whole main_v1
/-- Matrix `j` of the argument, -/
abbrev xs (j : Dev nD) : Memref sig .tc .hbm S32x128 .f32 := slot (n := 8) xM squeezes_S1x32x128_S32x128 j
/-- and of the result. -/
abbrev os (j : Dev nD) : Memref sig .tc .hbm S32x128 .f32 := slot (n := 8) oM squeezes_S1x32x128_S32x128 j

variable (m : (ℓ : Loc nD τ sig) → Buf (Elt F) ℓ)

/-- What device `c` ends with: in place `j`, what device `j` had for `c`. -/
def result (c : Dev nD) : Buf (Elt F) ((c : Thread nD τ).loc main_v1) := fun i =>
  let j : Dev nD := i (0 : Fin 3)
  m ((j : Thread nD τ).loc main_arg0) (inSlot (n := 8) (r := 32) (l := 128) c fun a => i a.succ)

/-- Matrix `j` of device `d`'s argument, -/
def xPts (d j : Dev nD) : sProp 𝕄 := (xs j).view.loc (d : Thread nD τ) ↦[(xs j).view.set]{fullShare} m ((d : Thread nD τ).loc main_arg0)
/-- and place `j` of device `d`'s result, holding `f`. -/
def oPts (d j : Dev nD) (f : Buf (Elt F) ((d : Thread nD τ).loc main_v1)) : sProp 𝕄 := (os j).view.loc (d : Thread nD τ) ↦[(os j).view.set]{fullShare} f

instance xPts_storable (d j : Dev nD) : BI.Storable (upEmb : UEmb _ 𝕄) (xPts (F := F) m d j) := by unfold xPts; infer_instance
instance oPts_storable (d j : Dev nD) (f) : BI.Storable (upEmb : UEmb _ 𝕄) (oPts (F := F) d j f) := by unfold oPts; infer_instance

theorem arg_split (d : Dev nD) : (((d : Thread nD τ).loc main_arg0) ↦{fullShare} m ((d : Thread nD τ).loc main_arg0) : sProp 𝕄)
    = bigSep Finset.univ fun j => xPts m d j := by
  have h := held_slots (Ix := Unit) (Val := Elt F) (Name := ℕ) (U := Gh nD τ sig) (Lvl := ℕ) (n := 8) (d : Thread nD τ) xM squeezes_S1x32x128_S32x128 fullShare (m ((d : Thread nD τ).loc main_arg0))
  rw [View.set_whole] at h
  exact h
theorem res_split (d : Dev nD) (f : Buf (Elt F) ((d : Thread nD τ).loc main_v1)) : (((d : Thread nD τ).loc main_v1) ↦{fullShare} f : sProp 𝕄)
    = bigSep Finset.univ fun j => oPts d j f := by
  have h := held_slots (Ix := Unit) (Val := Elt F) (Name := ℕ) (U := Gh nD τ sig) (Lvl := ℕ) (n := 8) (d : Thread nD τ) oM squeezes_S1x32x128_S32x128 fullShare f
  rw [View.set_whole] at h
  exact h

/-- Device `c`'s matrix `d` written into place `c` of device `d`. -/
theorem landed (c d : Dev nD) (fd : Buf (Elt F) ((os c).view.loc (d : Thread nD τ))) :
    ((os c).view.loc (d : Thread nD τ) ↦[(os c).view.set]{fullShare} ((os c).view.write (Elt F) fd ((xs d).view.read (Elt F) (m ((c : Thread nD τ).loc main_arg0))) Finset.univ) : sProp 𝕄)
      = oPts d c (result m d) := by
  refine slot_written (n := 8) (d : Thread nD τ) oM squeezes_S1x32x128_S32x128 c fullShare fd (result m d) _ fun i => ?_
  rw [slot_read]
  rfl

/-! ## The plan -/

/-- The semaphores: the sends', the receipts', the copy's. -/
def semOf : Key → DmaSem sig
  | .inr (.inl k) => ⟨k.val, by have := k.isLt; show k.val < 15; omega⟩
  | .inr (.inr k) => ⟨7 + k.val, by have := k.isLt; show 7 + k.val < 15; omega⟩
  | .inl _ => ⟨14, by decide⟩

theorem semOf_inj : Function.Injective semOf := fun a b h => by revert a b; decide

/-- What each transfer hands to the device that waits for it: the copy, both its ends; a send, the matrix sent; a
    receipt, the place filled. -/
def pay (c : Dev nD) : Key → sProp 𝕄
  | .inl _ => iprop(oPts c c (result m c) ∗ xPts m c c)
  | .inr (.inl k) => xPts m c (tgt k c)
  | .inr (.inr k) => oPts c (tgt k c) (result m c)

instance pay_storable (c : Dev nD) : (k : Key) → BI.Storable (upEmb : UEmb _ 𝕄) (pay (F := F) m c k)
  | .inl _ => by unfold pay; infer_instance
  | .inr (.inl k) => by unfold pay; infer_instance
  | .inr (.inr k) => by unfold pay; infer_instance

def plan : Plan nD τ sig (Elt F) where
  sem := semOf
  inj := semOf_inj
  tgt := tgt
  invol := tgt_tgt
  amt := (os 0).view.dmaCredit
  amt_pos := View.dmaCredit_pos _ (by decide)
  pay := pay m
  storable := pay_storable m

/-! ## The steps of the body -/

abbrev 𝒱₀ : Variants := Variants.none

/-- What a device needs for its `k`-th send. -/
def go (c : Dev nD) (k : Fin 7) : sProp 𝕄 :=
  iprop(xPts m c (tgt k c) ∗ oPts (tgt k c) c (m ((tgt k c : Thread nD τ).loc main_v1)) ∗ (plan m).tok c (snd k) ∗ (plan m).tok (tgt k c) (rcv k))

section Steps

variable {α : Type} {Q : α → sProp (MT nD τ sig Unit (Elt F) ℕ (Gh nD τ sig) ℕ)} {W : Waits sig Unit} {O₀ O : CellTallies nD τ sig Unit}

theorem send (c : Dev nD) (k : Fin 7) {n : Dev nD} (hn : n = tgt k c) {S R : DmaSem sig} (hS : S = semOf (snd k)) (hR : R = semOf (rcv k))
    {src dst : Memref sig .tc .hbm S32x128 .f32} (hs : src = xs (tgt k c)) (hd : dst = os c)
    {hsc : (dst : Memref sig (Dev.tc n : Thread nD τ).2.kind .hbm S32x128 .f32).view.ref.isScScratch = false}
    {hsrc : src.view.WordExact} {hdst : dst.view.WordExact}
    {hsem : DmaTarget.Typed .hbm (.dma R) (.remote (Dev.tc n : Thread nD τ) (dst : Memref sig .tc .hbm S32x128 .f32) (.dma S) hsc)}
    {cont : PUnit → Prog (TpuEff nD τ sig (Elt F) Λ₀ .tc) α} (hO : O₀ = O + (plan m).due c k) :
    iprop((plan m).allKnown ∗ go m c k ∗ owes (c : Thread nD τ) O₀ W)
      ⊢ iprop(((cred (tallyAt ((plan m).cell c (snd k)) () (plan m).amt) ∗ owes (c : Thread nD τ) O W)
            -∗ wp frame (wpE (defs₀ (F := F)) 𝒱₀ (c : Thread nD τ) none) Set.univ (cont ⟨⟩) Q)
          -∗ wp frame (wpE (defs₀ (F := F)) 𝒱₀ (c : Thread nD τ) none) Set.univ
            (.op (.enqueueDma src (.remote (Dev.tc n : Thread nD τ) dst (.dma S) hsc) (.dma R) hsrc hdst hsem) cont) Q) := by
  subst hs hd
  unfold go xPts oPts
  iintro ⟨#HK, ⟨Hx, Ho, Ht1, Ht2⟩, HO⟩
  iapply ((plan m).wp_give 𝒱₀ c k hn hS hR (fd := m ((tgt k c : Thread nD τ).loc main_v1)) rfl
    (show _ ⊢ pay m c (snd k) from by unfold pay xPts; exact .rfl) (show _ ⊢ oPts (tgt k c) (tgt k (tgt k c)) (result m (tgt k c)) from by
      rw [tgt_tgt]; exact Entails.of_eq (landed m c (tgt k c) _)) O hO)
  isplitr; · iexact HK
  isplitl [Hx]; · iexact Hx
  isplitl [Ho]; · iexact Ho
  isplitl [HO]; · iexact HO
  isplitl [Ht1]; · iexact Ht1
  iexact Ht2

theorem keep (c : Dev nD) {S : DmaSem sig} (hS : S = semOf home)
    {src dst : Memref sig .tc .hbm S32x128 .f32} (hs : src = xs c) (hd : dst = os c)
    {hsrc : src.view.WordExact} {hdst : dst.view.WordExact}
    {hsem : DmaTarget.Typed (nD := nD) (τ := τ) (p := Proc.tc) .hbm (.dma S) (.here dst)}
    {cont : PUnit → Prog (TpuEff nD τ sig (Elt F) Λ₀ .tc) α} :
    iprop((plan m).allKnown ∗ xPts m c c ∗ oPts c c (m ((c : Thread nD τ).loc main_v1)) ∗ (plan m).tok c home)
      ⊢ iprop((cred (tallyAt ((plan m).cell c home) () (plan m).amt)
            -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma src (.here dst) (.dma S) hsrc hdst hsem) cont) Q) := by
  subst hs hd
  unfold xPts oPts
  iintro ⟨#HK, Hx, Ho, Ht⟩
  iapply ((plan m).wp_keep 𝒱₀ c hS (fd := m ((c : Thread nD τ).loc main_v1)) rfl (show _ ⊢ pay m c home from by
    unfold pay; exact sep_mono (Entails.of_eq (landed m c c _)) (by unfold xPts; exact .rfl)))
  isplitr; · iexact HK
  isplitl [Hx]; · iexact Hx
  isplitl [Ho] <;> iassumption

theorem take (c : Dev nD) (key : Key) {S : DmaSem sig} (hS : S = semOf key)
    {src dst : Memref sig .tc .hbm S32x128 .f32} (hd : dst.view.dmaCredit = (plan m).amt)
    {h1 : src.view.WordExact} {h2 : dst.view.WordExact}
    {cont : PUnit → Prog (TpuEff nD τ sig (Elt F) Λ₀ .tc) α} :
    iprop((plan m).allKnown ∗ cred (tallyAt ((plan m).cell c key) () (plan m).amt) ∗ (∃ W, owes (c : Thread nD τ) (0 : CellTallies nD τ sig Unit) W) ∗ (plan m).at0 c key)
      ⊢ iprop((((∃ W, owes (c : Thread nD τ) (0 : CellTallies nD τ sig Unit) W) ∗ semVal ((plan m).cell c key) 0 ∗ (plan m).pay c key)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 S src dst h1 h2) cont) Q) := by
  subst hS
  iintro ⟨#HK, Hc, ⟨%W, HO⟩, Ha⟩ Hk
  iapply ((plan m).wp_take 𝒱₀ c key (fun K => by rw [← hd]; rfl)) $$ [Hc HO Ha]
  · isplitr; · iexact HK
    isplitl [Hc]; · iexact Hc
    isplitl [HO]; · iexact HO
    isplitr; · rw [MayWait_zero]; iempintro
    iexact Ha
  iintro ⟨HO, Hz, Hp⟩
  iapply Hk
  isplitl [HO]
  · iexists _; iexact HO
  isplitl [Hz]; · iexact Hz
  iexact Hp

end Steps

/-! ## The body -/

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

set_option maxRecDepth 8000 in
theorem body (c : Dev nD) :
    iprop(((plan m).allKnown) ∗ (bigSep Finset.univ fun k : Key => (plan m).at0 c k)
        ∗ (xPts m c c ∗ oPts c c (m ((c : Thread nD τ).loc main_v1)) ∗ (plan m).tok c home)
        ∗ (bigSep Finset.univ fun k : Fin 7 => go m c k)
        ∗ (bigSep Finset.univ fun k : Fin 7 => cred (tallyAt ((plan m).cell c (rcv k)) () (plan m).amt))
        ∗ (∃ W, owes (c : Thread nD τ) ((plan m).dues c) W))
      ⊢ wp frame (wpE (defs₀ (F := F)) 𝒱₀ (c : Thread nD τ) none) Set.univ
          (cc0_exchange_mod (Memref.whole main_arg0) (Memref.isWhole_whole _) (Memref.whole main_v1) (Memref.isWhole_whole _) cc0_scratch0 cc0_scratch1 cc0_scratch2)
          fun _ => iprop((bigSep Finset.univ fun k : Key => iprop(semVal ((plan m).cell c k) 0 ∗ (plan m).pay c k))
            ∗ ∃ W, owes (c : Thread nD τ) (0 : CellTallies nD τ sig Unit) W) := by
  have hdues : (plan m).dues c = (((((((0 + (plan m).due c 6) + (plan m).due c 5) + (plan m).due c 4) + (plan m).due c 3) + (plan m).due c 2) + (plan m).due c 1) + (plan m).due c 0) := by
    unfold Plan.dues; rw [Fin.sum_univ_seven, zero_add]; ac_rfl
  rw [Plan.split_keys, Plan.split_keys, seven, seven, seven, seven, seven, seven, hdues]
  simp only [cc0_exchange_mod_eq_skeleton]
  unfold cc0_exchange_mod_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  iintro ⟨#HK, ⟨Ha, ⟨As0, As1, As2, As3, As4, As5, As6⟩, Ar0, Ar1, Ar2, Ar3, Ar4, Ar5, Ar6⟩, Hk, ⟨G0, G1, G2, G3, G4, G5, G6⟩, ⟨C0, C1, C2, C3, C4, C5, C6⟩, ⟨%W, HO⟩⟩
  iapply (keep m c (S := cc0_scratch2.sem) rfl (slotAt_congr (n := 8) xM (off1 c) _ _ _) (slotAt_congr (n := 8) oM (off1 c) _ _ _)) $$ [Hk]
  · isplitr; · iexact HK
    iexact Hk
  iintro Ch
  iapply (send m c 0 (dev1 c) rfl rfl (slotAt_congr (n := 8) xM (off2 c) _ _ _) (slotAt_congr (n := 8) oM (off1 c) _ _ _) rfl) $$ [G0 HO]
  · isplitr; · iexact HK
    isplitl [G0]; · iexact G0
    iexact HO
  iintro ⟨D0, HO⟩
  iapply (send m c 1 (dev2 c) rfl rfl (slotAt_congr (n := 8) xM (off3 c) _ _ _) (slotAt_congr (n := 8) oM (off1 c) _ _ _) rfl) $$ [G1 HO]
  · isplitr; · iexact HK
    isplitl [G1]; · iexact G1
    iexact HO
  iintro ⟨D1, HO⟩
  iapply (send m c 2 (dev3 c) rfl rfl (slotAt_congr (n := 8) xM (off4 c) _ _ _) (slotAt_congr (n := 8) oM (off1 c) _ _ _) rfl) $$ [G2 HO]
  · isplitr; · iexact HK
    isplitl [G2]; · iexact G2
    iexact HO
  iintro ⟨D2, HO⟩
  iapply (send m c 3 (dev4 c) rfl rfl (slotAt_congr (n := 8) xM (off5 c) _ _ _) (slotAt_congr (n := 8) oM (off1 c) _ _ _) rfl) $$ [G3 HO]
  · isplitr; · iexact HK
    isplitl [G3]; · iexact G3
    iexact HO
  iintro ⟨D3, HO⟩
  iapply (send m c 4 (dev5 c) rfl rfl (slotAt_congr (n := 8) xM (off6 c) _ _ _) (slotAt_congr (n := 8) oM (off1 c) _ _ _) rfl) $$ [G4 HO]
  · isplitr; · iexact HK
    isplitl [G4]; · iexact G4
    iexact HO
  iintro ⟨D4, HO⟩
  iapply (send m c 5 (dev6 c) rfl rfl (slotAt_congr (n := 8) xM (off7 c) _ _ _) (slotAt_congr (n := 8) oM (off1 c) _ _ _) rfl) $$ [G5 HO]
  · isplitr; · iexact HK
    isplitl [G5]; · iexact G5
    iexact HO
  iintro ⟨D5, HO⟩
  iapply (send m c 6 (dev7 c) rfl rfl (slotAt_congr (n := 8) xM (off8 c) _ _ _) (slotAt_congr (n := 8) oM (off1 c) _ _ _) rfl) $$ [G6 HO]
  · isplitr; · iexact HK
    isplitl [G6]; · iexact G6
    iexact HO
  iintro ⟨D6, HO⟩
  ihave HO := (show owes (c : Thread nD τ) (0 : CellTallies nD τ sig Unit) W ⊢ (iprop(∃ W, owes (c : Thread nD τ) (0 : CellTallies nD τ sig Unit) W) : sProp 𝕄) from by
    iintro H; iexists W; iexact H) $$ HO
  iapply (take m c (snd 0) rfl rfl) $$ [D0 HO As0]
  · isplitr; · iexact HK
    isplitl [D0]; · iexact D0
    isplitl [HO]; · iexact HO
    iexact As0
  iintro ⟨HO, P0⟩
  iapply (take m c (rcv 0) rfl rfl) $$ [C0 HO Ar0]
  · isplitr; · iexact HK
    isplitl [C0]; · iexact C0
    isplitl [HO]; · iexact HO
    iexact Ar0
  iintro ⟨HO, R0⟩
  iapply (take m c (snd 1) rfl rfl) $$ [D1 HO As1]
  · isplitr; · iexact HK
    isplitl [D1]; · iexact D1
    isplitl [HO]; · iexact HO
    iexact As1
  iintro ⟨HO, P1⟩
  iapply (take m c (rcv 1) rfl rfl) $$ [C1 HO Ar1]
  · isplitr; · iexact HK
    isplitl [C1]; · iexact C1
    isplitl [HO]; · iexact HO
    iexact Ar1
  iintro ⟨HO, R1⟩
  iapply (take m c (snd 2) rfl rfl) $$ [D2 HO As2]
  · isplitr; · iexact HK
    isplitl [D2]; · iexact D2
    isplitl [HO]; · iexact HO
    iexact As2
  iintro ⟨HO, P2⟩
  iapply (take m c (rcv 2) rfl rfl) $$ [C2 HO Ar2]
  · isplitr; · iexact HK
    isplitl [C2]; · iexact C2
    isplitl [HO]; · iexact HO
    iexact Ar2
  iintro ⟨HO, R2⟩
  iapply (take m c (snd 3) rfl rfl) $$ [D3 HO As3]
  · isplitr; · iexact HK
    isplitl [D3]; · iexact D3
    isplitl [HO]; · iexact HO
    iexact As3
  iintro ⟨HO, P3⟩
  iapply (take m c (rcv 3) rfl rfl) $$ [C3 HO Ar3]
  · isplitr; · iexact HK
    isplitl [C3]; · iexact C3
    isplitl [HO]; · iexact HO
    iexact Ar3
  iintro ⟨HO, R3⟩
  iapply (take m c (snd 4) rfl rfl) $$ [D4 HO As4]
  · isplitr; · iexact HK
    isplitl [D4]; · iexact D4
    isplitl [HO]; · iexact HO
    iexact As4
  iintro ⟨HO, P4⟩
  iapply (take m c (rcv 4) rfl rfl) $$ [C4 HO Ar4]
  · isplitr; · iexact HK
    isplitl [C4]; · iexact C4
    isplitl [HO]; · iexact HO
    iexact Ar4
  iintro ⟨HO, R4⟩
  iapply (take m c (snd 5) rfl rfl) $$ [D5 HO As5]
  · isplitr; · iexact HK
    isplitl [D5]; · iexact D5
    isplitl [HO]; · iexact HO
    iexact As5
  iintro ⟨HO, P5⟩
  iapply (take m c (rcv 5) rfl rfl) $$ [C5 HO Ar5]
  · isplitr; · iexact HK
    isplitl [C5]; · iexact C5
    isplitl [HO]; · iexact HO
    iexact Ar5
  iintro ⟨HO, R5⟩
  iapply (take m c (snd 6) rfl rfl) $$ [D6 HO As6]
  · isplitr; · iexact HK
    isplitl [D6]; · iexact D6
    isplitl [HO]; · iexact HO
    iexact As6
  iintro ⟨HO, P6⟩
  iapply (take m c (rcv 6) rfl rfl) $$ [C6 HO Ar6]
  · isplitr; · iexact HK
    isplitl [C6]; · iexact C6
    isplitl [HO]; · iexact HO
    iexact Ar6
  iintro ⟨HO, R6⟩
  iapply (take m c (home) rfl rfl) $$ [Ch HO Ha]
  · isplitr; · iexact HK
    isplitl [Ch]; · iexact Ch
    isplitl [HO]; · iexact HO
    iexact Ha
  iintro ⟨HO, Ph⟩
  rw [wp_ret]
  imodintro
  isplitr [HO]
  · isplitl [Ph]; · iexact Ph
    isplitl [P0 P1 P2 P3 P4 P5 P6]
    · isplitl [P0]; · iexact P0
      isplitl [P1]; · iexact P1
      isplitl [P2]; · iexact P2
      isplitl [P3]; · iexact P3
      isplitl [P4]; · iexact P4
      isplitl [P5]; · iexact P5
      iexact P6
    · isplitl [R0]; · iexact R0
      isplitl [R1]; · iexact R1
      isplitl [R2]; · iexact R2
      isplitl [R3]; · iexact R3
      isplitl [R4]; · iexact R4
      isplitl [R5]; · iexact R5
      iexact R6
  · iexact HO

end Cert.SwapMod

end
-- ==== Proof.SwapModRun.lean ====
/-
# The exchange, run and read

The launch of the exchange, for any float values: every weakly fair run from any memory with every
counter at zero terminates, the argument is unchanged, every counter is at zero again, and place `j`
of device `c`'s result holds what device `j` had for `c`.
-/
module

public import proofs.«01_k».proof.Proof.SwapMod

@[expose] public section

set_option Elab.async false

noncomputable section

namespace Cert.SwapMod

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation pinD)
open Cert.ExchangeModIdeal Cert.ExchangeModIdeal.Gen Cert.Peers Cert.Slots

variable {F : FTy → Type} [FloatOps F]

local notation "𝕄" => MT nD τ sig Unit (Elt F) ℕ (Gh nD τ sig) ℕ

variable (m : (ℓ : Loc nD τ sig) → Buf (Elt F) ℓ) (ρ : Dev nD → PrngReg)

/-! ## Dealing the buffers -/

/-- A device's share of the buffers: its own copy's ends, and for each send the matrix and the place it goes to. -/
def bufs (c : Dev nD) : sProp 𝕄 :=
  iprop((xPts m c c ∗ oPts c c (m ((c : Thread nD τ).loc main_v1)))
    ∗ bigSep Finset.univ fun k : Fin 7 => iprop(xPts m c (tgt k c) ∗ oPts (tgt k c) c (m ((tgt k c : Thread nD τ).loc main_v1))))

theorem unscoped_eq (c : Dev nD) (V : (b : Ref sig .tc) → Buf (Elt F) ((c : Thread nD τ).loc b)) :
    (unscopedBufs c V : sProp 𝕄) = iprop(emp ∗ (((c : Thread nD τ).loc main_arg0) ↦{fullShare} V main_arg0) ∗ (((c : Thread nD τ).loc main_v1) ↦{fullShare} V main_v1)) := by
  refine (Pipeline.unscopedBufs_split cfgs (0 : Fin 1) (fun w => w.elim0) (fun w => w.elim0) c V).trans ?_
  rw [show (Pipeline.unscopedRest (cfgs 0).spec c V : sProp 𝕄) = _ from unscopedRest0_eq c V, show (Finset.univ : Finset (Fin (cfgs 0).W)) = ∅ from rfl, bigSep_empty]
  rfl

/-- The places, handed to the devices that fill them. -/
theorem places : (bigSep Finset.univ fun c : Dev nD => bigSep Finset.univ fun k : Fin 7 => (oPts c (tgt k c) (m ((c : Thread nD τ).loc main_v1)) : sProp 𝕄))
    = bigSep Finset.univ fun c : Dev nD => bigSep Finset.univ fun k : Fin 7 => oPts (tgt k c) c (m ((tgt k c : Thread nD τ).loc main_v1)) := by
  refine ((plan m).around fun c k => oPts c (tgt k c) (m ((c : Thread nD τ).loc main_v1))).trans (bigSep_congr fun c _ => bigSep_congr fun k _ => ?_)
  show oPts (tgt k c) (tgt k (tgt k c)) _ = _
  rw [tgt_tgt]
  rfl

theorem deal : (bigSep Finset.univ fun c : Dev nD => unscopedBufs c (fun b => m ((c : Thread nD τ).loc b)) : sProp 𝕄)
    ⊢ bigSep Finset.univ (bufs m) := by
  have h (c : Dev nD) : (unscopedBufs c (fun b => m ((c : Thread nD τ).loc b)) : sProp 𝕄)
      ⊢ iprop((xPts m c c ∗ oPts c c (m ((c : Thread nD τ).loc main_v1)))
        ∗ (bigSep Finset.univ fun k : Fin 7 => xPts m c (tgt k c)) ∗ bigSep Finset.univ fun k : Fin 7 => oPts c (tgt k c) (m ((c : Thread nD τ).loc main_v1))) := by
    rw [unscoped_eq, arg_split, res_split, devices_from c, devices_from c]
    iintro ⟨-, ⟨H1, H2⟩, H3, H4⟩
    isplitl [H1 H3]
    · isplitl [H1] <;> iassumption
    · isplitl [H2] <;> iassumption
  have e : (bigSep Finset.univ fun c : Dev nD => iprop((xPts m c c ∗ oPts c c (m ((c : Thread nD τ).loc main_v1)))
        ∗ (bigSep Finset.univ fun k : Fin 7 => xPts m c (tgt k c)) ∗ bigSep Finset.univ fun k : Fin 7 => oPts c (tgt k c) (m ((c : Thread nD τ).loc main_v1))) : sProp 𝕄)
      = bigSep Finset.univ (bufs m) := by
    unfold bufs
    simp only [bigSep_sep']
    rw [places]
  rw [← e]
  exact bigSep_mono fun c _ => h c

/-! ## The region -/

/-- What a device's region leaves: its argument, unchanged, and its result. -/
def done (c : Dev nD) : sProp 𝕄 :=
  iprop((((c : Thread nD τ).loc main_arg0) ↦{fullShare} m ((c : Thread nD τ).loc main_arg0)) ∗ (((c : Thread nD τ).loc main_v1) ↦{fullShare} result m c))

/-- No wait needs a level: every send comes before every wait. -/
abbrev L : GSem nD τ sig → Finset Unit := fun _ => ∅
abbrev lv : GSem nD τ sig → Unit → ℕ := fun _ _ => 0

def dats (_ : Fin 1) (c : Dev nD) : Dat τ (Elt F) Unit ℕ (Gh nD τ sig) ℕ cfg0 c where
  A w := w.elim0
  after w _ := w.elim0
  Φ t := match t with
    | ⟨0, _⟩ => (plan m).starts L lv (bufs m) c
    | ⟨_ + 1, _⟩ => iprop(done m c ∗ Pipeline.ownSems0 (plan m).osem c)
  q w := w.elim0
  owed t := match t with
    | ⟨0, _⟩ => (plan m).dues c
    | ⟨_ + 1, _⟩ => 0

theorem starts_body (c : Dev nD) : (plan m).starts L lv (bufs m) c
    ⊢ iprop(((plan m).allKnown) ∗ (bigSep Finset.univ fun k : Key => (plan m).at0 c k)
        ∗ (xPts m c c ∗ oPts c c (m ((c : Thread nD τ).loc main_v1)) ∗ (plan m).tok c home)
        ∗ (bigSep Finset.univ fun k : Fin 7 => go m c k)
        ∗ (bigSep Finset.univ fun k : Fin 7 => cred (tallyAt ((plan m).cell c (rcv k)) () (plan m).amt))) := by
  unfold Plan.starts bufs Plan.rights go
  simp only [bigSep_sep']
  iintro ⟨⟨HK, -⟩, Ha, ⟨Ht, Ht1, Ht2⟩, Hc, ⟨Hx, Ho⟩, Hxs, Hos⟩
  isplitl [HK]; · iexact HK
  isplitl [Ha]; · iexact Ha
  isplitl [Ht Hx Ho]
  · isplitl [Hx]; · iexact Hx
    isplitl [Ho]; · iexact Ho
    iexact Ht
  isplitr [Hc]
  · isplitl [Hxs]; · iexact Hxs
    isplitl [Hos]; · iexact Hos
    isplitl [Ht1]; · iexact Ht1
    iexact Ht2
  · iexact Hc

theorem body_done (c : Dev nD) :
    (bigSep Finset.univ fun k : Key => iprop(semVal ((plan m).cell c k) 0 ∗ (plan m).pay c k))
      ⊢ iprop(done m c ∗ Pipeline.ownSems0 (plan m).osem c) := by
  rw [bigSep_sep', Plan.split_keys (fun k => (plan m).pay c k)]
  unfold done
  rw [arg_split, res_split, devices_from c (fun j => xPts m c j), devices_from c (fun j => oPts c j (result m c))]
  iintro ⟨Hz, Hh, Hs, Hr⟩
  ihave Hh := (show (plan m).pay c home ⊢ iprop(oPts c c (result m c) ∗ xPts m c c) from .rfl) $$ Hh
  icases Hh with ⟨Ho, Hx⟩
  isplitr [Hz]
  · isplitl [Hx Hs]
    · isplitl [Hx]; · iexact Hx
      iexact Hs
    · isplitl [Ho]; · iexact Ho
      iexact Hr
  · iapply (show (bigSep Finset.univ fun k : Key => semVal ((plan m).cell c k) 0) ⊢ (Pipeline.ownSems0 (plan m).osem c : sProp 𝕄) from .rfl); iexact Hz

theorem body_obligation (c : Dev nD) : BodyObligation (dats m 0 c) (defs₀ (F := F)) 𝒱₀ () Set.univ := fun t => by
  rw [fin_N0 t]
  show iprop((plan m).starts L lv (bufs m) c ∗ (dats m 0 c).owesAt () (0 : Fin 2) ∗ _) ⊢ wp frame (wpE (defs₀ (F := F)) 𝒱₀ (c : Thread nD τ) none) Set.univ
    (cc0_exchange_mod (Memref.whole main_arg0) (Memref.isWhole_whole _) (Memref.whole main_v1) (Memref.isWhole_whole _) cc0_scratch0 cc0_scratch1 cc0_scratch2)
    (fun _ => iprop((done m c ∗ Pipeline.ownSems0 (plan m).osem c) ∗ (dats m 0 c).owesAt () (1 : Fin 2) ∗ _))
  refine (show _ ⊢ (_ : sProp 𝕄) from ?_).trans ((body m c).trans (wp_mono frame _ Set.univ fun _ => ?_))
  · iintro ⟨Hs, ⟨%W, -, HO⟩, -⟩
    ihave H := (starts_body m c) $$ Hs
    icases H with ⟨H1, H2, H3, H4, H5⟩
    isplitl [H1]; · iexact H1
    isplitl [H2]; · iexact H2
    isplitl [H3]; · iexact H3
    isplitl [H4]; · iexact H4
    isplitl [H5]; · iexact H5
    iexists W; iexact HO
  · iintro ⟨H, %W, HO⟩
    isplitl [H]
    · iapply (body_done m c); iexact H
    isplitl [HO]
    · iexists W
      isplitr; · ipureintro; exact fun _ _ => Or.inl trivial
      iexact HO
    · rw [Finset.univ_eq_empty, bigSep_empty]; iempintro

/-! ## The run -/

theorem ownSemFacts : Pipeline.OwnSemFacts cfg0.spec (plan (F := F) m).osem := by
  show Pipeline.OwnSemFacts cfg0.spec fun k => SemLoc.dma (semOf k)
  decide

/-- What a final memory shows of device `c`. -/
def QY (c : Dev nD) (s : MemSt nD τ sig (Elt F)) : Prop :=
  s.mem ((c : Thread nD τ).loc main_v1) = result m c ∧ s.mem ((c : Thread nD τ).loc main_arg0) = m ((c : Thread nD τ).loc main_arg0)

theorem read_done (c : Dev nD) (s' : Phys nD τ sig (Elt F)) : iprop(done m c ∗ SI s') ⊢ |={Set.univ}=> iprop(⌜QY m c s'.mem⌝ ∗ (SI s' : sProp 𝕄)) := by
  unfold done
  iintro ⟨⟨Ha, Hr⟩, HS⟩
  ihave H := (pointsTo_read_all (Finset.univ : Finset Unit) (fun _ => (c : Thread nD τ).loc main_arg0) (fun _ => m ((c : Thread nD τ).loc main_arg0)) s') $$ [Ha HS]
  · isplitl [Ha]
    · iapply (Entails.of_eq (BI.bigSep_singleton (Φ := fun _ : Unit => (((c : Thread nD τ).loc main_arg0) ↦{fullShare} m ((c : Thread nD τ).loc main_arg0) : sProp 𝕄)) (i := ())).symm); iexact Ha
    · iexact HS
  icases H with ⟨%h1, HS⟩
  ihave H := (pointsTo_read_all (Finset.univ : Finset Unit) (fun _ => (c : Thread nD τ).loc main_v1) (fun _ => result m c) s') $$ [Hr HS]
  · isplitl [Hr]
    · iapply (Entails.of_eq (BI.bigSep_singleton (Φ := fun _ : Unit => (((c : Thread nD τ).loc main_v1) ↦{fullShare} result m c : sProp 𝕄)) (i := ())).symm); iexact Hr
    · iexact HS
  icases H with ⟨%h2, HS⟩
  imodintro
  isplitr
  · ipureintro; exact ⟨h2 () (Finset.mem_univ _), h1 () (Finset.mem_univ _)⟩
  · iexact HS

set_option maxRecDepth 8000 in
/-- The run, read. -/
theorem run_main : θ_run defs (onTc (τ := τ) (main (F := F))) ⟨m, fun _ => 0, ρ⟩
    (fun r => (∀ c : Dev nD, QY m c r.2) ∧ r.2.sem = fun _ => 0) :=
  Joint.run_joint (fun p => (cfgs p).toPCfg) (fun _ p => (cfgs p).toPCfg_adm) cellOf_inj EP defs₀ 𝒱₀ m ρ main L lv (fun _ _ => rfl)
    (plan m).dues (plan m).G
    (Rounds.initOf (Pipeline.cells cfgs cellOf_inj) (Pipeline.launchToks cfgs cellOf_inj), Rounds.initOf (plan m).cells (plan m).toks)
    (by
      iintro Hu
      ihave H := (ownU_pair _ _) $$ Hu
      icases H with ⟨HP, HX⟩
      imod ((plan m).fund) $$ HX with HG
      imodintro
      isplitl [HP] <;> iassumption)
    ((plan m).before (fun p => (cfgs p).toPCfg) (fun _ p => (cfgs p).toPCfg_adm) cellOf_inj (r := (0 : Fin 1)) (ownSemFacts m) L lv (bufs m))
    (done m)
    ((plan m).regroup (fun p => (cfgs p).toPCfg) (fun _ p => (cfgs p).toPCfg_adm) cellOf_inj (r := (0 : Fin 1)) (ownSemFacts m) winFacts0.to₀ m ρ L lv (bufs m) (deal m))
    (fun c => by
      have h := (plan m).wp_region (fun p => (cfgs p).toPCfg) (fun _ p => (cfgs p).toPCfg_adm) cellOf_inj defs₀ 𝒱₀ (r := (0 : Fin 1)) (ownSemFacts m) winFacts0.to₀
        stage_whole0 (dats m) (inferInstanceAs (IsEmpty (Fin 0))) (inferInstanceAs (IsEmpty (Fin 0))) L lv (bufs m) (done m) c (body_obligation m c).loose rfl rfl
        (sep_elim_left) (by
          show iprop(done m c ∗ Pipeline.ownSems0 (plan m).osem c) ⊢ _
          rw [show (Pipeline.scopedRest _ c : sProp 𝕄) = _ from scopedRest0_eq c]
          iintro ⟨H1, H2⟩
          isplitl [H1]; · iexact H1
          isplitl [H2]; · iexact H2
          iempintro)
        (α := PUnit) (fun _ => .ret PUnit.unit) (fun _ => iprop((done m c ∗ boundary (c : Thread nD τ)) ∗ ∃ W, owes (c : Thread nD τ) (0 : CellTallies nD τ sig Unit) W))
      refine (show _ ⊢ (_ : sProp 𝕄) from ?_).trans h
      iintro H
      isplitl [H]; · iexact H
      iintro ⟨Hb, Hd, HO, -⟩
      rw [wp_ret]
      imodintro
      isplitr [HO]
      · isplitl [Hd] <;> iassumption
      · iexact HO)
    (QY m) (read_done m) (fun s h hs => show _ ∧ _ from ⟨h, sem_eq_zero_of_scoped (by decide) hs⟩)

end Cert.SwapMod

end
-- ==== Proof.SwapModValue.lean ====
/-
  The exchange against a plain reshape.

  The whole batch-cut array has 64 slabs; device `j` holds slabs `8 j … 8 j + 7`.  The reference lays the 64 slabs out as
  8 rows of 8 slabs each.  Column block `c` of that layout is, in row `j`, slab `8 j + c`: slab `c` of device `j`, which
  is what the exchange leaves in place `j` of device `c`.
-/
module

public import proofs.«01_k».proof.Proof.SwapModRun
public import proofs.«01_k».proof.Proof.Gen.ExchangeModRefIdeal
public import proofs.«01_k».proof.Proof.Gen.ExchangeModRefIdeal.Run
public import proofs.«01_k».proof.Proof.Gen.ExchangeModRef
public import proofs.«01_k».proof.Proof.Gen.ExchangeModRef.Run
public import proofs.«01_k».proof.Proof.Gen.ExchangeMod
public import proofs.«01_k».proof.Defs
public import Idealize.ShloMosaic.Lib.Layout
public import Idealize.ShloMosaic.Lib.Pipeline.Value

@[expose] public section

set_option Elab.async false

noncomputable section

namespace Cert.SwapMod

open Cert.ExchangeModIdeal Cert.ExchangeModIdeal.Gen
open Idealize.ShloMosaic
open Idealize.ShloMosaic.TcCoe
open Idealize.SL.Sem

/-- Slab `c` of block `j` of the 64 slabs is what row `j` of the reshaped array has in its column block `c`. -/
theorem slab_column {α : Type} (X : (⟨3, ![64, 32, 128]⟩ : Shape).Idx → α)
    (h : (⟨3, ![64, 32, 128]⟩ : Shape).ShapeCasts ⟨3, ![8, 256, 128]⟩)
    (hi : Layout.Tiles ⟨3, ![8, 32, 128]⟩ ⟨3, ![64, 32, 128]⟩ 0 8) (ho : Layout.Tiles ⟨3, ![8, 32, 128]⟩ ⟨3, ![8, 256, 128]⟩ 1 8)
    (c : Fin 8) (i : (⟨3, ![8, 32, 128]⟩ : Shape).Idx) :
    Layout.block ⟨3, ![8, 32, 128]⟩ ⟨3, ![64, 32, 128]⟩ 0 8 (i (0 : Fin 3)) X hi
        (Slots.inSlot (n := 8) (r := 32) (l := 128) c fun a => i a.succ)
      = Layout.block ⟨3, ![8, 32, 128]⟩ ⟨3, ![8, 256, 128]⟩ 1 8 c (shapeCast ⟨3, ![8, 256, 128]⟩ X h) ho i := by
  refine (shapeCast_apply X h _ _ ?_).symm
  rw [Shape.rowMajor_val_three, Shape.rowMajor_val_three]
  simp only [Layout.Tiles.idx_val]
  show (((i (0 : Fin 3)).val * 8 + c.val) * 32 + (i (1 : Fin 3)).val) * 128 + (i (2 : Fin 3)).val
    = ((i (0 : Fin 3)).val * 256 + (c.val * 32 + (i (1 : Fin 3)).val)) * 128 + (i (2 : Fin 3)).val
  omega

variable {F : FTy → Type} [FloatOps F]

/-- The exchange and the reshape, over any float values. -/
theorem meets (m : (ℓ : Loc nD τ sig) → Buf (Elt F) ℓ) (ρ : Dev nD → PrngReg)
    (X : (⟨3, ![64, 32, 128]⟩ : Shape).Idx → Elt F .f32) (h : (⟨3, ![64, 32, 128]⟩ : Shape).ShapeCasts ⟨3, ![8, 256, 128]⟩)
    (hX : ∀ c : Dev nD, m ((c : Thread nD τ).loc main_arg0) = Layout.block ⟨3, ![8, 32, 128]⟩ ⟨3, ![64, 32, 128]⟩ 0 8 c X) :
    θ_run (defs (F := F)) (onTc (τ := τ) (main (F := F))) ⟨m, fun _ => 0, ρ⟩ fun r => ∀ c : Dev nD,
      r.2.mem ((c : Thread nD τ).loc main_v1) = Layout.block ⟨3, ![8, 32, 128]⟩ ⟨3, ![8, 256, 128]⟩ 1 8 c (shapeCast ⟨3, ![8, 256, 128]⟩ X h)
      ∧ r.2.mem ((c : Thread nD τ).loc main_arg0) = m ((c : Thread nD τ).loc main_arg0) := by
  refine (θ_run defs _ _).mono (fun r hr c => ⟨((hr.1 c).1).trans (funext fun i => ?_), (hr.1 c).2⟩) (run_main (F := F) m ρ)
  exact (congrFun (hX (show Dev nD from i (0 : Fin 3))) _).trans (slab_column X h _ _ c i)

/-! ## The claims -/

theorem frame_exchangeMod : Cert.quiescent_ExchangeMod := fun m ρ _ =>
  (θ_run Cert.ExchangeModIdeal.defs _ _).mono (fun _ h => ⟨fun c => (h.1 c).2, h.2⟩) (run_main (F := Bits) m ρ)

theorem frame_exchangeModIdeal : Cert.quiescent_ExchangeModIdeal := fun m ρ _ =>
  (θ_run Cert.ExchangeModIdeal.defs _ _).mono (fun _ h => ⟨fun c => (h.1 c).2, h.2⟩) (run_main (F := Ideal) m ρ)

theorem frame_exchangeModRef : Cert.quiescent_ExchangeModRef := fun m ρ _ =>
  (θ_run Cert.ExchangeModRef.defs _ _).mono (fun r h => ⟨fun c => (h c).2, sem_eq_zero_of_no_sems (by decide) r.2⟩)
    (Cert.ExchangeModRef.Value.run (F := Bits) m ρ)

theorem frame_exchangeModRefIdeal : Cert.quiescent_ExchangeModRefIdeal := fun m ρ _ =>
  (θ_run Cert.ExchangeModRefIdeal.defs _ _).mono (fun r h => ⟨fun c => (h c).2, sem_eq_zero_of_no_sems (by decide) r.2⟩)
    (Cert.ExchangeModRefIdeal.Value.run (F := Ideal) m ρ)

theorem exchangeMod_algebraic : Cert.algebraic_ExchangeModIdeal_ExchangeModRefIdeal := fun m ρ m' ρ' _ hX =>
  ⟨_, meets (F := Ideal) m ρ _ Cert.ExchangeModRefIdeal.Gen.shapeCasts_S64x32x128_S8x256x128 hX,
    (θ_run Cert.ExchangeModRefIdeal.defs _ _).mono (fun _ h => h 0) (Cert.ExchangeModRefIdeal.Value.run (F := Ideal) m' ρ')⟩

theorem exchangeMod_bitexact : Cert.bitexact_ExchangeMod_ExchangeModRef := fun m ρ m' ρ' _ hX =>
  ⟨_, meets (F := Bits) m ρ _ Cert.ExchangeModRef.Gen.shapeCasts_S64x32x128_S8x256x128 hX,
    (θ_run Cert.ExchangeModRef.defs _ _).mono (fun _ h => h 0) (Cert.ExchangeModRef.Value.run (F := Bits) m' ρ')⟩

end Cert.SwapMod

end
-- ==== Proof.SpreadSmall.lean ====
/-
# The gathering of the small arguments

Every device holds one matrix, and in the end every device holds all eight, device `j`'s in place `j`. Device `c` copies
its own matrix into its own place `c`, sends it to its sibling on the same chip and to the three devices with its core
number on the other chips. What those three sent it, it passes on to its sibling as it comes in. So the `k`-th send of `c`
goes to device `tgt k c` and carries the matrix of device `blk k c`.

The body is run once, at a device `c` and for any float values.
-/
module

public import proofs.«01_k».proof.Proof.Deal
public import proofs.«01_k».proof.Proof.Slots
public import proofs.«01_k».proof.Proof.Gen.GatherSmallIdeal
public import proofs.«01_k».proof.Proof.Gen.GatherSmallIdeal.Launch
public import proofs.«01_k».proof.Proof.Gen.GatherSmallIdeal.Skeleton
public import Idealize.ShloMosaic.Lib.Transfers

@[expose] public section

set_option Elab.async false

noncomputable section

namespace Cert.SpreadSmall

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.GatherSmallIdeal Cert.GatherSmallIdeal.Gen Cert.Peers Cert.Slots

variable {F : FTy → Type} [FloatOps F]

local notation "𝕄" => MT nD τ sig Unit (Elt F) ℕ (Gh nD τ sig) ℕ

/-! ## Who sends what to whom -/

/-- The device as many places away on the mesh's axes as `b`'s digits say. -/
def away (b : ℕ) (c : Dev nD) : Dev nD := ⟨(c.val ^^^ b) % 8, Nat.mod_lt _ (by decide)⟩

/-- Whom the `k`-th send goes to: the sibling, the same core of the three other chips, the sibling three times. -/
def tgt (k : Fin 7) (c : Dev nD) : Dev nD := away (match k with | 0 => 1 | 1 => 4 | 2 => 2 | 3 => 6 | _ => 1) c
/-- Whose matrix it carries: the device's own four times, then those of the three other chips. -/
def blk (k : Fin 7) (c : Dev nD) : Dev nD := away (match k with | 4 => 4 | 5 => 2 | 6 => 6 | _ => 0) c
/-- Whose matrix the `k`-th receipt brings. -/
def got (k : Fin 7) (c : Dev nD) : Dev nD := away (match k with | 0 => 1 | 1 => 4 | 2 => 2 | 3 => 6 | 4 => 5 | 5 => 3 | 6 => 7) c

theorem tgt_tgt (k : Fin 7) (c : Dev nD) : tgt k (tgt k c) = c := by revert k c; decide
theorem got_tgt (k : Fin 7) (c : Dev nD) : got k (tgt k c) = blk k c := by revert k c; decide

theorem got_inj (c : Dev nD) : Function.Injective fun k => got k c := fun a b h => by revert c a b; decide
theorem erase_self (c : Dev nD) : (Finset.univ : Finset (Dev nD)).erase c = Finset.univ.map ⟨fun k => got k c, got_inj c⟩ := by
  rw [Finset.map_eq_image]; revert c; decide

/-- A family over the devices: `c`'s own, and those of the devices whose matrices it receives. -/
theorem devices_from (c : Dev nD) (Φ : Dev nD → sProp 𝕄) :
    bigSep Finset.univ Φ = iprop(Φ c ∗ bigSep Finset.univ fun k => Φ (got k c)) := by
  rw [bigSep_erase (Finset.mem_univ c), erase_self c, bigSep_map]
  rfl

/-- The kernel's computed devices and offsets. -/
theorem dev1 (c : Dev nD) : (⟨k0_dev1 c, k0_dev1_lt c⟩ : Dev nD) = tgt 0 c := by revert c; decide
theorem dev2 (c : Dev nD) : (⟨k0_dev2 c, k0_dev2_lt c⟩ : Dev nD) = tgt 1 c := by revert c; decide
theorem dev3 (c : Dev nD) : (⟨k0_dev3 c, k0_dev3_lt c⟩ : Dev nD) = tgt 2 c := by revert c; decide
theorem dev4 (c : Dev nD) : (⟨k0_dev4 c, k0_dev4_lt c⟩ : Dev nD) = tgt 3 c := by revert c; decide
theorem dev5 (c : Dev nD) : (⟨k0_dev5 c, k0_dev5_lt c⟩ : Dev nD) = tgt 4 c := by revert c; decide
theorem dev6 (c : Dev nD) : (⟨k0_dev6 c, k0_dev6_lt c⟩ : Dev nD) = tgt 5 c := by revert c; decide
theorem dev7 (c : Dev nD) : (⟨k0_dev7 c, k0_dev7_lt c⟩ : Dev nD) = tgt 6 c := by revert c; decide
theorem off1 (c : Dev nD) : k0_off1 c = ![c.val, 0, 0] := by revert c; decide
theorem self_0 (c : Dev nD) : blk 0 c = c := by revert c; decide
theorem self_1 (c : Dev nD) : blk 1 c = c := by revert c; decide
theorem self_2 (c : Dev nD) : blk 2 c = c := by revert c; decide
theorem self_3 (c : Dev nD) : blk 3 c = c := by revert c; decide
theorem own0 (c : Dev nD) : k0_off1 c = ![(blk 0 c).val, 0, 0] := by revert c; decide
theorem own1 (c : Dev nD) : k0_off1 c = ![(blk 1 c).val, 0, 0] := by revert c; decide
theorem own2 (c : Dev nD) : k0_off1 c = ![(blk 2 c).val, 0, 0] := by revert c; decide
theorem own3 (c : Dev nD) : k0_off1 c = ![(blk 3 c).val, 0, 0] := by revert c; decide
theorem off2 (c : Dev nD) : k0_off2 c = ![(blk 4 c).val, 0, 0] := by revert c; decide
theorem off3 (c : Dev nD) : k0_off3 c = ![(blk 5 c).val, 0, 0] := by revert c; decide
theorem off4 (c : Dev nD) : k0_off4 c = ![(blk 6 c).val, 0, 0] := by revert c; decide

/-! ## The matrices -/

abbrev xM : Memref sig .tc .hbm S48x128 .f32 := Memref.whole main_arg0
abbrev oM : Memref sig .tc .hbm S8x48x128 .f32 := Memref.whole main_v1
/-- Place `j` of the result. -/
abbrev os (j : Dev nD) : Memref sig .tc .hbm S48x128 .f32 := slot (n := 8) oM squeezes_S1x48x128_S48x128 j

variable (m : (ℓ : Loc nD τ sig) → Buf (Elt F) ℓ)

/-- What every device ends with: in place `j`, what device `j` had. -/
def result (c : Dev nD) : Buf (Elt F) ((c : Thread nD τ).loc main_v1) := fun i =>
  let j : Dev nD := i (0 : Fin 3)
  m ((j : Thread nD τ).loc main_arg0) fun a => i a.succ

/-- A part `q` of the right to read device `d`'s argument, -/
def xPts (d : Dev nD) (q : PosShare TreeShare) : sProp 𝕄 := xM.view.loc (d : Thread nD τ) ↦[xM.view.set]{q} m ((d : Thread nD τ).loc main_arg0)
/-- and place `j` of device `d`'s result, holding `f`. -/
def oPts (d j : Dev nD) (f : Buf (Elt F) ((d : Thread nD τ).loc main_v1)) : sProp 𝕄 := (os j).view.loc (d : Thread nD τ) ↦[(os j).view.set]{fullShare} f

instance xPts_storable (d : Dev nD) (q) : BI.Storable (upEmb : UEmb _ 𝕄) (xPts (F := F) m d q) := by unfold xPts; infer_instance
instance oPts_storable (d j : Dev nD) (f) : BI.Storable (upEmb : UEmb _ 𝕄) (oPts (F := F) d j f) := by unfold oPts; infer_instance

/-- The parts the argument is read under: one for the copy, one for each of the four sends that read it. -/
abbrev qKeep : PosShare TreeShare := Transfers.shareDrop fullShare 4
abbrev qSend (k : Fin 4) : PosShare TreeShare := Transfers.shareTok fullShare 4 k

theorem arg_split (d : Dev nD) : (((d : Thread nD τ).loc main_arg0) ↦{fullShare} m ((d : Thread nD τ).loc main_arg0) : sProp 𝕄)
    = iprop(xPts m d qKeep ∗ xPts m d (qSend 0) ∗ xPts m d (qSend 1) ∗ xPts m d (qSend 2) ∗ xPts m d (qSend 3)) := by
  refine (BI.Entails.antisymm (Transfers.pointsTo_toks fullShare 4).1 (Transfers.pointsTo_toks fullShare 4).2).trans ?_
  rw [bigSep_univ_eq_bigSepL [0, 1, 2, 3] (by decide) (by decide)]
  unfold xPts
  simp only [View.set_whole]
  rfl
theorem res_split (d : Dev nD) (f : Buf (Elt F) ((d : Thread nD τ).loc main_v1)) : (((d : Thread nD τ).loc main_v1) ↦{fullShare} f : sProp 𝕄)
    = bigSep Finset.univ fun j => oPts d j f := by
  have h := held_slots (Ix := Unit) (Val := Elt F) (Name := ℕ) (U := Gh nD τ sig) (Lvl := ℕ) (n := 8) (d : Thread nD τ) oM squeezes_S1x48x128_S48x128 fullShare f
  rw [View.set_whole] at h
  exact h

/-- What device `b`'s argument holds, written into place `b` of device `d`. -/
theorem landed (b d : Dev nD) (fd : Buf (Elt F) ((os b).view.loc (d : Thread nD τ))) (w : (⟨2, ![48, 128]⟩ : Shape).Idx → Elt F .f32)
    (h : w = m ((b : Thread nD τ).loc main_arg0)) :
    ((os b).view.loc (d : Thread nD τ) ↦[(os b).view.set]{fullShare} ((os b).view.write (Elt F) fd w Finset.univ) : sProp 𝕄)
      = oPts d b (result m d) := by
  subst h
  exact slot_written (n := 8) (d : Thread nD τ) oM squeezes_S1x48x128_S48x128 b fullShare fd (result m d) _ fun i => rfl

/-- The argument read, -/
theorem read_own (c : Dev nD) : xM.view.read (Elt F) (m ((c : Thread nD τ).loc main_arg0)) = m ((c : Thread nD τ).loc main_arg0) := rfl
/-- and a place already filled. -/
theorem read_got (c b : Dev nD) : (os b).view.read (Elt F) (result m c) = m ((b : Thread nD τ).loc main_arg0) :=
  funext fun i => (slot_read (n := 8) oM squeezes_S1x48x128_S48x128 b (result m c) i).trans rfl

/-! ## The plan -/

/-- The semaphores: the sends', the receipts', the copy's. -/
def semOf : Key → DmaSem sig
  | .inr (.inl k) => ⟨k.val, by have := k.isLt; show k.val < 15; omega⟩
  | .inr (.inr k) => ⟨7 + k.val, by have := k.isLt; show 7 + k.val < 15; omega⟩
  | .inl _ => ⟨14, by decide⟩

theorem semOf_inj : Function.Injective semOf := fun a b h => by revert a b; decide

/-- What the `k`-th send reads. -/
def lent (c : Dev nD) : Fin 7 → sProp 𝕄
  | 0 => xPts m c (qSend 0)
  | 1 => xPts m c (qSend 1)
  | 2 => xPts m c (qSend 2)
  | 3 => xPts m c (qSend 3)
  | 4 => oPts c (blk 4 c) (result m c)
  | 5 => oPts c (blk 5 c) (result m c)
  | 6 => oPts c (blk 6 c) (result m c)

theorem lent_pass_4 (c : Dev nD) : ((os (blk 4 c)).view.loc (c : Thread nD τ) ↦[(os (blk 4 c)).view.set]{fullShare} result m c : sProp 𝕄) = lent m c 4 := rfl
theorem lent_pass_5 (c : Dev nD) : ((os (blk 5 c)).view.loc (c : Thread nD τ) ↦[(os (blk 5 c)).view.set]{fullShare} result m c : sProp 𝕄) = lent m c 5 := rfl
theorem lent_pass_6 (c : Dev nD) : ((os (blk 6 c)).view.loc (c : Thread nD τ) ↦[(os (blk 6 c)).view.set]{fullShare} result m c : sProp 𝕄) = lent m c 6 := rfl

instance lent_storable (c : Dev nD) : (k : Fin 7) → BI.Storable (upEmb : UEmb _ 𝕄) (lent (F := F) m c k)
  | 0 => xPts_storable m c _
  | 1 => xPts_storable m c _
  | 2 => xPts_storable m c _
  | 3 => xPts_storable m c _
  | 4 => oPts_storable c _ _
  | 5 => oPts_storable c _ _
  | 6 => oPts_storable c _ _

/-- What each transfer hands to the device that waits for it: the copy, both its ends; a send, what it read; a
    receipt, the place filled. -/
def pay (c : Dev nD) : Key → sProp 𝕄
  | .inl _ => iprop(oPts c c (result m c) ∗ xPts m c qKeep)
  | .inr (.inl k) => lent m c k
  | .inr (.inr k) => oPts c (got k c) (result m c)

instance pay_storable (c : Dev nD) : (k : Key) → BI.Storable (upEmb : UEmb _ 𝕄) (pay (F := F) m c k)
  | .inl _ => by unfold pay; infer_instance
  | .inr (.inl k) => by unfold pay; infer_instance
  | .inr (.inr k) => by unfold pay; infer_instance

def plan : Plan nD τ sig (Elt F) where
  sem := semOf
  inj := semOf_inj
  tgt := tgt
  invol := tgt_tgt
  amt := (os 0).view.dmaCredit
  amt_pos := View.dmaCredit_pos _ (by decide)
  pay := pay m
  storable := pay_storable m

/-! ## The order of the waits

  A device waits for what it passes on while it still owes that to its sibling, so the three receipts that carry passed-on
  matrices come after all others. -/

abbrev L : GSem nD τ sig → Finset Unit := fun g => if g.1.2 = .tc then {()} else ∅
abbrev lv : GSem nD τ sig → Unit → ℕ := fun g _ => match g.2 with
  | .dma s => if 11 ≤ s.val ∧ s.val < 14 then 1 else 0
  | _ => 0

theorem may (c : Dev nD) (key : Key) (hk : ¬ (11 ≤ (semOf key).val ∧ (semOf key).val < 14)) (s : Finset (Fin 7)) (hs : ∀ j ∈ s, 4 ≤ j.val) :
    (levAts L lv : sProp 𝕄) ⊢ MayWait (c : Thread nD τ) (.dma (semOf key)) () (∑ j ∈ s, (plan m).due c j) := by
  refine Pipeline.mayWait_of_levAts (Finset.mem_singleton_self ()) fun g i hg => ?_
  obtain ⟨j, hj, hp⟩ := Pipeline.sum_pos_exists hg
  have hgj : g = (plan m).cell (tgt j c) (rcv j) := by
    by_contra hne
    unfold Plan.due at hp
    rw [tallyAt_ne_cell (show g ≠ (plan m).cell ((plan m).tgt j c) (rcv j) from hne)] at hp
    exact absurd hp (lt_irrefl 0)
  subst hgj
  refine ⟨Finset.mem_singleton_self (), ?_⟩
  show (if 11 ≤ (semOf key).val ∧ (semOf key).val < 14 then 1 else 0) < (if 11 ≤ 7 + j.val ∧ 7 + j.val < 14 then 1 else 0)
  have h4 := hs j hj
  have h7 := j.isLt
  rw [if_neg hk, if_pos ⟨by omega, by omega⟩]
  exact Nat.zero_lt_one

/-! ## The steps of the body -/

abbrev 𝒱₀ : Variants := Variants.none

/-- What a device needs for its `k`-th send, beside what it reads. -/
def go (c : Dev nD) (k : Fin 7) : sProp 𝕄 :=
  iprop(oPts (tgt k c) (blk k c) (m ((tgt k c : Thread nD τ).loc main_v1)) ∗ (plan m).tok c (snd k) ∗ (plan m).tok (tgt k c) (rcv k))

section Steps

variable {α : Type} {Q : α → sProp (MT nD τ sig Unit (Elt F) ℕ (Gh nD τ sig) ℕ)} {W : Waits sig Unit} {O₀ O : CellTallies nD τ sig Unit}

theorem send (c : Dev nD) (k : Fin 7) {n : Dev nD} (hn : n = tgt k c) {S R : DmaSem sig} (hS : S = semOf (snd k)) (hR : R = semOf (rcv k))
    {src src' dst : Memref sig .tc .hbm S48x128 .f32} (hs : src = src') (hd : dst = os (blk k c))
    {q : PosShare TreeShare} {fs : Buf (Elt F) (src'.view.loc (c : Thread nD τ))}
    (hl : (src'.view.loc (c : Thread nD τ) ↦[src'.view.set]{q} fs : sProp 𝕄) = lent m c k)
    (hw : src'.view.read (Elt F) fs = m ((blk k c : Thread nD τ).loc main_arg0))
    {hsc : (dst : Memref sig (Dev.tc n : Thread nD τ).2.kind .hbm S48x128 .f32).view.ref.isScScratch = false}
    {hsrc : src.view.WordExact} {hdst : dst.view.WordExact}
    {hsem : DmaTarget.Typed .hbm (.dma R) (.remote (Dev.tc n : Thread nD τ) (dst : Memref sig .tc .hbm S48x128 .f32) (.dma S) hsc)}
    {cont : PUnit → Prog (TpuEff nD τ sig (Elt F) Λ₀ .tc) α} (hO : O₀ = O + (plan m).due c k) :
    iprop((plan m).allKnown ∗ lent m c k ∗ go m c k ∗ (∃ W, owes (c : Thread nD τ) O₀ W))
      ⊢ iprop(((cred (tallyAt ((plan m).cell c (snd k)) () (plan m).amt) ∗ (∃ W, owes (c : Thread nD τ) O W))
            -∗ wp frame (wpE (defs₀ (F := F)) 𝒱₀ (c : Thread nD τ) none) Set.univ (cont ⟨⟩) Q)
          -∗ wp frame (wpE (defs₀ (F := F)) 𝒱₀ (c : Thread nD τ) none) Set.univ
            (.op (.enqueueDma src (.remote (Dev.tc n : Thread nD τ) dst (.dma S) hsc) (.dma R) hsrc hdst hsem) cont) Q) := by
  subst hs hd
  unfold go oPts
  iintro ⟨#HK, Hx, ⟨Ho, Ht1, Ht2⟩, ⟨%W, HO⟩⟩ Hk
  iapply ((plan m).wp_give 𝒱₀ c k hn hS hR (q := q) (fs := fs) (fd := m ((tgt k c : Thread nD τ).loc main_v1)) rfl
    (show _ ⊢ lent m c k from Entails.of_eq hl) (show _ ⊢ oPts (tgt k c) (got k (tgt k c)) (result m (tgt k c)) from by
      rw [got_tgt]; exact Entails.of_eq (landed m (blk k c) (tgt k c) _ _ hw)) O hO (W := W)) $$ [Hx Ho HO Ht1 Ht2]
  · isplitr; · iexact HK
    isplitl [Hx]; · iapply (Entails.of_eq hl.symm); iexact Hx
    isplitl [Ho]; · iexact Ho
    isplitl [HO]; · iexact HO
    isplitl [Ht1]; · iexact Ht1
    iexact Ht2
  iintro ⟨Hc, HO⟩
  iapply Hk
  isplitl [Hc]; · iexact Hc
  iexists W; iexact HO

theorem keep (c : Dev nD) {S : DmaSem sig} (hS : S = semOf home)
    {dst : Memref sig .tc .hbm S48x128 .f32} (hd : dst = os c)
    {hsrc : xM.view.WordExact} {hdst : dst.view.WordExact}
    {hsem : DmaTarget.Typed (nD := nD) (τ := τ) (p := Proc.tc) .hbm (.dma S) (.here dst)}
    {cont : PUnit → Prog (TpuEff nD τ sig (Elt F) Λ₀ .tc) α} :
    iprop((plan m).allKnown ∗ xPts m c qKeep ∗ oPts c c (m ((c : Thread nD τ).loc main_v1)) ∗ (plan m).tok c home)
      ⊢ iprop((cred (tallyAt ((plan m).cell c home) () (plan m).amt)
            -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma xM (.here dst) (.dma S) hsrc hdst hsem) cont) Q) := by
  subst hd
  unfold xPts oPts
  iintro ⟨#HK, Hx, Ho, Ht⟩
  iapply ((plan m).wp_keep 𝒱₀ c hS (fd := m ((c : Thread nD τ).loc main_v1)) rfl (show _ ⊢ pay m c home from by
    unfold pay; exact sep_mono (Entails.of_eq (landed m c c _ _ (read_own m c))) (by unfold xPts; exact .rfl)))
  isplitr; · iexact HK
  isplitl [Hx]; · iexact Hx
  isplitl [Ho] <;> iassumption

theorem take (c : Dev nD) (key : Key) {S : DmaSem sig} (hS : S = semOf key)
    {src dst : Memref sig .tc .hbm S48x128 .f32} (hd : dst.view.dmaCredit = (plan m).amt)
    {h1 : src.view.WordExact} {h2 : dst.view.WordExact}
    {cont : PUnit → Prog (TpuEff nD τ sig (Elt F) Λ₀ .tc) α}
    (hM : (levAts L lv : sProp 𝕄) ⊢ MayWait (c : Thread nD τ) (.dma (semOf key)) () O) :
    iprop(((plan m).allKnown ∗ levAts L lv) ∗ cred (tallyAt ((plan m).cell c key) () (plan m).amt) ∗ (∃ W, owes (c : Thread nD τ) O W) ∗ (plan m).at0 c key)
      ⊢ iprop((((∃ W, owes (c : Thread nD τ) O W) ∗ semVal ((plan m).cell c key) 0 ∗ pay m c key)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 S src dst h1 h2) cont) Q) := by
  subst hS
  iintro ⟨⟨#HK, HL⟩, Hc, ⟨%W, HO⟩, Ha⟩ Hk
  iapply ((plan m).wp_take 𝒱₀ c key (fun K => by rw [← hd]; rfl)) $$ [HL Hc HO Ha]
  · isplitr; · iexact HK
    isplitl [Hc]; · iexact Hc
    isplitl [HO]; · iexact HO
    isplitl [HL]; · iapply hM; iexact HL
    iexact Ha
  iintro ⟨HO, Hz, Hp⟩
  iapply Hk
  isplitl [HO]
  · iexists _; iexact HO
  isplitl [Hz]; · iexact Hz
  iapply (show (plan m).pay c key ⊢ pay m c key from .rfl); iexact Hp

end Steps

/-! ## The body -/

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What the device still owes while it waits for the matrices it passes on. -/
theorem may_three (c : Dev nD) : (levAts L lv : sProp 𝕄) ⊢ MayWait (c : Thread nD τ) (.dma (semOf (rcv 1))) () (((0 + (plan m).due c 6) + (plan m).due c 5) + (plan m).due c 4) := by
  have h := may m c (rcv 1) (by decide) {6, 5, 4} (by decide)
  rwa [show (∑ j ∈ {6, 5, 4}, (plan m).due c j) = ((0 + (plan m).due c 6) + (plan m).due c 5) + (plan m).due c 4 from by
    rw [Finset.sum_insert (by decide), Finset.sum_insert (by decide), Finset.sum_singleton, zero_add]; ac_rfl] at h
theorem may_two (c : Dev nD) : (levAts L lv : sProp 𝕄) ⊢ MayWait (c : Thread nD τ) (.dma (semOf (rcv 2))) () ((0 + (plan m).due c 6) + (plan m).due c 5) := by
  have h := may m c (rcv 2) (by decide) {6, 5} (by decide)
  rwa [show (∑ j ∈ {6, 5}, (plan m).due c j) = (0 + (plan m).due c 6) + (plan m).due c 5 from by
    rw [Finset.sum_insert (by decide), Finset.sum_singleton, zero_add]] at h
theorem may_one (c : Dev nD) : (levAts L lv : sProp 𝕄) ⊢ MayWait (c : Thread nD τ) (.dma (semOf (rcv 3))) () (0 + (plan m).due c 6) := by
  have h := may m c (rcv 3) (by decide) {6} (by decide)
  rwa [show (∑ j ∈ {6}, (plan m).due c j) = 0 + (plan m).due c 6 from by
    rw [Finset.sum_singleton, zero_add]] at h
theorem may_none (c : Dev nD) (key : Key) : (levAts L lv : sProp 𝕄) ⊢ MayWait (c : Thread nD τ) (.dma (semOf key)) () (0 : CellTallies nD τ sig Unit) := by
  rw [MayWait_zero]
  iintro -
  iempintro

set_option maxRecDepth 8000 in
theorem body (c : Dev nD) :
    iprop(((plan m).allKnown ∗ levAts L lv) ∗ (bigSep Finset.univ fun k : Key => (plan m).at0 c k)
        ∗ (xPts m c qKeep ∗ oPts c c (m ((c : Thread nD τ).loc main_v1)) ∗ (plan m).tok c home)
        ∗ (xPts m c (qSend 0) ∗ xPts m c (qSend 1) ∗ xPts m c (qSend 2) ∗ xPts m c (qSend 3))
        ∗ (bigSep Finset.univ fun k : Fin 7 => go m c k)
        ∗ (bigSep Finset.univ fun k : Fin 7 => cred (tallyAt ((plan m).cell c (rcv k)) () (plan m).amt))
        ∗ (∃ W, owes (c : Thread nD τ) ((plan m).dues c) W))
      ⊢ wp frame (wpE (defs₀ (F := F)) 𝒱₀ (c : Thread nD τ) none) Set.univ
          (cc0_gather_small (Memref.whole main_arg0) (Memref.isWhole_whole _) (Memref.whole main_v1) (Memref.isWhole_whole _) cc0_scratch0 cc0_scratch1 cc0_scratch2)
          fun _ => iprop((bigSep Finset.univ fun k : Key => semVal ((plan m).cell c k) 0)
            ∗ (pay m c home ∗ (bigSep Finset.univ fun k : Fin 7 => pay m c (snd k)) ∗ pay m c (rcv 0) ∗ pay m c (rcv 4) ∗ pay m c (rcv 5) ∗ pay m c (rcv 6))
            ∗ ∃ W, owes (c : Thread nD τ) (0 : CellTallies nD τ sig Unit) W) := by
  have hdues : (plan m).dues c = (((((((0 + (plan m).due c 6) + (plan m).due c 5) + (plan m).due c 4) + (plan m).due c 3) + (plan m).due c 2) + (plan m).due c 1) + (plan m).due c 0) := by
    unfold Plan.dues; rw [Fin.sum_univ_seven, zero_add]; ac_rfl
  rw [Plan.split_keys, Plan.split_keys, seven, seven, seven, seven, seven, seven, seven, hdues]
  simp only [cc0_gather_small_eq_skeleton]
  unfold cc0_gather_small_skel
  simp only [k0_part10_eq_skeleton]; unfold k0_part10_skel
  simp only [k0_part9_eq_skeleton]; unfold k0_part9_skel
  simp only [k0_part8_eq_skeleton]; unfold k0_part8_skel
  simp only [k0_part7_eq_skeleton]; unfold k0_part7_skel
  simp only [k0_part6_eq_skeleton]; unfold k0_part6_skel
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  simp only [Prog.lift, Prog.bind_op, Prog.bind_ret, Prog.pure_eq_ret, wp_deviceId]
  iintro ⟨⟨#HK, #HL⟩, ⟨Ha, ⟨As0, As1, As2, As3, As4, As5, As6⟩, Ar0, Ar1, Ar2, Ar3, Ar4, Ar5, Ar6⟩, Hk, ⟨X0, X1, X2, X3⟩, ⟨G0, G1, G2, G3, G4, G5, G6⟩, ⟨C0, C1, C2, C3, C4, C5, C6⟩, HO⟩
  iapply (keep m c (S := cc0_scratch2.sem) rfl (slotAt_congr (n := 8) oM (off1 c) _ _ _)) $$ [Hk]
  · isplitr; · iexact HK
    iexact Hk
  iintro Ch
  iapply (send m c 0 (dev1 c) rfl rfl (src' := xM) rfl (slotAt_congr (n := 8) oM (own0 c) _ _ _) (q := qSend 0) rfl (by rw [self_0]; rfl) rfl) $$ [X0 G0 HO]
  · isplitr; · iexact HK
    isplitl [X0]; · iapply (show xPts m c (qSend 0) ⊢ lent m c 0 from .rfl); iexact X0
    isplitl [G0]; · iexact G0
    iexact HO
  iintro ⟨D0, HO⟩
  iapply (send m c 1 (dev2 c) rfl rfl (src' := xM) rfl (slotAt_congr (n := 8) oM (own1 c) _ _ _) (q := qSend 1) rfl (by rw [self_1]; rfl) rfl) $$ [X1 G1 HO]
  · isplitr; · iexact HK
    isplitl [X1]; · iapply (show xPts m c (qSend 1) ⊢ lent m c 1 from .rfl); iexact X1
    isplitl [G1]; · iexact G1
    iexact HO
  iintro ⟨D1, HO⟩
  iapply (send m c 2 (dev3 c) rfl rfl (src' := xM) rfl (slotAt_congr (n := 8) oM (own2 c) _ _ _) (q := qSend 2) rfl (by rw [self_2]; rfl) rfl) $$ [X2 G2 HO]
  · isplitr; · iexact HK
    isplitl [X2]; · iapply (show xPts m c (qSend 2) ⊢ lent m c 2 from .rfl); iexact X2
    isplitl [G2]; · iexact G2
    iexact HO
  iintro ⟨D2, HO⟩
  iapply (send m c 3 (dev4 c) rfl rfl (src' := xM) rfl (slotAt_congr (n := 8) oM (own3 c) _ _ _) (q := qSend 3) rfl (by rw [self_3]; rfl) rfl) $$ [X3 G3 HO]
  · isplitr; · iexact HK
    isplitl [X3]; · iapply (show xPts m c (qSend 3) ⊢ lent m c 3 from .rfl); iexact X3
    isplitl [G3]; · iexact G3
    iexact HO
  iintro ⟨D3, HO⟩
  iapply (take m c (rcv 1) rfl rfl (may_three m c)) $$ [C1 HO Ar1]
  · isplitr; · isplitr; (· iexact HK); iexact HL
    isplitl [C1]; · iexact C1
    isplitl [HO]; · iexact HO
    iexact Ar1
  iintro ⟨HO, Zr1, R1⟩
  iapply (send m c 4 (dev5 c) rfl rfl (src' := os (blk 4 c)) (slotAt_congr (n := 8) oM (off2 c) _ _ _) (slotAt_congr (n := 8) oM (off2 c) _ _ _) (q := fullShare) (fs := result m c) (lent_pass_4 m c) (read_got m c (blk 4 c)) rfl) $$ [R1 G4 HO]
  · isplitr; · iexact HK
    isplitl [R1]; · iapply (show pay m c (rcv 1) ⊢ lent m c 4 from .rfl); iexact R1
    isplitl [G4]; · iexact G4
    iexact HO
  iintro ⟨D4, HO⟩
  iapply (take m c (rcv 2) rfl rfl (may_two m c)) $$ [C2 HO Ar2]
  · isplitr; · isplitr; (· iexact HK); iexact HL
    isplitl [C2]; · iexact C2
    isplitl [HO]; · iexact HO
    iexact Ar2
  iintro ⟨HO, Zr2, R2⟩
  iapply (send m c 5 (dev6 c) rfl rfl (src' := os (blk 5 c)) (slotAt_congr (n := 8) oM (off3 c) _ _ _) (slotAt_congr (n := 8) oM (off3 c) _ _ _) (q := fullShare) (fs := result m c) (lent_pass_5 m c) (read_got m c (blk 5 c)) rfl) $$ [R2 G5 HO]
  · isplitr; · iexact HK
    isplitl [R2]; · iapply (show pay m c (rcv 2) ⊢ lent m c 5 from .rfl); iexact R2
    isplitl [G5]; · iexact G5
    iexact HO
  iintro ⟨D5, HO⟩
  iapply (take m c (rcv 3) rfl rfl (may_one m c)) $$ [C3 HO Ar3]
  · isplitr; · isplitr; (· iexact HK); iexact HL
    isplitl [C3]; · iexact C3
    isplitl [HO]; · iexact HO
    iexact Ar3
  iintro ⟨HO, Zr3, R3⟩
  iapply (send m c 6 (dev7 c) rfl rfl (src' := os (blk 6 c)) (slotAt_congr (n := 8) oM (off4 c) _ _ _) (slotAt_congr (n := 8) oM (off4 c) _ _ _) (q := fullShare) (fs := result m c) (lent_pass_6 m c) (read_got m c (blk 6 c)) rfl) $$ [R3 G6 HO]
  · isplitr; · iexact HK
    isplitl [R3]; · iapply (show pay m c (rcv 3) ⊢ lent m c 6 from .rfl); iexact R3
    isplitl [G6]; · iexact G6
    iexact HO
  iintro ⟨D6, HO⟩
  iapply (take m c (rcv 0) rfl rfl (may_none c _)) $$ [C0 HO Ar0]
  · isplitr; · isplitr; (· iexact HK); iexact HL
    isplitl [C0]; · iexact C0
    isplitl [HO]; · iexact HO
    iexact Ar0
  iintro ⟨HO, Zr0, R0⟩
  iapply (take m c (rcv 4) rfl rfl (may_none c _)) $$ [C4 HO Ar4]
  · isplitr; · isplitr; (· iexact HK); iexact HL
    isplitl [C4]; · iexact C4
    isplitl [HO]; · iexact HO
    iexact Ar4
  iintro ⟨HO, Zr4, R4⟩
  iapply (take m c (rcv 5) rfl rfl (may_none c _)) $$ [C5 HO Ar5]
  · isplitr; · isplitr; (· iexact HK); iexact HL
    isplitl [C5]; · iexact C5
    isplitl [HO]; · iexact HO
    iexact Ar5
  iintro ⟨HO, Zr5, R5⟩
  iapply (take m c (rcv 6) rfl rfl (may_none c _)) $$ [C6 HO Ar6]
  · isplitr; · isplitr; (· iexact HK); iexact HL
    isplitl [C6]; · iexact C6
    isplitl [HO]; · iexact HO
    iexact Ar6
  iintro ⟨HO, Zr6, R6⟩
  iapply (take m c (snd 0) rfl rfl (may_none c _)) $$ [D0 HO As0]
  · isplitr; · isplitr; (· iexact HK); iexact HL
    isplitl [D0]; · iexact D0
    isplitl [HO]; · iexact HO
    iexact As0
  iintro ⟨HO, Zs0, S0⟩
  iapply (take m c (snd 1) rfl rfl (may_none c _)) $$ [D1 HO As1]
  · isplitr; · isplitr; (· iexact HK); iexact HL
    isplitl [D1]; · iexact D1
    isplitl [HO]; · iexact HO
    iexact As1
  iintro ⟨HO, Zs1, S1⟩
  iapply (take m c (snd 2) rfl rfl (may_none c _)) $$ [D2 HO As2]
  · isplitr; · isplitr; (· iexact HK); iexact HL
    isplitl [D2]; · iexact D2
    isplitl [HO]; · iexact HO
    iexact As2
  iintro ⟨HO, Zs2, S2⟩
  iapply (take m c (snd 3) rfl rfl (may_none c _)) $$ [D3 HO As3]
  · isplitr; · isplitr; (· iexact HK); iexact HL
    isplitl [D3]; · iexact D3
    isplitl [HO]; · iexact HO
    iexact As3
  iintro ⟨HO, Zs3, S3⟩
  iapply (take m c (snd 4) rfl rfl (may_none c _)) $$ [D4 HO As4]
  · isplitr; · isplitr; (· iexact HK); iexact HL
    isplitl [D4]; · iexact D4
    isplitl [HO]; · iexact HO
    iexact As4
  iintro ⟨HO, Zs4, S4⟩
  iapply (take m c (snd 5) rfl rfl (may_none c _)) $$ [D5 HO As5]
  · isplitr; · isplitr; (· iexact HK); iexact HL
    isplitl [D5]; · iexact D5
    isplitl [HO]; · iexact HO
    iexact As5
  iintro ⟨HO, Zs5, S5⟩
  iapply (take m c (snd 6) rfl rfl (may_none c _)) $$ [D6 HO As6]
  · isplitr; · isplitr; (· iexact HK); iexact HL
    isplitl [D6]; · iexact D6
    isplitl [HO]; · iexact HO
    iexact As6
  iintro ⟨HO, Zs6, S6⟩
  iapply (take m c (home) rfl rfl (may_none c _)) $$ [Ch HO Ha]
  · isplitr; · isplitr; (· iexact HK); iexact HL
    isplitl [Ch]; · iexact Ch
    isplitl [HO]; · iexact HO
    iexact Ha
  iintro ⟨HO, Zh, Sh⟩
  rw [wp_ret]
  imodintro
  isplitl [Zh Zs0 Zs1 Zs2 Zs3 Zs4 Zs5 Zs6 Zr0 Zr1 Zr2 Zr3 Zr4 Zr5 Zr6]
  · isplitl [Zh]; · iexact Zh
    isplitl [Zs0 Zs1 Zs2 Zs3 Zs4 Zs5 Zs6]
    · isplitl [Zs0]; · iexact Zs0
      isplitl [Zs1]; · iexact Zs1
      isplitl [Zs2]; · iexact Zs2
      isplitl [Zs3]; · iexact Zs3
      isplitl [Zs4]; · iexact Zs4
      isplitl [Zs5]; · iexact Zs5
      iexact Zs6
    · isplitl [Zr0]; · iexact Zr0
      isplitl [Zr1]; · iexact Zr1
      isplitl [Zr2]; · iexact Zr2
      isplitl [Zr3]; · iexact Zr3
      isplitl [Zr4]; · iexact Zr4
      isplitl [Zr5]; · iexact Zr5
      iexact Zr6
  isplitr [HO]
  · isplitl [Sh]; · iexact Sh
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [R0]; · iexact R0
    isplitl [R4]; · iexact R4
    isplitl [R5]; · iexact R5
    iexact R6
  · iexact HO

end Cert.SpreadSmall

end
-- ==== Proof.SpreadSmallRun.lean ====
/-
# The gathering, run and read

The launch of the gathering, for any float values: every weakly fair run from any memory with every
counter at zero terminates, the argument is unchanged, every counter is at zero again, and place `j`
of every device's result holds what device `j` had.
-/
module

public import proofs.«01_k».proof.Proof.SpreadSmall

@[expose] public section

set_option Elab.async false

noncomputable section

namespace Cert.SpreadSmall

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation pinD)
open Cert.GatherSmallIdeal Cert.GatherSmallIdeal.Gen Cert.Peers Cert.Slots

variable {F : FTy → Type} [FloatOps F]

local notation "𝕄" => MT nD τ sig Unit (Elt F) ℕ (Gh nD τ sig) ℕ

variable (m : (ℓ : Loc nD τ sig) → Buf (Elt F) ℓ) (ρ : Dev nD → PrngReg)

/-! ## Dealing the buffers -/

/-- A device's share of the buffers: its own copy's ends, the parts its four own sends read under, and for each send the
    place it goes to. -/
def bufs (c : Dev nD) : sProp 𝕄 :=
  iprop((xPts m c qKeep ∗ oPts c c (m ((c : Thread nD τ).loc main_v1)))
    ∗ (xPts m c (qSend 0) ∗ xPts m c (qSend 1) ∗ xPts m c (qSend 2) ∗ xPts m c (qSend 3))
    ∗ bigSep Finset.univ fun k : Fin 7 => oPts (tgt k c) (blk k c) (m ((tgt k c : Thread nD τ).loc main_v1)))

theorem unscoped_eq (c : Dev nD) (V : (b : Ref sig .tc) → Buf (Elt F) ((c : Thread nD τ).loc b)) :
    (unscopedBufs c V : sProp 𝕄) = iprop(emp ∗ (((c : Thread nD τ).loc main_arg0) ↦{fullShare} V main_arg0) ∗ (((c : Thread nD τ).loc main_v1) ↦{fullShare} V main_v1)) := by
  refine (Pipeline.unscopedBufs_split cfgs (0 : Fin 1) (fun w => w.elim0) (fun w => w.elim0) c V).trans ?_
  rw [show (Pipeline.unscopedRest (cfgs 0).spec c V : sProp 𝕄) = _ from unscopedRest0_eq c V, show (Finset.univ : Finset (Fin (cfgs 0).W)) = ∅ from rfl, bigSep_empty]
  rfl

/-- The places, handed to the devices that fill them. -/
theorem places : (bigSep Finset.univ fun c : Dev nD => bigSep Finset.univ fun k : Fin 7 => (oPts c (got k c) (m ((c : Thread nD τ).loc main_v1)) : sProp 𝕄))
    = bigSep Finset.univ fun c : Dev nD => bigSep Finset.univ fun k : Fin 7 => oPts (tgt k c) (blk k c) (m ((tgt k c : Thread nD τ).loc main_v1)) := by
  refine ((plan m).around fun c k => oPts c (got k c) (m ((c : Thread nD τ).loc main_v1))).trans (bigSep_congr fun c _ => bigSep_congr fun k _ => ?_)
  show oPts (tgt k c) (got k (tgt k c)) _ = _
  rw [got_tgt]
  rfl

theorem deal : (bigSep Finset.univ fun c : Dev nD => unscopedBufs c (fun b => m ((c : Thread nD τ).loc b)) : sProp 𝕄)
    ⊢ bigSep Finset.univ (bufs m) := by
  have h (c : Dev nD) : (unscopedBufs c (fun b => m ((c : Thread nD τ).loc b)) : sProp 𝕄)
      ⊢ iprop((xPts m c qKeep ∗ oPts c c (m ((c : Thread nD τ).loc main_v1)))
        ∗ (xPts m c (qSend 0) ∗ xPts m c (qSend 1) ∗ xPts m c (qSend 2) ∗ xPts m c (qSend 3))
        ∗ bigSep Finset.univ fun k : Fin 7 => oPts c (got k c) (m ((c : Thread nD τ).loc main_v1))) := by
    rw [unscoped_eq, arg_split, res_split, devices_from c]
    iintro ⟨-, ⟨H1, H2⟩, H3, H4⟩
    isplitl [H1 H3]
    · isplitl [H1] <;> iassumption
    · isplitl [H2] <;> iassumption
  have e : (bigSep Finset.univ fun c : Dev nD => iprop((xPts m c qKeep ∗ oPts c c (m ((c : Thread nD τ).loc main_v1)))
        ∗ (xPts m c (qSend 0) ∗ xPts m c (qSend 1) ∗ xPts m c (qSend 2) ∗ xPts m c (qSend 3))
        ∗ bigSep Finset.univ fun k : Fin 7 => oPts c (got k c) (m ((c : Thread nD τ).loc main_v1))) : sProp 𝕄)
      = bigSep Finset.univ (bufs m) := by
    unfold bufs
    simp only [bigSep_sep']
    rw [places]
  rw [← e]
  exact bigSep_mono fun c _ => h c

/-! ## The region -/

/-- What a device's region leaves: its argument, unchanged, and its result. -/
def done (c : Dev nD) : sProp 𝕄 :=
  iprop((((c : Thread nD τ).loc main_arg0) ↦{fullShare} m ((c : Thread nD τ).loc main_arg0)) ∗ (((c : Thread nD τ).loc main_v1) ↦{fullShare} result m c))

def dats (_ : Fin 1) (c : Dev nD) : Dat τ (Elt F) Unit ℕ (Gh nD τ sig) ℕ cfg0 c where
  A w := w.elim0
  after w _ := w.elim0
  Φ t := match t with
    | ⟨0, _⟩ => (plan m).starts L lv (bufs m) c
    | ⟨_ + 1, _⟩ => iprop(done m c ∗ Pipeline.ownSems0 (plan m).osem c)
  q w := w.elim0
  owed t := match t with
    | ⟨0, _⟩ => (plan m).dues c
    | ⟨_ + 1, _⟩ => 0

theorem starts_body (c : Dev nD) : (plan m).starts L lv (bufs m) c
    ⊢ iprop(((plan m).allKnown ∗ levAts L lv) ∗ (bigSep Finset.univ fun k : Key => (plan m).at0 c k)
        ∗ (xPts m c qKeep ∗ oPts c c (m ((c : Thread nD τ).loc main_v1)) ∗ (plan m).tok c home)
        ∗ (xPts m c (qSend 0) ∗ xPts m c (qSend 1) ∗ xPts m c (qSend 2) ∗ xPts m c (qSend 3))
        ∗ (bigSep Finset.univ fun k : Fin 7 => go m c k)
        ∗ (bigSep Finset.univ fun k : Fin 7 => cred (tallyAt ((plan m).cell c (rcv k)) () (plan m).amt))) := by
  unfold Plan.starts bufs Plan.rights go
  simp only [bigSep_sep']
  iintro ⟨HK, Ha, ⟨Ht, Ht1, Ht2⟩, Hc, ⟨Hx, Ho⟩, Hxs, Hos⟩
  isplitl [HK]; · iexact HK
  isplitl [Ha]; · iexact Ha
  isplitl [Ht Hx Ho]
  · isplitl [Hx]; · iexact Hx
    isplitl [Ho]; · iexact Ho
    iexact Ht
  isplitl [Hxs]; · iexact Hxs
  isplitr [Hc]
  · isplitl [Hos]; · iexact Hos
    isplitl [Ht1]; · iexact Ht1
    iexact Ht2
  · iexact Hc

theorem body_done (c : Dev nD) :
    iprop((bigSep Finset.univ fun k : Key => semVal ((plan m).cell c k) 0)
        ∗ (pay m c home ∗ (bigSep Finset.univ fun k : Fin 7 => pay m c (snd k)) ∗ pay m c (rcv 0) ∗ pay m c (rcv 4) ∗ pay m c (rcv 5) ∗ pay m c (rcv 6)))
      ⊢ iprop(done m c ∗ Pipeline.ownSems0 (plan m).osem c) := by
  unfold done
  rw [arg_split, res_split, devices_from c, seven, seven]
  show iprop((bigSep Finset.univ fun k : Key => semVal ((plan m).cell c k) 0)
        ∗ (oPts c c (result m c) ∗ xPts m c qKeep) ∗ (xPts m c (qSend 0) ∗ xPts m c (qSend 1) ∗ xPts m c (qSend 2) ∗ xPts m c (qSend 3)
          ∗ oPts c (got 1 c) (result m c) ∗ oPts c (got 2 c) (result m c) ∗ oPts c (got 3 c) (result m c))
        ∗ oPts c (got 0 c) (result m c) ∗ oPts c (got 4 c) (result m c) ∗ oPts c (got 5 c) (result m c) ∗ oPts c (got 6 c) (result m c)) ⊢ _
  iintro ⟨Hz, ⟨Ho, Hx⟩, ⟨S0, S1, S2, S3, R1, R2, R3⟩, R0, R4, R5, R6⟩
  isplitr [Hz]
  · isplitl [Hx S0 S1 S2 S3]
    · isplitl [Hx]; · iexact Hx
      isplitl [S0]; · iexact S0
      isplitl [S1]; · iexact S1
      isplitl [S2] <;> iassumption
    · isplitl [Ho]; · iexact Ho
      isplitl [R0]; · iexact R0
      isplitl [R1]; · iexact R1
      isplitl [R2]; · iexact R2
      isplitl [R3]; · iexact R3
      isplitl [R4]; · iexact R4
      isplitl [R5] <;> iassumption
  · iapply (show (bigSep Finset.univ fun k : Key => semVal ((plan m).cell c k) 0) ⊢ (Pipeline.ownSems0 (plan m).osem c : sProp 𝕄) from .rfl); iexact Hz

theorem body_obligation (c : Dev nD) : BodyObligation (dats m 0 c) (defs₀ (F := F)) 𝒱₀ () Set.univ := fun t => by
  rw [fin_N0 t]
  show iprop((plan m).starts L lv (bufs m) c ∗ (dats m 0 c).owesAt () (0 : Fin 2) ∗ _) ⊢ wp frame (wpE (defs₀ (F := F)) 𝒱₀ (c : Thread nD τ) none) Set.univ
    (cc0_gather_small (Memref.whole main_arg0) (Memref.isWhole_whole _) (Memref.whole main_v1) (Memref.isWhole_whole _) cc0_scratch0 cc0_scratch1 cc0_scratch2)
    (fun _ => iprop((done m c ∗ Pipeline.ownSems0 (plan m).osem c) ∗ (dats m 0 c).owesAt () (1 : Fin 2) ∗ _))
  refine (show _ ⊢ (_ : sProp 𝕄) from ?_).trans ((body m c).trans (wp_mono frame _ Set.univ fun _ => ?_))
  · iintro ⟨Hs, ⟨%W, -, HO⟩, -⟩
    ihave H := (starts_body m c) $$ Hs
    icases H with ⟨H1, H2, H3, H4, H5, H6⟩
    isplitl [H1]; · iexact H1
    isplitl [H2]; · iexact H2
    isplitl [H3]; · iexact H3
    isplitl [H4]; · iexact H4
    isplitl [H5]; · iexact H5
    isplitl [H6]; · iexact H6
    iexists W; iexact HO
  · iintro ⟨Hz, Hp, %W, HO⟩
    isplitl [Hz Hp]
    · iapply (body_done m c)
      isplitl [Hz] <;> iassumption
    isplitl [HO]
    · iexists W
      isplitr; · ipureintro; exact fun _ _ => Or.inl trivial
      iexact HO
    · rw [Finset.univ_eq_empty, bigSep_empty]; iempintro

/-! ## The run -/

theorem ownSemFacts : Pipeline.OwnSemFacts cfg0.spec (plan (F := F) m).osem := by
  show Pipeline.OwnSemFacts cfg0.spec fun k => SemLoc.dma (semOf k)
  decide

/-- What a final memory shows of device `c`. -/
def QY (c : Dev nD) (s : MemSt nD τ sig (Elt F)) : Prop :=
  s.mem ((c : Thread nD τ).loc main_v1) = result m c ∧ s.mem ((c : Thread nD τ).loc main_arg0) = m ((c : Thread nD τ).loc main_arg0)

theorem read_done (c : Dev nD) (s' : Phys nD τ sig (Elt F)) : iprop(done m c ∗ SI s') ⊢ |={Set.univ}=> iprop(⌜QY m c s'.mem⌝ ∗ (SI s' : sProp 𝕄)) := by
  unfold done
  iintro ⟨⟨Ha, Hr⟩, HS⟩
  ihave H := (pointsTo_read_all (Finset.univ : Finset Unit) (fun _ => (c : Thread nD τ).loc main_arg0) (fun _ => m ((c : Thread nD τ).loc main_arg0)) s') $$ [Ha HS]
  · isplitl [Ha]
    · iapply (Entails.of_eq (BI.bigSep_singleton (Φ := fun _ : Unit => (((c : Thread nD τ).loc main_arg0) ↦{fullShare} m ((c : Thread nD τ).loc main_arg0) : sProp 𝕄)) (i := ())).symm); iexact Ha
    · iexact HS
  icases H with ⟨%h1, HS⟩
  ihave H := (pointsTo_read_all (Finset.univ : Finset Unit) (fun _ => (c : Thread nD τ).loc main_v1) (fun _ => result m c) s') $$ [Hr HS]
  · isplitl [Hr]
    · iapply (Entails.of_eq (BI.bigSep_singleton (Φ := fun _ : Unit => (((c : Thread nD τ).loc main_v1) ↦{fullShare} result m c : sProp 𝕄)) (i := ())).symm); iexact Hr
    · iexact HS
  icases H with ⟨%h2, HS⟩
  imodintro
  isplitr
  · ipureintro; exact ⟨h2 () (Finset.mem_univ _), h1 () (Finset.mem_univ _)⟩
  · iexact HS

set_option maxRecDepth 8000 in
/-- The run, read. -/
theorem run_main : θ_run defs (onTc (τ := τ) (main (F := F))) ⟨m, fun _ => 0, ρ⟩
    (fun r => (∀ c : Dev nD, QY m c r.2) ∧ r.2.sem = fun _ => 0) :=
  Joint.run_joint (fun p => (cfgs p).toPCfg) (fun _ p => (cfgs p).toPCfg_adm) cellOf_inj EP defs₀ 𝒱₀ m ρ main L lv (fun g hg => if_neg hg)
    (plan m).dues (plan m).G
    (Rounds.initOf (Pipeline.cells cfgs cellOf_inj) (Pipeline.launchToks cfgs cellOf_inj), Rounds.initOf (plan m).cells (plan m).toks)
    (by
      iintro Hu
      ihave H := (ownU_pair _ _) $$ Hu
      icases H with ⟨HP, HX⟩
      imod ((plan m).fund) $$ HX with HG
      imodintro
      isplitl [HP] <;> iassumption)
    ((plan m).before (fun p => (cfgs p).toPCfg) (fun _ p => (cfgs p).toPCfg_adm) cellOf_inj (r := (0 : Fin 1)) (ownSemFacts m) L lv (bufs m))
    (done m)
    ((plan m).regroup (fun p => (cfgs p).toPCfg) (fun _ p => (cfgs p).toPCfg_adm) cellOf_inj (r := (0 : Fin 1)) (ownSemFacts m) winFacts0.to₀ m ρ L lv (bufs m) (deal m))
    (fun c => by
      have h := (plan m).wp_region (fun p => (cfgs p).toPCfg) (fun _ p => (cfgs p).toPCfg_adm) cellOf_inj defs₀ 𝒱₀ (r := (0 : Fin 1)) (ownSemFacts m) winFacts0.to₀
        stage_whole0 (dats m) (inferInstanceAs (IsEmpty (Fin 0))) (inferInstanceAs (IsEmpty (Fin 0))) L lv (bufs m) (done m) c (body_obligation m c).loose rfl rfl
        (sep_elim_left) (by
          show iprop(done m c ∗ Pipeline.ownSems0 (plan m).osem c) ⊢ _
          rw [show (Pipeline.scopedRest _ c : sProp 𝕄) = _ from scopedRest0_eq c]
          iintro ⟨H1, H2⟩
          isplitl [H1]; · iexact H1
          isplitl [H2]; · iexact H2
          iempintro)
        (α := PUnit) (fun _ => .ret PUnit.unit) (fun _ => iprop((done m c ∗ boundary (c : Thread nD τ)) ∗ ∃ W, owes (c : Thread nD τ) (0 : CellTallies nD τ sig Unit) W))
      refine (show _ ⊢ (_ : sProp 𝕄) from ?_).trans h
      iintro H
      isplitl [H]; · iexact H
      iintro ⟨Hb, Hd, HO, -⟩
      rw [wp_ret]
      imodintro
      isplitr [HO]
      · isplitl [Hd] <;> iassumption
      · iexact HO)
    (QY m) (read_done m) (fun s h hs => show _ ∧ _ from ⟨h, sem_eq_zero_of_scoped (by decide) hs⟩)

end Cert.SpreadSmall

end
-- ==== Proof.SpreadSmallValue.lean ====
/-
  The gathering against a plain reshape.

  The whole array has `8 · 48` rows; device `j` holds rows `48 j … 48 j + 52735`.  The reference lays the rows
  out as 8 matrices of 48 rows.  Matrix `j` of that layout is what device `j` holds, and what the gathering leaves in
  place `j` of every device.
-/
module

public import proofs.«01_k».proof.Proof.SpreadSmallRun
public import proofs.«01_k».proof.Proof.Gen.GatherSmallRefIdeal
public import proofs.«01_k».proof.Proof.Gen.GatherSmallRefIdeal.Run
public import proofs.«01_k».proof.Proof.Gen.GatherSmallRef
public import proofs.«01_k».proof.Proof.Gen.GatherSmallRef.Run
public import proofs.«01_k».proof.Proof.Gen.GatherSmall
public import proofs.«01_k».proof.Defs
public import Idealize.ShloMosaic.Lib.Layout
public import Idealize.ShloMosaic.Lib.Pipeline.Value

@[expose] public section

set_option Elab.async false

noncomputable section

namespace Cert.SpreadSmall

open Cert.GatherSmallIdeal Cert.GatherSmallIdeal.Gen
open Idealize.ShloMosaic
open Idealize.ShloMosaic.TcCoe
open Idealize.SL.Sem

/-- Block `j` of the rows is matrix `j` of the reshaped array. -/
theorem block_matrix {α : Type} (X : (⟨2, ![384, 128]⟩ : Shape).Idx → α)
    (h : (⟨2, ![384, 128]⟩ : Shape).ShapeCasts ⟨3, ![8, 48, 128]⟩)
    (hi : Layout.Tiles ⟨2, ![48, 128]⟩ ⟨2, ![384, 128]⟩ 0 8) (i : (⟨3, ![8, 48, 128]⟩ : Shape).Idx) :
    Layout.block ⟨2, ![48, 128]⟩ ⟨2, ![384, 128]⟩ 0 8 (i (0 : Fin 3)) X hi (fun a => i a.succ)
      = shapeCast ⟨3, ![8, 48, 128]⟩ X h i := by
  refine (shapeCast_apply X h _ _ ?_).symm
  rw [Shape.rowMajor_val_three, Shape.rowMajor_val_two]
  simp only [Layout.Tiles.idx_val]
  show ((i (0 : Fin 3)).val * 48 + (i (1 : Fin 3)).val) * 128 + (i (2 : Fin 3)).val
    = ((i (0 : Fin 3)).val * 48 + (i (1 : Fin 3)).val) * 128 + (i (2 : Fin 3)).val
  rfl

variable {F : FTy → Type} [FloatOps F]

/-- The gathering and the reshape, over any float values. -/
theorem meets (m : (ℓ : Loc nD τ sig) → Buf (Elt F) ℓ) (ρ : Dev nD → PrngReg)
    (X : (⟨2, ![384, 128]⟩ : Shape).Idx → Elt F .f32) (h : (⟨2, ![384, 128]⟩ : Shape).ShapeCasts ⟨3, ![8, 48, 128]⟩)
    (hX : ∀ c : Dev nD, m ((c : Thread nD τ).loc main_arg0) = Layout.block ⟨2, ![48, 128]⟩ ⟨2, ![384, 128]⟩ 0 8 c X) :
    θ_run (defs (F := F)) (onTc (τ := τ) (main (F := F))) ⟨m, fun _ => 0, ρ⟩ fun r => ∀ c : Dev nD,
      r.2.mem ((c : Thread nD τ).loc main_v1) = shapeCast ⟨3, ![8, 48, 128]⟩ X h
      ∧ r.2.mem ((c : Thread nD τ).loc main_arg0) = m ((c : Thread nD τ).loc main_arg0) := by
  refine (θ_run defs _ _).mono (fun r hr c => ⟨((hr.1 c).1).trans (funext fun i => ?_), (hr.1 c).2⟩) (run_main (F := F) m ρ)
  exact (congrFun (hX (show Dev nD from i (0 : Fin 3))) _).trans (block_matrix X h _ i)

/-! ## The claims -/

theorem frame_gatherSmall : Cert.quiescent_GatherSmall := fun m ρ _ =>
  (θ_run Cert.GatherSmallIdeal.defs _ _).mono (fun _ h => ⟨fun c => (h.1 c).2, h.2⟩) (run_main (F := Bits) m ρ)

theorem frame_gatherSmallIdeal : Cert.quiescent_GatherSmallIdeal := fun m ρ _ =>
  (θ_run Cert.GatherSmallIdeal.defs _ _).mono (fun _ h => ⟨fun c => (h.1 c).2, h.2⟩) (run_main (F := Ideal) m ρ)

theorem frame_gatherSmallRef : Cert.quiescent_GatherSmallRef := fun m ρ _ =>
  (θ_run Cert.GatherSmallRef.defs _ _).mono (fun r h => ⟨fun c => (h c).2, sem_eq_zero_of_no_sems (by decide) r.2⟩)
    (Cert.GatherSmallRef.Value.run (F := Bits) m ρ)

theorem frame_gatherSmallRefIdeal : Cert.quiescent_GatherSmallRefIdeal := fun m ρ _ =>
  (θ_run Cert.GatherSmallRefIdeal.defs _ _).mono (fun r h => ⟨fun c => (h c).2, sem_eq_zero_of_no_sems (by decide) r.2⟩)
    (Cert.GatherSmallRefIdeal.Value.run (F := Ideal) m ρ)

theorem gatherSmall_algebraic : Cert.algebraic_GatherSmallIdeal_GatherSmallRefIdeal := fun m ρ m' ρ' _ hX =>
  ⟨_, meets (F := Ideal) m ρ _ Cert.GatherSmallRefIdeal.Gen.shapeCasts_S384x128_S8x48x128 hX,
    (θ_run Cert.GatherSmallRefIdeal.defs _ _).mono (fun _ h => h 0) (Cert.GatherSmallRefIdeal.Value.run (F := Ideal) m' ρ')⟩

theorem gatherSmall_bitexact : Cert.bitexact_GatherSmall_GatherSmallRef := fun m ρ m' ρ' _ hX =>
  ⟨_, meets (F := Bits) m ρ _ Cert.GatherSmallRef.Gen.shapeCasts_S384x128_S8x48x128 hX,
    (θ_run Cert.GatherSmallRef.defs _ _).mono (fun _ h => h 0) (Cert.GatherSmallRef.Value.run (F := Bits) m' ρ')⟩

end Cert.SpreadSmall

end
-- ==== Proof.SpreadGrads.lean ====
/-
# The gathering of the small gradients

Every device holds one matrix, and in the end every device holds all eight, device `j`'s in place `j`. Device `c` copies
its own matrix into its own place `c`, sends it to its sibling on the same chip and to the three devices with its core
number on the other chips. What those three sent it, it passes on to its sibling as it comes in. So the `k`-th send of `c`
goes to device `tgt k c` and carries the matrix of device `blk k c`.

The body is run once, at a device `c` and for any float values.
-/
module

public import proofs.«01_k».proof.Proof.Deal
public import proofs.«01_k».proof.Proof.Slots
public import proofs.«01_k».proof.Proof.Gen.GatherGradsIdeal
public import proofs.«01_k».proof.Proof.Gen.GatherGradsIdeal.Launch
public import proofs.«01_k».proof.Proof.Gen.GatherGradsIdeal.Skeleton
public import Idealize.ShloMosaic.Lib.Transfers

@[expose] public section

set_option Elab.async false

noncomputable section

namespace Cert.SpreadGrads

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.GatherGradsIdeal Cert.GatherGradsIdeal.Gen Cert.Peers Cert.Slots

variable {F : FTy → Type} [FloatOps F]

local notation "𝕄" => MT nD τ sig Unit (Elt F) ℕ (Gh nD τ sig) ℕ

/-! ## Who sends what to whom -/

/-- The device as many places away on the mesh's axes as `b`'s digits say. -/
def away (b : ℕ) (c : Dev nD) : Dev nD := ⟨(c.val ^^^ b) % 8, Nat.mod_lt _ (by decide)⟩

/-- Whom the `k`-th send goes to: the sibling, the same core of the three other chips, the sibling three times. -/
def tgt (k : Fin 7) (c : Dev nD) : Dev nD := away (match k with | 0 => 1 | 1 => 4 | 2 => 2 | 3 => 6 | _ => 1) c
/-- Whose matrix it carries: the device's own four times, then those of the three other chips. -/
def blk (k : Fin 7) (c : Dev nD) : Dev nD := away (match k with | 4 => 4 | 5 => 2 | 6 => 6 | _ => 0) c
/-- Whose matrix the `k`-th receipt brings. -/
def got (k : Fin 7) (c : Dev nD) : Dev nD := away (match k with | 0 => 1 | 1 => 4 | 2 => 2 | 3 => 6 | 4 => 5 | 5 => 3 | 6 => 7) c

theorem tgt_tgt (k : Fin 7) (c : Dev nD) : tgt k (tgt k c) = c := by revert k c; decide
theorem got_tgt (k : Fin 7) (c : Dev nD) : got k (tgt k c) = blk k c := by revert k c; decide

theorem got_inj (c : Dev nD) : Function.Injective fun k => got k c := fun a b h => by revert c a b; decide
theorem erase_self (c : Dev nD) : (Finset.univ : Finset (Dev nD)).erase c = Finset.univ.map ⟨fun k => got k c, got_inj c⟩ := by
  rw [Finset.map_eq_image]; revert c; decide

/-- A family over the devices: `c`'s own, and those of the devices whose matrices it receives. -/
theorem devices_from (c : Dev nD) (Φ : Dev nD → sProp 𝕄) :
    bigSep Finset.univ Φ = iprop(Φ c ∗ bigSep Finset.univ fun k => Φ (got k c)) := by
  rw [bigSep_erase (Finset.mem_univ c), erase_self c, bigSep_map]
  rfl

/-- The kernel's computed devices and offsets. -/
theorem dev1 (c : Dev nD) : (⟨k0_dev1 c, k0_dev1_lt c⟩ : Dev nD) = tgt 0 c := by revert c; decide
theorem dev2 (c : Dev nD) : (⟨k0_dev2 c, k0_dev2_lt c⟩ : Dev nD) = tgt 1 c := by revert c; decide
theorem dev3 (c : Dev nD) : (⟨k0_dev3 c, k0_dev3_lt c⟩ : Dev nD) = tgt 2 c := by revert c; decide
theorem dev4 (c : Dev nD) : (⟨k0_dev4 c, k0_dev4_lt c⟩ : Dev nD) = tgt 3 c := by revert c; decide
theorem dev5 (c : Dev nD) : (⟨k0_dev5 c, k0_dev5_lt c⟩ : Dev nD) = tgt 4 c := by revert c; decide
theorem dev6 (c : Dev nD) : (⟨k0_dev6 c, k0_dev6_lt c⟩ : Dev nD) = tgt 5 c := by revert c; decide
theorem dev7 (c : Dev nD) : (⟨k0_dev7 c, k0_dev7_lt c⟩ : Dev nD) = tgt 6 c := by revert c; decide
theorem off1 (c : Dev nD) : k0_off1 c = ![c.val, 0, 0] := by revert c; decide
theorem self_0 (c : Dev nD) : blk 0 c = c := by revert c; decide
theorem self_1 (c : Dev nD) : blk 1 c = c := by revert c; decide
theorem self_2 (c : Dev nD) : blk 2 c = c := by revert c; decide
theorem self_3 (c : Dev nD) : blk 3 c = c := by revert c; decide
theorem own0 (c : Dev nD) : k0_off1 c = ![(blk 0 c).val, 0, 0] := by revert c; decide
theorem own1 (c : Dev nD) : k0_off1 c = ![(blk 1 c).val, 0, 0] := by revert c; decide
theorem own2 (c : Dev nD) : k0_off1 c = ![(blk 2 c).val, 0, 0] := by revert c; decide
theorem own3 (c : Dev nD) : k0_off1 c = ![(blk 3 c).val, 0, 0] := by revert c; decide
theorem off2 (c : Dev nD) : k0_off2 c = ![(blk 4 c).val, 0, 0] := by revert c; decide
theorem off3 (c : Dev nD) : k0_off3 c = ![(blk 5 c).val, 0, 0] := by revert c; decide
theorem off4 (c : Dev nD) : k0_off4 c = ![(blk 6 c).val, 0, 0] := by revert c; decide

/-! ## The matrices -/

abbrev xM : Memref sig .tc .hbm S656x128 .f32 := Memref.whole main_arg0
abbrev oM : Memref sig .tc .hbm S8x656x128 .f32 := Memref.whole main_v1
/-- Place `j` of the result. -/
abbrev os (j : Dev nD) : Memref sig .tc .hbm S656x128 .f32 := slot (n := 8) oM squeezes_S1x656x128_S656x128 j

variable (m : (ℓ : Loc nD τ sig) → Buf (Elt F) ℓ)

/-- What every device ends with: in place `j`, what device `j` had. -/
def result (c : Dev nD) : Buf (Elt F) ((c : Thread nD τ).loc main_v1) := fun i =>
  let j : Dev nD := i (0 : Fin 3)
  m ((j : Thread nD τ).loc main_arg0) fun a => i a.succ

/-- A part `q` of the right to read device `d`'s argument, -/
def xPts (d : Dev nD) (q : PosShare TreeShare) : sProp 𝕄 := xM.view.loc (d : Thread nD τ) ↦[xM.view.set]{q} m ((d : Thread nD τ).loc main_arg0)
/-- and place `j` of device `d`'s result, holding `f`. -/
def oPts (d j : Dev nD) (f : Buf (Elt F) ((d : Thread nD τ).loc main_v1)) : sProp 𝕄 := (os j).view.loc (d : Thread nD τ) ↦[(os j).view.set]{fullShare} f

instance xPts_storable (d : Dev nD) (q) : BI.Storable (upEmb : UEmb _ 𝕄) (xPts (F := F) m d q) := by unfold xPts; infer_instance
instance oPts_storable (d j : Dev nD) (f) : BI.Storable (upEmb : UEmb _ 𝕄) (oPts (F := F) d j f) := by unfold oPts; infer_instance

/-- The parts the argument is read under: one for the copy, one for each of the four sends that read it. -/
abbrev qKeep : PosShare TreeShare := Transfers.shareDrop fullShare 4
abbrev qSend (k : Fin 4) : PosShare TreeShare := Transfers.shareTok fullShare 4 k

theorem arg_split (d : Dev nD) : (((d : Thread nD τ).loc main_arg0) ↦{fullShare} m ((d : Thread nD τ).loc main_arg0) : sProp 𝕄)
    = iprop(xPts m d qKeep ∗ xPts m d (qSend 0) ∗ xPts m d (qSend 1) ∗ xPts m d (qSend 2) ∗ xPts m d (qSend 3)) := by
  refine (BI.Entails.antisymm (Transfers.pointsTo_toks fullShare 4).1 (Transfers.pointsTo_toks fullShare 4).2).trans ?_
  rw [bigSep_univ_eq_bigSepL [0, 1, 2, 3] (by decide) (by decide)]
  unfold xPts
  simp only [View.set_whole]
  rfl
theorem res_split (d : Dev nD) (f : Buf (Elt F) ((d : Thread nD τ).loc main_v1)) : (((d : Thread nD τ).loc main_v1) ↦{fullShare} f : sProp 𝕄)
    = bigSep Finset.univ fun j => oPts d j f := by
  have h := held_slots (Ix := Unit) (Val := Elt F) (Name := ℕ) (U := Gh nD τ sig) (Lvl := ℕ) (n := 8) (d : Thread nD τ) oM squeezes_S1x656x128_S656x128 fullShare f
  rw [View.set_whole] at h
  exact h

/-- What device `b`'s argument holds, written into place `b` of device `d`. -/
theorem landed (b d : Dev nD) (fd : Buf (Elt F) ((os b).view.loc (d : Thread nD τ))) (w : (⟨2, ![656, 128]⟩ : Shape).Idx → Elt F .f32)
    (h : w = m ((b : Thread nD τ).loc main_arg0)) :
    ((os b).view.loc (d : Thread nD τ) ↦[(os b).view.set]{fullShare} ((os b).view.write (Elt F) fd w Finset.univ) : sProp 𝕄)
      = oPts d b (result m d) := by
  subst h
  exact slot_written (n := 8) (d : Thread nD τ) oM squeezes_S1x656x128_S656x128 b fullShare fd (result m d) _ fun i => rfl

/-- The argument read, -/
theorem read_own (c : Dev nD) : xM.view.read (Elt F) (m ((c : Thread nD τ).loc main_arg0)) = m ((c : Thread nD τ).loc main_arg0) := rfl
/-- and a place already filled. -/
theorem read_got (c b : Dev nD) : (os b).view.read (Elt F) (result m c) = m ((b : Thread nD τ).loc main_arg0) :=
  funext fun i => (slot_read (n := 8) oM squeezes_S1x656x128_S656x128 b (result m c) i).trans rfl

/-! ## The plan -/

/-- The semaphores: the sends', the receipts', the copy's. -/
def semOf : Key → DmaSem sig
  | .inr (.inl k) => ⟨k.val, by have := k.isLt; show k.val < 15; omega⟩
  | .inr (.inr k) => ⟨7 + k.val, by have := k.isLt; show 7 + k.val < 15; omega⟩
  | .inl _ => ⟨14, by decide⟩

theorem semOf_inj : Function.Injective semOf := fun a b h => by revert a b; decide

/-- What the `k`-th send reads. -/
def lent (c : Dev nD) : Fin 7 → sProp 𝕄
  | 0 => xPts m c (qSend 0)
  | 1 => xPts m c (qSend 1)
  | 2 => xPts m c (qSend 2)
  | 3 => xPts m c (qSend 3)
  | 4 => oPts c (blk 4 c) (result m c)
  | 5 => oPts c (blk 5 c) (result m c)
  | 6 => oPts c (blk 6 c) (result m c)

theorem lent_pass_4 (c : Dev nD) : ((os (blk 4 c)).view.loc (c : Thread nD τ) ↦[(os (blk 4 c)).view.set]{fullShare} result m c : sProp 𝕄) = lent m c 4 := rfl
theorem lent_pass_5 (c : Dev nD) : ((os (blk 5 c)).view.loc (c : Thread nD τ) ↦[(os (blk 5 c)).view.set]{fullShare} result m c : sProp 𝕄) = lent m c 5 := rfl
theorem lent_pass_6 (c : Dev nD) : ((os (blk 6 c)).view.loc (c : Thread nD τ) ↦[(os (blk 6 c)).view.set]{fullShare} result m c : sProp 𝕄) = lent m c 6 := rfl

instance lent_storable (c : Dev nD) : (k : Fin 7) → BI.Storable (upEmb : UEmb _ 𝕄) (lent (F := F) m c k)
  | 0 => xPts_storable m c _
  | 1 => xPts_storable m c _
  | 2 => xPts_storable m c _
  | 3 => xPts_storable m c _
  | 4 => oPts_storable c _ _
  | 5 => oPts_storable c _ _
  | 6 => oPts_storable c _ _

/-- What each transfer hands to the device that waits for it: the copy, both its ends; a send, what it read; a
    receipt, the place filled. -/
def pay (c : Dev nD) : Key → sProp 𝕄
  | .inl _ => iprop(oPts c c (result m c) ∗ xPts m c qKeep)
  | .inr (.inl k) => lent m c k
  | .inr (.inr k) => oPts c (got k c) (result m c)

instance pay_storable (c : Dev nD) : (k : Key) → BI.Storable (upEmb : UEmb _ 𝕄) (pay (F := F) m c k)
  | .inl _ => by unfold pay; infer_instance
  | .inr (.inl k) => by unfold pay; infer_instance
  | .inr (.inr k) => by unfold pay; infer_instance

def plan : Plan nD τ sig (Elt F) where
  sem := semOf
  inj := semOf_inj
  tgt := tgt
  invol := tgt_tgt
  amt := (os 0).view.dmaCredit
  amt_pos := View.dmaCredit_pos _ (by decide)
  pay := pay m
  storable := pay_storable m

/-! ## The order of the waits

  A device waits for what it passes on while it still owes that to its sibling, so the three receipts that carry passed-on
  matrices come after all others. -/

abbrev L : GSem nD τ sig → Finset Unit := fun g => if g.1.2 = .tc then {()} else ∅
abbrev lv : GSem nD τ sig → Unit → ℕ := fun g _ => match g.2 with
  | .dma s => if 11 ≤ s.val ∧ s.val < 14 then 1 else 0
  | _ => 0

theorem may (c : Dev nD) (key : Key) (hk : ¬ (11 ≤ (semOf key).val ∧ (semOf key).val < 14)) (s : Finset (Fin 7)) (hs : ∀ j ∈ s, 4 ≤ j.val) :
    (levAts L lv : sProp 𝕄) ⊢ MayWait (c : Thread nD τ) (.dma (semOf key)) () (∑ j ∈ s, (plan m).due c j) := by
  refine Pipeline.mayWait_of_levAts (Finset.mem_singleton_self ()) fun g i hg => ?_
  obtain ⟨j, hj, hp⟩ := Pipeline.sum_pos_exists hg
  have hgj : g = (plan m).cell (tgt j c) (rcv j) := by
    by_contra hne
    unfold Plan.due at hp
    rw [tallyAt_ne_cell (show g ≠ (plan m).cell ((plan m).tgt j c) (rcv j) from hne)] at hp
    exact absurd hp (lt_irrefl 0)
  subst hgj
  refine ⟨Finset.mem_singleton_self (), ?_⟩
  show (if 11 ≤ (semOf key).val ∧ (semOf key).val < 14 then 1 else 0) < (if 11 ≤ 7 + j.val ∧ 7 + j.val < 14 then 1 else 0)
  have h4 := hs j hj
  have h7 := j.isLt
  rw [if_neg hk, if_pos ⟨by omega, by omega⟩]
  exact Nat.zero_lt_one

/-! ## The steps of the body -/

abbrev 𝒱₀ : Variants := Variants.none

/-- What a device needs for its `k`-th send, beside what it reads. -/
def go (c : Dev nD) (k : Fin 7) : sProp 𝕄 :=
  iprop(oPts (tgt k c) (blk k c) (m ((tgt k c : Thread nD τ).loc main_v1)) ∗ (plan m).tok c (snd k) ∗ (plan m).tok (tgt k c) (rcv k))

section Steps

variable {α : Type} {Q : α → sProp (MT nD τ sig Unit (Elt F) ℕ (Gh nD τ sig) ℕ)} {W : Waits sig Unit} {O₀ O : CellTallies nD τ sig Unit}

theorem send (c : Dev nD) (k : Fin 7) {n : Dev nD} (hn : n = tgt k c) {S R : DmaSem sig} (hS : S = semOf (snd k)) (hR : R = semOf (rcv k))
    {src src' dst : Memref sig .tc .hbm S656x128 .f32} (hs : src = src') (hd : dst = os (blk k c))
    {q : PosShare TreeShare} {fs : Buf (Elt F) (src'.view.loc (c : Thread nD τ))}
    (hl : (src'.view.loc (c : Thread nD τ) ↦[src'.view.set]{q} fs : sProp 𝕄) = lent m c k)
    (hw : src'.view.read (Elt F) fs = m ((blk k c : Thread nD τ).loc main_arg0))
    {hsc : (dst : Memref sig (Dev.tc n : Thread nD τ).2.kind .hbm S656x128 .f32).view.ref.isScScratch = false}
    {hsrc : src.view.WordExact} {hdst : dst.view.WordExact}
    {hsem : DmaTarget.Typed .hbm (.dma R) (.remote (Dev.tc n : Thread nD τ) (dst : Memref sig .tc .hbm S656x128 .f32) (.dma S) hsc)}
    {cont : PUnit → Prog (TpuEff nD τ sig (Elt F) Λ₀ .tc) α} (hO : O₀ = O + (plan m).due c k) :
    iprop((plan m).allKnown ∗ lent m c k ∗ go m c k ∗ (∃ W, owes (c : Thread nD τ) O₀ W))
      ⊢ iprop(((cred (tallyAt ((plan m).cell c (snd k)) () (plan m).amt) ∗ (∃ W, owes (c : Thread nD τ) O W))
            -∗ wp frame (wpE (defs₀ (F := F)) 𝒱₀ (c : Thread nD τ) none) Set.univ (cont ⟨⟩) Q)
          -∗ wp frame (wpE (defs₀ (F := F)) 𝒱₀ (c : Thread nD τ) none) Set.univ
            (.op (.enqueueDma src (.remote (Dev.tc n : Thread nD τ) dst (.dma S) hsc) (.dma R) hsrc hdst hsem) cont) Q) := by
  subst hs hd
  unfold go oPts
  iintro ⟨#HK, Hx, ⟨Ho, Ht1, Ht2⟩, ⟨%W, HO⟩⟩ Hk
  iapply ((plan m).wp_give 𝒱₀ c k hn hS hR (q := q) (fs := fs) (fd := m ((tgt k c : Thread nD τ).loc main_v1)) rfl
    (show _ ⊢ lent m c k from Entails.of_eq hl) (show _ ⊢ oPts (tgt k c) (got k (tgt k c)) (result m (tgt k c)) from by
      rw [got_tgt]; exact Entails.of_eq (landed m (blk k c) (tgt k c) _ _ hw)) O hO (W := W)) $$ [Hx Ho HO Ht1 Ht2]
  · isplitr; · iexact HK
    isplitl [Hx]; · iapply (Entails.of_eq hl.symm); iexact Hx
    isplitl [Ho]; · iexact Ho
    isplitl [HO]; · iexact HO
    isplitl [Ht1]; · iexact Ht1
    iexact Ht2
  iintro ⟨Hc, HO⟩
  iapply Hk
  isplitl [Hc]; · iexact Hc
  iexists W; iexact HO

theorem keep (c : Dev nD) {S : DmaSem sig} (hS : S = semOf home)
    {dst : Memref sig .tc .hbm S656x128 .f32} (hd : dst = os c)
    {hsrc : xM.view.WordExact} {hdst : dst.view.WordExact}
    {hsem : DmaTarget.Typed (nD := nD) (τ := τ) (p := Proc.tc) .hbm (.dma S) (.here dst)}
    {cont : PUnit → Prog (TpuEff nD τ sig (Elt F) Λ₀ .tc) α} :
    iprop((plan m).allKnown ∗ xPts m c qKeep ∗ oPts c c (m ((c : Thread nD τ).loc main_v1)) ∗ (plan m).tok c home)
      ⊢ iprop((cred (tallyAt ((plan m).cell c home) () (plan m).amt)
            -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma xM (.here dst) (.dma S) hsrc hdst hsem) cont) Q) := by
  subst hd
  unfold xPts oPts
  iintro ⟨#HK, Hx, Ho, Ht⟩
  iapply ((plan m).wp_keep 𝒱₀ c hS (fd := m ((c : Thread nD τ).loc main_v1)) rfl (show _ ⊢ pay m c home from by
    unfold pay; exact sep_mono (Entails.of_eq (landed m c c _ _ (read_own m c))) (by unfold xPts; exact .rfl)))
  isplitr; · iexact HK
  isplitl [Hx]; · iexact Hx
  isplitl [Ho] <;> iassumption

theorem take (c : Dev nD) (key : Key) {S : DmaSem sig} (hS : S = semOf key)
    {src dst : Memref sig .tc .hbm S656x128 .f32} (hd : dst.view.dmaCredit = (plan m).amt)
    {h1 : src.view.WordExact} {h2 : dst.view.WordExact}
    {cont : PUnit → Prog (TpuEff nD τ sig (Elt F) Λ₀ .tc) α}
    (hM : (levAts L lv : sProp 𝕄) ⊢ MayWait (c : Thread nD τ) (.dma (semOf key)) () O) :
    iprop(((plan m).allKnown ∗ levAts L lv) ∗ cred (tallyAt ((plan m).cell c key) () (plan m).amt) ∗ (∃ W, owes (c : Thread nD τ) O W) ∗ (plan m).at0 c key)
      ⊢ iprop((((∃ W, owes (c : Thread nD τ) O W) ∗ semVal ((plan m).cell c key) 0 ∗ pay m c key)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 S src dst h1 h2) cont) Q) := by
  subst hS
  iintro ⟨⟨#HK, HL⟩, Hc, ⟨%W, HO⟩, Ha⟩ Hk
  iapply ((plan m).wp_take 𝒱₀ c key (fun K => by rw [← hd]; rfl)) $$ [HL Hc HO Ha]
  · isplitr; · iexact HK
    isplitl [Hc]; · iexact Hc
    isplitl [HO]; · iexact HO
    isplitl [HL]; · iapply hM; iexact HL
    iexact Ha
  iintro ⟨HO, Hz, Hp⟩
  iapply Hk
  isplitl [HO]
  · iexists _; iexact HO
  isplitl [Hz]; · iexact Hz
  iapply (show (plan m).pay c key ⊢ pay m c key from .rfl); iexact Hp

end Steps

/-! ## The body -/

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What the device still owes while it waits for the matrices it passes on. -/
theorem may_three (c : Dev nD) : (levAts L lv : sProp 𝕄) ⊢ MayWait (c : Thread nD τ) (.dma (semOf (rcv 1))) () (((0 + (plan m).due c 6) + (plan m).due c 5) + (plan m).due c 4) := by
  have h := may m c (rcv 1) (by decide) {6, 5, 4} (by decide)
  rwa [show (∑ j ∈ {6, 5, 4}, (plan m).due c j) = ((0 + (plan m).due c 6) + (plan m).due c 5) + (plan m).due c 4 from by
    rw [Finset.sum_insert (by decide), Finset.sum_insert (by decide), Finset.sum_singleton, zero_add]; ac_rfl] at h
theorem may_two (c : Dev nD) : (levAts L lv : sProp 𝕄) ⊢ MayWait (c : Thread nD τ) (.dma (semOf (rcv 2))) () ((0 + (plan m).due c 6) + (plan m).due c 5) := by
  have h := may m c (rcv 2) (by decide) {6, 5} (by decide)
  rwa [show (∑ j ∈ {6, 5}, (plan m).due c j) = (0 + (plan m).due c 6) + (plan m).due c 5 from by
    rw [Finset.sum_insert (by decide), Finset.sum_singleton, zero_add]] at h
theorem may_one (c : Dev nD) : (levAts L lv : sProp 𝕄) ⊢ MayWait (c : Thread nD τ) (.dma (semOf (rcv 3))) () (0 + (plan m).due c 6) := by
  have h := may m c (rcv 3) (by decide) {6} (by decide)
  rwa [show (∑ j ∈ {6}, (plan m).due c j) = 0 + (plan m).due c 6 from by
    rw [Finset.sum_singleton, zero_add]] at h
theorem may_none (c : Dev nD) (key : Key) : (levAts L lv : sProp 𝕄) ⊢ MayWait (c : Thread nD τ) (.dma (semOf key)) () (0 : CellTallies nD τ sig Unit) := by
  rw [MayWait_zero]
  iintro -
  iempintro

set_option maxRecDepth 8000 in
theorem body (c : Dev nD) :
    iprop(((plan m).allKnown ∗ levAts L lv) ∗ (bigSep Finset.univ fun k : Key => (plan m).at0 c k)
        ∗ (xPts m c qKeep ∗ oPts c c (m ((c : Thread nD τ).loc main_v1)) ∗ (plan m).tok c home)
        ∗ (xPts m c (qSend 0) ∗ xPts m c (qSend 1) ∗ xPts m c (qSend 2) ∗ xPts m c (qSend 3))
        ∗ (bigSep Finset.univ fun k : Fin 7 => go m c k)
        ∗ (bigSep Finset.univ fun k : Fin 7 => cred (tallyAt ((plan m).cell c (rcv k)) () (plan m).amt))
        ∗ (∃ W, owes (c : Thread nD τ) ((plan m).dues c) W))
      ⊢ wp frame (wpE (defs₀ (F := F)) 𝒱₀ (c : Thread nD τ) none) Set.univ
          (cc0_gather_small_grads (Memref.whole main_arg0) (Memref.isWhole_whole _) (Memref.whole main_v1) (Memref.isWhole_whole _) cc0_scratch0 cc0_scratch1 cc0_scratch2)
          fun _ => iprop((bigSep Finset.univ fun k : Key => semVal ((plan m).cell c k) 0)
            ∗ (pay m c home ∗ (bigSep Finset.univ fun k : Fin 7 => pay m c (snd k)) ∗ pay m c (rcv 0) ∗ pay m c (rcv 4) ∗ pay m c (rcv 5) ∗ pay m c (rcv 6))
            ∗ ∃ W, owes (c : Thread nD τ) (0 : CellTallies nD τ sig Unit) W) := by
  have hdues : (plan m).dues c = (((((((0 + (plan m).due c 6) + (plan m).due c 5) + (plan m).due c 4) + (plan m).due c 3) + (plan m).due c 2) + (plan m).due c 1) + (plan m).due c 0) := by
    unfold Plan.dues; rw [Fin.sum_univ_seven, zero_add]; ac_rfl
  rw [Plan.split_keys, Plan.split_keys, seven, seven, seven, seven, seven, seven, seven, hdues]
  simp only [cc0_gather_small_grads_eq_skeleton]
  unfold cc0_gather_small_grads_skel
  simp only [k0_part10_eq_skeleton]; unfold k0_part10_skel
  simp only [k0_part9_eq_skeleton]; unfold k0_part9_skel
  simp only [k0_part8_eq_skeleton]; unfold k0_part8_skel
  simp only [k0_part7_eq_skeleton]; unfold k0_part7_skel
  simp only [k0_part6_eq_skeleton]; unfold k0_part6_skel
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  simp only [Prog.lift, Prog.bind_op, Prog.bind_ret, Prog.pure_eq_ret, wp_deviceId]
  iintro ⟨⟨#HK, #HL⟩, ⟨Ha, ⟨As0, As1, As2, As3, As4, As5, As6⟩, Ar0, Ar1, Ar2, Ar3, Ar4, Ar5, Ar6⟩, Hk, ⟨X0, X1, X2, X3⟩, ⟨G0, G1, G2, G3, G4, G5, G6⟩, ⟨C0, C1, C2, C3, C4, C5, C6⟩, HO⟩
  iapply (keep m c (S := cc0_scratch2.sem) rfl (slotAt_congr (n := 8) oM (off1 c) _ _ _)) $$ [Hk]
  · isplitr; · iexact HK
    iexact Hk
  iintro Ch
  iapply (send m c 0 (dev1 c) rfl rfl (src' := xM) rfl (slotAt_congr (n := 8) oM (own0 c) _ _ _) (q := qSend 0) rfl (by rw [self_0]; rfl) rfl) $$ [X0 G0 HO]
  · isplitr; · iexact HK
    isplitl [X0]; · iapply (show xPts m c (qSend 0) ⊢ lent m c 0 from .rfl); iexact X0
    isplitl [G0]; · iexact G0
    iexact HO
  iintro ⟨D0, HO⟩
  iapply (send m c 1 (dev2 c) rfl rfl (src' := xM) rfl (slotAt_congr (n := 8) oM (own1 c) _ _ _) (q := qSend 1) rfl (by rw [self_1]; rfl) rfl) $$ [X1 G1 HO]
  · isplitr; · iexact HK
    isplitl [X1]; · iapply (show xPts m c (qSend 1) ⊢ lent m c 1 from .rfl); iexact X1
    isplitl [G1]; · iexact G1
    iexact HO
  iintro ⟨D1, HO⟩
  iapply (send m c 2 (dev3 c) rfl rfl (src' := xM) rfl (slotAt_congr (n := 8) oM (own2 c) _ _ _) (q := qSend 2) rfl (by rw [self_2]; rfl) rfl) $$ [X2 G2 HO]
  · isplitr; · iexact HK
    isplitl [X2]; · iapply (show xPts m c (qSend 2) ⊢ lent m c 2 from .rfl); iexact X2
    isplitl [G2]; · iexact G2
    iexact HO
  iintro ⟨D2, HO⟩
  iapply (send m c 3 (dev4 c) rfl rfl (src' := xM) rfl (slotAt_congr (n := 8) oM (own3 c) _ _ _) (q := qSend 3) rfl (by rw [self_3]; rfl) rfl) $$ [X3 G3 HO]
  · isplitr; · iexact HK
    isplitl [X3]; · iapply (show xPts m c (qSend 3) ⊢ lent m c 3 from .rfl); iexact X3
    isplitl [G3]; · iexact G3
    iexact HO
  iintro ⟨D3, HO⟩
  iapply (take m c (rcv 1) rfl rfl (may_three m c)) $$ [C1 HO Ar1]
  · isplitr; · isplitr; (· iexact HK); iexact HL
    isplitl [C1]; · iexact C1
    isplitl [HO]; · iexact HO
    iexact Ar1
  iintro ⟨HO, Zr1, R1⟩
  iapply (send m c 4 (dev5 c) rfl rfl (src' := os (blk 4 c)) (slotAt_congr (n := 8) oM (off2 c) _ _ _) (slotAt_congr (n := 8) oM (off2 c) _ _ _) (q := fullShare) (fs := result m c) (lent_pass_4 m c) (read_got m c (blk 4 c)) rfl) $$ [R1 G4 HO]
  · isplitr; · iexact HK
    isplitl [R1]; · iapply (show pay m c (rcv 1) ⊢ lent m c 4 from .rfl); iexact R1
    isplitl [G4]; · iexact G4
    iexact HO
  iintro ⟨D4, HO⟩
  iapply (take m c (rcv 2) rfl rfl (may_two m c)) $$ [C2 HO Ar2]
  · isplitr; · isplitr; (· iexact HK); iexact HL
    isplitl [C2]; · iexact C2
    isplitl [HO]; · iexact HO
    iexact Ar2
  iintro ⟨HO, Zr2, R2⟩
  iapply (send m c 5 (dev6 c) rfl rfl (src' := os (blk 5 c)) (slotAt_congr (n := 8) oM (off3 c) _ _ _) (slotAt_congr (n := 8) oM (off3 c) _ _ _) (q := fullShare) (fs := result m c) (lent_pass_5 m c) (read_got m c (blk 5 c)) rfl) $$ [R2 G5 HO]
  · isplitr; · iexact HK
    isplitl [R2]; · iapply (show pay m c (rcv 2) ⊢ lent m c 5 from .rfl); iexact R2
    isplitl [G5]; · iexact G5
    iexact HO
  iintro ⟨D5, HO⟩
  iapply (take m c (rcv 3) rfl rfl (may_one m c)) $$ [C3 HO Ar3]
  · isplitr; · isplitr; (· iexact HK); iexact HL
    isplitl [C3]; · iexact C3
    isplitl [HO]; · iexact HO
    iexact Ar3
  iintro ⟨HO, Zr3, R3⟩
  iapply (send m c 6 (dev7 c) rfl rfl (src' := os (blk 6 c)) (slotAt_congr (n := 8) oM (off4 c) _ _ _) (slotAt_congr (n := 8) oM (off4 c) _ _ _) (q := fullShare) (fs := result m c) (lent_pass_6 m c) (read_got m c (blk 6 c)) rfl) $$ [R3 G6 HO]
  · isplitr; · iexact HK
    isplitl [R3]; · iapply (show pay m c (rcv 3) ⊢ lent m c 6 from .rfl); iexact R3
    isplitl [G6]; · iexact G6
    iexact HO
  iintro ⟨D6, HO⟩
  iapply (take m c (rcv 0) rfl rfl (may_none c _)) $$ [C0 HO Ar0]
  · isplitr; · isplitr; (· iexact HK); iexact HL
    isplitl [C0]; · iexact C0
    isplitl [HO]; · iexact HO
    iexact Ar0
  iintro ⟨HO, Zr0, R0⟩
  iapply (take m c (rcv 4) rfl rfl (may_none c _)) $$ [C4 HO Ar4]
  · isplitr; · isplitr; (· iexact HK); iexact HL
    isplitl [C4]; · iexact C4
    isplitl [HO]; · iexact HO
    iexact Ar4
  iintro ⟨HO, Zr4, R4⟩
  iapply (take m c (rcv 5) rfl rfl (may_none c _)) $$ [C5 HO Ar5]
  · isplitr; · isplitr; (· iexact HK); iexact HL
    isplitl [C5]; · iexact C5
    isplitl [HO]; · iexact HO
    iexact Ar5
  iintro ⟨HO, Zr5, R5⟩
  iapply (take m c (rcv 6) rfl rfl (may_none c _)) $$ [C6 HO Ar6]
  · isplitr; · isplitr; (· iexact HK); iexact HL
    isplitl [C6]; · iexact C6
    isplitl [HO]; · iexact HO
    iexact Ar6
  iintro ⟨HO, Zr6, R6⟩
  iapply (take m c (snd 0) rfl rfl (may_none c _)) $$ [D0 HO As0]
  · isplitr; · isplitr; (· iexact HK); iexact HL
    isplitl [D0]; · iexact D0
    isplitl [HO]; · iexact HO
    iexact As0
  iintro ⟨HO, Zs0, S0⟩
  iapply (take m c (snd 1) rfl rfl (may_none c _)) $$ [D1 HO As1]
  · isplitr; · isplitr; (· iexact HK); iexact HL
    isplitl [D1]; · iexact D1
    isplitl [HO]; · iexact HO
    iexact As1
  iintro ⟨HO, Zs1, S1⟩
  iapply (take m c (snd 2) rfl rfl (may_none c _)) $$ [D2 HO As2]
  · isplitr; · isplitr; (· iexact HK); iexact HL
    isplitl [D2]; · iexact D2
    isplitl [HO]; · iexact HO
    iexact As2
  iintro ⟨HO, Zs2, S2⟩
  iapply (take m c (snd 3) rfl rfl (may_none c _)) $$ [D3 HO As3]
  · isplitr; · isplitr; (· iexact HK); iexact HL
    isplitl [D3]; · iexact D3
    isplitl [HO]; · iexact HO
    iexact As3
  iintro ⟨HO, Zs3, S3⟩
  iapply (take m c (snd 4) rfl rfl (may_none c _)) $$ [D4 HO As4]
  · isplitr; · isplitr; (· iexact HK); iexact HL
    isplitl [D4]; · iexact D4
    isplitl [HO]; · iexact HO
    iexact As4
  iintro ⟨HO, Zs4, S4⟩
  iapply (take m c (snd 5) rfl rfl (may_none c _)) $$ [D5 HO As5]
  · isplitr; · isplitr; (· iexact HK); iexact HL
    isplitl [D5]; · iexact D5
    isplitl [HO]; · iexact HO
    iexact As5
  iintro ⟨HO, Zs5, S5⟩
  iapply (take m c (snd 6) rfl rfl (may_none c _)) $$ [D6 HO As6]
  · isplitr; · isplitr; (· iexact HK); iexact HL
    isplitl [D6]; · iexact D6
    isplitl [HO]; · iexact HO
    iexact As6
  iintro ⟨HO, Zs6, S6⟩
  iapply (take m c (home) rfl rfl (may_none c _)) $$ [Ch HO Ha]
  · isplitr; · isplitr; (· iexact HK); iexact HL
    isplitl [Ch]; · iexact Ch
    isplitl [HO]; · iexact HO
    iexact Ha
  iintro ⟨HO, Zh, Sh⟩
  rw [wp_ret]
  imodintro
  isplitl [Zh Zs0 Zs1 Zs2 Zs3 Zs4 Zs5 Zs6 Zr0 Zr1 Zr2 Zr3 Zr4 Zr5 Zr6]
  · isplitl [Zh]; · iexact Zh
    isplitl [Zs0 Zs1 Zs2 Zs3 Zs4 Zs5 Zs6]
    · isplitl [Zs0]; · iexact Zs0
      isplitl [Zs1]; · iexact Zs1
      isplitl [Zs2]; · iexact Zs2
      isplitl [Zs3]; · iexact Zs3
      isplitl [Zs4]; · iexact Zs4
      isplitl [Zs5]; · iexact Zs5
      iexact Zs6
    · isplitl [Zr0]; · iexact Zr0
      isplitl [Zr1]; · iexact Zr1
      isplitl [Zr2]; · iexact Zr2
      isplitl [Zr3]; · iexact Zr3
      isplitl [Zr4]; · iexact Zr4
      isplitl [Zr5]; · iexact Zr5
      iexact Zr6
  isplitr [HO]
  · isplitl [Sh]; · iexact Sh
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [R0]; · iexact R0
    isplitl [R4]; · iexact R4
    isplitl [R5]; · iexact R5
    iexact R6
  · iexact HO

end Cert.SpreadGrads

end
-- ==== Proof.SpreadGradsRun.lean ====
/-
# The gathering, run and read

The launch of the gathering, for any float values: every weakly fair run from any memory with every
counter at zero terminates, the argument is unchanged, every counter is at zero again, and place `j`
of every device's result holds what device `j` had.
-/
module

public import proofs.«01_k».proof.Proof.SpreadGrads

@[expose] public section

set_option Elab.async false

noncomputable section

namespace Cert.SpreadGrads

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation pinD)
open Cert.GatherGradsIdeal Cert.GatherGradsIdeal.Gen Cert.Peers Cert.Slots

variable {F : FTy → Type} [FloatOps F]

local notation "𝕄" => MT nD τ sig Unit (Elt F) ℕ (Gh nD τ sig) ℕ

variable (m : (ℓ : Loc nD τ sig) → Buf (Elt F) ℓ) (ρ : Dev nD → PrngReg)

/-! ## Dealing the buffers -/

/-- A device's share of the buffers: its own copy's ends, the parts its four own sends read under, and for each send the
    place it goes to. -/
def bufs (c : Dev nD) : sProp 𝕄 :=
  iprop((xPts m c qKeep ∗ oPts c c (m ((c : Thread nD τ).loc main_v1)))
    ∗ (xPts m c (qSend 0) ∗ xPts m c (qSend 1) ∗ xPts m c (qSend 2) ∗ xPts m c (qSend 3))
    ∗ bigSep Finset.univ fun k : Fin 7 => oPts (tgt k c) (blk k c) (m ((tgt k c : Thread nD τ).loc main_v1)))

theorem unscoped_eq (c : Dev nD) (V : (b : Ref sig .tc) → Buf (Elt F) ((c : Thread nD τ).loc b)) :
    (unscopedBufs c V : sProp 𝕄) = iprop(emp ∗ (((c : Thread nD τ).loc main_arg0) ↦{fullShare} V main_arg0) ∗ (((c : Thread nD τ).loc main_v1) ↦{fullShare} V main_v1)) := by
  refine (Pipeline.unscopedBufs_split cfgs (0 : Fin 1) (fun w => w.elim0) (fun w => w.elim0) c V).trans ?_
  rw [show (Pipeline.unscopedRest (cfgs 0).spec c V : sProp 𝕄) = _ from unscopedRest0_eq c V, show (Finset.univ : Finset (Fin (cfgs 0).W)) = ∅ from rfl, bigSep_empty]
  rfl

/-- The places, handed to the devices that fill them. -/
theorem places : (bigSep Finset.univ fun c : Dev nD => bigSep Finset.univ fun k : Fin 7 => (oPts c (got k c) (m ((c : Thread nD τ).loc main_v1)) : sProp 𝕄))
    = bigSep Finset.univ fun c : Dev nD => bigSep Finset.univ fun k : Fin 7 => oPts (tgt k c) (blk k c) (m ((tgt k c : Thread nD τ).loc main_v1)) := by
  refine ((plan m).around fun c k => oPts c (got k c) (m ((c : Thread nD τ).loc main_v1))).trans (bigSep_congr fun c _ => bigSep_congr fun k _ => ?_)
  show oPts (tgt k c) (got k (tgt k c)) _ = _
  rw [got_tgt]
  rfl

theorem deal : (bigSep Finset.univ fun c : Dev nD => unscopedBufs c (fun b => m ((c : Thread nD τ).loc b)) : sProp 𝕄)
    ⊢ bigSep Finset.univ (bufs m) := by
  have h (c : Dev nD) : (unscopedBufs c (fun b => m ((c : Thread nD τ).loc b)) : sProp 𝕄)
      ⊢ iprop((xPts m c qKeep ∗ oPts c c (m ((c : Thread nD τ).loc main_v1)))
        ∗ (xPts m c (qSend 0) ∗ xPts m c (qSend 1) ∗ xPts m c (qSend 2) ∗ xPts m c (qSend 3))
        ∗ bigSep Finset.univ fun k : Fin 7 => oPts c (got k c) (m ((c : Thread nD τ).loc main_v1))) := by
    rw [unscoped_eq, arg_split, res_split, devices_from c]
    iintro ⟨-, ⟨H1, H2⟩, H3, H4⟩
    isplitl [H1 H3]
    · isplitl [H1] <;> iassumption
    · isplitl [H2] <;> iassumption
  have e : (bigSep Finset.univ fun c : Dev nD => iprop((xPts m c qKeep ∗ oPts c c (m ((c : Thread nD τ).loc main_v1)))
        ∗ (xPts m c (qSend 0) ∗ xPts m c (qSend 1) ∗ xPts m c (qSend 2) ∗ xPts m c (qSend 3))
        ∗ bigSep Finset.univ fun k : Fin 7 => oPts c (got k c) (m ((c : Thread nD τ).loc main_v1))) : sProp 𝕄)
      = bigSep Finset.univ (bufs m) := by
    unfold bufs
    simp only [bigSep_sep']
    rw [places]
  rw [← e]
  exact bigSep_mono fun c _ => h c

/-! ## The region -/

/-- What a device's region leaves: its argument, unchanged, and its result. -/
def done (c : Dev nD) : sProp 𝕄 :=
  iprop((((c : Thread nD τ).loc main_arg0) ↦{fullShare} m ((c : Thread nD τ).loc main_arg0)) ∗ (((c : Thread nD τ).loc main_v1) ↦{fullShare} result m c))

def dats (_ : Fin 1) (c : Dev nD) : Dat τ (Elt F) Unit ℕ (Gh nD τ sig) ℕ cfg0 c where
  A w := w.elim0
  after w _ := w.elim0
  Φ t := match t with
    | ⟨0, _⟩ => (plan m).starts L lv (bufs m) c
    | ⟨_ + 1, _⟩ => iprop(done m c ∗ Pipeline.ownSems0 (plan m).osem c)
  q w := w.elim0
  owed t := match t with
    | ⟨0, _⟩ => (plan m).dues c
    | ⟨_ + 1, _⟩ => 0

theorem starts_body (c : Dev nD) : (plan m).starts L lv (bufs m) c
    ⊢ iprop(((plan m).allKnown ∗ levAts L lv) ∗ (bigSep Finset.univ fun k : Key => (plan m).at0 c k)
        ∗ (xPts m c qKeep ∗ oPts c c (m ((c : Thread nD τ).loc main_v1)) ∗ (plan m).tok c home)
        ∗ (xPts m c (qSend 0) ∗ xPts m c (qSend 1) ∗ xPts m c (qSend 2) ∗ xPts m c (qSend 3))
        ∗ (bigSep Finset.univ fun k : Fin 7 => go m c k)
        ∗ (bigSep Finset.univ fun k : Fin 7 => cred (tallyAt ((plan m).cell c (rcv k)) () (plan m).amt))) := by
  unfold Plan.starts bufs Plan.rights go
  simp only [bigSep_sep']
  iintro ⟨HK, Ha, ⟨Ht, Ht1, Ht2⟩, Hc, ⟨Hx, Ho⟩, Hxs, Hos⟩
  isplitl [HK]; · iexact HK
  isplitl [Ha]; · iexact Ha
  isplitl [Ht Hx Ho]
  · isplitl [Hx]; · iexact Hx
    isplitl [Ho]; · iexact Ho
    iexact Ht
  isplitl [Hxs]; · iexact Hxs
  isplitr [Hc]
  · isplitl [Hos]; · iexact Hos
    isplitl [Ht1]; · iexact Ht1
    iexact Ht2
  · iexact Hc

theorem body_done (c : Dev nD) :
    iprop((bigSep Finset.univ fun k : Key => semVal ((plan m).cell c k) 0)
        ∗ (pay m c home ∗ (bigSep Finset.univ fun k : Fin 7 => pay m c (snd k)) ∗ pay m c (rcv 0) ∗ pay m c (rcv 4) ∗ pay m c (rcv 5) ∗ pay m c (rcv 6)))
      ⊢ iprop(done m c ∗ Pipeline.ownSems0 (plan m).osem c) := by
  unfold done
  rw [arg_split, res_split, devices_from c, seven, seven]
  show iprop((bigSep Finset.univ fun k : Key => semVal ((plan m).cell c k) 0)
        ∗ (oPts c c (result m c) ∗ xPts m c qKeep) ∗ (xPts m c (qSend 0) ∗ xPts m c (qSend 1) ∗ xPts m c (qSend 2) ∗ xPts m c (qSend 3)
          ∗ oPts c (got 1 c) (result m c) ∗ oPts c (got 2 c) (result m c) ∗ oPts c (got 3 c) (result m c))
        ∗ oPts c (got 0 c) (result m c) ∗ oPts c (got 4 c) (result m c) ∗ oPts c (got 5 c) (result m c) ∗ oPts c (got 6 c) (result m c)) ⊢ _
  iintro ⟨Hz, ⟨Ho, Hx⟩, ⟨S0, S1, S2, S3, R1, R2, R3⟩, R0, R4, R5, R6⟩
  isplitr [Hz]
  · isplitl [Hx S0 S1 S2 S3]
    · isplitl [Hx]; · iexact Hx
      isplitl [S0]; · iexact S0
      isplitl [S1]; · iexact S1
      isplitl [S2] <;> iassumption
    · isplitl [Ho]; · iexact Ho
      isplitl [R0]; · iexact R0
      isplitl [R1]; · iexact R1
      isplitl [R2]; · iexact R2
      isplitl [R3]; · iexact R3
      isplitl [R4]; · iexact R4
      isplitl [R5] <;> iassumption
  · iapply (show (bigSep Finset.univ fun k : Key => semVal ((plan m).cell c k) 0) ⊢ (Pipeline.ownSems0 (plan m).osem c : sProp 𝕄) from .rfl); iexact Hz

theorem body_obligation (c : Dev nD) : BodyObligation (dats m 0 c) (defs₀ (F := F)) 𝒱₀ () Set.univ := fun t => by
  rw [fin_N0 t]
  show iprop((plan m).starts L lv (bufs m) c ∗ (dats m 0 c).owesAt () (0 : Fin 2) ∗ _) ⊢ wp frame (wpE (defs₀ (F := F)) 𝒱₀ (c : Thread nD τ) none) Set.univ
    (cc0_gather_small_grads (Memref.whole main_arg0) (Memref.isWhole_whole _) (Memref.whole main_v1) (Memref.isWhole_whole _) cc0_scratch0 cc0_scratch1 cc0_scratch2)
    (fun _ => iprop((done m c ∗ Pipeline.ownSems0 (plan m).osem c) ∗ (dats m 0 c).owesAt () (1 : Fin 2) ∗ _))
  refine (show _ ⊢ (_ : sProp 𝕄) from ?_).trans ((body m c).trans (wp_mono frame _ Set.univ fun _ => ?_))
  · iintro ⟨Hs, ⟨%W, -, HO⟩, -⟩
    ihave H := (starts_body m c) $$ Hs
    icases H with ⟨H1, H2, H3, H4, H5, H6⟩
    isplitl [H1]; · iexact H1
    isplitl [H2]; · iexact H2
    isplitl [H3]; · iexact H3
    isplitl [H4]; · iexact H4
    isplitl [H5]; · iexact H5
    isplitl [H6]; · iexact H6
    iexists W; iexact HO
  · iintro ⟨Hz, Hp, %W, HO⟩
    isplitl [Hz Hp]
    · iapply (body_done m c)
      isplitl [Hz] <;> iassumption
    isplitl [HO]
    · iexists W
      isplitr; · ipureintro; exact fun _ _ => Or.inl trivial
      iexact HO
    · rw [Finset.univ_eq_empty, bigSep_empty]; iempintro

/-! ## The run -/

theorem ownSemFacts : Pipeline.OwnSemFacts cfg0.spec (plan (F := F) m).osem := by
  show Pipeline.OwnSemFacts cfg0.spec fun k => SemLoc.dma (semOf k)
  decide

/-- What a final memory shows of device `c`. -/
def QY (c : Dev nD) (s : MemSt nD τ sig (Elt F)) : Prop :=
  s.mem ((c : Thread nD τ).loc main_v1) = result m c ∧ s.mem ((c : Thread nD τ).loc main_arg0) = m ((c : Thread nD τ).loc main_arg0)

theorem read_done (c : Dev nD) (s' : Phys nD τ sig (Elt F)) : iprop(done m c ∗ SI s') ⊢ |={Set.univ}=> iprop(⌜QY m c s'.mem⌝ ∗ (SI s' : sProp 𝕄)) := by
  unfold done
  iintro ⟨⟨Ha, Hr⟩, HS⟩
  ihave H := (pointsTo_read_all (Finset.univ : Finset Unit) (fun _ => (c : Thread nD τ).loc main_arg0) (fun _ => m ((c : Thread nD τ).loc main_arg0)) s') $$ [Ha HS]
  · isplitl [Ha]
    · iapply (Entails.of_eq (BI.bigSep_singleton (Φ := fun _ : Unit => (((c : Thread nD τ).loc main_arg0) ↦{fullShare} m ((c : Thread nD τ).loc main_arg0) : sProp 𝕄)) (i := ())).symm); iexact Ha
    · iexact HS
  icases H with ⟨%h1, HS⟩
  ihave H := (pointsTo_read_all (Finset.univ : Finset Unit) (fun _ => (c : Thread nD τ).loc main_v1) (fun _ => result m c) s') $$ [Hr HS]
  · isplitl [Hr]
    · iapply (Entails.of_eq (BI.bigSep_singleton (Φ := fun _ : Unit => (((c : Thread nD τ).loc main_v1) ↦{fullShare} result m c : sProp 𝕄)) (i := ())).symm); iexact Hr
    · iexact HS
  icases H with ⟨%h2, HS⟩
  imodintro
  isplitr
  · ipureintro; exact ⟨h2 () (Finset.mem_univ _), h1 () (Finset.mem_univ _)⟩
  · iexact HS

set_option maxRecDepth 8000 in
/-- The run, read. -/
theorem run_main : θ_run defs (onTc (τ := τ) (main (F := F))) ⟨m, fun _ => 0, ρ⟩
    (fun r => (∀ c : Dev nD, QY m c r.2) ∧ r.2.sem = fun _ => 0) :=
  Joint.run_joint (fun p => (cfgs p).toPCfg) (fun _ p => (cfgs p).toPCfg_adm) cellOf_inj EP defs₀ 𝒱₀ m ρ main L lv (fun g hg => if_neg hg)
    (plan m).dues (plan m).G
    (Rounds.initOf (Pipeline.cells cfgs cellOf_inj) (Pipeline.launchToks cfgs cellOf_inj), Rounds.initOf (plan m).cells (plan m).toks)
    (by
      iintro Hu
      ihave H := (ownU_pair _ _) $$ Hu
      icases H with ⟨HP, HX⟩
      imod ((plan m).fund) $$ HX with HG
      imodintro
      isplitl [HP] <;> iassumption)
    ((plan m).before (fun p => (cfgs p).toPCfg) (fun _ p => (cfgs p).toPCfg_adm) cellOf_inj (r := (0 : Fin 1)) (ownSemFacts m) L lv (bufs m))
    (done m)
    ((plan m).regroup (fun p => (cfgs p).toPCfg) (fun _ p => (cfgs p).toPCfg_adm) cellOf_inj (r := (0 : Fin 1)) (ownSemFacts m) winFacts0.to₀ m ρ L lv (bufs m) (deal m))
    (fun c => by
      have h := (plan m).wp_region (fun p => (cfgs p).toPCfg) (fun _ p => (cfgs p).toPCfg_adm) cellOf_inj defs₀ 𝒱₀ (r := (0 : Fin 1)) (ownSemFacts m) winFacts0.to₀
        stage_whole0 (dats m) (inferInstanceAs (IsEmpty (Fin 0))) (inferInstanceAs (IsEmpty (Fin 0))) L lv (bufs m) (done m) c (body_obligation m c).loose rfl rfl
        (sep_elim_left) (by
          show iprop(done m c ∗ Pipeline.ownSems0 (plan m).osem c) ⊢ _
          rw [show (Pipeline.scopedRest _ c : sProp 𝕄) = _ from scopedRest0_eq c]
          iintro ⟨H1, H2⟩
          isplitl [H1]; · iexact H1
          isplitl [H2]; · iexact H2
          iempintro)
        (α := PUnit) (fun _ => .ret PUnit.unit) (fun _ => iprop((done m c ∗ boundary (c : Thread nD τ)) ∗ ∃ W, owes (c : Thread nD τ) (0 : CellTallies nD τ sig Unit) W))
      refine (show _ ⊢ (_ : sProp 𝕄) from ?_).trans h
      iintro H
      isplitl [H]; · iexact H
      iintro ⟨Hb, Hd, HO, -⟩
      rw [wp_ret]
      imodintro
      isplitr [HO]
      · isplitl [Hd] <;> iassumption
      · iexact HO)
    (QY m) (read_done m) (fun s h hs => show _ ∧ _ from ⟨h, sem_eq_zero_of_scoped (by decide) hs⟩)

end Cert.SpreadGrads

end
-- ==== Proof.SpreadGradsValue.lean ====
/-
  The gathering against a plain reshape.

  The whole array has `8 · 656` rows; device `j` holds rows `656 j … 656 j + 52735`.  The reference lays the rows
  out as 8 matrices of 656 rows.  Matrix `j` of that layout is what device `j` holds, and what the gathering leaves in
  place `j` of every device.
-/
module

public import proofs.«01_k».proof.Proof.SpreadGradsRun
public import proofs.«01_k».proof.Proof.Gen.GatherGradsRefIdeal
public import proofs.«01_k».proof.Proof.Gen.GatherGradsRefIdeal.Run
public import proofs.«01_k».proof.Proof.Gen.GatherGradsRef
public import proofs.«01_k».proof.Proof.Gen.GatherGradsRef.Run
public import proofs.«01_k».proof.Proof.Gen.GatherGrads
public import proofs.«01_k».proof.Defs
public import Idealize.ShloMosaic.Lib.Layout
public import Idealize.ShloMosaic.Lib.Pipeline.Value

@[expose] public section

set_option Elab.async false

noncomputable section

namespace Cert.SpreadGrads

open Cert.GatherGradsIdeal Cert.GatherGradsIdeal.Gen
open Idealize.ShloMosaic
open Idealize.ShloMosaic.TcCoe
open Idealize.SL.Sem

/-- Block `j` of the rows is matrix `j` of the reshaped array. -/
theorem block_matrix {α : Type} (X : (⟨2, ![5248, 128]⟩ : Shape).Idx → α)
    (h : (⟨2, ![5248, 128]⟩ : Shape).ShapeCasts ⟨3, ![8, 656, 128]⟩)
    (hi : Layout.Tiles ⟨2, ![656, 128]⟩ ⟨2, ![5248, 128]⟩ 0 8) (i : (⟨3, ![8, 656, 128]⟩ : Shape).Idx) :
    Layout.block ⟨2, ![656, 128]⟩ ⟨2, ![5248, 128]⟩ 0 8 (i (0 : Fin 3)) X hi (fun a => i a.succ)
      = shapeCast ⟨3, ![8, 656, 128]⟩ X h i := by
  refine (shapeCast_apply X h _ _ ?_).symm
  rw [Shape.rowMajor_val_three, Shape.rowMajor_val_two]
  simp only [Layout.Tiles.idx_val]
  show ((i (0 : Fin 3)).val * 656 + (i (1 : Fin 3)).val) * 128 + (i (2 : Fin 3)).val
    = ((i (0 : Fin 3)).val * 656 + (i (1 : Fin 3)).val) * 128 + (i (2 : Fin 3)).val
  rfl

variable {F : FTy → Type} [FloatOps F]

/-- The gathering and the reshape, over any float values. -/
theorem meets (m : (ℓ : Loc nD τ sig) → Buf (Elt F) ℓ) (ρ : Dev nD → PrngReg)
    (X : (⟨2, ![5248, 128]⟩ : Shape).Idx → Elt F .f32) (h : (⟨2, ![5248, 128]⟩ : Shape).ShapeCasts ⟨3, ![8, 656, 128]⟩)
    (hX : ∀ c : Dev nD, m ((c : Thread nD τ).loc main_arg0) = Layout.block ⟨2, ![656, 128]⟩ ⟨2, ![5248, 128]⟩ 0 8 c X) :
    θ_run (defs (F := F)) (onTc (τ := τ) (main (F := F))) ⟨m, fun _ => 0, ρ⟩ fun r => ∀ c : Dev nD,
      r.2.mem ((c : Thread nD τ).loc main_v1) = shapeCast ⟨3, ![8, 656, 128]⟩ X h
      ∧ r.2.mem ((c : Thread nD τ).loc main_arg0) = m ((c : Thread nD τ).loc main_arg0) := by
  refine (θ_run defs _ _).mono (fun r hr c => ⟨((hr.1 c).1).trans (funext fun i => ?_), (hr.1 c).2⟩) (run_main (F := F) m ρ)
  exact (congrFun (hX (show Dev nD from i (0 : Fin 3))) _).trans (block_matrix X h _ i)

/-! ## The claims -/

theorem frame_gatherGrads : Cert.quiescent_GatherGrads := fun m ρ _ =>
  (θ_run Cert.GatherGradsIdeal.defs _ _).mono (fun _ h => ⟨fun c => (h.1 c).2, h.2⟩) (run_main (F := Bits) m ρ)

theorem frame_gatherGradsIdeal : Cert.quiescent_GatherGradsIdeal := fun m ρ _ =>
  (θ_run Cert.GatherGradsIdeal.defs _ _).mono (fun _ h => ⟨fun c => (h.1 c).2, h.2⟩) (run_main (F := Ideal) m ρ)

theorem frame_gatherGradsRef : Cert.quiescent_GatherGradsRef := fun m ρ _ =>
  (θ_run Cert.GatherGradsRef.defs _ _).mono (fun r h => ⟨fun c => (h c).2, sem_eq_zero_of_no_sems (by decide) r.2⟩)
    (Cert.GatherGradsRef.Value.run (F := Bits) m ρ)

theorem frame_gatherGradsRefIdeal : Cert.quiescent_GatherGradsRefIdeal := fun m ρ _ =>
  (θ_run Cert.GatherGradsRefIdeal.defs _ _).mono (fun r h => ⟨fun c => (h c).2, sem_eq_zero_of_no_sems (by decide) r.2⟩)
    (Cert.GatherGradsRefIdeal.Value.run (F := Ideal) m ρ)

theorem gatherGrads_algebraic : Cert.algebraic_GatherGradsIdeal_GatherGradsRefIdeal := fun m ρ m' ρ' _ hX =>
  ⟨_, meets (F := Ideal) m ρ _ Cert.GatherGradsRefIdeal.Gen.shapeCasts_S5248x128_S8x656x128 hX,
    (θ_run Cert.GatherGradsRefIdeal.defs _ _).mono (fun _ h => h 0) (Cert.GatherGradsRefIdeal.Value.run (F := Ideal) m' ρ')⟩

theorem gatherGrads_bitexact : Cert.bitexact_GatherGrads_GatherGradsRef := fun m ρ m' ρ' _ hX =>
  ⟨_, meets (F := Bits) m ρ _ Cert.GatherGradsRef.Gen.shapeCasts_S5248x128_S8x656x128 hX,
    (θ_run Cert.GatherGradsRef.defs _ _).mono (fun _ h => h 0) (Cert.GatherGradsRef.Value.run (F := Bits) m' ρ')⟩

end Cert.SpreadGrads

end
-- ==== Proof.AdamMath.lean ====
/-
  The AdamW update of one element at the ideal instance: the total of the devices' gradients, the two moments,
  the step; then the same over a tile of rows, as the kernel computes it, and over whole arrays, as the reference does.
  The modules named after the weights apply this to the kernel's calls, one per shape.
-/
module

public import Idealize.ShloMosaic.Lib.ValueIdxCore
public import Idealize.ShloMosaic.Lib.ValueLayout
public import Idealize.ShloMosaic.Lib.IdealHost
public import Idealize.ShloMosaic.Lib.Pointwise.Reduce
public import Idealize.ShloMosaic.Lib.Pipeline.ValueKit.Tiles

@[expose] public section

noncomputable section

namespace Cert.Adam

open Idealize.ShloMosaic Idealize.ShloMosaic.ValueIdx

/-- The total of the devices' gradients of one element. -/
def tot {n : Nat} (p : Fin n → EReal) : EReal := ∑ k, p k

/-- The first moment, of the gradient and the moment before. -/
def mom1 (g m : EReal) : EReal :=
  Ideal.ofBits .f32 0x3F666666#32 * m + Ideal.ofBits .f32 0x3DCCCCCD#32 * g

/-- The second moment. -/
def mom2 (g v : EReal) : EReal :=
  Ideal.ofBits .f32 0x3F7FBE77#32 * v + Ideal.ofBits .f32 0x3A83126F#32 * (g * g)

/-- The step added to the weight `w`, the two moments divided by their bias words. -/
def delta (g w m v : EReal) : EReal :=
  Ideal.ofBits .f32 0xBA83126F#32
    * (Ideal.div (Ideal.div (mom1 g m) (Ideal.ofBits .f32 0x3F26BD02#32))
        (Ideal.sqrt (Ideal.div (mom2 g v) (Ideal.ofBits .f32 0x3C231ACC#32)) + Ideal.ofBits .f32 0x322BCC77#32)
      + Ideal.ofBits .f32 0x3C23D70A#32 * w)

/-- Eight gradients added one after the other. -/
theorem tot_eq (p : Fin 8 → EReal) : p 0 + p 1 + p 2 + p 3 + p 4 + p 5 + p 6 + p 7 = tot p :=
  (Fin.sum_univ_eight p).symm

theorem bias1 : Ideal.ofBits .f32 0x3F26BD02#32 = ((5463681 / 8388608 : ℝ) : EReal) := by
  simp [Ideal.ofBits, Ideal.ieee, -EReal.coe_mul]
  norm_num

theorem bias2 : Ideal.ofBits .f32 0x3C231ACC#32 = ((2672307 / 268435456 : ℝ) : EReal) := by
  simp [Ideal.ofBits, Ideal.ieee, -EReal.coe_mul]
  norm_num

/-- Multiplying by the first factor is dividing by the first bias word. -/
theorem mul_c1 (x : EReal) : x * ((8388608 / 5463681 : ℝ) : EReal) = Ideal.div x (Ideal.ofBits .f32 0x3F26BD02#32) := by
  rw [bias1, Ideal.div_coe (by norm_num), one_div_div]

/-- Multiplying by the second factor is dividing by the second bias word. -/
theorem mul_c2 (x : EReal) : x * ((268435456 / 2672307 : ℝ) : EReal) = Ideal.div x (Ideal.ofBits .f32 0x3C231ACC#32) := by
  rw [bias2, Ideal.div_coe (by norm_num), one_div_div]

/-- The step as the kernel computes it, multiplying by the factors. -/
theorem delta_eq (g w m v : EReal) :
    Ideal.ofBits .f32 0xBA83126F#32
      * (Ideal.div (mom1 g m * ((8388608 / 5463681 : ℝ) : EReal))
          (Ideal.sqrt (mom2 g v * ((268435456 / 2672307 : ℝ) : EReal)) + Ideal.ofBits .f32 0x322BCC77#32)
        + Ideal.ofBits .f32 0x3C23D70A#32 * w) = delta g w m v := by
  rw [mul_c1, mul_c2, delta]

section Arrays

variable {n R C : Nat} (P : (⟨3, ![n, R, C]⟩ : Shape).Idx → EReal) (w m v : (⟨2, ![R, C]⟩ : Shape).Idx → EReal)

/-- The total gradient, as an array. -/
def grads : FVec Ideal ⟨2, ![R, C]⟩ .f32 := fun i => tot fun k => P (ValueIdx.ix3 k (i 0) (i 1))

/-- The first moment after the step. -/
def newM : FVec Ideal ⟨2, ![R, C]⟩ .f32 := fun i => mom1 (grads P i) (m i)

/-- The second moment after the step. -/
def newV : FVec Ideal ⟨2, ![R, C]⟩ .f32 := fun i => mom2 (grads P i) (v i)

/-- The step itself. -/
def deltas : FVec Ideal ⟨2, ![R, C]⟩ .f32 := fun i => delta (grads P i) (w i) (m i) (v i)

/-- The reference's sum over the devices is the total gradient. -/
theorem reduce_eq {u : Shape} (x : FVec Ideal ⟨3, ![n, R, C]⟩ .f32)
    (hr : (⟨3, ![n, R, C]⟩ : Shape).ReducesTo [0] ⟨2, ![R, C]⟩) (hu : 0 < u.numel) :
    Host.reduceAdd x (constant u .f32 0x00000000#32) hr hu = grads x := by
  funext i
  refine (hostReduceAdd_apply _ _ hr hu i).trans ?_
  rw [Ideal.hostReduceAdd_r3_a0]
  exact (congrArg (· + _) Ideal.ofBits_zero_f32).trans ((zero_add _).trans (Finset.sum_congr rfl fun k _ => congrArg x (funext fun a =>
    match a with | ⟨0, _⟩ => rfl | ⟨1, _⟩ => rfl | ⟨2, _⟩ => rfl)))

end Arrays

section Tiles

variable {n T R C : Nat}

/-- Part `k` of a block, as the kernel reads it: one slice, its leading axis dropped. -/
def part (x : (⟨3, ![n, T, C]⟩ : Shape).Idx → EReal) (k : Nat)
    (inb : ∀ a, (![k, 0, 0] : Fin 3 → Nat) a + (![1, T, C] : Fin 3 → Nat) a ≤ (⟨3, ![n, T, C]⟩ : Shape).size a)
    (h : (⟨3, ![1, T, C]⟩ : Shape).ShapeCasts ⟨2, ![T, C]⟩) : FVec Ideal ⟨2, ![T, C]⟩ .f32 :=
  shapeCast ⟨2, ![T, C]⟩ (View.ld (Val := Elt Ideal) (e' := .f32) x (Rect.unit (s := ⟨3, ![n, T, C]⟩) ![k, 0, 0] ![1, T, C] inb)) h

/-- At row `i` and column `j` it is the block's element `(k, i, j)`. -/
theorem part_apply (x : (⟨3, ![n, T, C]⟩ : Shape).Idx → EReal) (k : Fin n) (inb h) (y : (⟨2, ![T, C]⟩ : Shape).Idx) :
    part x k inb h y = x (ValueIdx.ix3 k (y 0) (y 1)) := by
  unfold part
  conv_lhs => rw [ValueIdx.eq_ix2 y]
  refine (shapeCast_1ab_ab_apply _ h (y 0) (y 1)).trans ?_
  refine View.ld_unit_apply_of (Val := Elt Ideal) (e := .f32) x _ _ inb _ _ fun a => ?_
  match a with
  | ⟨0, _⟩ => rfl
  | ⟨1, _⟩ => exact (Nat.zero_add _).symm
  | ⟨2, _⟩ => exact (Nat.zero_add _).symm

/-- The eight parts added one after the other total, at each element, the eight gradients. -/
theorem sum_apply (x : (⟨3, ![8, T, C]⟩ : Shape).Idx → EReal) (i0 i1 i2 i3 i4 i5 i6 i7 h) (y : (⟨2, ![T, C]⟩ : Shape).Idx) :
    addf (addf (addf (addf (addf (addf (addf (part x 0 i0 h) (part x 1 i1 h)) (part x 2 i2 h)) (part x 3 i3 h))
        (part x 4 i4 h)) (part x 5 i5 h)) (part x 6 i6 h)) (part x 7 i7 h) y
      = tot fun k => x (ValueIdx.ix3 k (y 0) (y 1)) := by
  refine Eq.trans ?_ (tot_eq _)
  rw [← part_apply x 0 i0 h y, ← part_apply x 1 i1 h y, ← part_apply x 2 i2 h y, ← part_apply x 3 i3 h y,
    ← part_apply x 4 i4 h y, ← part_apply x 5 i5 h y, ← part_apply x 6 i6 h y, ← part_apply x 7 i7 h y]
  rfl

/-- One part alone is the total of one gradient. -/
theorem one_apply (x : (⟨3, ![1, T, C]⟩ : Shape).Idx → EReal) (i0 h) (y : (⟨2, ![T, C]⟩ : Shape).Idx) :
    part x 0 i0 h y = tot fun k => x (ValueIdx.ix3 k (y 0) (y 1)) :=
  (part_apply x 0 i0 h y).trans (Fin.sum_univ_one fun k => x (ValueIdx.ix3 k (y 0) (y 1))).symm

/-- The blocks `b0` … `b3` are the tile of the arrays `P`, `w`, `m`, `v` that `e` places. -/
structure Tile (P : (⟨3, ![n, R, C]⟩ : Shape).Idx → EReal) (w m v : (⟨2, ![R, C]⟩ : Shape).Idx → EReal)
    (b0 : (⟨3, ![n, T, C]⟩ : Shape).Idx → EReal) (b1 b2 b3 : (⟨2, ![T, C]⟩ : Shape).Idx → EReal)
    (e : (⟨2, ![T, C]⟩ : Shape).Idx → (⟨2, ![R, C]⟩ : Shape).Idx) : Prop where
  part_at : ∀ k y, b0 (ValueIdx.ix3 k (y 0) (y 1)) = P (ValueIdx.ix3 k (e y 0) (e y 1))
  w_at : ∀ y, b1 y = w (e y)
  m_at : ∀ y, b2 y = m (e y)
  v_at : ∀ y, b3 y = v (e y)

variable {P : (⟨3, ![n, R, C]⟩ : Shape).Idx → EReal} {w m v : (⟨2, ![R, C]⟩ : Shape).Idx → EReal}
  {b0 : (⟨3, ![n, T, C]⟩ : Shape).Idx → EReal} {b1 b2 b3 : (⟨2, ![T, C]⟩ : Shape).Idx → EReal}
  {e : (⟨2, ![T, C]⟩ : Shape).Idx → (⟨2, ![R, C]⟩ : Shape).Idx}

/-- The total over a tile is that tile of the total; -/
theorem Tile.grads_at (h : Tile P w m v b0 b1 b2 b3 e) {g : (⟨2, ![T, C]⟩ : Shape).Idx → EReal}
    (hg : ∀ y, g y = tot fun k => b0 (ValueIdx.ix3 k (y 0) (y 1))) (y : (⟨2, ![T, C]⟩ : Shape).Idx) : g y = grads P (e y) :=
  (hg y).trans (congrArg tot (funext fun k => h.part_at k y))

/-- so with the first moment, -/
theorem Tile.newM_at (h : Tile P w m v b0 b1 b2 b3 e) {g : (⟨2, ![T, C]⟩ : Shape).Idx → EReal}
    (hg : ∀ y, g y = tot fun k => b0 (ValueIdx.ix3 k (y 0) (y 1))) (y : (⟨2, ![T, C]⟩ : Shape).Idx) :
    mom1 (g y) (b2 y) = newM P m (e y) := by
  rw [h.grads_at hg, h.m_at, newM]

/-- the second moment, -/
theorem Tile.newV_at (h : Tile P w m v b0 b1 b2 b3 e) {g : (⟨2, ![T, C]⟩ : Shape).Idx → EReal}
    (hg : ∀ y, g y = tot fun k => b0 (ValueIdx.ix3 k (y 0) (y 1))) (y : (⟨2, ![T, C]⟩ : Shape).Idx) :
    mom2 (g y) (b3 y) = newV P v (e y) := by
  rw [h.grads_at hg, h.v_at, newV]

/-- and the step, computed with the factors. -/
theorem Tile.deltas_at (h : Tile P w m v b0 b1 b2 b3 e) {g : (⟨2, ![T, C]⟩ : Shape).Idx → EReal}
    (hg : ∀ y, g y = tot fun k => b0 (ValueIdx.ix3 k (y 0) (y 1))) (y : (⟨2, ![T, C]⟩ : Shape).Idx) :
    Ideal.ofBits .f32 0xBA83126F#32
      * (Ideal.div (mom1 (g y) (b2 y) * ((8388608 / 5463681 : ℝ) : EReal))
          (Ideal.sqrt (mom2 (g y) (b3 y) * ((268435456 / 2672307 : ℝ) : EReal)) + Ideal.ofBits .f32 0x322BCC77#32)
        + Ideal.ofBits .f32 0x3C23D70A#32 * b1 y) = deltas P w m v (e y) := by
  rw [delta_eq, h.grads_at hg, h.w_at, h.m_at, h.v_at, deltas]

end Tiles

/-- The corner of a block. -/
theorem corner : (![0, 0] : Fin 2 → Nat) = fun _ => 0 := funext fun a => by fin_cases a <;> rfl

end Cert.Adam

end
-- ==== Proof.AdamKvValue.lean ====
/-
  The AdamW update of the weight `w_kv`: what the kernel's four output arrays hold after the run at the ideal
  instance, each the function of `AdamMath` of the argument arrays, read from the blocks the points write back.
-/
module

public import proofs.«01_k».proof.Proof.AdamMath
public import proofs.«01_k».proof.Defs
public import proofs.«01_k».proof.Proof.Gen.AdamKv.Frame
public import proofs.«01_k».proof.Proof.Gen.AdamKvIdeal.Value
public import proofs.«01_k».proof.Proof.Gen.AdamKvRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.AdamKvIdeal.Blocks

open Idealize.ShloMosaic Idealize.ShloMosaic.TcCoe Idealize.ShloMosaic.ValueIdx
open Idealize.SL Idealize.SL.Sem
open Cert.AdamKvIdeal Cert.AdamKvIdeal.Gen Cert.Adam

variable (m : (ℓ : Loc nD τ sig) → Buf (Elt Ideal) ℓ) (ρ : Dev nD → PrngReg)

/-- Every window's block of point `t` starts at its `t`-th tile of rows. -/
theorem at0 : ∀ t : Fin cfg0.N, win0_0.index t = ![0, t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel

/-- The parts added one after the other. -/
theorem sum_eq (x0 : Vec Ideal S8x256x768 .bf16) (x1 x2 x3 : Vec Ideal S256x768 .f32) (y : S256x768.Idx) :
    k0_pay5 x0 x1 x2 x3 y = tot fun k => x0 (ValueIdx.ix3 k (y 0) (y 1)) :=
  sum_apply (T := 256) (C := 768) x0 _ _ _ _ _ _ _ _ _ y

/-- The input blocks of a point are the tile of the arguments that its output block covers. -/
theorem tile (c : Dev nD) (t : Fin cfg0.N) :
    Tile (n := 8) (T := 256) (R := 1024) (C := 768) (m (c.tc.loc main_arg0)) (m (c.tc.loc main_arg1)) (m (c.tc.loc main_arg2))
      (m (c.tc.loc main_arg3)) (iblk m c 0 t) (iblk m c 1 t) (iblk m c 2 t) (iblk m c 3 t) (win0_4.blk t).view.emb where
  part_at k y := by
    blk_simp [iblk]
    refine (congrFun (V_main_arg0 m c) _).trans (congrArg (m (c.tc.loc main_arg0)) ?_)
    blk_ext [at0, at4]
    · show t.val * 256 + (y 0).val = ((win0_4.blk t).view.emb y 0).val
      blk_simp [at4]
    · show (y 1).val = ((win0_4.blk t).view.emb y 1).val
      blk_simp [at4]
  w_at y := by
    blk_simp [iblk]
    refine (congrFun (V_main_arg1 m c) _).trans (congrArg (m (c.tc.loc main_arg1)) ?_)
    blk_ext [at1, at4]
  m_at y := by
    blk_simp [iblk]
    refine (congrFun (V_main_arg2 m c) _).trans (congrArg (m (c.tc.loc main_arg2)) ?_)
    blk_ext [at2, at4]
  v_at y := by
    blk_simp [iblk]
    refine (congrFun (V_main_arg3 m c) _).trans (congrArg (m (c.tc.loc main_arg3)) ?_)
    blk_ext [at3, at4]

/-- The four output arrays after the run: the total gradient, the step and both moments. -/
theorem arrays (c : Dev nD) :
    (dats m 0 c).arrAt 4 cfg0.N = grads (m (c.tc.loc main_arg0))
    ∧ (dats m 0 c).arrAt 5 cfg0.N
      = deltas (m (c.tc.loc main_arg0)) (m (c.tc.loc main_arg1)) (m (c.tc.loc main_arg2)) (m (c.tc.loc main_arg3))
    ∧ (dats m 0 c).arrAt 6 cfg0.N = newM (m (c.tc.loc main_arg0)) (m (c.tc.loc main_arg2))
    ∧ (dats m 0 c).arrAt 7 cfg0.N = newV (m (c.tc.loc main_arg0)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero corner]
    exact (tile m c t).grads_at (sum_eq _ _ _ _) y
  · rw [after0_5, out0_5, View.canon_unit_zero corner, View.ld_unit_zero corner, View.ld_unit_zero corner, View.ld_unit_zero corner]
    exact (tile m c t).deltas_at (sum_eq _ _ _ _) y
  · rw [after0_6, out0_6, View.canon_unit_zero corner, View.ld_unit_zero corner]
    exact (tile m c t).newM_at (sum_eq _ _ _ _) y
  · rw [after0_7, out0_7, View.canon_unit_zero corner, View.ld_unit_zero corner]
    exact (tile m c t).newV_at (sum_eq _ _ _ _) y

end Cert.AdamKvIdeal.Blocks

namespace Cert.AdamKvClaims

open Idealize.ShloMosaic Idealize.ShloMosaic.TcCoe Idealize.SL.Sem Cert.Adam

theorem frame_kernel : Cert.quiescent_AdamKv := fun m ρ _ => Cert.AdamKv.Gen.frame m ρ

theorem frame_ideal : Cert.quiescent_AdamKvIdeal := fun m ρ _ => Cert.AdamKvIdeal.Gen.frame m ρ

theorem frame_ref : Cert.quiescent_AdamKvRefIdeal := fun m ρ _ =>
  (θ_run Cert.AdamKvRefIdeal.defs _ _).mono
    (fun r h => ⟨fun c => (h c).2.2.2.2, sem_eq_zero_of_no_sems (by decide) r.2⟩)
    (Cert.AdamKvRefIdeal.Value.run (F := Ideal) m ρ)

theorem preserves : Cert.preserves_AdamKv_AdamKvIdeal :=
  ⟨IdealRules.named_const.statement Cert.AdamKvIdeal.κ "c1" .f32 0x3FC48605#32 _ rfl,
    IdealRules.named_const.statement Cert.AdamKvIdeal.κ "c2" .f32 0x42C8E6D3#32 _ rfl⟩

theorem algebraic : Cert.algebraic_AdamKvIdeal_AdamKvRefIdeal := by
  intro m ρ m' ρ' _ hagree
  refine ⟨fun c => grads (m (c.tc.loc Cert.AdamKvIdeal.main_arg0)),
    fun c => deltas (m (c.tc.loc Cert.AdamKvIdeal.main_arg0)) (m (c.tc.loc Cert.AdamKvIdeal.main_arg1))
      (m (c.tc.loc Cert.AdamKvIdeal.main_arg2)) (m (c.tc.loc Cert.AdamKvIdeal.main_arg3)),
    fun c => newM (m (c.tc.loc Cert.AdamKvIdeal.main_arg0)) (m (c.tc.loc Cert.AdamKvIdeal.main_arg2)),
    fun c => newV (m (c.tc.loc Cert.AdamKvIdeal.main_arg0)) (m (c.tc.loc Cert.AdamKvIdeal.main_arg3)), ?_, ?_⟩
  · refine (θ_run Cert.AdamKvIdeal.defs _ _).mono (fun _ h c => ?_) (Cert.AdamKvIdeal.Value.run_blocks m ρ)
    obtain ⟨hg, hd, hm, hv⟩ := Cert.AdamKvIdeal.Blocks.arrays m c
    exact ⟨(h c).1.trans hg, (h c).2.1.trans hd, (h c).2.2.1.trans hm, (h c).2.2.2.1.trans hv, (h c).2.2.2.2⟩
  · refine (θ_run Cert.AdamKvRefIdeal.defs _ _).mono (fun _ h c => ?_) (Cert.AdamKvRefIdeal.Value.run (F := Ideal) m' ρ')
    obtain ⟨hg, hd, hm, hv, hk⟩ := h c
    obtain ⟨e0, e1, e2, e3⟩ := hagree c
    refine ⟨hg.trans ?_, hd.trans ?_, hm.trans ?_, hv.trans ?_, hk⟩
    · rw [reduce_eq, e0]; rfl
    · rw [reduce_eq, e0, e1, e2, e3]; rfl
    · rw [reduce_eq, e0, e2]; rfl
    · rw [reduce_eq, e0, e3]; rfl

end Cert.AdamKvClaims

end
-- ==== Proof.AdamSquareValue.lean ====
/-
  The AdamW update of the weights `pool_w_in`, `pool_w_out` and `attn_w_o`, which a device holds at one shape: what the kernel's four output arrays hold after the run at the ideal
  instance, each the function of `AdamMath` of the argument arrays, read from the blocks the points write back.
-/
module

public import proofs.«01_k».proof.Proof.AdamMath
public import proofs.«01_k».proof.Defs
public import proofs.«01_k».proof.Proof.Gen.AdamSquare.Frame
public import proofs.«01_k».proof.Proof.Gen.AdamSquareIdeal.Value
public import proofs.«01_k».proof.Proof.Gen.AdamSquareRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.AdamSquareIdeal.Blocks

open Idealize.ShloMosaic Idealize.ShloMosaic.TcCoe Idealize.ShloMosaic.ValueIdx
open Idealize.SL Idealize.SL.Sem
open Cert.AdamSquareIdeal Cert.AdamSquareIdeal.Gen Cert.Adam

variable (m : (ℓ : Loc nD τ sig) → Buf (Elt Ideal) ℓ) (ρ : Dev nD → PrngReg)

/-- Every window's one block is the whole array. -/
theorem at0 : ∀ t : Fin cfg0.N, win0_0.index t = ![0, 0, 0] := by decide +kernel
theorem at1 : ∀ t : Fin cfg0.N, win0_1.index t = ![0, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![0, 0] := by decide +kernel

/-- The parts added one after the other. -/
theorem sum_eq (x0 : Vec Ideal S8x256x1024 .bf16) (x1 x2 x3 : Vec Ideal S256x1024 .f32) (y : S256x1024.Idx) :
    k0_pay5 x0 x1 x2 x3 y = tot fun k => x0 (ValueIdx.ix3 k (y 0) (y 1)) :=
  sum_apply (T := 256) (C := 1024) x0 _ _ _ _ _ _ _ _ _ y

/-- The input blocks of a point are the tile of the arguments that its output block covers. -/
theorem tile (c : Dev nD) (t : Fin cfg0.N) :
    Tile (n := 8) (T := 256) (R := 256) (C := 1024) (m (c.tc.loc main_arg0)) (m (c.tc.loc main_arg1)) (m (c.tc.loc main_arg2))
      (m (c.tc.loc main_arg3)) (iblk m c 0 t) (iblk m c 1 t) (iblk m c 2 t) (iblk m c 3 t) (win0_4.blk t).view.emb where
  part_at k y := by
    blk_simp [iblk]
    refine (congrFun (V_main_arg0 m c) _).trans (congrArg (m (c.tc.loc main_arg0)) ?_)
    blk_ext [at0, at4]
    · show (y 0).val = ((win0_4.blk t).view.emb y 0).val
      blk_simp [at4]
    · show (y 1).val = ((win0_4.blk t).view.emb y 1).val
      blk_simp [at4]
  w_at y := by
    blk_simp [iblk]
    refine (congrFun (V_main_arg1 m c) _).trans (congrArg (m (c.tc.loc main_arg1)) ?_)
    blk_ext [at1, at4]
  m_at y := by
    blk_simp [iblk]
    refine (congrFun (V_main_arg2 m c) _).trans (congrArg (m (c.tc.loc main_arg2)) ?_)
    blk_ext [at2, at4]
  v_at y := by
    blk_simp [iblk]
    refine (congrFun (V_main_arg3 m c) _).trans (congrArg (m (c.tc.loc main_arg3)) ?_)
    blk_ext [at3, at4]

/-- The four output arrays after the run: the total gradient, the step and both moments. -/
theorem arrays (c : Dev nD) :
    (dats m 0 c).arrAt 4 cfg0.N = grads (m (c.tc.loc main_arg0))
    ∧ (dats m 0 c).arrAt 5 cfg0.N
      = deltas (m (c.tc.loc main_arg0)) (m (c.tc.loc main_arg1)) (m (c.tc.loc main_arg2)) (m (c.tc.loc main_arg3))
    ∧ (dats m 0 c).arrAt 6 cfg0.N = newM (m (c.tc.loc main_arg0)) (m (c.tc.loc main_arg2))
    ∧ (dats m 0 c).arrAt 7 cfg0.N = newV (m (c.tc.loc main_arg0)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero corner]
    exact (tile m c t).grads_at (sum_eq _ _ _ _) y
  · rw [after0_5, out0_5, View.canon_unit_zero corner, View.ld_unit_zero corner, View.ld_unit_zero corner, View.ld_unit_zero corner]
    exact (tile m c t).deltas_at (sum_eq _ _ _ _) y
  · rw [after0_6, out0_6, View.canon_unit_zero corner, View.ld_unit_zero corner]
    exact (tile m c t).newM_at (sum_eq _ _ _ _) y
  · rw [after0_7, out0_7, View.canon_unit_zero corner, View.ld_unit_zero corner]
    exact (tile m c t).newV_at (sum_eq _ _ _ _) y

end Cert.AdamSquareIdeal.Blocks

namespace Cert.AdamSquareClaims

open Idealize.ShloMosaic Idealize.ShloMosaic.TcCoe Idealize.SL.Sem Cert.Adam

theorem frame_kernel : Cert.quiescent_AdamSquare := fun m ρ _ => Cert.AdamSquare.Gen.frame m ρ

theorem frame_ideal : Cert.quiescent_AdamSquareIdeal := fun m ρ _ => Cert.AdamSquareIdeal.Gen.frame m ρ

theorem frame_ref : Cert.quiescent_AdamSquareRefIdeal := fun m ρ _ =>
  (θ_run Cert.AdamSquareRefIdeal.defs _ _).mono
    (fun r h => ⟨fun c => (h c).2.2.2.2, sem_eq_zero_of_no_sems (by decide) r.2⟩)
    (Cert.AdamSquareRefIdeal.Value.run (F := Ideal) m ρ)

theorem preserves : Cert.preserves_AdamSquare_AdamSquareIdeal :=
  ⟨IdealRules.named_const.statement Cert.AdamSquareIdeal.κ "c1" .f32 0x3FC48605#32 _ rfl,
    IdealRules.named_const.statement Cert.AdamSquareIdeal.κ "c2" .f32 0x42C8E6D3#32 _ rfl⟩

theorem algebraic : Cert.algebraic_AdamSquareIdeal_AdamSquareRefIdeal := by
  intro m ρ m' ρ' _ hagree
  refine ⟨fun c => grads (m (c.tc.loc Cert.AdamSquareIdeal.main_arg0)),
    fun c => deltas (m (c.tc.loc Cert.AdamSquareIdeal.main_arg0)) (m (c.tc.loc Cert.AdamSquareIdeal.main_arg1))
      (m (c.tc.loc Cert.AdamSquareIdeal.main_arg2)) (m (c.tc.loc Cert.AdamSquareIdeal.main_arg3)),
    fun c => newM (m (c.tc.loc Cert.AdamSquareIdeal.main_arg0)) (m (c.tc.loc Cert.AdamSquareIdeal.main_arg2)),
    fun c => newV (m (c.tc.loc Cert.AdamSquareIdeal.main_arg0)) (m (c.tc.loc Cert.AdamSquareIdeal.main_arg3)), ?_, ?_⟩
  · refine (θ_run Cert.AdamSquareIdeal.defs _ _).mono (fun _ h c => ?_) (Cert.AdamSquareIdeal.Value.run_blocks m ρ)
    obtain ⟨hg, hd, hm, hv⟩ := Cert.AdamSquareIdeal.Blocks.arrays m c
    exact ⟨(h c).1.trans hg, (h c).2.1.trans hd, (h c).2.2.1.trans hm, (h c).2.2.2.1.trans hv, (h c).2.2.2.2⟩
  · refine (θ_run Cert.AdamSquareRefIdeal.defs _ _).mono (fun _ h c => ?_) (Cert.AdamSquareRefIdeal.Value.run (F := Ideal) m' ρ')
    obtain ⟨hg, hd, hm, hv, hk⟩ := h c
    obtain ⟨e0, e1, e2, e3⟩ := hagree c
    refine ⟨hg.trans ?_, hd.trans ?_, hm.trans ?_, hv.trans ?_, hk⟩
    · rw [reduce_eq, e0]; rfl
    · rw [reduce_eq, e0, e1, e2, e3]; rfl
    · rw [reduce_eq, e0, e2]; rfl
    · rw [reduce_eq, e0, e3]; rfl

end Cert.AdamSquareClaims

end
-- ==== Proof.AdamGrpValue.lean ====
/-
  The AdamW update of the weight `pool_w_grp`: what the kernel's four output arrays hold after the run at the ideal
  instance, each the function of `AdamMath` of the argument arrays, read from the blocks the points write back.
-/
module

public import proofs.«01_k».proof.Proof.AdamMath
public import proofs.«01_k».proof.Defs
public import proofs.«01_k».proof.Proof.Gen.AdamGrp.Frame
public import proofs.«01_k».proof.Proof.Gen.AdamGrpIdeal.Value
public import proofs.«01_k».proof.Proof.Gen.AdamGrpRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.AdamGrpIdeal.Blocks

open Idealize.ShloMosaic Idealize.ShloMosaic.TcCoe Idealize.ShloMosaic.ValueIdx
open Idealize.SL Idealize.SL.Sem
open Cert.AdamGrpIdeal Cert.AdamGrpIdeal.Gen Cert.Adam

variable (m : (ℓ : Loc nD τ sig) → Buf (Elt Ideal) ℓ) (ρ : Dev nD → PrngReg)

/-- Every window's one block is the whole array. -/
theorem at0 : ∀ t : Fin cfg0.N, win0_0.index t = ![0, 0, 0] := by decide +kernel
theorem at1 : ∀ t : Fin cfg0.N, win0_1.index t = ![0, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![0, 0] := by decide +kernel

/-- The parts added one after the other. -/
theorem sum_eq (x0 : Vec Ideal S8x256x256 .bf16) (x1 x2 x3 : Vec Ideal S256x256 .f32) (y : S256x256.Idx) :
    k0_pay5 x0 x1 x2 x3 y = tot fun k => x0 (ValueIdx.ix3 k (y 0) (y 1)) :=
  sum_apply (T := 256) (C := 256) x0 _ _ _ _ _ _ _ _ _ y

/-- The input blocks of a point are the tile of the arguments that its output block covers. -/
theorem tile (c : Dev nD) (t : Fin cfg0.N) :
    Tile (n := 8) (T := 256) (R := 256) (C := 256) (m (c.tc.loc main_arg0)) (m (c.tc.loc main_arg1)) (m (c.tc.loc main_arg2))
      (m (c.tc.loc main_arg3)) (iblk m c 0 t) (iblk m c 1 t) (iblk m c 2 t) (iblk m c 3 t) (win0_4.blk t).view.emb where
  part_at k y := by
    blk_simp [iblk]
    refine (congrFun (V_main_arg0 m c) _).trans (congrArg (m (c.tc.loc main_arg0)) ?_)
    blk_ext [at0, at4]
    · show (y 0).val = ((win0_4.blk t).view.emb y 0).val
      blk_simp [at4]
    · show (y 1).val = ((win0_4.blk t).view.emb y 1).val
      blk_simp [at4]
  w_at y := by
    blk_simp [iblk]
    refine (congrFun (V_main_arg1 m c) _).trans (congrArg (m (c.tc.loc main_arg1)) ?_)
    blk_ext [at1, at4]
  m_at y := by
    blk_simp [iblk]
    refine (congrFun (V_main_arg2 m c) _).trans (congrArg (m (c.tc.loc main_arg2)) ?_)
    blk_ext [at2, at4]
  v_at y := by
    blk_simp [iblk]
    refine (congrFun (V_main_arg3 m c) _).trans (congrArg (m (c.tc.loc main_arg3)) ?_)
    blk_ext [at3, at4]

/-- The four output arrays after the run: the total gradient, the step and both moments. -/
theorem arrays (c : Dev nD) :
    (dats m 0 c).arrAt 4 cfg0.N = grads (m (c.tc.loc main_arg0))
    ∧ (dats m 0 c).arrAt 5 cfg0.N
      = deltas (m (c.tc.loc main_arg0)) (m (c.tc.loc main_arg1)) (m (c.tc.loc main_arg2)) (m (c.tc.loc main_arg3))
    ∧ (dats m 0 c).arrAt 6 cfg0.N = newM (m (c.tc.loc main_arg0)) (m (c.tc.loc main_arg2))
    ∧ (dats m 0 c).arrAt 7 cfg0.N = newV (m (c.tc.loc main_arg0)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero corner]
    exact (tile m c t).grads_at (sum_eq _ _ _ _) y
  · rw [after0_5, out0_5, View.canon_unit_zero corner, View.ld_unit_zero corner, View.ld_unit_zero corner, View.ld_unit_zero corner]
    exact (tile m c t).deltas_at (sum_eq _ _ _ _) y
  · rw [after0_6, out0_6, View.canon_unit_zero corner, View.ld_unit_zero corner]
    exact (tile m c t).newM_at (sum_eq _ _ _ _) y
  · rw [after0_7, out0_7, View.canon_unit_zero corner, View.ld_unit_zero corner]
    exact (tile m c t).newV_at (sum_eq _ _ _ _) y

end Cert.AdamGrpIdeal.Blocks

namespace Cert.AdamGrpClaims

open Idealize.ShloMosaic Idealize.ShloMosaic.TcCoe Idealize.SL.Sem Cert.Adam

theorem frame_kernel : Cert.quiescent_AdamGrp := fun m ρ _ => Cert.AdamGrp.Gen.frame m ρ

theorem frame_ideal : Cert.quiescent_AdamGrpIdeal := fun m ρ _ => Cert.AdamGrpIdeal.Gen.frame m ρ

theorem frame_ref : Cert.quiescent_AdamGrpRefIdeal := fun m ρ _ =>
  (θ_run Cert.AdamGrpRefIdeal.defs _ _).mono
    (fun r h => ⟨fun c => (h c).2.2.2.2, sem_eq_zero_of_no_sems (by decide) r.2⟩)
    (Cert.AdamGrpRefIdeal.Value.run (F := Ideal) m ρ)

theorem preserves : Cert.preserves_AdamGrp_AdamGrpIdeal :=
  ⟨IdealRules.named_const.statement Cert.AdamGrpIdeal.κ "c1" .f32 0x3FC48605#32 _ rfl,
    IdealRules.named_const.statement Cert.AdamGrpIdeal.κ "c2" .f32 0x42C8E6D3#32 _ rfl⟩

theorem algebraic : Cert.algebraic_AdamGrpIdeal_AdamGrpRefIdeal := by
  intro m ρ m' ρ' _ hagree
  refine ⟨fun c => grads (m (c.tc.loc Cert.AdamGrpIdeal.main_arg0)),
    fun c => deltas (m (c.tc.loc Cert.AdamGrpIdeal.main_arg0)) (m (c.tc.loc Cert.AdamGrpIdeal.main_arg1))
      (m (c.tc.loc Cert.AdamGrpIdeal.main_arg2)) (m (c.tc.loc Cert.AdamGrpIdeal.main_arg3)),
    fun c => newM (m (c.tc.loc Cert.AdamGrpIdeal.main_arg0)) (m (c.tc.loc Cert.AdamGrpIdeal.main_arg2)),
    fun c => newV (m (c.tc.loc Cert.AdamGrpIdeal.main_arg0)) (m (c.tc.loc Cert.AdamGrpIdeal.main_arg3)), ?_, ?_⟩
  · refine (θ_run Cert.AdamGrpIdeal.defs _ _).mono (fun _ h c => ?_) (Cert.AdamGrpIdeal.Value.run_blocks m ρ)
    obtain ⟨hg, hd, hm, hv⟩ := Cert.AdamGrpIdeal.Blocks.arrays m c
    exact ⟨(h c).1.trans hg, (h c).2.1.trans hd, (h c).2.2.1.trans hm, (h c).2.2.2.1.trans hv, (h c).2.2.2.2⟩
  · refine (θ_run Cert.AdamGrpRefIdeal.defs _ _).mono (fun _ h c => ?_) (Cert.AdamGrpRefIdeal.Value.run (F := Ideal) m' ρ')
    obtain ⟨hg, hd, hm, hv, hk⟩ := h c
    obtain ⟨e0, e1, e2, e3⟩ := hagree c
    refine ⟨hg.trans ?_, hd.trans ?_, hm.trans ?_, hv.trans ?_, hk⟩
    · rw [reduce_eq, e0]; rfl
    · rw [reduce_eq, e0, e1, e2, e3]; rfl
    · rw [reduce_eq, e0, e2]; rfl
    · rw [reduce_eq, e0, e3]; rfl

end Cert.AdamGrpClaims

end
-- ==== Proof.AdamQueryValue.lean ====
/-
  The AdamW update of the weight `attn_w_q`: what the kernel's four output arrays hold after the run at the ideal
  instance, each the function of `AdamMath` of the argument arrays, read from the blocks the points write back.
-/
module

public import proofs.«01_k».proof.Proof.AdamMath
public import proofs.«01_k».proof.Defs
public import proofs.«01_k».proof.Proof.Gen.AdamQuery.Frame
public import proofs.«01_k».proof.Proof.Gen.AdamQueryIdeal.Value
public import proofs.«01_k».proof.Proof.Gen.AdamQueryRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.AdamQueryIdeal.Blocks

open Idealize.ShloMosaic Idealize.ShloMosaic.TcCoe Idealize.ShloMosaic.ValueIdx
open Idealize.SL Idealize.SL.Sem
open Cert.AdamQueryIdeal Cert.AdamQueryIdeal.Gen Cert.Adam

variable (m : (ℓ : Loc nD τ sig) → Buf (Elt Ideal) ℓ) (ρ : Dev nD → PrngReg)

/-- Every window's block of point `t` starts at its `t`-th tile of rows. -/
theorem at0 : ∀ t : Fin cfg0.N, win0_0.index t = ![0, t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel

/-- The parts added one after the other. -/
theorem sum_eq (x0 : Vec Ideal S8x256x384 .bf16) (x1 x2 x3 : Vec Ideal S256x384 .f32) (y : S256x384.Idx) :
    k0_pay5 x0 x1 x2 x3 y = tot fun k => x0 (ValueIdx.ix3 k (y 0) (y 1)) :=
  sum_apply (T := 256) (C := 384) x0 _ _ _ _ _ _ _ _ _ y

/-- The input blocks of a point are the tile of the arguments that its output block covers. -/
theorem tile (c : Dev nD) (t : Fin cfg0.N) :
    Tile (n := 8) (T := 256) (R := 2048) (C := 384) (m (c.tc.loc main_arg0)) (m (c.tc.loc main_arg1)) (m (c.tc.loc main_arg2))
      (m (c.tc.loc main_arg3)) (iblk m c 0 t) (iblk m c 1 t) (iblk m c 2 t) (iblk m c 3 t) (win0_4.blk t).view.emb where
  part_at k y := by
    blk_simp [iblk]
    refine (congrFun (V_main_arg0 m c) _).trans (congrArg (m (c.tc.loc main_arg0)) ?_)
    blk_ext [at0, at4]
    · show t.val * 256 + (y 0).val = ((win0_4.blk t).view.emb y 0).val
      blk_simp [at4]
    · show (y 1).val = ((win0_4.blk t).view.emb y 1).val
      blk_simp [at4]
  w_at y := by
    blk_simp [iblk]
    refine (congrFun (V_main_arg1 m c) _).trans (congrArg (m (c.tc.loc main_arg1)) ?_)
    blk_ext [at1, at4]
  m_at y := by
    blk_simp [iblk]
    refine (congrFun (V_main_arg2 m c) _).trans (congrArg (m (c.tc.loc main_arg2)) ?_)
    blk_ext [at2, at4]
  v_at y := by
    blk_simp [iblk]
    refine (congrFun (V_main_arg3 m c) _).trans (congrArg (m (c.tc.loc main_arg3)) ?_)
    blk_ext [at3, at4]

/-- The four output arrays after the run: the total gradient, the step and both moments. -/
theorem arrays (c : Dev nD) :
    (dats m 0 c).arrAt 4 cfg0.N = grads (m (c.tc.loc main_arg0))
    ∧ (dats m 0 c).arrAt 5 cfg0.N
      = deltas (m (c.tc.loc main_arg0)) (m (c.tc.loc main_arg1)) (m (c.tc.loc main_arg2)) (m (c.tc.loc main_arg3))
    ∧ (dats m 0 c).arrAt 6 cfg0.N = newM (m (c.tc.loc main_arg0)) (m (c.tc.loc main_arg2))
    ∧ (dats m 0 c).arrAt 7 cfg0.N = newV (m (c.tc.loc main_arg0)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero corner]
    exact (tile m c t).grads_at (sum_eq _ _ _ _) y
  · rw [after0_5, out0_5, View.canon_unit_zero corner, View.ld_unit_zero corner, View.ld_unit_zero corner, View.ld_unit_zero corner]
    exact (tile m c t).deltas_at (sum_eq _ _ _ _) y
  · rw [after0_6, out0_6, View.canon_unit_zero corner, View.ld_unit_zero corner]
    exact (tile m c t).newM_at (sum_eq _ _ _ _) y
  · rw [after0_7, out0_7, View.canon_unit_zero corner, View.ld_unit_zero corner]
    exact (tile m c t).newV_at (sum_eq _ _ _ _) y

end Cert.AdamQueryIdeal.Blocks

namespace Cert.AdamQueryClaims

open Idealize.ShloMosaic Idealize.ShloMosaic.TcCoe Idealize.SL.Sem Cert.Adam

theorem frame_kernel : Cert.quiescent_AdamQuery := fun m ρ _ => Cert.AdamQuery.Gen.frame m ρ

theorem frame_ideal : Cert.quiescent_AdamQueryIdeal := fun m ρ _ => Cert.AdamQueryIdeal.Gen.frame m ρ

theorem frame_ref : Cert.quiescent_AdamQueryRefIdeal := fun m ρ _ =>
  (θ_run Cert.AdamQueryRefIdeal.defs _ _).mono
    (fun r h => ⟨fun c => (h c).2.2.2.2, sem_eq_zero_of_no_sems (by decide) r.2⟩)
    (Cert.AdamQueryRefIdeal.Value.run (F := Ideal) m ρ)

theorem preserves : Cert.preserves_AdamQuery_AdamQueryIdeal :=
  ⟨IdealRules.named_const.statement Cert.AdamQueryIdeal.κ "c1" .f32 0x3FC48605#32 _ rfl,
    IdealRules.named_const.statement Cert.AdamQueryIdeal.κ "c2" .f32 0x42C8E6D3#32 _ rfl⟩

theorem algebraic : Cert.algebraic_AdamQueryIdeal_AdamQueryRefIdeal := by
  intro m ρ m' ρ' _ hagree
  refine ⟨fun c => grads (m (c.tc.loc Cert.AdamQueryIdeal.main_arg0)),
    fun c => deltas (m (c.tc.loc Cert.AdamQueryIdeal.main_arg0)) (m (c.tc.loc Cert.AdamQueryIdeal.main_arg1))
      (m (c.tc.loc Cert.AdamQueryIdeal.main_arg2)) (m (c.tc.loc Cert.AdamQueryIdeal.main_arg3)),
    fun c => newM (m (c.tc.loc Cert.AdamQueryIdeal.main_arg0)) (m (c.tc.loc Cert.AdamQueryIdeal.main_arg2)),
    fun c => newV (m (c.tc.loc Cert.AdamQueryIdeal.main_arg0)) (m (c.tc.loc Cert.AdamQueryIdeal.main_arg3)), ?_, ?_⟩
  · refine (θ_run Cert.AdamQueryIdeal.defs _ _).mono (fun _ h c => ?_) (Cert.AdamQueryIdeal.Value.run_blocks m ρ)
    obtain ⟨hg, hd, hm, hv⟩ := Cert.AdamQueryIdeal.Blocks.arrays m c
    exact ⟨(h c).1.trans hg, (h c).2.1.trans hd, (h c).2.2.1.trans hm, (h c).2.2.2.1.trans hv, (h c).2.2.2.2⟩
  · refine (θ_run Cert.AdamQueryRefIdeal.defs _ _).mono (fun _ h c => ?_) (Cert.AdamQueryRefIdeal.Value.run (F := Ideal) m' ρ')
    obtain ⟨hg, hd, hm, hv, hk⟩ := h c
    obtain ⟨e0, e1, e2, e3⟩ := hagree c
    refine ⟨hg.trans ?_, hd.trans ?_, hm.trans ?_, hv.trans ?_, hk⟩
    · rw [reduce_eq, e0]; rfl
    · rw [reduce_eq, e0, e1, e2, e3]; rfl
    · rw [reduce_eq, e0, e2]; rfl
    · rw [reduce_eq, e0, e3]; rfl

end Cert.AdamQueryClaims

end
-- ==== Proof.AdamUpValue.lean ====
/-
  The AdamW update of the weight `ffn_w_up`: what the kernel's four output arrays hold after the run at the ideal
  instance, each the function of `AdamMath` of the argument arrays, read from the blocks the points write back.
-/
module

public import proofs.«01_k».proof.Proof.AdamMath
public import proofs.«01_k».proof.Defs
public import proofs.«01_k».proof.Proof.Gen.AdamUp.Frame
public import proofs.«01_k».proof.Proof.Gen.AdamUpIdeal.Value
public import proofs.«01_k».proof.Proof.Gen.AdamUpRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.AdamUpIdeal.Blocks

open Idealize.ShloMosaic Idealize.ShloMosaic.TcCoe Idealize.ShloMosaic.ValueIdx
open Idealize.SL Idealize.SL.Sem
open Cert.AdamUpIdeal Cert.AdamUpIdeal.Gen Cert.Adam

variable (m : (ℓ : Loc nD τ sig) → Buf (Elt Ideal) ℓ) (ρ : Dev nD → PrngReg)

/-- Every window's block of point `t` starts at its `t`-th tile of rows. -/
theorem at0 : ∀ t : Fin cfg0.N, win0_0.index t = ![0, t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel

/-- The parts added one after the other. -/
theorem sum_eq (x0 : Vec Ideal S8x256x704 .bf16) (x1 x2 x3 : Vec Ideal S256x704 .f32) (y : S256x704.Idx) :
    k0_pay5 x0 x1 x2 x3 y = tot fun k => x0 (ValueIdx.ix3 k (y 0) (y 1)) :=
  sum_apply (T := 256) (C := 704) x0 _ _ _ _ _ _ _ _ _ y

/-- The input blocks of a point are the tile of the arguments that its output block covers. -/
theorem tile (c : Dev nD) (t : Fin cfg0.N) :
    Tile (n := 8) (T := 256) (R := 4096) (C := 704) (m (c.tc.loc main_arg0)) (m (c.tc.loc main_arg1)) (m (c.tc.loc main_arg2))
      (m (c.tc.loc main_arg3)) (iblk m c 0 t) (iblk m c 1 t) (iblk m c 2 t) (iblk m c 3 t) (win0_4.blk t).view.emb where
  part_at k y := by
    blk_simp [iblk]
    refine (congrFun (V_main_arg0 m c) _).trans (congrArg (m (c.tc.loc main_arg0)) ?_)
    blk_ext [at0, at4]
    · show t.val * 256 + (y 0).val = ((win0_4.blk t).view.emb y 0).val
      blk_simp [at4]
    · show (y 1).val = ((win0_4.blk t).view.emb y 1).val
      blk_simp [at4]
  w_at y := by
    blk_simp [iblk]
    refine (congrFun (V_main_arg1 m c) _).trans (congrArg (m (c.tc.loc main_arg1)) ?_)
    blk_ext [at1, at4]
  m_at y := by
    blk_simp [iblk]
    refine (congrFun (V_main_arg2 m c) _).trans (congrArg (m (c.tc.loc main_arg2)) ?_)
    blk_ext [at2, at4]
  v_at y := by
    blk_simp [iblk]
    refine (congrFun (V_main_arg3 m c) _).trans (congrArg (m (c.tc.loc main_arg3)) ?_)
    blk_ext [at3, at4]

/-- The four output arrays after the run: the total gradient, the step and both moments. -/
theorem arrays (c : Dev nD) :
    (dats m 0 c).arrAt 4 cfg0.N = grads (m (c.tc.loc main_arg0))
    ∧ (dats m 0 c).arrAt 5 cfg0.N
      = deltas (m (c.tc.loc main_arg0)) (m (c.tc.loc main_arg1)) (m (c.tc.loc main_arg2)) (m (c.tc.loc main_arg3))
    ∧ (dats m 0 c).arrAt 6 cfg0.N = newM (m (c.tc.loc main_arg0)) (m (c.tc.loc main_arg2))
    ∧ (dats m 0 c).arrAt 7 cfg0.N = newV (m (c.tc.loc main_arg0)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero corner]
    exact (tile m c t).grads_at (sum_eq _ _ _ _) y
  · rw [after0_5, out0_5, View.canon_unit_zero corner, View.ld_unit_zero corner, View.ld_unit_zero corner, View.ld_unit_zero corner]
    exact (tile m c t).deltas_at (sum_eq _ _ _ _) y
  · rw [after0_6, out0_6, View.canon_unit_zero corner, View.ld_unit_zero corner]
    exact (tile m c t).newM_at (sum_eq _ _ _ _) y
  · rw [after0_7, out0_7, View.canon_unit_zero corner, View.ld_unit_zero corner]
    exact (tile m c t).newV_at (sum_eq _ _ _ _) y

end Cert.AdamUpIdeal.Blocks

namespace Cert.AdamUpClaims

open Idealize.ShloMosaic Idealize.ShloMosaic.TcCoe Idealize.SL.Sem Cert.Adam

theorem frame_kernel : Cert.quiescent_AdamUp := fun m ρ _ => Cert.AdamUp.Gen.frame m ρ

theorem frame_ideal : Cert.quiescent_AdamUpIdeal := fun m ρ _ => Cert.AdamUpIdeal.Gen.frame m ρ

theorem frame_ref : Cert.quiescent_AdamUpRefIdeal := fun m ρ _ =>
  (θ_run Cert.AdamUpRefIdeal.defs _ _).mono
    (fun r h => ⟨fun c => (h c).2.2.2.2, sem_eq_zero_of_no_sems (by decide) r.2⟩)
    (Cert.AdamUpRefIdeal.Value.run (F := Ideal) m ρ)

theorem preserves : Cert.preserves_AdamUp_AdamUpIdeal :=
  ⟨IdealRules.named_const.statement Cert.AdamUpIdeal.κ "c1" .f32 0x3FC48605#32 _ rfl,
    IdealRules.named_const.statement Cert.AdamUpIdeal.κ "c2" .f32 0x42C8E6D3#32 _ rfl⟩

theorem algebraic : Cert.algebraic_AdamUpIdeal_AdamUpRefIdeal := by
  intro m ρ m' ρ' _ hagree
  refine ⟨fun c => grads (m (c.tc.loc Cert.AdamUpIdeal.main_arg0)),
    fun c => deltas (m (c.tc.loc Cert.AdamUpIdeal.main_arg0)) (m (c.tc.loc Cert.AdamUpIdeal.main_arg1))
      (m (c.tc.loc Cert.AdamUpIdeal.main_arg2)) (m (c.tc.loc Cert.AdamUpIdeal.main_arg3)),
    fun c => newM (m (c.tc.loc Cert.AdamUpIdeal.main_arg0)) (m (c.tc.loc Cert.AdamUpIdeal.main_arg2)),
    fun c => newV (m (c.tc.loc Cert.AdamUpIdeal.main_arg0)) (m (c.tc.loc Cert.AdamUpIdeal.main_arg3)), ?_, ?_⟩
  · refine (θ_run Cert.AdamUpIdeal.defs _ _).mono (fun _ h c => ?_) (Cert.AdamUpIdeal.Value.run_blocks m ρ)
    obtain ⟨hg, hd, hm, hv⟩ := Cert.AdamUpIdeal.Blocks.arrays m c
    exact ⟨(h c).1.trans hg, (h c).2.1.trans hd, (h c).2.2.1.trans hm, (h c).2.2.2.1.trans hv, (h c).2.2.2.2⟩
  · refine (θ_run Cert.AdamUpRefIdeal.defs _ _).mono (fun _ h c => ?_) (Cert.AdamUpRefIdeal.Value.run (F := Ideal) m' ρ')
    obtain ⟨hg, hd, hm, hv, hk⟩ := h c
    obtain ⟨e0, e1, e2, e3⟩ := hagree c
    refine ⟨hg.trans ?_, hd.trans ?_, hm.trans ?_, hv.trans ?_, hk⟩
    · rw [reduce_eq, e0]; rfl
    · rw [reduce_eq, e0, e1, e2, e3]; rfl
    · rw [reduce_eq, e0, e2]; rfl
    · rw [reduce_eq, e0, e3]; rfl

end Cert.AdamUpClaims

end
-- ==== Proof.AdamDownValue.lean ====
/-
  The AdamW update of the weight `ffn_w_down`: what the kernel's four output arrays hold after the run at the ideal
  instance, each the function of `AdamMath` of the argument arrays, read from the blocks the points write back.
-/
module

public import proofs.«01_k».proof.Proof.AdamMath
public import proofs.«01_k».proof.Defs
public import proofs.«01_k».proof.Proof.Gen.AdamDown.Frame
public import proofs.«01_k».proof.Proof.Gen.AdamDownIdeal.Value
public import proofs.«01_k».proof.Proof.Gen.AdamDownRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.AdamDownIdeal.Blocks

open Idealize.ShloMosaic Idealize.ShloMosaic.TcCoe Idealize.ShloMosaic.ValueIdx
open Idealize.SL Idealize.SL.Sem
open Cert.AdamDownIdeal Cert.AdamDownIdeal.Gen Cert.Adam

variable (m : (ℓ : Loc nD τ sig) → Buf (Elt Ideal) ℓ) (ρ : Dev nD → PrngReg)

/-- Every window's block of point `t` starts at its `t`-th tile of rows. -/
theorem at0 : ∀ t : Fin cfg0.N, win0_0.index t = ![0, t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel

/-- The parts added one after the other. -/
theorem sum_eq (x0 : Vec Ideal S8x176x1024 .bf16) (x1 x2 x3 : Vec Ideal S176x1024 .f32) (y : S176x1024.Idx) :
    k0_pay5 x0 x1 x2 x3 y = tot fun k => x0 (ValueIdx.ix3 k (y 0) (y 1)) :=
  sum_apply (T := 176) (C := 1024) x0 _ _ _ _ _ _ _ _ _ y

/-- The input blocks of a point are the tile of the arguments that its output block covers. -/
theorem tile (c : Dev nD) (t : Fin cfg0.N) :
    Tile (n := 8) (T := 176) (R := 1408) (C := 1024) (m (c.tc.loc main_arg0)) (m (c.tc.loc main_arg1)) (m (c.tc.loc main_arg2))
      (m (c.tc.loc main_arg3)) (iblk m c 0 t) (iblk m c 1 t) (iblk m c 2 t) (iblk m c 3 t) (win0_4.blk t).view.emb where
  part_at k y := by
    blk_simp [iblk]
    refine (congrFun (V_main_arg0 m c) _).trans (congrArg (m (c.tc.loc main_arg0)) ?_)
    blk_ext [at0, at4]
    · show t.val * 176 + (y 0).val = ((win0_4.blk t).view.emb y 0).val
      blk_simp [at4]
    · show (y 1).val = ((win0_4.blk t).view.emb y 1).val
      blk_simp [at4]
  w_at y := by
    blk_simp [iblk]
    refine (congrFun (V_main_arg1 m c) _).trans (congrArg (m (c.tc.loc main_arg1)) ?_)
    blk_ext [at1, at4]
  m_at y := by
    blk_simp [iblk]
    refine (congrFun (V_main_arg2 m c) _).trans (congrArg (m (c.tc.loc main_arg2)) ?_)
    blk_ext [at2, at4]
  v_at y := by
    blk_simp [iblk]
    refine (congrFun (V_main_arg3 m c) _).trans (congrArg (m (c.tc.loc main_arg3)) ?_)
    blk_ext [at3, at4]

/-- The four output arrays after the run: the total gradient, the step and both moments. -/
theorem arrays (c : Dev nD) :
    (dats m 0 c).arrAt 4 cfg0.N = grads (m (c.tc.loc main_arg0))
    ∧ (dats m 0 c).arrAt 5 cfg0.N
      = deltas (m (c.tc.loc main_arg0)) (m (c.tc.loc main_arg1)) (m (c.tc.loc main_arg2)) (m (c.tc.loc main_arg3))
    ∧ (dats m 0 c).arrAt 6 cfg0.N = newM (m (c.tc.loc main_arg0)) (m (c.tc.loc main_arg2))
    ∧ (dats m 0 c).arrAt 7 cfg0.N = newV (m (c.tc.loc main_arg0)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero corner]
    exact (tile m c t).grads_at (sum_eq _ _ _ _) y
  · rw [after0_5, out0_5, View.canon_unit_zero corner, View.ld_unit_zero corner, View.ld_unit_zero corner, View.ld_unit_zero corner]
    exact (tile m c t).deltas_at (sum_eq _ _ _ _) y
  · rw [after0_6, out0_6, View.canon_unit_zero corner, View.ld_unit_zero corner]
    exact (tile m c t).newM_at (sum_eq _ _ _ _) y
  · rw [after0_7, out0_7, View.canon_unit_zero corner, View.ld_unit_zero corner]
    exact (tile m c t).newV_at (sum_eq _ _ _ _) y

end Cert.AdamDownIdeal.Blocks

namespace Cert.AdamDownClaims

open Idealize.ShloMosaic Idealize.ShloMosaic.TcCoe Idealize.SL.Sem Cert.Adam

theorem frame_kernel : Cert.quiescent_AdamDown := fun m ρ _ => Cert.AdamDown.Gen.frame m ρ

theorem frame_ideal : Cert.quiescent_AdamDownIdeal := fun m ρ _ => Cert.AdamDownIdeal.Gen.frame m ρ

theorem frame_ref : Cert.quiescent_AdamDownRefIdeal := fun m ρ _ =>
  (θ_run Cert.AdamDownRefIdeal.defs _ _).mono
    (fun r h => ⟨fun c => (h c).2.2.2.2, sem_eq_zero_of_no_sems (by decide) r.2⟩)
    (Cert.AdamDownRefIdeal.Value.run (F := Ideal) m ρ)

theorem preserves : Cert.preserves_AdamDown_AdamDownIdeal :=
  ⟨IdealRules.named_const.statement Cert.AdamDownIdeal.κ "c1" .f32 0x3FC48605#32 _ rfl,
    IdealRules.named_const.statement Cert.AdamDownIdeal.κ "c2" .f32 0x42C8E6D3#32 _ rfl⟩

theorem algebraic : Cert.algebraic_AdamDownIdeal_AdamDownRefIdeal := by
  intro m ρ m' ρ' _ hagree
  refine ⟨fun c => grads (m (c.tc.loc Cert.AdamDownIdeal.main_arg0)),
    fun c => deltas (m (c.tc.loc Cert.AdamDownIdeal.main_arg0)) (m (c.tc.loc Cert.AdamDownIdeal.main_arg1))
      (m (c.tc.loc Cert.AdamDownIdeal.main_arg2)) (m (c.tc.loc Cert.AdamDownIdeal.main_arg3)),
    fun c => newM (m (c.tc.loc Cert.AdamDownIdeal.main_arg0)) (m (c.tc.loc Cert.AdamDownIdeal.main_arg2)),
    fun c => newV (m (c.tc.loc Cert.AdamDownIdeal.main_arg0)) (m (c.tc.loc Cert.AdamDownIdeal.main_arg3)), ?_, ?_⟩
  · refine (θ_run Cert.AdamDownIdeal.defs _ _).mono (fun _ h c => ?_) (Cert.AdamDownIdeal.Value.run_blocks m ρ)
    obtain ⟨hg, hd, hm, hv⟩ := Cert.AdamDownIdeal.Blocks.arrays m c
    exact ⟨(h c).1.trans hg, (h c).2.1.trans hd, (h c).2.2.1.trans hm, (h c).2.2.2.1.trans hv, (h c).2.2.2.2⟩
  · refine (θ_run Cert.AdamDownRefIdeal.defs _ _).mono (fun _ h c => ?_) (Cert.AdamDownRefIdeal.Value.run (F := Ideal) m' ρ')
    obtain ⟨hg, hd, hm, hv, hk⟩ := h c
    obtain ⟨e0, e1, e2, e3⟩ := hagree c
    refine ⟨hg.trans ?_, hd.trans ?_, hm.trans ?_, hv.trans ?_, hk⟩
    · rw [reduce_eq, e0]; rfl
    · rw [reduce_eq, e0, e1, e2, e3]; rfl
    · rw [reduce_eq, e0, e2]; rfl
    · rw [reduce_eq, e0, e3]; rfl

end Cert.AdamDownClaims

end
-- ==== Proof.AdamAdaValue.lean ====
/-
  The AdamW update of the weight `ada_w`: what the kernel's four output arrays hold after the run at the ideal
  instance, each the function of `AdamMath` of the argument arrays, read from the blocks the points write back.
-/
module

public import proofs.«01_k».proof.Proof.AdamMath
public import proofs.«01_k».proof.Defs
public import proofs.«01_k».proof.Proof.Gen.AdamAda.Frame
public import proofs.«01_k».proof.Proof.Gen.AdamAdaIdeal.Value
public import proofs.«01_k».proof.Proof.Gen.AdamAdaRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.AdamAdaIdeal.Blocks

open Idealize.ShloMosaic Idealize.ShloMosaic.TcCoe Idealize.ShloMosaic.ValueIdx
open Idealize.SL Idealize.SL.Sem
open Cert.AdamAdaIdeal Cert.AdamAdaIdeal.Gen Cert.Adam

variable (m : (ℓ : Loc nD τ sig) → Buf (Elt Ideal) ℓ) (ρ : Dev nD → PrngReg)

/-- Every window's block of point `t` starts at its `t`-th tile of rows. -/
theorem at0 : ∀ t : Fin cfg0.N, win0_0.index t = ![0, t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel

/-- The one part, its leading axis dropped. -/
theorem sum_eq (x0 : Vec Ideal S1x256x768 .f32) (y : S256x768.Idx) :
    k0_pay1 (View.ld x0 r0_0) y = tot fun k => x0 (ValueIdx.ix3 k (y 0) (y 1)) :=
  one_apply (T := 256) (C := 768) x0 _ _ y

/-- The input blocks of a point are the tile of the arguments that its output block covers. -/
theorem tile (c : Dev nD) (t : Fin cfg0.N) :
    Tile (n := 1) (T := 256) (R := 4096) (C := 768) (m (c.tc.loc main_arg0)) (m (c.tc.loc main_arg1)) (m (c.tc.loc main_arg2))
      (m (c.tc.loc main_arg3)) (iblk m c 0 t) (iblk m c 1 t) (iblk m c 2 t) (iblk m c 3 t) (win0_4.blk t).view.emb where
  part_at k y := by
    blk_simp [iblk]
    refine (congrFun (V_main_arg0 m c) _).trans (congrArg (m (c.tc.loc main_arg0)) ?_)
    blk_ext [at0, at4]
    · show t.val * 256 + (y 0).val = ((win0_4.blk t).view.emb y 0).val
      blk_simp [at4]
    · show (y 1).val = ((win0_4.blk t).view.emb y 1).val
      blk_simp [at4]
  w_at y := by
    blk_simp [iblk]
    refine (congrFun (V_main_arg1 m c) _).trans (congrArg (m (c.tc.loc main_arg1)) ?_)
    blk_ext [at1, at4]
  m_at y := by
    blk_simp [iblk]
    refine (congrFun (V_main_arg2 m c) _).trans (congrArg (m (c.tc.loc main_arg2)) ?_)
    blk_ext [at2, at4]
  v_at y := by
    blk_simp [iblk]
    refine (congrFun (V_main_arg3 m c) _).trans (congrArg (m (c.tc.loc main_arg3)) ?_)
    blk_ext [at3, at4]

/-- The four output arrays after the run: the total gradient, the step and both moments. -/
theorem arrays (c : Dev nD) :
    (dats m 0 c).arrAt 4 cfg0.N = grads (m (c.tc.loc main_arg0))
    ∧ (dats m 0 c).arrAt 5 cfg0.N
      = deltas (m (c.tc.loc main_arg0)) (m (c.tc.loc main_arg1)) (m (c.tc.loc main_arg2)) (m (c.tc.loc main_arg3))
    ∧ (dats m 0 c).arrAt 6 cfg0.N = newM (m (c.tc.loc main_arg0)) (m (c.tc.loc main_arg2))
    ∧ (dats m 0 c).arrAt 7 cfg0.N = newV (m (c.tc.loc main_arg0)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero corner]
    exact (tile m c t).grads_at (sum_eq _) y
  · rw [after0_5, out0_5, View.canon_unit_zero corner, View.ld_unit_zero (S := S256x768) corner, View.ld_unit_zero (S := S256x768) corner, View.ld_unit_zero (S := S256x768) corner]
    exact (tile m c t).deltas_at (sum_eq _) y
  · rw [after0_6, out0_6, View.canon_unit_zero corner, View.ld_unit_zero (S := S256x768) corner]
    exact (tile m c t).newM_at (sum_eq _) y
  · rw [after0_7, out0_7, View.canon_unit_zero corner, View.ld_unit_zero (S := S256x768) corner]
    exact (tile m c t).newV_at (sum_eq _) y

end Cert.AdamAdaIdeal.Blocks

namespace Cert.AdamAdaClaims

open Idealize.ShloMosaic Idealize.ShloMosaic.TcCoe Idealize.SL.Sem Cert.Adam

theorem frame_kernel : Cert.quiescent_AdamAda := fun m ρ _ => Cert.AdamAda.Gen.frame m ρ

theorem frame_ideal : Cert.quiescent_AdamAdaIdeal := fun m ρ _ => Cert.AdamAdaIdeal.Gen.frame m ρ

theorem frame_ref : Cert.quiescent_AdamAdaRefIdeal := fun m ρ _ =>
  (θ_run Cert.AdamAdaRefIdeal.defs _ _).mono
    (fun r h => ⟨fun c => (h c).2.2.2.2, sem_eq_zero_of_no_sems (by decide) r.2⟩)
    (Cert.AdamAdaRefIdeal.Value.run (F := Ideal) m ρ)

theorem preserves : Cert.preserves_AdamAda_AdamAdaIdeal :=
  ⟨IdealRules.named_const.statement Cert.AdamAdaIdeal.κ "c1" .f32 0x3FC48605#32 _ rfl,
    IdealRules.named_const.statement Cert.AdamAdaIdeal.κ "c2" .f32 0x42C8E6D3#32 _ rfl⟩

theorem algebraic : Cert.algebraic_AdamAdaIdeal_AdamAdaRefIdeal := by
  intro m ρ m' ρ' _ hagree
  refine ⟨fun c => grads (m (c.tc.loc Cert.AdamAdaIdeal.main_arg0)),
    fun c => deltas (m (c.tc.loc Cert.AdamAdaIdeal.main_arg0)) (m (c.tc.loc Cert.AdamAdaIdeal.main_arg1))
      (m (c.tc.loc Cert.AdamAdaIdeal.main_arg2)) (m (c.tc.loc Cert.AdamAdaIdeal.main_arg3)),
    fun c => newM (m (c.tc.loc Cert.AdamAdaIdeal.main_arg0)) (m (c.tc.loc Cert.AdamAdaIdeal.main_arg2)),
    fun c => newV (m (c.tc.loc Cert.AdamAdaIdeal.main_arg0)) (m (c.tc.loc Cert.AdamAdaIdeal.main_arg3)), ?_, ?_⟩
  · refine (θ_run Cert.AdamAdaIdeal.defs _ _).mono (fun _ h c => ?_) (Cert.AdamAdaIdeal.Value.run_blocks m ρ)
    obtain ⟨hg, hd, hm, hv⟩ := Cert.AdamAdaIdeal.Blocks.arrays m c
    exact ⟨(h c).1.trans hg, (h c).2.1.trans hd, (h c).2.2.1.trans hm, (h c).2.2.2.1.trans hv, (h c).2.2.2.2⟩
  · refine (θ_run Cert.AdamAdaRefIdeal.defs _ _).mono (fun _ h c => ?_) (Cert.AdamAdaRefIdeal.Value.run (F := Ideal) m' ρ')
    obtain ⟨hg, hd, hm, hv, hk⟩ := h c
    obtain ⟨e0, e1, e2, e3⟩ := hagree c
    refine ⟨hg.trans ?_, hd.trans ?_, hm.trans ?_, hv.trans ?_, hk⟩
    · rw [reduce_eq, e0]
    · rw [reduce_eq, e0, e1, e2, e3]; rfl
    · rw [reduce_eq, e0, e2]; rfl
    · rw [reduce_eq, e0, e3]; rfl

end Cert.AdamAdaClaims

end
-- ==== Proof.AdamKvAdaValue.lean ====
/-
  The AdamW update of the weight `kv_ada_w`: what the kernel's four output arrays hold after the run at the ideal
  instance, each the function of `AdamMath` of the argument arrays, read from the blocks the points write back.
-/
module

public import proofs.«01_k».proof.Proof.AdamMath
public import proofs.«01_k».proof.Defs
public import proofs.«01_k».proof.Proof.Gen.AdamKvAda.Frame
public import proofs.«01_k».proof.Proof.Gen.AdamKvAdaIdeal.Value
public import proofs.«01_k».proof.Proof.Gen.AdamKvAdaRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.AdamKvAdaIdeal.Blocks

open Idealize.ShloMosaic Idealize.ShloMosaic.TcCoe Idealize.ShloMosaic.ValueIdx
open Idealize.SL Idealize.SL.Sem
open Cert.AdamKvAdaIdeal Cert.AdamKvAdaIdeal.Gen Cert.Adam

variable (m : (ℓ : Loc nD τ sig) → Buf (Elt Ideal) ℓ) (ρ : Dev nD → PrngReg)

/-- Every window's block of point `t` starts at its `t`-th tile of rows. -/
theorem at0 : ∀ t : Fin cfg0.N, win0_0.index t = ![0, t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel

/-- The one part, its leading axis dropped. -/
theorem sum_eq (x0 : Vec Ideal S1x256x256 .f32) (y : S256x256.Idx) :
    k0_pay1 (View.ld x0 r0_0) y = tot fun k => x0 (ValueIdx.ix3 k (y 0) (y 1)) :=
  one_apply (T := 256) (C := 256) x0 _ _ y

/-- The input blocks of a point are the tile of the arguments that its output block covers. -/
theorem tile (c : Dev nD) (t : Fin cfg0.N) :
    Tile (n := 1) (T := 256) (R := 1024) (C := 256) (m (c.tc.loc main_arg0)) (m (c.tc.loc main_arg1)) (m (c.tc.loc main_arg2))
      (m (c.tc.loc main_arg3)) (iblk m c 0 t) (iblk m c 1 t) (iblk m c 2 t) (iblk m c 3 t) (win0_4.blk t).view.emb where
  part_at k y := by
    blk_simp [iblk]
    refine (congrFun (V_main_arg0 m c) _).trans (congrArg (m (c.tc.loc main_arg0)) ?_)
    blk_ext [at0, at4]
    · show t.val * 256 + (y 0).val = ((win0_4.blk t).view.emb y 0).val
      blk_simp [at4]
    · show (y 1).val = ((win0_4.blk t).view.emb y 1).val
      blk_simp [at4]
  w_at y := by
    blk_simp [iblk]
    refine (congrFun (V_main_arg1 m c) _).trans (congrArg (m (c.tc.loc main_arg1)) ?_)
    blk_ext [at1, at4]
  m_at y := by
    blk_simp [iblk]
    refine (congrFun (V_main_arg2 m c) _).trans (congrArg (m (c.tc.loc main_arg2)) ?_)
    blk_ext [at2, at4]
  v_at y := by
    blk_simp [iblk]
    refine (congrFun (V_main_arg3 m c) _).trans (congrArg (m (c.tc.loc main_arg3)) ?_)
    blk_ext [at3, at4]

/-- The four output arrays after the run: the total gradient, the step and both moments. -/
theorem arrays (c : Dev nD) :
    (dats m 0 c).arrAt 4 cfg0.N = grads (m (c.tc.loc main_arg0))
    ∧ (dats m 0 c).arrAt 5 cfg0.N
      = deltas (m (c.tc.loc main_arg0)) (m (c.tc.loc main_arg1)) (m (c.tc.loc main_arg2)) (m (c.tc.loc main_arg3))
    ∧ (dats m 0 c).arrAt 6 cfg0.N = newM (m (c.tc.loc main_arg0)) (m (c.tc.loc main_arg2))
    ∧ (dats m 0 c).arrAt 7 cfg0.N = newV (m (c.tc.loc main_arg0)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero corner]
    exact (tile m c t).grads_at (sum_eq _) y
  · rw [after0_5, out0_5, View.canon_unit_zero corner, View.ld_unit_zero (S := S256x256) corner, View.ld_unit_zero (S := S256x256) corner, View.ld_unit_zero (S := S256x256) corner]
    exact (tile m c t).deltas_at (sum_eq _) y
  · rw [after0_6, out0_6, View.canon_unit_zero corner, View.ld_unit_zero (S := S256x256) corner]
    exact (tile m c t).newM_at (sum_eq _) y
  · rw [after0_7, out0_7, View.canon_unit_zero corner, View.ld_unit_zero (S := S256x256) corner]
    exact (tile m c t).newV_at (sum_eq _) y

end Cert.AdamKvAdaIdeal.Blocks

namespace Cert.AdamKvAdaClaims

open Idealize.ShloMosaic Idealize.ShloMosaic.TcCoe Idealize.SL.Sem Cert.Adam

theorem frame_kernel : Cert.quiescent_AdamKvAda := fun m ρ _ => Cert.AdamKvAda.Gen.frame m ρ

theorem frame_ideal : Cert.quiescent_AdamKvAdaIdeal := fun m ρ _ => Cert.AdamKvAdaIdeal.Gen.frame m ρ

theorem frame_ref : Cert.quiescent_AdamKvAdaRefIdeal := fun m ρ _ =>
  (θ_run Cert.AdamKvAdaRefIdeal.defs _ _).mono
    (fun r h => ⟨fun c => (h c).2.2.2.2, sem_eq_zero_of_no_sems (by decide) r.2⟩)
    (Cert.AdamKvAdaRefIdeal.Value.run (F := Ideal) m ρ)

theorem preserves : Cert.preserves_AdamKvAda_AdamKvAdaIdeal :=
  ⟨IdealRules.named_const.statement Cert.AdamKvAdaIdeal.κ "c1" .f32 0x3FC48605#32 _ rfl,
    IdealRules.named_const.statement Cert.AdamKvAdaIdeal.κ "c2" .f32 0x42C8E6D3#32 _ rfl⟩

theorem algebraic : Cert.algebraic_AdamKvAdaIdeal_AdamKvAdaRefIdeal := by
  intro m ρ m' ρ' _ hagree
  refine ⟨fun c => grads (m (c.tc.loc Cert.AdamKvAdaIdeal.main_arg0)),
    fun c => deltas (m (c.tc.loc Cert.AdamKvAdaIdeal.main_arg0)) (m (c.tc.loc Cert.AdamKvAdaIdeal.main_arg1))
      (m (c.tc.loc Cert.AdamKvAdaIdeal.main_arg2)) (m (c.tc.loc Cert.AdamKvAdaIdeal.main_arg3)),
    fun c => newM (m (c.tc.loc Cert.AdamKvAdaIdeal.main_arg0)) (m (c.tc.loc Cert.AdamKvAdaIdeal.main_arg2)),
    fun c => newV (m (c.tc.loc Cert.AdamKvAdaIdeal.main_arg0)) (m (c.tc.loc Cert.AdamKvAdaIdeal.main_arg3)), ?_, ?_⟩
  · refine (θ_run Cert.AdamKvAdaIdeal.defs _ _).mono (fun _ h c => ?_) (Cert.AdamKvAdaIdeal.Value.run_blocks m ρ)
    obtain ⟨hg, hd, hm, hv⟩ := Cert.AdamKvAdaIdeal.Blocks.arrays m c
    exact ⟨(h c).1.trans hg, (h c).2.1.trans hd, (h c).2.2.1.trans hm, (h c).2.2.2.1.trans hv, (h c).2.2.2.2⟩
  · refine (θ_run Cert.AdamKvAdaRefIdeal.defs _ _).mono (fun _ h c => ?_) (Cert.AdamKvAdaRefIdeal.Value.run (F := Ideal) m' ρ')
    obtain ⟨hg, hd, hm, hv, hk⟩ := h c
    obtain ⟨e0, e1, e2, e3⟩ := hagree c
    refine ⟨hg.trans ?_, hd.trans ?_, hm.trans ?_, hv.trans ?_, hk⟩
    · rw [reduce_eq, e0]
    · rw [reduce_eq, e0, e1, e2, e3]; rfl
    · rw [reduce_eq, e0, e2]; rfl
    · rw [reduce_eq, e0, e3]; rfl

end Cert.AdamKvAdaClaims

end
-- ==== Proof.AdamSmallValue.lean ====
/-
  The AdamW update of the nine small weights, packed into one array: what the kernel's four output arrays hold after the run at the ideal
  instance, each the function of `AdamMath` of the argument arrays, read from the blocks the points write back.
-/
module

public import proofs.«01_k».proof.Proof.AdamMath
public import proofs.«01_k».proof.Defs
public import proofs.«01_k».proof.Proof.Gen.AdamSmall.Frame
public import proofs.«01_k».proof.Proof.Gen.AdamSmallIdeal.Value
public import proofs.«01_k».proof.Proof.Gen.AdamSmallRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.AdamSmallIdeal.Blocks

open Idealize.ShloMosaic Idealize.ShloMosaic.TcCoe Idealize.ShloMosaic.ValueIdx
open Idealize.SL Idealize.SL.Sem
open Cert.AdamSmallIdeal Cert.AdamSmallIdeal.Gen Cert.Adam

variable (m : (ℓ : Loc nD τ sig) → Buf (Elt Ideal) ℓ) (ρ : Dev nD → PrngReg)

/-- Every window's block of point `t` starts at its `t`-th tile of rows. -/
theorem at0 : ∀ t : Fin cfg0.N, win0_0.index t = ![0, t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel

/-- The parts added one after the other. -/
theorem sum_eq (x0 : Vec Ideal S8x208x128 .f32) (x1 x2 x3 : Vec Ideal S208x128 .f32) (y : S208x128.Idx) :
    k0_pay5 x0 x1 x2 x3 y = tot fun k => x0 (ValueIdx.ix3 k (y 0) (y 1)) :=
  sum_apply (T := 208) (C := 128) x0 _ _ _ _ _ _ _ _ _ y

/-- The first moment of a block. -/
theorem mom_eq (x0 : Vec Ideal S8x208x128 .f32) (x1 x2 x3 : Vec Ideal S208x128 .f32) :
    k0_pay6 x0 x1 x2 x3 = fun y => mom1 (k0_pay5 x0 x1 x2 x3 y) (x2 y) := by
  funext y
  show mom1 (k0_pay5 x0 x1 x2 x3 y) (View.ld x2 r0_8 y) = _
  rw [View.ld_unit_zero (S := S208x128) corner]

/-- The input blocks of a point are the tile of the arguments that its output block covers. -/
theorem tile (c : Dev nD) (t : Fin cfg0.N) :
    Tile (n := 8) (T := 208) (R := 416) (C := 128) (m (c.tc.loc main_arg0)) (m (c.tc.loc main_arg1)) (m (c.tc.loc main_arg2))
      (m (c.tc.loc main_arg3)) (iblk m c 0 t) (iblk m c 1 t) (iblk m c 2 t) (iblk m c 3 t) (win0_4.blk t).view.emb where
  part_at k y := by
    blk_simp [iblk]
    refine (congrFun (V_main_arg0 m c) _).trans (congrArg (m (c.tc.loc main_arg0)) ?_)
    blk_ext [at0, at4]
    · show t.val * 208 + (y 0).val = ((win0_4.blk t).view.emb y 0).val
      blk_simp [at4]
    · show (y 1).val = ((win0_4.blk t).view.emb y 1).val
      blk_simp [at4]
  w_at y := by
    blk_simp [iblk]
    refine (congrFun (V_main_arg1 m c) _).trans (congrArg (m (c.tc.loc main_arg1)) ?_)
    blk_ext [at1, at4]
  m_at y := by
    blk_simp [iblk]
    refine (congrFun (V_main_arg2 m c) _).trans (congrArg (m (c.tc.loc main_arg2)) ?_)
    blk_ext [at2, at4]
  v_at y := by
    blk_simp [iblk]
    refine (congrFun (V_main_arg3 m c) _).trans (congrArg (m (c.tc.loc main_arg3)) ?_)
    blk_ext [at3, at4]

/-- The four output arrays after the run: the total gradient, the step and both moments. -/
theorem arrays (c : Dev nD) :
    (dats m 0 c).arrAt 4 cfg0.N = grads (m (c.tc.loc main_arg0))
    ∧ (dats m 0 c).arrAt 5 cfg0.N
      = deltas (m (c.tc.loc main_arg0)) (m (c.tc.loc main_arg1)) (m (c.tc.loc main_arg2)) (m (c.tc.loc main_arg3))
    ∧ (dats m 0 c).arrAt 6 cfg0.N = newM (m (c.tc.loc main_arg0)) (m (c.tc.loc main_arg2))
    ∧ (dats m 0 c).arrAt 7 cfg0.N = newV (m (c.tc.loc main_arg0)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero corner]
    exact (tile m c t).grads_at (sum_eq _ _ _ _) y
  · rw [after0_5, out0_5, mom_eq, View.canon_unit_zero corner, View.ld_unit_zero corner, View.ld_unit_zero corner]
    exact (tile m c t).deltas_at (sum_eq _ _ _ _) y
  · rw [after0_6, out0_6, mom_eq, View.canon_unit_zero corner]
    exact (tile m c t).newM_at (sum_eq _ _ _ _) y
  · rw [after0_7, out0_7, View.canon_unit_zero corner, View.ld_unit_zero corner]
    exact (tile m c t).newV_at (sum_eq _ _ _ _) y

end Cert.AdamSmallIdeal.Blocks

namespace Cert.AdamSmallClaims

open Idealize.ShloMosaic Idealize.ShloMosaic.TcCoe Idealize.SL.Sem Cert.Adam

theorem frame_kernel : Cert.quiescent_AdamSmall := fun m ρ _ => Cert.AdamSmall.Gen.frame m ρ

theorem frame_ideal : Cert.quiescent_AdamSmallIdeal := fun m ρ _ => Cert.AdamSmallIdeal.Gen.frame m ρ

theorem frame_ref : Cert.quiescent_AdamSmallRefIdeal := fun m ρ _ =>
  (θ_run Cert.AdamSmallRefIdeal.defs _ _).mono
    (fun r h => ⟨fun c => (h c).2.2.2.2, sem_eq_zero_of_no_sems (by decide) r.2⟩)
    (Cert.AdamSmallRefIdeal.Value.run (F := Ideal) m ρ)

theorem preserves : Cert.preserves_AdamSmall_AdamSmallIdeal :=
  ⟨IdealRules.named_const.statement Cert.AdamSmallIdeal.κ "c1" .f32 0x3FC48605#32 _ rfl,
    IdealRules.named_const.statement Cert.AdamSmallIdeal.κ "c2" .f32 0x42C8E6D3#32 _ rfl⟩

theorem algebraic : Cert.algebraic_AdamSmallIdeal_AdamSmallRefIdeal := by
  intro m ρ m' ρ' _ hagree
  refine ⟨fun c => grads (m (c.tc.loc Cert.AdamSmallIdeal.main_arg0)),
    fun c => deltas (m (c.tc.loc Cert.AdamSmallIdeal.main_arg0)) (m (c.tc.loc Cert.AdamSmallIdeal.main_arg1))
      (m (c.tc.loc Cert.AdamSmallIdeal.main_arg2)) (m (c.tc.loc Cert.AdamSmallIdeal.main_arg3)),
    fun c => newM (m (c.tc.loc Cert.AdamSmallIdeal.main_arg0)) (m (c.tc.loc Cert.AdamSmallIdeal.main_arg2)),
    fun c => newV (m (c.tc.loc Cert.AdamSmallIdeal.main_arg0)) (m (c.tc.loc Cert.AdamSmallIdeal.main_arg3)), ?_, ?_⟩
  · refine (θ_run Cert.AdamSmallIdeal.defs _ _).mono (fun _ h c => ?_) (Cert.AdamSmallIdeal.Value.run_blocks m ρ)
    obtain ⟨hg, hd, hm, hv⟩ := Cert.AdamSmallIdeal.Blocks.arrays m c
    exact ⟨(h c).1.trans hg, (h c).2.1.trans hd, (h c).2.2.1.trans hm, (h c).2.2.2.1.trans hv, (h c).2.2.2.2⟩
  · refine (θ_run Cert.AdamSmallRefIdeal.defs _ _).mono (fun _ h c => ?_) (Cert.AdamSmallRefIdeal.Value.run (F := Ideal) m' ρ')
    obtain ⟨hg, hd, hm, hv, hk⟩ := h c
    obtain ⟨e0, e1, e2, e3⟩ := hagree c
    refine ⟨hg.trans ?_, hd.trans ?_, hm.trans ?_, hv.trans ?_, hk⟩
    · rw [reduce_eq, e0]
    · rw [reduce_eq, e0, e1, e2, e3]; rfl
    · rw [reduce_eq, e0, e2]; rfl
    · rw [reduce_eq, e0, e3]; rfl

end Cert.AdamSmallClaims

end
-- ==== Proof.ModMath.lean ====
/-
  A modulation, the product of the condition and of its weight, and the gradient of that weight: over the batch, the sum
  of the products of the condition and of the modulation's own gradient. The modules named after the weights apply this
  to the kernel's calls, two of each.
-/
module

public import Idealize.ShloMosaic.Lib.Pointwise

@[expose] public section

noncomputable section

namespace Cert.Modulation

open Idealize.ShloMosaic

/-- The gradient of the weight of layer `i 0`, at row `i 1` and column `i 2`. -/
def outer {b l d n : Nat} (cond : (⟨2, ![b, d]⟩ : Shape).Idx → EReal) (g : (⟨3, ![l, b, n]⟩ : Shape).Idx → EReal) :
    FVec Ideal ⟨3, ![l, d, n]⟩ .f32 :=
  fun i => ∑ k : Fin b, cond (ValueIdx.ix2 k (i 1)) * g (ValueIdx.ix3 (i 0) k (i 2))

/-- The part of a modulation of layer `i 0` for member `i 1` of the batch, at column `i 2`. -/
def blend {b l d n : Nat} (cond : (⟨2, ![b, d]⟩ : Shape).Idx → EReal) (w : (⟨3, ![l, d, n]⟩ : Shape).Idx → EReal) :
    FVec Ideal ⟨3, ![l, b, n]⟩ .f32 :=
  fun i => ∑ k : Fin d, cond (ValueIdx.ix2 (i 1) k) * w (ValueIdx.ix3 (i 0) k (i 2))

/-- The corners of a block. -/
theorem corner2 : (![0, 0] : Fin 2 → Nat) = fun _ => 0 := funext fun a => by fin_cases a <;> rfl
theorem corner3 : (![0, 0, 0] : Fin 3 → Nat) = fun _ => 0 := funext fun a => by fin_cases a <;> rfl

end Cert.Modulation

end
-- ==== Proof.ModAdaValue.lean ====
/-
  The gradient of the weight `ada_w`: the kernel's output array after the run at the ideal instance is the function of
  `ModMath` of the two argument arrays, read from the blocks the points write back, one layer each.
-/
module

public import proofs.«01_k».proof.Proof.ModMath
public import proofs.«01_k».proof.Defs
public import proofs.«01_k».proof.Proof.Gen.ModAda.Frame
public import proofs.«01_k».proof.Proof.Gen.ModAdaIdeal.Value
public import proofs.«01_k».proof.Proof.Gen.ModAdaRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.ModAdaIdeal.Blocks

open Idealize.ShloMosaic Idealize.ShloMosaic.TcCoe
open Idealize.SL Idealize.SL.Sem
open Cert.ModAdaIdeal Cert.ModAdaIdeal.Gen Cert.Modulation

variable (m : (ℓ : Loc nD τ sig) → Buf (Elt Ideal) ℓ)

/-- The condition is read whole at every point; the gradient and the output are read and written layer by layer. -/
theorem at0 : ∀ t : Fin cfg0.N, win0_0.index t = ![0, 0] := by decide +kernel
theorem at1 : ∀ t : Fin cfg0.N, win0_1.index t = ![t.val, 0, 0] := by decide +kernel
theorem at2 : ∀ t : Fin cfg0.N, win0_2.index t = ![t.val, 0, 0] := by decide +kernel

/-- What a point computes from its blocks. -/
theorem pay_eq (x0 : Vec Ideal S16x1024 .f32) (x1 : Vec Ideal S1x16x768 .f32) (y : S1x1024x768.Idx) :
    k0_pay1 x0 x1 y = ∑ k : Fin 16, x0 (ValueIdx.ix2 k (y 1)) * x1 (ValueIdx.ix3 0 k (y 2)) := by
  pointwise [k0_pay1]
  rfl

/-- The condition's block is the condition. -/
theorem cond_at (c : Dev nD) (t : Fin cfg0.N) (k : Fin 16) (y : S1x1024x768.Idx) :
    iblk m c 0 t (ValueIdx.ix2 k (y 1)) = m (c.tc.loc main_arg0) (ValueIdx.ix2 k ((win0_2.blk t).view.emb y 1)) := by
  blk_simp [iblk]
  refine (congrFun (V_main_arg0 m c) _).trans (congrArg (m (c.tc.loc main_arg0)) ?_)
  blk_ext [at0]
  show (y 1).val = ((win0_2.blk t).view.emb y 1).val
  blk_simp [at2]

/-- The gradient's block is its layer. -/
theorem grad_at (c : Dev nD) (t : Fin cfg0.N) (k : Fin 16) (y : S1x1024x768.Idx) :
    iblk m c 1 t (ValueIdx.ix3 0 k (y 2))
      = m (c.tc.loc main_arg1) (ValueIdx.ix3 ((win0_2.blk t).view.emb y 0) k ((win0_2.blk t).view.emb y 2)) := by
  blk_simp [iblk]
  refine (congrFun (V_main_arg1 m c) _).trans (congrArg (m (c.tc.loc main_arg1)) ?_)
  blk_ext [at1]
  · show t.val = ((win0_2.blk t).view.emb y 0).val
    blk_simp [at2]
  · show (y 2).val = ((win0_2.blk t).view.emb y 2).val
    blk_simp [at2]

/-- The output array after the run. -/
theorem arr2 (c : Dev nD) : (dats m 0 c).arrAt 2 cfg0.N = outer (m (c.tc.loc main_arg0)) (m (c.tc.loc main_arg1)) := by
  refine (dats m 0 c).arrAt_eq_of_covers 2 _ (by decide +kernel) fun t _ y => ?_
  blk_simp
  rw [after0_2, out0_2, View.canon_unit_zero corner3, View.ld_unit_zero corner2, View.ld_unit_zero corner3]
  refine (pay_eq _ _ y).trans (Finset.sum_congr rfl fun k _ => ?_)
  rw [cond_at, grad_at]

end Cert.ModAdaIdeal.Blocks

namespace Cert.ModAdaClaims

open Idealize.ShloMosaic Idealize.ShloMosaic.TcCoe Idealize.SL.Sem Cert.Modulation

theorem frame_kernel : Cert.quiescent_ModAda := fun m ρ _ => Cert.ModAda.Gen.frame m ρ

theorem frame_ideal : Cert.quiescent_ModAdaIdeal := fun m ρ _ => Cert.ModAdaIdeal.Gen.frame m ρ

theorem frame_ref : Cert.quiescent_ModAdaRefIdeal := fun m ρ _ =>
  (θ_run Cert.ModAdaRefIdeal.defs _ _).mono
    (fun r h => ⟨fun c => (h c).2, sem_eq_zero_of_no_sems (by decide) r.2⟩)
    (Cert.ModAdaRefIdeal.Value.run (F := Ideal) m ρ)

/-- The reference's product, its axes put in order, is the same sum. -/
theorem ref_eq (cond : FVec Ideal Cert.ModAdaRefIdeal.S16x1024 .f32) (g : FVec Ideal Cert.ModAdaRefIdeal.S4x16x768 .f32) :
    transpose Cert.ModAdaRefIdeal.S4x1024x768 [0, 2, 1]
      (Host.dotGeneral Cert.ModAdaRefIdeal.dot_S4x16x768_S16x1024_S4x768x1024_1_0_02_1_n_n none g cond)
      Cert.ModAdaRefIdeal.Gen.transposes_S4x768x1024_S4x1024x768_0_2_1 = outer cond g := by
  funext i
  unfold outer
  pointwise!

theorem algebraic : Cert.algebraic_ModAdaIdeal_ModAdaRefIdeal := by
  intro m ρ m' ρ' _ hagree
  refine ⟨fun c => outer (m (c.tc.loc Cert.ModAdaIdeal.main_arg0)) (m (c.tc.loc Cert.ModAdaIdeal.main_arg1)), ?_, ?_⟩
  · exact (θ_run Cert.ModAdaIdeal.defs _ _).mono (fun _ h c => ⟨(h c).1.trans (Cert.ModAdaIdeal.Blocks.arr2 m c), (h c).2⟩)
      (Cert.ModAdaIdeal.Value.run_blocks m ρ)
  · refine (θ_run Cert.ModAdaRefIdeal.defs _ _).mono (fun _ h c => ?_) (Cert.ModAdaRefIdeal.Value.run (F := Ideal) m' ρ')
    obtain ⟨e0, e1⟩ := hagree c
    refine ⟨(h c).1.trans ?_, (h c).2⟩
    rw [e0, e1]
    exact ref_eq _ _

end Cert.ModAdaClaims

end
-- ==== Proof.ModKvValue.lean ====
/-
  The gradient of the weight `kv_ada_w`: the kernel's output array after the run at the ideal instance is the function of
  `ModMath` of the two argument arrays, read from the one block that is written back.
-/
module

public import proofs.«01_k».proof.Proof.ModMath
public import proofs.«01_k».proof.Defs
public import proofs.«01_k».proof.Proof.Gen.ModKv.Frame
public import proofs.«01_k».proof.Proof.Gen.ModKvIdeal.Value
public import proofs.«01_k».proof.Proof.Gen.ModKvRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.ModKvIdeal.Blocks

open Idealize.ShloMosaic Idealize.ShloMosaic.TcCoe
open Idealize.SL Idealize.SL.Sem
open Cert.ModKvIdeal Cert.ModKvIdeal.Gen Cert.Modulation

variable (m : (ℓ : Loc nD τ sig) → Buf (Elt Ideal) ℓ)

/-- There is one point, which reads and writes whole arrays. -/
theorem at0 : ∀ t : Fin cfg0.N, win0_0.index t = ![0, 0] := by decide +kernel
theorem at1 : ∀ t : Fin cfg0.N, win0_1.index t = ![0, 0, 0] := by decide +kernel
theorem at2 : ∀ t : Fin cfg0.N, win0_2.index t = ![0, 0, 0] := by decide +kernel

/-- What a point computes from its blocks. -/
theorem pay_eq (x0 : Vec Ideal S16x1024 .f32) (x1 : Vec Ideal S1x16x256 .f32) (y : S1x1024x256.Idx) :
    k0_pay1 x0 x1 y = ∑ k : Fin 16, x0 (ValueIdx.ix2 k (y 1)) * x1 (ValueIdx.ix3 0 k (y 2)) := by
  pointwise [k0_pay1]
  rfl

/-- The condition's block is the condition. -/
theorem cond_at (c : Dev nD) (t : Fin cfg0.N) (k : Fin 16) (y : S1x1024x256.Idx) :
    iblk m c 0 t (ValueIdx.ix2 k (y 1)) = m (c.tc.loc main_arg0) (ValueIdx.ix2 k ((win0_2.blk t).view.emb y 1)) := by
  blk_simp [iblk]
  refine (congrFun (V_main_arg0 m c) _).trans (congrArg (m (c.tc.loc main_arg0)) ?_)
  blk_ext [at0]
  show (y 1).val = ((win0_2.blk t).view.emb y 1).val
  blk_simp [at2]

/-- The gradient's block is the gradient. -/
theorem grad_at (c : Dev nD) (t : Fin cfg0.N) (k : Fin 16) (y : S1x1024x256.Idx) :
    iblk m c 1 t (ValueIdx.ix3 0 k (y 2))
      = m (c.tc.loc main_arg1) (ValueIdx.ix3 ((win0_2.blk t).view.emb y 0) k ((win0_2.blk t).view.emb y 2)) := by
  blk_simp [iblk]
  refine (congrFun (V_main_arg1 m c) _).trans (congrArg (m (c.tc.loc main_arg1)) ?_)
  blk_ext [at1]
  show (y 2).val = ((win0_2.blk t).view.emb y 2).val
  blk_simp [at2]

/-- The output array after the run. -/
theorem arr2 (c : Dev nD) : (dats m 0 c).arrAt 2 cfg0.N = outer (m (c.tc.loc main_arg0)) (m (c.tc.loc main_arg1)) := by
  refine (dats m 0 c).arrAt_eq_of_covers 2 _ (by decide +kernel) fun t _ y => ?_
  blk_simp
  rw [after0_2, out0_2, View.canon_unit_zero corner3, View.ld_unit_zero corner2, View.ld_unit_zero corner3]
  refine (pay_eq _ _ y).trans (Finset.sum_congr rfl fun k _ => ?_)
  rw [cond_at, grad_at]

end Cert.ModKvIdeal.Blocks

namespace Cert.ModKvClaims

open Idealize.ShloMosaic Idealize.ShloMosaic.TcCoe Idealize.SL.Sem Cert.Modulation

theorem frame_kernel : Cert.quiescent_ModKv := fun m ρ _ => Cert.ModKv.Gen.frame m ρ

theorem frame_ideal : Cert.quiescent_ModKvIdeal := fun m ρ _ => Cert.ModKvIdeal.Gen.frame m ρ

theorem frame_ref : Cert.quiescent_ModKvRefIdeal := fun m ρ _ =>
  (θ_run Cert.ModKvRefIdeal.defs _ _).mono
    (fun r h => ⟨fun c => (h c).2, sem_eq_zero_of_no_sems (by decide) r.2⟩)
    (Cert.ModKvRefIdeal.Value.run (F := Ideal) m ρ)

/-- The reference's product, its axes put in order, is the same sum. -/
theorem ref_eq (cond : FVec Ideal Cert.ModKvRefIdeal.S16x1024 .f32) (g : FVec Ideal Cert.ModKvRefIdeal.S1x16x256 .f32) :
    transpose Cert.ModKvRefIdeal.S1x1024x256 [0, 2, 1]
      (Host.dotGeneral Cert.ModKvRefIdeal.dot_S1x16x256_S16x1024_S1x256x1024_1_0_02_1_n_n none g cond)
      Cert.ModKvRefIdeal.Gen.transposes_S1x256x1024_S1x1024x256_0_2_1 = outer cond g := by
  funext i
  have h : i 0 = (0 : Fin 1) := Subsingleton.elim (α := Fin 1) _ _
  unfold outer
  rw [h]
  pointwise
  exact Finset.sum_congr rfl fun k _ => mul_comm _ _

theorem algebraic : Cert.algebraic_ModKvIdeal_ModKvRefIdeal := by
  intro m ρ m' ρ' _ hagree
  refine ⟨fun c => outer (m (c.tc.loc Cert.ModKvIdeal.main_arg0)) (m (c.tc.loc Cert.ModKvIdeal.main_arg1)), ?_, ?_⟩
  · exact (θ_run Cert.ModKvIdeal.defs _ _).mono (fun _ h c => ⟨(h c).1.trans (Cert.ModKvIdeal.Blocks.arr2 m c), (h c).2⟩)
      (Cert.ModKvIdeal.Value.run_blocks m ρ)
  · refine (θ_run Cert.ModKvRefIdeal.defs _ _).mono (fun _ h c => ?_) (Cert.ModKvRefIdeal.Value.run (F := Ideal) m' ρ')
    obtain ⟨e0, e1⟩ := hagree c
    refine ⟨(h c).1.trans ?_, (h c).2⟩
    rw [e0, e1]
    exact ref_eq _ _

end Cert.ModKvClaims

end
-- ==== Proof.NormMath.lean ====
/-
  The mathematics of a root-mean-square normalisation, of its gradients and of the squared-error loss, for any number of rows:
  what each row's share is, that a tile of the rows computes its rows of the whole, and that the column sums and the loss
  are the sums of the tiles'.
-/
module

public import Idealize.ShloMosaic.Lib.Pointwise
public import Idealize.ShloMosaic.Lib.Pipeline.ValueKit.Acc

@[expose] public section

noncomputable section

namespace Cert.Norm

open Idealize.ShloMosaic

/-- An array of `n` rows of `d`. -/
abbrev Rows (n d : Nat) : Type := (⟨2, ![n, d]⟩ : Shape).Idx → EReal

/-- The row length 1024, the small number under the root, and one half, as the programs write them. -/
def width : EReal := Ideal.ofBits .f32 1149239296#32
def small : EReal := Ideal.ofBits .f32 897988541#32
def half : EReal := Ideal.ofBits .f32 1056964608#32

theorem width_real : width = ((1024 : ℝ) : EReal) := by
  simp [width, Ideal.ofBits, Ideal.ieee, -EReal.coe_mul]; norm_num

theorem half_real : half = ((1 / 2 : ℝ) : EReal) := by
  simp [half, Ideal.ofBits, Ideal.ieee, -EReal.coe_mul]; norm_num

theorem inv_width_real : Ideal.ofBits .f32 981467136#32 = ((1 / 1024 : ℝ) : EReal) := by
  simp [Ideal.ofBits, Ideal.ieee, -EReal.coe_mul]; norm_num

/-- The product with the folded reciprocal is the quotient by the row length. -/
theorem mul_inv_width (e : EReal) : e * Ideal.ofBits .f32 981467136#32 = Ideal.div e width := by
  rw [width_real, Ideal.div_coe (by norm_num), inv_width_real]

/-- One half goes into a sum: it is a nonnegative real. -/
theorem half_mul_sum {ι : Type*} (s : Finset ι) (f : ι → EReal) : ∑ i ∈ s, half * f i = half * ∑ i ∈ s, f i := by
  classical
  induction s using Finset.induction_on with
  | empty => simp
  | insert a s ha ih =>
    rw [Finset.sum_insert ha, Finset.sum_insert ha, ih, half_real,
      EReal.left_distrib_of_nonneg_of_ne_top (by exact_mod_cast (by norm_num : (0 : ℝ) ≤ 1 / 2)) (EReal.coe_ne_top _)]

variable {n N d : Nat}

/-- A row of an array. -/
def row (x : Rows n d) (i : Fin n) : Fin d → EReal := fun k => x (ix2 i k)

/-- The reciprocal root mean square of a row. -/
def scale (a : Fin d → EReal) : EReal := Ideal.rsqrt (Ideal.div (∑ k, a k * a k) width + small)

/-- The gradient of a row `a` whose normalised row has the gradient `e`. -/
def back (a e : Fin d → EReal) (j : Fin d) : EReal :=
  scale a * (e j - a j * scale a * Ideal.div (∑ k, e k * (a k * scale a)) width)

/-! ## The gradients of a modulated normalisation -/

/-- The gradient of a normalised row. -/
def inflow (dh : Rows n d) (g sc : Rows 1 d) (i : Fin n) : Fin d → EReal :=
  fun k => dh (ix2 i k) * (g (ix2 0 k) * (1 + sc (ix2 0 k)))

def gradRows (x dh : Rows n d) (g sc : Rows 1 d) (dx : Rows n d) : Rows n d :=
  fun i => dx i + back (row x (i 0)) (inflow dh g sc (i 0)) (i 1)

/-- The same, with the arrays read at the index itself. -/
theorem gradRows_apply (x dh : Rows n d) (g sc : Rows 1 d) (dx : Rows n d) (i : (⟨2, ![n, d]⟩ : Shape).Idx) :
    gradRows x dh g sc dx i = dx i + scale (row x (i 0)) * (dh i * (g (ix2 0 (i 1)) * (1 + sc (ix2 0 (i 1))))
      - x i * scale (row x (i 0))
        * Ideal.div (∑ k, inflow dh g sc (i 0) k * (row x (i 0) k * scale (row x (i 0)))) width) := by
  rw [← ix2_eta i]; rfl

def gradShift (dh : Rows n d) : Rows 1 d := fun i => ∑ r, dh (ix2 r (i 1))

def gradWeight (x dh : Rows n d) : Rows 1 d := fun i => ∑ r, dh (ix2 r (i 1)) * (x (ix2 r (i 1)) * scale (row x r))

/-! ## The modulated normalisation -/

def normRows (x : Rows n d) (g sc sh : Rows 1 d) : Rows n d :=
  fun i => x (ix2 (i 0) (i 1)) * scale (row x (i 0)) * g (ix2 0 (i 1)) * (1 + sc (ix2 0 (i 1))) + sh (ix2 0 (i 1))

/-- The same, with the array read at the index itself. -/
theorem normRows_apply (x : Rows n d) (g sc sh : Rows 1 d) (i : (⟨2, ![n, d]⟩ : Shape).Idx) :
    normRows x g sc sh i
      = x i * scale (row x (i 0)) * g (ix2 0 (i 1)) * (1 + sc (ix2 0 (i 1))) + sh (ix2 0 (i 1)) := by
  rw [← ix2_eta i]; rfl

/-! ## The loss and its gradients -/

/-- The error of the normalised and weighted row. -/
def err (x t : Rows n d) (g : Rows 1 d) (i : Fin n) : Fin d → EReal :=
  fun k => x (ix2 i k) * scale (row x i) * g (ix2 0 k) - t (ix2 i k)

def lossRows (x t : Rows n d) (g : Rows 1 d) : Rows n d :=
  fun i => back (row x (i 0)) (fun k => Ideal.div (err x t g (i 0) k) width * g (ix2 0 k)) (i 1)

/-- The same, with the arrays read at the index itself. -/
theorem lossRows_apply (x t : Rows n d) (g : Rows 1 d) (i : (⟨2, ![n, d]⟩ : Shape).Idx) :
    lossRows x t g i = scale (row x (i 0))
      * (Ideal.div (x i * scale (row x (i 0)) * g (ix2 0 (i 1)) - t i) width * g (ix2 0 (i 1))
        - x i * scale (row x (i 0)) * Ideal.div
          (∑ k, Ideal.div (err x t g (i 0) k) width * g (ix2 0 k) * (row x (i 0) k * scale (row x (i 0)))) width) := by
  rw [← ix2_eta i]; rfl

def lossWeight (x t : Rows n d) (g : Rows 1 d) : Rows 1 d :=
  fun i => ∑ r, Ideal.div (err x t g r (i 1)) width * (x (ix2 r (i 1)) * scale (row x r))

/-- Half the sum over the rows of the mean squared error. -/
def lossSum (x t : Rows n d) (g : Rows 1 d) : EReal :=
  half * ∑ r, Ideal.div (∑ k, err x t g r k * err x t g r k) width

/-! ## A tile of the rows -/

/-- `a` holds the rows `p 0`, `p 1`, … of `b`. -/
def Holds (p : Fin n → Fin N) (a : Rows n d) (b : Rows N d) : Prop := ∀ i k, a (ix2 i k) = b (ix2 (p i) k)

section Tile

variable {p : Fin n → Fin N} {x dh dx t : Rows n d} {x' dh' dx' t' : Rows N d}

theorem Holds.row_eq (h : Holds p x x') (i : Fin n) : row x i = row x' (p i) := funext fun k => h i k

theorem Holds.err_eq (hx : Holds p x x') (ht : Holds p t t') (g : Rows 1 d) (i : Fin n) : err x t g i = err x' t' g (p i) := by
  funext k; unfold err; rw [hx.row_eq, hx, ht]

theorem gradRows_tile (hx : Holds p x x') (hd : Holds p dh dh') (hi : Holds p dx dx') (g sc : Rows 1 d)
    (i : Fin n) (k : Fin d) : gradRows x dh g sc dx (ix2 i k) = gradRows x' dh' g sc dx' (ix2 (p i) k) := by
  have e : inflow dh g sc i = inflow dh' g sc (p i) := funext fun k => by unfold inflow; rw [hd]
  show dx (ix2 i k) + back (row x i) (inflow dh g sc i) k = _
  rw [hi, hx.row_eq, e]; rfl

theorem normRows_tile (hx : Holds p x x') (g sc sh : Rows 1 d) (i : Fin n) (k : Fin d) :
    normRows x g sc sh (ix2 i k) = normRows x' g sc sh (ix2 (p i) k) := by
  show x (ix2 i k) * scale (row x i) * g (ix2 0 k) * (1 + sc (ix2 0 k)) + sh (ix2 0 k) = _
  rw [hx, hx.row_eq]; rfl

theorem lossRows_tile (hx : Holds p x x') (ht : Holds p t t') (g : Rows 1 d) (i : Fin n) (k : Fin d) :
    lossRows x t g (ix2 i k) = lossRows x' t' g (ix2 (p i) k) := by
  show back (row x i) (fun k => Ideal.div (err x t g i k) width * g (ix2 0 k)) k = _
  rw [hx.row_eq, hx.err_eq ht]; rfl

end Tile

/-! ## All the tiles -/

/-- The `s`-th tile of `n` rows of `N`. -/
def tile {S : Nat} (h : N = S * n) (s : Fin S) (i : Fin n) : Fin N :=
  ⟨s.val * n + i.val, by
    have := Nat.mul_le_mul_right n (Nat.succ_le_of_lt s.isLt)
    have := i.isLt
    rw [Nat.succ_mul] at *; omega⟩

section Tiles

variable {S : Nat} (h : N = S * n) {x dh t : Fin S → Rows n d} {x' dh' t' : Rows N d}

theorem gradShift_tiles (hd : ∀ s, Holds (tile h s) (dh s) dh') (j : (⟨2, ![1, d]⟩ : Shape).Idx) :
    ∑ s, gradShift (dh s) j = gradShift dh' j :=
  Fin.sum_mul_add_congr (fun s k _ => hd s k _) h

theorem gradWeight_tiles (hx : ∀ s, Holds (tile h s) (x s) x') (hd : ∀ s, Holds (tile h s) (dh s) dh')
    (j : (⟨2, ![1, d]⟩ : Shape).Idx) : ∑ s, gradWeight (x s) (dh s) j = gradWeight x' dh' j := by
  unfold gradWeight
  refine Fin.sum_mul_add_congr (fun s k _ => ?_) h
  rw [(hx s).row_eq, hd s k (j 1), hx s k (j 1)]; rfl

theorem lossWeight_tiles (hx : ∀ s, Holds (tile h s) (x s) x') (ht : ∀ s, Holds (tile h s) (t s) t') (g : Rows 1 d)
    (j : (⟨2, ![1, d]⟩ : Shape).Idx) : ∑ s, lossWeight (x s) (t s) g j = lossWeight x' t' g j := by
  unfold lossWeight
  refine Fin.sum_mul_add_congr (fun s k _ => ?_) h
  rw [(hx s).row_eq, (hx s).err_eq (ht s), hx s k (j 1)]; rfl

theorem lossSum_tiles (hx : ∀ s, Holds (tile h s) (x s) x') (ht : ∀ s, Holds (tile h s) (t s) t') (g : Rows 1 d) :
    ∑ s, lossSum (x s) (t s) g = lossSum x' t' g := by
  unfold lossSum
  rw [half_mul_sum]
  refine congrArg (half * ·) (Fin.sum_mul_add_congr (fun s k _ => ?_) h)
  rw [(hx s).err_eq (ht s)]; rfl

end Tiles

end Cert.Norm

end
-- ==== Proof.LossValue.lean ====
/-
  The loss of one device's rows and its gradients: the three output arrays after the run at the ideal instance are the
  functions of `NormMath` of the three argument arrays. Each point writes back its rows; the loss and the weight's gradient
  are added up over the points and written back at the last one.
-/
module

public import proofs.«01_k».proof.Proof.NormMath
public import proofs.«01_k».proof.Defs
public import proofs.«01_k».proof.Proof.Gen.Loss.Frame
public import proofs.«01_k».proof.Proof.Gen.LossIdeal.Value
public import proofs.«01_k».proof.Proof.Gen.LossRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.LossIdeal.Blocks

open Idealize.ShloMosaic Idealize.ShloMosaic.TcCoe
open Idealize.SL Idealize.SL.Sem
open Cert.LossIdeal Cert.LossIdeal.Gen Cert.Norm

variable (m : (ℓ : Loc nD τ sig) → Buf (Elt Ideal) ℓ)

/-- Point `t` reads and writes tile `t` of the rows; the weight, the loss and the weight's gradient are whole arrays. -/
theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![0, 0] := by decide +kernel
theorem at3 : ∀ t : Fin cfg0.N, win0_3.index t = ![t.val, 0] := by decide +kernel
theorem at5 : ∀ t : Fin cfg0.N, win0_5.index t = ![0, 0] := by decide +kernel

theorem rows_split : 4096 = cfg0.N * 512 := by decide

/-- The blocks read, as tiles of the arrays. -/
theorem holds0 (c : Dev nD) (t : Fin cfg0.N) : Holds (tile rows_split t) (iblk m c 0 t) (m (c.tc.loc main_arg0)) := by
  intro i k
  blk_simp [iblk]
  refine (congrFun (V_main_arg0 m c) _).trans (congrArg (m (c.tc.loc main_arg0)) ?_)
  blk_ext [at0, tile]

theorem holds1 (c : Dev nD) (t : Fin cfg0.N) : Holds (tile rows_split t) (iblk m c 1 t) (m (c.tc.loc main_arg1)) := by
  intro i k
  blk_simp [iblk]
  refine (congrFun (V_main_arg1 m c) _).trans (congrArg (m (c.tc.loc main_arg1)) ?_)
  blk_ext [at1, tile]

theorem whole2 (c : Dev nD) (t : Fin cfg0.N) : (iblk m c 2 t : Rows 1 1024) = m (c.tc.loc main_arg2) := by
  funext y
  blk_simp [iblk]
  refine (congrFun (V_main_arg2 m c) _).trans (congrArg (m (c.tc.loc main_arg2)) ?_)
  blk_ext [at2]

/-- What a point computes from its blocks: the products with the folded reciprocal are quotients by the row length. -/
theorem rows_pay (x t : Vec Ideal S512x1024 .f32) (g : Vec Ideal S1x1024 .f32) (y : S512x1024.Idx) :
    k0_pay7 x g t y = lossRows x t g y := by
  rw [lossRows_apply]
  pointwise [k0_pay7, k0_pay6, k0_pay5, k0_pay4, k0_pay3]
  simp only [mul_inv_width]
  rfl

theorem sum_pay (x t : Vec Ideal S512x1024 .f32) (g : Vec Ideal S1x1024 .f32) (a : Vec Ideal S8x128 .f32) (y : S8x128.Idx) :
    k0_pay1 (k0_pay10 x g t) a y = a y + lossSum x t g := by
  pointwise [k0_pay1, k0_pay10, k0_pay5, k0_pay4, k0_pay3]
  simp only [mul_inv_width]
  rfl

theorem weight_pay (x t : Vec Ideal S512x1024 .f32) (g : Vec Ideal S1x1024 .f32) (a : Vec Ideal S1x1024 .f32)
    (y : S1x1024.Idx) : k0_pay2 (k0_pay4 x) (k0_pay6 x g t) a y = a y + lossWeight x t g y := by
  pointwise [k0_pay2, k0_pay6, k0_pay5, k0_pay4, k0_pay3]
  simp only [mul_inv_width]
  rfl

theorem zero8 (y : S8x128.Idx) : k0_pay8 (F := Ideal) y = 0 := by pointwise [k0_pay8]
theorem zero9 (y : S1x1024.Idx) : k0_pay9 (F := Ideal) y = 0 := by pointwise [k0_pay9]

/-- The rows a point leaves. -/
theorem rows_at (c : Dev nD) (t : Fin cfg0.N) :
    (outsAt0 m c t.val t.isLt).1 = k0_pay7 (iblk m c 0 t) (iblk m c 2 t) (iblk m c 1 t) := by
  by_cases h : t.val % 8 = 0
  · rw [outsAt0_A m c t h]; frame_out
  · rw [outsAt0_B m c t h]; frame_out

/-- The loss after the last point. -/
theorem sum_last (c : Dev nD) (t : Fin cfg0.N) (ht : t.val + 1 = cfg0.N) (y : S8x128.Idx) :
    (outsAt0 m c t.val t.isLt).2.1 y
      = lossSum (m (c.tc.loc main_arg0)) (m (c.tc.loc main_arg1)) (m (c.tc.loc main_arg2)) := by
  rw [Pipeline.eq_sum_fin_of_reset_step_apply_last (fun n h => (outsAt0 m c n h).2.1) 8 (fun _ => 0)
    (fun t _ => lossSum (iblk m c 0 t) (iblk m c 1 t) (m (c.tc.loc main_arg2)))
    (fun t h y => by rw [outsAt0_A m c t h]; frame_out; rw [sum_pay, zero8, whole2])
    (fun t h y => by rw [outsAt0_B m c t h]; frame_out; rw [sum_pay, whole2])
    (le_of_eq N_0) t ht y, zero_add]
  exact lossSum_tiles rows_split (holds0 m c) (holds1 m c) _

/-- The weight's gradient after the last point. -/
theorem weight_last (c : Dev nD) (t : Fin cfg0.N) (ht : t.val + 1 = cfg0.N) (y : S1x1024.Idx) :
    (outsAt0 m c t.val t.isLt).2.2 y
      = lossWeight (m (c.tc.loc main_arg0)) (m (c.tc.loc main_arg1)) (m (c.tc.loc main_arg2)) y := by
  rw [Pipeline.eq_sum_fin_of_reset_step_apply_last (fun n h => (outsAt0 m c n h).2.2) 8 (fun _ => 0)
    (fun t => lossWeight (iblk m c 0 t) (iblk m c 1 t) (m (c.tc.loc main_arg2)))
    (fun t h y => by rw [outsAt0_A m c t h]; frame_out; rw [weight_pay, zero9, whole2])
    (fun t h y => by rw [outsAt0_B m c t h]; frame_out; rw [weight_pay, whole2])
    (le_of_eq N_0) t ht y, zero_add]
  exact lossWeight_tiles rows_split (holds0 m c) (holds1 m c) _ y

theorem last_of_flush {t : Fin cfg0.N} (h : t.val % 8 = 7) : t.val + 1 = cfg0.N := by
  have := t.isLt
  have : cfg0.N = 8 := N_0
  omega

/-- The output arrays after the run. -/
theorem arr3 (c : Dev nD) : (dats m 0 c).arrAt 3 cfg0.N
    = lossRows (m (c.tc.loc main_arg0)) (m (c.tc.loc main_arg1)) (m (c.tc.loc main_arg2)) := by
  refine (dats m 0 c).arrAt_eq_of_covers 3 _ (by decide +kernel) fun t _ y => ?_
  have e : (win0_3.blk t).view.emb y = ix2 (tile rows_split t (y 0)) (y 1) := by blk_ext [at3, tile]
  blk_simp
  rw [after0_3, rows_at, rows_pay, whole2]
  refine (congrArg _ (ix2_eta y).symm).trans
    ((lossRows_tile (holds0 m c t) (holds1 m c t) _ (y 0) (y 1)).trans (congrArg _ e.symm))

theorem arr4 (c : Dev nD) : (dats m 0 c).arrAt 4 cfg0.N
    = fun _ => lossSum (m (c.tc.loc main_arg0)) (m (c.tc.loc main_arg1)) (m (c.tc.loc main_arg2)) := by
  refine (dats m 0 c).arrAt_eq_of_covers 4 _ (by decide +kernel) fun t hf y => ?_
  blk_simp
  rw [after0_4]
  exact sum_last m c t (last_of_flush ((flush0_4 t).mp hf)) y

theorem arr5 (c : Dev nD) : (dats m 0 c).arrAt 5 cfg0.N
    = lossWeight (m (c.tc.loc main_arg0)) (m (c.tc.loc main_arg1)) (m (c.tc.loc main_arg2)) := by
  refine (dats m 0 c).arrAt_eq_of_covers 5 _ (by decide +kernel) fun t hf y => ?_
  have e : (win0_5.blk t).view.emb y = y := by blk_ext [at5]
  blk_simp
  rw [after0_5]
  exact (weight_last m c t (last_of_flush ((flush0_5 t).mp hf)) y).trans (congrArg _ e.symm)

end Cert.LossIdeal.Blocks

namespace Cert.LossClaims

open Idealize.ShloMosaic Idealize.ShloMosaic.TcCoe Idealize.SL.Sem Cert.Norm

theorem frame_kernel : Cert.quiescent_Loss := fun m ρ _ => Cert.Loss.Gen.frame m ρ

theorem frame_ideal : Cert.quiescent_LossIdeal := fun m ρ _ => Cert.LossIdeal.Gen.frame m ρ

theorem frame_ref : Cert.quiescent_LossRefIdeal := fun m ρ _ =>
  (θ_run Cert.LossRefIdeal.defs _ _).mono
    (fun r h => ⟨fun c => (h c).2.2.2, sem_eq_zero_of_no_sems (by decide) r.2⟩)
    (Cert.LossRefIdeal.Value.run (F := Ideal) m ρ)

theorem algebraic : Cert.algebraic_LossIdeal_LossRefIdeal := by
  intro m ρ m' ρ' _ hagree
  refine ⟨fun c => lossRows (m (c.tc.loc Cert.LossIdeal.main_arg0)) (m (c.tc.loc Cert.LossIdeal.main_arg1))
      (m (c.tc.loc Cert.LossIdeal.main_arg2)),
    fun c _ => lossSum (m (c.tc.loc Cert.LossIdeal.main_arg0)) (m (c.tc.loc Cert.LossIdeal.main_arg1))
      (m (c.tc.loc Cert.LossIdeal.main_arg2)),
    fun c => lossWeight (m (c.tc.loc Cert.LossIdeal.main_arg0)) (m (c.tc.loc Cert.LossIdeal.main_arg1))
      (m (c.tc.loc Cert.LossIdeal.main_arg2)), ?_, ?_⟩
  · exact (θ_run Cert.LossIdeal.defs _ _).mono
      (fun _ h c => ⟨(h c).1.trans (Cert.LossIdeal.Blocks.arr3 m c), (h c).2.1.trans (Cert.LossIdeal.Blocks.arr4 m c),
        (h c).2.2.1.trans (Cert.LossIdeal.Blocks.arr5 m c), (h c).2.2.2⟩)
      (Cert.LossIdeal.Value.run_blocks m ρ)
  · refine (θ_run Cert.LossRefIdeal.defs _ _).mono (fun _ h c => ?_) (Cert.LossRefIdeal.Value.run (F := Ideal) m' ρ')
    obtain ⟨e0, e1, e2⟩ := hagree c
    refine ⟨(h c).1.trans ?_, (h c).2.1.trans ?_, (h c).2.2.1.trans ?_, (h c).2.2.2⟩ <;> rw [e0, e1, e2] <;> funext y
    · refine Eq.trans ?_ (lossRows_apply _ _ _ y).symm
      pointwise
      rfl
    · pointwise
      rfl
    · pointwise
      rfl

end Cert.LossClaims

end
-- ==== Proof.NormGradValue.lean ====
/-
  The gradients of the first normalisation of the first block: the three output arrays after the run at the ideal instance
  are the functions of `NormMath` of the five argument arrays. Each point writes back its rows; the two column sums are
  added up over the points and written back at the last one.
-/
module

public import proofs.«01_k».proof.Proof.NormMath
public import proofs.«01_k».proof.Defs
public import proofs.«01_k».proof.Proof.Gen.NormGrad.Frame
public import proofs.«01_k».proof.Proof.Gen.NormGradIdeal.Value
public import proofs.«01_k».proof.Proof.Gen.NormGradRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.NormGradIdeal.Blocks

open Idealize.ShloMosaic Idealize.ShloMosaic.TcCoe
open Idealize.SL Idealize.SL.Sem
open Cert.NormGradIdeal Cert.NormGradIdeal.Gen Cert.Norm

variable (m : (ℓ : Loc nD τ sig) → Buf (Elt Ideal) ℓ)

/-- Point `t` reads and writes tile `t` of the rows; the weights and the column sums are whole arrays. -/
theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![t.val, 0] := by decide +kernel
theorem at5 : ∀ t : Fin cfg0.N, win0_5.index t = ![t.val, 0] := by decide +kernel
theorem at6 : ∀ t : Fin cfg0.N, win0_6.index t = ![0, 0] := by decide +kernel
theorem at7 : ∀ t : Fin cfg0.N, win0_7.index t = ![0, 0] := by decide +kernel

theorem rows_split : 4096 = cfg0.N * 512 := by decide

/-- The blocks read, as tiles of the arrays. -/
theorem holds0 (c : Dev nD) (t : Fin cfg0.N) : Holds (tile rows_split t) (iblk m c 0 t) (m (c.tc.loc main_arg0)) := by
  intro i k
  blk_simp [iblk]
  refine (congrFun (V_main_arg0 m c) _).trans (congrArg (m (c.tc.loc main_arg0)) ?_)
  blk_ext [at0, tile]

theorem holds1 (c : Dev nD) (t : Fin cfg0.N) : Holds (tile rows_split t) (iblk m c 1 t) (m (c.tc.loc main_arg1)) := by
  intro i k
  blk_simp [iblk]
  refine (congrFun (V_main_arg1 m c) _).trans (congrArg (m (c.tc.loc main_arg1)) ?_)
  blk_ext [at1, tile]

theorem holds4 (c : Dev nD) (t : Fin cfg0.N) : Holds (tile rows_split t) (iblk m c 4 t) (m (c.tc.loc main_arg4)) := by
  intro i k
  blk_simp [iblk]
  refine (congrFun (V_main_arg4 m c) _).trans (congrArg (m (c.tc.loc main_arg4)) ?_)
  blk_ext [at4, tile]

theorem whole2 (c : Dev nD) (t : Fin cfg0.N) : (iblk m c 2 t : Rows 1 1024) = m (c.tc.loc main_arg2) := by
  funext y
  blk_simp [iblk]
  refine (congrFun (V_main_arg2 m c) _).trans (congrArg (m (c.tc.loc main_arg2)) ?_)
  blk_ext [at2]

theorem whole3 (c : Dev nD) (t : Fin cfg0.N) : (iblk m c 3 t : Rows 1 1024) = m (c.tc.loc main_arg3) := by
  funext y
  blk_simp [iblk]
  refine (congrFun (V_main_arg3 m c) _).trans (congrArg (m (c.tc.loc main_arg3)) ?_)
  blk_ext [at3]

/-- What a point computes from its blocks. -/
theorem rows_pay (x dh : Vec Ideal S512x1024 .f32) (g sc : Vec Ideal S1x1024 .f32) (dx : Vec Ideal S512x1024 .f32)
    (y : S512x1024.Idx) : k0_pay5 x dh g sc dx y = gradRows x dh g sc dx y := by
  rw [gradRows_apply]
  pointwise [k0_pay5, k0_pay4, k0_pay3]
  rfl

theorem shift_pay (dh : Vec Ideal S512x1024 .f32) (a : Vec Ideal S1x1024 .f32) (y : S1x1024.Idx) :
    k0_pay1 dh a y = a y + gradShift dh y := by
  pointwise [k0_pay1]
  rfl

theorem weight_pay (x dh : Vec Ideal S512x1024 .f32) (a : Vec Ideal S1x1024 .f32) (y : S1x1024.Idx) :
    k0_pay2 dh (k0_pay4 x) a y = a y + gradWeight x dh y := by
  pointwise [k0_pay2, k0_pay4, k0_pay3]
  rfl

theorem zero6 (y : S1x1024.Idx) : k0_pay6 (F := Ideal) y = 0 := by pointwise [k0_pay6]
theorem zero7 (y : S1x1024.Idx) : k0_pay7 (F := Ideal) y = 0 := by pointwise [k0_pay7]

/-- The rows a point leaves. -/
theorem rows_at (c : Dev nD) (t : Fin cfg0.N) :
    (outsAt0 m c t.val t.isLt).1
      = k0_pay5 (iblk m c 0 t) (iblk m c 1 t) (iblk m c 2 t) (iblk m c 3 t) (iblk m c 4 t) := by
  by_cases h : t.val % 8 = 0
  · rw [outsAt0_A m c t h]; frame_out
  · rw [outsAt0_B m c t h]; frame_out

/-- The column sums after the last point. -/
theorem shift_last (c : Dev nD) (t : Fin cfg0.N) (ht : t.val + 1 = cfg0.N) (y : S1x1024.Idx) :
    (outsAt0 m c t.val t.isLt).2.1 y = gradShift (m (c.tc.loc main_arg1)) y := by
  rw [Pipeline.eq_sum_fin_of_reset_step_apply_last (fun n h => (outsAt0 m c n h).2.1) 8 (fun _ => 0)
    (fun t => gradShift (iblk m c 1 t))
    (fun t h y => by rw [outsAt0_A m c t h]; frame_out; rw [shift_pay, zero6])
    (fun t h y => by rw [outsAt0_B m c t h]; frame_out; rw [shift_pay])
    (le_of_eq N_0) t ht y, zero_add]
  exact gradShift_tiles rows_split (holds1 m c) y

theorem weight_last (c : Dev nD) (t : Fin cfg0.N) (ht : t.val + 1 = cfg0.N) (y : S1x1024.Idx) :
    (outsAt0 m c t.val t.isLt).2.2 y = gradWeight (m (c.tc.loc main_arg0)) (m (c.tc.loc main_arg1)) y := by
  rw [Pipeline.eq_sum_fin_of_reset_step_apply_last (fun n h => (outsAt0 m c n h).2.2) 8 (fun _ => 0)
    (fun t => gradWeight (iblk m c 0 t) (iblk m c 1 t))
    (fun t h y => by rw [outsAt0_A m c t h]; frame_out; rw [weight_pay, zero7])
    (fun t h y => by rw [outsAt0_B m c t h]; frame_out; rw [weight_pay])
    (le_of_eq N_0) t ht y, zero_add]
  exact gradWeight_tiles rows_split (holds0 m c) (holds1 m c) y

theorem last_of_flush {t : Fin cfg0.N} (h : t.val % 8 = 7) : t.val + 1 = cfg0.N := by
  have := t.isLt
  have : cfg0.N = 8 := N_0
  omega

/-- The output arrays after the run. -/
theorem arr5 (c : Dev nD) : (dats m 0 c).arrAt 5 cfg0.N
    = gradRows (m (c.tc.loc main_arg0)) (m (c.tc.loc main_arg1)) (m (c.tc.loc main_arg2)) (m (c.tc.loc main_arg3))
        (m (c.tc.loc main_arg4)) := by
  refine (dats m 0 c).arrAt_eq_of_covers 5 _ (by decide +kernel) fun t _ y => ?_
  have e : (win0_5.blk t).view.emb y = ix2 (tile rows_split t (y 0)) (y 1) := by blk_ext [at5, tile]
  blk_simp
  rw [after0_5, rows_at, rows_pay, whole2, whole3]
  refine (congrArg _ (ix2_eta y).symm).trans
    ((gradRows_tile (holds0 m c t) (holds1 m c t) (holds4 m c t) _ _ (y 0) (y 1)).trans (congrArg _ e.symm))

theorem arr6 (c : Dev nD) : (dats m 0 c).arrAt 6 cfg0.N = gradShift (m (c.tc.loc main_arg1)) := by
  refine (dats m 0 c).arrAt_eq_of_covers 6 _ (by decide +kernel) fun t hf y => ?_
  have e : (win0_6.blk t).view.emb y = y := by blk_ext [at6]
  blk_simp
  rw [after0_6]
  exact (shift_last m c t (last_of_flush ((flush0_6 t).mp hf)) y).trans (congrArg _ e.symm)

theorem arr7 (c : Dev nD) : (dats m 0 c).arrAt 7 cfg0.N = gradWeight (m (c.tc.loc main_arg0)) (m (c.tc.loc main_arg1)) := by
  refine (dats m 0 c).arrAt_eq_of_covers 7 _ (by decide +kernel) fun t hf y => ?_
  have e : (win0_7.blk t).view.emb y = y := by blk_ext [at7]
  blk_simp
  rw [after0_7]
  exact (weight_last m c t (last_of_flush ((flush0_7 t).mp hf)) y).trans (congrArg _ e.symm)

end Cert.NormGradIdeal.Blocks

namespace Cert.NormGradClaims

open Idealize.ShloMosaic Idealize.ShloMosaic.TcCoe Idealize.SL.Sem Cert.Norm

theorem frame_kernel : Cert.quiescent_NormGrad := fun m ρ _ => Cert.NormGrad.Gen.frame m ρ

theorem frame_ideal : Cert.quiescent_NormGradIdeal := fun m ρ _ => Cert.NormGradIdeal.Gen.frame m ρ

theorem frame_ref : Cert.quiescent_NormGradRefIdeal := fun m ρ _ =>
  (θ_run Cert.NormGradRefIdeal.defs _ _).mono
    (fun r h => ⟨fun c => (h c).2.2.2, sem_eq_zero_of_no_sems (by decide) r.2⟩)
    (Cert.NormGradRefIdeal.Value.run (F := Ideal) m ρ)

theorem algebraic : Cert.algebraic_NormGradIdeal_NormGradRefIdeal := by
  intro m ρ m' ρ' _ hagree
  refine ⟨fun c => gradRows (m (c.tc.loc Cert.NormGradIdeal.main_arg0)) (m (c.tc.loc Cert.NormGradIdeal.main_arg1))
      (m (c.tc.loc Cert.NormGradIdeal.main_arg2)) (m (c.tc.loc Cert.NormGradIdeal.main_arg3))
      (m (c.tc.loc Cert.NormGradIdeal.main_arg4)),
    fun c => gradShift (m (c.tc.loc Cert.NormGradIdeal.main_arg1)),
    fun c => gradWeight (m (c.tc.loc Cert.NormGradIdeal.main_arg0)) (m (c.tc.loc Cert.NormGradIdeal.main_arg1)), ?_, ?_⟩
  · exact (θ_run Cert.NormGradIdeal.defs _ _).mono
      (fun _ h c => ⟨(h c).1.trans (Cert.NormGradIdeal.Blocks.arr5 m c), (h c).2.1.trans (Cert.NormGradIdeal.Blocks.arr6 m c),
        (h c).2.2.1.trans (Cert.NormGradIdeal.Blocks.arr7 m c), (h c).2.2.2⟩)
      (Cert.NormGradIdeal.Value.run_blocks m ρ)
  · refine (θ_run Cert.NormGradRefIdeal.defs _ _).mono (fun _ h c => ?_) (Cert.NormGradRefIdeal.Value.run (F := Ideal) m' ρ')
    obtain ⟨e0, e1, e2, e3, e4⟩ := hagree c
    refine ⟨(h c).1.trans ?_, (h c).2.1.trans ?_, (h c).2.2.1.trans ?_, (h c).2.2.2⟩ <;> rw [e1] <;> funext y
    · rw [e0, e2, e3, e4]
      refine Eq.trans ?_ (gradRows_apply _ _ _ _ _ y).symm
      pointwise
      rfl
    · pointwise
      rfl
    · rw [e0]
      pointwise
      rfl

end Cert.NormGradClaims

end
-- ==== Proof.NormFwdValue.lean ====
/-
  The normalisation with its modulation: the output array after the run at the ideal instance is the function of `NormMath`
  of the four argument arrays. Each point writes back its rows.
-/
module

public import proofs.«01_k».proof.Proof.NormMath
public import proofs.«01_k».proof.Defs
public import proofs.«01_k».proof.Proof.Gen.NormFwd.Frame
public import proofs.«01_k».proof.Proof.Gen.NormFwdIdeal.Value
public import proofs.«01_k».proof.Proof.Gen.NormFwdRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.NormFwdIdeal.Blocks

open Idealize.ShloMosaic Idealize.ShloMosaic.TcCoe
open Idealize.SL Idealize.SL.Sem
open Cert.NormFwdIdeal Cert.NormFwdIdeal.Gen Cert.Norm

variable (m : (ℓ : Loc nD τ sig) → Buf (Elt Ideal) ℓ)

/-- Point `t` reads and writes tile `t` of the rows; the weight, the scale and the shift are whole arrays. -/
theorem at0 : ∀ t : Fin cfg0.N, win0_0.index t = ![t.val, 0] := by decide +kernel
theorem at1 : ∀ t : Fin cfg0.N, win0_1.index t = ![0, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![t.val, 0] := by decide +kernel

theorem rows_split : 4096 = cfg0.N * 512 := by decide

/-- The blocks read, as tiles of the arrays. -/
theorem holds0 (c : Dev nD) (t : Fin cfg0.N) : Holds (tile rows_split t) (iblk m c 0 t) (m (c.tc.loc main_arg0)) := by
  intro i k
  blk_simp [iblk]
  refine (congrFun (V_main_arg0 m c) _).trans (congrArg (m (c.tc.loc main_arg0)) ?_)
  blk_ext [at0, tile]

theorem whole1 (c : Dev nD) (t : Fin cfg0.N) : (iblk m c 1 t : Rows 1 1024) = m (c.tc.loc main_arg1) := by
  funext y
  blk_simp [iblk]
  refine (congrFun (V_main_arg1 m c) _).trans (congrArg (m (c.tc.loc main_arg1)) ?_)
  blk_ext [at1]

theorem whole2 (c : Dev nD) (t : Fin cfg0.N) : (iblk m c 2 t : Rows 1 1024) = m (c.tc.loc main_arg2) := by
  funext y
  blk_simp [iblk]
  refine (congrFun (V_main_arg2 m c) _).trans (congrArg (m (c.tc.loc main_arg2)) ?_)
  blk_ext [at2]

theorem whole3 (c : Dev nD) (t : Fin cfg0.N) : (iblk m c 3 t : Rows 1 1024) = m (c.tc.loc main_arg3) := by
  funext y
  blk_simp [iblk]
  refine (congrFun (V_main_arg3 m c) _).trans (congrArg (m (c.tc.loc main_arg3)) ?_)
  blk_ext [at3]

theorem corner : (![0, 0] : Fin 2 → Nat) = fun _ => 0 := funext fun a => by fin_cases a <;> rfl

/-- What a point computes from its blocks. -/
theorem rows_pay (x : Vec Ideal S512x1024 .f32) (g sc sh : Vec Ideal S1x1024 .f32) (y : S512x1024.Idx) :
    k0_pay1 x g sc sh y = normRows x g sc sh y := by
  rw [normRows_apply]
  pointwise [k0_pay1]
  rfl

/-- The output array after the run. -/
theorem arr4 (c : Dev nD) : (dats m 0 c).arrAt 4 cfg0.N
    = normRows (m (c.tc.loc main_arg0)) (m (c.tc.loc main_arg1)) (m (c.tc.loc main_arg2)) (m (c.tc.loc main_arg3)) := by
  refine (dats m 0 c).arrAt_eq_of_covers 4 _ (by decide +kernel) fun t _ y => ?_
  have e : (win0_4.blk t).view.emb y = ix2 (tile rows_split t (y 0)) (y 1) := by blk_ext [at4, tile]
  blk_simp
  rw [after0_4, out0_4, View.canon_unit_zero corner, View.ld_unit_zero corner, View.ld_unit_zero corner,
    View.ld_unit_zero corner, View.ld_unit_zero corner, rows_pay, whole1, whole2, whole3]
  exact (congrArg _ (ix2_eta y).symm).trans ((normRows_tile (holds0 m c t) _ _ _ (y 0) (y 1)).trans (congrArg _ e.symm))

end Cert.NormFwdIdeal.Blocks

namespace Cert.NormFwdClaims

open Idealize.ShloMosaic Idealize.ShloMosaic.TcCoe Idealize.SL.Sem Cert.Norm

theorem frame_kernel : Cert.quiescent_NormFwd := fun m ρ _ => Cert.NormFwd.Gen.frame m ρ

theorem frame_ideal : Cert.quiescent_NormFwdIdeal := fun m ρ _ => Cert.NormFwdIdeal.Gen.frame m ρ

theorem frame_ref : Cert.quiescent_NormFwdRefIdeal := fun m ρ _ =>
  (θ_run Cert.NormFwdRefIdeal.defs _ _).mono
    (fun r h => ⟨fun c => (h c).2, sem_eq_zero_of_no_sems (by decide) r.2⟩)
    (Cert.NormFwdRefIdeal.Value.run (F := Ideal) m ρ)

theorem algebraic : Cert.algebraic_NormFwdIdeal_NormFwdRefIdeal := by
  intro m ρ m' ρ' _ hagree
  refine ⟨fun c => normRows (m (c.tc.loc Cert.NormFwdIdeal.main_arg0)) (m (c.tc.loc Cert.NormFwdIdeal.main_arg1))
      (m (c.tc.loc Cert.NormFwdIdeal.main_arg2)) (m (c.tc.loc Cert.NormFwdIdeal.main_arg3)), ?_, ?_⟩
  · exact (θ_run Cert.NormFwdIdeal.defs _ _).mono
      (fun _ h c => ⟨(h c).1.trans (Cert.NormFwdIdeal.Blocks.arr4 m c), (h c).2⟩)
      (Cert.NormFwdIdeal.Value.run_blocks m ρ)
  · refine (θ_run Cert.NormFwdRefIdeal.defs _ _).mono (fun _ h c => ?_) (Cert.NormFwdRefIdeal.Value.run (F := Ideal) m' ρ')
    obtain ⟨e0, e1, e2, e3⟩ := hagree c
    refine ⟨(h c).1.trans ?_, (h c).2⟩
    funext y
    rw [e0, e1, e2, e3]
    refine Eq.trans ?_ (normRows_apply _ _ _ _ y).symm
    pointwise
    rfl

end Cert.NormFwdClaims

end
-- ==== Proof.ProjAdaValue.lean ====
/-
  The modulation made with the weight `ada_w`: the kernel's output array after the run at the ideal instance is the function of
  `ModMath` of the two argument arrays, read from the blocks the points write back, one layer each.
-/
module

public import proofs.«01_k».proof.Proof.ModMath
public import proofs.«01_k».proof.Defs
public import proofs.«01_k».proof.Proof.Gen.ProjAda.Frame
public import proofs.«01_k».proof.Proof.Gen.ProjAdaIdeal.Value
public import proofs.«01_k».proof.Proof.Gen.ProjAdaRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.ProjAdaIdeal.Blocks

open Idealize.ShloMosaic Idealize.ShloMosaic.TcCoe
open Idealize.SL Idealize.SL.Sem
open Cert.ProjAdaIdeal Cert.ProjAdaIdeal.Gen Cert.Modulation

variable (m : (ℓ : Loc nD τ sig) → Buf (Elt Ideal) ℓ)

/-- The condition is read whole at every point; the weight and the output are read and written layer by layer. -/
theorem at0 : ∀ t : Fin cfg0.N, win0_0.index t = ![0, 0] := by decide +kernel
theorem at1 : ∀ t : Fin cfg0.N, win0_1.index t = ![t.val, 0, 0] := by decide +kernel
theorem at2 : ∀ t : Fin cfg0.N, win0_2.index t = ![t.val, 0, 0] := by decide +kernel

/-- What a point computes from its blocks. -/
theorem pay_eq (x0 : Vec Ideal S16x1024 .f32) (x1 : Vec Ideal S1x1024x768 .f32) (y : S1x16x768.Idx) :
    k0_pay1 x0 x1 y = ∑ k : Fin 1024, x0 (ValueIdx.ix2 (y 1) k) * x1 (ValueIdx.ix3 0 k (y 2)) := by
  pointwise [k0_pay1]
  rfl

/-- The condition's block is the condition. -/
theorem cond_at (c : Dev nD) (t : Fin cfg0.N) (k : Fin 1024) (y : S1x16x768.Idx) :
    iblk m c 0 t (ValueIdx.ix2 (y 1) k) = m (c.tc.loc main_arg0) (ValueIdx.ix2 ((win0_2.blk t).view.emb y 1) k) := by
  blk_simp [iblk]
  refine (congrFun (V_main_arg0 m c) _).trans (congrArg (m (c.tc.loc main_arg0)) ?_)
  blk_ext [at0]
  show (y 1).val = ((win0_2.blk t).view.emb y 1).val
  blk_simp [at2]

/-- The weight's block is its layer. -/
theorem weight_at (c : Dev nD) (t : Fin cfg0.N) (k : Fin 1024) (y : S1x16x768.Idx) :
    iblk m c 1 t (ValueIdx.ix3 0 k (y 2))
      = m (c.tc.loc main_arg1) (ValueIdx.ix3 ((win0_2.blk t).view.emb y 0) k ((win0_2.blk t).view.emb y 2)) := by
  blk_simp [iblk]
  refine (congrFun (V_main_arg1 m c) _).trans (congrArg (m (c.tc.loc main_arg1)) ?_)
  blk_ext [at1]
  · show t.val = ((win0_2.blk t).view.emb y 0).val
    blk_simp [at2]
  · show (y 2).val = ((win0_2.blk t).view.emb y 2).val
    blk_simp [at2]

/-- The output array after the run. -/
theorem arr2 (c : Dev nD) : (dats m 0 c).arrAt 2 cfg0.N = blend (m (c.tc.loc main_arg0)) (m (c.tc.loc main_arg1)) := by
  refine (dats m 0 c).arrAt_eq_of_covers 2 _ (by decide +kernel) fun t _ y => ?_
  blk_simp
  rw [after0_2, out0_2, View.canon_unit_zero corner3, View.ld_unit_zero corner2, View.ld_unit_zero corner3]
  refine (pay_eq _ _ y).trans (Finset.sum_congr rfl fun k _ => ?_)
  rw [cond_at, weight_at]

end Cert.ProjAdaIdeal.Blocks

namespace Cert.ProjAdaClaims

open Idealize.ShloMosaic Idealize.ShloMosaic.TcCoe Idealize.SL.Sem Cert.Modulation

theorem frame_kernel : Cert.quiescent_ProjAda := fun m ρ _ => Cert.ProjAda.Gen.frame m ρ

theorem frame_ideal : Cert.quiescent_ProjAdaIdeal := fun m ρ _ => Cert.ProjAdaIdeal.Gen.frame m ρ

theorem frame_ref : Cert.quiescent_ProjAdaRefIdeal := fun m ρ _ =>
  (θ_run Cert.ProjAdaRefIdeal.defs _ _).mono
    (fun r h => ⟨fun c => (h c).2, sem_eq_zero_of_no_sems (by decide) r.2⟩)
    (Cert.ProjAdaRefIdeal.Value.run (F := Ideal) m ρ)

/-- The reference's product, its axes put in order, is the same sum. -/
theorem ref_eq (cond : FVec Ideal Cert.ProjAdaRefIdeal.S16x1024 .f32) (w : FVec Ideal Cert.ProjAdaRefIdeal.S4x1024x768 .f32) :
    transpose Cert.ProjAdaRefIdeal.S4x16x768 [0, 2, 1]
      (Host.dotGeneral Cert.ProjAdaRefIdeal.dot_S4x1024x768_S16x1024_S4x768x16_1_1_02_0_n_n none w cond)
      Cert.ProjAdaRefIdeal.Gen.transposes_S4x768x16_S4x16x768_0_2_1 = blend cond w := by
  funext i
  unfold blend
  pointwise!

theorem algebraic : Cert.algebraic_ProjAdaIdeal_ProjAdaRefIdeal := by
  intro m ρ m' ρ' _ hagree
  refine ⟨fun c => blend (m (c.tc.loc Cert.ProjAdaIdeal.main_arg0)) (m (c.tc.loc Cert.ProjAdaIdeal.main_arg1)), ?_, ?_⟩
  · exact (θ_run Cert.ProjAdaIdeal.defs _ _).mono (fun _ h c => ⟨(h c).1.trans (Cert.ProjAdaIdeal.Blocks.arr2 m c), (h c).2⟩)
      (Cert.ProjAdaIdeal.Value.run_blocks m ρ)
  · refine (θ_run Cert.ProjAdaRefIdeal.defs _ _).mono (fun _ h c => ?_) (Cert.ProjAdaRefIdeal.Value.run (F := Ideal) m' ρ')
    obtain ⟨e0, e1⟩ := hagree c
    refine ⟨(h c).1.trans ?_, (h c).2⟩
    rw [e0, e1]
    exact ref_eq _ _

end Cert.ProjAdaClaims

end
-- ==== Proof.ProjKvValue.lean ====
/-
  The modulation made with the weight `kv_ada_w`: the kernel's output array after the run at the ideal instance is the function of
  `ModMath` of the two argument arrays, read from the one block that is written back.
-/
module

public import proofs.«01_k».proof.Proof.ModMath
public import proofs.«01_k».proof.Defs
public import proofs.«01_k».proof.Proof.Gen.ProjKv.Frame
public import proofs.«01_k».proof.Proof.Gen.ProjKvIdeal.Value
public import proofs.«01_k».proof.Proof.Gen.ProjKvRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.ProjKvIdeal.Blocks

open Idealize.ShloMosaic Idealize.ShloMosaic.TcCoe
open Idealize.SL Idealize.SL.Sem
open Cert.ProjKvIdeal Cert.ProjKvIdeal.Gen Cert.Modulation

variable (m : (ℓ : Loc nD τ sig) → Buf (Elt Ideal) ℓ)

/-- There is one point, which reads and writes whole arrays. -/
theorem at0 : ∀ t : Fin cfg0.N, win0_0.index t = ![0, 0] := by decide +kernel
theorem at1 : ∀ t : Fin cfg0.N, win0_1.index t = ![0, 0, 0] := by decide +kernel
theorem at2 : ∀ t : Fin cfg0.N, win0_2.index t = ![0, 0, 0] := by decide +kernel

/-- What a point computes from its blocks. -/
theorem pay_eq (x0 : Vec Ideal S16x1024 .f32) (x1 : Vec Ideal S1x1024x256 .f32) (y : S1x16x256.Idx) :
    k0_pay1 x0 x1 y = ∑ k : Fin 1024, x0 (ValueIdx.ix2 (y 1) k) * x1 (ValueIdx.ix3 0 k (y 2)) := by
  pointwise [k0_pay1]
  rfl

/-- The condition's block is the condition. -/
theorem cond_at (c : Dev nD) (t : Fin cfg0.N) (k : Fin 1024) (y : S1x16x256.Idx) :
    iblk m c 0 t (ValueIdx.ix2 (y 1) k) = m (c.tc.loc main_arg0) (ValueIdx.ix2 ((win0_2.blk t).view.emb y 1) k) := by
  blk_simp [iblk]
  refine (congrFun (V_main_arg0 m c) _).trans (congrArg (m (c.tc.loc main_arg0)) ?_)
  blk_ext [at0]
  show (y 1).val = ((win0_2.blk t).view.emb y 1).val
  blk_simp [at2]

/-- The weight's block is the weight. -/
theorem weight_at (c : Dev nD) (t : Fin cfg0.N) (k : Fin 1024) (y : S1x16x256.Idx) :
    iblk m c 1 t (ValueIdx.ix3 0 k (y 2))
      = m (c.tc.loc main_arg1) (ValueIdx.ix3 ((win0_2.blk t).view.emb y 0) k ((win0_2.blk t).view.emb y 2)) := by
  blk_simp [iblk]
  refine (congrFun (V_main_arg1 m c) _).trans (congrArg (m (c.tc.loc main_arg1)) ?_)
  blk_ext [at1]
  show (y 2).val = ((win0_2.blk t).view.emb y 2).val
  blk_simp [at2]

/-- The output array after the run. -/
theorem arr2 (c : Dev nD) : (dats m 0 c).arrAt 2 cfg0.N = blend (m (c.tc.loc main_arg0)) (m (c.tc.loc main_arg1)) := by
  refine (dats m 0 c).arrAt_eq_of_covers 2 _ (by decide +kernel) fun t _ y => ?_
  blk_simp
  rw [after0_2, out0_2, View.canon_unit_zero corner3, View.ld_unit_zero corner2, View.ld_unit_zero corner3]
  refine (pay_eq _ _ y).trans (Finset.sum_congr rfl fun k _ => ?_)
  rw [cond_at, weight_at]

end Cert.ProjKvIdeal.Blocks

namespace Cert.ProjKvClaims

open Idealize.ShloMosaic Idealize.ShloMosaic.TcCoe Idealize.SL.Sem Cert.Modulation

theorem frame_kernel : Cert.quiescent_ProjKv := fun m ρ _ => Cert.ProjKv.Gen.frame m ρ

theorem frame_ideal : Cert.quiescent_ProjKvIdeal := fun m ρ _ => Cert.ProjKvIdeal.Gen.frame m ρ

theorem frame_ref : Cert.quiescent_ProjKvRefIdeal := fun m ρ _ =>
  (θ_run Cert.ProjKvRefIdeal.defs _ _).mono
    (fun r h => ⟨fun c => (h c).2, sem_eq_zero_of_no_sems (by decide) r.2⟩)
    (Cert.ProjKvRefIdeal.Value.run (F := Ideal) m ρ)

/-- The reference's product, its axes put in order, is the same sum. -/
theorem ref_eq (cond : FVec Ideal Cert.ProjKvRefIdeal.S16x1024 .f32) (w : FVec Ideal Cert.ProjKvRefIdeal.S1x1024x256 .f32) :
    transpose Cert.ProjKvRefIdeal.S1x16x256 [0, 2, 1]
      (Host.dotGeneral Cert.ProjKvRefIdeal.dot_S1x1024x256_S16x1024_S1x256x16_1_1_02_0_n_n none w cond)
      Cert.ProjKvRefIdeal.Gen.transposes_S1x256x16_S1x16x256_0_2_1 = blend cond w := by
  funext i
  have h : i 0 = (0 : Fin 1) := Subsingleton.elim (α := Fin 1) _ _
  unfold blend
  rw [h]
  pointwise
  exact Finset.sum_congr rfl fun k _ => mul_comm _ _

theorem algebraic : Cert.algebraic_ProjKvIdeal_ProjKvRefIdeal := by
  intro m ρ m' ρ' _ hagree
  refine ⟨fun c => blend (m (c.tc.loc Cert.ProjKvIdeal.main_arg0)) (m (c.tc.loc Cert.ProjKvIdeal.main_arg1)), ?_, ?_⟩
  · exact (θ_run Cert.ProjKvIdeal.defs _ _).mono (fun _ h c => ⟨(h c).1.trans (Cert.ProjKvIdeal.Blocks.arr2 m c), (h c).2⟩)
      (Cert.ProjKvIdeal.Value.run_blocks m ρ)
  · refine (θ_run Cert.ProjKvRefIdeal.defs _ _).mono (fun _ h c => ?_) (Cert.ProjKvRefIdeal.Value.run (F := Ideal) m' ρ')
    obtain ⟨e0, e1⟩ := hagree c
    refine ⟨(h c).1.trans ?_, (h c).2⟩
    rw [e0, e1]
    exact ref_eq _ _

end Cert.ProjKvClaims

end
-- ==== Proof.MatMath.lean ====
/-
  The product of two matrices, one of them transposed or neither, and its gated sum with a third. The modules named after
  the calls apply this to the kernel's products.
-/
module

public import Idealize.ShloMosaic.Lib.Pointwise

@[expose] public section

noncomputable section

namespace Cert.Product

open Idealize.ShloMosaic

/-- The product of `a` and `b`. -/
def times {m k n : Nat} (a : (⟨2, ![m, k]⟩ : Shape).Idx → EReal) (b : (⟨2, ![k, n]⟩ : Shape).Idx → EReal) :
    FVec Ideal ⟨2, ![m, n]⟩ .f32 :=
  fun i => ∑ l : Fin k, a (ValueIdx.ix2 (i 0) l) * b (ValueIdx.ix2 l (i 1))

/-- The product of the transpose of `a` and of `b`. -/
def crossed {m k n : Nat} (a : (⟨2, ![k, m]⟩ : Shape).Idx → EReal) (b : (⟨2, ![k, n]⟩ : Shape).Idx → EReal) :
    FVec Ideal ⟨2, ![m, n]⟩ .f32 :=
  fun i => ∑ l : Fin k, a (ValueIdx.ix2 l (i 0)) * b (ValueIdx.ix2 l (i 1))

/-- The product of `a` and of the transpose of `b`. -/
def facing {m k n : Nat} (a : (⟨2, ![m, k]⟩ : Shape).Idx → EReal) (b : (⟨2, ![n, k]⟩ : Shape).Idx → EReal) :
    FVec Ideal ⟨2, ![m, n]⟩ .f32 :=
  fun i => ∑ l : Fin k, a (ValueIdx.ix2 (i 0) l) * b (ValueIdx.ix2 (i 1) l)

/-- The product of `a` and `b`, column by column times `g`, added to `r`. -/
def joined {m k n : Nat} (a : (⟨2, ![m, k]⟩ : Shape).Idx → EReal) (b : (⟨2, ![k, n]⟩ : Shape).Idx → EReal)
    (g : (⟨2, ![1, n]⟩ : Shape).Idx → EReal) (r : (⟨2, ![m, n]⟩ : Shape).Idx → EReal) : FVec Ideal ⟨2, ![m, n]⟩ .f32 :=
  fun i => r i + times a b i * g (ValueIdx.ix2 0 (i 1))

/-- The corner of a block. -/
theorem corner : (![0, 0] : Fin 2 → Nat) = fun _ => 0 := funext fun a => by fin_cases a <;> rfl

end Cert.Product

end
-- ==== Proof.MulInValue.lean ====
/-
  The product that enters the pool mixer: at the ideal instance the output array after the run is the product of the two
  argument arrays, read from the blocks the points write back.
-/
module

public import proofs.«01_k».proof.Proof.MatMath
public import proofs.«01_k».proof.Defs
public import proofs.«01_k».proof.Proof.Gen.MulIn.Frame
public import proofs.«01_k».proof.Proof.Gen.MulInIdeal.Value
public import proofs.«01_k».proof.Proof.Gen.MulInRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.MulInIdeal.Blocks

open Idealize.ShloMosaic Idealize.ShloMosaic.TcCoe
open Idealize.SL Idealize.SL.Sem
open Cert.MulInIdeal Cert.MulInIdeal.Gen Cert.Product

variable (m : (ℓ : Loc nD τ sig) → Buf (Elt Ideal) ℓ)

/-- The blocks, in the order of the points. -/
theorem at0 : ∀ t : Fin cfg0.N, win0_0.index t = ![t.val / 2, 0] := by decide +kernel
theorem at1 : ∀ t : Fin cfg0.N, win0_1.index t = ![0, t.val % 2] := by decide +kernel
theorem at2 : ∀ t : Fin cfg0.N, win0_2.index t = ![t.val / 2, t.val % 2] := by decide +kernel

/-- What a point computes from its blocks. -/
theorem pay_eq (x0 : Vec Ideal S1024x1024 .bf16) (x1 : Vec Ideal S1024x512 .bf16) (y : S1024x512.Idx) :
    k0_pay1 x0 x1 y = ∑ l : Fin 1024, x0 (ValueIdx.ix2 (y 0) l) * x1 (ValueIdx.ix2 l (y 1)) := by
  pointwise [k0_pay1]
  rfl

/-- The factors' blocks, as parts of the factors. -/
theorem left_at (c : Dev nD) (t : Fin cfg0.N) (l : Fin 1024) (y : S1024x512.Idx) :
    iblk m c 0 t (ValueIdx.ix2 (y 0) l) = m (c.tc.loc main_arg0) (ValueIdx.ix2 ((win0_2.blk t).view.emb y 0) l) := by
  blk_simp [iblk]
  refine (congrFun (V_main_arg0 m c) _).trans (congrArg (m (c.tc.loc main_arg0)) ?_)
  blk_ext [at0]
  show (t.val / 2) * 1024 + (y 0).val = ((win0_2.blk t).view.emb y 0).val
  blk_simp [at2]

theorem right_at (c : Dev nD) (t : Fin cfg0.N) (l : Fin 1024) (y : S1024x512.Idx) :
    iblk m c 1 t (ValueIdx.ix2 l (y 1)) = m (c.tc.loc main_arg1) (ValueIdx.ix2 l ((win0_2.blk t).view.emb y 1)) := by
  blk_simp [iblk]
  refine (congrFun (V_main_arg1 m c) _).trans (congrArg (m (c.tc.loc main_arg1)) ?_)
  blk_ext [at1]
  show (t.val % 2) * 512 + (y 1).val = ((win0_2.blk t).view.emb y 1).val
  blk_simp [at2]

/-- The output array after the run. -/
theorem arr2 (c : Dev nD) : (dats m 0 c).arrAt 2 cfg0.N = times (m (c.tc.loc main_arg0)) (m (c.tc.loc main_arg1)) := by
  refine (dats m 0 c).arrAt_eq_of_covers 2 _ (by decide +kernel) fun t _ y => ?_
  blk_simp
  rw [after0_2, out0_2, View.canon_unit_zero corner, View.ld_unit_zero corner, View.ld_unit_zero corner]
  refine (pay_eq _ _ y).trans (Finset.sum_congr rfl fun l _ => ?_)
  rw [left_at, right_at]

end Cert.MulInIdeal.Blocks

namespace Cert.MulInClaims

open Idealize.ShloMosaic Idealize.ShloMosaic.TcCoe Idealize.SL.Sem Cert.Product

theorem frame_kernel : Cert.quiescent_MulIn := fun m ρ _ => Cert.MulIn.Gen.frame m ρ

theorem frame_ideal : Cert.quiescent_MulInIdeal := fun m ρ _ => Cert.MulInIdeal.Gen.frame m ρ

theorem frame_ref : Cert.quiescent_MulInRefIdeal := fun m ρ _ =>
  (θ_run Cert.MulInRefIdeal.defs _ _).mono
    (fun r h => ⟨fun c => (h c).2, sem_eq_zero_of_no_sems (by decide) r.2⟩)
    (Cert.MulInRefIdeal.Value.run (F := Ideal) m ρ)

/-- The reference's product is the same sum. -/
theorem ref_eq (a : FVec Ideal Cert.MulInRefIdeal.S4096x1024 .bf16) (b : FVec Ideal Cert.MulInRefIdeal.S1024x1024 .bf16) :
    Host.dotGeneral Cert.MulInRefIdeal.dot_S4096x1024_S1024x1024_S4096x1024_1_0_0_1_n_n none
      (extf .f32 a Cert.MulInRefIdeal.Gen.bitsLt_bf16_f32)
      (extf .f32 b Cert.MulInRefIdeal.Gen.bitsLt_bf16_f32) = times a b := by
  funext i
  unfold times
  pointwise!

theorem algebraic : Cert.algebraic_MulInIdeal_MulInRefIdeal := by
  intro m ρ m' ρ' _ hagree
  refine ⟨fun c => times (m (c.tc.loc Cert.MulInIdeal.main_arg0)) (m (c.tc.loc Cert.MulInIdeal.main_arg1)), ?_, ?_⟩
  · exact (θ_run Cert.MulInIdeal.defs _ _).mono (fun _ h c => ⟨(h c).1.trans (Cert.MulInIdeal.Blocks.arr2 m c), (h c).2⟩)
      (Cert.MulInIdeal.Value.run_blocks m ρ)
  · refine (θ_run Cert.MulInRefIdeal.defs _ _).mono (fun _ h c => ?_) (Cert.MulInRefIdeal.Value.run (F := Ideal) m' ρ')
    obtain ⟨e0, e1⟩ := hagree c
    refine ⟨(h c).1.trans ?_, (h c).2⟩
    rw [e0, e1]
    exact ref_eq _ _

end Cert.MulInClaims

end
-- ==== Proof.MulQueryValue.lean ====
/-
  The product that makes the queries: at the ideal instance the output array after the run is the product of the two
  argument arrays, read from the blocks the points write back.
-/
module

public import proofs.«01_k».proof.Proof.MatMath
public import proofs.«01_k».proof.Defs
public import proofs.«01_k».proof.Proof.Gen.MulQuery.Frame
public import proofs.«01_k».proof.Proof.Gen.MulQueryIdeal.Value
public import proofs.«01_k».proof.Proof.Gen.MulQueryRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.MulQueryIdeal.Blocks

open Idealize.ShloMosaic Idealize.ShloMosaic.TcCoe
open Idealize.SL Idealize.SL.Sem
open Cert.MulQueryIdeal Cert.MulQueryIdeal.Gen Cert.Product

variable (m : (ℓ : Loc nD τ sig) → Buf (Elt Ideal) ℓ)

/-- The blocks, in the order of the points. -/
theorem at0 : ∀ t : Fin cfg0.N, win0_0.index t = ![t.val / 6, 0] := by decide +kernel
theorem at1 : ∀ t : Fin cfg0.N, win0_1.index t = ![0, t.val % 6] := by decide +kernel
theorem at2 : ∀ t : Fin cfg0.N, win0_2.index t = ![t.val / 6, t.val % 6] := by decide +kernel

/-- What a point computes from its blocks. -/
theorem pay_eq (x0 : Vec Ideal S1024x1024 .bf16) (x1 : Vec Ideal S1024x512 .bf16) (y : S1024x512.Idx) :
    k0_pay1 x0 x1 y = ∑ l : Fin 1024, x0 (ValueIdx.ix2 (y 0) l) * x1 (ValueIdx.ix2 l (y 1)) := by
  pointwise [k0_pay1]
  rfl

/-- The factors' blocks, as parts of the factors. -/
theorem left_at (c : Dev nD) (t : Fin cfg0.N) (l : Fin 1024) (y : S1024x512.Idx) :
    iblk m c 0 t (ValueIdx.ix2 (y 0) l) = m (c.tc.loc main_arg0) (ValueIdx.ix2 ((win0_2.blk t).view.emb y 0) l) := by
  blk_simp [iblk]
  refine (congrFun (V_main_arg0 m c) _).trans (congrArg (m (c.tc.loc main_arg0)) ?_)
  blk_ext [at0]
  show (t.val / 6) * 1024 + (y 0).val = ((win0_2.blk t).view.emb y 0).val
  blk_simp [at2]

theorem right_at (c : Dev nD) (t : Fin cfg0.N) (l : Fin 1024) (y : S1024x512.Idx) :
    iblk m c 1 t (ValueIdx.ix2 l (y 1)) = m (c.tc.loc main_arg1) (ValueIdx.ix2 l ((win0_2.blk t).view.emb y 1)) := by
  blk_simp [iblk]
  refine (congrFun (V_main_arg1 m c) _).trans (congrArg (m (c.tc.loc main_arg1)) ?_)
  blk_ext [at1]
  show (t.val % 6) * 512 + (y 1).val = ((win0_2.blk t).view.emb y 1).val
  blk_simp [at2]

/-- The output array after the run. -/
theorem arr2 (c : Dev nD) : (dats m 0 c).arrAt 2 cfg0.N = times (m (c.tc.loc main_arg0)) (m (c.tc.loc main_arg1)) := by
  refine (dats m 0 c).arrAt_eq_of_covers 2 _ (by decide +kernel) fun t _ y => ?_
  blk_simp
  rw [after0_2, out0_2, View.canon_unit_zero corner, View.ld_unit_zero corner, View.ld_unit_zero corner]
  refine (pay_eq _ _ y).trans (Finset.sum_congr rfl fun l _ => ?_)
  rw [left_at, right_at]

end Cert.MulQueryIdeal.Blocks

namespace Cert.MulQueryClaims

open Idealize.ShloMosaic Idealize.ShloMosaic.TcCoe Idealize.SL.Sem Cert.Product

theorem frame_kernel : Cert.quiescent_MulQuery := fun m ρ _ => Cert.MulQuery.Gen.frame m ρ

theorem frame_ideal : Cert.quiescent_MulQueryIdeal := fun m ρ _ => Cert.MulQueryIdeal.Gen.frame m ρ

theorem frame_ref : Cert.quiescent_MulQueryRefIdeal := fun m ρ _ =>
  (θ_run Cert.MulQueryRefIdeal.defs _ _).mono
    (fun r h => ⟨fun c => (h c).2, sem_eq_zero_of_no_sems (by decide) r.2⟩)
    (Cert.MulQueryRefIdeal.Value.run (F := Ideal) m ρ)

/-- The reference's product is the same sum. -/
theorem ref_eq (a : FVec Ideal Cert.MulQueryRefIdeal.S4096x1024 .bf16) (b : FVec Ideal Cert.MulQueryRefIdeal.S1024x3072 .bf16) :
    truncf .bf16 (Host.dotGeneral Cert.MulQueryRefIdeal.dot_S4096x1024_S1024x3072_S4096x3072_1_0_0_1_n_n none
      (extf .f32 a Cert.MulQueryRefIdeal.Gen.bitsLt_bf16_f32)
      (extf .f32 b Cert.MulQueryRefIdeal.Gen.bitsLt_bf16_f32)) Cert.MulQueryRefIdeal.Gen.bitsLt_bf16_f32 = times a b := by
  funext i
  unfold times
  pointwise!

theorem algebraic : Cert.algebraic_MulQueryIdeal_MulQueryRefIdeal := by
  intro m ρ m' ρ' _ hagree
  refine ⟨fun c => times (m (c.tc.loc Cert.MulQueryIdeal.main_arg0)) (m (c.tc.loc Cert.MulQueryIdeal.main_arg1)), ?_, ?_⟩
  · exact (θ_run Cert.MulQueryIdeal.defs _ _).mono (fun _ h c => ⟨(h c).1.trans (Cert.MulQueryIdeal.Blocks.arr2 m c), (h c).2⟩)
      (Cert.MulQueryIdeal.Value.run_blocks m ρ)
  · refine (θ_run Cert.MulQueryRefIdeal.defs _ _).mono (fun _ h c => ?_) (Cert.MulQueryRefIdeal.Value.run (F := Ideal) m' ρ')
    obtain ⟨e0, e1⟩ := hagree c
    refine ⟨(h c).1.trans ?_, (h c).2⟩
    rw [e0, e1]
    exact ref_eq _ _

end Cert.MulQueryClaims

end
-- ==== Proof.MulKvValue.lean ====
/-
  The product that makes the keys and values: at the ideal instance the output array after the run is the product of the
  two argument arrays, read from the blocks the points write back.
-/
module

public import proofs.«01_k».proof.Proof.MatMath
public import proofs.«01_k».proof.Defs
public import proofs.«01_k».proof.Proof.Gen.MulKv.Frame
public import proofs.«01_k».proof.Proof.Gen.MulKvIdeal.Value
public import proofs.«01_k».proof.Proof.Gen.MulKvRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.MulKvIdeal.Blocks

open Idealize.ShloMosaic Idealize.ShloMosaic.TcCoe
open Idealize.SL Idealize.SL.Sem
open Cert.MulKvIdeal Cert.MulKvIdeal.Gen Cert.Product

variable (m : (ℓ : Loc nD τ sig) → Buf (Elt Ideal) ℓ)

/-- The blocks, in the order of the points. -/
theorem at0 : ∀ t : Fin cfg0.N, win0_0.index t = ![t.val / 12, 0] := by decide +kernel
theorem at1 : ∀ t : Fin cfg0.N, win0_1.index t = ![0, t.val % 12] := by decide +kernel
theorem at2 : ∀ t : Fin cfg0.N, win0_2.index t = ![t.val / 12, t.val % 12] := by decide +kernel

/-- What a point computes from its blocks. -/
theorem pay_eq (x0 : Vec Ideal S1024x1024 .bf16) (x1 : Vec Ideal S1024x512 .bf16) (y : S1024x512.Idx) :
    k0_pay1 x0 x1 y = ∑ l : Fin 1024, x0 (ValueIdx.ix2 (y 0) l) * x1 (ValueIdx.ix2 l (y 1)) := by
  pointwise [k0_pay1]
  rfl

/-- The factors' blocks, as parts of the factors. -/
theorem left_at (c : Dev nD) (t : Fin cfg0.N) (l : Fin 1024) (y : S1024x512.Idx) :
    iblk m c 0 t (ValueIdx.ix2 (y 0) l) = m (c.tc.loc main_arg0) (ValueIdx.ix2 ((win0_2.blk t).view.emb y 0) l) := by
  blk_simp [iblk]
  refine (congrFun (V_main_arg0 m c) _).trans (congrArg (m (c.tc.loc main_arg0)) ?_)
  blk_ext [at0]
  show (t.val / 12) * 1024 + (y 0).val = ((win0_2.blk t).view.emb y 0).val
  blk_simp [at2]

theorem right_at (c : Dev nD) (t : Fin cfg0.N) (l : Fin 1024) (y : S1024x512.Idx) :
    iblk m c 1 t (ValueIdx.ix2 l (y 1)) = m (c.tc.loc main_arg1) (ValueIdx.ix2 l ((win0_2.blk t).view.emb y 1)) := by
  blk_simp [iblk]
  refine (congrFun (V_main_arg1 m c) _).trans (congrArg (m (c.tc.loc main_arg1)) ?_)
  blk_ext [at1]
  show (t.val % 12) * 512 + (y 1).val = ((win0_2.blk t).view.emb y 1).val
  blk_simp [at2]

/-- The output array after the run. -/
theorem arr2 (c : Dev nD) : (dats m 0 c).arrAt 2 cfg0.N = times (m (c.tc.loc main_arg0)) (m (c.tc.loc main_arg1)) := by
  refine (dats m 0 c).arrAt_eq_of_covers 2 _ (by decide +kernel) fun t _ y => ?_
  blk_simp
  rw [after0_2, out0_2, View.canon_unit_zero corner, View.ld_unit_zero corner, View.ld_unit_zero corner]
  refine (pay_eq _ _ y).trans (Finset.sum_congr rfl fun l _ => ?_)
  rw [left_at, right_at]

end Cert.MulKvIdeal.Blocks

namespace Cert.MulKvClaims

open Idealize.ShloMosaic Idealize.ShloMosaic.TcCoe Idealize.SL.Sem Cert.Product

theorem frame_kernel : Cert.quiescent_MulKv := fun m ρ _ => Cert.MulKv.Gen.frame m ρ

theorem frame_ideal : Cert.quiescent_MulKvIdeal := fun m ρ _ => Cert.MulKvIdeal.Gen.frame m ρ

theorem frame_ref : Cert.quiescent_MulKvRefIdeal := fun m ρ _ =>
  (θ_run Cert.MulKvRefIdeal.defs _ _).mono
    (fun r h => ⟨fun c => (h c).2, sem_eq_zero_of_no_sems (by decide) r.2⟩)
    (Cert.MulKvRefIdeal.Value.run (F := Ideal) m ρ)

/-- The reference's product is the same sum. -/
theorem ref_eq (a : FVec Ideal Cert.MulKvRefIdeal.S4096x1024 .bf16) (b : FVec Ideal Cert.MulKvRefIdeal.S1024x6144 .bf16) :
    truncf .bf16 (Host.dotGeneral Cert.MulKvRefIdeal.dot_S4096x1024_S1024x6144_S4096x6144_1_0_0_1_n_n none
      (extf .f32 a Cert.MulKvRefIdeal.Gen.bitsLt_bf16_f32)
      (extf .f32 b Cert.MulKvRefIdeal.Gen.bitsLt_bf16_f32)) Cert.MulKvRefIdeal.Gen.bitsLt_bf16_f32 = times a b := by
  funext i
  unfold times
  pointwise!

theorem algebraic : Cert.algebraic_MulKvIdeal_MulKvRefIdeal := by
  intro m ρ m' ρ' _ hagree
  refine ⟨fun c => times (m (c.tc.loc Cert.MulKvIdeal.main_arg0)) (m (c.tc.loc Cert.MulKvIdeal.main_arg1)), ?_, ?_⟩
  · exact (θ_run Cert.MulKvIdeal.defs _ _).mono (fun _ h c => ⟨(h c).1.trans (Cert.MulKvIdeal.Blocks.arr2 m c), (h c).2⟩)
      (Cert.MulKvIdeal.Value.run_blocks m ρ)
  · refine (θ_run Cert.MulKvRefIdeal.defs _ _).mono (fun _ h c => ?_) (Cert.MulKvRefIdeal.Value.run (F := Ideal) m' ρ')
    obtain ⟨e0, e1⟩ := hagree c
    refine ⟨(h c).1.trans ?_, (h c).2⟩
    rw [e0, e1]
    exact ref_eq _ _

end Cert.MulKvClaims

end
-- ==== Proof.MulUpValue.lean ====
/-
  The product that enters the feed-forward: at the ideal instance the output array after the run is the product of the
  two argument arrays, read from the blocks the points write back.
-/
module

public import proofs.«01_k».proof.Proof.MatMath
public import proofs.«01_k».proof.Defs
public import proofs.«01_k».proof.Proof.Gen.MulUp.Frame
public import proofs.«01_k».proof.Proof.Gen.MulUpIdeal.Value
public import proofs.«01_k».proof.Proof.Gen.MulUpRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.MulUpIdeal.Blocks

open Idealize.ShloMosaic Idealize.ShloMosaic.TcCoe
open Idealize.SL Idealize.SL.Sem
open Cert.MulUpIdeal Cert.MulUpIdeal.Gen Cert.Product

variable (m : (ℓ : Loc nD τ sig) → Buf (Elt Ideal) ℓ)

/-- The blocks, in the order of the points. -/
theorem at0 : ∀ t : Fin cfg0.N, win0_0.index t = ![t.val / 11, 0] := by decide +kernel
theorem at1 : ∀ t : Fin cfg0.N, win0_1.index t = ![0, t.val % 11] := by decide +kernel
theorem at2 : ∀ t : Fin cfg0.N, win0_2.index t = ![t.val / 11, t.val % 11] := by decide +kernel

/-- What a point computes from its blocks. -/
theorem pay_eq (x0 : Vec Ideal S1024x1024 .bf16) (x1 : Vec Ideal S1024x512 .bf16) (y : S1024x512.Idx) :
    k0_pay1 x0 x1 y = ∑ l : Fin 1024, x0 (ValueIdx.ix2 (y 0) l) * x1 (ValueIdx.ix2 l (y 1)) := by
  pointwise [k0_pay1]
  rfl

/-- The factors' blocks, as parts of the factors. -/
theorem left_at (c : Dev nD) (t : Fin cfg0.N) (l : Fin 1024) (y : S1024x512.Idx) :
    iblk m c 0 t (ValueIdx.ix2 (y 0) l) = m (c.tc.loc main_arg0) (ValueIdx.ix2 ((win0_2.blk t).view.emb y 0) l) := by
  blk_simp [iblk]
  refine (congrFun (V_main_arg0 m c) _).trans (congrArg (m (c.tc.loc main_arg0)) ?_)
  blk_ext [at0]
  show (t.val / 11) * 1024 + (y 0).val = ((win0_2.blk t).view.emb y 0).val
  blk_simp [at2]

theorem right_at (c : Dev nD) (t : Fin cfg0.N) (l : Fin 1024) (y : S1024x512.Idx) :
    iblk m c 1 t (ValueIdx.ix2 l (y 1)) = m (c.tc.loc main_arg1) (ValueIdx.ix2 l ((win0_2.blk t).view.emb y 1)) := by
  blk_simp [iblk]
  refine (congrFun (V_main_arg1 m c) _).trans (congrArg (m (c.tc.loc main_arg1)) ?_)
  blk_ext [at1]
  show (t.val % 11) * 512 + (y 1).val = ((win0_2.blk t).view.emb y 1).val
  blk_simp [at2]

/-- The output array after the run. -/
theorem arr2 (c : Dev nD) : (dats m 0 c).arrAt 2 cfg0.N = times (m (c.tc.loc main_arg0)) (m (c.tc.loc main_arg1)) := by
  refine (dats m 0 c).arrAt_eq_of_covers 2 _ (by decide +kernel) fun t _ y => ?_
  blk_simp
  rw [after0_2, out0_2, View.canon_unit_zero corner, View.ld_unit_zero corner, View.ld_unit_zero corner]
  refine (pay_eq _ _ y).trans (Finset.sum_congr rfl fun l _ => ?_)
  rw [left_at, right_at]

end Cert.MulUpIdeal.Blocks

namespace Cert.MulUpClaims

open Idealize.ShloMosaic Idealize.ShloMosaic.TcCoe Idealize.SL.Sem Cert.Product

theorem frame_kernel : Cert.quiescent_MulUp := fun m ρ _ => Cert.MulUp.Gen.frame m ρ

theorem frame_ideal : Cert.quiescent_MulUpIdeal := fun m ρ _ => Cert.MulUpIdeal.Gen.frame m ρ

theorem frame_ref : Cert.quiescent_MulUpRefIdeal := fun m ρ _ =>
  (θ_run Cert.MulUpRefIdeal.defs _ _).mono
    (fun r h => ⟨fun c => (h c).2, sem_eq_zero_of_no_sems (by decide) r.2⟩)
    (Cert.MulUpRefIdeal.Value.run (F := Ideal) m ρ)

/-- The reference's product is the same sum. -/
theorem ref_eq (a : FVec Ideal Cert.MulUpRefIdeal.S4096x1024 .bf16) (b : FVec Ideal Cert.MulUpRefIdeal.S1024x5632 .bf16) :
    truncf .bf16 (Host.dotGeneral Cert.MulUpRefIdeal.dot_S4096x1024_S1024x5632_S4096x5632_1_0_0_1_n_n none
      (extf .f32 a Cert.MulUpRefIdeal.Gen.bitsLt_bf16_f32)
      (extf .f32 b Cert.MulUpRefIdeal.Gen.bitsLt_bf16_f32)) Cert.MulUpRefIdeal.Gen.bitsLt_bf16_f32 = times a b := by
  funext i
  unfold times
  pointwise!

theorem algebraic : Cert.algebraic_MulUpIdeal_MulUpRefIdeal := by
  intro m ρ m' ρ' _ hagree
  refine ⟨fun c => times (m (c.tc.loc Cert.MulUpIdeal.main_arg0)) (m (c.tc.loc Cert.MulUpIdeal.main_arg1)), ?_, ?_⟩
  · exact (θ_run Cert.MulUpIdeal.defs _ _).mono (fun _ h c => ⟨(h c).1.trans (Cert.MulUpIdeal.Blocks.arr2 m c), (h c).2⟩)
      (Cert.MulUpIdeal.Value.run_blocks m ρ)
  · refine (θ_run Cert.MulUpRefIdeal.defs _ _).mono (fun _ h c => ?_) (Cert.MulUpRefIdeal.Value.run (F := Ideal) m' ρ')
    obtain ⟨e0, e1⟩ := hagree c
    refine ⟨(h c).1.trans ?_, (h c).2⟩
    rw [e0, e1]
    exact ref_eq _ _

end Cert.MulUpClaims

end
-- ==== Proof.DxInValue.lean ====
/-
  The gradient of the rows that enter the pool mixer: at the ideal instance the output array after the run is the
  product of the first argument and of the second's transpose, read from the blocks the points write back.
-/
module

public import proofs.«01_k».proof.Proof.MatMath
public import proofs.«01_k».proof.Defs
public import proofs.«01_k».proof.Proof.Gen.DxIn.Frame
public import proofs.«01_k».proof.Proof.Gen.DxInIdeal.Value
public import proofs.«01_k».proof.Proof.Gen.DxInRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.DxInIdeal.Blocks

open Idealize.ShloMosaic Idealize.ShloMosaic.TcCoe
open Idealize.SL Idealize.SL.Sem
open Cert.DxInIdeal Cert.DxInIdeal.Gen Cert.Product

variable (m : (ℓ : Loc nD τ sig) → Buf (Elt Ideal) ℓ)

/-- The blocks, in the order of the points. -/
theorem at0 : ∀ t : Fin cfg0.N, win0_0.index t = ![t.val / 2, 0] := by decide +kernel
theorem at1 : ∀ t : Fin cfg0.N, win0_1.index t = ![t.val % 2, 0] := by decide +kernel
theorem at2 : ∀ t : Fin cfg0.N, win0_2.index t = ![t.val / 2, t.val % 2] := by decide +kernel

/-- What a point computes from its blocks. -/
theorem pay_eq (x0 : Vec Ideal S1024x1024 .bf16) (x1 : Vec Ideal S512x1024 .bf16) (y : S1024x512.Idx) :
    k0_pay1 x0 x1 y = ∑ l : Fin 1024, x0 (ValueIdx.ix2 (y 0) l) * x1 (ValueIdx.ix2 (y 1) l) := by
  pointwise [k0_pay1]
  rfl

/-- The factors' blocks, as parts of the factors. -/
theorem left_at (c : Dev nD) (t : Fin cfg0.N) (l : Fin 1024) (y : S1024x512.Idx) :
    iblk m c 0 t (ValueIdx.ix2 (y 0) l) = m (c.tc.loc main_arg0) (ValueIdx.ix2 ((win0_2.blk t).view.emb y 0) l) := by
  blk_simp [iblk]
  refine (congrFun (V_main_arg0 m c) _).trans (congrArg (m (c.tc.loc main_arg0)) ?_)
  blk_ext [at0]
  show (t.val / 2) * 1024 + (y 0).val = ((win0_2.blk t).view.emb y 0).val
  blk_simp [at2]

theorem right_at (c : Dev nD) (t : Fin cfg0.N) (l : Fin 1024) (y : S1024x512.Idx) :
    iblk m c 1 t (ValueIdx.ix2 (y 1) l) = m (c.tc.loc main_arg1) (ValueIdx.ix2 ((win0_2.blk t).view.emb y 1) l) := by
  blk_simp [iblk]
  refine (congrFun (V_main_arg1 m c) _).trans (congrArg (m (c.tc.loc main_arg1)) ?_)
  blk_ext [at1]
  show (t.val % 2) * 512 + (y 1).val = ((win0_2.blk t).view.emb y 1).val
  blk_simp [at2]

/-- The output array after the run. -/
theorem arr2 (c : Dev nD) : (dats m 0 c).arrAt 2 cfg0.N = facing (m (c.tc.loc main_arg0)) (m (c.tc.loc main_arg1)) := by
  refine (dats m 0 c).arrAt_eq_of_covers 2 _ (by decide +kernel) fun t _ y => ?_
  blk_simp
  rw [after0_2, out0_2, View.canon_unit_zero corner, View.ld_unit_zero corner, View.ld_unit_zero corner]
  refine (pay_eq _ _ y).trans (Finset.sum_congr rfl fun l _ => ?_)
  rw [left_at, right_at]

end Cert.DxInIdeal.Blocks

namespace Cert.DxInClaims

open Idealize.ShloMosaic Idealize.ShloMosaic.TcCoe Idealize.SL.Sem Cert.Product

theorem frame_kernel : Cert.quiescent_DxIn := fun m ρ _ => Cert.DxIn.Gen.frame m ρ

theorem frame_ideal : Cert.quiescent_DxInIdeal := fun m ρ _ => Cert.DxInIdeal.Gen.frame m ρ

theorem frame_ref : Cert.quiescent_DxInRefIdeal := fun m ρ _ =>
  (θ_run Cert.DxInRefIdeal.defs _ _).mono
    (fun r h => ⟨fun c => (h c).2, sem_eq_zero_of_no_sems (by decide) r.2⟩)
    (Cert.DxInRefIdeal.Value.run (F := Ideal) m ρ)

/-- The reference's product is the same sum. -/
theorem ref_eq (a : FVec Ideal Cert.DxInRefIdeal.S4096x1024 .bf16) (b : FVec Ideal Cert.DxInRefIdeal.S1024x1024 .bf16) :
    Host.dotGeneral Cert.DxInRefIdeal.dot_S4096x1024_S1024x1024_S4096x1024_1_0_0_1_n_n none
      (extf .f32 a Cert.DxInRefIdeal.Gen.bitsLt_bf16_f32)
      (transpose Cert.DxInRefIdeal.S1024x1024 [1, 0] (extf .f32 b Cert.DxInRefIdeal.Gen.bitsLt_bf16_f32) Cert.DxInRefIdeal.Gen.transposes_S1024x1024_S1024x1024_1_0) = facing a b := by
  funext i
  unfold facing
  pointwise!

theorem algebraic : Cert.algebraic_DxInIdeal_DxInRefIdeal := by
  intro m ρ m' ρ' _ hagree
  refine ⟨fun c => facing (m (c.tc.loc Cert.DxInIdeal.main_arg0)) (m (c.tc.loc Cert.DxInIdeal.main_arg1)), ?_, ?_⟩
  · exact (θ_run Cert.DxInIdeal.defs _ _).mono (fun _ h c => ⟨(h c).1.trans (Cert.DxInIdeal.Blocks.arr2 m c), (h c).2⟩)
      (Cert.DxInIdeal.Value.run_blocks m ρ)
  · refine (θ_run Cert.DxInRefIdeal.defs _ _).mono (fun _ h c => ?_) (Cert.DxInRefIdeal.Value.run (F := Ideal) m' ρ')
    obtain ⟨e0, e1⟩ := hagree c
    refine ⟨(h c).1.trans ?_, (h c).2⟩
    rw [e0, e1]
    exact ref_eq _ _

end Cert.DxInClaims

end
-- ==== Proof.DxOutValue.lean ====
/-
  The gradient of the rows that leave a mixer: at the ideal instance the output array after the run is the product of
  the first argument and of the second's transpose, read from the blocks the points write back.
-/
module

public import proofs.«01_k».proof.Proof.MatMath
public import proofs.«01_k».proof.Defs
public import proofs.«01_k».proof.Proof.Gen.DxOut.Frame
public import proofs.«01_k».proof.Proof.Gen.DxOutIdeal.Value
public import proofs.«01_k».proof.Proof.Gen.DxOutRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.DxOutIdeal.Blocks

open Idealize.ShloMosaic Idealize.ShloMosaic.TcCoe
open Idealize.SL Idealize.SL.Sem
open Cert.DxOutIdeal Cert.DxOutIdeal.Gen Cert.Product

variable (m : (ℓ : Loc nD τ sig) → Buf (Elt Ideal) ℓ)

/-- The blocks, in the order of the points. -/
theorem at0 : ∀ t : Fin cfg0.N, win0_0.index t = ![t.val / 2, 0] := by decide +kernel
theorem at1 : ∀ t : Fin cfg0.N, win0_1.index t = ![t.val % 2, 0] := by decide +kernel
theorem at2 : ∀ t : Fin cfg0.N, win0_2.index t = ![t.val / 2, t.val % 2] := by decide +kernel

/-- What a point computes from its blocks. -/
theorem pay_eq (x0 : Vec Ideal S1024x1024 .bf16) (x1 : Vec Ideal S512x1024 .bf16) (y : S1024x512.Idx) :
    k0_pay1 x0 x1 y = ∑ l : Fin 1024, x0 (ValueIdx.ix2 (y 0) l) * x1 (ValueIdx.ix2 (y 1) l) := by
  pointwise [k0_pay1]
  rfl

/-- The factors' blocks, as parts of the factors. -/
theorem left_at (c : Dev nD) (t : Fin cfg0.N) (l : Fin 1024) (y : S1024x512.Idx) :
    iblk m c 0 t (ValueIdx.ix2 (y 0) l) = m (c.tc.loc main_arg0) (ValueIdx.ix2 ((win0_2.blk t).view.emb y 0) l) := by
  blk_simp [iblk]
  refine (congrFun (V_main_arg0 m c) _).trans (congrArg (m (c.tc.loc main_arg0)) ?_)
  blk_ext [at0]
  show (t.val / 2) * 1024 + (y 0).val = ((win0_2.blk t).view.emb y 0).val
  blk_simp [at2]

theorem right_at (c : Dev nD) (t : Fin cfg0.N) (l : Fin 1024) (y : S1024x512.Idx) :
    iblk m c 1 t (ValueIdx.ix2 (y 1) l) = m (c.tc.loc main_arg1) (ValueIdx.ix2 ((win0_2.blk t).view.emb y 1) l) := by
  blk_simp [iblk]
  refine (congrFun (V_main_arg1 m c) _).trans (congrArg (m (c.tc.loc main_arg1)) ?_)
  blk_ext [at1]
  show (t.val % 2) * 512 + (y 1).val = ((win0_2.blk t).view.emb y 1).val
  blk_simp [at2]

/-- The output array after the run. -/
theorem arr2 (c : Dev nD) : (dats m 0 c).arrAt 2 cfg0.N = facing (m (c.tc.loc main_arg0)) (m (c.tc.loc main_arg1)) := by
  refine (dats m 0 c).arrAt_eq_of_covers 2 _ (by decide +kernel) fun t _ y => ?_
  blk_simp
  rw [after0_2, out0_2, View.canon_unit_zero corner, View.ld_unit_zero corner, View.ld_unit_zero corner]
  refine (pay_eq _ _ y).trans (Finset.sum_congr rfl fun l _ => ?_)
  rw [left_at, right_at]

end Cert.DxOutIdeal.Blocks

namespace Cert.DxOutClaims

open Idealize.ShloMosaic Idealize.ShloMosaic.TcCoe Idealize.SL.Sem Cert.Product

theorem frame_kernel : Cert.quiescent_DxOut := fun m ρ _ => Cert.DxOut.Gen.frame m ρ

theorem frame_ideal : Cert.quiescent_DxOutIdeal := fun m ρ _ => Cert.DxOutIdeal.Gen.frame m ρ

theorem frame_ref : Cert.quiescent_DxOutRefIdeal := fun m ρ _ =>
  (θ_run Cert.DxOutRefIdeal.defs _ _).mono
    (fun r h => ⟨fun c => (h c).2, sem_eq_zero_of_no_sems (by decide) r.2⟩)
    (Cert.DxOutRefIdeal.Value.run (F := Ideal) m ρ)

/-- The reference's product is the same sum. -/
theorem ref_eq (a : FVec Ideal Cert.DxOutRefIdeal.S4096x1024 .bf16) (b : FVec Ideal Cert.DxOutRefIdeal.S1024x1024 .bf16) :
    truncf .bf16 (Host.dotGeneral Cert.DxOutRefIdeal.dot_S4096x1024_S1024x1024_S4096x1024_1_0_0_1_n_n none
      (extf .f32 a Cert.DxOutRefIdeal.Gen.bitsLt_bf16_f32)
      (transpose Cert.DxOutRefIdeal.S1024x1024 [1, 0] (extf .f32 b Cert.DxOutRefIdeal.Gen.bitsLt_bf16_f32) Cert.DxOutRefIdeal.Gen.transposes_S1024x1024_S1024x1024_1_0)) Cert.DxOutRefIdeal.Gen.bitsLt_bf16_f32 = facing a b := by
  funext i
  unfold facing
  pointwise!

theorem algebraic : Cert.algebraic_DxOutIdeal_DxOutRefIdeal := by
  intro m ρ m' ρ' _ hagree
  refine ⟨fun c => facing (m (c.tc.loc Cert.DxOutIdeal.main_arg0)) (m (c.tc.loc Cert.DxOutIdeal.main_arg1)), ?_, ?_⟩
  · exact (θ_run Cert.DxOutIdeal.defs _ _).mono (fun _ h c => ⟨(h c).1.trans (Cert.DxOutIdeal.Blocks.arr2 m c), (h c).2⟩)
      (Cert.DxOutIdeal.Value.run_blocks m ρ)
  · refine (θ_run Cert.DxOutRefIdeal.defs _ _).mono (fun _ h c => ?_) (Cert.DxOutRefIdeal.Value.run (F := Ideal) m' ρ')
    obtain ⟨e0, e1⟩ := hagree c
    refine ⟨(h c).1.trans ?_, (h c).2⟩
    rw [e0, e1]
    exact ref_eq _ _

end Cert.DxOutClaims

end
-- ==== Proof.DxDownValue.lean ====
/-
  The gradient of the rows that leave the feed-forward: at the ideal instance the output array after the run is the
  product of the first argument and of the second's transpose, read from the blocks the points write back.
-/
module

public import proofs.«01_k».proof.Proof.MatMath
public import proofs.«01_k».proof.Defs
public import proofs.«01_k».proof.Proof.Gen.DxDown.Frame
public import proofs.«01_k».proof.Proof.Gen.DxDownIdeal.Value
public import proofs.«01_k».proof.Proof.Gen.DxDownRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.DxDownIdeal.Blocks

open Idealize.ShloMosaic Idealize.ShloMosaic.TcCoe
open Idealize.SL Idealize.SL.Sem
open Cert.DxDownIdeal Cert.DxDownIdeal.Gen Cert.Product

variable (m : (ℓ : Loc nD τ sig) → Buf (Elt Ideal) ℓ)

/-- The blocks, in the order of the points. -/
theorem at0 : ∀ t : Fin cfg0.N, win0_0.index t = ![t.val / 11, 0] := by decide +kernel
theorem at1 : ∀ t : Fin cfg0.N, win0_1.index t = ![t.val % 11, 0] := by decide +kernel
theorem at2 : ∀ t : Fin cfg0.N, win0_2.index t = ![t.val / 11, t.val % 11] := by decide +kernel

/-- What a point computes from its blocks. -/
theorem pay_eq (x0 : Vec Ideal S1024x1024 .bf16) (x1 : Vec Ideal S256x1024 .bf16) (y : S1024x256.Idx) :
    k0_pay1 x0 x1 y = ∑ l : Fin 1024, x0 (ValueIdx.ix2 (y 0) l) * x1 (ValueIdx.ix2 (y 1) l) := by
  pointwise [k0_pay1]
  rfl

/-- The factors' blocks, as parts of the factors. -/
theorem left_at (c : Dev nD) (t : Fin cfg0.N) (l : Fin 1024) (y : S1024x256.Idx) :
    iblk m c 0 t (ValueIdx.ix2 (y 0) l) = m (c.tc.loc main_arg0) (ValueIdx.ix2 ((win0_2.blk t).view.emb y 0) l) := by
  blk_simp [iblk]
  refine (congrFun (V_main_arg0 m c) _).trans (congrArg (m (c.tc.loc main_arg0)) ?_)
  blk_ext [at0]
  show (t.val / 11) * 1024 + (y 0).val = ((win0_2.blk t).view.emb y 0).val
  blk_simp [at2]

theorem right_at (c : Dev nD) (t : Fin cfg0.N) (l : Fin 1024) (y : S1024x256.Idx) :
    iblk m c 1 t (ValueIdx.ix2 (y 1) l) = m (c.tc.loc main_arg1) (ValueIdx.ix2 ((win0_2.blk t).view.emb y 1) l) := by
  blk_simp [iblk]
  refine (congrFun (V_main_arg1 m c) _).trans (congrArg (m (c.tc.loc main_arg1)) ?_)
  blk_ext [at1]
  show (t.val % 11) * 256 + (y 1).val = ((win0_2.blk t).view.emb y 1).val
  blk_simp [at2]

/-- The output array after the run. -/
theorem arr2 (c : Dev nD) : (dats m 0 c).arrAt 2 cfg0.N = facing (m (c.tc.loc main_arg0)) (m (c.tc.loc main_arg1)) := by
  refine (dats m 0 c).arrAt_eq_of_covers 2 _ (by decide +kernel) fun t _ y => ?_
  blk_simp
  rw [after0_2, out0_2, View.canon_unit_zero corner, View.ld_unit_zero corner, View.ld_unit_zero corner]
  refine (pay_eq _ _ y).trans (Finset.sum_congr rfl fun l _ => ?_)
  rw [left_at, right_at]

end Cert.DxDownIdeal.Blocks

namespace Cert.DxDownClaims

open Idealize.ShloMosaic Idealize.ShloMosaic.TcCoe Idealize.SL.Sem Cert.Product

theorem frame_kernel : Cert.quiescent_DxDown := fun m ρ _ => Cert.DxDown.Gen.frame m ρ

theorem frame_ideal : Cert.quiescent_DxDownIdeal := fun m ρ _ => Cert.DxDownIdeal.Gen.frame m ρ

theorem frame_ref : Cert.quiescent_DxDownRefIdeal := fun m ρ _ =>
  (θ_run Cert.DxDownRefIdeal.defs _ _).mono
    (fun r h => ⟨fun c => (h c).2, sem_eq_zero_of_no_sems (by decide) r.2⟩)
    (Cert.DxDownRefIdeal.Value.run (F := Ideal) m ρ)

/-- The reference's product is the same sum. -/
theorem ref_eq (a : FVec Ideal Cert.DxDownRefIdeal.S4096x1024 .bf16) (b : FVec Ideal Cert.DxDownRefIdeal.S2816x1024 .bf16) :
    truncf .bf16 (Host.dotGeneral Cert.DxDownRefIdeal.dot_S4096x1024_S1024x2816_S4096x2816_1_0_0_1_n_n none
      (extf .f32 a Cert.DxDownRefIdeal.Gen.bitsLt_bf16_f32)
      (transpose Cert.DxDownRefIdeal.S1024x2816 [1, 0] (extf .f32 b Cert.DxDownRefIdeal.Gen.bitsLt_bf16_f32) Cert.DxDownRefIdeal.Gen.transposes_S2816x1024_S1024x2816_1_0)) Cert.DxDownRefIdeal.Gen.bitsLt_bf16_f32 = facing a b := by
  funext i
  unfold facing
  pointwise!

theorem algebraic : Cert.algebraic_DxDownIdeal_DxDownRefIdeal := by
  intro m ρ m' ρ' _ hagree
  refine ⟨fun c => facing (m (c.tc.loc Cert.DxDownIdeal.main_arg0)) (m (c.tc.loc Cert.DxDownIdeal.main_arg1)), ?_, ?_⟩
  · exact (θ_run Cert.DxDownIdeal.defs _ _).mono (fun _ h c => ⟨(h c).1.trans (Cert.DxDownIdeal.Blocks.arr2 m c), (h c).2⟩)
      (Cert.DxDownIdeal.Value.run_blocks m ρ)
  · refine (θ_run Cert.DxDownRefIdeal.defs _ _).mono (fun _ h c => ?_) (Cert.DxDownRefIdeal.Value.run (F := Ideal) m' ρ')
    obtain ⟨e0, e1⟩ := hagree c
    refine ⟨(h c).1.trans ?_, (h c).2⟩
    rw [e0, e1]
    exact ref_eq _ _

end Cert.DxDownClaims

end
-- ==== Proof.DxQueryValue.lean ====
/-
  The gradient of the rows that make the queries: at the ideal instance the output array after the run is the product of
  the first argument and of the second's transpose, read from the blocks the points write back.
-/
module

public import proofs.«01_k».proof.Proof.MatMath
public import proofs.«01_k».proof.Defs
public import proofs.«01_k».proof.Proof.Gen.DxQuery.Frame
public import proofs.«01_k».proof.Proof.Gen.DxQueryIdeal.Value
public import proofs.«01_k».proof.Proof.Gen.DxQueryRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.DxQueryIdeal.Blocks

open Idealize.ShloMosaic Idealize.ShloMosaic.TcCoe
open Idealize.SL Idealize.SL.Sem
open Cert.DxQueryIdeal Cert.DxQueryIdeal.Gen Cert.Product

variable (m : (ℓ : Loc nD τ sig) → Buf (Elt Ideal) ℓ)

/-- The blocks, in the order of the points. -/
theorem at0 : ∀ t : Fin cfg0.N, win0_0.index t = ![t.val / 6, t.val % 3] := by decide +kernel
theorem at1 : ∀ t : Fin cfg0.N, win0_1.index t = ![t.val / 3 % 2, t.val % 3] := by decide +kernel
theorem at2 : ∀ t : Fin cfg0.N, win0_2.index t = ![t.val / 6, t.val / 3 % 2] := by decide +kernel

/-- The part of the product that two blocks make. -/
def part (x0 : Vec Ideal S1024x1024 .bf16) (x1 : Vec Ideal S512x1024 .bf16) (y : S1024x512.Idx) : EReal :=
  ∑ l : Fin 1024, x0 (ValueIdx.ix2 (y 0) l) * x1 (ValueIdx.ix2 (y 1) l)

/-- A point adds its part to what the point before left. -/
theorem pay_eq (acc : Vec Ideal S1024x512 .f32) (x0 : Vec Ideal S1024x1024 .bf16) (x1 : Vec Ideal S512x1024 .bf16)
    (y : S1024x512.Idx) : k0_pay2 acc x0 x1 y = acc y + part x0 x1 y := by
  pointwise [k0_pay2]
  rfl

theorem zero1 (y : S1024x512.Idx) : k0_pay1 (F := Ideal) y = 0 := by pointwise [k0_pay1]

/-- At the last point of a block the output is the sum. -/
theorem out_last (c : Dev nD) (t : Fin cfg0.N) (h1 : t.val % 3 = 2) :
    (outsAt0 m c t.val t.isLt).1 = (outsAt0 m c t.val t.isLt).2 := by
  rw [outsAt0_C m c t (by omega) h1]; frame_out

/-- The sum after the last point of a block. -/
theorem sum_last (c : Dev nD) (t : Fin cfg0.N) (h : t.val % 3 = 3 - 1) (y : S1024x512.Idx) :
    (outsAt0 m c t.val t.isLt).2 y
      = ∑ s : Fin 3, part (iblk m c 0 ⟨3 * (t.val / 3) + s.val, Pipeline.run_point_lt_of_flush t h s⟩)
          (iblk m c 1 ⟨3 * (t.val / 3) + s.val, Pipeline.run_point_lt_of_flush t h s⟩) y := by
  rw [Pipeline.eq_sum_fin_of_reset_step_apply_of_flush (fun n h => (outsAt0 m c n h).2) 3 (fun _ => 0)
    (fun t => part (iblk m c 0 t) (iblk m c 1 t))
    (fun t h y => by rw [outsAt0_A m c t h (by omega)]; frame_out; rw [pay_eq, zero1])
    (fun t h y => by
      by_cases h1 : t.val % 3 = 2
      · rw [outsAt0_C m c t h h1]; frame_out; rw [pay_eq]; exact congrArg (· + _) (congrFun (Memref.IsWhole.read_unread _ _) y)
      · rw [outsAt0_B m c t h h1]; frame_out; rw [pay_eq]; exact congrArg (· + _) (congrFun (Memref.IsWhole.read_unread _ _) y))
    t h y, zero_add]

/-- The blocks of a point, as parts of the factors. -/
theorem left_at (c : Dev nD) (t u : Fin cfg0.N) (s : Fin 3) (hu : u.val = 3 * (t.val / 3) + s.val) (l : Fin 1024)
    (hl : s.val * 1024 + l.val < 3072) (y : S1024x512.Idx) :
    iblk m c 0 u (ValueIdx.ix2 (y 0) l)
      = m (c.tc.loc main_arg0) (ValueIdx.ix2 ((win0_2.blk t).view.emb y 0) ⟨s.val * 1024 + l.val, hl⟩) := by
  blk_simp [iblk]
  refine (congrFun (V_main_arg0 m c) _).trans (congrArg (m (c.tc.loc main_arg0)) ?_)
  have := s.isLt
  blk_ext [at0]
  · show (u.val / 6) * 1024 + (y 0).val = ((win0_2.blk t).view.emb y 0).val
    blk_simp [at2]
    omega
  · show (u.val % 3) * 1024 + l.val = s.val * 1024 + l.val
    omega

theorem right_at (c : Dev nD) (t u : Fin cfg0.N) (s : Fin 3) (hu : u.val = 3 * (t.val / 3) + s.val) (l : Fin 1024)
    (hl : s.val * 1024 + l.val < 3072) (y : S1024x512.Idx) :
    iblk m c 1 u (ValueIdx.ix2 (y 1) l)
      = m (c.tc.loc main_arg1) (ValueIdx.ix2 ((win0_2.blk t).view.emb y 1) ⟨s.val * 1024 + l.val, hl⟩) := by
  blk_simp [iblk]
  refine (congrFun (V_main_arg1 m c) _).trans (congrArg (m (c.tc.loc main_arg1)) ?_)
  have := s.isLt
  blk_ext [at1]
  · show (u.val / 3 % 2) * 512 + (y 1).val = ((win0_2.blk t).view.emb y 1).val
    blk_simp [at2]
    omega
  · show (u.val % 3) * 1024 + l.val = s.val * 1024 + l.val
    omega

/-- The output array after the run. -/
theorem arr2 (c : Dev nD) : (dats m 0 c).arrAt 2 cfg0.N = facing (m (c.tc.loc main_arg0)) (m (c.tc.loc main_arg1)) := by
  refine (dats m 0 c).arrAt_eq_of_covers 2 _ (by decide +kernel) fun t hf y => ?_
  blk_simp
  have h : t.val % 3 = 2 := (flush0_2 t).mp hf
  rw [after0_2, out_last m c t h, sum_last m c t h]
  unfold part facing
  refine Fin.sum_mul_add_congr (n := 1024) fun s l hl => ?_
  rw [left_at m c t _ s rfl l hl, right_at m c t _ s rfl l hl]

end Cert.DxQueryIdeal.Blocks

namespace Cert.DxQueryClaims

open Idealize.ShloMosaic Idealize.ShloMosaic.TcCoe Idealize.SL.Sem Cert.Product

theorem frame_kernel : Cert.quiescent_DxQuery := fun m ρ _ => Cert.DxQuery.Gen.frame m ρ

theorem frame_ideal : Cert.quiescent_DxQueryIdeal := fun m ρ _ => Cert.DxQueryIdeal.Gen.frame m ρ

theorem frame_ref : Cert.quiescent_DxQueryRefIdeal := fun m ρ _ =>
  (θ_run Cert.DxQueryRefIdeal.defs _ _).mono
    (fun r h => ⟨fun c => (h c).2, sem_eq_zero_of_no_sems (by decide) r.2⟩)
    (Cert.DxQueryRefIdeal.Value.run (F := Ideal) m ρ)

/-- The reference's product is the same sum. -/
theorem ref_eq (a : FVec Ideal Cert.DxQueryRefIdeal.S4096x3072 .bf16) (b : FVec Ideal Cert.DxQueryRefIdeal.S1024x3072 .bf16) :
    Host.dotGeneral Cert.DxQueryRefIdeal.dot_S4096x3072_S3072x1024_S4096x1024_1_0_0_1_n_n none
      (extf .f32 a Cert.DxQueryRefIdeal.Gen.bitsLt_bf16_f32)
      (transpose Cert.DxQueryRefIdeal.S3072x1024 [1, 0] (extf .f32 b Cert.DxQueryRefIdeal.Gen.bitsLt_bf16_f32) Cert.DxQueryRefIdeal.Gen.transposes_S1024x3072_S3072x1024_1_0) = facing a b := by
  funext i
  unfold facing
  pointwise!

theorem algebraic : Cert.algebraic_DxQueryIdeal_DxQueryRefIdeal := by
  intro m ρ m' ρ' _ hagree
  refine ⟨fun c => facing (m (c.tc.loc Cert.DxQueryIdeal.main_arg0)) (m (c.tc.loc Cert.DxQueryIdeal.main_arg1)), ?_, ?_⟩
  · exact (θ_run Cert.DxQueryIdeal.defs _ _).mono (fun _ h c => ⟨(h c).1.trans (Cert.DxQueryIdeal.Blocks.arr2 m c), (h c).2⟩)
      (Cert.DxQueryIdeal.Value.run_blocks m ρ)
  · refine (θ_run Cert.DxQueryRefIdeal.defs _ _).mono (fun _ h c => ?_) (Cert.DxQueryRefIdeal.Value.run (F := Ideal) m' ρ')
    obtain ⟨e0, e1⟩ := hagree c
    refine ⟨(h c).1.trans ?_, (h c).2⟩
    rw [e0, e1]
    exact ref_eq _ _

end Cert.DxQueryClaims

end
-- ==== Proof.DxKvValue.lean ====
/-
  The gradient of the rows that make the keys and values: at the ideal instance the output array after the run is the
  product of the first argument and of the second's transpose, read from the blocks the points write back.
-/
module

public import proofs.«01_k».proof.Proof.MatMath
public import proofs.«01_k».proof.Defs
public import proofs.«01_k».proof.Proof.Gen.DxKv.Frame
public import proofs.«01_k».proof.Proof.Gen.DxKvIdeal.Value
public import proofs.«01_k».proof.Proof.Gen.DxKvRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.DxKvIdeal.Blocks

open Idealize.ShloMosaic Idealize.ShloMosaic.TcCoe
open Idealize.SL Idealize.SL.Sem
open Cert.DxKvIdeal Cert.DxKvIdeal.Gen Cert.Product

variable (m : (ℓ : Loc nD τ sig) → Buf (Elt Ideal) ℓ)

/-- The blocks, in the order of the points. -/
theorem at0 : ∀ t : Fin cfg0.N, win0_0.index t = ![t.val / 12, t.val % 6] := by decide +kernel
theorem at1 : ∀ t : Fin cfg0.N, win0_1.index t = ![t.val / 6 % 2, t.val % 6] := by decide +kernel
theorem at2 : ∀ t : Fin cfg0.N, win0_2.index t = ![t.val / 12, t.val / 6 % 2] := by decide +kernel

/-- The part of the product that two blocks make. -/
def part (x0 : Vec Ideal S1024x1024 .bf16) (x1 : Vec Ideal S512x1024 .bf16) (y : S1024x512.Idx) : EReal :=
  ∑ l : Fin 1024, x0 (ValueIdx.ix2 (y 0) l) * x1 (ValueIdx.ix2 (y 1) l)

/-- A point adds its part to what the point before left. -/
theorem pay_eq (acc : Vec Ideal S1024x512 .f32) (x0 : Vec Ideal S1024x1024 .bf16) (x1 : Vec Ideal S512x1024 .bf16)
    (y : S1024x512.Idx) : k0_pay2 acc x0 x1 y = acc y + part x0 x1 y := by
  pointwise [k0_pay2]
  rfl

theorem zero1 (y : S1024x512.Idx) : k0_pay1 (F := Ideal) y = 0 := by pointwise [k0_pay1]

/-- At the last point of a block the output is the sum. -/
theorem out_last (c : Dev nD) (t : Fin cfg0.N) (h1 : t.val % 6 = 5) :
    (outsAt0 m c t.val t.isLt).1 = (outsAt0 m c t.val t.isLt).2 := by
  rw [outsAt0_C m c t (by omega) h1]; frame_out

/-- The sum after the last point of a block. -/
theorem sum_last (c : Dev nD) (t : Fin cfg0.N) (h : t.val % 6 = 6 - 1) (y : S1024x512.Idx) :
    (outsAt0 m c t.val t.isLt).2 y
      = ∑ s : Fin 6, part (iblk m c 0 ⟨6 * (t.val / 6) + s.val, Pipeline.run_point_lt_of_flush t h s⟩)
          (iblk m c 1 ⟨6 * (t.val / 6) + s.val, Pipeline.run_point_lt_of_flush t h s⟩) y := by
  rw [Pipeline.eq_sum_fin_of_reset_step_apply_of_flush (fun n h => (outsAt0 m c n h).2) 6 (fun _ => 0)
    (fun t => part (iblk m c 0 t) (iblk m c 1 t))
    (fun t h y => by rw [outsAt0_A m c t h (by omega)]; frame_out; rw [pay_eq, zero1])
    (fun t h y => by
      by_cases h1 : t.val % 6 = 5
      · rw [outsAt0_C m c t h h1]; frame_out; rw [pay_eq]; exact congrArg (· + _) (congrFun (Memref.IsWhole.read_unread _ _) y)
      · rw [outsAt0_B m c t h h1]; frame_out; rw [pay_eq]; exact congrArg (· + _) (congrFun (Memref.IsWhole.read_unread _ _) y))
    t h y, zero_add]

/-- The blocks of a point, as parts of the factors. -/
theorem left_at (c : Dev nD) (t u : Fin cfg0.N) (s : Fin 6) (hu : u.val = 6 * (t.val / 6) + s.val) (l : Fin 1024)
    (hl : s.val * 1024 + l.val < 6144) (y : S1024x512.Idx) :
    iblk m c 0 u (ValueIdx.ix2 (y 0) l)
      = m (c.tc.loc main_arg0) (ValueIdx.ix2 ((win0_2.blk t).view.emb y 0) ⟨s.val * 1024 + l.val, hl⟩) := by
  blk_simp [iblk]
  refine (congrFun (V_main_arg0 m c) _).trans (congrArg (m (c.tc.loc main_arg0)) ?_)
  have := s.isLt
  blk_ext [at0]
  · show (u.val / 12) * 1024 + (y 0).val = ((win0_2.blk t).view.emb y 0).val
    blk_simp [at2]
    omega
  · show (u.val % 6) * 1024 + l.val = s.val * 1024 + l.val
    omega

theorem right_at (c : Dev nD) (t u : Fin cfg0.N) (s : Fin 6) (hu : u.val = 6 * (t.val / 6) + s.val) (l : Fin 1024)
    (hl : s.val * 1024 + l.val < 6144) (y : S1024x512.Idx) :
    iblk m c 1 u (ValueIdx.ix2 (y 1) l)
      = m (c.tc.loc main_arg1) (ValueIdx.ix2 ((win0_2.blk t).view.emb y 1) ⟨s.val * 1024 + l.val, hl⟩) := by
  blk_simp [iblk]
  refine (congrFun (V_main_arg1 m c) _).trans (congrArg (m (c.tc.loc main_arg1)) ?_)
  have := s.isLt
  blk_ext [at1]
  · show (u.val / 6 % 2) * 512 + (y 1).val = ((win0_2.blk t).view.emb y 1).val
    blk_simp [at2]
    omega
  · show (u.val % 6) * 1024 + l.val = s.val * 1024 + l.val
    omega

/-- The output array after the run. -/
theorem arr2 (c : Dev nD) : (dats m 0 c).arrAt 2 cfg0.N = facing (m (c.tc.loc main_arg0)) (m (c.tc.loc main_arg1)) := by
  refine (dats m 0 c).arrAt_eq_of_covers 2 _ (by decide +kernel) fun t hf y => ?_
  blk_simp
  have h : t.val % 6 = 5 := (flush0_2 t).mp hf
  rw [after0_2, out_last m c t h, sum_last m c t h]
  unfold part facing
  refine Fin.sum_mul_add_congr (n := 1024) fun s l hl => ?_
  rw [left_at m c t _ s rfl l hl, right_at m c t _ s rfl l hl]

end Cert.DxKvIdeal.Blocks

namespace Cert.DxKvClaims

open Idealize.ShloMosaic Idealize.ShloMosaic.TcCoe Idealize.SL.Sem Cert.Product

theorem frame_kernel : Cert.quiescent_DxKv := fun m ρ _ => Cert.DxKv.Gen.frame m ρ

theorem frame_ideal : Cert.quiescent_DxKvIdeal := fun m ρ _ => Cert.DxKvIdeal.Gen.frame m ρ

theorem frame_ref : Cert.quiescent_DxKvRefIdeal := fun m ρ _ =>
  (θ_run Cert.DxKvRefIdeal.defs _ _).mono
    (fun r h => ⟨fun c => (h c).2, sem_eq_zero_of_no_sems (by decide) r.2⟩)
    (Cert.DxKvRefIdeal.Value.run (F := Ideal) m ρ)

/-- The reference's product is the same sum. -/
theorem ref_eq (a : FVec Ideal Cert.DxKvRefIdeal.S4096x6144 .bf16) (b : FVec Ideal Cert.DxKvRefIdeal.S1024x6144 .bf16) :
    Host.dotGeneral Cert.DxKvRefIdeal.dot_S4096x6144_S6144x1024_S4096x1024_1_0_0_1_n_n none
      (extf .f32 a Cert.DxKvRefIdeal.Gen.bitsLt_bf16_f32)
      (transpose Cert.DxKvRefIdeal.S6144x1024 [1, 0] (extf .f32 b Cert.DxKvRefIdeal.Gen.bitsLt_bf16_f32) Cert.DxKvRefIdeal.Gen.transposes_S1024x6144_S6144x1024_1_0) = facing a b := by
  funext i
  unfold facing
  pointwise!

theorem algebraic : Cert.algebraic_DxKvIdeal_DxKvRefIdeal := by
  intro m ρ m' ρ' _ hagree
  refine ⟨fun c => facing (m (c.tc.loc Cert.DxKvIdeal.main_arg0)) (m (c.tc.loc Cert.DxKvIdeal.main_arg1)), ?_, ?_⟩
  · exact (θ_run Cert.DxKvIdeal.defs _ _).mono (fun _ h c => ⟨(h c).1.trans (Cert.DxKvIdeal.Blocks.arr2 m c), (h c).2⟩)
      (Cert.DxKvIdeal.Value.run_blocks m ρ)
  · refine (θ_run Cert.DxKvRefIdeal.defs _ _).mono (fun _ h c => ?_) (Cert.DxKvRefIdeal.Value.run (F := Ideal) m' ρ')
    obtain ⟨e0, e1⟩ := hagree c
    refine ⟨(h c).1.trans ?_, (h c).2⟩
    rw [e0, e1]
    exact ref_eq _ _

end Cert.DxKvClaims

end
-- ==== Proof.DxUpValue.lean ====
/-
  The gradient of the rows that enter the feed-forward: at the ideal instance the output array after the run is the
  product of the first argument and of the second's transpose, read from the blocks the points write back.
-/
module

public import proofs.«01_k».proof.Proof.MatMath
public import proofs.«01_k».proof.Defs
public import proofs.«01_k».proof.Proof.Gen.DxUp.Frame
public import proofs.«01_k».proof.Proof.Gen.DxUpIdeal.Value
public import proofs.«01_k».proof.Proof.Gen.DxUpRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.DxUpIdeal.Blocks

open Idealize.ShloMosaic Idealize.ShloMosaic.TcCoe
open Idealize.SL Idealize.SL.Sem
open Cert.DxUpIdeal Cert.DxUpIdeal.Gen Cert.Product

variable (m : (ℓ : Loc nD τ sig) → Buf (Elt Ideal) ℓ)

/-- The blocks, in the order of the points. -/
theorem at0 : ∀ t : Fin cfg0.N, win0_0.index t = ![t.val / 22, t.val % 11] := by decide +kernel
theorem at1 : ∀ t : Fin cfg0.N, win0_1.index t = ![t.val / 11 % 2, t.val % 11] := by decide +kernel
theorem at2 : ∀ t : Fin cfg0.N, win0_2.index t = ![t.val / 22, t.val / 11 % 2] := by decide +kernel

/-- The part of the product that two blocks make. -/
def part (x0 : Vec Ideal S1024x512 .bf16) (x1 : Vec Ideal S512x512 .bf16) (y : S1024x512.Idx) : EReal :=
  ∑ l : Fin 512, x0 (ValueIdx.ix2 (y 0) l) * x1 (ValueIdx.ix2 (y 1) l)

/-- A point adds its part to what the point before left. -/
theorem pay_eq (acc : Vec Ideal S1024x512 .f32) (x0 : Vec Ideal S1024x512 .bf16) (x1 : Vec Ideal S512x512 .bf16)
    (y : S1024x512.Idx) : k0_pay2 acc x0 x1 y = acc y + part x0 x1 y := by
  pointwise [k0_pay2]
  rfl

theorem zero1 (y : S1024x512.Idx) : k0_pay1 (F := Ideal) y = 0 := by pointwise [k0_pay1]

/-- At the last point of a block the output is the sum. -/
theorem out_last (c : Dev nD) (t : Fin cfg0.N) (h1 : t.val % 11 = 10) :
    (outsAt0 m c t.val t.isLt).1 = (outsAt0 m c t.val t.isLt).2 := by
  rw [outsAt0_C m c t (by omega) h1]; frame_out

/-- The sum after the last point of a block. -/
theorem sum_last (c : Dev nD) (t : Fin cfg0.N) (h : t.val % 11 = 11 - 1) (y : S1024x512.Idx) :
    (outsAt0 m c t.val t.isLt).2 y
      = ∑ s : Fin 11, part (iblk m c 0 ⟨11 * (t.val / 11) + s.val, Pipeline.run_point_lt_of_flush t h s⟩)
          (iblk m c 1 ⟨11 * (t.val / 11) + s.val, Pipeline.run_point_lt_of_flush t h s⟩) y := by
  rw [Pipeline.eq_sum_fin_of_reset_step_apply_of_flush (fun n h => (outsAt0 m c n h).2) 11 (fun _ => 0)
    (fun t => part (iblk m c 0 t) (iblk m c 1 t))
    (fun t h y => by rw [outsAt0_A m c t h (by omega)]; frame_out; rw [pay_eq, zero1])
    (fun t h y => by
      by_cases h1 : t.val % 11 = 10
      · rw [outsAt0_C m c t h h1]; frame_out; rw [pay_eq]; exact congrArg (· + _) (congrFun (Memref.IsWhole.read_unread _ _) y)
      · rw [outsAt0_B m c t h h1]; frame_out; rw [pay_eq]; exact congrArg (· + _) (congrFun (Memref.IsWhole.read_unread _ _) y))
    t h y, zero_add]

/-- The blocks of a point, as parts of the factors. -/
theorem left_at (c : Dev nD) (t u : Fin cfg0.N) (s : Fin 11) (hu : u.val = 11 * (t.val / 11) + s.val) (l : Fin 512)
    (hl : s.val * 512 + l.val < 5632) (y : S1024x512.Idx) :
    iblk m c 0 u (ValueIdx.ix2 (y 0) l)
      = m (c.tc.loc main_arg0) (ValueIdx.ix2 ((win0_2.blk t).view.emb y 0) ⟨s.val * 512 + l.val, hl⟩) := by
  blk_simp [iblk]
  refine (congrFun (V_main_arg0 m c) _).trans (congrArg (m (c.tc.loc main_arg0)) ?_)
  have := s.isLt
  blk_ext [at0]
  · show (u.val / 22) * 1024 + (y 0).val = ((win0_2.blk t).view.emb y 0).val
    blk_simp [at2]
    omega
  · show (u.val % 11) * 512 + l.val = s.val * 512 + l.val
    omega

theorem right_at (c : Dev nD) (t u : Fin cfg0.N) (s : Fin 11) (hu : u.val = 11 * (t.val / 11) + s.val) (l : Fin 512)
    (hl : s.val * 512 + l.val < 5632) (y : S1024x512.Idx) :
    iblk m c 1 u (ValueIdx.ix2 (y 1) l)
      = m (c.tc.loc main_arg1) (ValueIdx.ix2 ((win0_2.blk t).view.emb y 1) ⟨s.val * 512 + l.val, hl⟩) := by
  blk_simp [iblk]
  refine (congrFun (V_main_arg1 m c) _).trans (congrArg (m (c.tc.loc main_arg1)) ?_)
  have := s.isLt
  blk_ext [at1]
  · show (u.val / 11 % 2) * 512 + (y 1).val = ((win0_2.blk t).view.emb y 1).val
    blk_simp [at2]
    omega
  · show (u.val % 11) * 512 + l.val = s.val * 512 + l.val
    omega

/-- The output array after the run. -/
theorem arr2 (c : Dev nD) : (dats m 0 c).arrAt 2 cfg0.N = facing (m (c.tc.loc main_arg0)) (m (c.tc.loc main_arg1)) := by
  refine (dats m 0 c).arrAt_eq_of_covers 2 _ (by decide +kernel) fun t hf y => ?_
  blk_simp
  have h : t.val % 11 = 10 := (flush0_2 t).mp hf
  rw [after0_2, out_last m c t h, sum_last m c t h]
  unfold part facing
  refine Fin.sum_mul_add_congr (n := 512) fun s l hl => ?_
  rw [left_at m c t _ s rfl l hl, right_at m c t _ s rfl l hl]

end Cert.DxUpIdeal.Blocks

namespace Cert.DxUpClaims

open Idealize.ShloMosaic Idealize.ShloMosaic.TcCoe Idealize.SL.Sem Cert.Product

theorem frame_kernel : Cert.quiescent_DxUp := fun m ρ _ => Cert.DxUp.Gen.frame m ρ

theorem frame_ideal : Cert.quiescent_DxUpIdeal := fun m ρ _ => Cert.DxUpIdeal.Gen.frame m ρ

theorem frame_ref : Cert.quiescent_DxUpRefIdeal := fun m ρ _ =>
  (θ_run Cert.DxUpRefIdeal.defs _ _).mono
    (fun r h => ⟨fun c => (h c).2, sem_eq_zero_of_no_sems (by decide) r.2⟩)
    (Cert.DxUpRefIdeal.Value.run (F := Ideal) m ρ)

/-- The reference's product is the same sum. -/
theorem ref_eq (a : FVec Ideal Cert.DxUpRefIdeal.S4096x5632 .bf16) (b : FVec Ideal Cert.DxUpRefIdeal.S1024x5632 .bf16) :
    Host.dotGeneral Cert.DxUpRefIdeal.dot_S4096x5632_S5632x1024_S4096x1024_1_0_0_1_n_n none
      (extf .f32 a Cert.DxUpRefIdeal.Gen.bitsLt_bf16_f32)
      (transpose Cert.DxUpRefIdeal.S5632x1024 [1, 0] (extf .f32 b Cert.DxUpRefIdeal.Gen.bitsLt_bf16_f32) Cert.DxUpRefIdeal.Gen.transposes_S1024x5632_S5632x1024_1_0) = facing a b := by
  funext i
  unfold facing
  pointwise!

theorem algebraic : Cert.algebraic_DxUpIdeal_DxUpRefIdeal := by
  intro m ρ m' ρ' _ hagree
  refine ⟨fun c => facing (m (c.tc.loc Cert.DxUpIdeal.main_arg0)) (m (c.tc.loc Cert.DxUpIdeal.main_arg1)), ?_, ?_⟩
  · exact (θ_run Cert.DxUpIdeal.defs _ _).mono (fun _ h c => ⟨(h c).1.trans (Cert.DxUpIdeal.Blocks.arr2 m c), (h c).2⟩)
      (Cert.DxUpIdeal.Value.run_blocks m ρ)
  · refine (θ_run Cert.DxUpRefIdeal.defs _ _).mono (fun _ h c => ?_) (Cert.DxUpRefIdeal.Value.run (F := Ideal) m' ρ')
    obtain ⟨e0, e1⟩ := hagree c
    refine ⟨(h c).1.trans ?_, (h c).2⟩
    rw [e0, e1]
    exact ref_eq _ _

end Cert.DxUpClaims

end
-- ==== Proof.DwSquareValue.lean ====
/-
  The gradient of a square weight: at the ideal instance the output array after the run is the product of the first
  argument's transpose and of the second, read from the blocks the points write back.
-/
module

public import proofs.«01_k».proof.Proof.MatMath
public import proofs.«01_k».proof.Defs
public import proofs.«01_k».proof.Proof.Gen.DwSquare.Frame
public import proofs.«01_k».proof.Proof.Gen.DwSquareIdeal.Value
public import proofs.«01_k».proof.Proof.Gen.DwSquareRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.DwSquareIdeal.Blocks

open Idealize.ShloMosaic Idealize.ShloMosaic.TcCoe
open Idealize.SL Idealize.SL.Sem
open Cert.DwSquareIdeal Cert.DwSquareIdeal.Gen Cert.Product

variable (m : (ℓ : Loc nD τ sig) → Buf (Elt Ideal) ℓ)

/-- The blocks, in the order of the points. -/
theorem at0 : ∀ t : Fin cfg0.N, win0_0.index t = ![t.val % 4, 0] := by decide +kernel
theorem at1 : ∀ t : Fin cfg0.N, win0_1.index t = ![t.val % 4, t.val / 4] := by decide +kernel
theorem at2 : ∀ t : Fin cfg0.N, win0_2.index t = ![0, t.val / 4] := by decide +kernel

/-- The part of the product that two blocks make. -/
def part (x0 : Vec Ideal S1024x1024 .bf16) (x1 : Vec Ideal S1024x512 .bf16) (y : S1024x512.Idx) : EReal :=
  ∑ l : Fin 1024, x0 (ValueIdx.ix2 l (y 0)) * x1 (ValueIdx.ix2 l (y 1))

/-- A point adds its part to what the point before left. -/
theorem pay_eq (acc : Vec Ideal S1024x512 .f32) (x0 : Vec Ideal S1024x1024 .bf16) (x1 : Vec Ideal S1024x512 .bf16)
    (y : S1024x512.Idx) : k0_pay2 acc x0 x1 y = acc y + part x0 x1 y := by
  pointwise [k0_pay2]
  rfl

theorem zero1 (y : S1024x512.Idx) : k0_pay1 (F := Ideal) y = 0 := by pointwise [k0_pay1]

/-- At the last point of a block the output is the sum. -/
theorem out_last (c : Dev nD) (t : Fin cfg0.N) (h1 : t.val % 4 = 3) :
    (outsAt0 m c t.val t.isLt).1 = (outsAt0 m c t.val t.isLt).2 := by
  rw [outsAt0_C m c t (by omega) h1]; frame_out

/-- The sum after the last point of a block. -/
theorem sum_last (c : Dev nD) (t : Fin cfg0.N) (h : t.val % 4 = 4 - 1) (y : S1024x512.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => part (iblk m c 0 t) (iblk m c 1 t))
    (fun t h y => by rw [outsAt0_A m c t h (by omega)]; frame_out; rw [pay_eq, zero1])
    (fun t h y => by
      by_cases h1 : t.val % 4 = 3
      · rw [outsAt0_C m c t h h1]; frame_out; rw [pay_eq]; exact congrArg (· + _) (congrFun (Memref.IsWhole.read_unread _ _) y)
      · rw [outsAt0_B m c t h h1]; frame_out; rw [pay_eq]; exact congrArg (· + _) (congrFun (Memref.IsWhole.read_unread _ _) y))
    t h y, zero_add]

/-- The blocks of a point, as parts of the factors. -/
theorem left_at (c : Dev nD) (t u : Fin cfg0.N) (s : Fin 4) (hu : u.val = 4 * (t.val / 4) + s.val) (l : Fin 1024)
    (hl : s.val * 1024 + l.val < 4096) (y : S1024x512.Idx) :
    iblk m c 0 u (ValueIdx.ix2 l (y 0))
      = m (c.tc.loc main_arg0) (ValueIdx.ix2 ⟨s.val * 1024 + l.val, hl⟩ ((win0_2.blk t).view.emb y 0)) := by
  blk_simp [iblk]
  refine (congrFun (V_main_arg0 m c) _).trans (congrArg (m (c.tc.loc main_arg0)) ?_)
  have := s.isLt
  blk_ext [at0]
  · show (u.val % 4) * 1024 + l.val = s.val * 1024 + l.val
    omega
  · show (y 0).val = ((win0_2.blk t).view.emb y 0).val
    blk_simp [at2]

theorem right_at (c : Dev nD) (t u : Fin cfg0.N) (s : Fin 4) (hu : u.val = 4 * (t.val / 4) + s.val) (l : Fin 1024)
    (hl : s.val * 1024 + l.val < 4096) (y : S1024x512.Idx) :
    iblk m c 1 u (ValueIdx.ix2 l (y 1))
      = m (c.tc.loc main_arg1) (ValueIdx.ix2 ⟨s.val * 1024 + l.val, hl⟩ ((win0_2.blk t).view.emb y 1)) := by
  blk_simp [iblk]
  refine (congrFun (V_main_arg1 m c) _).trans (congrArg (m (c.tc.loc main_arg1)) ?_)
  have := s.isLt
  blk_ext [at1]
  · show (u.val % 4) * 1024 + l.val = s.val * 1024 + l.val
    omega
  · show (u.val / 4) * 512 + (y 1).val = ((win0_2.blk t).view.emb y 1).val
    blk_simp [at2]
    omega

/-- The output array after the run. -/
theorem arr2 (c : Dev nD) : (dats m 0 c).arrAt 2 cfg0.N = crossed (m (c.tc.loc main_arg0)) (m (c.tc.loc main_arg1)) := by
  refine (dats m 0 c).arrAt_eq_of_covers 2 _ (by decide +kernel) fun t hf y => ?_
  blk_simp
  have h : t.val % 4 = 3 := (flush0_2 t).mp hf
  rw [after0_2, out_last m c t h, sum_last m c t h]
  unfold part crossed
  refine Fin.sum_mul_add_congr (n := 1024) fun s l hl => ?_
  rw [left_at m c t _ s rfl l hl, right_at m c t _ s rfl l hl]

end Cert.DwSquareIdeal.Blocks

namespace Cert.DwSquareClaims

open Idealize.ShloMosaic Idealize.ShloMosaic.TcCoe Idealize.SL.Sem Cert.Product

theorem frame_kernel : Cert.quiescent_DwSquare := fun m ρ _ => Cert.DwSquare.Gen.frame m ρ

theorem frame_ideal : Cert.quiescent_DwSquareIdeal := fun m ρ _ => Cert.DwSquareIdeal.Gen.frame m ρ

theorem frame_ref : Cert.quiescent_DwSquareRefIdeal := fun m ρ _ =>
  (θ_run Cert.DwSquareRefIdeal.defs _ _).mono
    (fun r h => ⟨fun c => (h c).2, sem_eq_zero_of_no_sems (by decide) r.2⟩)
    (Cert.DwSquareRefIdeal.Value.run (F := Ideal) m ρ)

/-- The reference's product is the same sum. -/
theorem ref_eq (a : FVec Ideal Cert.DwSquareRefIdeal.S4096x1024 .bf16) (b : FVec Ideal Cert.DwSquareRefIdeal.S4096x1024 .bf16) :
    Host.dotGeneral Cert.DwSquareRefIdeal.dot_S1024x4096_S4096x1024_S1024x1024_1_0_0_1_n_n none
      (transpose Cert.DwSquareRefIdeal.S1024x4096 [1, 0] (extf .f32 a Cert.DwSquareRefIdeal.Gen.bitsLt_bf16_f32) Cert.DwSquareRefIdeal.Gen.transposes_S4096x1024_S1024x4096_1_0)
      (extf .f32 b Cert.DwSquareRefIdeal.Gen.bitsLt_bf16_f32) = crossed a b := by
  funext i
  unfold crossed
  pointwise!

theorem algebraic : Cert.algebraic_DwSquareIdeal_DwSquareRefIdeal := by
  intro m ρ m' ρ' _ hagree
  refine ⟨fun c => crossed (m (c.tc.loc Cert.DwSquareIdeal.main_arg0)) (m (c.tc.loc Cert.DwSquareIdeal.main_arg1)), ?_, ?_⟩
  · exact (θ_run Cert.DwSquareIdeal.defs _ _).mono (fun _ h c => ⟨(h c).1.trans (Cert.DwSquareIdeal.Blocks.arr2 m c), (h c).2⟩)
      (Cert.DwSquareIdeal.Value.run_blocks m ρ)
  · refine (θ_run Cert.DwSquareRefIdeal.defs _ _).mono (fun _ h c => ?_) (Cert.DwSquareRefIdeal.Value.run (F := Ideal) m' ρ')
    obtain ⟨e0, e1⟩ := hagree c
    refine ⟨(h c).1.trans ?_, (h c).2⟩
    rw [e0, e1]
    exact ref_eq _ _

end Cert.DwSquareClaims

end
-- ==== Proof.DwQueryValue.lean ====
/-
  The gradient of the queries' weight: at the ideal instance the output array after the run is the product of the first
  argument's transpose and of the second, read from the blocks the points write back.
-/
module

public import proofs.«01_k».proof.Proof.MatMath
public import proofs.«01_k».proof.Defs
public import proofs.«01_k».proof.Proof.Gen.DwQuery.Frame
public import proofs.«01_k».proof.Proof.Gen.DwQueryIdeal.Value
public import proofs.«01_k».proof.Proof.Gen.DwQueryRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.DwQueryIdeal.Blocks

open Idealize.ShloMosaic Idealize.ShloMosaic.TcCoe
open Idealize.SL Idealize.SL.Sem
open Cert.DwQueryIdeal Cert.DwQueryIdeal.Gen Cert.Product

variable (m : (ℓ : Loc nD τ sig) → Buf (Elt Ideal) ℓ)

/-- The blocks, in the order of the points. -/
theorem at0 : ∀ t : Fin cfg0.N, win0_0.index t = ![t.val % 4, 0] := by decide +kernel
theorem at1 : ∀ t : Fin cfg0.N, win0_1.index t = ![t.val % 4, t.val / 4] := by decide +kernel
theorem at2 : ∀ t : Fin cfg0.N, win0_2.index t = ![0, t.val / 4] := by decide +kernel

/-- The part of the product that two blocks make. -/
def part (x0 : Vec Ideal S1024x1024 .bf16) (x1 : Vec Ideal S1024x512 .bf16) (y : S1024x512.Idx) : EReal :=
  ∑ l : Fin 1024, x0 (ValueIdx.ix2 l (y 0)) * x1 (ValueIdx.ix2 l (y 1))

/-- A point adds its part to what the point before left. -/
theorem pay_eq (acc : Vec Ideal S1024x512 .f32) (x0 : Vec Ideal S1024x1024 .bf16) (x1 : Vec Ideal S1024x512 .bf16)
    (y : S1024x512.Idx) : k0_pay2 acc x0 x1 y = acc y + part x0 x1 y := by
  pointwise [k0_pay2]
  rfl

theorem zero1 (y : S1024x512.Idx) : k0_pay1 (F := Ideal) y = 0 := by pointwise [k0_pay1]

/-- At the last point of a block the output is the sum. -/
theorem out_last (c : Dev nD) (t : Fin cfg0.N) (h1 : t.val % 4 = 3) :
    (outsAt0 m c t.val t.isLt).1 = (outsAt0 m c t.val t.isLt).2 := by
  rw [outsAt0_C m c t (by omega) h1]; frame_out

/-- The sum after the last point of a block. -/
theorem sum_last (c : Dev nD) (t : Fin cfg0.N) (h : t.val % 4 = 4 - 1) (y : S1024x512.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => part (iblk m c 0 t) (iblk m c 1 t))
    (fun t h y => by rw [outsAt0_A m c t h (by omega)]; frame_out; rw [pay_eq, zero1])
    (fun t h y => by
      by_cases h1 : t.val % 4 = 3
      · rw [outsAt0_C m c t h h1]; frame_out; rw [pay_eq]; exact congrArg (· + _) (congrFun (Memref.IsWhole.read_unread _ _) y)
      · rw [outsAt0_B m c t h h1]; frame_out; rw [pay_eq]; exact congrArg (· + _) (congrFun (Memref.IsWhole.read_unread _ _) y))
    t h y, zero_add]

/-- The blocks of a point, as parts of the factors. -/
theorem left_at (c : Dev nD) (t u : Fin cfg0.N) (s : Fin 4) (hu : u.val = 4 * (t.val / 4) + s.val) (l : Fin 1024)
    (hl : s.val * 1024 + l.val < 4096) (y : S1024x512.Idx) :
    iblk m c 0 u (ValueIdx.ix2 l (y 0))
      = m (c.tc.loc main_arg0) (ValueIdx.ix2 ⟨s.val * 1024 + l.val, hl⟩ ((win0_2.blk t).view.emb y 0)) := by
  blk_simp [iblk]
  refine (congrFun (V_main_arg0 m c) _).trans (congrArg (m (c.tc.loc main_arg0)) ?_)
  have := s.isLt
  blk_ext [at0]
  · show (u.val % 4) * 1024 + l.val = s.val * 1024 + l.val
    omega
  · show (y 0).val = ((win0_2.blk t).view.emb y 0).val
    blk_simp [at2]

theorem right_at (c : Dev nD) (t u : Fin cfg0.N) (s : Fin 4) (hu : u.val = 4 * (t.val / 4) + s.val) (l : Fin 1024)
    (hl : s.val * 1024 + l.val < 4096) (y : S1024x512.Idx) :
    iblk m c 1 u (ValueIdx.ix2 l (y 1))
      = m (c.tc.loc main_arg1) (ValueIdx.ix2 ⟨s.val * 1024 + l.val, hl⟩ ((win0_2.blk t).view.emb y 1)) := by
  blk_simp [iblk]
  refine (congrFun (V_main_arg1 m c) _).trans (congrArg (m (c.tc.loc main_arg1)) ?_)
  have := s.isLt
  blk_ext [at1]
  · show (u.val % 4) * 1024 + l.val = s.val * 1024 + l.val
    omega
  · show (u.val / 4) * 512 + (y 1).val = ((win0_2.blk t).view.emb y 1).val
    blk_simp [at2]
    omega

/-- The output array after the run. -/
theorem arr2 (c : Dev nD) : (dats m 0 c).arrAt 2 cfg0.N = crossed (m (c.tc.loc main_arg0)) (m (c.tc.loc main_arg1)) := by
  refine (dats m 0 c).arrAt_eq_of_covers 2 _ (by decide +kernel) fun t hf y => ?_
  blk_simp
  have h : t.val % 4 = 3 := (flush0_2 t).mp hf
  rw [after0_2, out_last m c t h, sum_last m c t h]
  unfold part crossed
  refine Fin.sum_mul_add_congr (n := 1024) fun s l hl => ?_
  rw [left_at m c t _ s rfl l hl, right_at m c t _ s rfl l hl]

end Cert.DwQueryIdeal.Blocks

namespace Cert.DwQueryClaims

open Idealize.ShloMosaic Idealize.ShloMosaic.TcCoe Idealize.SL.Sem Cert.Product

theorem frame_kernel : Cert.quiescent_DwQuery := fun m ρ _ => Cert.DwQuery.Gen.frame m ρ

theorem frame_ideal : Cert.quiescent_DwQueryIdeal := fun m ρ _ => Cert.DwQueryIdeal.Gen.frame m ρ

theorem frame_ref : Cert.quiescent_DwQueryRefIdeal := fun m ρ _ =>
  (θ_run Cert.DwQueryRefIdeal.defs _ _).mono
    (fun r h => ⟨fun c => (h c).2, sem_eq_zero_of_no_sems (by decide) r.2⟩)
    (Cert.DwQueryRefIdeal.Value.run (F := Ideal) m ρ)

/-- The reference's product is the same sum. -/
theorem ref_eq (a : FVec Ideal Cert.DwQueryRefIdeal.S4096x1024 .bf16) (b : FVec Ideal Cert.DwQueryRefIdeal.S4096x3072 .bf16) :
    Host.dotGeneral Cert.DwQueryRefIdeal.dot_S1024x4096_S4096x3072_S1024x3072_1_0_0_1_n_n none
      (transpose Cert.DwQueryRefIdeal.S1024x4096 [1, 0] (extf .f32 a Cert.DwQueryRefIdeal.Gen.bitsLt_bf16_f32) Cert.DwQueryRefIdeal.Gen.transposes_S4096x1024_S1024x4096_1_0)
      (extf .f32 b Cert.DwQueryRefIdeal.Gen.bitsLt_bf16_f32) = crossed a b := by
  funext i
  unfold crossed
  pointwise!

theorem algebraic : Cert.algebraic_DwQueryIdeal_DwQueryRefIdeal := by
  intro m ρ m' ρ' _ hagree
  refine ⟨fun c => crossed (m (c.tc.loc Cert.DwQueryIdeal.main_arg0)) (m (c.tc.loc Cert.DwQueryIdeal.main_arg1)), ?_, ?_⟩
  · exact (θ_run Cert.DwQueryIdeal.defs _ _).mono (fun _ h c => ⟨(h c).1.trans (Cert.DwQueryIdeal.Blocks.arr2 m c), (h c).2⟩)
      (Cert.DwQueryIdeal.Value.run_blocks m ρ)
  · refine (θ_run Cert.DwQueryRefIdeal.defs _ _).mono (fun _ h c => ?_) (Cert.DwQueryRefIdeal.Value.run (F := Ideal) m' ρ')
    obtain ⟨e0, e1⟩ := hagree c
    refine ⟨(h c).1.trans ?_, (h c).2⟩
    rw [e0, e1]
    exact ref_eq _ _

end Cert.DwQueryClaims

end
-- ==== Proof.DwKvValue.lean ====
/-
  The gradient of the weight of the keys and values: at the ideal instance the output array after the run is the product
  of the first argument's transpose and of the second, read from the blocks the points write back.
-/
module

public import proofs.«01_k».proof.Proof.MatMath
public import proofs.«01_k».proof.Defs
public import proofs.«01_k».proof.Proof.Gen.DwKv.Frame
public import proofs.«01_k».proof.Proof.Gen.DwKvIdeal.Value
public import proofs.«01_k».proof.Proof.Gen.DwKvRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.DwKvIdeal.Blocks

open Idealize.ShloMosaic Idealize.ShloMosaic.TcCoe
open Idealize.SL Idealize.SL.Sem
open Cert.DwKvIdeal Cert.DwKvIdeal.Gen Cert.Product

variable (m : (ℓ : Loc nD τ sig) → Buf (Elt Ideal) ℓ)

/-- The blocks, in the order of the points. -/
theorem at0 : ∀ t : Fin cfg0.N, win0_0.index t = ![t.val % 4, 0] := by decide +kernel
theorem at1 : ∀ t : Fin cfg0.N, win0_1.index t = ![t.val % 4, t.val / 4] := by decide +kernel
theorem at2 : ∀ t : Fin cfg0.N, win0_2.index t = ![0, t.val / 4] := by decide +kernel

/-- The part of the product that two blocks make. -/
def part (x0 : Vec Ideal S1024x1024 .bf16) (x1 : Vec Ideal S1024x512 .bf16) (y : S1024x512.Idx) : EReal :=
  ∑ l : Fin 1024, x0 (ValueIdx.ix2 l (y 0)) * x1 (ValueIdx.ix2 l (y 1))

/-- A point adds its part to what the point before left. -/
theorem pay_eq (acc : Vec Ideal S1024x512 .f32) (x0 : Vec Ideal S1024x1024 .bf16) (x1 : Vec Ideal S1024x512 .bf16)
    (y : S1024x512.Idx) : k0_pay2 acc x0 x1 y = acc y + part x0 x1 y := by
  pointwise [k0_pay2]
  rfl

theorem zero1 (y : S1024x512.Idx) : k0_pay1 (F := Ideal) y = 0 := by pointwise [k0_pay1]

/-- At the last point of a block the output is the sum. -/
theorem out_last (c : Dev nD) (t : Fin cfg0.N) (h1 : t.val % 4 = 3) :
    (outsAt0 m c t.val t.isLt).1 = (outsAt0 m c t.val t.isLt).2 := by
  rw [outsAt0_C m c t (by omega) h1]; frame_out

/-- The sum after the last point of a block. -/
theorem sum_last (c : Dev nD) (t : Fin cfg0.N) (h : t.val % 4 = 4 - 1) (y : S1024x512.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => part (iblk m c 0 t) (iblk m c 1 t))
    (fun t h y => by rw [outsAt0_A m c t h (by omega)]; frame_out; rw [pay_eq, zero1])
    (fun t h y => by
      by_cases h1 : t.val % 4 = 3
      · rw [outsAt0_C m c t h h1]; frame_out; rw [pay_eq]; exact congrArg (· + _) (congrFun (Memref.IsWhole.read_unread _ _) y)
      · rw [outsAt0_B m c t h h1]; frame_out; rw [pay_eq]; exact congrArg (· + _) (congrFun (Memref.IsWhole.read_unread _ _) y))
    t h y, zero_add]

/-- The blocks of a point, as parts of the factors. -/
theorem left_at (c : Dev nD) (t u : Fin cfg0.N) (s : Fin 4) (hu : u.val = 4 * (t.val / 4) + s.val) (l : Fin 1024)
    (hl : s.val * 1024 + l.val < 4096) (y : S1024x512.Idx) :
    iblk m c 0 u (ValueIdx.ix2 l (y 0))
      = m (c.tc.loc main_arg0) (ValueIdx.ix2 ⟨s.val * 1024 + l.val, hl⟩ ((win0_2.blk t).view.emb y 0)) := by
  blk_simp [iblk]
  refine (congrFun (V_main_arg0 m c) _).trans (congrArg (m (c.tc.loc main_arg0)) ?_)
  have := s.isLt
  blk_ext [at0]
  · show (u.val % 4) * 1024 + l.val = s.val * 1024 + l.val
    omega
  · show (y 0).val = ((win0_2.blk t).view.emb y 0).val
    blk_simp [at2]

theorem right_at (c : Dev nD) (t u : Fin cfg0.N) (s : Fin 4) (hu : u.val = 4 * (t.val / 4) + s.val) (l : Fin 1024)
    (hl : s.val * 1024 + l.val < 4096) (y : S1024x512.Idx) :
    iblk m c 1 u (ValueIdx.ix2 l (y 1))
      = m (c.tc.loc main_arg1) (ValueIdx.ix2 ⟨s.val * 1024 + l.val, hl⟩ ((win0_2.blk t).view.emb y 1)) := by
  blk_simp [iblk]
  refine (congrFun (V_main_arg1 m c) _).trans (congrArg (m (c.tc.loc main_arg1)) ?_)
  have := s.isLt
  blk_ext [at1]
  · show (u.val % 4) * 1024 + l.val = s.val * 1024 + l.val
    omega
  · show (u.val / 4) * 512 + (y 1).val = ((win0_2.blk t).view.emb y 1).val
    blk_simp [at2]
    omega

/-- The output array after the run. -/
theorem arr2 (c : Dev nD) : (dats m 0 c).arrAt 2 cfg0.N = crossed (m (c.tc.loc main_arg0)) (m (c.tc.loc main_arg1)) := by
  refine (dats m 0 c).arrAt_eq_of_covers 2 _ (by decide +kernel) fun t hf y => ?_
  blk_simp
  have h : t.val % 4 = 3 := (flush0_2 t).mp hf
  rw [after0_2, out_last m c t h, sum_last m c t h]
  unfold part crossed
  refine Fin.sum_mul_add_congr (n := 1024) fun s l hl => ?_
  rw [left_at m c t _ s rfl l hl, right_at m c t _ s rfl l hl]

end Cert.DwKvIdeal.Blocks

namespace Cert.DwKvClaims

open Idealize.ShloMosaic Idealize.ShloMosaic.TcCoe Idealize.SL.Sem Cert.Product

theorem frame_kernel : Cert.quiescent_DwKv := fun m ρ _ => Cert.DwKv.Gen.frame m ρ

theorem frame_ideal : Cert.quiescent_DwKvIdeal := fun m ρ _ => Cert.DwKvIdeal.Gen.frame m ρ

theorem frame_ref : Cert.quiescent_DwKvRefIdeal := fun m ρ _ =>
  (θ_run Cert.DwKvRefIdeal.defs _ _).mono
    (fun r h => ⟨fun c => (h c).2, sem_eq_zero_of_no_sems (by decide) r.2⟩)
    (Cert.DwKvRefIdeal.Value.run (F := Ideal) m ρ)

/-- The reference's product is the same sum. -/
theorem ref_eq (a : FVec Ideal Cert.DwKvRefIdeal.S4096x1024 .bf16) (b : FVec Ideal Cert.DwKvRefIdeal.S4096x6144 .bf16) :
    Host.dotGeneral Cert.DwKvRefIdeal.dot_S1024x4096_S4096x6144_S1024x6144_1_0_0_1_n_n none
      (transpose Cert.DwKvRefIdeal.S1024x4096 [1, 0] (extf .f32 a Cert.DwKvRefIdeal.Gen.bitsLt_bf16_f32) Cert.DwKvRefIdeal.Gen.transposes_S4096x1024_S1024x4096_1_0)
      (extf .f32 b Cert.DwKvRefIdeal.Gen.bitsLt_bf16_f32) = crossed a b := by
  funext i
  unfold crossed
  pointwise!

theorem algebraic : Cert.algebraic_DwKvIdeal_DwKvRefIdeal := by
  intro m ρ m' ρ' _ hagree
  refine ⟨fun c => crossed (m (c.tc.loc Cert.DwKvIdeal.main_arg0)) (m (c.tc.loc Cert.DwKvIdeal.main_arg1)), ?_, ?_⟩
  · exact (θ_run Cert.DwKvIdeal.defs _ _).mono (fun _ h c => ⟨(h c).1.trans (Cert.DwKvIdeal.Blocks.arr2 m c), (h c).2⟩)
      (Cert.DwKvIdeal.Value.run_blocks m ρ)
  · refine (θ_run Cert.DwKvRefIdeal.defs _ _).mono (fun _ h c => ?_) (Cert.DwKvRefIdeal.Value.run (F := Ideal) m' ρ')
    obtain ⟨e0, e1⟩ := hagree c
    refine ⟨(h c).1.trans ?_, (h c).2⟩
    rw [e0, e1]
    exact ref_eq _ _

end Cert.DwKvClaims

end
-- ==== Proof.DwUpValue.lean ====
/-
  The gradient of the weight that enters the feed-forward: at the ideal instance the output array after the run is the
  product of the first argument's transpose and of the second, read from the blocks the points write back.
-/
module

public import proofs.«01_k».proof.Proof.MatMath
public import proofs.«01_k».proof.Defs
public import proofs.«01_k».proof.Proof.Gen.DwUp.Frame
public import proofs.«01_k».proof.Proof.Gen.DwUpIdeal.Value
public import proofs.«01_k».proof.Proof.Gen.DwUpRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.DwUpIdeal.Blocks

open Idealize.ShloMosaic Idealize.ShloMosaic.TcCoe
open Idealize.SL Idealize.SL.Sem
open Cert.DwUpIdeal Cert.DwUpIdeal.Gen Cert.Product

variable (m : (ℓ : Loc nD τ sig) → Buf (Elt Ideal) ℓ)

/-- The blocks, in the order of the points. -/
theorem at0 : ∀ t : Fin cfg0.N, win0_0.index t = ![t.val % 4, 0] := by decide +kernel
theorem at1 : ∀ t : Fin cfg0.N, win0_1.index t = ![t.val % 4, t.val / 4] := by decide +kernel
theorem at2 : ∀ t : Fin cfg0.N, win0_2.index t = ![0, t.val / 4] := by decide +kernel

/-- The part of the product that two blocks make. -/
def part (x0 : Vec Ideal S1024x1024 .bf16) (x1 : Vec Ideal S1024x512 .bf16) (y : S1024x512.Idx) : EReal :=
  ∑ l : Fin 1024, x0 (ValueIdx.ix2 l (y 0)) * x1 (ValueIdx.ix2 l (y 1))

/-- A point adds its part to what the point before left. -/
theorem pay_eq (acc : Vec Ideal S1024x512 .f32) (x0 : Vec Ideal S1024x1024 .bf16) (x1 : Vec Ideal S1024x512 .bf16)
    (y : S1024x512.Idx) : k0_pay2 acc x0 x1 y = acc y + part x0 x1 y := by
  pointwise [k0_pay2]
  rfl

theorem zero1 (y : S1024x512.Idx) : k0_pay1 (F := Ideal) y = 0 := by pointwise [k0_pay1]

/-- At the last point of a block the output is the sum. -/
theorem out_last (c : Dev nD) (t : Fin cfg0.N) (h1 : t.val % 4 = 3) :
    (outsAt0 m c t.val t.isLt).1 = (outsAt0 m c t.val t.isLt).2 := by
  rw [outsAt0_C m c t (by omega) h1]; frame_out

/-- The sum after the last point of a block. -/
theorem sum_last (c : Dev nD) (t : Fin cfg0.N) (h : t.val % 4 = 4 - 1) (y : S1024x512.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => part (iblk m c 0 t) (iblk m c 1 t))
    (fun t h y => by rw [outsAt0_A m c t h (by omega)]; frame_out; rw [pay_eq, zero1])
    (fun t h y => by
      by_cases h1 : t.val % 4 = 3
      · rw [outsAt0_C m c t h h1]; frame_out; rw [pay_eq]; exact congrArg (· + _) (congrFun (Memref.IsWhole.read_unread _ _) y)
      · rw [outsAt0_B m c t h h1]; frame_out; rw [pay_eq]; exact congrArg (· + _) (congrFun (Memref.IsWhole.read_unread _ _) y))
    t h y, zero_add]

/-- The blocks of a point, as parts of the factors. -/
theorem left_at (c : Dev nD) (t u : Fin cfg0.N) (s : Fin 4) (hu : u.val = 4 * (t.val / 4) + s.val) (l : Fin 1024)
    (hl : s.val * 1024 + l.val < 4096) (y : S1024x512.Idx) :
    iblk m c 0 u (ValueIdx.ix2 l (y 0))
      = m (c.tc.loc main_arg0) (ValueIdx.ix2 ⟨s.val * 1024 + l.val, hl⟩ ((win0_2.blk t).view.emb y 0)) := by
  blk_simp [iblk]
  refine (congrFun (V_main_arg0 m c) _).trans (congrArg (m (c.tc.loc main_arg0)) ?_)
  have := s.isLt
  blk_ext [at0]
  · show (u.val % 4) * 1024 + l.val = s.val * 1024 + l.val
    omega
  · show (y 0).val = ((win0_2.blk t).view.emb y 0).val
    blk_simp [at2]

theorem right_at (c : Dev nD) (t u : Fin cfg0.N) (s : Fin 4) (hu : u.val = 4 * (t.val / 4) + s.val) (l : Fin 1024)
    (hl : s.val * 1024 + l.val < 4096) (y : S1024x512.Idx) :
    iblk m c 1 u (ValueIdx.ix2 l (y 1))
      = m (c.tc.loc main_arg1) (ValueIdx.ix2 ⟨s.val * 1024 + l.val, hl⟩ ((win0_2.blk t).view.emb y 1)) := by
  blk_simp [iblk]
  refine (congrFun (V_main_arg1 m c) _).trans (congrArg (m (c.tc.loc main_arg1)) ?_)
  have := s.isLt
  blk_ext [at1]
  · show (u.val % 4) * 1024 + l.val = s.val * 1024 + l.val
    omega
  · show (u.val / 4) * 512 + (y 1).val = ((win0_2.blk t).view.emb y 1).val
    blk_simp [at2]
    omega

/-- The output array after the run. -/
theorem arr2 (c : Dev nD) : (dats m 0 c).arrAt 2 cfg0.N = crossed (m (c.tc.loc main_arg0)) (m (c.tc.loc main_arg1)) := by
  refine (dats m 0 c).arrAt_eq_of_covers 2 _ (by decide +kernel) fun t hf y => ?_
  blk_simp
  have h : t.val % 4 = 3 := (flush0_2 t).mp hf
  rw [after0_2, out_last m c t h, sum_last m c t h]
  unfold part crossed
  refine Fin.sum_mul_add_congr (n := 1024) fun s l hl => ?_
  rw [left_at m c t _ s rfl l hl, right_at m c t _ s rfl l hl]

end Cert.DwUpIdeal.Blocks

namespace Cert.DwUpClaims

open Idealize.ShloMosaic Idealize.ShloMosaic.TcCoe Idealize.SL.Sem Cert.Product

theorem frame_kernel : Cert.quiescent_DwUp := fun m ρ _ => Cert.DwUp.Gen.frame m ρ

theorem frame_ideal : Cert.quiescent_DwUpIdeal := fun m ρ _ => Cert.DwUpIdeal.Gen.frame m ρ

theorem frame_ref : Cert.quiescent_DwUpRefIdeal := fun m ρ _ =>
  (θ_run Cert.DwUpRefIdeal.defs _ _).mono
    (fun r h => ⟨fun c => (h c).2, sem_eq_zero_of_no_sems (by decide) r.2⟩)
    (Cert.DwUpRefIdeal.Value.run (F := Ideal) m ρ)

/-- The reference's product is the same sum. -/
theorem ref_eq (a : FVec Ideal Cert.DwUpRefIdeal.S4096x1024 .bf16) (b : FVec Ideal Cert.DwUpRefIdeal.S4096x5632 .bf16) :
    Host.dotGeneral Cert.DwUpRefIdeal.dot_S1024x4096_S4096x5632_S1024x5632_1_0_0_1_n_n none
      (transpose Cert.DwUpRefIdeal.S1024x4096 [1, 0] (extf .f32 a Cert.DwUpRefIdeal.Gen.bitsLt_bf16_f32) Cert.DwUpRefIdeal.Gen.transposes_S4096x1024_S1024x4096_1_0)
      (extf .f32 b Cert.DwUpRefIdeal.Gen.bitsLt_bf16_f32) = crossed a b := by
  funext i
  unfold crossed
  pointwise!

theorem algebraic : Cert.algebraic_DwUpIdeal_DwUpRefIdeal := by
  intro m ρ m' ρ' _ hagree
  refine ⟨fun c => crossed (m (c.tc.loc Cert.DwUpIdeal.main_arg0)) (m (c.tc.loc Cert.DwUpIdeal.main_arg1)), ?_, ?_⟩
  · exact (θ_run Cert.DwUpIdeal.defs _ _).mono (fun _ h c => ⟨(h c).1.trans (Cert.DwUpIdeal.Blocks.arr2 m c), (h c).2⟩)
      (Cert.DwUpIdeal.Value.run_blocks m ρ)
  · refine (θ_run Cert.DwUpRefIdeal.defs _ _).mono (fun _ h c => ?_) (Cert.DwUpRefIdeal.Value.run (F := Ideal) m' ρ')
    obtain ⟨e0, e1⟩ := hagree c
    refine ⟨(h c).1.trans ?_, (h c).2⟩
    rw [e0, e1]
    exact ref_eq _ _

end Cert.DwUpClaims

end
-- ==== Proof.DwDownValue.lean ====
/-
  The gradient of the weight that leaves the feed-forward: at the ideal instance the output array after the run is the
  product of the first argument's transpose and of the second, read from the blocks the points write back.
-/
module

public import proofs.«01_k».proof.Proof.MatMath
public import proofs.«01_k».proof.Defs
public import proofs.«01_k».proof.Proof.Gen.DwDown.Frame
public import proofs.«01_k».proof.Proof.Gen.DwDownIdeal.Value
public import proofs.«01_k».proof.Proof.Gen.DwDownRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.DwDownIdeal.Blocks

open Idealize.ShloMosaic Idealize.ShloMosaic.TcCoe
open Idealize.SL Idealize.SL.Sem
open Cert.DwDownIdeal Cert.DwDownIdeal.Gen Cert.Product

variable (m : (ℓ : Loc nD τ sig) → Buf (Elt Ideal) ℓ)

/-- The blocks, in the order of the points. -/
theorem at0 : ∀ t : Fin cfg0.N, win0_0.index t = ![t.val % 4, t.val / 8] := by decide +kernel
theorem at1 : ∀ t : Fin cfg0.N, win0_1.index t = ![t.val % 4, t.val / 4 % 2] := by decide +kernel
theorem at2 : ∀ t : Fin cfg0.N, win0_2.index t = ![t.val / 8, t.val / 4 % 2] := by decide +kernel

/-- The part of the product that two blocks make. -/
def part (x0 : Vec Ideal S1024x256 .bf16) (x1 : Vec Ideal S1024x512 .bf16) (y : S256x512.Idx) : EReal :=
  ∑ l : Fin 1024, x0 (ValueIdx.ix2 l (y 0)) * x1 (ValueIdx.ix2 l (y 1))

/-- A point adds its part to what the point before left. -/
theorem pay_eq (acc : Vec Ideal S256x512 .f32) (x0 : Vec Ideal S1024x256 .bf16) (x1 : Vec Ideal S1024x512 .bf16)
    (y : S256x512.Idx) : k0_pay2 acc x0 x1 y = acc y + part x0 x1 y := by
  pointwise [k0_pay2]
  rfl

theorem zero1 (y : S256x512.Idx) : k0_pay1 (F := Ideal) y = 0 := by pointwise [k0_pay1]

/-- At the last point of a block the output is the sum. -/
theorem out_last (c : Dev nD) (t : Fin cfg0.N) (h1 : t.val % 4 = 3) :
    (outsAt0 m c t.val t.isLt).1 = (outsAt0 m c t.val t.isLt).2 := by
  rw [outsAt0_C m c t (by omega) h1]; frame_out

/-- The sum after the last point of a block. -/
theorem sum_last (c : Dev nD) (t : Fin cfg0.N) (h : t.val % 4 = 4 - 1) (y : S256x512.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => part (iblk m c 0 t) (iblk m c 1 t))
    (fun t h y => by rw [outsAt0_A m c t h (by omega)]; frame_out; rw [pay_eq, zero1])
    (fun t h y => by
      by_cases h1 : t.val % 4 = 3
      · rw [outsAt0_C m c t h h1]; frame_out; rw [pay_eq]; exact congrArg (· + _) (congrFun (Memref.IsWhole.read_unread _ _) y)
      · rw [outsAt0_B m c t h h1]; frame_out; rw [pay_eq]; exact congrArg (· + _) (congrFun (Memref.IsWhole.read_unread _ _) y))
    t h y, zero_add]

/-- The blocks of a point, as parts of the factors. -/
theorem left_at (c : Dev nD) (t u : Fin cfg0.N) (s : Fin 4) (hu : u.val = 4 * (t.val / 4) + s.val) (l : Fin 1024)
    (hl : s.val * 1024 + l.val < 4096) (y : S256x512.Idx) :
    iblk m c 0 u (ValueIdx.ix2 l (y 0))
      = m (c.tc.loc main_arg0) (ValueIdx.ix2 ⟨s.val * 1024 + l.val, hl⟩ ((win0_2.blk t).view.emb y 0)) := by
  blk_simp [iblk]
  refine (congrFun (V_main_arg0 m c) _).trans (congrArg (m (c.tc.loc main_arg0)) ?_)
  have := s.isLt
  blk_ext [at0]
  · show (u.val % 4) * 1024 + l.val = s.val * 1024 + l.val
    omega
  · show (u.val / 8) * 256 + (y 0).val = ((win0_2.blk t).view.emb y 0).val
    blk_simp [at2]
    omega

theorem right_at (c : Dev nD) (t u : Fin cfg0.N) (s : Fin 4) (hu : u.val = 4 * (t.val / 4) + s.val) (l : Fin 1024)
    (hl : s.val * 1024 + l.val < 4096) (y : S256x512.Idx) :
    iblk m c 1 u (ValueIdx.ix2 l (y 1))
      = m (c.tc.loc main_arg1) (ValueIdx.ix2 ⟨s.val * 1024 + l.val, hl⟩ ((win0_2.blk t).view.emb y 1)) := by
  blk_simp [iblk]
  refine (congrFun (V_main_arg1 m c) _).trans (congrArg (m (c.tc.loc main_arg1)) ?_)
  have := s.isLt
  blk_ext [at1]
  · show (u.val % 4) * 1024 + l.val = s.val * 1024 + l.val
    omega
  · show (u.val / 4 % 2) * 512 + (y 1).val = ((win0_2.blk t).view.emb y 1).val
    blk_simp [at2]
    omega

/-- The output array after the run. -/
theorem arr2 (c : Dev nD) : (dats m 0 c).arrAt 2 cfg0.N = crossed (m (c.tc.loc main_arg0)) (m (c.tc.loc main_arg1)) := by
  refine (dats m 0 c).arrAt_eq_of_covers 2 _ (by decide +kernel) fun t hf y => ?_
  blk_simp
  have h : t.val % 4 = 3 := (flush0_2 t).mp hf
  rw [after0_2, out_last m c t h, sum_last m c t h]
  unfold part crossed
  refine Fin.sum_mul_add_congr (n := 1024) fun s l hl => ?_
  rw [left_at m c t _ s rfl l hl, right_at m c t _ s rfl l hl]

end Cert.DwDownIdeal.Blocks

namespace Cert.DwDownClaims

open Idealize.ShloMosaic Idealize.ShloMosaic.TcCoe Idealize.SL.Sem Cert.Product

theorem frame_kernel : Cert.quiescent_DwDown := fun m ρ _ => Cert.DwDown.Gen.frame m ρ

theorem frame_ideal : Cert.quiescent_DwDownIdeal := fun m ρ _ => Cert.DwDownIdeal.Gen.frame m ρ

theorem frame_ref : Cert.quiescent_DwDownRefIdeal := fun m ρ _ =>
  (θ_run Cert.DwDownRefIdeal.defs _ _).mono
    (fun r h => ⟨fun c => (h c).2, sem_eq_zero_of_no_sems (by decide) r.2⟩)
    (Cert.DwDownRefIdeal.Value.run (F := Ideal) m ρ)

/-- The reference's product is the same sum. -/
theorem ref_eq (a : FVec Ideal Cert.DwDownRefIdeal.S4096x2816 .bf16) (b : FVec Ideal Cert.DwDownRefIdeal.S4096x1024 .bf16) :
    Host.dotGeneral Cert.DwDownRefIdeal.dot_S2816x4096_S4096x1024_S2816x1024_1_0_0_1_n_n none
      (transpose Cert.DwDownRefIdeal.S2816x4096 [1, 0] (extf .f32 a Cert.DwDownRefIdeal.Gen.bitsLt_bf16_f32) Cert.DwDownRefIdeal.Gen.transposes_S4096x2816_S2816x4096_1_0)
      (extf .f32 b Cert.DwDownRefIdeal.Gen.bitsLt_bf16_f32) = crossed a b := by
  funext i
  unfold crossed
  pointwise!

theorem algebraic : Cert.algebraic_DwDownIdeal_DwDownRefIdeal := by
  intro m ρ m' ρ' _ hagree
  refine ⟨fun c => crossed (m (c.tc.loc Cert.DwDownIdeal.main_arg0)) (m (c.tc.loc Cert.DwDownIdeal.main_arg1)), ?_, ?_⟩
  · exact (θ_run Cert.DwDownIdeal.defs _ _).mono (fun _ h c => ⟨(h c).1.trans (Cert.DwDownIdeal.Blocks.arr2 m c), (h c).2⟩)
      (Cert.DwDownIdeal.Value.run_blocks m ρ)
  · refine (θ_run Cert.DwDownRefIdeal.defs _ _).mono (fun _ h c => ?_) (Cert.DwDownRefIdeal.Value.run (F := Ideal) m' ρ')
    obtain ⟨e0, e1⟩ := hagree c
    refine ⟨(h c).1.trans ?_, (h c).2⟩
    rw [e0, e1]
    exact ref_eq _ _

end Cert.DwDownClaims

end
-- ==== Proof.MixOutValue.lean ====
/-
  The product that leaves a mixer, and its gated sum with the rows that pass it by: at the ideal instance the output
  arrays after the run are these functions of the argument arrays, read from the blocks the points write back.
-/
module

public import proofs.«01_k».proof.Proof.MatMath
public import proofs.«01_k».proof.Defs
public import proofs.«01_k».proof.Proof.Gen.MixOut.Frame
public import proofs.«01_k».proof.Proof.Gen.MixOutIdeal.Value
public import proofs.«01_k».proof.Proof.Gen.MixOutRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.MixOutIdeal.Blocks

open Idealize.ShloMosaic Idealize.ShloMosaic.TcCoe
open Idealize.SL Idealize.SL.Sem
open Cert.MixOutIdeal Cert.MixOutIdeal.Gen Cert.Product

variable (m : (ℓ : Loc nD τ sig) → Buf (Elt Ideal) ℓ)

/-- The blocks, in the order of the points. -/
theorem at0 : ∀ t : Fin cfg0.N, win0_0.index t = ![t.val / 2, 0] := by decide +kernel
theorem at1 : ∀ t : Fin cfg0.N, win0_1.index t = ![0, t.val % 2] := by decide +kernel
theorem at2 : ∀ t : Fin cfg0.N, win0_2.index t = ![0, t.val % 2] := by decide +kernel
theorem at3 : ∀ t : Fin cfg0.N, win0_3.index t = ![t.val / 2, t.val % 2] := by decide +kernel
theorem at5 : ∀ t : Fin cfg0.N, win0_5.index t = ![t.val / 2, t.val % 2] := by decide +kernel
theorem at4 : ∀ t : Fin cfg0.N, win0_4.index t = ![t.val / 2, t.val % 2] := by decide +kernel

/-- The product of two blocks. -/
def part (x0 : Vec Ideal S1024x1024 .bf16) (x1 : Vec Ideal S1024x512 .bf16) (y : S1024x512.Idx) : EReal :=
  ∑ l : Fin 1024, x0 (ValueIdx.ix2 (y 0) l) * x1 (ValueIdx.ix2 l (y 1))

/-- What a point computes from its blocks. -/
theorem pay_eq (x0 : Vec Ideal S1024x1024 .bf16) (x1 : Vec Ideal S1024x512 .bf16) (y : S1024x512.Idx) :
    k0_pay2 x0 x1 y = part x0 x1 y := by
  pointwise [k0_pay2, k0_pay1]
  rfl

theorem pay_eq' (x0 : Vec Ideal S1024x1024 .bf16) (x1 : Vec Ideal S1024x512 .bf16) (x2 : Vec Ideal S1x512 .f32)
    (x3 : Vec Ideal S1024x512 .f32) (y : S1024x512.Idx) :
    k0_pay3 x0 x1 x2 x3 y = x3 y + part x0 x1 y * x2 (ValueIdx.ix2 0 (y 1)) := by
  pointwise [k0_pay3, k0_pay1]
  rfl

/-- The factors' blocks, as parts of the factors. -/
theorem left_at (c : Dev nD) (t : Fin cfg0.N) (l : Fin 1024) (y : S1024x512.Idx) :
    iblk m c 0 t (ValueIdx.ix2 (y 0) l) = m (c.tc.loc main_arg0) (ValueIdx.ix2 ((win0_4.blk t).view.emb y 0) l) := by
  blk_simp [iblk]
  refine (congrFun (V_main_arg0 m c) _).trans (congrArg (m (c.tc.loc main_arg0)) ?_)
  blk_ext [at0]
  show (t.val / 2) * 1024 + (y 0).val = ((win0_4.blk t).view.emb y 0).val
  blk_simp [at4]

theorem right_at (c : Dev nD) (t : Fin cfg0.N) (l : Fin 1024) (y : S1024x512.Idx) :
    iblk m c 1 t (ValueIdx.ix2 l (y 1)) = m (c.tc.loc main_arg1) (ValueIdx.ix2 l ((win0_4.blk t).view.emb y 1)) := by
  blk_simp [iblk]
  refine (congrFun (V_main_arg1 m c) _).trans (congrArg (m (c.tc.loc main_arg1)) ?_)
  blk_ext [at1]
  show (t.val % 2) * 512 + (y 1).val = ((win0_4.blk t).view.emb y 1).val
  blk_simp [at4]

theorem gate_at (c : Dev nD) (t : Fin cfg0.N) (y : S1024x512.Idx) :
    iblk m c 2 t (ValueIdx.ix2 0 (y 1)) = m (c.tc.loc main_arg2) (ValueIdx.ix2 0 ((win0_4.blk t).view.emb y 1)) := by
  blk_simp [iblk]
  refine (congrFun (V_main_arg2 m c) _).trans (congrArg (m (c.tc.loc main_arg2)) ?_)
  blk_ext [at2]
  show (t.val % 2) * 512 + (y 1).val = ((win0_4.blk t).view.emb y 1).val
  blk_simp [at4]

theorem rest_at (c : Dev nD) (t : Fin cfg0.N) (y : S1024x512.Idx) :
    iblk m c 3 t y = m (c.tc.loc main_arg3) ((win0_4.blk t).view.emb y) := by
  blk_simp [iblk]
  refine (congrFun (V_main_arg3 m c) _).trans (congrArg (m (c.tc.loc main_arg3)) ?_)
  blk_ext [at3, at4]

/-- The two outputs are written block by block alike. -/
theorem same_at (t : Fin cfg0.N) (y : S1024x512.Idx) : (win0_5.blk t).view.emb y = (win0_4.blk t).view.emb y := by
  blk_ext [at5, at4]

/-- A block of the product. -/
theorem sums (c : Dev nD) (t : Fin cfg0.N) (y : S1024x512.Idx) :
    part (iblk m c 0 t) (iblk m c 1 t) y
      = times (m (c.tc.loc main_arg0)) (m (c.tc.loc main_arg1)) ((win0_4.blk t).view.emb y) :=
  Finset.sum_congr rfl fun l _ => congrArg₂ (· * ·) (left_at m c t l y) (right_at m c t l y)

/-- The output arrays after the run. -/
theorem arr4 (c : Dev nD) : (dats m 0 c).arrAt 4 cfg0.N = times (m (c.tc.loc main_arg0)) (m (c.tc.loc main_arg1)) := by
  refine (dats m 0 c).arrAt_eq_of_covers 4 _ (by decide +kernel) fun t _ y => ?_
  blk_simp
  rw [after0_4, out0_4, View.canon_unit_zero corner, View.ld_unit_zero corner, View.ld_unit_zero corner]
  exact (pay_eq _ _ y).trans (sums m c t y)

theorem arr5 (c : Dev nD) : (dats m 0 c).arrAt 5 cfg0.N
    = joined (m (c.tc.loc main_arg0)) (m (c.tc.loc main_arg1)) (m (c.tc.loc main_arg2)) (m (c.tc.loc main_arg3)) := by
  refine (dats m 0 c).arrAt_eq_of_covers 5 _ (by decide +kernel) fun t _ y => ?_
  have e := same_at t y
  blk_simp
  rw [after0_5, out0_5, View.canon_unit_zero corner, View.ld_unit_zero corner, View.ld_unit_zero corner,
    View.ld_unit_zero corner, View.ld_unit_zero corner]
  refine (pay_eq' _ _ _ _ y).trans (Eq.trans ?_ (congrArg _ e.symm))
  rw [sums, gate_at, rest_at]
  rfl

end Cert.MixOutIdeal.Blocks

namespace Cert.MixOutClaims

open Idealize.ShloMosaic Idealize.ShloMosaic.TcCoe Idealize.SL.Sem Cert.Product

theorem frame_kernel : Cert.quiescent_MixOut := fun m ρ _ => Cert.MixOut.Gen.frame m ρ

theorem frame_ideal : Cert.quiescent_MixOutIdeal := fun m ρ _ => Cert.MixOutIdeal.Gen.frame m ρ

theorem frame_ref : Cert.quiescent_MixOutRefIdeal := fun m ρ _ =>
  (θ_run Cert.MixOutRefIdeal.defs _ _).mono
    (fun r h => ⟨fun c => (h c).2.2, sem_eq_zero_of_no_sems (by decide) r.2⟩)
    (Cert.MixOutRefIdeal.Value.run (F := Ideal) m ρ)

/-- The reference's results are the same sums. -/
theorem ref_eq (a : FVec Ideal Cert.MixOutRefIdeal.S4096x1024 .bf16) (b : FVec Ideal Cert.MixOutRefIdeal.S1024x1024 .bf16) :
    truncf .bf16 (Host.dotGeneral Cert.MixOutRefIdeal.dot_S4096x1024_S1024x1024_S4096x1024_1_0_0_1_n_n none
      (extf .f32 a Cert.MixOutRefIdeal.Gen.bitsLt_bf16_f32)
      (extf .f32 b Cert.MixOutRefIdeal.Gen.bitsLt_bf16_f32)) Cert.MixOutRefIdeal.Gen.bitsLt_bf16_f32 = times a b := by
  funext i
  unfold times
  pointwise!

theorem ref_eq' (a : FVec Ideal Cert.MixOutRefIdeal.S4096x1024 .bf16) (b : FVec Ideal Cert.MixOutRefIdeal.S1024x1024 .bf16) (g : FVec Ideal Cert.MixOutRefIdeal.S1x1024 .f32)
    (r : FVec Ideal Cert.MixOutRefIdeal.S4096x1024 .f32) :
    addf r (mulf (Host.dotGeneral Cert.MixOutRefIdeal.dot_S4096x1024_S1024x1024_S4096x1024_1_0_0_1_n_n none
      (extf .f32 a Cert.MixOutRefIdeal.Gen.bitsLt_bf16_f32)
      (extf .f32 b Cert.MixOutRefIdeal.Gen.bitsLt_bf16_f32))
      (broadcastInDim Cert.MixOutRefIdeal.S4096x1024 ![0, 1] Cert.MixOutRefIdeal.Gen.bcast_S1x1024_S4096x1024_0_1 g)) = joined a b g r := by
  funext i
  unfold joined times
  pointwise!

theorem algebraic : Cert.algebraic_MixOutIdeal_MixOutRefIdeal := by
  intro m ρ m' ρ' _ hagree
  refine ⟨fun c => times (m (c.tc.loc Cert.MixOutIdeal.main_arg0)) (m (c.tc.loc Cert.MixOutIdeal.main_arg1)),
    fun c => joined (m (c.tc.loc Cert.MixOutIdeal.main_arg0)) (m (c.tc.loc Cert.MixOutIdeal.main_arg1)) (m (c.tc.loc Cert.MixOutIdeal.main_arg2)) (m (c.tc.loc Cert.MixOutIdeal.main_arg3)), ?_, ?_⟩
  · exact (θ_run Cert.MixOutIdeal.defs _ _).mono (fun _ h c => ⟨(h c).1.trans (Cert.MixOutIdeal.Blocks.arr4 m c),
      (h c).2.1.trans (Cert.MixOutIdeal.Blocks.arr5 m c), (h c).2.2⟩) (Cert.MixOutIdeal.Value.run_blocks m ρ)
  · refine (θ_run Cert.MixOutRefIdeal.defs _ _).mono (fun _ h c => ?_) (Cert.MixOutRefIdeal.Value.run (F := Ideal) m' ρ')
    obtain ⟨e0, e1, e2, e3⟩ := hagree c
    refine ⟨(h c).1.trans ?_, (h c).2.1.trans ?_, (h c).2.2⟩
    · rw [e0, e1]
      exact ref_eq _ _
    · rw [e0, e1, e2, e3]
      exact ref_eq' _ _ _ _

end Cert.MixOutClaims

end
-- ==== Proof.MixDownValue.lean ====
/-
  The product that leaves the feed-forward, and its gated sum with the rows that pass it by: at the ideal instance the
  output arrays after the run are these functions of the argument arrays, read from the blocks the points write back.
-/
module

public import proofs.«01_k».proof.Proof.MatMath
public import proofs.«01_k».proof.Defs
public import proofs.«01_k».proof.Proof.Gen.MixDown.Frame
public import proofs.«01_k».proof.Proof.Gen.MixDownIdeal.Value
public import proofs.«01_k».proof.Proof.Gen.MixDownRefIdeal.Run
public import Idealize.ShloMosaic.Lib.Quiescent
public import Idealize.ShloMosaic.Lib.Pipeline.ValueKit.Geometry
public import Idealize.ShloMosaic.Lib.Pipeline.ValueKit.Acc

@[expose] public section

noncomputable section

namespace Cert.MixDownIdeal.Blocks

open Idealize.ShloMosaic Idealize.ShloMosaic.TcCoe
open Idealize.SL Idealize.SL.Sem
open Cert.MixDownIdeal Cert.MixDownIdeal.Gen Cert.Product

variable (m : (ℓ : Loc nD τ sig) → Buf (Elt Ideal) ℓ)

/-- The blocks, in the order of the points. -/
theorem at0 : ∀ t : Fin cfg0.N, win0_0.index t = ![t.val / 22, t.val % 11] := by decide +kernel
theorem at1 : ∀ t : Fin cfg0.N, win0_1.index t = ![t.val % 11, t.val / 11 % 2] := by decide +kernel
theorem at2 : ∀ t : Fin cfg0.N, win0_2.index t = ![0, t.val / 11 % 2] := by decide +kernel
theorem at3 : ∀ t : Fin cfg0.N, win0_3.index t = ![t.val / 22, t.val / 11 % 2] := by decide +kernel
theorem at5 : ∀ t : Fin cfg0.N, win0_5.index t = ![t.val / 22, t.val / 11 % 2] := by decide +kernel
theorem at4 : ∀ t : Fin cfg0.N, win0_4.index t = ![t.val / 22, t.val / 11 % 2] := by decide +kernel

/-- The part of the product that two blocks make. -/
def part (x0 : Vec Ideal S1024x256 .bf16) (x1 : Vec Ideal S256x512 .bf16) (y : S1024x512.Idx) : EReal :=
  ∑ l : Fin 256, x0 (ValueIdx.ix2 (y 0) l) * x1 (ValueIdx.ix2 l (y 1))

/-- A point adds its part to what the point before left. -/
theorem pay_eq (acc : Vec Ideal S1024x512 .f32) (x0 : Vec Ideal S1024x256 .bf16) (x1 : Vec Ideal S256x512 .bf16)
    (y : S1024x512.Idx) : k0_pay2 acc x0 x1 y = acc y + part x0 x1 y := by
  pointwise [k0_pay2]
  rfl

theorem zero1 (y : S1024x512.Idx) : k0_pay1 (F := Ideal) y = 0 := by pointwise [k0_pay1]

theorem first_pay (a : Vec Ideal S1024x512 .f32) (y : S1024x512.Idx) : k0_pay3 a y = a y := by
  pointwise [k0_pay3]

theorem second_pay (a : Vec Ideal S1024x512 .f32) (g : Vec Ideal S1x512 .f32) (r : Vec Ideal S1024x512 .f32) (y : S1024x512.Idx) :
    k0_pay4 a g r y = r y + a y * g (ValueIdx.ix2 0 (y 1)) := by
  pointwise [k0_pay4]
  rfl

/-- At the last point of a block the outputs are made of the sum. -/
theorem first_last (c : Dev nD) (t : Fin cfg0.N) (h1 : t.val % 11 = 10) :
    (outsAt0 m c t.val t.isLt).1 = k0_pay3 (outsAt0 m c t.val t.isLt).2.2 := by
  rw [outsAt0_C m c t (by omega) h1]; frame_out

theorem second_last (c : Dev nD) (t : Fin cfg0.N) (h1 : t.val % 11 = 10) :
    (outsAt0 m c t.val t.isLt).2.1 = k0_pay4 (outsAt0 m c t.val t.isLt).2.2 (iblk m c 2 t) (iblk m c 3 t) := by
  rw [outsAt0_C m c t (by omega) h1]; frame_out

/-- The sum after the last point of a block. -/
theorem sum_last (c : Dev nD) (t : Fin cfg0.N) (h : t.val % 11 = 11 - 1) (y : S1024x512.Idx) :
    (outsAt0 m c t.val t.isLt).2.2 y
      = ∑ s : Fin 11, part (iblk m c 0 ⟨11 * (t.val / 11) + s.val, Pipeline.run_point_lt_of_flush t h s⟩)
          (iblk m c 1 ⟨11 * (t.val / 11) + s.val, Pipeline.run_point_lt_of_flush t h s⟩) y := by
  rw [Pipeline.eq_sum_fin_of_reset_step_apply_of_flush (fun n h => (outsAt0 m c n h).2.2) 11 (fun _ => 0)
    (fun t => part (iblk m c 0 t) (iblk m c 1 t))
    (fun t h y => by rw [outsAt0_A m c t h (by omega)]; frame_out; rw [pay_eq, zero1])
    (fun t h y => by
      by_cases h1 : t.val % 11 = 10
      · rw [outsAt0_C m c t h h1]; frame_out; rw [pay_eq]; exact congrArg (· + _) (congrFun (Memref.IsWhole.read_unread _ _) y)
      · rw [outsAt0_B m c t h h1]; frame_out; rw [pay_eq]; exact congrArg (· + _) (congrFun (Memref.IsWhole.read_unread _ _) y))
    t h y, zero_add]

/-- The blocks of a point, as parts of the factors. -/
theorem left_at (c : Dev nD) (t u : Fin cfg0.N) (s : Fin 11) (hu : u.val = 11 * (t.val / 11) + s.val) (l : Fin 256)
    (hl : s.val * 256 + l.val < 2816) (y : S1024x512.Idx) :
    iblk m c 0 u (ValueIdx.ix2 (y 0) l)
      = m (c.tc.loc main_arg0) (ValueIdx.ix2 ((win0_4.blk t).view.emb y 0) ⟨s.val * 256 + l.val, hl⟩) := by
  blk_simp [iblk]
  refine (congrFun (V_main_arg0 m c) _).trans (congrArg (m (c.tc.loc main_arg0)) ?_)
  have := s.isLt
  blk_ext [at0]
  · show (u.val / 22) * 1024 + (y 0).val = ((win0_4.blk t).view.emb y 0).val
    blk_simp [at4]
    omega
  · show (u.val % 11) * 256 + l.val = s.val * 256 + l.val
    omega

theorem right_at (c : Dev nD) (t u : Fin cfg0.N) (s : Fin 11) (hu : u.val = 11 * (t.val / 11) + s.val) (l : Fin 256)
    (hl : s.val * 256 + l.val < 2816) (y : S1024x512.Idx) :
    iblk m c 1 u (ValueIdx.ix2 l (y 1))
      = m (c.tc.loc main_arg1) (ValueIdx.ix2 ⟨s.val * 256 + l.val, hl⟩ ((win0_4.blk t).view.emb y 1)) := by
  blk_simp [iblk]
  refine (congrFun (V_main_arg1 m c) _).trans (congrArg (m (c.tc.loc main_arg1)) ?_)
  have := s.isLt
  blk_ext [at1]
  · show (u.val % 11) * 256 + l.val = s.val * 256 + l.val
    omega
  · show (u.val / 11 % 2) * 512 + (y 1).val = ((win0_4.blk t).view.emb y 1).val
    blk_simp [at4]
    omega

theorem gate_at (c : Dev nD) (t : Fin cfg0.N) (y : S1024x512.Idx) :
    iblk m c 2 t (ValueIdx.ix2 0 (y 1)) = m (c.tc.loc main_arg2) (ValueIdx.ix2 0 ((win0_4.blk t).view.emb y 1)) := by
  blk_simp [iblk]
  refine (congrFun (V_main_arg2 m c) _).trans (congrArg (m (c.tc.loc main_arg2)) ?_)
  blk_ext [at2]
  show (t.val / 11 % 2) * 512 + (y 1).val = ((win0_4.blk t).view.emb y 1).val
  blk_simp [at4]

theorem rest_at (c : Dev nD) (t : Fin cfg0.N) (y : S1024x512.Idx) :
    iblk m c 3 t y = m (c.tc.loc main_arg3) ((win0_4.blk t).view.emb y) := by
  blk_simp [iblk]
  refine (congrFun (V_main_arg3 m c) _).trans (congrArg (m (c.tc.loc main_arg3)) ?_)
  blk_ext [at3, at4]

/-- The two outputs are written block by block alike. -/
theorem same_at (t : Fin cfg0.N) (y : S1024x512.Idx) : (win0_5.blk t).view.emb y = (win0_4.blk t).view.emb y := by
  blk_ext [at5, at4]

/-- A block of the product. -/
theorem sums (c : Dev nD) (t : Fin cfg0.N) (h : t.val % 11 = 10) (y : S1024x512.Idx) :
    (outsAt0 m c t.val t.isLt).2.2 y
      = times (m (c.tc.loc main_arg0)) (m (c.tc.loc main_arg1)) ((win0_4.blk t).view.emb y) := by
  rw [sum_last m c t h]
  unfold part times
  refine Fin.sum_mul_add_congr (n := 256) fun s l hl => ?_
  rw [left_at m c t _ s rfl l hl, right_at m c t _ s rfl l hl]

/-- The output arrays after the run. -/
theorem arr4 (c : Dev nD) : (dats m 0 c).arrAt 4 cfg0.N = times (m (c.tc.loc main_arg0)) (m (c.tc.loc main_arg1)) := by
  refine (dats m 0 c).arrAt_eq_of_covers 4 _ (by decide +kernel) fun t hf y => ?_
  have h : t.val % 11 = 10 := (flush0_4 t).mp hf
  blk_simp
  rw [after0_4, first_last m c t h, first_pay]
  exact sums m c t h y

theorem arr5 (c : Dev nD) : (dats m 0 c).arrAt 5 cfg0.N
    = joined (m (c.tc.loc main_arg0)) (m (c.tc.loc main_arg1)) (m (c.tc.loc main_arg2)) (m (c.tc.loc main_arg3)) := by
  refine (dats m 0 c).arrAt_eq_of_covers 5 _ (by decide +kernel) fun t hf y => ?_
  have h : t.val % 11 = 10 := (flush0_5 t).mp hf
  have e := same_at t y
  blk_simp
  rw [after0_5, second_last m c t h, second_pay]
  refine Eq.trans ?_ (congrArg _ e.symm)
  rw [sums m c t h, gate_at, rest_at]
  rfl

end Cert.MixDownIdeal.Blocks

namespace Cert.MixDownClaims

open Idealize.ShloMosaic Idealize.ShloMosaic.TcCoe Idealize.SL.Sem Cert.Product

theorem frame_kernel : Cert.quiescent_MixDown := fun m ρ _ => Cert.MixDown.Gen.frame m ρ

theorem frame_ideal : Cert.quiescent_MixDownIdeal := fun m ρ _ => Cert.MixDownIdeal.Gen.frame m ρ

theorem frame_ref : Cert.quiescent_MixDownRefIdeal := fun m ρ _ =>
  (θ_run Cert.MixDownRefIdeal.defs _ _).mono
    (fun r h => ⟨fun c => (h c).2.2, sem_eq_zero_of_no_sems (by decide) r.2⟩)
    (Cert.MixDownRefIdeal.Value.run (F := Ideal) m ρ)

/-- The reference's results are the same sums. -/
theorem ref_eq (a : FVec Ideal Cert.MixDownRefIdeal.S4096x2816 .bf16) (b : FVec Ideal Cert.MixDownRefIdeal.S2816x1024 .bf16) :
    truncf .bf16 (Host.dotGeneral Cert.MixDownRefIdeal.dot_S4096x2816_S2816x1024_S4096x1024_1_0_0_1_n_n none
      (extf .f32 a Cert.MixDownRefIdeal.Gen.bitsLt_bf16_f32)
      (extf .f32 b Cert.MixDownRefIdeal.Gen.bitsLt_bf16_f32)) Cert.MixDownRefIdeal.Gen.bitsLt_bf16_f32 = times a b := by
  funext i
  unfold times
  pointwise!

theorem ref_eq' (a : FVec Ideal Cert.MixDownRefIdeal.S4096x2816 .bf16) (b : FVec Ideal Cert.MixDownRefIdeal.S2816x1024 .bf16) (g : FVec Ideal Cert.MixDownRefIdeal.S1x1024 .f32)
    (r : FVec Ideal Cert.MixDownRefIdeal.S4096x1024 .f32) :
    addf r (mulf (Host.dotGeneral Cert.MixDownRefIdeal.dot_S4096x2816_S2816x1024_S4096x1024_1_0_0_1_n_n none
      (extf .f32 a Cert.MixDownRefIdeal.Gen.bitsLt_bf16_f32)
      (extf .f32 b Cert.MixDownRefIdeal.Gen.bitsLt_bf16_f32))
      (broadcastInDim Cert.MixDownRefIdeal.S4096x1024 ![0, 1] Cert.MixDownRefIdeal.Gen.bcast_S1x1024_S4096x1024_0_1 g)) = joined a b g r := by
  funext i
  unfold joined times
  pointwise!

theorem algebraic : Cert.algebraic_MixDownIdeal_MixDownRefIdeal := by
  intro m ρ m' ρ' _ hagree
  refine ⟨fun c => times (m (c.tc.loc Cert.MixDownIdeal.main_arg0)) (m (c.tc.loc Cert.MixDownIdeal.main_arg1)),
    fun c => joined (m (c.tc.loc Cert.MixDownIdeal.main_arg0)) (m (c.tc.loc Cert.MixDownIdeal.main_arg1)) (m (c.tc.loc Cert.MixDownIdeal.main_arg2)) (m (c.tc.loc Cert.MixDownIdeal.main_arg3)), ?_, ?_⟩
  · exact (θ_run Cert.MixDownIdeal.defs _ _).mono (fun _ h c => ⟨(h c).1.trans (Cert.MixDownIdeal.Blocks.arr4 m c),
      (h c).2.1.trans (Cert.MixDownIdeal.Blocks.arr5 m c), (h c).2.2⟩) (Cert.MixDownIdeal.Value.run_blocks m ρ)
  · refine (θ_run Cert.MixDownRefIdeal.defs _ _).mono (fun _ h c => ?_) (Cert.MixDownRefIdeal.Value.run (F := Ideal) m' ρ')
    obtain ⟨e0, e1, e2, e3⟩ := hagree c
    refine ⟨(h c).1.trans ?_, (h c).2.1.trans ?_, (h c).2.2⟩
    · rw [e0, e1]
      exact ref_eq _ _
    · rw [e0, e1, e2, e3]
      exact ref_eq' _ _ _ _

end Cert.MixDownClaims

end
-- ==== Proof.TotalRun.lean ====
/-
  The sum over the devices: each device takes the first entry of its block, the entries are added up over the eight devices
  by the all-reduce, and every device ends with the same sum. This module runs the program: it terminates, the argument is
  as it was, the result is the left fold of the eight entries, and every counter is back at zero.
-/
module

public import proofs.«01_k».proof.Proof.Gen.TotalIdeal
public import proofs.«01_k».proof.Proof.Gen.TotalIdeal.Launch
public import Idealize.ShloMosaic.Lib.StableHlo.CollectiveRules
public import Idealize.ShloMosaic.Lib.Pipeline.Regions
public import Idealize.ShloMosaic.Lib.Pipeline.Frame
public import Idealize.ShloMosaic.Lib.Pipeline.FrameTail
public import Idealize.ShloMosaic.Lib.Pipeline.CollectiveSegs
public import Idealize.ShloMosaic.Lib.Pipeline.Kit
public import Idealize.ShloMosaic.Lib.Tactic

@[expose] public section

noncomputable section

namespace Cert.Sum

open Cert.TotalIdeal Cert.TotalIdeal.Gen
open Cert.TotalIdeal.Gen.Sites (L lv)
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipelines' component, which nothing here uses, beside the all-reduce's. -/
abbrev Parts : Type := UR sig nD τ × Sites.UC

local notation "𝕄" => MT nD τ sig ℕ (Elt F) ℕ Parts ℕ

abbrev staged : Emb (UR sig nD τ) (MT nD τ sig ℕ (Elt F) ℕ Parts ℕ) := embL
abbrev reduced : Emb Sites.UC (MT nD τ sig ℕ (Elt F) ℕ Parts ℕ) := embR

variable (m : (ℓ : Loc nD τ sig) → Buf (Elt F) ℓ) (ρ : Dev nD → PrngReg)

/-- A device's buffers at launch, and once its entry has been taken. -/
abbrev start (c : Dev nD) : Valuation τ sig (Elt F) := fun b => m ((c : Dev nD), b)
abbrev taken (c : Dev nD) : Valuation τ sig (Elt F) := StableHlo.after hostOps0 (start m c)
/-- The same once the entries are added up. -/
abbrev added (c : Dev nD) : Valuation τ sig (Elt F) := (ar0 (F := F)).after₀ (taken m) c

abbrev tables : (p : Fin 0) → (pcfgs (F := F) p).Adm := fun p => p.elim0
abbrev contents : (p : Fin 0) → (c : Dev nD) → Pipeline.Dat τ (Elt F) ℕ ℕ Parts ℕ (Pipeline.pin (pcfgs (F := F)) tables p) c :=
  fun p => p.elim0

abbrev plain : Variants := Variants.none

/-- The records of the all-reduce's cells, which may be copied; the counters are read back through them. -/
abbrev records : sProp 𝕄 := iprop(∃ κ, (AllReduce.Dat.once (ar0 (F := F)) (taken m)).cellInvs (Sites.E0 reduced) κ)

theorem op_bufs : ∀ op ∈ (hostOps0 : List (HloOp τ sig (Elt F))), op.bufs ⊆ Pipeline.ucRefs τ sig :=
  fun op h => Pipeline.sub_ucRefs op (List.forall_iff_forall_mem.mp hostOps0_sub op h)

theorem op_fresh : ∀ op ∈ (hostOps0 : List (HloOp τ sig (Elt F))), op.fresh = ∅ := fun op h => by
  rcases List.mem_cons.mp h with rfl | h
  · rfl
  · obtain rfl := List.mem_singleton.mp h
    rfl

/-- Taking the entry, and adding the entries up. -/
def take : Pipeline.HostSeg (Ix := ℕ) (Name := ℕ) (U := Parts) (Lvl := ℕ) (pcfgs (F := F)) defs₀ plain L lv :=
  Pipeline.HostSeg.ofOps _ _ _ _ _ (Pipeline.ucRefs τ sig) (hostOps0 (F := F)) op_bufs op_fresh (start m) (Sites.Es reduced (taken m) 0)

def sum : Pipeline.HostSeg (Ix := ℕ) (Name := ℕ) (U := Parts) (Lvl := ℕ) (pcfgs (F := F)) defs₀ plain L lv :=
  Sites.seg0 reduced plain (taken m) (Sites.Rest0 (taken m) fun _ => records m)

def steps : List (Pipeline.Seg (pcfgs (F := F)) tables (contents (F := F)) 0 defs₀ plain L lv) := [.host (take m), .host (sum m)]

theorem main_steps (c : Dev nD) : main (F := F) c = Pipeline.Seg.run (steps m) :=
  main_segs tables contents 0 plain L lv (take m) (sum m) rfl rfl c

/-- What a device holds first, and last. -/
abbrev first (c : Dev nD) : sProp 𝕄 :=
  iprop(StableHlo.held (c : Thread nD τ) (Pipeline.ucRefs τ sig) (start m c) ∗ Sites.Es reduced (taken m) 0 c)
abbrev last (c : Dev nD) : sProp 𝕄 :=
  iprop(StableHlo.held (c : Thread nD τ) (Pipeline.ucRefs τ sig) (added m c) ∗ Sites.Ghost0 reduced c ∗ records m)

theorem take_sum (c : Dev nD) : (take m).post c ⊢ (sum (F := F) m).pre c := by
  refine BIBase.Entails.trans ?_ (Sites.pre0 reduced plain (taken m) (fun _ => records m) c)
  dsimp only [take, Pipeline.HostSeg.ofOps]
  rw [Sites.Es_0]
  iintro ⟨Hh, HO, Hp, Hr⟩
  ihave #Hi := (show (AllReduce.Dat.once (ar0 (F := F)) (taken m)).rides (Sites.E0 reduced) c 1 2 ⊢ records m from by
    unfold AllReduce.Dat.rides; iintro ⟨Hi, -⟩; iexact Hi) $$ Hr
  isplitl [Hh]; · iexact Hh
  isplitl [HO Hp Hr]
  · isplitl [HO]; · iexact HO
    isplitl [Hp] <;> iassumption
  iexact Hi

theorem sum_last (c : Dev nD) : (sum (F := F) m).post c ⊢ iprop(last m c ∗ ∃ W, owes (c : Thread nD τ) (0 : CellTallies nD τ sig ℕ) W) := by
  refine BIBase.Entails.trans (Sites.post0 reduced plain (taken m) (fun _ => records m) c) ?_
  iintro ⟨Hh, HE, Hg, Hi⟩
  isplitr [HE]
  · isplitl [Hh]; · iexact Hh
    isplitl [Hg] <;> iassumption
  iapply (Sites.hE_last reduced (taken m) c)
  iexact HE

/-- The launch: every device keeps its buffers, and what is left of the deal funds the all-reduce. -/
theorem deal :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c)
          ∗ Sites.G reduced (taken m) c)) ∗ levAts L lv)
      ⊢ (|={Set.univ}=> bigSep Finset.univ (first m) : sProp 𝕄) := by
  have own (c : Dev nD) : (unscopedBufs c (fun b => m ((c : Thread nD τ).loc b)) : sProp 𝕄)
      = StableHlo.held (c : Thread nD τ) (Pipeline.ucRefs τ sig) (start m c) :=
    Pipeline.unscopedBufs_held (Ix := ℕ) (Name := ℕ) (U := Parts) (Lvl := ℕ) c (start m c)
  rw [bigSep_sep', bigSep_congr fun c _ => own c]
  iintro ⟨⟨Hh, Hd⟩, Hl⟩
  imod (Sites.hE0 reduced (taken m) ρ) $$ [Hd Hl] with HE
  · isplitl [Hd] <;> iassumption
  imodintro
  rw [show bigSep Finset.univ (first m) = _ from bigSep_sep' ..]
  isplitl [Hh] <;> iassumption

def seed : Parts :=
  (initOf (Pipeline.cells (Pipeline.pin (pcfgs (F := F)) tables) cellOf_inj) (Pipeline.launchToks (Pipeline.pin (pcfgs (F := F)) tables) cellOf_inj),
    Sites.uC (U := Parts) (taken m))

/-- What is read off a device at the end: its buffers and the all-reduce's three counters. -/
abbrev Reads (c : Dev nD) (s : MemSt nD τ sig (Elt F)) : Prop :=
  (∀ b ∈ Pipeline.ucRefs τ sig, s.mem ((c : Thread nD τ).1, b) = added m c b)
    ∧ s.sem ((ar0 (F := F)).barrierCell c) = 0 ∧ s.sem ((ar0 (F := F)).recvCell c) = 0 ∧ s.sem ((ar0 (F := F)).sendCell c) = 0

theorem reads (c : Dev nD) (s' : Phys nD τ sig (Elt F)) :
    iprop(last m c ∗ SI s') ⊢ (|={Set.univ}=> iprop(⌜Reads m c s'.mem⌝ ∗ SI s') : sProp 𝕄) := by
  dsimp only [last, StableHlo.held]
  iintro ⟨⟨Hh, Hg, Hi⟩, HSI⟩
  ihave Hr := (pointsTo_read_all (Pipeline.ucRefs τ sig) (fun b => ((c : Thread nD τ).1, b)) (added m c) s') $$ [Hh HSI]
  · isplitl [Hh] <;> iassumption
  icases Hr with ⟨%hr, HSI⟩
  imod ((AllReduce.Dat.once (ar0 (F := F)) (taken m)).ghostAfter_read (Sites.E0 reduced) c (k := 0) le_rfl s') $$ [Hg Hi HSI] with ⟨%hs, HSI⟩
  · isplitr [HSI]; · isplitl [Hi] <;> iassumption
    iexact HSI
  imodintro
  isplitr; · ipureintro; exact ⟨hr, hs⟩
  iexact HSI

set_option backward.isDefEq.respectTransparency.types false in
/-- From any memory with zero counters, every weakly fair execution terminates with each device's buffers as they are once
    the entries are added up, and every counter at zero. -/
theorem run : θ_run defs (onTc (τ := τ) (main (F := F))) ⟨m, fun _ => 0, ρ⟩
    (fun r => (∀ c : Dev nD, ∀ b ∈ Pipeline.ucRefs τ sig, r.2.mem ((c : Thread nD τ).1, b) = added m c b) ∧ r.2.sem = fun _ => 0) :=
  Pipeline.θ_run_regions_kit_sems (pcfgs (F := F)) tables contents 0 cellOf_inj staged defs₀ plain L lv m ρ main (steps m)
    (fun c Q => by rw [main_steps m c])
    (by simp only [steps, Pipeline.Seg.pipes_host, Pipeline.Seg.pipes_nil]; exact List.nodup_nil)
    (O₀ := Sites.O0 (F := F)) (hL := Sites.hL) (G := Sites.G reduced (taken m)) (u₀ := seed m)
    (hu₀ := by
      unfold seed
      iintro Hu
      ihave H := (ownU_pair _ _) $$ Hu
      icases H with ⟨HP, HX⟩
      imodintro
      isplitl [HP]; · iexact HP
      rw [Sites.bigSep_G]; iexact HX)
    (T₀ := first m) (Tₙ := last m)
    (hch := ⟨fun _ => .rfl, take_sum m, sum_last m⟩)
    (hinit := deal m ρ)
    (QY := Reads m)
    (hfin := reads m)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.Sum

end
-- ==== Proof.TotalValue.lean ====
/-
  The sum over the devices, at the ideal instance: the fold of the eight entries is their sum, which is what the reference
  adds up from the whole array.
-/
module

public import proofs.«01_k».proof.Proof.TotalRun
public import proofs.«01_k».proof.Proof.NormMath
public import proofs.«01_k».proof.Defs
public import proofs.«01_k».proof.Proof.Gen.Total
public import proofs.«01_k».proof.Proof.Gen.TotalRefIdeal.Run
public import Idealize.ShloMosaic.Lib.Quiescent
public import Idealize.ShloMosaic.Lib.Layout
public import Idealize.ShloMosaic.Lib.Pipeline.ValueKit.Geometry
public import Idealize.ShloMosaic.Lib.Pipeline.ValueKit.Acc

@[expose] public section

noncomputable section

namespace Cert.Sum

open Cert.TotalIdeal Cert.TotalIdeal.Gen
open Idealize.ShloMosaic Idealize.ShloMosaic.TcCoe Idealize.SL.Sem

section Kept
variable {F : FTy → Type} [FloatOps F] (m : (ℓ : Loc nD τ sig) → Buf (Elt F) ℓ)

/-- The argument is as it was. -/
theorem added_arg (c : Dev nD) : added m c main_arg0 = m ((c : Thread nD τ).loc main_arg0) := by
  refine ((ar0 (F := F)).after₀_off_siteRefs (taken m) c fun h => ?_).trans ?_
  · rcases (ar0 (F := F)).mem_siteRefs.mp h with h | h | ⟨j, h⟩
    · exact absurd (Proc.devRef_injective _ h) (by decide : main_arg0 ≠ main_v3)
    · exact absurd (Proc.devRef_injective _ h) (by decide : main_arg0 ≠ main_v2)
    · exact absurd (Proc.devRef_injective _ h) ((by decide : ∀ j : Fin 8, main_arg0 ≠ ar0_stage j) j)
  simp only [taken]
  after_results

/-- The result is the fold of the eight entries. -/
theorem added_result (c : Dev nD) : added m c main_v3
    = (ar0 (F := F)).foldGroup fun j => taken m ((ar0 (F := F)).peer c j) main_v2 :=
  (ar0 (F := F)).after₀_result (taken m) c

theorem taken_entry (c : Dev nD) : taken m c main_v2
    = shapeCast _ (extractStridedSlice S1x1 ![0, 0] (m ((c : Thread nD τ).loc main_arg0)) slices_S8x128_S1x1_0_0) shapeCasts_S1x1_S_ := by
  simp only [taken]
  after_results <;> rfl

end Kept

theorem frame_ideal : Cert.quiescent_TotalIdeal := fun m ρ _ =>
  (θ_run Cert.TotalIdeal.defs _ _).mono
    (fun _ h => ⟨fun c => (h.1 c main_arg0 (Pipeline.devRef_mem_ucRefs rfl)).trans (added_arg m c), h.2⟩) (run (F := Ideal) m ρ)

theorem frame_kernel : Cert.quiescent_Total := fun m ρ _ =>
  (θ_run Cert.TotalIdeal.defs _ _).mono
    (fun _ h => ⟨fun c => (h.1 c main_arg0 (Pipeline.devRef_mem_ucRefs rfl)).trans (added_arg m c), h.2⟩) (run (F := Bits) m ρ)

theorem frame_ref : Cert.quiescent_TotalRefIdeal := fun m ρ _ =>
  (θ_run Cert.TotalRefIdeal.defs _ _).mono (fun r h => ⟨fun c => (h c).2, sem_eq_zero_of_no_sems (by decide) r.2⟩)
    (Cert.TotalRefIdeal.Value.run (F := Ideal) m ρ)

/-- Over the extended reals the fold is a sum. -/
theorem fold_sum (v : Fin 8 → S_.Idx → EReal) : ((ar0 (F := Ideal)).foldGroup v : S_.Idx → EReal) = fun i => ∑ j, v j i := by
  funext i
  rw [Fin.sum_univ_eight]
  rfl

/-- The devices are one group, in their own order. -/
theorem peer_self : ∀ (c : Dev nD) (j : Fin 8), (ar0 (F := Ideal)).peer c j = j := by decide

/-- The first entries of the parts, added up. -/
def parts (x : (⟨2, ![64, 128]⟩ : Shape).Idx → EReal) : EReal :=
  ∑ j : Fin 8, x (ix2 (⟨j.val * 8, by omega⟩ : Fin 64) (0 : Fin 128))

theorem kernel_parts (m : (ℓ : Loc nD τ sig) → Buf (Elt Ideal) ℓ) (x : (⟨2, ![64, 128]⟩ : Shape).Idx → EReal)
    (hx : ∀ c : Dev nD, m ((c : Thread nD τ).loc main_arg0) = Layout.block ⟨2, ![8, 128]⟩ ⟨2, ![64, 128]⟩ 0 8 c x) (c : Dev nD) :
    added m c main_v3 = fun _ => parts x := by
  rw [added_result]
  refine (fold_sum _).trans (funext fun i => Finset.sum_congr rfl fun j _ => ?_)
  rw [taken_entry, hx, peer_self c j]
  pointwise
  refine congrArg x (funext fun a => ?_)
  fin_cases a
  · exact Fin.ext ((Layout.Tiles.idx_val ..).trans rfl)
  · exact Fin.ext ((Layout.Tiles.idx_val ..).trans rfl)

theorem ref_parts (x : (⟨2, ![64, 128]⟩ : Shape).Idx → EReal) :
    Host.reduceAdd (F := Ideal) (φ := .f32) (shapeCast Cert.TotalRefIdeal.S8 (extractStridedSlice Cert.TotalRefIdeal.S8x1x1 ![0, 0, 0]
        (shapeCast Cert.TotalRefIdeal.S8x8x128 x Cert.TotalRefIdeal.Gen.shapeCasts_S64x128_S8x8x128)
        Cert.TotalRefIdeal.Gen.slices_S8x8x128_S8x1x1_0_0_0) Cert.TotalRefIdeal.Gen.shapeCasts_S8x1x1_S8)
      (constant Cert.TotalRefIdeal.S_ .f32 0x00000000#32) Cert.TotalRefIdeal.Gen.reducesTo_S8_S_d0 Cert.TotalRefIdeal.Gen.h_S_
      = fun _ => parts x := by
  funext i
  pointwise
  rfl

theorem algebraic : Cert.algebraic_TotalIdeal_TotalRefIdeal := fun m ρ m' ρ' _ hx =>
  ⟨fun _ => parts (m' (((0 : Dev Cert.TotalRefIdeal.nD).tc : Thread _ _).loc Cert.TotalRefIdeal.main_arg0)),
    (θ_run Cert.TotalIdeal.defs _ _).mono
      (fun _ h c => ⟨(h.1 c main_v3 (Pipeline.devRef_mem_ucRefs rfl)).trans (kernel_parts m _ hx c),
        (h.1 c main_arg0 (Pipeline.devRef_mem_ucRefs rfl)).trans (added_arg m c)⟩) (run (F := Ideal) m ρ),
    (θ_run Cert.TotalRefIdeal.defs _ _).mono (fun _ h => ⟨(h 0).1.trans (ref_parts _), (h 0).2⟩)
      (Cert.TotalRefIdeal.Value.run (F := Ideal) m' ρ')⟩

end Cert.Sum

end
-- ==== Proof.lean ====
/-
  What is claimed of the two exchanges, of the three gatherings, of the AdamW updates, of two modulations and their
  gradients, of the loss, of a normalisation and its gradients, of the matrix products and of the sum over the devices, put
  together from
  Proof/SwapValue.lean, Proof/SwapModValue.lean,
  Proof/SpreadValue.lean, Proof/SpreadSmallValue.lean, Proof/SpreadGradsValue.lean,
  Proof/LossValue.lean, Proof/NormGradValue.lean, Proof/NormFwdValue.lean, Proof/ProjAdaValue.lean, Proof/ProjKvValue.lean, Proof/TotalValue.lean and the modules
  of Proof/ named after the weights and, Mul…, Dx…, Dw… and Mix…, after the products.
-/
module

public import proofs.«01_k».proof.Defs
public import proofs.«01_k».proof.Proof.SwapValue
public import proofs.«01_k».proof.Proof.SpreadValue
public import proofs.«01_k».proof.Proof.SwapModValue
public import proofs.«01_k».proof.Proof.SpreadSmallValue
public import proofs.«01_k».proof.Proof.SpreadGradsValue
public import proofs.«01_k».proof.Proof.AdamKvValue
public import proofs.«01_k».proof.Proof.AdamSquareValue
public import proofs.«01_k».proof.Proof.AdamGrpValue
public import proofs.«01_k».proof.Proof.AdamQueryValue
public import proofs.«01_k».proof.Proof.AdamUpValue
public import proofs.«01_k».proof.Proof.AdamDownValue
public import proofs.«01_k».proof.Proof.AdamAdaValue
public import proofs.«01_k».proof.Proof.AdamKvAdaValue
public import proofs.«01_k».proof.Proof.AdamSmallValue
public import proofs.«01_k».proof.Proof.ModAdaValue
public import proofs.«01_k».proof.Proof.ModKvValue
public import proofs.«01_k».proof.Proof.LossValue
public import proofs.«01_k».proof.Proof.NormGradValue
public import proofs.«01_k».proof.Proof.NormFwdValue
public import proofs.«01_k».proof.Proof.ProjAdaValue
public import proofs.«01_k».proof.Proof.ProjKvValue
public import proofs.«01_k».proof.Proof.MulInValue
public import proofs.«01_k».proof.Proof.MulQueryValue
public import proofs.«01_k».proof.Proof.MulKvValue
public import proofs.«01_k».proof.Proof.MulUpValue
public import proofs.«01_k».proof.Proof.DxInValue
public import proofs.«01_k».proof.Proof.DxOutValue
public import proofs.«01_k».proof.Proof.DxDownValue
public import proofs.«01_k».proof.Proof.DxQueryValue
public import proofs.«01_k».proof.Proof.DxKvValue
public import proofs.«01_k».proof.Proof.DxUpValue
public import proofs.«01_k».proof.Proof.DwSquareValue
public import proofs.«01_k».proof.Proof.DwQueryValue
public import proofs.«01_k».proof.Proof.DwKvValue
public import proofs.«01_k».proof.Proof.DwUpValue
public import proofs.«01_k».proof.Proof.DwDownValue
public import proofs.«01_k».proof.Proof.MixOutValue
public import proofs.«01_k».proof.Proof.MixDownValue
public import proofs.«01_k».proof.Proof.TotalValue
public import proofs.«01_k».proof.Proof.Gen.GatherRefIdeal.Run
public import proofs.«01_k».proof.Proof.Gen.GatherRef.Run
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.Gather
public import proofs.«01_k».proof.Proof.Gen.ExchangeRefIdeal.Run
public import proofs.«01_k».proof.Proof.Gen.ExchangeRef.Run
public import proofs.«01_k».proof.Proof.Gen.ExchangeModRefIdeal.Run
public import proofs.«01_k».proof.Proof.Gen.ExchangeModRef.Run
public import proofs.«01_k».proof.Proof.Gen.ExchangeModIdeal
public import proofs.«01_k».proof.Proof.Gen.ExchangeModIdeal.Skeleton
public import proofs.«01_k».proof.Proof.Gen.ExchangeModIdeal.Launch
public import proofs.«01_k».proof.Proof.Gen.ExchangeMod
public import proofs.«01_k».proof.Proof.Gen.GatherSmallRefIdeal.Run
public import proofs.«01_k».proof.Proof.Gen.GatherSmallRef.Run
public import proofs.«01_k».proof.Proof.Gen.GatherSmallIdeal
public import proofs.«01_k».proof.Proof.Gen.GatherSmallIdeal.Skeleton
public import proofs.«01_k».proof.Proof.Gen.GatherSmallIdeal.Launch
public import proofs.«01_k».proof.Proof.Gen.GatherSmallIdeal.Points
public import proofs.«01_k».proof.Proof.Gen.GatherSmall
public import proofs.«01_k».proof.Proof.Gen.GatherGradsRefIdeal.Run
public import proofs.«01_k».proof.Proof.Gen.GatherGradsRef.Run
public import proofs.«01_k».proof.Proof.Gen.GatherGradsIdeal
public import proofs.«01_k».proof.Proof.Gen.GatherGradsIdeal.Skeleton
public import proofs.«01_k».proof.Proof.Gen.GatherGradsIdeal.Launch
public import proofs.«01_k».proof.Proof.Gen.GatherGradsIdeal.Points
public import proofs.«01_k».proof.Proof.Gen.GatherGrads
public import proofs.«01_k».proof.Proof.Gen.ModAdaIdeal.Value
public import proofs.«01_k».proof.Proof.Gen.ModAdaRefIdeal.Run
public import proofs.«01_k».proof.Proof.Gen.ModAda.Frame
public import proofs.«01_k».proof.Proof.Gen.ModKvIdeal.Value
public import proofs.«01_k».proof.Proof.Gen.ModKvRefIdeal.Run
public import proofs.«01_k».proof.Proof.Gen.ModKv.Frame
public import proofs.«01_k».proof.Proof.Gen.LossIdeal.Value
public import proofs.«01_k».proof.Proof.Gen.LossRefIdeal.Run
public import proofs.«01_k».proof.Proof.Gen.Loss.Frame
public import proofs.«01_k».proof.Proof.Gen.TotalRefIdeal.Run
public import proofs.«01_k».proof.Proof.Gen.Total
public import proofs.«01_k».proof.Proof.Gen.Total.Launch
public import proofs.«01_k».proof.Proof.Gen.TotalIdeal
public import proofs.«01_k».proof.Proof.Gen.TotalIdeal.Launch
public import proofs.«01_k».proof.Proof.Gen.NormGradIdeal.Value
public import proofs.«01_k».proof.Proof.Gen.NormGradRefIdeal.Run
public import proofs.«01_k».proof.Proof.Gen.MulIn.Frame
public import proofs.«01_k».proof.Proof.Gen.MulInIdeal.Value
public import proofs.«01_k».proof.Proof.Gen.MulInRefIdeal.Run
public import proofs.«01_k».proof.Proof.Gen.MulQuery.Frame
public import proofs.«01_k».proof.Proof.Gen.MulQueryIdeal.Value
public import proofs.«01_k».proof.Proof.Gen.MulQueryRefIdeal.Run
public import proofs.«01_k».proof.Proof.Gen.MulKv.Frame
public import proofs.«01_k».proof.Proof.Gen.MulKvIdeal.Value
public import proofs.«01_k».proof.Proof.Gen.MulKvRefIdeal.Run
public import proofs.«01_k».proof.Proof.Gen.MulUp.Frame
public import proofs.«01_k».proof.Proof.Gen.MulUpIdeal.Value
public import proofs.«01_k».proof.Proof.Gen.MulUpRefIdeal.Run
public import proofs.«01_k».proof.Proof.Gen.DxIn.Frame
public import proofs.«01_k».proof.Proof.Gen.DxInIdeal.Value
public import proofs.«01_k».proof.Proof.Gen.DxInRefIdeal.Run
public import proofs.«01_k».proof.Proof.Gen.DxOut.Frame
public import proofs.«01_k».proof.Proof.Gen.DxOutIdeal.Value
public import proofs.«01_k».proof.Proof.Gen.DxOutRefIdeal.Run
public import proofs.«01_k».proof.Proof.Gen.DxDown.Frame
public import proofs.«01_k».proof.Proof.Gen.DxDownIdeal.Value
public import proofs.«01_k».proof.Proof.Gen.DxDownRefIdeal.Run
public import proofs.«01_k».proof.Proof.Gen.DxQuery.Frame
public import proofs.«01_k».proof.Proof.Gen.DxQueryIdeal.Value
public import proofs.«01_k».proof.Proof.Gen.DxQueryRefIdeal.Run
public import proofs.«01_k».proof.Proof.Gen.DxKv.Frame
public import proofs.«01_k».proof.Proof.Gen.DxKvIdeal.Value
public import proofs.«01_k».proof.Proof.Gen.DxKvRefIdeal.Run
public import proofs.«01_k».proof.Proof.Gen.DxUp.Frame
public import proofs.«01_k».proof.Proof.Gen.DxUpIdeal.Value
public import proofs.«01_k».proof.Proof.Gen.DxUpRefIdeal.Run
public import proofs.«01_k».proof.Proof.Gen.DwSquare.Frame
public import proofs.«01_k».proof.Proof.Gen.DwSquareIdeal.Value
public import proofs.«01_k».proof.Proof.Gen.DwSquareRefIdeal.Run
public import proofs.«01_k».proof.Proof.Gen.DwQuery.Frame
public import proofs.«01_k».proof.Proof.Gen.DwQueryIdeal.Value
public import proofs.«01_k».proof.Proof.Gen.DwQueryRefIdeal.Run
public import proofs.«01_k».proof.Proof.Gen.DwKv.Frame
public import proofs.«01_k».proof.Proof.Gen.DwKvIdeal.Value
public import proofs.«01_k».proof.Proof.Gen.DwKvRefIdeal.Run
public import proofs.«01_k».proof.Proof.Gen.DwUp.Frame
public import proofs.«01_k».proof.Proof.Gen.DwUpIdeal.Value
public import proofs.«01_k».proof.Proof.Gen.DwUpRefIdeal.Run
public import proofs.«01_k».proof.Proof.Gen.DwDown.Frame
public import proofs.«01_k».proof.Proof.Gen.DwDownIdeal.Value
public import proofs.«01_k».proof.Proof.Gen.DwDownRefIdeal.Run
public import proofs.«01_k».proof.Proof.Gen.MixOut.Frame
public import proofs.«01_k».proof.Proof.Gen.MixOutIdeal.Value
public import proofs.«01_k».proof.Proof.Gen.MixOutRefIdeal.Run
public import proofs.«01_k».proof.Proof.Gen.MixDown.Frame
public import proofs.«01_k».proof.Proof.Gen.MixDownIdeal.Value
public import proofs.«01_k».proof.Proof.Gen.MixDownRefIdeal.Run
public import proofs.«01_k».proof.Proof.Gen.NormGrad.Frame
public import proofs.«01_k».proof.Proof.Gen.NormFwdIdeal.Value
public import proofs.«01_k».proof.Proof.Gen.NormFwdRefIdeal.Run
public import proofs.«01_k».proof.Proof.Gen.NormFwd.Frame
public import proofs.«01_k».proof.Proof.Gen.ProjAdaIdeal.Value
public import proofs.«01_k».proof.Proof.Gen.ProjAdaRefIdeal.Run
public import proofs.«01_k».proof.Proof.Gen.ProjAda.Frame
public import proofs.«01_k».proof.Proof.Gen.ProjKvIdeal.Value
public import proofs.«01_k».proof.Proof.Gen.ProjKvRefIdeal.Run
public import proofs.«01_k».proof.Proof.Gen.ProjKv.Frame
public import proofs.«01_k».proof.Proof.Gen.AdamKvIdeal.Value
public import proofs.«01_k».proof.Proof.Gen.AdamKvRefIdeal.Run
public import proofs.«01_k».proof.Proof.Gen.AdamKv.Frame
public import proofs.«01_k».proof.Proof.Gen.AdamSquareIdeal.Value
public import proofs.«01_k».proof.Proof.Gen.AdamSquareRefIdeal.Run
public import proofs.«01_k».proof.Proof.Gen.AdamSquare.Frame
public import proofs.«01_k».proof.Proof.Gen.AdamGrpIdeal.Value
public import proofs.«01_k».proof.Proof.Gen.AdamGrpRefIdeal.Run
public import proofs.«01_k».proof.Proof.Gen.AdamGrp.Frame
public import proofs.«01_k».proof.Proof.Gen.AdamQueryIdeal.Value
public import proofs.«01_k».proof.Proof.Gen.AdamQueryRefIdeal.Run
public import proofs.«01_k».proof.Proof.Gen.AdamQuery.Frame
public import proofs.«01_k».proof.Proof.Gen.AdamUpIdeal.Value
public import proofs.«01_k».proof.Proof.Gen.AdamUpRefIdeal.Run
public import proofs.«01_k».proof.Proof.Gen.AdamUp.Frame
public import proofs.«01_k».proof.Proof.Gen.AdamDownIdeal.Value
public import proofs.«01_k».proof.Proof.Gen.AdamDownRefIdeal.Run
public import proofs.«01_k».proof.Proof.Gen.AdamDown.Frame
public import proofs.«01_k».proof.Proof.Gen.AdamAdaIdeal.Value
public import proofs.«01_k».proof.Proof.Gen.AdamAdaRefIdeal.Run
public import proofs.«01_k».proof.Proof.Gen.AdamAda.Frame
public import proofs.«01_k».proof.Proof.Gen.AdamKvAdaIdeal.Value
public import proofs.«01_k».proof.Proof.Gen.AdamKvAdaRefIdeal.Run
public import proofs.«01_k».proof.Proof.Gen.AdamKvAda.Frame
public import proofs.«01_k».proof.Proof.Gen.AdamSmallIdeal.Value
public import proofs.«01_k».proof.Proof.Gen.AdamSmallRefIdeal.Run
public import proofs.«01_k».proof.Proof.Gen.AdamSmall.Frame

@[expose] public section

namespace Cert.Proof

theorem claim : Cert.Claim :=
  ⟨Cert.Exchange.Gen.facts, Cert.ExchangeIdeal.Gen.facts, Cert.ExchangeRefIdeal.Gen.facts, Cert.ExchangeRef.Gen.facts,
    Cert.Gather.Gen.facts, Cert.GatherIdeal.Gen.facts, Cert.GatherRefIdeal.Gen.facts, Cert.GatherRef.Gen.facts,
    Cert.ExchangeMod.Gen.facts, Cert.ExchangeModIdeal.Gen.facts, Cert.ExchangeModRefIdeal.Gen.facts, Cert.ExchangeModRef.Gen.facts,
    Cert.GatherSmall.Gen.facts, Cert.GatherSmallIdeal.Gen.facts, Cert.GatherSmallRefIdeal.Gen.facts, Cert.GatherSmallRef.Gen.facts,
    Cert.GatherGrads.Gen.facts, Cert.GatherGradsIdeal.Gen.facts, Cert.GatherGradsRefIdeal.Gen.facts, Cert.GatherGradsRef.Gen.facts,
    Cert.AdamKv.Gen.facts, Cert.AdamKvIdeal.Gen.facts, Cert.AdamKvRefIdeal.Gen.facts,
    Cert.AdamSquare.Gen.facts, Cert.AdamSquareIdeal.Gen.facts, Cert.AdamSquareRefIdeal.Gen.facts,
    Cert.AdamGrp.Gen.facts, Cert.AdamGrpIdeal.Gen.facts, Cert.AdamGrpRefIdeal.Gen.facts,
    Cert.AdamQuery.Gen.facts, Cert.AdamQueryIdeal.Gen.facts, Cert.AdamQueryRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.AdamAda.Gen.facts, Cert.AdamAdaIdeal.Gen.facts, Cert.AdamAdaRefIdeal.Gen.facts,
    Cert.AdamKvAda.Gen.facts, Cert.AdamKvAdaIdeal.Gen.facts, Cert.AdamKvAdaRefIdeal.Gen.facts,
    Cert.AdamSmall.Gen.facts, Cert.AdamSmallIdeal.Gen.facts, Cert.AdamSmallRefIdeal.Gen.facts,
    Cert.ModAda.Gen.facts, Cert.ModAdaIdeal.Gen.facts, Cert.ModAdaRefIdeal.Gen.facts,
    Cert.ModKv.Gen.facts, Cert.ModKvIdeal.Gen.facts, Cert.ModKvRefIdeal.Gen.facts,
    Cert.Loss.Gen.facts, Cert.LossIdeal.Gen.facts, Cert.LossRefIdeal.Gen.facts,
    Cert.NormGrad.Gen.facts, Cert.NormGradIdeal.Gen.facts, Cert.NormGradRefIdeal.Gen.facts,
    Cert.NormFwd.Gen.facts, Cert.NormFwdIdeal.Gen.facts, Cert.NormFwdRefIdeal.Gen.facts,
    Cert.ProjAda.Gen.facts, Cert.ProjAdaIdeal.Gen.facts, Cert.ProjAdaRefIdeal.Gen.facts,
    Cert.ProjKv.Gen.facts, Cert.ProjKvIdeal.Gen.facts, Cert.ProjKvRefIdeal.Gen.facts,
    Cert.MulIn.Gen.facts, Cert.MulInIdeal.Gen.facts, Cert.MulInRefIdeal.Gen.facts,
    Cert.MulQuery.Gen.facts, Cert.MulQueryIdeal.Gen.facts, Cert.MulQueryRefIdeal.Gen.facts,
    Cert.MulKv.Gen.facts, Cert.MulKvIdeal.Gen.facts, Cert.MulKvRefIdeal.Gen.facts,
    Cert.MulUp.Gen.facts, Cert.MulUpIdeal.Gen.facts, Cert.MulUpRefIdeal.Gen.facts,
    Cert.DxIn.Gen.facts, Cert.DxInIdeal.Gen.facts, Cert.DxInRefIdeal.Gen.facts,
    Cert.DxOut.Gen.facts, Cert.DxOutIdeal.Gen.facts, Cert.DxOutRefIdeal.Gen.facts,
    Cert.DxDown.Gen.facts, Cert.DxDownIdeal.Gen.facts, Cert.DxDownRefIdeal.Gen.facts,
    Cert.DxQuery.Gen.facts, Cert.DxQueryIdeal.Gen.facts, Cert.DxQueryRefIdeal.Gen.facts,
    Cert.DxKv.Gen.facts, Cert.DxKvIdeal.Gen.facts, Cert.DxKvRefIdeal.Gen.facts,
    Cert.DxUp.Gen.facts, Cert.DxUpIdeal.Gen.facts, Cert.DxUpRefIdeal.Gen.facts,
    Cert.DwSquare.Gen.facts, Cert.DwSquareIdeal.Gen.facts, Cert.DwSquareRefIdeal.Gen.facts,
    Cert.DwQuery.Gen.facts, Cert.DwQueryIdeal.Gen.facts, Cert.DwQueryRefIdeal.Gen.facts,
    Cert.DwKv.Gen.facts, Cert.DwKvIdeal.Gen.facts, Cert.DwKvRefIdeal.Gen.facts,
    Cert.DwUp.Gen.facts, Cert.DwUpIdeal.Gen.facts, Cert.DwUpRefIdeal.Gen.facts,
    Cert.DwDown.Gen.facts, Cert.DwDownIdeal.Gen.facts, Cert.DwDownRefIdeal.Gen.facts,
    Cert.MixOut.Gen.facts, Cert.MixOutIdeal.Gen.facts, Cert.MixOutRefIdeal.Gen.facts,
    Cert.MixDown.Gen.facts, Cert.MixDownIdeal.Gen.facts, Cert.MixDownRefIdeal.Gen.facts,
    Cert.Total.Gen.facts, Cert.TotalIdeal.Gen.facts, Cert.TotalRefIdeal.Gen.facts,
    Cert.Swap.frame_exchange, Cert.Swap.frame_exchangeIdeal, Cert.Swap.frame_exchangeRefIdeal, Cert.Swap.frame_exchangeRef,
    Cert.Spread.frame_gather, Cert.Spread.frame_gatherIdeal, Cert.Spread.frame_gatherRefIdeal, Cert.Spread.frame_gatherRef,
    Cert.SwapMod.frame_exchangeMod, Cert.SwapMod.frame_exchangeModIdeal, Cert.SwapMod.frame_exchangeModRefIdeal, Cert.SwapMod.frame_exchangeModRef,
    Cert.SpreadSmall.frame_gatherSmall, Cert.SpreadSmall.frame_gatherSmallIdeal, Cert.SpreadSmall.frame_gatherSmallRefIdeal, Cert.SpreadSmall.frame_gatherSmallRef,
    Cert.SpreadGrads.frame_gatherGrads, Cert.SpreadGrads.frame_gatherGradsIdeal, Cert.SpreadGrads.frame_gatherGradsRefIdeal, Cert.SpreadGrads.frame_gatherGradsRef,
    Cert.AdamKvClaims.frame_kernel, Cert.AdamKvClaims.frame_ideal, Cert.AdamKvClaims.frame_ref,
    Cert.AdamSquareClaims.frame_kernel, Cert.AdamSquareClaims.frame_ideal, Cert.AdamSquareClaims.frame_ref,
    Cert.AdamGrpClaims.frame_kernel, Cert.AdamGrpClaims.frame_ideal, Cert.AdamGrpClaims.frame_ref,
    Cert.AdamQueryClaims.frame_kernel, Cert.AdamQueryClaims.frame_ideal, Cert.AdamQueryClaims.frame_ref,
    Cert.AdamUpClaims.frame_kernel, Cert.AdamUpClaims.frame_ideal, Cert.AdamUpClaims.frame_ref,
    Cert.AdamDownClaims.frame_kernel, Cert.AdamDownClaims.frame_ideal, Cert.AdamDownClaims.frame_ref,
    Cert.AdamAdaClaims.frame_kernel, Cert.AdamAdaClaims.frame_ideal, Cert.AdamAdaClaims.frame_ref,
    Cert.AdamKvAdaClaims.frame_kernel, Cert.AdamKvAdaClaims.frame_ideal, Cert.AdamKvAdaClaims.frame_ref,
    Cert.AdamSmallClaims.frame_kernel, Cert.AdamSmallClaims.frame_ideal, Cert.AdamSmallClaims.frame_ref,
    Cert.ModAdaClaims.frame_kernel, Cert.ModAdaClaims.frame_ideal, Cert.ModAdaClaims.frame_ref,
    Cert.ModKvClaims.frame_kernel, Cert.ModKvClaims.frame_ideal, Cert.ModKvClaims.frame_ref,
    Cert.LossClaims.frame_kernel, Cert.LossClaims.frame_ideal, Cert.LossClaims.frame_ref,
    Cert.NormGradClaims.frame_kernel, Cert.NormGradClaims.frame_ideal, Cert.NormGradClaims.frame_ref,
    Cert.NormFwdClaims.frame_kernel, Cert.NormFwdClaims.frame_ideal, Cert.NormFwdClaims.frame_ref,
    Cert.ProjAdaClaims.frame_kernel, Cert.ProjAdaClaims.frame_ideal, Cert.ProjAdaClaims.frame_ref,
    Cert.ProjKvClaims.frame_kernel, Cert.ProjKvClaims.frame_ideal, Cert.ProjKvClaims.frame_ref,
    Cert.MulInClaims.frame_kernel, Cert.MulInClaims.frame_ideal, Cert.MulInClaims.frame_ref,
    Cert.MulQueryClaims.frame_kernel, Cert.MulQueryClaims.frame_ideal, Cert.MulQueryClaims.frame_ref,
    Cert.MulKvClaims.frame_kernel, Cert.MulKvClaims.frame_ideal, Cert.MulKvClaims.frame_ref,
    Cert.MulUpClaims.frame_kernel, Cert.MulUpClaims.frame_ideal, Cert.MulUpClaims.frame_ref,
    Cert.DxInClaims.frame_kernel, Cert.DxInClaims.frame_ideal, Cert.DxInClaims.frame_ref,
    Cert.DxOutClaims.frame_kernel, Cert.DxOutClaims.frame_ideal, Cert.DxOutClaims.frame_ref,
    Cert.DxDownClaims.frame_kernel, Cert.DxDownClaims.frame_ideal, Cert.DxDownClaims.frame_ref,
    Cert.DxQueryClaims.frame_kernel, Cert.DxQueryClaims.frame_ideal, Cert.DxQueryClaims.frame_ref,
    Cert.DxKvClaims.frame_kernel, Cert.DxKvClaims.frame_ideal, Cert.DxKvClaims.frame_ref,
    Cert.DxUpClaims.frame_kernel, Cert.DxUpClaims.frame_ideal, Cert.DxUpClaims.frame_ref,
    Cert.DwSquareClaims.frame_kernel, Cert.DwSquareClaims.frame_ideal, Cert.DwSquareClaims.frame_ref,
    Cert.DwQueryClaims.frame_kernel, Cert.DwQueryClaims.frame_ideal, Cert.DwQueryClaims.frame_ref,
    Cert.DwKvClaims.frame_kernel, Cert.DwKvClaims.frame_ideal, Cert.DwKvClaims.frame_ref,
    Cert.DwUpClaims.frame_kernel, Cert.DwUpClaims.frame_ideal, Cert.DwUpClaims.frame_ref,
    Cert.DwDownClaims.frame_kernel, Cert.DwDownClaims.frame_ideal, Cert.DwDownClaims.frame_ref,
    Cert.MixOutClaims.frame_kernel, Cert.MixOutClaims.frame_ideal, Cert.MixOutClaims.frame_ref,
    Cert.MixDownClaims.frame_kernel, Cert.MixDownClaims.frame_ideal, Cert.MixDownClaims.frame_ref,
    Cert.Sum.frame_kernel, Cert.Sum.frame_ideal, Cert.Sum.frame_ref,
    trivial, Cert.Swap.exchange_algebraic, Cert.Swap.exchange_bitexact,
    trivial, Cert.Spread.gather_algebraic, Cert.Spread.gather_bitexact,
    trivial, Cert.SwapMod.exchangeMod_algebraic, Cert.SwapMod.exchangeMod_bitexact,
    trivial, Cert.SpreadSmall.gatherSmall_algebraic, Cert.SpreadSmall.gatherSmall_bitexact,
    trivial, Cert.SpreadGrads.gatherGrads_algebraic, Cert.SpreadGrads.gatherGrads_bitexact,
    Cert.AdamKvClaims.preserves, Cert.AdamKvClaims.algebraic,
    Cert.AdamSquareClaims.preserves, Cert.AdamSquareClaims.algebraic,
    Cert.AdamGrpClaims.preserves, Cert.AdamGrpClaims.algebraic,
    Cert.AdamQueryClaims.preserves, Cert.AdamQueryClaims.algebraic,
    Cert.AdamUpClaims.preserves, Cert.AdamUpClaims.algebraic,
    Cert.AdamDownClaims.preserves, Cert.AdamDownClaims.algebraic,
    Cert.AdamAdaClaims.preserves, Cert.AdamAdaClaims.algebraic,
    Cert.AdamKvAdaClaims.preserves, Cert.AdamKvAdaClaims.algebraic,
    Cert.AdamSmallClaims.preserves, Cert.AdamSmallClaims.algebraic,
    trivial, Cert.ModAdaClaims.algebraic, trivial, Cert.ModKvClaims.algebraic,
    trivial, Cert.LossClaims.algebraic, trivial, Cert.NormGradClaims.algebraic,
    trivial, Cert.NormFwdClaims.algebraic,
    trivial, Cert.ProjAdaClaims.algebraic,
    trivial, Cert.ProjKvClaims.algebraic,
    trivial, Cert.MulInClaims.algebraic,
    trivial, Cert.MulQueryClaims.algebraic,
    trivial, Cert.MulKvClaims.algebraic,
    trivial, Cert.MulUpClaims.algebraic,
    trivial, Cert.DxInClaims.algebraic,
    trivial, Cert.DxOutClaims.algebraic,
    trivial, Cert.DxDownClaims.algebraic,
    trivial, Cert.DxQueryClaims.algebraic,
    trivial, Cert.DxKvClaims.algebraic,
    trivial, Cert.DxUpClaims.algebraic,
    trivial, Cert.DwSquareClaims.algebraic,
    trivial, Cert.DwQueryClaims.algebraic,
    trivial, Cert.DwKvClaims.algebraic,
    trivial, Cert.DwUpClaims.algebraic,
    trivial, Cert.DwDownClaims.algebraic,
    trivial, Cert.MixOutClaims.algebraic,
    trivial, Cert.MixDownClaims.algebraic,
    trivial, Cert.Sum.algebraic⟩

end Cert.Proof

end
